-- ==== Defs.lean ====
def Pre_GainKernel (m : (ℓ : Loc Cert.GainKernel.nD Cert.GainKernel.τ Cert.GainKernel.sig) → Buf (Elt Bits) ℓ) : Prop :=
  True

def Pre_GainKernelIdeal (m : (ℓ : Loc Cert.GainKernelIdeal.nD Cert.GainKernelIdeal.τ Cert.GainKernelIdeal.sig) → Buf (Elt Ideal) ℓ) : Prop :=
  True

def Pre_GainReferenceIdeal (m : (ℓ : Loc Cert.GainReferenceIdeal.nD Cert.GainReferenceIdeal.τ Cert.GainReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_finite_mem [hPre_finite_mem : Cert.Pre_finite_mem.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_finite_mem.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3)) (m ((c.tc : Thread Cert.MemKernelIdeal.nD Cert.MemKernelIdeal.τ).loc Cert.MemKernelIdeal.main_arg4)) (m ((c.tc : Thread Cert.MemKernelIdeal.nD Cert.MemKernelIdeal.τ).loc Cert.MemKernelIdeal.main_arg5)) (m ((c.tc : Thread Cert.MemKernelIdeal.nD Cert.MemKernelIdeal.τ).loc Cert.MemKernelIdeal.main_arg6))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_finite_mem [hPre_finite_mem : Cert.Pre_finite_mem.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_finite_mem.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4)) (m ((c.tc : Thread Cert.MemReferenceIdeal.nD Cert.MemReferenceIdeal.τ).loc Cert.MemReferenceIdeal.main_arg5)) (m ((c.tc : Thread Cert.MemReferenceIdeal.nD Cert.MemReferenceIdeal.τ).loc Cert.MemReferenceIdeal.main_arg6))) = (fun _ => 1#1)

def Pre_MemFwdKernel (m : (ℓ : Loc Cert.MemFwdKernel.nD Cert.MemFwdKernel.τ Cert.MemFwdKernel.sig) → Buf (Elt Bits) ℓ) : Prop :=
  True

def Pre_MemFwdKernelIdeal (m : (ℓ : Loc Cert.MemFwdKernelIdeal.nD Cert.MemFwdKernelIdeal.τ Cert.MemFwdKernelIdeal.sig) → Buf (Elt Ideal) ℓ) : Prop :=
  True

def Pre_MemFwdReferenceIdeal (m : (ℓ : Loc Cert.MemFwdReferenceIdeal.nD Cert.MemFwdReferenceIdeal.τ Cert.MemFwdReferenceIdeal.sig) → Buf (Elt Ideal) ℓ) : Prop :=
  True

def Pre_Attn0Kernel (m : (ℓ : Loc Cert.Attn0Kernel.nD Cert.Attn0Kernel.τ Cert.Attn0Kernel.sig) → Buf (Elt Bits) ℓ) : Prop :=
  True

def Pre_Attn0KernelIdeal (m : (ℓ : Loc Cert.Attn0KernelIdeal.nD Cert.Attn0KernelIdeal.τ Cert.Attn0KernelIdeal.sig) → Buf (Elt Ideal) ℓ) : Prop :=
  True

def Pre_Attn0KernelIdeal_finite_attn [hPre_finite_attn : Cert.Pre_finite_attn.Facts] (m : (ℓ : Loc Cert.Attn0KernelIdeal.nD Cert.Attn0KernelIdeal.τ Cert.Attn0KernelIdeal.sig) → Buf (Elt Ideal) ℓ) : Prop :=
  ∀ c : Dev Cert.Attn0KernelIdeal.nD,
    (Cert.Pre_finite_attn.fn (F := Ideal) (m ((c.tc : Thread Cert.Attn0KernelIdeal.nD Cert.Attn0KernelIdeal.τ).loc Cert.Attn0KernelIdeal.main_arg0)) (m ((c.tc : Thread Cert.Attn0KernelIdeal.nD Cert.Attn0KernelIdeal.τ).loc Cert.Attn0KernelIdeal.main_arg1)) (m ((c.tc : Thread Cert.Attn0KernelIdeal.nD Cert.Attn0KernelIdeal.τ).loc Cert.Attn0KernelIdeal.main_arg2)) (m ((c.tc : Thread Cert.Attn0KernelIdeal.nD Cert.Attn0KernelIdeal.τ).loc Cert.Attn0KernelIdeal.main_arg3))) = (fun _ => 1#1)

def Pre_Attn0ReferenceIdeal (m : (ℓ : Loc Cert.Attn0ReferenceIdeal.nD Cert.Attn0ReferenceIdeal.τ Cert.Attn0ReferenceIdeal.sig) → Buf (Elt Ideal) ℓ) : Prop :=
  True

def Pre_Attn0ReferenceIdeal_finite_attn [hPre_finite_attn : Cert.Pre_finite_attn.Facts] (m : (ℓ : Loc Cert.Attn0ReferenceIdeal.nD Cert.Attn0ReferenceIdeal.τ Cert.Attn0ReferenceIdeal.sig) → Buf (Elt Ideal) ℓ) : Prop :=
  ∀ c : Dev Cert.Attn0ReferenceIdeal.nD,
    (Cert.Pre_finite_attn.fn (F := Ideal) (m ((c.tc : Thread Cert.Attn0ReferenceIdeal.nD Cert.Attn0ReferenceIdeal.τ).loc Cert.Attn0ReferenceIdeal.main_arg0)) (m ((c.tc : Thread Cert.Attn0ReferenceIdeal.nD Cert.Attn0ReferenceIdeal.τ).loc Cert.Attn0ReferenceIdeal.main_arg1)) (m ((c.tc : Thread Cert.Attn0ReferenceIdeal.nD Cert.Attn0ReferenceIdeal.τ).loc Cert.Attn0ReferenceIdeal.main_arg2)) (m ((c.tc : Thread Cert.Attn0ReferenceIdeal.nD Cert.Attn0ReferenceIdeal.τ).loc Cert.Attn0ReferenceIdeal.main_arg3))) = (fun _ => 1#1)

def Pre_Attn1Kernel (m : (ℓ : Loc Cert.Attn1Kernel.nD Cert.Attn1Kernel.τ Cert.Attn1Kernel.sig) → Buf (Elt Bits) ℓ) : Prop :=
  True

def Pre_Attn1KernelIdeal (m : (ℓ : Loc Cert.Attn1KernelIdeal.nD Cert.Attn1KernelIdeal.τ Cert.Attn1KernelIdeal.sig) → Buf (Elt Ideal) ℓ) : Prop :=
  True

def Pre_Attn1KernelIdeal_finite_attn [hPre_finite_attn : Cert.Pre_finite_attn.Facts] (m : (ℓ : Loc Cert.Attn1KernelIdeal.nD Cert.Attn1KernelIdeal.τ Cert.Attn1KernelIdeal.sig) → Buf (Elt Ideal) ℓ) : Prop :=
  ∀ c : Dev Cert.Attn1KernelIdeal.nD,
    (Cert.Pre_finite_attn.fn (F := Ideal) (m ((c.tc : Thread Cert.Attn1KernelIdeal.nD Cert.Attn1KernelIdeal.τ).loc Cert.Attn1KernelIdeal.main_arg0)) (m ((c.tc : Thread Cert.Attn1KernelIdeal.nD Cert.Attn1KernelIdeal.τ).loc Cert.Attn1KernelIdeal.main_arg1)) (m ((c.tc : Thread Cert.Attn1KernelIdeal.nD Cert.Attn1KernelIdeal.τ).loc Cert.Attn1KernelIdeal.main_arg2)) (m ((c.tc : Thread Cert.Attn1KernelIdeal.nD Cert.Attn1KernelIdeal.τ).loc Cert.Attn1KernelIdeal.main_arg3))) = (fun _ => 1#1)

def Pre_Attn1ReferenceIdeal (m : (ℓ : Loc Cert.Attn1ReferenceIdeal.nD Cert.Attn1ReferenceIdeal.τ Cert.Attn1ReferenceIdeal.sig) → Buf (Elt Ideal) ℓ) : Prop :=
  True

def Pre_Attn1ReferenceIdeal_finite_attn [hPre_finite_attn : Cert.Pre_finite_attn.Facts] (m : (ℓ : Loc Cert.Attn1ReferenceIdeal.nD Cert.Attn1ReferenceIdeal.τ Cert.Attn1ReferenceIdeal.sig) → Buf (Elt Ideal) ℓ) : Prop :=
  ∀ c : Dev Cert.Attn1ReferenceIdeal.nD,
    (Cert.Pre_finite_attn.fn (F := Ideal) (m ((c.tc : Thread Cert.Attn1ReferenceIdeal.nD Cert.Attn1ReferenceIdeal.τ).loc Cert.Attn1ReferenceIdeal.main_arg0)) (m ((c.tc : Thread Cert.Attn1ReferenceIdeal.nD Cert.Attn1ReferenceIdeal.τ).loc Cert.Attn1ReferenceIdeal.main_arg1)) (m ((c.tc : Thread Cert.Attn1ReferenceIdeal.nD Cert.Attn1ReferenceIdeal.τ).loc Cert.Attn1ReferenceIdeal.main_arg2)) (m ((c.tc : Thread Cert.Attn1ReferenceIdeal.nD Cert.Attn1ReferenceIdeal.τ).loc Cert.Attn1ReferenceIdeal.main_arg3))) = (fun _ => 1#1)

def Pre_Attn2Kernel (m : (ℓ : Loc Cert.Attn2Kernel.nD Cert.Attn2Kernel.τ Cert.Attn2Kernel.sig) → Buf (Elt Bits) ℓ) : Prop :=
  True

def Pre_Attn2KernelIdeal (m : (ℓ : Loc Cert.Attn2KernelIdeal.nD Cert.Attn2KernelIdeal.τ Cert.Attn2KernelIdeal.sig) → Buf (Elt Ideal) ℓ) : Prop :=
  True

def Pre_Attn2KernelIdeal_finite_attn [hPre_finite_attn : Cert.Pre_finite_attn.Facts] (m : (ℓ : Loc Cert.Attn2KernelIdeal.nD Cert.Attn2KernelIdeal.τ Cert.Attn2KernelIdeal.sig) → Buf (Elt Ideal) ℓ) : Prop :=
  ∀ c : Dev Cert.Attn2KernelIdeal.nD,
    (Cert.Pre_finite_attn.fn (F := Ideal) (m ((c.tc : Thread Cert.Attn2KernelIdeal.nD Cert.Attn2KernelIdeal.τ).loc Cert.Attn2KernelIdeal.main_arg0)) (m ((c.tc : Thread Cert.Attn2KernelIdeal.nD Cert.Attn2KernelIdeal.τ).loc Cert.Attn2KernelIdeal.main_arg1)) (m ((c.tc : Thread Cert.Attn2KernelIdeal.nD Cert.Attn2KernelIdeal.τ).loc Cert.Attn2KernelIdeal.main_arg2)) (m ((c.tc : Thread Cert.Attn2KernelIdeal.nD Cert.Attn2KernelIdeal.τ).loc Cert.Attn2KernelIdeal.main_arg3))) = (fun _ => 1#1)

def Pre_Attn2ReferenceIdeal (m : (ℓ : Loc Cert.Attn2ReferenceIdeal.nD Cert.Attn2ReferenceIdeal.τ Cert.Attn2ReferenceIdeal.sig) → Buf (Elt Ideal) ℓ) : Prop :=
  True

def Pre_Attn2ReferenceIdeal_finite_attn [hPre_finite_attn : Cert.Pre_finite_attn.Facts] (m : (ℓ : Loc Cert.Attn2ReferenceIdeal.nD Cert.Attn2ReferenceIdeal.τ Cert.Attn2ReferenceIdeal.sig) → Buf (Elt Ideal) ℓ) : Prop :=
  ∀ c : Dev Cert.Attn2ReferenceIdeal.nD,
    (Cert.Pre_finite_attn.fn (F := Ideal) (m ((c.tc : Thread Cert.Attn2ReferenceIdeal.nD Cert.Attn2ReferenceIdeal.τ).loc Cert.Attn2ReferenceIdeal.main_arg0)) (m ((c.tc : Thread Cert.Attn2ReferenceIdeal.nD Cert.Attn2ReferenceIdeal.τ).loc Cert.Attn2ReferenceIdeal.main_arg1)) (m ((c.tc : Thread Cert.Attn2ReferenceIdeal.nD Cert.Attn2ReferenceIdeal.τ).loc Cert.Attn2ReferenceIdeal.main_arg2)) (m ((c.tc : Thread Cert.Attn2ReferenceIdeal.nD Cert.Attn2ReferenceIdeal.τ).loc Cert.Attn2ReferenceIdeal.main_arg3))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_FfnPreKernel (m : (ℓ : Loc Cert.FfnPreKernel.nD Cert.FfnPreKernel.τ Cert.FfnPreKernel.sig) → Buf (Elt Bits) ℓ) : Prop :=
  True

def Pre_FfnPreKernelIdeal (m : (ℓ : Loc Cert.FfnPreKernelIdeal.nD Cert.FfnPreKernelIdeal.τ Cert.FfnPreKernelIdeal.sig) → Buf (Elt Ideal) ℓ) : Prop :=
  True

def Pre_FfnPreKernelIdeal_finite_ffnpre [hPre_finite_ffnpre : Cert.Pre_finite_ffnpre.Facts] (m : (ℓ : Loc Cert.FfnPreKernelIdeal.nD Cert.FfnPreKernelIdeal.τ Cert.FfnPreKernelIdeal.sig) → Buf (Elt Ideal) ℓ) : Prop :=
  ∀ c : Dev Cert.FfnPreKernelIdeal.nD,
    (Cert.Pre_finite_ffnpre.fn (F := Ideal) (m ((c.tc : Thread Cert.FfnPreKernelIdeal.nD Cert.FfnPreKernelIdeal.τ).loc Cert.FfnPreKernelIdeal.main_arg0)) (m ((c.tc : Thread Cert.FfnPreKernelIdeal.nD Cert.FfnPreKernelIdeal.τ).loc Cert.FfnPreKernelIdeal.main_arg1)) (m ((c.tc : Thread Cert.FfnPreKernelIdeal.nD Cert.FfnPreKernelIdeal.τ).loc Cert.FfnPreKernelIdeal.main_arg2)) (m ((c.tc : Thread Cert.FfnPreKernelIdeal.nD Cert.FfnPreKernelIdeal.τ).loc Cert.FfnPreKernelIdeal.main_arg3)) (m ((c.tc : Thread Cert.FfnPreKernelIdeal.nD Cert.FfnPreKernelIdeal.τ).loc Cert.FfnPreKernelIdeal.main_arg4))) = (fun _ => 1#1)

def Pre_FfnPreReferenceIdeal (m : (ℓ : Loc Cert.FfnPreReferenceIdeal.nD Cert.FfnPreReferenceIdeal.τ Cert.FfnPreReferenceIdeal.sig) → Buf (Elt Ideal) ℓ) : Prop :=
  True

def Pre_FfnPreReferenceIdeal_finite_ffnpre [hPre_finite_ffnpre : Cert.Pre_finite_ffnpre.Facts] (m : (ℓ : Loc Cert.FfnPreReferenceIdeal.nD Cert.FfnPreReferenceIdeal.τ Cert.FfnPreReferenceIdeal.sig) → Buf (Elt Ideal) ℓ) : Prop :=
  ∀ c : Dev Cert.FfnPreReferenceIdeal.nD,
    (Cert.Pre_finite_ffnpre.fn (F := Ideal) (m ((c.tc : Thread Cert.FfnPreReferenceIdeal.nD Cert.FfnPreReferenceIdeal.τ).loc Cert.FfnPreReferenceIdeal.main_arg0)) (m ((c.tc : Thread Cert.FfnPreReferenceIdeal.nD Cert.FfnPreReferenceIdeal.τ).loc Cert.FfnPreReferenceIdeal.main_arg1)) (m ((c.tc : Thread Cert.FfnPreReferenceIdeal.nD Cert.FfnPreReferenceIdeal.τ).loc Cert.FfnPreReferenceIdeal.main_arg2)) (m ((c.tc : Thread Cert.FfnPreReferenceIdeal.nD Cert.FfnPreReferenceIdeal.τ).loc Cert.FfnPreReferenceIdeal.main_arg3)) (m ((c.tc : Thread Cert.FfnPreReferenceIdeal.nD Cert.FfnPreReferenceIdeal.τ).loc Cert.FfnPreReferenceIdeal.main_arg4))) = (fun _ => 1#1)

def Pre_MixPreKernel (m : (ℓ : Loc Cert.MixPreKernel.nD Cert.MixPreKernel.τ Cert.MixPreKernel.sig) → Buf (Elt Bits) ℓ) : Prop :=
  True

def Pre_MixPreKernelIdeal (m : (ℓ : Loc Cert.MixPreKernelIdeal.nD Cert.MixPreKernelIdeal.τ Cert.MixPreKernelIdeal.sig) → Buf (Elt Ideal) ℓ) : Prop :=
  True

def Pre_MixPreKernelIdeal_finite_mixpre [hPre_finite_mixpre : Cert.Pre_finite_mixpre.Facts] (m : (ℓ : Loc Cert.MixPreKernelIdeal.nD Cert.MixPreKernelIdeal.τ Cert.MixPreKernelIdeal.sig) → Buf (Elt Ideal) ℓ) : Prop :=
  ∀ c : Dev Cert.MixPreKernelIdeal.nD,
    (Cert.Pre_finite_mixpre.fn (F := Ideal) (m ((c.tc : Thread Cert.MixPreKernelIdeal.nD Cert.MixPreKernelIdeal.τ).loc Cert.MixPreKernelIdeal.main_arg0)) (m ((c.tc : Thread Cert.MixPreKernelIdeal.nD Cert.MixPreKernelIdeal.τ).loc Cert.MixPreKernelIdeal.main_arg1)) (m ((c.tc : Thread Cert.MixPreKernelIdeal.nD Cert.MixPreKernelIdeal.τ).loc Cert.MixPreKernelIdeal.main_arg2)) (m ((c.tc : Thread Cert.MixPreKernelIdeal.nD Cert.MixPreKernelIdeal.τ).loc Cert.MixPreKernelIdeal.main_arg3)) (m ((c.tc : Thread Cert.MixPreKernelIdeal.nD Cert.MixPreKernelIdeal.τ).loc Cert.MixPreKernelIdeal.main_arg4))) = (fun _ => 1#1)

def Pre_MixPreReferenceIdeal (m : (ℓ : Loc Cert.MixPreReferenceIdeal.nD Cert.MixPreReferenceIdeal.τ Cert.MixPreReferenceIdeal.sig) → Buf (Elt Ideal) ℓ) : Prop :=
  True

def Pre_MixPreReferenceIdeal_finite_mixpre [hPre_finite_mixpre : Cert.Pre_finite_mixpre.Facts] (m : (ℓ : Loc Cert.MixPreReferenceIdeal.nD Cert.MixPreReferenceIdeal.τ Cert.MixPreReferenceIdeal.sig) → Buf (Elt Ideal) ℓ) : Prop :=
  ∀ c : Dev Cert.MixPreReferenceIdeal.nD,
    (Cert.Pre_finite_mixpre.fn (F := Ideal) (m ((c.tc : Thread Cert.MixPreReferenceIdeal.nD Cert.MixPreReferenceIdeal.τ).loc Cert.MixPreReferenceIdeal.main_arg0)) (m ((c.tc : Thread Cert.MixPreReferenceIdeal.nD Cert.MixPreReferenceIdeal.τ).loc Cert.MixPreReferenceIdeal.main_arg1)) (m ((c.tc : Thread Cert.MixPreReferenceIdeal.nD Cert.MixPreReferenceIdeal.τ).loc Cert.MixPreReferenceIdeal.main_arg2)) (m ((c.tc : Thread Cert.MixPreReferenceIdeal.nD Cert.MixPreReferenceIdeal.τ).loc Cert.MixPreReferenceIdeal.main_arg3)) (m ((c.tc : Thread Cert.MixPreReferenceIdeal.nD Cert.MixPreReferenceIdeal.τ).loc Cert.MixPreReferenceIdeal.main_arg4))) = (fun _ => 1#1)

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_NormKvKernel (m : (ℓ : Loc Cert.NormKvKernel.nD Cert.NormKvKernel.τ Cert.NormKvKernel.sig) → Buf (Elt Bits) ℓ) : Prop :=
  True

def Pre_NormKvKernelIdeal (m : (ℓ : Loc Cert.NormKvKernelIdeal.nD Cert.NormKvKernelIdeal.τ Cert.NormKvKernelIdeal.sig) → Buf (Elt Ideal) ℓ) : Prop :=
  True

def Pre_NormKvReferenceIdeal (m : (ℓ : Loc Cert.NormKvReferenceIdeal.nD Cert.NormKvReferenceIdeal.τ Cert.NormKvReferenceIdeal.sig) → Buf (Elt Ideal) ℓ) : Prop :=
  True

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_MergeFwdKernel (m : (ℓ : Loc Cert.MergeFwdKernel.nD Cert.MergeFwdKernel.τ Cert.MergeFwdKernel.sig) → Buf (Elt Bits) ℓ) : Prop :=
  True

def Pre_MergeFwdKernelIdeal (m : (ℓ : Loc Cert.MergeFwdKernelIdeal.nD Cert.MergeFwdKernelIdeal.τ Cert.MergeFwdKernelIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_ProdTnKernel (m : (ℓ : Loc Cert.ProdTnKernel.nD Cert.ProdTnKernel.τ Cert.ProdTnKernel.sig) → Buf (Elt Bits) ℓ) : Prop :=
  True

def Pre_ProdTnKernelIdeal (m : (ℓ : Loc Cert.ProdTnKernelIdeal.nD Cert.ProdTnKernelIdeal.τ Cert.ProdTnKernelIdeal.sig) → Buf (Elt Ideal) ℓ) : Prop :=
  True

def Pre_ProdTnReferenceIdeal (m : (ℓ : Loc Cert.ProdTnReferenceIdeal.nD Cert.ProdTnReferenceIdeal.τ Cert.ProdTnReferenceIdeal.sig) → Buf (Elt Ideal) ℓ) : Prop :=
  True

def Pre_ProdNtKernel (m : (ℓ : Loc Cert.ProdNtKernel.nD Cert.ProdNtKernel.τ Cert.ProdNtKernel.sig) → Buf (Elt Bits) ℓ) : Prop :=
  True

def Pre_ProdNtKernelIdeal (m : (ℓ : Loc Cert.ProdNtKernelIdeal.nD Cert.ProdNtKernelIdeal.τ Cert.ProdNtKernelIdeal.sig) → Buf (Elt Ideal) ℓ) : Prop :=
  True

def Pre_ProdNtReferenceIdeal (m : (ℓ : Loc Cert.ProdNtReferenceIdeal.nD Cert.ProdNtReferenceIdeal.τ Cert.ProdNtReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_AttnFwd0Kernel (m : (ℓ : Loc Cert.AttnFwd0Kernel.nD Cert.AttnFwd0Kernel.τ Cert.AttnFwd0Kernel.sig) → Buf (Elt Bits) ℓ) : Prop :=
  True

def Pre_AttnFwd0KernelIdeal (m : (ℓ : Loc Cert.AttnFwd0KernelIdeal.nD Cert.AttnFwd0KernelIdeal.τ Cert.AttnFwd0KernelIdeal.sig) → Buf (Elt Ideal) ℓ) : Prop :=
  True

def Pre_AttnFwd0ReferenceIdeal (m : (ℓ : Loc Cert.AttnFwd0ReferenceIdeal.nD Cert.AttnFwd0ReferenceIdeal.τ Cert.AttnFwd0ReferenceIdeal.sig) → Buf (Elt Ideal) ℓ) : Prop :=
  True

def Pre_AttnFwd1Kernel (m : (ℓ : Loc Cert.AttnFwd1Kernel.nD Cert.AttnFwd1Kernel.τ Cert.AttnFwd1Kernel.sig) → Buf (Elt Bits) ℓ) : Prop :=
  True

def Pre_AttnFwd1KernelIdeal (m : (ℓ : Loc Cert.AttnFwd1KernelIdeal.nD Cert.AttnFwd1KernelIdeal.τ Cert.AttnFwd1KernelIdeal.sig) → Buf (Elt Ideal) ℓ) : Prop :=
  True

def Pre_AttnFwd1ReferenceIdeal (m : (ℓ : Loc Cert.AttnFwd1ReferenceIdeal.nD Cert.AttnFwd1ReferenceIdeal.τ Cert.AttnFwd1ReferenceIdeal.sig) → Buf (Elt Ideal) ℓ) : Prop :=
  True

def Pre_AttnFwd2Kernel (m : (ℓ : Loc Cert.AttnFwd2Kernel.nD Cert.AttnFwd2Kernel.τ Cert.AttnFwd2Kernel.sig) → Buf (Elt Bits) ℓ) : Prop :=
  True

def Pre_AttnFwd2KernelIdeal (m : (ℓ : Loc Cert.AttnFwd2KernelIdeal.nD Cert.AttnFwd2KernelIdeal.τ Cert.AttnFwd2KernelIdeal.sig) → Buf (Elt Ideal) ℓ) : Prop :=
  True

def Pre_AttnFwd2ReferenceIdeal (m : (ℓ : Loc Cert.AttnFwd2ReferenceIdeal.nD Cert.AttnFwd2ReferenceIdeal.τ Cert.AttnFwd2ReferenceIdeal.sig) → Buf (Elt Ideal) ℓ) : Prop :=
  True

def Pre_PoolFwdKernel (m : (ℓ : Loc Cert.PoolFwdKernel.nD Cert.PoolFwdKernel.τ Cert.PoolFwdKernel.sig) → Buf (Elt Bits) ℓ) : Prop :=
  True

def Pre_PoolFwdKernelIdeal (m : (ℓ : Loc Cert.PoolFwdKernelIdeal.nD Cert.PoolFwdKernelIdeal.τ Cert.PoolFwdKernelIdeal.sig) → Buf (Elt Ideal) ℓ) : Prop :=
  True

def Pre_PoolFwdKernelIdeal_finite_pool [hPre_finite_pool : Cert.Pre_finite_pool.Facts] (m : (ℓ : Loc Cert.PoolFwdKernelIdeal.nD Cert.PoolFwdKernelIdeal.τ Cert.PoolFwdKernelIdeal.sig) → Buf (Elt Ideal) ℓ) : Prop :=
  ∀ c : Dev Cert.PoolFwdKernelIdeal.nD,
    (Cert.Pre_finite_pool.fn (F := Ideal) (m ((c.tc : Thread Cert.PoolFwdKernelIdeal.nD Cert.PoolFwdKernelIdeal.τ).loc Cert.PoolFwdKernelIdeal.main_arg0)) (m ((c.tc : Thread Cert.PoolFwdKernelIdeal.nD Cert.PoolFwdKernelIdeal.τ).loc Cert.PoolFwdKernelIdeal.main_arg1)) (m ((c.tc : Thread Cert.PoolFwdKernelIdeal.nD Cert.PoolFwdKernelIdeal.τ).loc Cert.PoolFwdKernelIdeal.main_arg2)) (m ((c.tc : Thread Cert.PoolFwdKernelIdeal.nD Cert.PoolFwdKernelIdeal.τ).loc Cert.PoolFwdKernelIdeal.main_arg3))) = (fun _ => 1#1)

def Pre_PoolFwdReferenceIdeal (m : (ℓ : Loc Cert.PoolFwdReferenceIdeal.nD Cert.PoolFwdReferenceIdeal.τ Cert.PoolFwdReferenceIdeal.sig) → Buf (Elt Ideal) ℓ) : Prop :=
  True

def Pre_PoolFwdReferenceIdeal_finite_pool [hPre_finite_pool : Cert.Pre_finite_pool.Facts] (m : (ℓ : Loc Cert.PoolFwdReferenceIdeal.nD Cert.PoolFwdReferenceIdeal.τ Cert.PoolFwdReferenceIdeal.sig) → Buf (Elt Ideal) ℓ) : Prop :=
  ∀ c : Dev Cert.PoolFwdReferenceIdeal.nD,
    (Cert.Pre_finite_pool.fn (F := Ideal) (m ((c.tc : Thread Cert.PoolFwdReferenceIdeal.nD Cert.PoolFwdReferenceIdeal.τ).loc Cert.PoolFwdReferenceIdeal.main_arg0)) (m ((c.tc : Thread Cert.PoolFwdReferenceIdeal.nD Cert.PoolFwdReferenceIdeal.τ).loc Cert.PoolFwdReferenceIdeal.main_arg1)) (m ((c.tc : Thread Cert.PoolFwdReferenceIdeal.nD Cert.PoolFwdReferenceIdeal.τ).loc Cert.PoolFwdReferenceIdeal.main_arg2)) (m ((c.tc : Thread Cert.PoolFwdReferenceIdeal.nD Cert.PoolFwdReferenceIdeal.τ).loc Cert.PoolFwdReferenceIdeal.main_arg3))) = (fun _ => 1#1)

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_SumAdamKernel (m : (ℓ : Loc Cert.SumAdamKernel.nD Cert.SumAdamKernel.τ Cert.SumAdamKernel.sig) → Buf (Elt Bits) ℓ) : Prop :=
  True

def Pre_SumAdamKernelIdeal (m : (ℓ : Loc Cert.SumAdamKernelIdeal.nD Cert.SumAdamKernelIdeal.τ Cert.SumAdamKernelIdeal.sig) → Buf (Elt Ideal) ℓ) : Prop :=
  True

def Pre_SumAdamReferenceIdeal (m : (ℓ : Loc Cert.SumAdamReferenceIdeal.nD Cert.SumAdamReferenceIdeal.τ Cert.SumAdamReferenceIdeal.sig) → Buf (Elt Ideal) ℓ) : Prop :=
  True

def quiescent_GainKernel [hGainKernel : Cert.GainKernel.Facts] : Prop :=
  ∀ (m : (ℓ : Loc Cert.GainKernel.nD Cert.GainKernel.τ Cert.GainKernel.sig) → Buf (Elt Bits) ℓ) (g : Dev Cert.GainKernel.nD → PrngReg), Pre_GainKernel m →
    θ_run (Cert.GainKernel.defs (F := Bits)) (onTc (τ := Cert.GainKernel.τ) (Cert.GainKernel.main (F := Bits))) ⟨m, fun _ => 0, g⟩ (fun r => (∀ c : Dev Cert.GainKernel.nD,
      r.2.mem ((c.tc : Thread Cert.GainKernel.nD Cert.GainKernel.τ).loc Cert.GainKernel.main_arg0) = m ((c.tc : Thread Cert.GainKernel.nD Cert.GainKernel.τ).loc Cert.GainKernel.main_arg0)
      ∧ r.2.mem ((c.tc : Thread Cert.GainKernel.nD Cert.GainKernel.τ).loc Cert.GainKernel.main_arg1) = m ((c.tc : Thread Cert.GainKernel.nD Cert.GainKernel.τ).loc Cert.GainKernel.main_arg1)
      ∧ r.2.mem ((c.tc : Thread Cert.GainKernel.nD Cert.GainKernel.τ).loc Cert.GainKernel.main_arg2) = m ((c.tc : Thread Cert.GainKernel.nD Cert.GainKernel.τ).loc Cert.GainKernel.main_arg2))
      ∧ r.2.sem = fun _ => 0)

def quiescent_GainKernelIdeal [hGainKernelIdeal : Cert.GainKernelIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg), Pre_GainKernelIdeal m →
    θ_run (Cert.GainKernelIdeal.defs (F := Ideal)) (onTc (τ := Cert.GainKernelIdeal.τ) (Cert.GainKernelIdeal.main (F := Ideal))) ⟨m, fun _ => 0, g⟩ (fun r => (∀ c : Dev Cert.GainKernelIdeal.nD,
      r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
      ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
      ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2))
      ∧ r.2.sem = fun _ => 0)

def quiescent_GainReferenceIdeal [hGainReferenceIdeal : Cert.GainReferenceIdeal.Facts] : Prop :=
  ∀ (m : (ℓ : Loc Cert.GainReferenceIdeal.nD Cert.GainReferenceIdeal.τ Cert.GainReferenceIdeal.sig) → Buf (Elt Ideal) ℓ) (g : Dev Cert.GainReferenceIdeal.nD → PrngReg), Pre_GainReferenceIdeal m →
    θ_run (Cert.GainReferenceIdeal.defs (F := Ideal)) (onTc (τ := Cert.GainReferenceIdeal.τ) (Cert.GainReferenceIdeal.main (F := Ideal))) ⟨m, fun _ => 0, g⟩ (fun r => (∀ c : Dev Cert.GainReferenceIdeal.nD,
      r.2.mem ((c.tc : Thread Cert.GainReferenceIdeal.nD Cert.GainReferenceIdeal.τ).loc Cert.GainReferenceIdeal.main_arg0) = m ((c.tc : Thread Cert.GainReferenceIdeal.nD Cert.GainReferenceIdeal.τ).loc Cert.GainReferenceIdeal.main_arg0)
      ∧ r.2.mem ((c.tc : Thread Cert.GainReferenceIdeal.nD Cert.GainReferenceIdeal.τ).loc Cert.GainReferenceIdeal.main_arg1) = m ((c.tc : Thread Cert.GainReferenceIdeal.nD Cert.GainReferenceIdeal.τ).loc Cert.GainReferenceIdeal.main_arg1)
      ∧ r.2.mem ((c.tc : Thread Cert.GainReferenceIdeal.nD Cert.GainReferenceIdeal.τ).loc Cert.GainReferenceIdeal.main_arg2) = m ((c.tc : Thread Cert.GainReferenceIdeal.nD Cert.GainReferenceIdeal.τ).loc Cert.GainReferenceIdeal.main_arg2))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3)
      ∧ r.2.mem ((c.tc : Thread Cert.MemKernel.nD Cert.MemKernel.τ).loc Cert.MemKernel.main_arg4) = m ((c.tc : Thread Cert.MemKernel.nD Cert.MemKernel.τ).loc Cert.MemKernel.main_arg4)
      ∧ r.2.mem ((c.tc : Thread Cert.MemKernel.nD Cert.MemKernel.τ).loc Cert.MemKernel.main_arg5) = m ((c.tc : Thread Cert.MemKernel.nD Cert.MemKernel.τ).loc Cert.MemKernel.main_arg5)
      ∧ r.2.mem ((c.tc : Thread Cert.MemKernel.nD Cert.MemKernel.τ).loc Cert.MemKernel.main_arg6) = m ((c.tc : Thread Cert.MemKernel.nD Cert.MemKernel.τ).loc Cert.MemKernel.main_arg6))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
      ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
      ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6))
      ∧ r.2.sem = fun _ => 0)

def quiescent_MemKernelIdeal_pre_finite_mem [hMemKernelIdeal : Cert.MemKernelIdeal.Facts] [hPre_finite_mem : Cert.Pre_finite_mem.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_finite_mem m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
      ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
      ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6))
      ∧ r.2.sem = fun _ => 0)

def quiescent_MemReferenceIdeal_pre_finite_mem [hMemReferenceIdeal : Cert.MemReferenceIdeal.Facts] [hPre_finite_mem : Cert.Pre_finite_mem.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_finite_mem m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6))
      ∧ r.2.sem = fun _ => 0)

def quiescent_MemFwdKernel [hMemFwdKernel : Cert.MemFwdKernel.Facts] : Prop :=
  ∀ (m : (ℓ : Loc Cert.MemFwdKernel.nD Cert.MemFwdKernel.τ Cert.MemFwdKernel.sig) → Buf (Elt Bits) ℓ) (g : Dev Cert.MemFwdKernel.nD → PrngReg), Pre_MemFwdKernel m →
    θ_run (Cert.MemFwdKernel.defs (F := Bits)) (onTc (τ := Cert.MemFwdKernel.τ) (Cert.MemFwdKernel.main (F := Bits))) ⟨m, fun _ => 0, g⟩ (fun r => (∀ c : Dev Cert.MemFwdKernel.nD,
      r.2.mem ((c.tc : Thread Cert.MemFwdKernel.nD Cert.MemFwdKernel.τ).loc Cert.MemFwdKernel.main_arg0) = m ((c.tc : Thread Cert.MemFwdKernel.nD Cert.MemFwdKernel.τ).loc Cert.MemFwdKernel.main_arg0)
      ∧ r.2.mem ((c.tc : Thread Cert.MemFwdKernel.nD Cert.MemFwdKernel.τ).loc Cert.MemFwdKernel.main_arg1) = m ((c.tc : Thread Cert.MemFwdKernel.nD Cert.MemFwdKernel.τ).loc Cert.MemFwdKernel.main_arg1)
      ∧ r.2.mem ((c.tc : Thread Cert.MemFwdKernel.nD Cert.MemFwdKernel.τ).loc Cert.MemFwdKernel.main_arg2) = m ((c.tc : Thread Cert.MemFwdKernel.nD Cert.MemFwdKernel.τ).loc Cert.MemFwdKernel.main_arg2)
      ∧ r.2.mem ((c.tc : Thread Cert.MemFwdKernel.nD Cert.MemFwdKernel.τ).loc Cert.MemFwdKernel.main_arg3) = m ((c.tc : Thread Cert.MemFwdKernel.nD Cert.MemFwdKernel.τ).loc Cert.MemFwdKernel.main_arg3)
      ∧ r.2.mem ((c.tc : Thread Cert.MemFwdKernel.nD Cert.MemFwdKernel.τ).loc Cert.MemFwdKernel.main_arg4) = m ((c.tc : Thread Cert.MemFwdKernel.nD Cert.MemFwdKernel.τ).loc Cert.MemFwdKernel.main_arg4)
      ∧ r.2.mem ((c.tc : Thread Cert.MemFwdKernel.nD Cert.MemFwdKernel.τ).loc Cert.MemFwdKernel.main_arg5) = m ((c.tc : Thread Cert.MemFwdKernel.nD Cert.MemFwdKernel.τ).loc Cert.MemFwdKernel.main_arg5))
      ∧ r.2.sem = fun _ => 0)

def quiescent_MemFwdKernelIdeal [hMemFwdKernelIdeal : Cert.MemFwdKernelIdeal.Facts] : Prop :=
  ∀ (m : (ℓ : Loc Cert.MemFwdKernelIdeal.nD Cert.MemFwdKernelIdeal.τ Cert.MemFwdKernelIdeal.sig) → Buf (Elt Ideal) ℓ) (g : Dev Cert.MemFwdKernelIdeal.nD → PrngReg), Pre_MemFwdKernelIdeal m →
    θ_run (Cert.MemFwdKernelIdeal.defs (F := Ideal)) (onTc (τ := Cert.MemFwdKernelIdeal.τ) (Cert.MemFwdKernelIdeal.main (F := Ideal))) ⟨m, fun _ => 0, g⟩ (fun r => (∀ c : Dev Cert.MemFwdKernelIdeal.nD,
      r.2.mem ((c.tc : Thread Cert.MemFwdKernelIdeal.nD Cert.MemFwdKernelIdeal.τ).loc Cert.MemFwdKernelIdeal.main_arg0) = m ((c.tc : Thread Cert.MemFwdKernelIdeal.nD Cert.MemFwdKernelIdeal.τ).loc Cert.MemFwdKernelIdeal.main_arg0)
      ∧ r.2.mem ((c.tc : Thread Cert.MemFwdKernelIdeal.nD Cert.MemFwdKernelIdeal.τ).loc Cert.MemFwdKernelIdeal.main_arg1) = m ((c.tc : Thread Cert.MemFwdKernelIdeal.nD Cert.MemFwdKernelIdeal.τ).loc Cert.MemFwdKernelIdeal.main_arg1)
      ∧ r.2.mem ((c.tc : Thread Cert.MemFwdKernelIdeal.nD Cert.MemFwdKernelIdeal.τ).loc Cert.MemFwdKernelIdeal.main_arg2) = m ((c.tc : Thread Cert.MemFwdKernelIdeal.nD Cert.MemFwdKernelIdeal.τ).loc Cert.MemFwdKernelIdeal.main_arg2)
      ∧ r.2.mem ((c.tc : Thread Cert.MemFwdKernelIdeal.nD Cert.MemFwdKernelIdeal.τ).loc Cert.MemFwdKernelIdeal.main_arg3) = m ((c.tc : Thread Cert.MemFwdKernelIdeal.nD Cert.MemFwdKernelIdeal.τ).loc Cert.MemFwdKernelIdeal.main_arg3)
      ∧ r.2.mem ((c.tc : Thread Cert.MemFwdKernelIdeal.nD Cert.MemFwdKernelIdeal.τ).loc Cert.MemFwdKernelIdeal.main_arg4) = m ((c.tc : Thread Cert.MemFwdKernelIdeal.nD Cert.MemFwdKernelIdeal.τ).loc Cert.MemFwdKernelIdeal.main_arg4)
      ∧ r.2.mem ((c.tc : Thread Cert.MemFwdKernelIdeal.nD Cert.MemFwdKernelIdeal.τ).loc Cert.MemFwdKernelIdeal.main_arg5) = m ((c.tc : Thread Cert.MemFwdKernelIdeal.nD Cert.MemFwdKernelIdeal.τ).loc Cert.MemFwdKernelIdeal.main_arg5))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1)
      ∧ r.2.mem ((c.tc : Thread Cert.MemFwdReferenceIdeal.nD Cert.MemFwdReferenceIdeal.τ).loc Cert.MemFwdReferenceIdeal.main_arg2) = m ((c.tc : Thread Cert.MemFwdReferenceIdeal.nD Cert.MemFwdReferenceIdeal.τ).loc Cert.MemFwdReferenceIdeal.main_arg2)
      ∧ r.2.mem ((c.tc : Thread Cert.MemFwdReferenceIdeal.nD Cert.MemFwdReferenceIdeal.τ).loc Cert.MemFwdReferenceIdeal.main_arg3) = m ((c.tc : Thread Cert.MemFwdReferenceIdeal.nD Cert.MemFwdReferenceIdeal.τ).loc Cert.MemFwdReferenceIdeal.main_arg3)
      ∧ r.2.mem ((c.tc : Thread Cert.MemFwdReferenceIdeal.nD Cert.MemFwdReferenceIdeal.τ).loc Cert.MemFwdReferenceIdeal.main_arg4) = m ((c.tc : Thread Cert.MemFwdReferenceIdeal.nD Cert.MemFwdReferenceIdeal.τ).loc Cert.MemFwdReferenceIdeal.main_arg4)
      ∧ r.2.mem ((c.tc : Thread Cert.MemFwdReferenceIdeal.nD Cert.MemFwdReferenceIdeal.τ).loc Cert.MemFwdReferenceIdeal.main_arg5) = m ((c.tc : Thread Cert.MemFwdReferenceIdeal.nD Cert.MemFwdReferenceIdeal.τ).loc Cert.MemFwdReferenceIdeal.main_arg5))
      ∧ r.2.sem = fun _ => 0)

def quiescent_Attn0Kernel [hAttn0Kernel : Cert.Attn0Kernel.Facts] : Prop :=
  ∀ (m : (ℓ : Loc Cert.Attn0Kernel.nD Cert.Attn0Kernel.τ Cert.Attn0Kernel.sig) → Buf (Elt Bits) ℓ) (g : Dev Cert.Attn0Kernel.nD → PrngReg), Pre_Attn0Kernel m →
    θ_run (Cert.Attn0Kernel.defs (F := Bits)) (onTc (τ := Cert.Attn0Kernel.τ) (Cert.Attn0Kernel.main (F := Bits))) ⟨m, fun _ => 0, g⟩ (fun r => (∀ c : Dev Cert.Attn0Kernel.nD,
      r.2.mem ((c.tc : Thread Cert.Attn0Kernel.nD Cert.Attn0Kernel.τ).loc Cert.Attn0Kernel.main_arg0) = m ((c.tc : Thread Cert.Attn0Kernel.nD Cert.Attn0Kernel.τ).loc Cert.Attn0Kernel.main_arg0)
      ∧ r.2.mem ((c.tc : Thread Cert.Attn0Kernel.nD Cert.Attn0Kernel.τ).loc Cert.Attn0Kernel.main_arg1) = m ((c.tc : Thread Cert.Attn0Kernel.nD Cert.Attn0Kernel.τ).loc Cert.Attn0Kernel.main_arg1)
      ∧ r.2.mem ((c.tc : Thread Cert.Attn0Kernel.nD Cert.Attn0Kernel.τ).loc Cert.Attn0Kernel.main_arg2) = m ((c.tc : Thread Cert.Attn0Kernel.nD Cert.Attn0Kernel.τ).loc Cert.Attn0Kernel.main_arg2)
      ∧ r.2.mem ((c.tc : Thread Cert.Attn0Kernel.nD Cert.Attn0Kernel.τ).loc Cert.Attn0Kernel.main_arg3) = m ((c.tc : Thread Cert.Attn0Kernel.nD Cert.Attn0Kernel.τ).loc Cert.Attn0Kernel.main_arg3))
      ∧ r.2.sem = fun _ => 0)

def quiescent_Attn0KernelIdeal [hAttn0KernelIdeal : Cert.Attn0KernelIdeal.Facts] : Prop :=
  ∀ (m : (ℓ : Loc Cert.Attn0KernelIdeal.nD Cert.Attn0KernelIdeal.τ Cert.Attn0KernelIdeal.sig) → Buf (Elt Ideal) ℓ) (g : Dev Cert.Attn0KernelIdeal.nD → PrngReg), Pre_Attn0KernelIdeal m →
    θ_run (Cert.Attn0KernelIdeal.defs (F := Ideal)) (onTc (τ := Cert.Attn0KernelIdeal.τ) (Cert.Attn0KernelIdeal.main (F := Ideal))) ⟨m, fun _ => 0, g⟩ (fun r => (∀ c : Dev Cert.Attn0KernelIdeal.nD,
      r.2.mem ((c.tc : Thread Cert.Attn0KernelIdeal.nD Cert.Attn0KernelIdeal.τ).loc Cert.Attn0KernelIdeal.main_arg0) = m ((c.tc : Thread Cert.Attn0KernelIdeal.nD Cert.Attn0KernelIdeal.τ).loc Cert.Attn0KernelIdeal.main_arg0)
      ∧ r.2.mem ((c.tc : Thread Cert.Attn0KernelIdeal.nD Cert.Attn0KernelIdeal.τ).loc Cert.Attn0KernelIdeal.main_arg1) = m ((c.tc : Thread Cert.Attn0KernelIdeal.nD Cert.Attn0KernelIdeal.τ).loc Cert.Attn0KernelIdeal.main_arg1)
      ∧ r.2.mem ((c.tc : Thread Cert.Attn0KernelIdeal.nD Cert.Attn0KernelIdeal.τ).loc Cert.Attn0KernelIdeal.main_arg2) = m ((c.tc : Thread Cert.Attn0KernelIdeal.nD Cert.Attn0KernelIdeal.τ).loc Cert.Attn0KernelIdeal.main_arg2)
      ∧ r.2.mem ((c.tc : Thread Cert.Attn0KernelIdeal.nD Cert.Attn0KernelIdeal.τ).loc Cert.Attn0KernelIdeal.main_arg3) = m ((c.tc : Thread Cert.Attn0KernelIdeal.nD Cert.Attn0KernelIdeal.τ).loc Cert.Attn0KernelIdeal.main_arg3))
      ∧ r.2.sem = fun _ => 0)

def quiescent_Attn0KernelIdeal_pre_finite_attn [hAttn0KernelIdeal : Cert.Attn0KernelIdeal.Facts] [hPre_finite_attn : Cert.Pre_finite_attn.Facts] : Prop :=
  ∀ (m : (ℓ : Loc Cert.Attn0KernelIdeal.nD Cert.Attn0KernelIdeal.τ Cert.Attn0KernelIdeal.sig) → Buf (Elt Ideal) ℓ) (g : Dev Cert.Attn0KernelIdeal.nD → PrngReg), Pre_Attn0KernelIdeal_finite_attn m →
    θ_run (Cert.Attn0KernelIdeal.defs (F := Ideal)) (onTc (τ := Cert.Attn0KernelIdeal.τ) (Cert.Attn0KernelIdeal.main (F := Ideal))) ⟨m, fun _ => 0, g⟩ (fun r => (∀ c : Dev Cert.Attn0KernelIdeal.nD,
      r.2.mem ((c.tc : Thread Cert.Attn0KernelIdeal.nD Cert.Attn0KernelIdeal.τ).loc Cert.Attn0KernelIdeal.main_arg0) = m ((c.tc : Thread Cert.Attn0KernelIdeal.nD Cert.Attn0KernelIdeal.τ).loc Cert.Attn0KernelIdeal.main_arg0)
      ∧ r.2.mem ((c.tc : Thread Cert.Attn0KernelIdeal.nD Cert.Attn0KernelIdeal.τ).loc Cert.Attn0KernelIdeal.main_arg1) = m ((c.tc : Thread Cert.Attn0KernelIdeal.nD Cert.Attn0KernelIdeal.τ).loc Cert.Attn0KernelIdeal.main_arg1)
      ∧ r.2.mem ((c.tc : Thread Cert.Attn0KernelIdeal.nD Cert.Attn0KernelIdeal.τ).loc Cert.Attn0KernelIdeal.main_arg2) = m ((c.tc : Thread Cert.Attn0KernelIdeal.nD Cert.Attn0KernelIdeal.τ).loc Cert.Attn0KernelIdeal.main_arg2)
      ∧ r.2.mem ((c.tc : Thread Cert.Attn0KernelIdeal.nD Cert.Attn0KernelIdeal.τ).loc Cert.Attn0KernelIdeal.main_arg3) = m ((c.tc : Thread Cert.Attn0KernelIdeal.nD Cert.Attn0KernelIdeal.τ).loc Cert.Attn0KernelIdeal.main_arg3))
      ∧ r.2.sem = fun _ => 0)

def quiescent_Attn0ReferenceIdeal [hAttn0ReferenceIdeal : Cert.Attn0ReferenceIdeal.Facts] : Prop :=
  ∀ (m : (ℓ : Loc Cert.Attn0ReferenceIdeal.nD Cert.Attn0ReferenceIdeal.τ Cert.Attn0ReferenceIdeal.sig) → Buf (Elt Ideal) ℓ) (g : Dev Cert.Attn0ReferenceIdeal.nD → PrngReg), Pre_Attn0ReferenceIdeal m →
    θ_run (Cert.Attn0ReferenceIdeal.defs (F := Ideal)) (onTc (τ := Cert.Attn0ReferenceIdeal.τ) (Cert.Attn0ReferenceIdeal.main (F := Ideal))) ⟨m, fun _ => 0, g⟩ (fun r => (∀ c : Dev Cert.Attn0ReferenceIdeal.nD,
      r.2.mem ((c.tc : Thread Cert.Attn0ReferenceIdeal.nD Cert.Attn0ReferenceIdeal.τ).loc Cert.Attn0ReferenceIdeal.main_arg0) = m ((c.tc : Thread Cert.Attn0ReferenceIdeal.nD Cert.Attn0ReferenceIdeal.τ).loc Cert.Attn0ReferenceIdeal.main_arg0)
      ∧ r.2.mem ((c.tc : Thread Cert.Attn0ReferenceIdeal.nD Cert.Attn0ReferenceIdeal.τ).loc Cert.Attn0ReferenceIdeal.main_arg1) = m ((c.tc : Thread Cert.Attn0ReferenceIdeal.nD Cert.Attn0ReferenceIdeal.τ).loc Cert.Attn0ReferenceIdeal.main_arg1)
      ∧ r.2.mem ((c.tc : Thread Cert.Attn0ReferenceIdeal.nD Cert.Attn0ReferenceIdeal.τ).loc Cert.Attn0ReferenceIdeal.main_arg2) = m ((c.tc : Thread Cert.Attn0ReferenceIdeal.nD Cert.Attn0ReferenceIdeal.τ).loc Cert.Attn0ReferenceIdeal.main_arg2)
      ∧ r.2.mem ((c.tc : Thread Cert.Attn0ReferenceIdeal.nD Cert.Attn0ReferenceIdeal.τ).loc Cert.Attn0ReferenceIdeal.main_arg3) = m ((c.tc : Thread Cert.Attn0ReferenceIdeal.nD Cert.Attn0ReferenceIdeal.τ).loc Cert.Attn0ReferenceIdeal.main_arg3))
      ∧ r.2.sem = fun _ => 0)

def quiescent_Attn0ReferenceIdeal_pre_finite_attn [hAttn0ReferenceIdeal : Cert.Attn0ReferenceIdeal.Facts] [hPre_finite_attn : Cert.Pre_finite_attn.Facts] : Prop :=
  ∀ (m : (ℓ : Loc Cert.Attn0ReferenceIdeal.nD Cert.Attn0ReferenceIdeal.τ Cert.Attn0ReferenceIdeal.sig) → Buf (Elt Ideal) ℓ) (g : Dev Cert.Attn0ReferenceIdeal.nD → PrngReg), Pre_Attn0ReferenceIdeal_finite_attn m →
    θ_run (Cert.Attn0ReferenceIdeal.defs (F := Ideal)) (onTc (τ := Cert.Attn0ReferenceIdeal.τ) (Cert.Attn0ReferenceIdeal.main (F := Ideal))) ⟨m, fun _ => 0, g⟩ (fun r => (∀ c : Dev Cert.Attn0ReferenceIdeal.nD,
      r.2.mem ((c.tc : Thread Cert.Attn0ReferenceIdeal.nD Cert.Attn0ReferenceIdeal.τ).loc Cert.Attn0ReferenceIdeal.main_arg0) = m ((c.tc : Thread Cert.Attn0ReferenceIdeal.nD Cert.Attn0ReferenceIdeal.τ).loc Cert.Attn0ReferenceIdeal.main_arg0)
      ∧ r.2.mem ((c.tc : Thread Cert.Attn0ReferenceIdeal.nD Cert.Attn0ReferenceIdeal.τ).loc Cert.Attn0ReferenceIdeal.main_arg1) = m ((c.tc : Thread Cert.Attn0ReferenceIdeal.nD Cert.Attn0ReferenceIdeal.τ).loc Cert.Attn0ReferenceIdeal.main_arg1)
      ∧ r.2.mem ((c.tc : Thread Cert.Attn0ReferenceIdeal.nD Cert.Attn0ReferenceIdeal.τ).loc Cert.Attn0ReferenceIdeal.main_arg2) = m ((c.tc : Thread Cert.Attn0ReferenceIdeal.nD Cert.Attn0ReferenceIdeal.τ).loc Cert.Attn0ReferenceIdeal.main_arg2)
      ∧ r.2.mem ((c.tc : Thread Cert.Attn0ReferenceIdeal.nD Cert.Attn0ReferenceIdeal.τ).loc Cert.Attn0ReferenceIdeal.main_arg3) = m ((c.tc : Thread Cert.Attn0ReferenceIdeal.nD Cert.Attn0ReferenceIdeal.τ).loc Cert.Attn0ReferenceIdeal.main_arg3))
      ∧ r.2.sem = fun _ => 0)

def quiescent_Attn1Kernel [hAttn1Kernel : Cert.Attn1Kernel.Facts] : Prop :=
  ∀ (m : (ℓ : Loc Cert.Attn1Kernel.nD Cert.Attn1Kernel.τ Cert.Attn1Kernel.sig) → Buf (Elt Bits) ℓ) (g : Dev Cert.Attn1Kernel.nD → PrngReg), Pre_Attn1Kernel m →
    θ_run (Cert.Attn1Kernel.defs (F := Bits)) (onTc (τ := Cert.Attn1Kernel.τ) (Cert.Attn1Kernel.main (F := Bits))) ⟨m, fun _ => 0, g⟩ (fun r => (∀ c : Dev Cert.Attn1Kernel.nD,
      r.2.mem ((c.tc : Thread Cert.Attn1Kernel.nD Cert.Attn1Kernel.τ).loc Cert.Attn1Kernel.main_arg0) = m ((c.tc : Thread Cert.Attn1Kernel.nD Cert.Attn1Kernel.τ).loc Cert.Attn1Kernel.main_arg0)
      ∧ r.2.mem ((c.tc : Thread Cert.Attn1Kernel.nD Cert.Attn1Kernel.τ).loc Cert.Attn1Kernel.main_arg1) = m ((c.tc : Thread Cert.Attn1Kernel.nD Cert.Attn1Kernel.τ).loc Cert.Attn1Kernel.main_arg1)
      ∧ r.2.mem ((c.tc : Thread Cert.Attn1Kernel.nD Cert.Attn1Kernel.τ).loc Cert.Attn1Kernel.main_arg2) = m ((c.tc : Thread Cert.Attn1Kernel.nD Cert.Attn1Kernel.τ).loc Cert.Attn1Kernel.main_arg2)
      ∧ r.2.mem ((c.tc : Thread Cert.Attn1Kernel.nD Cert.Attn1Kernel.τ).loc Cert.Attn1Kernel.main_arg3) = m ((c.tc : Thread Cert.Attn1Kernel.nD Cert.Attn1Kernel.τ).loc Cert.Attn1Kernel.main_arg3))
      ∧ r.2.sem = fun _ => 0)

def quiescent_Attn1KernelIdeal [hAttn1KernelIdeal : Cert.Attn1KernelIdeal.Facts] : Prop :=
  ∀ (m : (ℓ : Loc Cert.Attn1KernelIdeal.nD Cert.Attn1KernelIdeal.τ Cert.Attn1KernelIdeal.sig) → Buf (Elt Ideal) ℓ) (g : Dev Cert.Attn1KernelIdeal.nD → PrngReg), Pre_Attn1KernelIdeal m →
    θ_run (Cert.Attn1KernelIdeal.defs (F := Ideal)) (onTc (τ := Cert.Attn1KernelIdeal.τ) (Cert.Attn1KernelIdeal.main (F := Ideal))) ⟨m, fun _ => 0, g⟩ (fun r => (∀ c : Dev Cert.Attn1KernelIdeal.nD,
      r.2.mem ((c.tc : Thread Cert.Attn1KernelIdeal.nD Cert.Attn1KernelIdeal.τ).loc Cert.Attn1KernelIdeal.main_arg0) = m ((c.tc : Thread Cert.Attn1KernelIdeal.nD Cert.Attn1KernelIdeal.τ).loc Cert.Attn1KernelIdeal.main_arg0)
      ∧ r.2.mem ((c.tc : Thread Cert.Attn1KernelIdeal.nD Cert.Attn1KernelIdeal.τ).loc Cert.Attn1KernelIdeal.main_arg1) = m ((c.tc : Thread Cert.Attn1KernelIdeal.nD Cert.Attn1KernelIdeal.τ).loc Cert.Attn1KernelIdeal.main_arg1)
      ∧ r.2.mem ((c.tc : Thread Cert.Attn1KernelIdeal.nD Cert.Attn1KernelIdeal.τ).loc Cert.Attn1KernelIdeal.main_arg2) = m ((c.tc : Thread Cert.Attn1KernelIdeal.nD Cert.Attn1KernelIdeal.τ).loc Cert.Attn1KernelIdeal.main_arg2)
      ∧ r.2.mem ((c.tc : Thread Cert.Attn1KernelIdeal.nD Cert.Attn1KernelIdeal.τ).loc Cert.Attn1KernelIdeal.main_arg3) = m ((c.tc : Thread Cert.Attn1KernelIdeal.nD Cert.Attn1KernelIdeal.τ).loc Cert.Attn1KernelIdeal.main_arg3))
      ∧ r.2.sem = fun _ => 0)

def quiescent_Attn1KernelIdeal_pre_finite_attn [hAttn1KernelIdeal : Cert.Attn1KernelIdeal.Facts] [hPre_finite_attn : Cert.Pre_finite_attn.Facts] : Prop :=
  ∀ (m : (ℓ : Loc Cert.Attn1KernelIdeal.nD Cert.Attn1KernelIdeal.τ Cert.Attn1KernelIdeal.sig) → Buf (Elt Ideal) ℓ) (g : Dev Cert.Attn1KernelIdeal.nD → PrngReg), Pre_Attn1KernelIdeal_finite_attn m →
    θ_run (Cert.Attn1KernelIdeal.defs (F := Ideal)) (onTc (τ := Cert.Attn1KernelIdeal.τ) (Cert.Attn1KernelIdeal.main (F := Ideal))) ⟨m, fun _ => 0, g⟩ (fun r => (∀ c : Dev Cert.Attn1KernelIdeal.nD,
      r.2.mem ((c.tc : Thread Cert.Attn1KernelIdeal.nD Cert.Attn1KernelIdeal.τ).loc Cert.Attn1KernelIdeal.main_arg0) = m ((c.tc : Thread Cert.Attn1KernelIdeal.nD Cert.Attn1KernelIdeal.τ).loc Cert.Attn1KernelIdeal.main_arg0)
      ∧ r.2.mem ((c.tc : Thread Cert.Attn1KernelIdeal.nD Cert.Attn1KernelIdeal.τ).loc Cert.Attn1KernelIdeal.main_arg1) = m ((c.tc : Thread Cert.Attn1KernelIdeal.nD Cert.Attn1KernelIdeal.τ).loc Cert.Attn1KernelIdeal.main_arg1)
      ∧ r.2.mem ((c.tc : Thread Cert.Attn1KernelIdeal.nD Cert.Attn1KernelIdeal.τ).loc Cert.Attn1KernelIdeal.main_arg2) = m ((c.tc : Thread Cert.Attn1KernelIdeal.nD Cert.Attn1KernelIdeal.τ).loc Cert.Attn1KernelIdeal.main_arg2)
      ∧ r.2.mem ((c.tc : Thread Cert.Attn1KernelIdeal.nD Cert.Attn1KernelIdeal.τ).loc Cert.Attn1KernelIdeal.main_arg3) = m ((c.tc : Thread Cert.Attn1KernelIdeal.nD Cert.Attn1KernelIdeal.τ).loc Cert.Attn1KernelIdeal.main_arg3))
      ∧ r.2.sem = fun _ => 0)

def quiescent_Attn1ReferenceIdeal [hAttn1ReferenceIdeal : Cert.Attn1ReferenceIdeal.Facts] : Prop :=
  ∀ (m : (ℓ : Loc Cert.Attn1ReferenceIdeal.nD Cert.Attn1ReferenceIdeal.τ Cert.Attn1ReferenceIdeal.sig) → Buf (Elt Ideal) ℓ) (g : Dev Cert.Attn1ReferenceIdeal.nD → PrngReg), Pre_Attn1ReferenceIdeal m →
    θ_run (Cert.Attn1ReferenceIdeal.defs (F := Ideal)) (onTc (τ := Cert.Attn1ReferenceIdeal.τ) (Cert.Attn1ReferenceIdeal.main (F := Ideal))) ⟨m, fun _ => 0, g⟩ (fun r => (∀ c : Dev Cert.Attn1ReferenceIdeal.nD,
      r.2.mem ((c.tc : Thread Cert.Attn1ReferenceIdeal.nD Cert.Attn1ReferenceIdeal.τ).loc Cert.Attn1ReferenceIdeal.main_arg0) = m ((c.tc : Thread Cert.Attn1ReferenceIdeal.nD Cert.Attn1ReferenceIdeal.τ).loc Cert.Attn1ReferenceIdeal.main_arg0)
      ∧ r.2.mem ((c.tc : Thread Cert.Attn1ReferenceIdeal.nD Cert.Attn1ReferenceIdeal.τ).loc Cert.Attn1ReferenceIdeal.main_arg1) = m ((c.tc : Thread Cert.Attn1ReferenceIdeal.nD Cert.Attn1ReferenceIdeal.τ).loc Cert.Attn1ReferenceIdeal.main_arg1)
      ∧ r.2.mem ((c.tc : Thread Cert.Attn1ReferenceIdeal.nD Cert.Attn1ReferenceIdeal.τ).loc Cert.Attn1ReferenceIdeal.main_arg2) = m ((c.tc : Thread Cert.Attn1ReferenceIdeal.nD Cert.Attn1ReferenceIdeal.τ).loc Cert.Attn1ReferenceIdeal.main_arg2)
      ∧ r.2.mem ((c.tc : Thread Cert.Attn1ReferenceIdeal.nD Cert.Attn1ReferenceIdeal.τ).loc Cert.Attn1ReferenceIdeal.main_arg3) = m ((c.tc : Thread Cert.Attn1ReferenceIdeal.nD Cert.Attn1ReferenceIdeal.τ).loc Cert.Attn1ReferenceIdeal.main_arg3))
      ∧ r.2.sem = fun _ => 0)

def quiescent_Attn1ReferenceIdeal_pre_finite_attn [hAttn1ReferenceIdeal : Cert.Attn1ReferenceIdeal.Facts] [hPre_finite_attn : Cert.Pre_finite_attn.Facts] : Prop :=
  ∀ (m : (ℓ : Loc Cert.Attn1ReferenceIdeal.nD Cert.Attn1ReferenceIdeal.τ Cert.Attn1ReferenceIdeal.sig) → Buf (Elt Ideal) ℓ) (g : Dev Cert.Attn1ReferenceIdeal.nD → PrngReg), Pre_Attn1ReferenceIdeal_finite_attn m →
    θ_run (Cert.Attn1ReferenceIdeal.defs (F := Ideal)) (onTc (τ := Cert.Attn1ReferenceIdeal.τ) (Cert.Attn1ReferenceIdeal.main (F := Ideal))) ⟨m, fun _ => 0, g⟩ (fun r => (∀ c : Dev Cert.Attn1ReferenceIdeal.nD,
      r.2.mem ((c.tc : Thread Cert.Attn1ReferenceIdeal.nD Cert.Attn1ReferenceIdeal.τ).loc Cert.Attn1ReferenceIdeal.main_arg0) = m ((c.tc : Thread Cert.Attn1ReferenceIdeal.nD Cert.Attn1ReferenceIdeal.τ).loc Cert.Attn1ReferenceIdeal.main_arg0)
      ∧ r.2.mem ((c.tc : Thread Cert.Attn1ReferenceIdeal.nD Cert.Attn1ReferenceIdeal.τ).loc Cert.Attn1ReferenceIdeal.main_arg1) = m ((c.tc : Thread Cert.Attn1ReferenceIdeal.nD Cert.Attn1ReferenceIdeal.τ).loc Cert.Attn1ReferenceIdeal.main_arg1)
      ∧ r.2.mem ((c.tc : Thread Cert.Attn1ReferenceIdeal.nD Cert.Attn1ReferenceIdeal.τ).loc Cert.Attn1ReferenceIdeal.main_arg2) = m ((c.tc : Thread Cert.Attn1ReferenceIdeal.nD Cert.Attn1ReferenceIdeal.τ).loc Cert.Attn1ReferenceIdeal.main_arg2)
      ∧ r.2.mem ((c.tc : Thread Cert.Attn1ReferenceIdeal.nD Cert.Attn1ReferenceIdeal.τ).loc Cert.Attn1ReferenceIdeal.main_arg3) = m ((c.tc : Thread Cert.Attn1ReferenceIdeal.nD Cert.Attn1ReferenceIdeal.τ).loc Cert.Attn1ReferenceIdeal.main_arg3))
      ∧ r.2.sem = fun _ => 0)

def quiescent_Attn2Kernel [hAttn2Kernel : Cert.Attn2Kernel.Facts] : Prop :=
  ∀ (m : (ℓ : Loc Cert.Attn2Kernel.nD Cert.Attn2Kernel.τ Cert.Attn2Kernel.sig) → Buf (Elt Bits) ℓ) (g : Dev Cert.Attn2Kernel.nD → PrngReg), Pre_Attn2Kernel m →
    θ_run (Cert.Attn2Kernel.defs (F := Bits)) (onTc (τ := Cert.Attn2Kernel.τ) (Cert.Attn2Kernel.main (F := Bits))) ⟨m, fun _ => 0, g⟩ (fun r => (∀ c : Dev Cert.Attn2Kernel.nD,
      r.2.mem ((c.tc : Thread Cert.Attn2Kernel.nD Cert.Attn2Kernel.τ).loc Cert.Attn2Kernel.main_arg0) = m ((c.tc : Thread Cert.Attn2Kernel.nD Cert.Attn2Kernel.τ).loc Cert.Attn2Kernel.main_arg0)
      ∧ r.2.mem ((c.tc : Thread Cert.Attn2Kernel.nD Cert.Attn2Kernel.τ).loc Cert.Attn2Kernel.main_arg1) = m ((c.tc : Thread Cert.Attn2Kernel.nD Cert.Attn2Kernel.τ).loc Cert.Attn2Kernel.main_arg1)
      ∧ r.2.mem ((c.tc : Thread Cert.Attn2Kernel.nD Cert.Attn2Kernel.τ).loc Cert.Attn2Kernel.main_arg2) = m ((c.tc : Thread Cert.Attn2Kernel.nD Cert.Attn2Kernel.τ).loc Cert.Attn2Kernel.main_arg2)
      ∧ r.2.mem ((c.tc : Thread Cert.Attn2Kernel.nD Cert.Attn2Kernel.τ).loc Cert.Attn2Kernel.main_arg3) = m ((c.tc : Thread Cert.Attn2Kernel.nD Cert.Attn2Kernel.τ).loc Cert.Attn2Kernel.main_arg3))
      ∧ r.2.sem = fun _ => 0)

def quiescent_Attn2KernelIdeal [hAttn2KernelIdeal : Cert.Attn2KernelIdeal.Facts] : Prop :=
  ∀ (m : (ℓ : Loc Cert.Attn2KernelIdeal.nD Cert.Attn2KernelIdeal.τ Cert.Attn2KernelIdeal.sig) → Buf (Elt Ideal) ℓ) (g : Dev Cert.Attn2KernelIdeal.nD → PrngReg), Pre_Attn2KernelIdeal m →
    θ_run (Cert.Attn2KernelIdeal.defs (F := Ideal)) (onTc (τ := Cert.Attn2KernelIdeal.τ) (Cert.Attn2KernelIdeal.main (F := Ideal))) ⟨m, fun _ => 0, g⟩ (fun r => (∀ c : Dev Cert.Attn2KernelIdeal.nD,
      r.2.mem ((c.tc : Thread Cert.Attn2KernelIdeal.nD Cert.Attn2KernelIdeal.τ).loc Cert.Attn2KernelIdeal.main_arg0) = m ((c.tc : Thread Cert.Attn2KernelIdeal.nD Cert.Attn2KernelIdeal.τ).loc Cert.Attn2KernelIdeal.main_arg0)
      ∧ r.2.mem ((c.tc : Thread Cert.Attn2KernelIdeal.nD Cert.Attn2KernelIdeal.τ).loc Cert.Attn2KernelIdeal.main_arg1) = m ((c.tc : Thread Cert.Attn2KernelIdeal.nD Cert.Attn2KernelIdeal.τ).loc Cert.Attn2KernelIdeal.main_arg1)
      ∧ r.2.mem ((c.tc : Thread Cert.Attn2KernelIdeal.nD Cert.Attn2KernelIdeal.τ).loc Cert.Attn2KernelIdeal.main_arg2) = m ((c.tc : Thread Cert.Attn2KernelIdeal.nD Cert.Attn2KernelIdeal.τ).loc Cert.Attn2KernelIdeal.main_arg2)
      ∧ r.2.mem ((c.tc : Thread Cert.Attn2KernelIdeal.nD Cert.Attn2KernelIdeal.τ).loc Cert.Attn2KernelIdeal.main_arg3) = m ((c.tc : Thread Cert.Attn2KernelIdeal.nD Cert.Attn2KernelIdeal.τ).loc Cert.Attn2KernelIdeal.main_arg3))
      ∧ r.2.sem = fun _ => 0)

def quiescent_Attn2KernelIdeal_pre_finite_attn [hAttn2KernelIdeal : Cert.Attn2KernelIdeal.Facts] [hPre_finite_attn : Cert.Pre_finite_attn.Facts] : Prop :=
  ∀ (m : (ℓ : Loc Cert.Attn2KernelIdeal.nD Cert.Attn2KernelIdeal.τ Cert.Attn2KernelIdeal.sig) → Buf (Elt Ideal) ℓ) (g : Dev Cert.Attn2KernelIdeal.nD → PrngReg), Pre_Attn2KernelIdeal_finite_attn m →
    θ_run (Cert.Attn2KernelIdeal.defs (F := Ideal)) (onTc (τ := Cert.Attn2KernelIdeal.τ) (Cert.Attn2KernelIdeal.main (F := Ideal))) ⟨m, fun _ => 0, g⟩ (fun r => (∀ c : Dev Cert.Attn2KernelIdeal.nD,
      r.2.mem ((c.tc : Thread Cert.Attn2KernelIdeal.nD Cert.Attn2KernelIdeal.τ).loc Cert.Attn2KernelIdeal.main_arg0) = m ((c.tc : Thread Cert.Attn2KernelIdeal.nD Cert.Attn2KernelIdeal.τ).loc Cert.Attn2KernelIdeal.main_arg0)
      ∧ r.2.mem ((c.tc : Thread Cert.Attn2KernelIdeal.nD Cert.Attn2KernelIdeal.τ).loc Cert.Attn2KernelIdeal.main_arg1) = m ((c.tc : Thread Cert.Attn2KernelIdeal.nD Cert.Attn2KernelIdeal.τ).loc Cert.Attn2KernelIdeal.main_arg1)
      ∧ r.2.mem ((c.tc : Thread Cert.Attn2KernelIdeal.nD Cert.Attn2KernelIdeal.τ).loc Cert.Attn2KernelIdeal.main_arg2) = m ((c.tc : Thread Cert.Attn2KernelIdeal.nD Cert.Attn2KernelIdeal.τ).loc Cert.Attn2KernelIdeal.main_arg2)
      ∧ r.2.mem ((c.tc : Thread Cert.Attn2KernelIdeal.nD Cert.Attn2KernelIdeal.τ).loc Cert.Attn2KernelIdeal.main_arg3) = m ((c.tc : Thread Cert.Attn2KernelIdeal.nD Cert.Attn2KernelIdeal.τ).loc Cert.Attn2KernelIdeal.main_arg3))
      ∧ r.2.sem = fun _ => 0)

def quiescent_Attn2ReferenceIdeal [hAttn2ReferenceIdeal : Cert.Attn2ReferenceIdeal.Facts] : Prop :=
  ∀ (m : (ℓ : Loc Cert.Attn2ReferenceIdeal.nD Cert.Attn2ReferenceIdeal.τ Cert.Attn2ReferenceIdeal.sig) → Buf (Elt Ideal) ℓ) (g : Dev Cert.Attn2ReferenceIdeal.nD → PrngReg), Pre_Attn2ReferenceIdeal m →
    θ_run (Cert.Attn2ReferenceIdeal.defs (F := Ideal)) (onTc (τ := Cert.Attn2ReferenceIdeal.τ) (Cert.Attn2ReferenceIdeal.main (F := Ideal))) ⟨m, fun _ => 0, g⟩ (fun r => (∀ c : Dev Cert.Attn2ReferenceIdeal.nD,
      r.2.mem ((c.tc : Thread Cert.Attn2ReferenceIdeal.nD Cert.Attn2ReferenceIdeal.τ).loc Cert.Attn2ReferenceIdeal.main_arg0) = m ((c.tc : Thread Cert.Attn2ReferenceIdeal.nD Cert.Attn2ReferenceIdeal.τ).loc Cert.Attn2ReferenceIdeal.main_arg0)
      ∧ r.2.mem ((c.tc : Thread Cert.Attn2ReferenceIdeal.nD Cert.Attn2ReferenceIdeal.τ).loc Cert.Attn2ReferenceIdeal.main_arg1) = m ((c.tc : Thread Cert.Attn2ReferenceIdeal.nD Cert.Attn2ReferenceIdeal.τ).loc Cert.Attn2ReferenceIdeal.main_arg1)
      ∧ r.2.mem ((c.tc : Thread Cert.Attn2ReferenceIdeal.nD Cert.Attn2ReferenceIdeal.τ).loc Cert.Attn2ReferenceIdeal.main_arg2) = m ((c.tc : Thread Cert.Attn2ReferenceIdeal.nD Cert.Attn2ReferenceIdeal.τ).loc Cert.Attn2ReferenceIdeal.main_arg2)
      ∧ r.2.mem ((c.tc : Thread Cert.Attn2ReferenceIdeal.nD Cert.Attn2ReferenceIdeal.τ).loc Cert.Attn2ReferenceIdeal.main_arg3) = m ((c.tc : Thread Cert.Attn2ReferenceIdeal.nD Cert.Attn2ReferenceIdeal.τ).loc Cert.Attn2ReferenceIdeal.main_arg3))
      ∧ r.2.sem = fun _ => 0)

def quiescent_Attn2ReferenceIdeal_pre_finite_attn [hAttn2ReferenceIdeal : Cert.Attn2ReferenceIdeal.Facts] [hPre_finite_attn : Cert.Pre_finite_attn.Facts] : Prop :=
  ∀ (m : (ℓ : Loc Cert.Attn2ReferenceIdeal.nD Cert.Attn2ReferenceIdeal.τ Cert.Attn2ReferenceIdeal.sig) → Buf (Elt Ideal) ℓ) (g : Dev Cert.Attn2ReferenceIdeal.nD → PrngReg), Pre_Attn2ReferenceIdeal_finite_attn m →
    θ_run (Cert.Attn2ReferenceIdeal.defs (F := Ideal)) (onTc (τ := Cert.Attn2ReferenceIdeal.τ) (Cert.Attn2ReferenceIdeal.main (F := Ideal))) ⟨m, fun _ => 0, g⟩ (fun r => (∀ c : Dev Cert.Attn2ReferenceIdeal.nD,
      r.2.mem ((c.tc : Thread Cert.Attn2ReferenceIdeal.nD Cert.Attn2ReferenceIdeal.τ).loc Cert.Attn2ReferenceIdeal.main_arg0) = m ((c.tc : Thread Cert.Attn2ReferenceIdeal.nD Cert.Attn2ReferenceIdeal.τ).loc Cert.Attn2ReferenceIdeal.main_arg0)
      ∧ r.2.mem ((c.tc : Thread Cert.Attn2ReferenceIdeal.nD Cert.Attn2ReferenceIdeal.τ).loc Cert.Attn2ReferenceIdeal.main_arg1) = m ((c.tc : Thread Cert.Attn2ReferenceIdeal.nD Cert.Attn2ReferenceIdeal.τ).loc Cert.Attn2ReferenceIdeal.main_arg1)
      ∧ r.2.mem ((c.tc : Thread Cert.Attn2ReferenceIdeal.nD Cert.Attn2ReferenceIdeal.τ).loc Cert.Attn2ReferenceIdeal.main_arg2) = m ((c.tc : Thread Cert.Attn2ReferenceIdeal.nD Cert.Attn2ReferenceIdeal.τ).loc Cert.Attn2ReferenceIdeal.main_arg2)
      ∧ r.2.mem ((c.tc : Thread Cert.Attn2ReferenceIdeal.nD Cert.Attn2ReferenceIdeal.τ).loc Cert.Attn2ReferenceIdeal.main_arg3) = m ((c.tc : Thread Cert.Attn2ReferenceIdeal.nD Cert.Attn2ReferenceIdeal.τ).loc Cert.Attn2ReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnPreKernel [hFfnPreKernel : Cert.FfnPreKernel.Facts] : Prop :=
  ∀ (m : (ℓ : Loc Cert.FfnPreKernel.nD Cert.FfnPreKernel.τ Cert.FfnPreKernel.sig) → Buf (Elt Bits) ℓ) (g : Dev Cert.FfnPreKernel.nD → PrngReg), Pre_FfnPreKernel m →
    θ_run (Cert.FfnPreKernel.defs (F := Bits)) (onTc (τ := Cert.FfnPreKernel.τ) (Cert.FfnPreKernel.main (F := Bits))) ⟨m, fun _ => 0, g⟩ (fun r => (∀ c : Dev Cert.FfnPreKernel.nD,
      r.2.mem ((c.tc : Thread Cert.FfnPreKernel.nD Cert.FfnPreKernel.τ).loc Cert.FfnPreKernel.main_arg0) = m ((c.tc : Thread Cert.FfnPreKernel.nD Cert.FfnPreKernel.τ).loc Cert.FfnPreKernel.main_arg0)
      ∧ r.2.mem ((c.tc : Thread Cert.FfnPreKernel.nD Cert.FfnPreKernel.τ).loc Cert.FfnPreKernel.main_arg1) = m ((c.tc : Thread Cert.FfnPreKernel.nD Cert.FfnPreKernel.τ).loc Cert.FfnPreKernel.main_arg1)
      ∧ r.2.mem ((c.tc : Thread Cert.FfnPreKernel.nD Cert.FfnPreKernel.τ).loc Cert.FfnPreKernel.main_arg2) = m ((c.tc : Thread Cert.FfnPreKernel.nD Cert.FfnPreKernel.τ).loc Cert.FfnPreKernel.main_arg2)
      ∧ r.2.mem ((c.tc : Thread Cert.FfnPreKernel.nD Cert.FfnPreKernel.τ).loc Cert.FfnPreKernel.main_arg3) = m ((c.tc : Thread Cert.FfnPreKernel.nD Cert.FfnPreKernel.τ).loc Cert.FfnPreKernel.main_arg3)
      ∧ r.2.mem ((c.tc : Thread Cert.FfnPreKernel.nD Cert.FfnPreKernel.τ).loc Cert.FfnPreKernel.main_arg4) = m ((c.tc : Thread Cert.FfnPreKernel.nD Cert.FfnPreKernel.τ).loc Cert.FfnPreKernel.main_arg4))
      ∧ r.2.sem = fun _ => 0)

def quiescent_FfnPreKernelIdeal [hFfnPreKernelIdeal : Cert.FfnPreKernelIdeal.Facts] : Prop :=
  ∀ (m : (ℓ : Loc Cert.FfnPreKernelIdeal.nD Cert.FfnPreKernelIdeal.τ Cert.FfnPreKernelIdeal.sig) → Buf (Elt Ideal) ℓ) (g : Dev Cert.FfnPreKernelIdeal.nD → PrngReg), Pre_FfnPreKernelIdeal m →
    θ_run (Cert.FfnPreKernelIdeal.defs (F := Ideal)) (onTc (τ := Cert.FfnPreKernelIdeal.τ) (Cert.FfnPreKernelIdeal.main (F := Ideal))) ⟨m, fun _ => 0, g⟩ (fun r => (∀ c : Dev Cert.FfnPreKernelIdeal.nD,
      r.2.mem ((c.tc : Thread Cert.FfnPreKernelIdeal.nD Cert.FfnPreKernelIdeal.τ).loc Cert.FfnPreKernelIdeal.main_arg0) = m ((c.tc : Thread Cert.FfnPreKernelIdeal.nD Cert.FfnPreKernelIdeal.τ).loc Cert.FfnPreKernelIdeal.main_arg0)
      ∧ r.2.mem ((c.tc : Thread Cert.FfnPreKernelIdeal.nD Cert.FfnPreKernelIdeal.τ).loc Cert.FfnPreKernelIdeal.main_arg1) = m ((c.tc : Thread Cert.FfnPreKernelIdeal.nD Cert.FfnPreKernelIdeal.τ).loc Cert.FfnPreKernelIdeal.main_arg1)
      ∧ r.2.mem ((c.tc : Thread Cert.FfnPreKernelIdeal.nD Cert.FfnPreKernelIdeal.τ).loc Cert.FfnPreKernelIdeal.main_arg2) = m ((c.tc : Thread Cert.FfnPreKernelIdeal.nD Cert.FfnPreKernelIdeal.τ).loc Cert.FfnPreKernelIdeal.main_arg2)
      ∧ r.2.mem ((c.tc : Thread Cert.FfnPreKernelIdeal.nD Cert.FfnPreKernelIdeal.τ).loc Cert.FfnPreKernelIdeal.main_arg3) = m ((c.tc : Thread Cert.FfnPreKernelIdeal.nD Cert.FfnPreKernelIdeal.τ).loc Cert.FfnPreKernelIdeal.main_arg3)
      ∧ r.2.mem ((c.tc : Thread Cert.FfnPreKernelIdeal.nD Cert.FfnPreKernelIdeal.τ).loc Cert.FfnPreKernelIdeal.main_arg4) = m ((c.tc : Thread Cert.FfnPreKernelIdeal.nD Cert.FfnPreKernelIdeal.τ).loc Cert.FfnPreKernelIdeal.main_arg4))
      ∧ r.2.sem = fun _ => 0)

def quiescent_FfnPreKernelIdeal_pre_finite_ffnpre [hFfnPreKernelIdeal : Cert.FfnPreKernelIdeal.Facts] [hPre_finite_ffnpre : Cert.Pre_finite_ffnpre.Facts] : Prop :=
  ∀ (m : (ℓ : Loc Cert.FfnPreKernelIdeal.nD Cert.FfnPreKernelIdeal.τ Cert.FfnPreKernelIdeal.sig) → Buf (Elt Ideal) ℓ) (g : Dev Cert.FfnPreKernelIdeal.nD → PrngReg), Pre_FfnPreKernelIdeal_finite_ffnpre m →
    θ_run (Cert.FfnPreKernelIdeal.defs (F := Ideal)) (onTc (τ := Cert.FfnPreKernelIdeal.τ) (Cert.FfnPreKernelIdeal.main (F := Ideal))) ⟨m, fun _ => 0, g⟩ (fun r => (∀ c : Dev Cert.FfnPreKernelIdeal.nD,
      r.2.mem ((c.tc : Thread Cert.FfnPreKernelIdeal.nD Cert.FfnPreKernelIdeal.τ).loc Cert.FfnPreKernelIdeal.main_arg0) = m ((c.tc : Thread Cert.FfnPreKernelIdeal.nD Cert.FfnPreKernelIdeal.τ).loc Cert.FfnPreKernelIdeal.main_arg0)
      ∧ r.2.mem ((c.tc : Thread Cert.FfnPreKernelIdeal.nD Cert.FfnPreKernelIdeal.τ).loc Cert.FfnPreKernelIdeal.main_arg1) = m ((c.tc : Thread Cert.FfnPreKernelIdeal.nD Cert.FfnPreKernelIdeal.τ).loc Cert.FfnPreKernelIdeal.main_arg1)
      ∧ r.2.mem ((c.tc : Thread Cert.FfnPreKernelIdeal.nD Cert.FfnPreKernelIdeal.τ).loc Cert.FfnPreKernelIdeal.main_arg2) = m ((c.tc : Thread Cert.FfnPreKernelIdeal.nD Cert.FfnPreKernelIdeal.τ).loc Cert.FfnPreKernelIdeal.main_arg2)
      ∧ r.2.mem ((c.tc : Thread Cert.FfnPreKernelIdeal.nD Cert.FfnPreKernelIdeal.τ).loc Cert.FfnPreKernelIdeal.main_arg3) = m ((c.tc : Thread Cert.FfnPreKernelIdeal.nD Cert.FfnPreKernelIdeal.τ).loc Cert.FfnPreKernelIdeal.main_arg3)
      ∧ r.2.mem ((c.tc : Thread Cert.FfnPreKernelIdeal.nD Cert.FfnPreKernelIdeal.τ).loc Cert.FfnPreKernelIdeal.main_arg4) = m ((c.tc : Thread Cert.FfnPreKernelIdeal.nD Cert.FfnPreKernelIdeal.τ).loc Cert.FfnPreKernelIdeal.main_arg4))
      ∧ r.2.sem = fun _ => 0)

def quiescent_FfnPreReferenceIdeal [hFfnPreReferenceIdeal : Cert.FfnPreReferenceIdeal.Facts] : Prop :=
  ∀ (m : (ℓ : Loc Cert.FfnPreReferenceIdeal.nD Cert.FfnPreReferenceIdeal.τ Cert.FfnPreReferenceIdeal.sig) → Buf (Elt Ideal) ℓ) (g : Dev Cert.FfnPreReferenceIdeal.nD → PrngReg), Pre_FfnPreReferenceIdeal m →
    θ_run (Cert.FfnPreReferenceIdeal.defs (F := Ideal)) (onTc (τ := Cert.FfnPreReferenceIdeal.τ) (Cert.FfnPreReferenceIdeal.main (F := Ideal))) ⟨m, fun _ => 0, g⟩ (fun r => (∀ c : Dev Cert.FfnPreReferenceIdeal.nD,
      r.2.mem ((c.tc : Thread Cert.FfnPreReferenceIdeal.nD Cert.FfnPreReferenceIdeal.τ).loc Cert.FfnPreReferenceIdeal.main_arg0) = m ((c.tc : Thread Cert.FfnPreReferenceIdeal.nD Cert.FfnPreReferenceIdeal.τ).loc Cert.FfnPreReferenceIdeal.main_arg0)
      ∧ r.2.mem ((c.tc : Thread Cert.FfnPreReferenceIdeal.nD Cert.FfnPreReferenceIdeal.τ).loc Cert.FfnPreReferenceIdeal.main_arg1) = m ((c.tc : Thread Cert.FfnPreReferenceIdeal.nD Cert.FfnPreReferenceIdeal.τ).loc Cert.FfnPreReferenceIdeal.main_arg1)
      ∧ r.2.mem ((c.tc : Thread Cert.FfnPreReferenceIdeal.nD Cert.FfnPreReferenceIdeal.τ).loc Cert.FfnPreReferenceIdeal.main_arg2) = m ((c.tc : Thread Cert.FfnPreReferenceIdeal.nD Cert.FfnPreReferenceIdeal.τ).loc Cert.FfnPreReferenceIdeal.main_arg2)
      ∧ r.2.mem ((c.tc : Thread Cert.FfnPreReferenceIdeal.nD Cert.FfnPreReferenceIdeal.τ).loc Cert.FfnPreReferenceIdeal.main_arg3) = m ((c.tc : Thread Cert.FfnPreReferenceIdeal.nD Cert.FfnPreReferenceIdeal.τ).loc Cert.FfnPreReferenceIdeal.main_arg3)
      ∧ r.2.mem ((c.tc : Thread Cert.FfnPreReferenceIdeal.nD Cert.FfnPreReferenceIdeal.τ).loc Cert.FfnPreReferenceIdeal.main_arg4) = m ((c.tc : Thread Cert.FfnPreReferenceIdeal.nD Cert.FfnPreReferenceIdeal.τ).loc Cert.FfnPreReferenceIdeal.main_arg4))
      ∧ r.2.sem = fun _ => 0)

def quiescent_FfnPreReferenceIdeal_pre_finite_ffnpre [hFfnPreReferenceIdeal : Cert.FfnPreReferenceIdeal.Facts] [hPre_finite_ffnpre : Cert.Pre_finite_ffnpre.Facts] : Prop :=
  ∀ (m : (ℓ : Loc Cert.FfnPreReferenceIdeal.nD Cert.FfnPreReferenceIdeal.τ Cert.FfnPreReferenceIdeal.sig) → Buf (Elt Ideal) ℓ) (g : Dev Cert.FfnPreReferenceIdeal.nD → PrngReg), Pre_FfnPreReferenceIdeal_finite_ffnpre m →
    θ_run (Cert.FfnPreReferenceIdeal.defs (F := Ideal)) (onTc (τ := Cert.FfnPreReferenceIdeal.τ) (Cert.FfnPreReferenceIdeal.main (F := Ideal))) ⟨m, fun _ => 0, g⟩ (fun r => (∀ c : Dev Cert.FfnPreReferenceIdeal.nD,
      r.2.mem ((c.tc : Thread Cert.FfnPreReferenceIdeal.nD Cert.FfnPreReferenceIdeal.τ).loc Cert.FfnPreReferenceIdeal.main_arg0) = m ((c.tc : Thread Cert.FfnPreReferenceIdeal.nD Cert.FfnPreReferenceIdeal.τ).loc Cert.FfnPreReferenceIdeal.main_arg0)
      ∧ r.2.mem ((c.tc : Thread Cert.FfnPreReferenceIdeal.nD Cert.FfnPreReferenceIdeal.τ).loc Cert.FfnPreReferenceIdeal.main_arg1) = m ((c.tc : Thread Cert.FfnPreReferenceIdeal.nD Cert.FfnPreReferenceIdeal.τ).loc Cert.FfnPreReferenceIdeal.main_arg1)
      ∧ r.2.mem ((c.tc : Thread Cert.FfnPreReferenceIdeal.nD Cert.FfnPreReferenceIdeal.τ).loc Cert.FfnPreReferenceIdeal.main_arg2) = m ((c.tc : Thread Cert.FfnPreReferenceIdeal.nD Cert.FfnPreReferenceIdeal.τ).loc Cert.FfnPreReferenceIdeal.main_arg2)
      ∧ r.2.mem ((c.tc : Thread Cert.FfnPreReferenceIdeal.nD Cert.FfnPreReferenceIdeal.τ).loc Cert.FfnPreReferenceIdeal.main_arg3) = m ((c.tc : Thread Cert.FfnPreReferenceIdeal.nD Cert.FfnPreReferenceIdeal.τ).loc Cert.FfnPreReferenceIdeal.main_arg3)
      ∧ r.2.mem ((c.tc : Thread Cert.FfnPreReferenceIdeal.nD Cert.FfnPreReferenceIdeal.τ).loc Cert.FfnPreReferenceIdeal.main_arg4) = m ((c.tc : Thread Cert.FfnPreReferenceIdeal.nD Cert.FfnPreReferenceIdeal.τ).loc Cert.FfnPreReferenceIdeal.main_arg4))
      ∧ r.2.sem = fun _ => 0)

def quiescent_MixPreKernel [hMixPreKernel : Cert.MixPreKernel.Facts] : Prop :=
  ∀ (m : (ℓ : Loc Cert.MixPreKernel.nD Cert.MixPreKernel.τ Cert.MixPreKernel.sig) → Buf (Elt Bits) ℓ) (g : Dev Cert.MixPreKernel.nD → PrngReg), Pre_MixPreKernel m →
    θ_run (Cert.MixPreKernel.defs (F := Bits)) (onTc (τ := Cert.MixPreKernel.τ) (Cert.MixPreKernel.main (F := Bits))) ⟨m, fun _ => 0, g⟩ (fun r => (∀ c : Dev Cert.MixPreKernel.nD,
      r.2.mem ((c.tc : Thread Cert.MixPreKernel.nD Cert.MixPreKernel.τ).loc Cert.MixPreKernel.main_arg0) = m ((c.tc : Thread Cert.MixPreKernel.nD Cert.MixPreKernel.τ).loc Cert.MixPreKernel.main_arg0)
      ∧ r.2.mem ((c.tc : Thread Cert.MixPreKernel.nD Cert.MixPreKernel.τ).loc Cert.MixPreKernel.main_arg1) = m ((c.tc : Thread Cert.MixPreKernel.nD Cert.MixPreKernel.τ).loc Cert.MixPreKernel.main_arg1)
      ∧ r.2.mem ((c.tc : Thread Cert.MixPreKernel.nD Cert.MixPreKernel.τ).loc Cert.MixPreKernel.main_arg2) = m ((c.tc : Thread Cert.MixPreKernel.nD Cert.MixPreKernel.τ).loc Cert.MixPreKernel.main_arg2)
      ∧ r.2.mem ((c.tc : Thread Cert.MixPreKernel.nD Cert.MixPreKernel.τ).loc Cert.MixPreKernel.main_arg3) = m ((c.tc : Thread Cert.MixPreKernel.nD Cert.MixPreKernel.τ).loc Cert.MixPreKernel.main_arg3)
      ∧ r.2.mem ((c.tc : Thread Cert.MixPreKernel.nD Cert.MixPreKernel.τ).loc Cert.MixPreKernel.main_arg4) = m ((c.tc : Thread Cert.MixPreKernel.nD Cert.MixPreKernel.τ).loc Cert.MixPreKernel.main_arg4))
      ∧ r.2.sem = fun _ => 0)

def quiescent_MixPreKernelIdeal [hMixPreKernelIdeal : Cert.MixPreKernelIdeal.Facts] : Prop :=
  ∀ (m : (ℓ : Loc Cert.MixPreKernelIdeal.nD Cert.MixPreKernelIdeal.τ Cert.MixPreKernelIdeal.sig) → Buf (Elt Ideal) ℓ) (g : Dev Cert.MixPreKernelIdeal.nD → PrngReg), Pre_MixPreKernelIdeal m →
    θ_run (Cert.MixPreKernelIdeal.defs (F := Ideal)) (onTc (τ := Cert.MixPreKernelIdeal.τ) (Cert.MixPreKernelIdeal.main (F := Ideal))) ⟨m, fun _ => 0, g⟩ (fun r => (∀ c : Dev Cert.MixPreKernelIdeal.nD,
      r.2.mem ((c.tc : Thread Cert.MixPreKernelIdeal.nD Cert.MixPreKernelIdeal.τ).loc Cert.MixPreKernelIdeal.main_arg0) = m ((c.tc : Thread Cert.MixPreKernelIdeal.nD Cert.MixPreKernelIdeal.τ).loc Cert.MixPreKernelIdeal.main_arg0)
      ∧ r.2.mem ((c.tc : Thread Cert.MixPreKernelIdeal.nD Cert.MixPreKernelIdeal.τ).loc Cert.MixPreKernelIdeal.main_arg1) = m ((c.tc : Thread Cert.MixPreKernelIdeal.nD Cert.MixPreKernelIdeal.τ).loc Cert.MixPreKernelIdeal.main_arg1)
      ∧ r.2.mem ((c.tc : Thread Cert.MixPreKernelIdeal.nD Cert.MixPreKernelIdeal.τ).loc Cert.MixPreKernelIdeal.main_arg2) = m ((c.tc : Thread Cert.MixPreKernelIdeal.nD Cert.MixPreKernelIdeal.τ).loc Cert.MixPreKernelIdeal.main_arg2)
      ∧ r.2.mem ((c.tc : Thread Cert.MixPreKernelIdeal.nD Cert.MixPreKernelIdeal.τ).loc Cert.MixPreKernelIdeal.main_arg3) = m ((c.tc : Thread Cert.MixPreKernelIdeal.nD Cert.MixPreKernelIdeal.τ).loc Cert.MixPreKernelIdeal.main_arg3)
      ∧ r.2.mem ((c.tc : Thread Cert.MixPreKernelIdeal.nD Cert.MixPreKernelIdeal.τ).loc Cert.MixPreKernelIdeal.main_arg4) = m ((c.tc : Thread Cert.MixPreKernelIdeal.nD Cert.MixPreKernelIdeal.τ).loc Cert.MixPreKernelIdeal.main_arg4))
      ∧ r.2.sem = fun _ => 0)

def quiescent_MixPreKernelIdeal_pre_finite_mixpre [hMixPreKernelIdeal : Cert.MixPreKernelIdeal.Facts] [hPre_finite_mixpre : Cert.Pre_finite_mixpre.Facts] : Prop :=
  ∀ (m : (ℓ : Loc Cert.MixPreKernelIdeal.nD Cert.MixPreKernelIdeal.τ Cert.MixPreKernelIdeal.sig) → Buf (Elt Ideal) ℓ) (g : Dev Cert.MixPreKernelIdeal.nD → PrngReg), Pre_MixPreKernelIdeal_finite_mixpre m →
    θ_run (Cert.MixPreKernelIdeal.defs (F := Ideal)) (onTc (τ := Cert.MixPreKernelIdeal.τ) (Cert.MixPreKernelIdeal.main (F := Ideal))) ⟨m, fun _ => 0, g⟩ (fun r => (∀ c : Dev Cert.MixPreKernelIdeal.nD,
      r.2.mem ((c.tc : Thread Cert.MixPreKernelIdeal.nD Cert.MixPreKernelIdeal.τ).loc Cert.MixPreKernelIdeal.main_arg0) = m ((c.tc : Thread Cert.MixPreKernelIdeal.nD Cert.MixPreKernelIdeal.τ).loc Cert.MixPreKernelIdeal.main_arg0)
      ∧ r.2.mem ((c.tc : Thread Cert.MixPreKernelIdeal.nD Cert.MixPreKernelIdeal.τ).loc Cert.MixPreKernelIdeal.main_arg1) = m ((c.tc : Thread Cert.MixPreKernelIdeal.nD Cert.MixPreKernelIdeal.τ).loc Cert.MixPreKernelIdeal.main_arg1)
      ∧ r.2.mem ((c.tc : Thread Cert.MixPreKernelIdeal.nD Cert.MixPreKernelIdeal.τ).loc Cert.MixPreKernelIdeal.main_arg2) = m ((c.tc : Thread Cert.MixPreKernelIdeal.nD Cert.MixPreKernelIdeal.τ).loc Cert.MixPreKernelIdeal.main_arg2)
      ∧ r.2.mem ((c.tc : Thread Cert.MixPreKernelIdeal.nD Cert.MixPreKernelIdeal.τ).loc Cert.MixPreKernelIdeal.main_arg3) = m ((c.tc : Thread Cert.MixPreKernelIdeal.nD Cert.MixPreKernelIdeal.τ).loc Cert.MixPreKernelIdeal.main_arg3)
      ∧ r.2.mem ((c.tc : Thread Cert.MixPreKernelIdeal.nD Cert.MixPreKernelIdeal.τ).loc Cert.MixPreKernelIdeal.main_arg4) = m ((c.tc : Thread Cert.MixPreKernelIdeal.nD Cert.MixPreKernelIdeal.τ).loc Cert.MixPreKernelIdeal.main_arg4))
      ∧ r.2.sem = fun _ => 0)

def quiescent_MixPreReferenceIdeal [hMixPreReferenceIdeal : Cert.MixPreReferenceIdeal.Facts] : Prop :=
  ∀ (m : (ℓ : Loc Cert.MixPreReferenceIdeal.nD Cert.MixPreReferenceIdeal.τ Cert.MixPreReferenceIdeal.sig) → Buf (Elt Ideal) ℓ) (g : Dev Cert.MixPreReferenceIdeal.nD → PrngReg), Pre_MixPreReferenceIdeal m →
    θ_run (Cert.MixPreReferenceIdeal.defs (F := Ideal)) (onTc (τ := Cert.MixPreReferenceIdeal.τ) (Cert.MixPreReferenceIdeal.main (F := Ideal))) ⟨m, fun _ => 0, g⟩ (fun r => (∀ c : Dev Cert.MixPreReferenceIdeal.nD,
      r.2.mem ((c.tc : Thread Cert.MixPreReferenceIdeal.nD Cert.MixPreReferenceIdeal.τ).loc Cert.MixPreReferenceIdeal.main_arg0) = m ((c.tc : Thread Cert.MixPreReferenceIdeal.nD Cert.MixPreReferenceIdeal.τ).loc Cert.MixPreReferenceIdeal.main_arg0)
      ∧ r.2.mem ((c.tc : Thread Cert.MixPreReferenceIdeal.nD Cert.MixPreReferenceIdeal.τ).loc Cert.MixPreReferenceIdeal.main_arg1) = m ((c.tc : Thread Cert.MixPreReferenceIdeal.nD Cert.MixPreReferenceIdeal.τ).loc Cert.MixPreReferenceIdeal.main_arg1)
      ∧ r.2.mem ((c.tc : Thread Cert.MixPreReferenceIdeal.nD Cert.MixPreReferenceIdeal.τ).loc Cert.MixPreReferenceIdeal.main_arg2) = m ((c.tc : Thread Cert.MixPreReferenceIdeal.nD Cert.MixPreReferenceIdeal.τ).loc Cert.MixPreReferenceIdeal.main_arg2)
      ∧ r.2.mem ((c.tc : Thread Cert.MixPreReferenceIdeal.nD Cert.MixPreReferenceIdeal.τ).loc Cert.MixPreReferenceIdeal.main_arg3) = m ((c.tc : Thread Cert.MixPreReferenceIdeal.nD Cert.MixPreReferenceIdeal.τ).loc Cert.MixPreReferenceIdeal.main_arg3)
      ∧ r.2.mem ((c.tc : Thread Cert.MixPreReferenceIdeal.nD Cert.MixPreReferenceIdeal.τ).loc Cert.MixPreReferenceIdeal.main_arg4) = m ((c.tc : Thread Cert.MixPreReferenceIdeal.nD Cert.MixPreReferenceIdeal.τ).loc Cert.MixPreReferenceIdeal.main_arg4))
      ∧ r.2.sem = fun _ => 0)

def quiescent_MixPreReferenceIdeal_pre_finite_mixpre [hMixPreReferenceIdeal : Cert.MixPreReferenceIdeal.Facts] [hPre_finite_mixpre : Cert.Pre_finite_mixpre.Facts] : Prop :=
  ∀ (m : (ℓ : Loc Cert.MixPreReferenceIdeal.nD Cert.MixPreReferenceIdeal.τ Cert.MixPreReferenceIdeal.sig) → Buf (Elt Ideal) ℓ) (g : Dev Cert.MixPreReferenceIdeal.nD → PrngReg), Pre_MixPreReferenceIdeal_finite_mixpre m →
    θ_run (Cert.MixPreReferenceIdeal.defs (F := Ideal)) (onTc (τ := Cert.MixPreReferenceIdeal.τ) (Cert.MixPreReferenceIdeal.main (F := Ideal))) ⟨m, fun _ => 0, g⟩ (fun r => (∀ c : Dev Cert.MixPreReferenceIdeal.nD,
      r.2.mem ((c.tc : Thread Cert.MixPreReferenceIdeal.nD Cert.MixPreReferenceIdeal.τ).loc Cert.MixPreReferenceIdeal.main_arg0) = m ((c.tc : Thread Cert.MixPreReferenceIdeal.nD Cert.MixPreReferenceIdeal.τ).loc Cert.MixPreReferenceIdeal.main_arg0)
      ∧ r.2.mem ((c.tc : Thread Cert.MixPreReferenceIdeal.nD Cert.MixPreReferenceIdeal.τ).loc Cert.MixPreReferenceIdeal.main_arg1) = m ((c.tc : Thread Cert.MixPreReferenceIdeal.nD Cert.MixPreReferenceIdeal.τ).loc Cert.MixPreReferenceIdeal.main_arg1)
      ∧ r.2.mem ((c.tc : Thread Cert.MixPreReferenceIdeal.nD Cert.MixPreReferenceIdeal.τ).loc Cert.MixPreReferenceIdeal.main_arg2) = m ((c.tc : Thread Cert.MixPreReferenceIdeal.nD Cert.MixPreReferenceIdeal.τ).loc Cert.MixPreReferenceIdeal.main_arg2)
      ∧ r.2.mem ((c.tc : Thread Cert.MixPreReferenceIdeal.nD Cert.MixPreReferenceIdeal.τ).loc Cert.MixPreReferenceIdeal.main_arg3) = m ((c.tc : Thread Cert.MixPreReferenceIdeal.nD Cert.MixPreReferenceIdeal.τ).loc Cert.MixPreReferenceIdeal.main_arg3)
      ∧ r.2.mem ((c.tc : Thread Cert.MixPreReferenceIdeal.nD Cert.MixPreReferenceIdeal.τ).loc Cert.MixPreReferenceIdeal.main_arg4) = m ((c.tc : Thread Cert.MixPreReferenceIdeal.nD Cert.MixPreReferenceIdeal.τ).loc Cert.MixPreReferenceIdeal.main_arg4))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0)
      ∧ r.2.mem ((c.tc : Thread Cert.RopeKernel.nD Cert.RopeKernel.τ).loc Cert.RopeKernel.main_arg1) = m ((c.tc : Thread Cert.RopeKernel.nD Cert.RopeKernel.τ).loc Cert.RopeKernel.main_arg1)
      ∧ r.2.mem ((c.tc : Thread Cert.RopeKernel.nD Cert.RopeKernel.τ).loc Cert.RopeKernel.main_arg2) = m ((c.tc : Thread Cert.RopeKernel.nD Cert.RopeKernel.τ).loc Cert.RopeKernel.main_arg2)
      ∧ r.2.mem ((c.tc : Thread Cert.RopeKernel.nD Cert.RopeKernel.τ).loc Cert.RopeKernel.main_arg3) = m ((c.tc : Thread Cert.RopeKernel.nD Cert.RopeKernel.τ).loc Cert.RopeKernel.main_arg3)
      ∧ r.2.mem ((c.tc : Thread Cert.RopeKernel.nD Cert.RopeKernel.τ).loc Cert.RopeKernel.main_arg4) = m ((c.tc : Thread Cert.RopeKernel.nD Cert.RopeKernel.τ).loc Cert.RopeKernel.main_arg4)
      ∧ r.2.mem ((c.tc : Thread Cert.RopeKernel.nD Cert.RopeKernel.τ).loc Cert.RopeKernel.main_arg5) = m ((c.tc : Thread Cert.RopeKernel.nD Cert.RopeKernel.τ).loc Cert.RopeKernel.main_arg5)
      ∧ r.2.mem ((c.tc : Thread Cert.RopeKernel.nD Cert.RopeKernel.τ).loc Cert.RopeKernel.main_arg6) = m ((c.tc : Thread Cert.RopeKernel.nD Cert.RopeKernel.τ).loc Cert.RopeKernel.main_arg6)
      ∧ r.2.mem ((c.tc : Thread Cert.RopeKernel.nD Cert.RopeKernel.τ).loc Cert.RopeKernel.main_arg7) = m ((c.tc : Thread Cert.RopeKernel.nD Cert.RopeKernel.τ).loc Cert.RopeKernel.main_arg7)
      ∧ r.2.mem ((c.tc : Thread Cert.RopeKernel.nD Cert.RopeKernel.τ).loc Cert.RopeKernel.main_arg8) = m ((c.tc : Thread Cert.RopeKernel.nD Cert.RopeKernel.τ).loc Cert.RopeKernel.main_arg8)
      ∧ r.2.mem ((c.tc : Thread Cert.RopeKernel.nD Cert.RopeKernel.τ).loc Cert.RopeKernel.main_arg9) = m ((c.tc : Thread Cert.RopeKernel.nD Cert.RopeKernel.τ).loc Cert.RopeKernel.main_arg9)
      ∧ r.2.mem ((c.tc : Thread Cert.RopeKernel.nD Cert.RopeKernel.τ).loc Cert.RopeKernel.main_arg10) = m ((c.tc : Thread Cert.RopeKernel.nD Cert.RopeKernel.τ).loc Cert.RopeKernel.main_arg10))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
      ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
      ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
      ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4)
      ∧ r.2.mem ((c.tc : Thread Cert.RopeKernelIdeal.nD Cert.RopeKernelIdeal.τ).loc Cert.RopeKernelIdeal.main_arg5) = m ((c.tc : Thread Cert.RopeKernelIdeal.nD Cert.RopeKernelIdeal.τ).loc Cert.RopeKernelIdeal.main_arg5)
      ∧ r.2.mem ((c.tc : Thread Cert.RopeKernelIdeal.nD Cert.RopeKernelIdeal.τ).loc Cert.RopeKernelIdeal.main_arg6) = m ((c.tc : Thread Cert.RopeKernelIdeal.nD Cert.RopeKernelIdeal.τ).loc Cert.RopeKernelIdeal.main_arg6)
      ∧ r.2.mem ((c.tc : Thread Cert.RopeKernelIdeal.nD Cert.RopeKernelIdeal.τ).loc Cert.RopeKernelIdeal.main_arg7) = m ((c.tc : Thread Cert.RopeKernelIdeal.nD Cert.RopeKernelIdeal.τ).loc Cert.RopeKernelIdeal.main_arg7)
      ∧ r.2.mem ((c.tc : Thread Cert.RopeKernelIdeal.nD Cert.RopeKernelIdeal.τ).loc Cert.RopeKernelIdeal.main_arg8) = m ((c.tc : Thread Cert.RopeKernelIdeal.nD Cert.RopeKernelIdeal.τ).loc Cert.RopeKernelIdeal.main_arg8)
      ∧ r.2.mem ((c.tc : Thread Cert.RopeKernelIdeal.nD Cert.RopeKernelIdeal.τ).loc Cert.RopeKernelIdeal.main_arg9) = m ((c.tc : Thread Cert.RopeKernelIdeal.nD Cert.RopeKernelIdeal.τ).loc Cert.RopeKernelIdeal.main_arg9)
      ∧ r.2.mem ((c.tc : Thread Cert.RopeKernelIdeal.nD Cert.RopeKernelIdeal.τ).loc Cert.RopeKernelIdeal.main_arg10) = m ((c.tc : Thread Cert.RopeKernelIdeal.nD Cert.RopeKernelIdeal.τ).loc Cert.RopeKernelIdeal.main_arg10))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4)
      ∧ r.2.mem ((c.tc : Thread Cert.RopeReferenceIdeal.nD Cert.RopeReferenceIdeal.τ).loc Cert.RopeReferenceIdeal.main_arg5) = m ((c.tc : Thread Cert.RopeReferenceIdeal.nD Cert.RopeReferenceIdeal.τ).loc Cert.RopeReferenceIdeal.main_arg5)
      ∧ r.2.mem ((c.tc : Thread Cert.RopeReferenceIdeal.nD Cert.RopeReferenceIdeal.τ).loc Cert.RopeReferenceIdeal.main_arg6) = m ((c.tc : Thread Cert.RopeReferenceIdeal.nD Cert.RopeReferenceIdeal.τ).loc Cert.RopeReferenceIdeal.main_arg6)
      ∧ r.2.mem ((c.tc : Thread Cert.RopeReferenceIdeal.nD Cert.RopeReferenceIdeal.τ).loc Cert.RopeReferenceIdeal.main_arg7) = m ((c.tc : Thread Cert.RopeReferenceIdeal.nD Cert.RopeReferenceIdeal.τ).loc Cert.RopeReferenceIdeal.main_arg7)
      ∧ r.2.mem ((c.tc : Thread Cert.RopeReferenceIdeal.nD Cert.RopeReferenceIdeal.τ).loc Cert.RopeReferenceIdeal.main_arg8) = m ((c.tc : Thread Cert.RopeReferenceIdeal.nD Cert.RopeReferenceIdeal.τ).loc Cert.RopeReferenceIdeal.main_arg8)
      ∧ r.2.mem ((c.tc : Thread Cert.RopeReferenceIdeal.nD Cert.RopeReferenceIdeal.τ).loc Cert.RopeReferenceIdeal.main_arg9) = m ((c.tc : Thread Cert.RopeReferenceIdeal.nD Cert.RopeReferenceIdeal.τ).loc Cert.RopeReferenceIdeal.main_arg9)
      ∧ r.2.mem ((c.tc : Thread Cert.RopeReferenceIdeal.nD Cert.RopeReferenceIdeal.τ).loc Cert.RopeReferenceIdeal.main_arg10) = m ((c.tc : Thread Cert.RopeReferenceIdeal.nD Cert.RopeReferenceIdeal.τ).loc Cert.RopeReferenceIdeal.main_arg10))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_NormKvKernel [hNormKvKernel : Cert.NormKvKernel.Facts] : Prop :=
  ∀ (m : (ℓ : Loc Cert.NormKvKernel.nD Cert.NormKvKernel.τ Cert.NormKvKernel.sig) → Buf (Elt Bits) ℓ) (g : Dev Cert.NormKvKernel.nD → PrngReg), Pre_NormKvKernel m →
    θ_run (Cert.NormKvKernel.defs (F := Bits)) (onTc (τ := Cert.NormKvKernel.τ) (Cert.NormKvKernel.main (F := Bits))) ⟨m, fun _ => 0, g⟩ (fun r => (∀ c : Dev Cert.NormKvKernel.nD,
      r.2.mem ((c.tc : Thread Cert.NormKvKernel.nD Cert.NormKvKernel.τ).loc Cert.NormKvKernel.main_arg0) = m ((c.tc : Thread Cert.NormKvKernel.nD Cert.NormKvKernel.τ).loc Cert.NormKvKernel.main_arg0)
      ∧ r.2.mem ((c.tc : Thread Cert.NormKvKernel.nD Cert.NormKvKernel.τ).loc Cert.NormKvKernel.main_arg1) = m ((c.tc : Thread Cert.NormKvKernel.nD Cert.NormKvKernel.τ).loc Cert.NormKvKernel.main_arg1)
      ∧ r.2.mem ((c.tc : Thread Cert.NormKvKernel.nD Cert.NormKvKernel.τ).loc Cert.NormKvKernel.main_arg2) = m ((c.tc : Thread Cert.NormKvKernel.nD Cert.NormKvKernel.τ).loc Cert.NormKvKernel.main_arg2))
      ∧ r.2.sem = fun _ => 0)

def quiescent_NormKvKernelIdeal [hNormKvKernelIdeal : Cert.NormKvKernelIdeal.Facts] : Prop :=
  ∀ (m : (ℓ : Loc Cert.NormKvKernelIdeal.nD Cert.NormKvKernelIdeal.τ Cert.NormKvKernelIdeal.sig) → Buf (Elt Ideal) ℓ) (g : Dev Cert.NormKvKernelIdeal.nD → PrngReg), Pre_NormKvKernelIdeal m →
    θ_run (Cert.NormKvKernelIdeal.defs (F := Ideal)) (onTc (τ := Cert.NormKvKernelIdeal.τ) (Cert.NormKvKernelIdeal.main (F := Ideal))) ⟨m, fun _ => 0, g⟩ (fun r => (∀ c : Dev Cert.NormKvKernelIdeal.nD,
      r.2.mem ((c.tc : Thread Cert.NormKvKernelIdeal.nD Cert.NormKvKernelIdeal.τ).loc Cert.NormKvKernelIdeal.main_arg0) = m ((c.tc : Thread Cert.NormKvKernelIdeal.nD Cert.NormKvKernelIdeal.τ).loc Cert.NormKvKernelIdeal.main_arg0)
      ∧ r.2.mem ((c.tc : Thread Cert.NormKvKernelIdeal.nD Cert.NormKvKernelIdeal.τ).loc Cert.NormKvKernelIdeal.main_arg1) = m ((c.tc : Thread Cert.NormKvKernelIdeal.nD Cert.NormKvKernelIdeal.τ).loc Cert.NormKvKernelIdeal.main_arg1)
      ∧ r.2.mem ((c.tc : Thread Cert.NormKvKernelIdeal.nD Cert.NormKvKernelIdeal.τ).loc Cert.NormKvKernelIdeal.main_arg2) = m ((c.tc : Thread Cert.NormKvKernelIdeal.nD Cert.NormKvKernelIdeal.τ).loc Cert.NormKvKernelIdeal.main_arg2))
      ∧ r.2.sem = fun _ => 0)

def quiescent_NormKvReferenceIdeal [hNormKvReferenceIdeal : Cert.NormKvReferenceIdeal.Facts] : Prop :=
  ∀ (m : (ℓ : Loc Cert.NormKvReferenceIdeal.nD Cert.NormKvReferenceIdeal.τ Cert.NormKvReferenceIdeal.sig) → Buf (Elt Ideal) ℓ) (g : Dev Cert.NormKvReferenceIdeal.nD → PrngReg), Pre_NormKvReferenceIdeal m →
    θ_run (Cert.NormKvReferenceIdeal.defs (F := Ideal)) (onTc (τ := Cert.NormKvReferenceIdeal.τ) (Cert.NormKvReferenceIdeal.main (F := Ideal))) ⟨m, fun _ => 0, g⟩ (fun r => (∀ c : Dev Cert.NormKvReferenceIdeal.nD,
      r.2.mem ((c.tc : Thread Cert.NormKvReferenceIdeal.nD Cert.NormKvReferenceIdeal.τ).loc Cert.NormKvReferenceIdeal.main_arg0) = m ((c.tc : Thread Cert.NormKvReferenceIdeal.nD Cert.NormKvReferenceIdeal.τ).loc Cert.NormKvReferenceIdeal.main_arg0)
      ∧ r.2.mem ((c.tc : Thread Cert.NormKvReferenceIdeal.nD Cert.NormKvReferenceIdeal.τ).loc Cert.NormKvReferenceIdeal.main_arg1) = m ((c.tc : Thread Cert.NormKvReferenceIdeal.nD Cert.NormKvReferenceIdeal.τ).loc Cert.NormKvReferenceIdeal.main_arg1)
      ∧ r.2.mem ((c.tc : Thread Cert.NormKvReferenceIdeal.nD Cert.NormKvReferenceIdeal.τ).loc Cert.NormKvReferenceIdeal.main_arg2) = m ((c.tc : Thread Cert.NormKvReferenceIdeal.nD Cert.NormKvReferenceIdeal.τ).loc Cert.NormKvReferenceIdeal.main_arg2))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4))
      ∧ r.2.sem = fun _ => 0)

def quiescent_MergeFwdKernel [hMergeFwdKernel : Cert.MergeFwdKernel.Facts] : Prop :=
  ∀ (m : (ℓ : Loc Cert.MergeFwdKernel.nD Cert.MergeFwdKernel.τ Cert.MergeFwdKernel.sig) → Buf (Elt Bits) ℓ) (g : Dev Cert.MergeFwdKernel.nD → PrngReg), Pre_MergeFwdKernel m →
    θ_run (Cert.MergeFwdKernel.defs (F := Bits)) (onTc (τ := Cert.MergeFwdKernel.τ) (Cert.MergeFwdKernel.main (F := Bits))) ⟨m, fun _ => 0, g⟩ (fun r => (∀ c : Dev Cert.MergeFwdKernel.nD,
      r.2.mem ((c.tc : Thread Cert.MergeFwdKernel.nD Cert.MergeFwdKernel.τ).loc Cert.MergeFwdKernel.main_arg0) = m ((c.tc : Thread Cert.MergeFwdKernel.nD Cert.MergeFwdKernel.τ).loc Cert.MergeFwdKernel.main_arg0)
      ∧ r.2.mem ((c.tc : Thread Cert.MergeFwdKernel.nD Cert.MergeFwdKernel.τ).loc Cert.MergeFwdKernel.main_arg1) = m ((c.tc : Thread Cert.MergeFwdKernel.nD Cert.MergeFwdKernel.τ).loc Cert.MergeFwdKernel.main_arg1)
      ∧ r.2.mem ((c.tc : Thread Cert.MergeFwdKernel.nD Cert.MergeFwdKernel.τ).loc Cert.MergeFwdKernel.main_arg2) = m ((c.tc : Thread Cert.MergeFwdKernel.nD Cert.MergeFwdKernel.τ).loc Cert.MergeFwdKernel.main_arg2)
      ∧ r.2.mem ((c.tc : Thread Cert.MergeFwdKernel.nD Cert.MergeFwdKernel.τ).loc Cert.MergeFwdKernel.main_arg3) = m ((c.tc : Thread Cert.MergeFwdKernel.nD Cert.MergeFwdKernel.τ).loc Cert.MergeFwdKernel.main_arg3)
      ∧ r.2.mem ((c.tc : Thread Cert.MergeFwdKernel.nD Cert.MergeFwdKernel.τ).loc Cert.MergeFwdKernel.main_arg4) = m ((c.tc : Thread Cert.MergeFwdKernel.nD Cert.MergeFwdKernel.τ).loc Cert.MergeFwdKernel.main_arg4)
      ∧ r.2.mem ((c.tc : Thread Cert.MergeFwdKernel.nD Cert.MergeFwdKernel.τ).loc Cert.MergeFwdKernel.main_arg5) = m ((c.tc : Thread Cert.MergeFwdKernel.nD Cert.MergeFwdKernel.τ).loc Cert.MergeFwdKernel.main_arg5)
      ∧ r.2.mem ((c.tc : Thread Cert.MergeFwdKernel.nD Cert.MergeFwdKernel.τ).loc Cert.MergeFwdKernel.main_arg6) = m ((c.tc : Thread Cert.MergeFwdKernel.nD Cert.MergeFwdKernel.τ).loc Cert.MergeFwdKernel.main_arg6)
      ∧ r.2.mem ((c.tc : Thread Cert.MergeFwdKernel.nD Cert.MergeFwdKernel.τ).loc Cert.MergeFwdKernel.main_arg7) = m ((c.tc : Thread Cert.MergeFwdKernel.nD Cert.MergeFwdKernel.τ).loc Cert.MergeFwdKernel.main_arg7)
      ∧ r.2.mem ((c.tc : Thread Cert.MergeFwdKernel.nD Cert.MergeFwdKernel.τ).loc Cert.MergeFwdKernel.main_arg8) = m ((c.tc : Thread Cert.MergeFwdKernel.nD Cert.MergeFwdKernel.τ).loc Cert.MergeFwdKernel.main_arg8)
      ∧ r.2.mem ((c.tc : Thread Cert.MergeFwdKernel.nD Cert.MergeFwdKernel.τ).loc Cert.MergeFwdKernel.main_arg9) = m ((c.tc : Thread Cert.MergeFwdKernel.nD Cert.MergeFwdKernel.τ).loc Cert.MergeFwdKernel.main_arg9))
      ∧ r.2.sem = fun _ => 0)

def quiescent_MergeFwdKernelIdeal [hMergeFwdKernelIdeal : Cert.MergeFwdKernelIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg), Pre_MergeFwdKernelIdeal m →
    θ_run (Cert.MergeFwdKernelIdeal.defs (F := Ideal)) (onTc (τ := Cert.MergeFwdKernelIdeal.τ) (Cert.MergeFwdKernelIdeal.main (F := Ideal))) ⟨m, fun _ => 0, g⟩ (fun r => (∀ c : Dev Cert.MergeFwdKernelIdeal.nD,
      r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
      ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
      ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
      ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
      ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
      ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
      ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
      ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7)
      ∧ r.2.mem ((c.tc : Thread Cert.MergeFwdKernelIdeal.nD Cert.MergeFwdKernelIdeal.τ).loc Cert.MergeFwdKernelIdeal.main_arg8) = m ((c.tc : Thread Cert.MergeFwdKernelIdeal.nD Cert.MergeFwdKernelIdeal.τ).loc Cert.MergeFwdKernelIdeal.main_arg8)
      ∧ r.2.mem ((c.tc : Thread Cert.MergeFwdKernelIdeal.nD Cert.MergeFwdKernelIdeal.τ).loc Cert.MergeFwdKernelIdeal.main_arg9) = m ((c.tc : Thread Cert.MergeFwdKernelIdeal.nD Cert.MergeFwdKernelIdeal.τ).loc Cert.MergeFwdKernelIdeal.main_arg9))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6)
      ∧ r.2.mem ((c.tc : Thread Cert.MergeFwdReferenceIdeal.nD Cert.MergeFwdReferenceIdeal.τ).loc Cert.MergeFwdReferenceIdeal.main_arg7) = m ((c.tc : Thread Cert.MergeFwdReferenceIdeal.nD Cert.MergeFwdReferenceIdeal.τ).loc Cert.MergeFwdReferenceIdeal.main_arg7)
      ∧ r.2.mem ((c.tc : Thread Cert.MergeFwdReferenceIdeal.nD Cert.MergeFwdReferenceIdeal.τ).loc Cert.MergeFwdReferenceIdeal.main_arg8) = m ((c.tc : Thread Cert.MergeFwdReferenceIdeal.nD Cert.MergeFwdReferenceIdeal.τ).loc Cert.MergeFwdReferenceIdeal.main_arg8)
      ∧ r.2.mem ((c.tc : Thread Cert.MergeFwdReferenceIdeal.nD Cert.MergeFwdReferenceIdeal.τ).loc Cert.MergeFwdReferenceIdeal.main_arg9) = m ((c.tc : Thread Cert.MergeFwdReferenceIdeal.nD Cert.MergeFwdReferenceIdeal.τ).loc Cert.MergeFwdReferenceIdeal.main_arg9))
      ∧ r.2.sem = fun _ => 0)

def quiescent_ProdTnKernel [hProdTnKernel : Cert.ProdTnKernel.Facts] : Prop :=
  ∀ (m : (ℓ : Loc Cert.ProdTnKernel.nD Cert.ProdTnKernel.τ Cert.ProdTnKernel.sig) → Buf (Elt Bits) ℓ) (g : Dev Cert.ProdTnKernel.nD → PrngReg), Pre_ProdTnKernel m →
    θ_run (Cert.ProdTnKernel.defs (F := Bits)) (onTc (τ := Cert.ProdTnKernel.τ) (Cert.ProdTnKernel.main (F := Bits))) ⟨m, fun _ => 0, g⟩ (fun r => (∀ c : Dev Cert.ProdTnKernel.nD,
      r.2.mem ((c.tc : Thread Cert.ProdTnKernel.nD Cert.ProdTnKernel.τ).loc Cert.ProdTnKernel.main_arg0) = m ((c.tc : Thread Cert.ProdTnKernel.nD Cert.ProdTnKernel.τ).loc Cert.ProdTnKernel.main_arg0)
      ∧ r.2.mem ((c.tc : Thread Cert.ProdTnKernel.nD Cert.ProdTnKernel.τ).loc Cert.ProdTnKernel.main_arg1) = m ((c.tc : Thread Cert.ProdTnKernel.nD Cert.ProdTnKernel.τ).loc Cert.ProdTnKernel.main_arg1))
      ∧ r.2.sem = fun _ => 0)

def quiescent_ProdTnKernelIdeal [hProdTnKernelIdeal : Cert.ProdTnKernelIdeal.Facts] : Prop :=
  ∀ (m : (ℓ : Loc Cert.ProdTnKernelIdeal.nD Cert.ProdTnKernelIdeal.τ Cert.ProdTnKernelIdeal.sig) → Buf (Elt Ideal) ℓ) (g : Dev Cert.ProdTnKernelIdeal.nD → PrngReg), Pre_ProdTnKernelIdeal m →
    θ_run (Cert.ProdTnKernelIdeal.defs (F := Ideal)) (onTc (τ := Cert.ProdTnKernelIdeal.τ) (Cert.ProdTnKernelIdeal.main (F := Ideal))) ⟨m, fun _ => 0, g⟩ (fun r => (∀ c : Dev Cert.ProdTnKernelIdeal.nD,
      r.2.mem ((c.tc : Thread Cert.ProdTnKernelIdeal.nD Cert.ProdTnKernelIdeal.τ).loc Cert.ProdTnKernelIdeal.main_arg0) = m ((c.tc : Thread Cert.ProdTnKernelIdeal.nD Cert.ProdTnKernelIdeal.τ).loc Cert.ProdTnKernelIdeal.main_arg0)
      ∧ r.2.mem ((c.tc : Thread Cert.ProdTnKernelIdeal.nD Cert.ProdTnKernelIdeal.τ).loc Cert.ProdTnKernelIdeal.main_arg1) = m ((c.tc : Thread Cert.ProdTnKernelIdeal.nD Cert.ProdTnKernelIdeal.τ).loc Cert.ProdTnKernelIdeal.main_arg1))
      ∧ r.2.sem = fun _ => 0)

def quiescent_ProdTnReferenceIdeal [hProdTnReferenceIdeal : Cert.ProdTnReferenceIdeal.Facts] : Prop :=
  ∀ (m : (ℓ : Loc Cert.ProdTnReferenceIdeal.nD Cert.ProdTnReferenceIdeal.τ Cert.ProdTnReferenceIdeal.sig) → Buf (Elt Ideal) ℓ) (g : Dev Cert.ProdTnReferenceIdeal.nD → PrngReg), Pre_ProdTnReferenceIdeal m →
    θ_run (Cert.ProdTnReferenceIdeal.defs (F := Ideal)) (onTc (τ := Cert.ProdTnReferenceIdeal.τ) (Cert.ProdTnReferenceIdeal.main (F := Ideal))) ⟨m, fun _ => 0, g⟩ (fun r => (∀ c : Dev Cert.ProdTnReferenceIdeal.nD,
      r.2.mem ((c.tc : Thread Cert.ProdTnReferenceIdeal.nD Cert.ProdTnReferenceIdeal.τ).loc Cert.ProdTnReferenceIdeal.main_arg0) = m ((c.tc : Thread Cert.ProdTnReferenceIdeal.nD Cert.ProdTnReferenceIdeal.τ).loc Cert.ProdTnReferenceIdeal.main_arg0)
      ∧ r.2.mem ((c.tc : Thread Cert.ProdTnReferenceIdeal.nD Cert.ProdTnReferenceIdeal.τ).loc Cert.ProdTnReferenceIdeal.main_arg1) = m ((c.tc : Thread Cert.ProdTnReferenceIdeal.nD Cert.ProdTnReferenceIdeal.τ).loc Cert.ProdTnReferenceIdeal.main_arg1))
      ∧ r.2.sem = fun _ => 0)

def quiescent_ProdNtKernel [hProdNtKernel : Cert.ProdNtKernel.Facts] : Prop :=
  ∀ (m : (ℓ : Loc Cert.ProdNtKernel.nD Cert.ProdNtKernel.τ Cert.ProdNtKernel.sig) → Buf (Elt Bits) ℓ) (g : Dev Cert.ProdNtKernel.nD → PrngReg), Pre_ProdNtKernel m →
    θ_run (Cert.ProdNtKernel.defs (F := Bits)) (onTc (τ := Cert.ProdNtKernel.τ) (Cert.ProdNtKernel.main (F := Bits))) ⟨m, fun _ => 0, g⟩ (fun r => (∀ c : Dev Cert.ProdNtKernel.nD,
      r.2.mem ((c.tc : Thread Cert.ProdNtKernel.nD Cert.ProdNtKernel.τ).loc Cert.ProdNtKernel.main_arg0) = m ((c.tc : Thread Cert.ProdNtKernel.nD Cert.ProdNtKernel.τ).loc Cert.ProdNtKernel.main_arg0)
      ∧ r.2.mem ((c.tc : Thread Cert.ProdNtKernel.nD Cert.ProdNtKernel.τ).loc Cert.ProdNtKernel.main_arg1) = m ((c.tc : Thread Cert.ProdNtKernel.nD Cert.ProdNtKernel.τ).loc Cert.ProdNtKernel.main_arg1))
      ∧ r.2.sem = fun _ => 0)

def quiescent_ProdNtKernelIdeal [hProdNtKernelIdeal : Cert.ProdNtKernelIdeal.Facts] : Prop :=
  ∀ (m : (ℓ : Loc Cert.ProdNtKernelIdeal.nD Cert.ProdNtKernelIdeal.τ Cert.ProdNtKernelIdeal.sig) → Buf (Elt Ideal) ℓ) (g : Dev Cert.ProdNtKernelIdeal.nD → PrngReg), Pre_ProdNtKernelIdeal m →
    θ_run (Cert.ProdNtKernelIdeal.defs (F := Ideal)) (onTc (τ := Cert.ProdNtKernelIdeal.τ) (Cert.ProdNtKernelIdeal.main (F := Ideal))) ⟨m, fun _ => 0, g⟩ (fun r => (∀ c : Dev Cert.ProdNtKernelIdeal.nD,
      r.2.mem ((c.tc : Thread Cert.ProdNtKernelIdeal.nD Cert.ProdNtKernelIdeal.τ).loc Cert.ProdNtKernelIdeal.main_arg0) = m ((c.tc : Thread Cert.ProdNtKernelIdeal.nD Cert.ProdNtKernelIdeal.τ).loc Cert.ProdNtKernelIdeal.main_arg0)
      ∧ r.2.mem ((c.tc : Thread Cert.ProdNtKernelIdeal.nD Cert.ProdNtKernelIdeal.τ).loc Cert.ProdNtKernelIdeal.main_arg1) = m ((c.tc : Thread Cert.ProdNtKernelIdeal.nD Cert.ProdNtKernelIdeal.τ).loc Cert.ProdNtKernelIdeal.main_arg1))
      ∧ r.2.sem = fun _ => 0)

def quiescent_ProdNtReferenceIdeal [hProdNtReferenceIdeal : Cert.ProdNtReferenceIdeal.Facts] : Prop :=
  ∀ (m : (ℓ : Loc Cert.ProdNtReferenceIdeal.nD Cert.ProdNtReferenceIdeal.τ Cert.ProdNtReferenceIdeal.sig) → Buf (Elt Ideal) ℓ) (g : Dev Cert.ProdNtReferenceIdeal.nD → PrngReg), Pre_ProdNtReferenceIdeal m →
    θ_run (Cert.ProdNtReferenceIdeal.defs (F := Ideal)) (onTc (τ := Cert.ProdNtReferenceIdeal.τ) (Cert.ProdNtReferenceIdeal.main (F := Ideal))) ⟨m, fun _ => 0, g⟩ (fun r => (∀ c : Dev Cert.ProdNtReferenceIdeal.nD,
      r.2.mem ((c.tc : Thread Cert.ProdNtReferenceIdeal.nD Cert.ProdNtReferenceIdeal.τ).loc Cert.ProdNtReferenceIdeal.main_arg0) = m ((c.tc : Thread Cert.ProdNtReferenceIdeal.nD Cert.ProdNtReferenceIdeal.τ).loc Cert.ProdNtReferenceIdeal.main_arg0)
      ∧ r.2.mem ((c.tc : Thread Cert.ProdNtReferenceIdeal.nD Cert.ProdNtReferenceIdeal.τ).loc Cert.ProdNtReferenceIdeal.main_arg1) = m ((c.tc : Thread Cert.ProdNtReferenceIdeal.nD Cert.ProdNtReferenceIdeal.τ).loc Cert.ProdNtReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_AttnFwd0Kernel [hAttnFwd0Kernel : Cert.AttnFwd0Kernel.Facts] : Prop :=
  ∀ (m : (ℓ : Loc Cert.AttnFwd0Kernel.nD Cert.AttnFwd0Kernel.τ Cert.AttnFwd0Kernel.sig) → Buf (Elt Bits) ℓ) (g : Dev Cert.AttnFwd0Kernel.nD → PrngReg), Pre_AttnFwd0Kernel m →
    θ_run (Cert.AttnFwd0Kernel.defs (F := Bits)) (onTc (τ := Cert.AttnFwd0Kernel.τ) (Cert.AttnFwd0Kernel.main (F := Bits))) ⟨m, fun _ => 0, g⟩ (fun r => (∀ c : Dev Cert.AttnFwd0Kernel.nD,
      r.2.mem ((c.tc : Thread Cert.AttnFwd0Kernel.nD Cert.AttnFwd0Kernel.τ).loc Cert.AttnFwd0Kernel.main_arg0) = m ((c.tc : Thread Cert.AttnFwd0Kernel.nD Cert.AttnFwd0Kernel.τ).loc Cert.AttnFwd0Kernel.main_arg0)
      ∧ r.2.mem ((c.tc : Thread Cert.AttnFwd0Kernel.nD Cert.AttnFwd0Kernel.τ).loc Cert.AttnFwd0Kernel.main_arg1) = m ((c.tc : Thread Cert.AttnFwd0Kernel.nD Cert.AttnFwd0Kernel.τ).loc Cert.AttnFwd0Kernel.main_arg1)
      ∧ r.2.mem ((c.tc : Thread Cert.AttnFwd0Kernel.nD Cert.AttnFwd0Kernel.τ).loc Cert.AttnFwd0Kernel.main_arg2) = m ((c.tc : Thread Cert.AttnFwd0Kernel.nD Cert.AttnFwd0Kernel.τ).loc Cert.AttnFwd0Kernel.main_arg2))
      ∧ r.2.sem = fun _ => 0)

def quiescent_AttnFwd0KernelIdeal [hAttnFwd0KernelIdeal : Cert.AttnFwd0KernelIdeal.Facts] : Prop :=
  ∀ (m : (ℓ : Loc Cert.AttnFwd0KernelIdeal.nD Cert.AttnFwd0KernelIdeal.τ Cert.AttnFwd0KernelIdeal.sig) → Buf (Elt Ideal) ℓ) (g : Dev Cert.AttnFwd0KernelIdeal.nD → PrngReg), Pre_AttnFwd0KernelIdeal m →
    θ_run (Cert.AttnFwd0KernelIdeal.defs (F := Ideal)) (onTc (τ := Cert.AttnFwd0KernelIdeal.τ) (Cert.AttnFwd0KernelIdeal.main (F := Ideal))) ⟨m, fun _ => 0, g⟩ (fun r => (∀ c : Dev Cert.AttnFwd0KernelIdeal.nD,
      r.2.mem ((c.tc : Thread Cert.AttnFwd0KernelIdeal.nD Cert.AttnFwd0KernelIdeal.τ).loc Cert.AttnFwd0KernelIdeal.main_arg0) = m ((c.tc : Thread Cert.AttnFwd0KernelIdeal.nD Cert.AttnFwd0KernelIdeal.τ).loc Cert.AttnFwd0KernelIdeal.main_arg0)
      ∧ r.2.mem ((c.tc : Thread Cert.AttnFwd0KernelIdeal.nD Cert.AttnFwd0KernelIdeal.τ).loc Cert.AttnFwd0KernelIdeal.main_arg1) = m ((c.tc : Thread Cert.AttnFwd0KernelIdeal.nD Cert.AttnFwd0KernelIdeal.τ).loc Cert.AttnFwd0KernelIdeal.main_arg1)
      ∧ r.2.mem ((c.tc : Thread Cert.AttnFwd0KernelIdeal.nD Cert.AttnFwd0KernelIdeal.τ).loc Cert.AttnFwd0KernelIdeal.main_arg2) = m ((c.tc : Thread Cert.AttnFwd0KernelIdeal.nD Cert.AttnFwd0KernelIdeal.τ).loc Cert.AttnFwd0KernelIdeal.main_arg2))
      ∧ r.2.sem = fun _ => 0)

def quiescent_AttnFwd0ReferenceIdeal [hAttnFwd0ReferenceIdeal : Cert.AttnFwd0ReferenceIdeal.Facts] : Prop :=
  ∀ (m : (ℓ : Loc Cert.AttnFwd0ReferenceIdeal.nD Cert.AttnFwd0ReferenceIdeal.τ Cert.AttnFwd0ReferenceIdeal.sig) → Buf (Elt Ideal) ℓ) (g : Dev Cert.AttnFwd0ReferenceIdeal.nD → PrngReg), Pre_AttnFwd0ReferenceIdeal m →
    θ_run (Cert.AttnFwd0ReferenceIdeal.defs (F := Ideal)) (onTc (τ := Cert.AttnFwd0ReferenceIdeal.τ) (Cert.AttnFwd0ReferenceIdeal.main (F := Ideal))) ⟨m, fun _ => 0, g⟩ (fun r => (∀ c : Dev Cert.AttnFwd0ReferenceIdeal.nD,
      r.2.mem ((c.tc : Thread Cert.AttnFwd0ReferenceIdeal.nD Cert.AttnFwd0ReferenceIdeal.τ).loc Cert.AttnFwd0ReferenceIdeal.main_arg0) = m ((c.tc : Thread Cert.AttnFwd0ReferenceIdeal.nD Cert.AttnFwd0ReferenceIdeal.τ).loc Cert.AttnFwd0ReferenceIdeal.main_arg0)
      ∧ r.2.mem ((c.tc : Thread Cert.AttnFwd0ReferenceIdeal.nD Cert.AttnFwd0ReferenceIdeal.τ).loc Cert.AttnFwd0ReferenceIdeal.main_arg1) = m ((c.tc : Thread Cert.AttnFwd0ReferenceIdeal.nD Cert.AttnFwd0ReferenceIdeal.τ).loc Cert.AttnFwd0ReferenceIdeal.main_arg1)
      ∧ r.2.mem ((c.tc : Thread Cert.AttnFwd0ReferenceIdeal.nD Cert.AttnFwd0ReferenceIdeal.τ).loc Cert.AttnFwd0ReferenceIdeal.main_arg2) = m ((c.tc : Thread Cert.AttnFwd0ReferenceIdeal.nD Cert.AttnFwd0ReferenceIdeal.τ).loc Cert.AttnFwd0ReferenceIdeal.main_arg2))
      ∧ r.2.sem = fun _ => 0)

def quiescent_AttnFwd1Kernel [hAttnFwd1Kernel : Cert.AttnFwd1Kernel.Facts] : Prop :=
  ∀ (m : (ℓ : Loc Cert.AttnFwd1Kernel.nD Cert.AttnFwd1Kernel.τ Cert.AttnFwd1Kernel.sig) → Buf (Elt Bits) ℓ) (g : Dev Cert.AttnFwd1Kernel.nD → PrngReg), Pre_AttnFwd1Kernel m →
    θ_run (Cert.AttnFwd1Kernel.defs (F := Bits)) (onTc (τ := Cert.AttnFwd1Kernel.τ) (Cert.AttnFwd1Kernel.main (F := Bits))) ⟨m, fun _ => 0, g⟩ (fun r => (∀ c : Dev Cert.AttnFwd1Kernel.nD,
      r.2.mem ((c.tc : Thread Cert.AttnFwd1Kernel.nD Cert.AttnFwd1Kernel.τ).loc Cert.AttnFwd1Kernel.main_arg0) = m ((c.tc : Thread Cert.AttnFwd1Kernel.nD Cert.AttnFwd1Kernel.τ).loc Cert.AttnFwd1Kernel.main_arg0)
      ∧ r.2.mem ((c.tc : Thread Cert.AttnFwd1Kernel.nD Cert.AttnFwd1Kernel.τ).loc Cert.AttnFwd1Kernel.main_arg1) = m ((c.tc : Thread Cert.AttnFwd1Kernel.nD Cert.AttnFwd1Kernel.τ).loc Cert.AttnFwd1Kernel.main_arg1)
      ∧ r.2.mem ((c.tc : Thread Cert.AttnFwd1Kernel.nD Cert.AttnFwd1Kernel.τ).loc Cert.AttnFwd1Kernel.main_arg2) = m ((c.tc : Thread Cert.AttnFwd1Kernel.nD Cert.AttnFwd1Kernel.τ).loc Cert.AttnFwd1Kernel.main_arg2))
      ∧ r.2.sem = fun _ => 0)

def quiescent_AttnFwd1KernelIdeal [hAttnFwd1KernelIdeal : Cert.AttnFwd1KernelIdeal.Facts] : Prop :=
  ∀ (m : (ℓ : Loc Cert.AttnFwd1KernelIdeal.nD Cert.AttnFwd1KernelIdeal.τ Cert.AttnFwd1KernelIdeal.sig) → Buf (Elt Ideal) ℓ) (g : Dev Cert.AttnFwd1KernelIdeal.nD → PrngReg), Pre_AttnFwd1KernelIdeal m →
    θ_run (Cert.AttnFwd1KernelIdeal.defs (F := Ideal)) (onTc (τ := Cert.AttnFwd1KernelIdeal.τ) (Cert.AttnFwd1KernelIdeal.main (F := Ideal))) ⟨m, fun _ => 0, g⟩ (fun r => (∀ c : Dev Cert.AttnFwd1KernelIdeal.nD,
      r.2.mem ((c.tc : Thread Cert.AttnFwd1KernelIdeal.nD Cert.AttnFwd1KernelIdeal.τ).loc Cert.AttnFwd1KernelIdeal.main_arg0) = m ((c.tc : Thread Cert.AttnFwd1KernelIdeal.nD Cert.AttnFwd1KernelIdeal.τ).loc Cert.AttnFwd1KernelIdeal.main_arg0)
      ∧ r.2.mem ((c.tc : Thread Cert.AttnFwd1KernelIdeal.nD Cert.AttnFwd1KernelIdeal.τ).loc Cert.AttnFwd1KernelIdeal.main_arg1) = m ((c.tc : Thread Cert.AttnFwd1KernelIdeal.nD Cert.AttnFwd1KernelIdeal.τ).loc Cert.AttnFwd1KernelIdeal.main_arg1)
      ∧ r.2.mem ((c.tc : Thread Cert.AttnFwd1KernelIdeal.nD Cert.AttnFwd1KernelIdeal.τ).loc Cert.AttnFwd1KernelIdeal.main_arg2) = m ((c.tc : Thread Cert.AttnFwd1KernelIdeal.nD Cert.AttnFwd1KernelIdeal.τ).loc Cert.AttnFwd1KernelIdeal.main_arg2))
      ∧ r.2.sem = fun _ => 0)

def quiescent_AttnFwd1ReferenceIdeal [hAttnFwd1ReferenceIdeal : Cert.AttnFwd1ReferenceIdeal.Facts] : Prop :=
  ∀ (m : (ℓ : Loc Cert.AttnFwd1ReferenceIdeal.nD Cert.AttnFwd1ReferenceIdeal.τ Cert.AttnFwd1ReferenceIdeal.sig) → Buf (Elt Ideal) ℓ) (g : Dev Cert.AttnFwd1ReferenceIdeal.nD → PrngReg), Pre_AttnFwd1ReferenceIdeal m →
    θ_run (Cert.AttnFwd1ReferenceIdeal.defs (F := Ideal)) (onTc (τ := Cert.AttnFwd1ReferenceIdeal.τ) (Cert.AttnFwd1ReferenceIdeal.main (F := Ideal))) ⟨m, fun _ => 0, g⟩ (fun r => (∀ c : Dev Cert.AttnFwd1ReferenceIdeal.nD,
      r.2.mem ((c.tc : Thread Cert.AttnFwd1ReferenceIdeal.nD Cert.AttnFwd1ReferenceIdeal.τ).loc Cert.AttnFwd1ReferenceIdeal.main_arg0) = m ((c.tc : Thread Cert.AttnFwd1ReferenceIdeal.nD Cert.AttnFwd1ReferenceIdeal.τ).loc Cert.AttnFwd1ReferenceIdeal.main_arg0)
      ∧ r.2.mem ((c.tc : Thread Cert.AttnFwd1ReferenceIdeal.nD Cert.AttnFwd1ReferenceIdeal.τ).loc Cert.AttnFwd1ReferenceIdeal.main_arg1) = m ((c.tc : Thread Cert.AttnFwd1ReferenceIdeal.nD Cert.AttnFwd1ReferenceIdeal.τ).loc Cert.AttnFwd1ReferenceIdeal.main_arg1)
      ∧ r.2.mem ((c.tc : Thread Cert.AttnFwd1ReferenceIdeal.nD Cert.AttnFwd1ReferenceIdeal.τ).loc Cert.AttnFwd1ReferenceIdeal.main_arg2) = m ((c.tc : Thread Cert.AttnFwd1ReferenceIdeal.nD Cert.AttnFwd1ReferenceIdeal.τ).loc Cert.AttnFwd1ReferenceIdeal.main_arg2))
      ∧ r.2.sem = fun _ => 0)

def quiescent_AttnFwd2Kernel [hAttnFwd2Kernel : Cert.AttnFwd2Kernel.Facts] : Prop :=
  ∀ (m : (ℓ : Loc Cert.AttnFwd2Kernel.nD Cert.AttnFwd2Kernel.τ Cert.AttnFwd2Kernel.sig) → Buf (Elt Bits) ℓ) (g : Dev Cert.AttnFwd2Kernel.nD → PrngReg), Pre_AttnFwd2Kernel m →
    θ_run (Cert.AttnFwd2Kernel.defs (F := Bits)) (onTc (τ := Cert.AttnFwd2Kernel.τ) (Cert.AttnFwd2Kernel.main (F := Bits))) ⟨m, fun _ => 0, g⟩ (fun r => (∀ c : Dev Cert.AttnFwd2Kernel.nD,
      r.2.mem ((c.tc : Thread Cert.AttnFwd2Kernel.nD Cert.AttnFwd2Kernel.τ).loc Cert.AttnFwd2Kernel.main_arg0) = m ((c.tc : Thread Cert.AttnFwd2Kernel.nD Cert.AttnFwd2Kernel.τ).loc Cert.AttnFwd2Kernel.main_arg0)
      ∧ r.2.mem ((c.tc : Thread Cert.AttnFwd2Kernel.nD Cert.AttnFwd2Kernel.τ).loc Cert.AttnFwd2Kernel.main_arg1) = m ((c.tc : Thread Cert.AttnFwd2Kernel.nD Cert.AttnFwd2Kernel.τ).loc Cert.AttnFwd2Kernel.main_arg1)
      ∧ r.2.mem ((c.tc : Thread Cert.AttnFwd2Kernel.nD Cert.AttnFwd2Kernel.τ).loc Cert.AttnFwd2Kernel.main_arg2) = m ((c.tc : Thread Cert.AttnFwd2Kernel.nD Cert.AttnFwd2Kernel.τ).loc Cert.AttnFwd2Kernel.main_arg2))
      ∧ r.2.sem = fun _ => 0)

def quiescent_AttnFwd2KernelIdeal [hAttnFwd2KernelIdeal : Cert.AttnFwd2KernelIdeal.Facts] : Prop :=
  ∀ (m : (ℓ : Loc Cert.AttnFwd2KernelIdeal.nD Cert.AttnFwd2KernelIdeal.τ Cert.AttnFwd2KernelIdeal.sig) → Buf (Elt Ideal) ℓ) (g : Dev Cert.AttnFwd2KernelIdeal.nD → PrngReg), Pre_AttnFwd2KernelIdeal m →
    θ_run (Cert.AttnFwd2KernelIdeal.defs (F := Ideal)) (onTc (τ := Cert.AttnFwd2KernelIdeal.τ) (Cert.AttnFwd2KernelIdeal.main (F := Ideal))) ⟨m, fun _ => 0, g⟩ (fun r => (∀ c : Dev Cert.AttnFwd2KernelIdeal.nD,
      r.2.mem ((c.tc : Thread Cert.AttnFwd2KernelIdeal.nD Cert.AttnFwd2KernelIdeal.τ).loc Cert.AttnFwd2KernelIdeal.main_arg0) = m ((c.tc : Thread Cert.AttnFwd2KernelIdeal.nD Cert.AttnFwd2KernelIdeal.τ).loc Cert.AttnFwd2KernelIdeal.main_arg0)
      ∧ r.2.mem ((c.tc : Thread Cert.AttnFwd2KernelIdeal.nD Cert.AttnFwd2KernelIdeal.τ).loc Cert.AttnFwd2KernelIdeal.main_arg1) = m ((c.tc : Thread Cert.AttnFwd2KernelIdeal.nD Cert.AttnFwd2KernelIdeal.τ).loc Cert.AttnFwd2KernelIdeal.main_arg1)
      ∧ r.2.mem ((c.tc : Thread Cert.AttnFwd2KernelIdeal.nD Cert.AttnFwd2KernelIdeal.τ).loc Cert.AttnFwd2KernelIdeal.main_arg2) = m ((c.tc : Thread Cert.AttnFwd2KernelIdeal.nD Cert.AttnFwd2KernelIdeal.τ).loc Cert.AttnFwd2KernelIdeal.main_arg2))
      ∧ r.2.sem = fun _ => 0)

def quiescent_AttnFwd2ReferenceIdeal [hAttnFwd2ReferenceIdeal : Cert.AttnFwd2ReferenceIdeal.Facts] : Prop :=
  ∀ (m : (ℓ : Loc Cert.AttnFwd2ReferenceIdeal.nD Cert.AttnFwd2ReferenceIdeal.τ Cert.AttnFwd2ReferenceIdeal.sig) → Buf (Elt Ideal) ℓ) (g : Dev Cert.AttnFwd2ReferenceIdeal.nD → PrngReg), Pre_AttnFwd2ReferenceIdeal m →
    θ_run (Cert.AttnFwd2ReferenceIdeal.defs (F := Ideal)) (onTc (τ := Cert.AttnFwd2ReferenceIdeal.τ) (Cert.AttnFwd2ReferenceIdeal.main (F := Ideal))) ⟨m, fun _ => 0, g⟩ (fun r => (∀ c : Dev Cert.AttnFwd2ReferenceIdeal.nD,
      r.2.mem ((c.tc : Thread Cert.AttnFwd2ReferenceIdeal.nD Cert.AttnFwd2ReferenceIdeal.τ).loc Cert.AttnFwd2ReferenceIdeal.main_arg0) = m ((c.tc : Thread Cert.AttnFwd2ReferenceIdeal.nD Cert.AttnFwd2ReferenceIdeal.τ).loc Cert.AttnFwd2ReferenceIdeal.main_arg0)
      ∧ r.2.mem ((c.tc : Thread Cert.AttnFwd2ReferenceIdeal.nD Cert.AttnFwd2ReferenceIdeal.τ).loc Cert.AttnFwd2ReferenceIdeal.main_arg1) = m ((c.tc : Thread Cert.AttnFwd2ReferenceIdeal.nD Cert.AttnFwd2ReferenceIdeal.τ).loc Cert.AttnFwd2ReferenceIdeal.main_arg1)
      ∧ r.2.mem ((c.tc : Thread Cert.AttnFwd2ReferenceIdeal.nD Cert.AttnFwd2ReferenceIdeal.τ).loc Cert.AttnFwd2ReferenceIdeal.main_arg2) = m ((c.tc : Thread Cert.AttnFwd2ReferenceIdeal.nD Cert.AttnFwd2ReferenceIdeal.τ).loc Cert.AttnFwd2ReferenceIdeal.main_arg2))
      ∧ r.2.sem = fun _ => 0)

def quiescent_PoolFwdKernel [hPoolFwdKernel : Cert.PoolFwdKernel.Facts] : Prop :=
  ∀ (m : (ℓ : Loc Cert.PoolFwdKernel.nD Cert.PoolFwdKernel.τ Cert.PoolFwdKernel.sig) → Buf (Elt Bits) ℓ) (g : Dev Cert.PoolFwdKernel.nD → PrngReg), Pre_PoolFwdKernel m →
    θ_run (Cert.PoolFwdKernel.defs (F := Bits)) (onTc (τ := Cert.PoolFwdKernel.τ) (Cert.PoolFwdKernel.main (F := Bits))) ⟨m, fun _ => 0, g⟩ (fun r => (∀ c : Dev Cert.PoolFwdKernel.nD,
      r.2.mem ((c.tc : Thread Cert.PoolFwdKernel.nD Cert.PoolFwdKernel.τ).loc Cert.PoolFwdKernel.main_arg0) = m ((c.tc : Thread Cert.PoolFwdKernel.nD Cert.PoolFwdKernel.τ).loc Cert.PoolFwdKernel.main_arg0)
      ∧ r.2.mem ((c.tc : Thread Cert.PoolFwdKernel.nD Cert.PoolFwdKernel.τ).loc Cert.PoolFwdKernel.main_arg1) = m ((c.tc : Thread Cert.PoolFwdKernel.nD Cert.PoolFwdKernel.τ).loc Cert.PoolFwdKernel.main_arg1)
      ∧ r.2.mem ((c.tc : Thread Cert.PoolFwdKernel.nD Cert.PoolFwdKernel.τ).loc Cert.PoolFwdKernel.main_arg2) = m ((c.tc : Thread Cert.PoolFwdKernel.nD Cert.PoolFwdKernel.τ).loc Cert.PoolFwdKernel.main_arg2)
      ∧ r.2.mem ((c.tc : Thread Cert.PoolFwdKernel.nD Cert.PoolFwdKernel.τ).loc Cert.PoolFwdKernel.main_arg3) = m ((c.tc : Thread Cert.PoolFwdKernel.nD Cert.PoolFwdKernel.τ).loc Cert.PoolFwdKernel.main_arg3))
      ∧ r.2.sem = fun _ => 0)

def quiescent_PoolFwdKernelIdeal [hPoolFwdKernelIdeal : Cert.PoolFwdKernelIdeal.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2)
      ∧ r.2.mem ((c.tc : Thread Cert.PoolFwdKernelIdeal.nD Cert.PoolFwdKernelIdeal.τ).loc Cert.PoolFwdKernelIdeal.main_arg3) = m ((c.tc : Thread Cert.PoolFwdKernelIdeal.nD Cert.PoolFwdKernelIdeal.τ).loc Cert.PoolFwdKernelIdeal.main_arg3))
      ∧ r.2.sem = fun _ => 0)

def quiescent_PoolFwdKernelIdeal_pre_finite_pool [hPoolFwdKernelIdeal : Cert.PoolFwdKernelIdeal.Facts] [hPre_finite_pool : Cert.Pre_finite_pool.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal_finite_pool m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2)
      ∧ r.2.mem ((c.tc : Thread Cert.PoolFwdKernelIdeal.nD Cert.PoolFwdKernelIdeal.τ).loc Cert.PoolFwdKernelIdeal.main_arg3) = m ((c.tc : Thread Cert.PoolFwdKernelIdeal.nD Cert.PoolFwdKernelIdeal.τ).loc Cert.PoolFwdKernelIdeal.main_arg3))
      ∧ r.2.sem = fun _ => 0)

def quiescent_PoolFwdReferenceIdeal [hPoolFwdReferenceIdeal : Cert.PoolFwdReferenceIdeal.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2)
      ∧ r.2.mem ((c.tc : Thread Cert.PoolFwdReferenceIdeal.nD Cert.PoolFwdReferenceIdeal.τ).loc Cert.PoolFwdReferenceIdeal.main_arg3) = m ((c.tc : Thread Cert.PoolFwdReferenceIdeal.nD Cert.PoolFwdReferenceIdeal.τ).loc Cert.PoolFwdReferenceIdeal.main_arg3))
      ∧ r.2.sem = fun _ => 0)

def quiescent_PoolFwdReferenceIdeal_pre_finite_pool [hPoolFwdReferenceIdeal : Cert.PoolFwdReferenceIdeal.Facts] [hPre_finite_pool : Cert.Pre_finite_pool.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal_finite_pool m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2)
      ∧ r.2.mem ((c.tc : Thread Cert.PoolFwdReferenceIdeal.nD Cert.PoolFwdReferenceIdeal.τ).loc Cert.PoolFwdReferenceIdeal.main_arg3) = m ((c.tc : Thread Cert.PoolFwdReferenceIdeal.nD Cert.PoolFwdReferenceIdeal.τ).loc Cert.PoolFwdReferenceIdeal.main_arg3))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0)
      ∧ r.2.mem ((c.tc : Thread Cert.SumKernel.nD Cert.SumKernel.τ).loc Cert.SumKernel.main_arg1) = m ((c.tc : Thread Cert.SumKernel.nD Cert.SumKernel.τ).loc Cert.SumKernel.main_arg1))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0)
      ∧ r.2.mem ((c.tc : Thread Cert.SumKernelIdeal.nD Cert.SumKernelIdeal.τ).loc Cert.SumKernelIdeal.main_arg1) = m ((c.tc : Thread Cert.SumKernelIdeal.nD Cert.SumKernelIdeal.τ).loc Cert.SumKernelIdeal.main_arg1))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0)
      ∧ r.2.mem ((c.tc : Thread Cert.SumReferenceIdeal.nD Cert.SumReferenceIdeal.τ).loc Cert.SumReferenceIdeal.main_arg1) = m ((c.tc : Thread Cert.SumReferenceIdeal.nD Cert.SumReferenceIdeal.τ).loc Cert.SumReferenceIdeal.main_arg1))
      ∧ r.2.sem = fun _ => 0)

def quiescent_SumAdamKernel [hSumAdamKernel : Cert.SumAdamKernel.Facts] : Prop :=
  ∀ (m : (ℓ : Loc Cert.SumAdamKernel.nD Cert.SumAdamKernel.τ Cert.SumAdamKernel.sig) → Buf (Elt Bits) ℓ) (g : Dev Cert.SumAdamKernel.nD → PrngReg), Pre_SumAdamKernel m →
    θ_run (Cert.SumAdamKernel.defs (F := Bits)) (onTc (τ := Cert.SumAdamKernel.τ) (Cert.SumAdamKernel.main (F := Bits))) ⟨m, fun _ => 0, g⟩ (fun r => (∀ c : Dev Cert.SumAdamKernel.nD,
      r.2.mem ((c.tc : Thread Cert.SumAdamKernel.nD Cert.SumAdamKernel.τ).loc Cert.SumAdamKernel.main_arg0) = m ((c.tc : Thread Cert.SumAdamKernel.nD Cert.SumAdamKernel.τ).loc Cert.SumAdamKernel.main_arg0)
      ∧ r.2.mem ((c.tc : Thread Cert.SumAdamKernel.nD Cert.SumAdamKernel.τ).loc Cert.SumAdamKernel.main_arg1) = m ((c.tc : Thread Cert.SumAdamKernel.nD Cert.SumAdamKernel.τ).loc Cert.SumAdamKernel.main_arg1)
      ∧ r.2.mem ((c.tc : Thread Cert.SumAdamKernel.nD Cert.SumAdamKernel.τ).loc Cert.SumAdamKernel.main_arg2) = m ((c.tc : Thread Cert.SumAdamKernel.nD Cert.SumAdamKernel.τ).loc Cert.SumAdamKernel.main_arg2)
      ∧ r.2.mem ((c.tc : Thread Cert.SumAdamKernel.nD Cert.SumAdamKernel.τ).loc Cert.SumAdamKernel.main_arg3) = m ((c.tc : Thread Cert.SumAdamKernel.nD Cert.SumAdamKernel.τ).loc Cert.SumAdamKernel.main_arg3)
      ∧ r.2.mem ((c.tc : Thread Cert.SumAdamKernel.nD Cert.SumAdamKernel.τ).loc Cert.SumAdamKernel.main_arg4) = m ((c.tc : Thread Cert.SumAdamKernel.nD Cert.SumAdamKernel.τ).loc Cert.SumAdamKernel.main_arg4)
      ∧ r.2.mem ((c.tc : Thread Cert.SumAdamKernel.nD Cert.SumAdamKernel.τ).loc Cert.SumAdamKernel.main_arg5) = m ((c.tc : Thread Cert.SumAdamKernel.nD Cert.SumAdamKernel.τ).loc Cert.SumAdamKernel.main_arg5)
      ∧ r.2.mem ((c.tc : Thread Cert.SumAdamKernel.nD Cert.SumAdamKernel.τ).loc Cert.SumAdamKernel.main_arg6) = m ((c.tc : Thread Cert.SumAdamKernel.nD Cert.SumAdamKernel.τ).loc Cert.SumAdamKernel.main_arg6))
      ∧ r.2.sem = fun _ => 0)

def quiescent_SumAdamKernelIdeal [hSumAdamKernelIdeal : Cert.SumAdamKernelIdeal.Facts] : Prop :=
  ∀ (m : (ℓ : Loc Cert.SumAdamKernelIdeal.nD Cert.SumAdamKernelIdeal.τ Cert.SumAdamKernelIdeal.sig) → Buf (Elt Ideal) ℓ) (g : Dev Cert.SumAdamKernelIdeal.nD → PrngReg), Pre_SumAdamKernelIdeal m →
    θ_run (Cert.SumAdamKernelIdeal.defs (F := Ideal)) (onTc (τ := Cert.SumAdamKernelIdeal.τ) (Cert.SumAdamKernelIdeal.main (F := Ideal))) ⟨m, fun _ => 0, g⟩ (fun r => (∀ c : Dev Cert.SumAdamKernelIdeal.nD,
      r.2.mem ((c.tc : Thread Cert.SumAdamKernelIdeal.nD Cert.SumAdamKernelIdeal.τ).loc Cert.SumAdamKernelIdeal.main_arg0) = m ((c.tc : Thread Cert.SumAdamKernelIdeal.nD Cert.SumAdamKernelIdeal.τ).loc Cert.SumAdamKernelIdeal.main_arg0)
      ∧ r.2.mem ((c.tc : Thread Cert.SumAdamKernelIdeal.nD Cert.SumAdamKernelIdeal.τ).loc Cert.SumAdamKernelIdeal.main_arg1) = m ((c.tc : Thread Cert.SumAdamKernelIdeal.nD Cert.SumAdamKernelIdeal.τ).loc Cert.SumAdamKernelIdeal.main_arg1)
      ∧ r.2.mem ((c.tc : Thread Cert.SumAdamKernelIdeal.nD Cert.SumAdamKernelIdeal.τ).loc Cert.SumAdamKernelIdeal.main_arg2) = m ((c.tc : Thread Cert.SumAdamKernelIdeal.nD Cert.SumAdamKernelIdeal.τ).loc Cert.SumAdamKernelIdeal.main_arg2)
      ∧ r.2.mem ((c.tc : Thread Cert.SumAdamKernelIdeal.nD Cert.SumAdamKernelIdeal.τ).loc Cert.SumAdamKernelIdeal.main_arg3) = m ((c.tc : Thread Cert.SumAdamKernelIdeal.nD Cert.SumAdamKernelIdeal.τ).loc Cert.SumAdamKernelIdeal.main_arg3)
      ∧ r.2.mem ((c.tc : Thread Cert.SumAdamKernelIdeal.nD Cert.SumAdamKernelIdeal.τ).loc Cert.SumAdamKernelIdeal.main_arg4) = m ((c.tc : Thread Cert.SumAdamKernelIdeal.nD Cert.SumAdamKernelIdeal.τ).loc Cert.SumAdamKernelIdeal.main_arg4)
      ∧ r.2.mem ((c.tc : Thread Cert.SumAdamKernelIdeal.nD Cert.SumAdamKernelIdeal.τ).loc Cert.SumAdamKernelIdeal.main_arg5) = m ((c.tc : Thread Cert.SumAdamKernelIdeal.nD Cert.SumAdamKernelIdeal.τ).loc Cert.SumAdamKernelIdeal.main_arg5)
      ∧ r.2.mem ((c.tc : Thread Cert.SumAdamKernelIdeal.nD Cert.SumAdamKernelIdeal.τ).loc Cert.SumAdamKernelIdeal.main_arg6) = m ((c.tc : Thread Cert.SumAdamKernelIdeal.nD Cert.SumAdamKernelIdeal.τ).loc Cert.SumAdamKernelIdeal.main_arg6))
      ∧ r.2.sem = fun _ => 0)

def quiescent_SumAdamReferenceIdeal [hSumAdamReferenceIdeal : Cert.SumAdamReferenceIdeal.Facts] : Prop :=
  ∀ (m : (ℓ : Loc Cert.SumAdamReferenceIdeal.nD Cert.SumAdamReferenceIdeal.τ Cert.SumAdamReferenceIdeal.sig) → Buf (Elt Ideal) ℓ) (g : Dev Cert.SumAdamReferenceIdeal.nD → PrngReg), Pre_SumAdamReferenceIdeal m →
    θ_run (Cert.SumAdamReferenceIdeal.defs (F := Ideal)) (onTc (τ := Cert.SumAdamReferenceIdeal.τ) (Cert.SumAdamReferenceIdeal.main (F := Ideal))) ⟨m, fun _ => 0, g⟩ (fun r => (∀ c : Dev Cert.SumAdamReferenceIdeal.nD,
      r.2.mem ((c.tc : Thread Cert.SumAdamReferenceIdeal.nD Cert.SumAdamReferenceIdeal.τ).loc Cert.SumAdamReferenceIdeal.main_arg0) = m ((c.tc : Thread Cert.SumAdamReferenceIdeal.nD Cert.SumAdamReferenceIdeal.τ).loc Cert.SumAdamReferenceIdeal.main_arg0)
      ∧ r.2.mem ((c.tc : Thread Cert.SumAdamReferenceIdeal.nD Cert.SumAdamReferenceIdeal.τ).loc Cert.SumAdamReferenceIdeal.main_arg1) = m ((c.tc : Thread Cert.SumAdamReferenceIdeal.nD Cert.SumAdamReferenceIdeal.τ).loc Cert.SumAdamReferenceIdeal.main_arg1)
      ∧ r.2.mem ((c.tc : Thread Cert.SumAdamReferenceIdeal.nD Cert.SumAdamReferenceIdeal.τ).loc Cert.SumAdamReferenceIdeal.main_arg2) = m ((c.tc : Thread Cert.SumAdamReferenceIdeal.nD Cert.SumAdamReferenceIdeal.τ).loc Cert.SumAdamReferenceIdeal.main_arg2)
      ∧ r.2.mem ((c.tc : Thread Cert.SumAdamReferenceIdeal.nD Cert.SumAdamReferenceIdeal.τ).loc Cert.SumAdamReferenceIdeal.main_arg3) = m ((c.tc : Thread Cert.SumAdamReferenceIdeal.nD Cert.SumAdamReferenceIdeal.τ).loc Cert.SumAdamReferenceIdeal.main_arg3)
      ∧ r.2.mem ((c.tc : Thread Cert.SumAdamReferenceIdeal.nD Cert.SumAdamReferenceIdeal.τ).loc Cert.SumAdamReferenceIdeal.main_arg4) = m ((c.tc : Thread Cert.SumAdamReferenceIdeal.nD Cert.SumAdamReferenceIdeal.τ).loc Cert.SumAdamReferenceIdeal.main_arg4)
      ∧ r.2.mem ((c.tc : Thread Cert.SumAdamReferenceIdeal.nD Cert.SumAdamReferenceIdeal.τ).loc Cert.SumAdamReferenceIdeal.main_arg5) = m ((c.tc : Thread Cert.SumAdamReferenceIdeal.nD Cert.SumAdamReferenceIdeal.τ).loc Cert.SumAdamReferenceIdeal.main_arg5)
      ∧ r.2.mem ((c.tc : Thread Cert.SumAdamReferenceIdeal.nD Cert.SumAdamReferenceIdeal.τ).loc Cert.SumAdamReferenceIdeal.main_arg6) = m ((c.tc : Thread Cert.SumAdamReferenceIdeal.nD Cert.SumAdamReferenceIdeal.τ).loc Cert.SumAdamReferenceIdeal.main_arg6))
      ∧ r.2.sem = fun _ => 0)

def preserves_GainKernel_GainKernelIdeal : Prop :=
  True

def algebraic_GainKernelIdeal_GainReferenceIdeal [hGainKernelIdeal : Cert.GainKernelIdeal.Facts] [hGainReferenceIdeal : Cert.GainReferenceIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg)
    (m' : (ℓ : Loc Cert.GainReferenceIdeal.nD Cert.GainReferenceIdeal.τ Cert.GainReferenceIdeal.sig) → Buf (Elt Ideal) ℓ) (g' : Dev Cert.GainReferenceIdeal.nD → PrngReg), Pre_GainKernelIdeal m →
    (∀ c : Dev Cert.GainKernelIdeal.nD,
      m' ((c.tc : Thread Cert.GainReferenceIdeal.nD Cert.GainReferenceIdeal.τ).loc Cert.GainReferenceIdeal.main_arg0) = m ((c.tc : Thread Cert.GainKernelIdeal.nD Cert.GainKernelIdeal.τ).loc Cert.GainKernelIdeal.main_arg0)
      ∧ m' ((c.tc : Thread Cert.GainReferenceIdeal.nD Cert.GainReferenceIdeal.τ).loc Cert.GainReferenceIdeal.main_arg1) = m ((c.tc : Thread Cert.GainKernelIdeal.nD Cert.GainKernelIdeal.τ).loc Cert.GainKernelIdeal.main_arg1)
      ∧ m' ((c.tc : Thread Cert.GainReferenceIdeal.nD Cert.GainReferenceIdeal.τ).loc Cert.GainReferenceIdeal.main_arg2) = m ((c.tc : Thread Cert.GainKernelIdeal.nD Cert.GainKernelIdeal.τ).loc Cert.GainKernelIdeal.main_arg2)) →
    ∃ (v0 : (c : Dev Cert.GainKernelIdeal.nD) → Buf (Elt Ideal) ((c.tc : Thread Cert.GainKernelIdeal.nD Cert.GainKernelIdeal.τ).loc Cert.GainKernelIdeal.main_v0)),
      θ_run (Cert.GainKernelIdeal.defs (F := Ideal)) (onTc (τ := Cert.GainKernelIdeal.τ) (Cert.GainKernelIdeal.main (F := Ideal))) ⟨m, fun _ => 0, g⟩ (fun r => ∀ c : Dev Cert.GainKernelIdeal.nD,
          r.2.mem ((c.tc : Thread Cert.GainKernelIdeal.nD Cert.GainKernelIdeal.τ).loc Cert.GainKernelIdeal.main_v0) = v0 c
          ∧ r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
          ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
          ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2))
      ∧ θ_run (Cert.GainReferenceIdeal.defs (F := Ideal)) (onTc (τ := Cert.GainReferenceIdeal.τ) (Cert.GainReferenceIdeal.main (F := Ideal))) ⟨m', fun _ => 0, g'⟩ (fun r => ∀ c : Dev Cert.GainReferenceIdeal.nD,
          r.2.mem ((c.tc : Thread Cert.GainReferenceIdeal.nD Cert.GainReferenceIdeal.τ).loc Cert.GainReferenceIdeal.main_v17) = v0 c
          ∧ r.2.mem ((c.tc : Thread Cert.GainReferenceIdeal.nD Cert.GainReferenceIdeal.τ).loc Cert.GainReferenceIdeal.main_arg0) = m' ((c.tc : Thread Cert.GainReferenceIdeal.nD Cert.GainReferenceIdeal.τ).loc Cert.GainReferenceIdeal.main_arg0)
          ∧ r.2.mem ((c.tc : Thread Cert.GainReferenceIdeal.nD Cert.GainReferenceIdeal.τ).loc Cert.GainReferenceIdeal.main_arg1) = m' ((c.tc : Thread Cert.GainReferenceIdeal.nD Cert.GainReferenceIdeal.τ).loc Cert.GainReferenceIdeal.main_arg1)
          ∧ r.2.mem ((c.tc : Thread Cert.GainReferenceIdeal.nD Cert.GainReferenceIdeal.τ).loc Cert.GainReferenceIdeal.main_arg2) = m' ((c.tc : Thread Cert.GainReferenceIdeal.nD Cert.GainReferenceIdeal.τ).loc Cert.GainReferenceIdeal.main_arg2))

def preserves_MemKernel_MemKernelIdeal : Prop :=
  True

def algebraic_MemKernelIdeal_MemReferenceIdeal_pre_finite_mem [hMemKernelIdeal : Cert.MemKernelIdeal.Facts] [hMemReferenceIdeal : Cert.MemReferenceIdeal.Facts] [hPre_finite_mem : Cert.Pre_finite_mem.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_finite_mem m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)
      ∧ m' ((c.tc : Thread Cert.MemReferenceIdeal.nD Cert.MemReferenceIdeal.τ).loc Cert.MemReferenceIdeal.main_arg4) = m ((c.tc : Thread Cert.MemKernelIdeal.nD Cert.MemKernelIdeal.τ).loc Cert.MemKernelIdeal.main_arg4)
      ∧ m' ((c.tc : Thread Cert.MemReferenceIdeal.nD Cert.MemReferenceIdeal.τ).loc Cert.MemReferenceIdeal.main_arg5) = m ((c.tc : Thread Cert.MemKernelIdeal.nD Cert.MemKernelIdeal.τ).loc Cert.MemKernelIdeal.main_arg5)
      ∧ m' ((c.tc : Thread Cert.MemReferenceIdeal.nD Cert.MemReferenceIdeal.τ).loc Cert.MemReferenceIdeal.main_arg6) = m ((c.tc : Thread Cert.MemKernelIdeal.nD Cert.MemKernelIdeal.τ).loc Cert.MemKernelIdeal.main_arg6)) →
    ∃ (v0 : (c : Dev Cert.MemKernelIdeal.nD) → Buf (Elt Ideal) ((c.tc : Thread Cert.MemKernelIdeal.nD Cert.MemKernelIdeal.τ).loc Cert.MemKernelIdeal.main_v44_0)) (v1 : (c : Dev Cert.MemKernelIdeal.nD) → Buf (Elt Ideal) ((c.tc : Thread Cert.MemKernelIdeal.nD Cert.MemKernelIdeal.τ).loc Cert.MemKernelIdeal.main_v44_1)) (v2 : (c : Dev Cert.MemKernelIdeal.nD) → Buf (Elt Ideal) ((c.tc : Thread Cert.MemKernelIdeal.nD Cert.MemKernelIdeal.τ).loc Cert.MemKernelIdeal.main_v44_2)) (v3 : (c : Dev Cert.MemKernelIdeal.nD) → Buf (Elt Ideal) ((c.tc : Thread Cert.MemKernelIdeal.nD Cert.MemKernelIdeal.τ).loc Cert.MemKernelIdeal.main_v44_3)) (v4 : (c : Dev Cert.MemKernelIdeal.nD) → Buf (Elt Ideal) ((c.tc : Thread Cert.MemKernelIdeal.nD Cert.MemKernelIdeal.τ).loc Cert.MemKernelIdeal.main_v44_4)) (v5 : (c : Dev Cert.MemKernelIdeal.nD) → Buf (Elt Ideal) ((c.tc : Thread Cert.MemKernelIdeal.nD Cert.MemKernelIdeal.τ).loc Cert.MemKernelIdeal.main_v44_5)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v44_0) = v0 c
          ∧ r.2.mem ((c.tc : Thread Cert.MemKernelIdeal.nD Cert.MemKernelIdeal.τ).loc Cert.MemKernelIdeal.main_v44_1) = v1 c
          ∧ r.2.mem ((c.tc : Thread Cert.MemKernelIdeal.nD Cert.MemKernelIdeal.τ).loc Cert.MemKernelIdeal.main_v44_2) = v2 c
          ∧ r.2.mem ((c.tc : Thread Cert.MemKernelIdeal.nD Cert.MemKernelIdeal.τ).loc Cert.MemKernelIdeal.main_v44_3) = v3 c
          ∧ r.2.mem ((c.tc : Thread Cert.MemKernelIdeal.nD Cert.MemKernelIdeal.τ).loc Cert.MemKernelIdeal.main_v44_4) = v4 c
          ∧ r.2.mem ((c.tc : Thread Cert.MemKernelIdeal.nD Cert.MemKernelIdeal.τ).loc Cert.MemKernelIdeal.main_v44_5) = v5 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
          ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
          ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
          ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v150) = v0 c
          ∧ r.2.mem ((c.tc : Thread Cert.MemReferenceIdeal.nD Cert.MemReferenceIdeal.τ).loc Cert.MemReferenceIdeal.main_v151) = v1 c
          ∧ r.2.mem ((c.tc : Thread Cert.MemReferenceIdeal.nD Cert.MemReferenceIdeal.τ).loc Cert.MemReferenceIdeal.main_v152) = v2 c
          ∧ r.2.mem ((c.tc : Thread Cert.MemReferenceIdeal.nD Cert.MemReferenceIdeal.τ).loc Cert.MemReferenceIdeal.main_v125) = v3 c
          ∧ r.2.mem ((c.tc : Thread Cert.MemReferenceIdeal.nD Cert.MemReferenceIdeal.τ).loc Cert.MemReferenceIdeal.main_v154) = v4 c
          ∧ r.2.mem ((c.tc : Thread Cert.MemReferenceIdeal.nD Cert.MemReferenceIdeal.τ).loc Cert.MemReferenceIdeal.main_v155) = v5 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4)
          ∧ r.2.mem ((c.tc : Thread Cert.MemReferenceIdeal.nD Cert.MemReferenceIdeal.τ).loc Cert.MemReferenceIdeal.main_arg5) = m' ((c.tc : Thread Cert.MemReferenceIdeal.nD Cert.MemReferenceIdeal.τ).loc Cert.MemReferenceIdeal.main_arg5)
          ∧ r.2.mem ((c.tc : Thread Cert.MemReferenceIdeal.nD Cert.MemReferenceIdeal.τ).loc Cert.MemReferenceIdeal.main_arg6) = m' ((c.tc : Thread Cert.MemReferenceIdeal.nD Cert.MemReferenceIdeal.τ).loc Cert.MemReferenceIdeal.main_arg6))

def preserves_MemFwdKernel_MemFwdKernelIdeal : Prop :=
  True

def algebraic_MemFwdKernelIdeal_MemFwdReferenceIdeal [hMemFwdKernelIdeal : Cert.MemFwdKernelIdeal.Facts] [hMemFwdReferenceIdeal : Cert.MemFwdReferenceIdeal.Facts] : Prop :=
  ∀ (m : (ℓ : Loc Cert.MemFwdKernelIdeal.nD Cert.MemFwdKernelIdeal.τ Cert.MemFwdKernelIdeal.sig) → Buf (Elt Ideal) ℓ) (g : Dev Cert.MemFwdKernelIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdKernelIdeal m →
    (∀ c : Dev Cert.MemFwdKernelIdeal.nD,
      m' ((c.tc : Thread Cert.MemFwdReferenceIdeal.nD Cert.MemFwdReferenceIdeal.τ).loc Cert.MemFwdReferenceIdeal.main_arg0) = m ((c.tc : Thread Cert.MemFwdKernelIdeal.nD Cert.MemFwdKernelIdeal.τ).loc Cert.MemFwdKernelIdeal.main_arg0)
      ∧ m' ((c.tc : Thread Cert.MemFwdReferenceIdeal.nD Cert.MemFwdReferenceIdeal.τ).loc Cert.MemFwdReferenceIdeal.main_arg1) = m ((c.tc : Thread Cert.MemFwdKernelIdeal.nD Cert.MemFwdKernelIdeal.τ).loc Cert.MemFwdKernelIdeal.main_arg1)
      ∧ m' ((c.tc : Thread Cert.MemFwdReferenceIdeal.nD Cert.MemFwdReferenceIdeal.τ).loc Cert.MemFwdReferenceIdeal.main_arg2) = m ((c.tc : Thread Cert.MemFwdKernelIdeal.nD Cert.MemFwdKernelIdeal.τ).loc Cert.MemFwdKernelIdeal.main_arg2)
      ∧ m' ((c.tc : Thread Cert.MemFwdReferenceIdeal.nD Cert.MemFwdReferenceIdeal.τ).loc Cert.MemFwdReferenceIdeal.main_arg3) = m ((c.tc : Thread Cert.MemFwdKernelIdeal.nD Cert.MemFwdKernelIdeal.τ).loc Cert.MemFwdKernelIdeal.main_arg3)
      ∧ m' ((c.tc : Thread Cert.MemFwdReferenceIdeal.nD Cert.MemFwdReferenceIdeal.τ).loc Cert.MemFwdReferenceIdeal.main_arg4) = m ((c.tc : Thread Cert.MemFwdKernelIdeal.nD Cert.MemFwdKernelIdeal.τ).loc Cert.MemFwdKernelIdeal.main_arg4)
      ∧ m' ((c.tc : Thread Cert.MemFwdReferenceIdeal.nD Cert.MemFwdReferenceIdeal.τ).loc Cert.MemFwdReferenceIdeal.main_arg5) = m ((c.tc : Thread Cert.MemFwdKernelIdeal.nD Cert.MemFwdKernelIdeal.τ).loc Cert.MemFwdKernelIdeal.main_arg5)) →
    ∃ (v0 : (c : Dev Cert.MemFwdKernelIdeal.nD) → Buf (Elt Ideal) ((c.tc : Thread Cert.MemFwdKernelIdeal.nD Cert.MemFwdKernelIdeal.τ).loc Cert.MemFwdKernelIdeal.main_v6_0)) (v1 : (c : Dev Cert.MemFwdKernelIdeal.nD) → Buf (Elt Ideal) ((c.tc : Thread Cert.MemFwdKernelIdeal.nD Cert.MemFwdKernelIdeal.τ).loc Cert.MemFwdKernelIdeal.main_v6_1)) (v2 : (c : Dev Cert.MemFwdKernelIdeal.nD) → Buf (Elt Ideal) ((c.tc : Thread Cert.MemFwdKernelIdeal.nD Cert.MemFwdKernelIdeal.τ).loc Cert.MemFwdKernelIdeal.main_v6_2)),
      θ_run (Cert.MemFwdKernelIdeal.defs (F := Ideal)) (onTc (τ := Cert.MemFwdKernelIdeal.τ) (Cert.MemFwdKernelIdeal.main (F := Ideal))) ⟨m, fun _ => 0, g⟩ (fun r => ∀ c : Dev Cert.MemFwdKernelIdeal.nD,
          r.2.mem ((c.tc : Thread Cert.MemFwdKernelIdeal.nD Cert.MemFwdKernelIdeal.τ).loc Cert.MemFwdKernelIdeal.main_v6_0) = v0 c
          ∧ r.2.mem ((c.tc : Thread Cert.MemFwdKernelIdeal.nD Cert.MemFwdKernelIdeal.τ).loc Cert.MemFwdKernelIdeal.main_v6_1) = v1 c
          ∧ r.2.mem ((c.tc : Thread Cert.MemFwdKernelIdeal.nD Cert.MemFwdKernelIdeal.τ).loc Cert.MemFwdKernelIdeal.main_v6_2) = v2 c
          ∧ r.2.mem ((c.tc : Thread Cert.MemFwdKernelIdeal.nD Cert.MemFwdKernelIdeal.τ).loc Cert.MemFwdKernelIdeal.main_arg0) = m ((c.tc : Thread Cert.MemFwdKernelIdeal.nD Cert.MemFwdKernelIdeal.τ).loc Cert.MemFwdKernelIdeal.main_arg0)
          ∧ r.2.mem ((c.tc : Thread Cert.MemFwdKernelIdeal.nD Cert.MemFwdKernelIdeal.τ).loc Cert.MemFwdKernelIdeal.main_arg1) = m ((c.tc : Thread Cert.MemFwdKernelIdeal.nD Cert.MemFwdKernelIdeal.τ).loc Cert.MemFwdKernelIdeal.main_arg1)
          ∧ r.2.mem ((c.tc : Thread Cert.MemFwdKernelIdeal.nD Cert.MemFwdKernelIdeal.τ).loc Cert.MemFwdKernelIdeal.main_arg2) = m ((c.tc : Thread Cert.MemFwdKernelIdeal.nD Cert.MemFwdKernelIdeal.τ).loc Cert.MemFwdKernelIdeal.main_arg2)
          ∧ r.2.mem ((c.tc : Thread Cert.MemFwdKernelIdeal.nD Cert.MemFwdKernelIdeal.τ).loc Cert.MemFwdKernelIdeal.main_arg3) = m ((c.tc : Thread Cert.MemFwdKernelIdeal.nD Cert.MemFwdKernelIdeal.τ).loc Cert.MemFwdKernelIdeal.main_arg3)
          ∧ r.2.mem ((c.tc : Thread Cert.MemFwdKernelIdeal.nD Cert.MemFwdKernelIdeal.τ).loc Cert.MemFwdKernelIdeal.main_arg4) = m ((c.tc : Thread Cert.MemFwdKernelIdeal.nD Cert.MemFwdKernelIdeal.τ).loc Cert.MemFwdKernelIdeal.main_arg4)
          ∧ r.2.mem ((c.tc : Thread Cert.MemFwdKernelIdeal.nD Cert.MemFwdKernelIdeal.τ).loc Cert.MemFwdKernelIdeal.main_arg5) = m ((c.tc : Thread Cert.MemFwdKernelIdeal.nD Cert.MemFwdKernelIdeal.τ).loc Cert.MemFwdKernelIdeal.main_arg5))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v37) = v0 c
          ∧ r.2.mem ((c.tc : Thread Cert.MemFwdReferenceIdeal.nD Cert.MemFwdReferenceIdeal.τ).loc Cert.MemFwdReferenceIdeal.main_v36) = v1 c
          ∧ r.2.mem ((c.tc : Thread Cert.MemFwdReferenceIdeal.nD Cert.MemFwdReferenceIdeal.τ).loc Cert.MemFwdReferenceIdeal.main_v51) = v2 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1)
          ∧ r.2.mem ((c.tc : Thread Cert.MemFwdReferenceIdeal.nD Cert.MemFwdReferenceIdeal.τ).loc Cert.MemFwdReferenceIdeal.main_arg2) = m' ((c.tc : Thread Cert.MemFwdReferenceIdeal.nD Cert.MemFwdReferenceIdeal.τ).loc Cert.MemFwdReferenceIdeal.main_arg2)
          ∧ r.2.mem ((c.tc : Thread Cert.MemFwdReferenceIdeal.nD Cert.MemFwdReferenceIdeal.τ).loc Cert.MemFwdReferenceIdeal.main_arg3) = m' ((c.tc : Thread Cert.MemFwdReferenceIdeal.nD Cert.MemFwdReferenceIdeal.τ).loc Cert.MemFwdReferenceIdeal.main_arg3)
          ∧ r.2.mem ((c.tc : Thread Cert.MemFwdReferenceIdeal.nD Cert.MemFwdReferenceIdeal.τ).loc Cert.MemFwdReferenceIdeal.main_arg4) = m' ((c.tc : Thread Cert.MemFwdReferenceIdeal.nD Cert.MemFwdReferenceIdeal.τ).loc Cert.MemFwdReferenceIdeal.main_arg4)
          ∧ r.2.mem ((c.tc : Thread Cert.MemFwdReferenceIdeal.nD Cert.MemFwdReferenceIdeal.τ).loc Cert.MemFwdReferenceIdeal.main_arg5) = m' ((c.tc : Thread Cert.MemFwdReferenceIdeal.nD Cert.MemFwdReferenceIdeal.τ).loc Cert.MemFwdReferenceIdeal.main_arg5))

def preserves_Attn0Kernel_Attn0KernelIdeal : Prop :=
  True

def algebraic_Attn0KernelIdeal_Attn0ReferenceIdeal_pre_finite_attn [hAttn0KernelIdeal : Cert.Attn0KernelIdeal.Facts] [hAttn0ReferenceIdeal : Cert.Attn0ReferenceIdeal.Facts] [hPre_finite_attn : Cert.Pre_finite_attn.Facts] : Prop :=
  ∀ (m : (ℓ : Loc Cert.Attn0KernelIdeal.nD Cert.Attn0KernelIdeal.τ Cert.Attn0KernelIdeal.sig) → Buf (Elt Ideal) ℓ) (g : Dev Cert.Attn0KernelIdeal.nD → PrngReg)
    (m' : (ℓ : Loc Cert.Attn0ReferenceIdeal.nD Cert.Attn0ReferenceIdeal.τ Cert.Attn0ReferenceIdeal.sig) → Buf (Elt Ideal) ℓ) (g' : Dev Cert.Attn0ReferenceIdeal.nD → PrngReg), Pre_Attn0KernelIdeal_finite_attn m →
    (∀ c : Dev Cert.Attn0KernelIdeal.nD,
      m' ((c.tc : Thread Cert.Attn0ReferenceIdeal.nD Cert.Attn0ReferenceIdeal.τ).loc Cert.Attn0ReferenceIdeal.main_arg0) = m ((c.tc : Thread Cert.Attn0KernelIdeal.nD Cert.Attn0KernelIdeal.τ).loc Cert.Attn0KernelIdeal.main_arg0)
      ∧ m' ((c.tc : Thread Cert.Attn0ReferenceIdeal.nD Cert.Attn0ReferenceIdeal.τ).loc Cert.Attn0ReferenceIdeal.main_arg1) = m ((c.tc : Thread Cert.Attn0KernelIdeal.nD Cert.Attn0KernelIdeal.τ).loc Cert.Attn0KernelIdeal.main_arg1)
      ∧ m' ((c.tc : Thread Cert.Attn0ReferenceIdeal.nD Cert.Attn0ReferenceIdeal.τ).loc Cert.Attn0ReferenceIdeal.main_arg2) = m ((c.tc : Thread Cert.Attn0KernelIdeal.nD Cert.Attn0KernelIdeal.τ).loc Cert.Attn0KernelIdeal.main_arg2)
      ∧ m' ((c.tc : Thread Cert.Attn0ReferenceIdeal.nD Cert.Attn0ReferenceIdeal.τ).loc Cert.Attn0ReferenceIdeal.main_arg3) = m ((c.tc : Thread Cert.Attn0KernelIdeal.nD Cert.Attn0KernelIdeal.τ).loc Cert.Attn0KernelIdeal.main_arg3)) →
    ∃ (v0 : (c : Dev Cert.Attn0KernelIdeal.nD) → Buf (Elt Ideal) ((c.tc : Thread Cert.Attn0KernelIdeal.nD Cert.Attn0KernelIdeal.τ).loc Cert.Attn0KernelIdeal.main_v155_0)) (v1 : (c : Dev Cert.Attn0KernelIdeal.nD) → Buf (Elt Ideal) ((c.tc : Thread Cert.Attn0KernelIdeal.nD Cert.Attn0KernelIdeal.τ).loc Cert.Attn0KernelIdeal.main_v155_1)) (v2 : (c : Dev Cert.Attn0KernelIdeal.nD) → Buf (Elt Ideal) ((c.tc : Thread Cert.Attn0KernelIdeal.nD Cert.Attn0KernelIdeal.τ).loc Cert.Attn0KernelIdeal.main_v155_2)),
      θ_run (Cert.Attn0KernelIdeal.defs (F := Ideal)) (onTc (τ := Cert.Attn0KernelIdeal.τ) (Cert.Attn0KernelIdeal.main (F := Ideal))) ⟨m, fun _ => 0, g⟩ (fun r => ∀ c : Dev Cert.Attn0KernelIdeal.nD,
          r.2.mem ((c.tc : Thread Cert.Attn0KernelIdeal.nD Cert.Attn0KernelIdeal.τ).loc Cert.Attn0KernelIdeal.main_v155_0) = v0 c
          ∧ r.2.mem ((c.tc : Thread Cert.Attn0KernelIdeal.nD Cert.Attn0KernelIdeal.τ).loc Cert.Attn0KernelIdeal.main_v155_1) = v1 c
          ∧ r.2.mem ((c.tc : Thread Cert.Attn0KernelIdeal.nD Cert.Attn0KernelIdeal.τ).loc Cert.Attn0KernelIdeal.main_v155_2) = v2 c
          ∧ r.2.mem ((c.tc : Thread Cert.Attn0KernelIdeal.nD Cert.Attn0KernelIdeal.τ).loc Cert.Attn0KernelIdeal.main_arg0) = m ((c.tc : Thread Cert.Attn0KernelIdeal.nD Cert.Attn0KernelIdeal.τ).loc Cert.Attn0KernelIdeal.main_arg0)
          ∧ r.2.mem ((c.tc : Thread Cert.Attn0KernelIdeal.nD Cert.Attn0KernelIdeal.τ).loc Cert.Attn0KernelIdeal.main_arg1) = m ((c.tc : Thread Cert.Attn0KernelIdeal.nD Cert.Attn0KernelIdeal.τ).loc Cert.Attn0KernelIdeal.main_arg1)
          ∧ r.2.mem ((c.tc : Thread Cert.Attn0KernelIdeal.nD Cert.Attn0KernelIdeal.τ).loc Cert.Attn0KernelIdeal.main_arg2) = m ((c.tc : Thread Cert.Attn0KernelIdeal.nD Cert.Attn0KernelIdeal.τ).loc Cert.Attn0KernelIdeal.main_arg2)
          ∧ r.2.mem ((c.tc : Thread Cert.Attn0KernelIdeal.nD Cert.Attn0KernelIdeal.τ).loc Cert.Attn0KernelIdeal.main_arg3) = m ((c.tc : Thread Cert.Attn0KernelIdeal.nD Cert.Attn0KernelIdeal.τ).loc Cert.Attn0KernelIdeal.main_arg3))
      ∧ θ_run (Cert.Attn0ReferenceIdeal.defs (F := Ideal)) (onTc (τ := Cert.Attn0ReferenceIdeal.τ) (Cert.Attn0ReferenceIdeal.main (F := Ideal))) ⟨m', fun _ => 0, g'⟩ (fun r => ∀ c : Dev Cert.Attn0ReferenceIdeal.nD,
          r.2.mem ((c.tc : Thread Cert.Attn0ReferenceIdeal.nD Cert.Attn0ReferenceIdeal.τ).loc Cert.Attn0ReferenceIdeal.main_v213) = v0 c
          ∧ r.2.mem ((c.tc : Thread Cert.Attn0ReferenceIdeal.nD Cert.Attn0ReferenceIdeal.τ).loc Cert.Attn0ReferenceIdeal.main_v217) = v1 c
          ∧ r.2.mem ((c.tc : Thread Cert.Attn0ReferenceIdeal.nD Cert.Attn0ReferenceIdeal.τ).loc Cert.Attn0ReferenceIdeal.main_v221) = v2 c
          ∧ r.2.mem ((c.tc : Thread Cert.Attn0ReferenceIdeal.nD Cert.Attn0ReferenceIdeal.τ).loc Cert.Attn0ReferenceIdeal.main_arg0) = m' ((c.tc : Thread Cert.Attn0ReferenceIdeal.nD Cert.Attn0ReferenceIdeal.τ).loc Cert.Attn0ReferenceIdeal.main_arg0)
          ∧ r.2.mem ((c.tc : Thread Cert.Attn0ReferenceIdeal.nD Cert.Attn0ReferenceIdeal.τ).loc Cert.Attn0ReferenceIdeal.main_arg1) = m' ((c.tc : Thread Cert.Attn0ReferenceIdeal.nD Cert.Attn0ReferenceIdeal.τ).loc Cert.Attn0ReferenceIdeal.main_arg1)
          ∧ r.2.mem ((c.tc : Thread Cert.Attn0ReferenceIdeal.nD Cert.Attn0ReferenceIdeal.τ).loc Cert.Attn0ReferenceIdeal.main_arg2) = m' ((c.tc : Thread Cert.Attn0ReferenceIdeal.nD Cert.Attn0ReferenceIdeal.τ).loc Cert.Attn0ReferenceIdeal.main_arg2)
          ∧ r.2.mem ((c.tc : Thread Cert.Attn0ReferenceIdeal.nD Cert.Attn0ReferenceIdeal.τ).loc Cert.Attn0ReferenceIdeal.main_arg3) = m' ((c.tc : Thread Cert.Attn0ReferenceIdeal.nD Cert.Attn0ReferenceIdeal.τ).loc Cert.Attn0ReferenceIdeal.main_arg3))

def preserves_Attn1Kernel_Attn1KernelIdeal : Prop :=
  True

def algebraic_Attn1KernelIdeal_Attn1ReferenceIdeal_pre_finite_attn [hAttn1KernelIdeal : Cert.Attn1KernelIdeal.Facts] [hAttn1ReferenceIdeal : Cert.Attn1ReferenceIdeal.Facts] [hPre_finite_attn : Cert.Pre_finite_attn.Facts] : Prop :=
  ∀ (m : (ℓ : Loc Cert.Attn1KernelIdeal.nD Cert.Attn1KernelIdeal.τ Cert.Attn1KernelIdeal.sig) → Buf (Elt Ideal) ℓ) (g : Dev Cert.Attn1KernelIdeal.nD → PrngReg)
    (m' : (ℓ : Loc Cert.Attn1ReferenceIdeal.nD Cert.Attn1ReferenceIdeal.τ Cert.Attn1ReferenceIdeal.sig) → Buf (Elt Ideal) ℓ) (g' : Dev Cert.Attn1ReferenceIdeal.nD → PrngReg), Pre_Attn1KernelIdeal_finite_attn m →
    (∀ c : Dev Cert.Attn1KernelIdeal.nD,
      m' ((c.tc : Thread Cert.Attn1ReferenceIdeal.nD Cert.Attn1ReferenceIdeal.τ).loc Cert.Attn1ReferenceIdeal.main_arg0) = m ((c.tc : Thread Cert.Attn1KernelIdeal.nD Cert.Attn1KernelIdeal.τ).loc Cert.Attn1KernelIdeal.main_arg0)
      ∧ m' ((c.tc : Thread Cert.Attn1ReferenceIdeal.nD Cert.Attn1ReferenceIdeal.τ).loc Cert.Attn1ReferenceIdeal.main_arg1) = m ((c.tc : Thread Cert.Attn1KernelIdeal.nD Cert.Attn1KernelIdeal.τ).loc Cert.Attn1KernelIdeal.main_arg1)
      ∧ m' ((c.tc : Thread Cert.Attn1ReferenceIdeal.nD Cert.Attn1ReferenceIdeal.τ).loc Cert.Attn1ReferenceIdeal.main_arg2) = m ((c.tc : Thread Cert.Attn1KernelIdeal.nD Cert.Attn1KernelIdeal.τ).loc Cert.Attn1KernelIdeal.main_arg2)
      ∧ m' ((c.tc : Thread Cert.Attn1ReferenceIdeal.nD Cert.Attn1ReferenceIdeal.τ).loc Cert.Attn1ReferenceIdeal.main_arg3) = m ((c.tc : Thread Cert.Attn1KernelIdeal.nD Cert.Attn1KernelIdeal.τ).loc Cert.Attn1KernelIdeal.main_arg3)) →
    ∃ (v0 : (c : Dev Cert.Attn1KernelIdeal.nD) → Buf (Elt Ideal) ((c.tc : Thread Cert.Attn1KernelIdeal.nD Cert.Attn1KernelIdeal.τ).loc Cert.Attn1KernelIdeal.main_v155_0)) (v1 : (c : Dev Cert.Attn1KernelIdeal.nD) → Buf (Elt Ideal) ((c.tc : Thread Cert.Attn1KernelIdeal.nD Cert.Attn1KernelIdeal.τ).loc Cert.Attn1KernelIdeal.main_v155_1)) (v2 : (c : Dev Cert.Attn1KernelIdeal.nD) → Buf (Elt Ideal) ((c.tc : Thread Cert.Attn1KernelIdeal.nD Cert.Attn1KernelIdeal.τ).loc Cert.Attn1KernelIdeal.main_v155_2)),
      θ_run (Cert.Attn1KernelIdeal.defs (F := Ideal)) (onTc (τ := Cert.Attn1KernelIdeal.τ) (Cert.Attn1KernelIdeal.main (F := Ideal))) ⟨m, fun _ => 0, g⟩ (fun r => ∀ c : Dev Cert.Attn1KernelIdeal.nD,
          r.2.mem ((c.tc : Thread Cert.Attn1KernelIdeal.nD Cert.Attn1KernelIdeal.τ).loc Cert.Attn1KernelIdeal.main_v155_0) = v0 c
          ∧ r.2.mem ((c.tc : Thread Cert.Attn1KernelIdeal.nD Cert.Attn1KernelIdeal.τ).loc Cert.Attn1KernelIdeal.main_v155_1) = v1 c
          ∧ r.2.mem ((c.tc : Thread Cert.Attn1KernelIdeal.nD Cert.Attn1KernelIdeal.τ).loc Cert.Attn1KernelIdeal.main_v155_2) = v2 c
          ∧ r.2.mem ((c.tc : Thread Cert.Attn1KernelIdeal.nD Cert.Attn1KernelIdeal.τ).loc Cert.Attn1KernelIdeal.main_arg0) = m ((c.tc : Thread Cert.Attn1KernelIdeal.nD Cert.Attn1KernelIdeal.τ).loc Cert.Attn1KernelIdeal.main_arg0)
          ∧ r.2.mem ((c.tc : Thread Cert.Attn1KernelIdeal.nD Cert.Attn1KernelIdeal.τ).loc Cert.Attn1KernelIdeal.main_arg1) = m ((c.tc : Thread Cert.Attn1KernelIdeal.nD Cert.Attn1KernelIdeal.τ).loc Cert.Attn1KernelIdeal.main_arg1)
          ∧ r.2.mem ((c.tc : Thread Cert.Attn1KernelIdeal.nD Cert.Attn1KernelIdeal.τ).loc Cert.Attn1KernelIdeal.main_arg2) = m ((c.tc : Thread Cert.Attn1KernelIdeal.nD Cert.Attn1KernelIdeal.τ).loc Cert.Attn1KernelIdeal.main_arg2)
          ∧ r.2.mem ((c.tc : Thread Cert.Attn1KernelIdeal.nD Cert.Attn1KernelIdeal.τ).loc Cert.Attn1KernelIdeal.main_arg3) = m ((c.tc : Thread Cert.Attn1KernelIdeal.nD Cert.Attn1KernelIdeal.τ).loc Cert.Attn1KernelIdeal.main_arg3))
      ∧ θ_run (Cert.Attn1ReferenceIdeal.defs (F := Ideal)) (onTc (τ := Cert.Attn1ReferenceIdeal.τ) (Cert.Attn1ReferenceIdeal.main (F := Ideal))) ⟨m', fun _ => 0, g'⟩ (fun r => ∀ c : Dev Cert.Attn1ReferenceIdeal.nD,
          r.2.mem ((c.tc : Thread Cert.Attn1ReferenceIdeal.nD Cert.Attn1ReferenceIdeal.τ).loc Cert.Attn1ReferenceIdeal.main_v213) = v0 c
          ∧ r.2.mem ((c.tc : Thread Cert.Attn1ReferenceIdeal.nD Cert.Attn1ReferenceIdeal.τ).loc Cert.Attn1ReferenceIdeal.main_v217) = v1 c
          ∧ r.2.mem ((c.tc : Thread Cert.Attn1ReferenceIdeal.nD Cert.Attn1ReferenceIdeal.τ).loc Cert.Attn1ReferenceIdeal.main_v221) = v2 c
          ∧ r.2.mem ((c.tc : Thread Cert.Attn1ReferenceIdeal.nD Cert.Attn1ReferenceIdeal.τ).loc Cert.Attn1ReferenceIdeal.main_arg0) = m' ((c.tc : Thread Cert.Attn1ReferenceIdeal.nD Cert.Attn1ReferenceIdeal.τ).loc Cert.Attn1ReferenceIdeal.main_arg0)
          ∧ r.2.mem ((c.tc : Thread Cert.Attn1ReferenceIdeal.nD Cert.Attn1ReferenceIdeal.τ).loc Cert.Attn1ReferenceIdeal.main_arg1) = m' ((c.tc : Thread Cert.Attn1ReferenceIdeal.nD Cert.Attn1ReferenceIdeal.τ).loc Cert.Attn1ReferenceIdeal.main_arg1)
          ∧ r.2.mem ((c.tc : Thread Cert.Attn1ReferenceIdeal.nD Cert.Attn1ReferenceIdeal.τ).loc Cert.Attn1ReferenceIdeal.main_arg2) = m' ((c.tc : Thread Cert.Attn1ReferenceIdeal.nD Cert.Attn1ReferenceIdeal.τ).loc Cert.Attn1ReferenceIdeal.main_arg2)
          ∧ r.2.mem ((c.tc : Thread Cert.Attn1ReferenceIdeal.nD Cert.Attn1ReferenceIdeal.τ).loc Cert.Attn1ReferenceIdeal.main_arg3) = m' ((c.tc : Thread Cert.Attn1ReferenceIdeal.nD Cert.Attn1ReferenceIdeal.τ).loc Cert.Attn1ReferenceIdeal.main_arg3))

def preserves_Attn2Kernel_Attn2KernelIdeal : Prop :=
  True

def algebraic_Attn2KernelIdeal_Attn2ReferenceIdeal_pre_finite_attn [hAttn2KernelIdeal : Cert.Attn2KernelIdeal.Facts] [hAttn2ReferenceIdeal : Cert.Attn2ReferenceIdeal.Facts] [hPre_finite_attn : Cert.Pre_finite_attn.Facts] : Prop :=
  ∀ (m : (ℓ : Loc Cert.Attn2KernelIdeal.nD Cert.Attn2KernelIdeal.τ Cert.Attn2KernelIdeal.sig) → Buf (Elt Ideal) ℓ) (g : Dev Cert.Attn2KernelIdeal.nD → PrngReg)
    (m' : (ℓ : Loc Cert.Attn2ReferenceIdeal.nD Cert.Attn2ReferenceIdeal.τ Cert.Attn2ReferenceIdeal.sig) → Buf (Elt Ideal) ℓ) (g' : Dev Cert.Attn2ReferenceIdeal.nD → PrngReg), Pre_Attn2KernelIdeal_finite_attn m →
    (∀ c : Dev Cert.Attn2KernelIdeal.nD,
      m' ((c.tc : Thread Cert.Attn2ReferenceIdeal.nD Cert.Attn2ReferenceIdeal.τ).loc Cert.Attn2ReferenceIdeal.main_arg0) = m ((c.tc : Thread Cert.Attn2KernelIdeal.nD Cert.Attn2KernelIdeal.τ).loc Cert.Attn2KernelIdeal.main_arg0)
      ∧ m' ((c.tc : Thread Cert.Attn2ReferenceIdeal.nD Cert.Attn2ReferenceIdeal.τ).loc Cert.Attn2ReferenceIdeal.main_arg1) = m ((c.tc : Thread Cert.Attn2KernelIdeal.nD Cert.Attn2KernelIdeal.τ).loc Cert.Attn2KernelIdeal.main_arg1)
      ∧ m' ((c.tc : Thread Cert.Attn2ReferenceIdeal.nD Cert.Attn2ReferenceIdeal.τ).loc Cert.Attn2ReferenceIdeal.main_arg2) = m ((c.tc : Thread Cert.Attn2KernelIdeal.nD Cert.Attn2KernelIdeal.τ).loc Cert.Attn2KernelIdeal.main_arg2)
      ∧ m' ((c.tc : Thread Cert.Attn2ReferenceIdeal.nD Cert.Attn2ReferenceIdeal.τ).loc Cert.Attn2ReferenceIdeal.main_arg3) = m ((c.tc : Thread Cert.Attn2KernelIdeal.nD Cert.Attn2KernelIdeal.τ).loc Cert.Attn2KernelIdeal.main_arg3)) →
    ∃ (v0 : (c : Dev Cert.Attn2KernelIdeal.nD) → Buf (Elt Ideal) ((c.tc : Thread Cert.Attn2KernelIdeal.nD Cert.Attn2KernelIdeal.τ).loc Cert.Attn2KernelIdeal.main_v155_0)) (v1 : (c : Dev Cert.Attn2KernelIdeal.nD) → Buf (Elt Ideal) ((c.tc : Thread Cert.Attn2KernelIdeal.nD Cert.Attn2KernelIdeal.τ).loc Cert.Attn2KernelIdeal.main_v155_1)) (v2 : (c : Dev Cert.Attn2KernelIdeal.nD) → Buf (Elt Ideal) ((c.tc : Thread Cert.Attn2KernelIdeal.nD Cert.Attn2KernelIdeal.τ).loc Cert.Attn2KernelIdeal.main_v155_2)),
      θ_run (Cert.Attn2KernelIdeal.defs (F := Ideal)) (onTc (τ := Cert.Attn2KernelIdeal.τ) (Cert.Attn2KernelIdeal.main (F := Ideal))) ⟨m, fun _ => 0, g⟩ (fun r => ∀ c : Dev Cert.Attn2KernelIdeal.nD,
          r.2.mem ((c.tc : Thread Cert.Attn2KernelIdeal.nD Cert.Attn2KernelIdeal.τ).loc Cert.Attn2KernelIdeal.main_v155_0) = v0 c
          ∧ r.2.mem ((c.tc : Thread Cert.Attn2KernelIdeal.nD Cert.Attn2KernelIdeal.τ).loc Cert.Attn2KernelIdeal.main_v155_1) = v1 c
          ∧ r.2.mem ((c.tc : Thread Cert.Attn2KernelIdeal.nD Cert.Attn2KernelIdeal.τ).loc Cert.Attn2KernelIdeal.main_v155_2) = v2 c
          ∧ r.2.mem ((c.tc : Thread Cert.Attn2KernelIdeal.nD Cert.Attn2KernelIdeal.τ).loc Cert.Attn2KernelIdeal.main_arg0) = m ((c.tc : Thread Cert.Attn2KernelIdeal.nD Cert.Attn2KernelIdeal.τ).loc Cert.Attn2KernelIdeal.main_arg0)
          ∧ r.2.mem ((c.tc : Thread Cert.Attn2KernelIdeal.nD Cert.Attn2KernelIdeal.τ).loc Cert.Attn2KernelIdeal.main_arg1) = m ((c.tc : Thread Cert.Attn2KernelIdeal.nD Cert.Attn2KernelIdeal.τ).loc Cert.Attn2KernelIdeal.main_arg1)
          ∧ r.2.mem ((c.tc : Thread Cert.Attn2KernelIdeal.nD Cert.Attn2KernelIdeal.τ).loc Cert.Attn2KernelIdeal.main_arg2) = m ((c.tc : Thread Cert.Attn2KernelIdeal.nD Cert.Attn2KernelIdeal.τ).loc Cert.Attn2KernelIdeal.main_arg2)
          ∧ r.2.mem ((c.tc : Thread Cert.Attn2KernelIdeal.nD Cert.Attn2KernelIdeal.τ).loc Cert.Attn2KernelIdeal.main_arg3) = m ((c.tc : Thread Cert.Attn2KernelIdeal.nD Cert.Attn2KernelIdeal.τ).loc Cert.Attn2KernelIdeal.main_arg3))
      ∧ θ_run (Cert.Attn2ReferenceIdeal.defs (F := Ideal)) (onTc (τ := Cert.Attn2ReferenceIdeal.τ) (Cert.Attn2ReferenceIdeal.main (F := Ideal))) ⟨m', fun _ => 0, g'⟩ (fun r => ∀ c : Dev Cert.Attn2ReferenceIdeal.nD,
          r.2.mem ((c.tc : Thread Cert.Attn2ReferenceIdeal.nD Cert.Attn2ReferenceIdeal.τ).loc Cert.Attn2ReferenceIdeal.main_v213) = v0 c
          ∧ r.2.mem ((c.tc : Thread Cert.Attn2ReferenceIdeal.nD Cert.Attn2ReferenceIdeal.τ).loc Cert.Attn2ReferenceIdeal.main_v217) = v1 c
          ∧ r.2.mem ((c.tc : Thread Cert.Attn2ReferenceIdeal.nD Cert.Attn2ReferenceIdeal.τ).loc Cert.Attn2ReferenceIdeal.main_v221) = v2 c
          ∧ r.2.mem ((c.tc : Thread Cert.Attn2ReferenceIdeal.nD Cert.Attn2ReferenceIdeal.τ).loc Cert.Attn2ReferenceIdeal.main_arg0) = m' ((c.tc : Thread Cert.Attn2ReferenceIdeal.nD Cert.Attn2ReferenceIdeal.τ).loc Cert.Attn2ReferenceIdeal.main_arg0)
          ∧ r.2.mem ((c.tc : Thread Cert.Attn2ReferenceIdeal.nD Cert.Attn2ReferenceIdeal.τ).loc Cert.Attn2ReferenceIdeal.main_arg1) = m' ((c.tc : Thread Cert.Attn2ReferenceIdeal.nD Cert.Attn2ReferenceIdeal.τ).loc Cert.Attn2ReferenceIdeal.main_arg1)
          ∧ r.2.mem ((c.tc : Thread Cert.Attn2ReferenceIdeal.nD Cert.Attn2ReferenceIdeal.τ).loc Cert.Attn2ReferenceIdeal.main_arg2) = m' ((c.tc : Thread Cert.Attn2ReferenceIdeal.nD Cert.Attn2ReferenceIdeal.τ).loc Cert.Attn2ReferenceIdeal.main_arg2)
          ∧ r.2.mem ((c.tc : Thread Cert.Attn2ReferenceIdeal.nD Cert.Attn2ReferenceIdeal.τ).loc Cert.Attn2ReferenceIdeal.main_arg3) = m' ((c.tc : Thread Cert.Attn2ReferenceIdeal.nD Cert.Attn2ReferenceIdeal.τ).loc Cert.Attn2ReferenceIdeal.main_arg3))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v32_0)) (v1 : (c : Dev Cert.FfnKernelIdeal.nD) → Buf (Elt Ideal) ((c.tc : Thread Cert.FfnKernelIdeal.nD Cert.FfnKernelIdeal.τ).loc Cert.FfnKernelIdeal.main_v32_1)) (v2 : (c : Dev Cert.FfnKernelIdeal.nD) → Buf (Elt Ideal) ((c.tc : Thread Cert.FfnKernelIdeal.nD Cert.FfnKernelIdeal.τ).loc Cert.FfnKernelIdeal.main_v32_2)) (v3 : (c : Dev Cert.FfnKernelIdeal.nD) → Buf (Elt Ideal) ((c.tc : Thread Cert.FfnKernelIdeal.nD Cert.FfnKernelIdeal.τ).loc Cert.FfnKernelIdeal.main_v32_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v32_0) = v0 c
          ∧ r.2.mem ((c.tc : Thread Cert.FfnKernelIdeal.nD Cert.FfnKernelIdeal.τ).loc Cert.FfnKernelIdeal.main_v32_1) = v1 c
          ∧ r.2.mem ((c.tc : Thread Cert.FfnKernelIdeal.nD Cert.FfnKernelIdeal.τ).loc Cert.FfnKernelIdeal.main_v32_2) = v2 c
          ∧ r.2.mem ((c.tc : Thread Cert.FfnKernelIdeal.nD Cert.FfnKernelIdeal.τ).loc Cert.FfnKernelIdeal.main_v32_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v107) = v0 c
          ∧ r.2.mem ((c.tc : Thread Cert.FfnReferenceIdeal.nD Cert.FfnReferenceIdeal.τ).loc Cert.FfnReferenceIdeal.main_v108) = v1 c
          ∧ r.2.mem ((c.tc : Thread Cert.FfnReferenceIdeal.nD Cert.FfnReferenceIdeal.τ).loc Cert.FfnReferenceIdeal.main_v109) = v2 c
          ∧ r.2.mem ((c.tc : Thread Cert.FfnReferenceIdeal.nD Cert.FfnReferenceIdeal.τ).loc Cert.FfnReferenceIdeal.main_v104) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnPreKernel_FfnPreKernelIdeal : Prop :=
  True

def algebraic_FfnPreKernelIdeal_FfnPreReferenceIdeal_pre_finite_ffnpre [hFfnPreKernelIdeal : Cert.FfnPreKernelIdeal.Facts] [hFfnPreReferenceIdeal : Cert.FfnPreReferenceIdeal.Facts] [hPre_finite_ffnpre : Cert.Pre_finite_ffnpre.Facts] : Prop :=
  ∀ (m : (ℓ : Loc Cert.FfnPreKernelIdeal.nD Cert.FfnPreKernelIdeal.τ Cert.FfnPreKernelIdeal.sig) → Buf (Elt Ideal) ℓ) (g : Dev Cert.FfnPreKernelIdeal.nD → PrngReg)
    (m' : (ℓ : Loc Cert.FfnPreReferenceIdeal.nD Cert.FfnPreReferenceIdeal.τ Cert.FfnPreReferenceIdeal.sig) → Buf (Elt Ideal) ℓ) (g' : Dev Cert.FfnPreReferenceIdeal.nD → PrngReg), Pre_FfnPreKernelIdeal_finite_ffnpre m →
    (∀ c : Dev Cert.FfnPreKernelIdeal.nD,
      m' ((c.tc : Thread Cert.FfnPreReferenceIdeal.nD Cert.FfnPreReferenceIdeal.τ).loc Cert.FfnPreReferenceIdeal.main_arg0) = m ((c.tc : Thread Cert.FfnPreKernelIdeal.nD Cert.FfnPreKernelIdeal.τ).loc Cert.FfnPreKernelIdeal.main_arg0)
      ∧ m' ((c.tc : Thread Cert.FfnPreReferenceIdeal.nD Cert.FfnPreReferenceIdeal.τ).loc Cert.FfnPreReferenceIdeal.main_arg1) = m ((c.tc : Thread Cert.FfnPreKernelIdeal.nD Cert.FfnPreKernelIdeal.τ).loc Cert.FfnPreKernelIdeal.main_arg1)
      ∧ m' ((c.tc : Thread Cert.FfnPreReferenceIdeal.nD Cert.FfnPreReferenceIdeal.τ).loc Cert.FfnPreReferenceIdeal.main_arg2) = m ((c.tc : Thread Cert.FfnPreKernelIdeal.nD Cert.FfnPreKernelIdeal.τ).loc Cert.FfnPreKernelIdeal.main_arg2)
      ∧ m' ((c.tc : Thread Cert.FfnPreReferenceIdeal.nD Cert.FfnPreReferenceIdeal.τ).loc Cert.FfnPreReferenceIdeal.main_arg3) = m ((c.tc : Thread Cert.FfnPreKernelIdeal.nD Cert.FfnPreKernelIdeal.τ).loc Cert.FfnPreKernelIdeal.main_arg3)
      ∧ m' ((c.tc : Thread Cert.FfnPreReferenceIdeal.nD Cert.FfnPreReferenceIdeal.τ).loc Cert.FfnPreReferenceIdeal.main_arg4) = m ((c.tc : Thread Cert.FfnPreKernelIdeal.nD Cert.FfnPreKernelIdeal.τ).loc Cert.FfnPreKernelIdeal.main_arg4)) →
    ∃ (v0 : (c : Dev Cert.FfnPreKernelIdeal.nD) → Buf (Elt Ideal) ((c.tc : Thread Cert.FfnPreKernelIdeal.nD Cert.FfnPreKernelIdeal.τ).loc Cert.FfnPreKernelIdeal.main_v4_0)) (v1 : (c : Dev Cert.FfnPreKernelIdeal.nD) → Buf (Elt Ideal) ((c.tc : Thread Cert.FfnPreKernelIdeal.nD Cert.FfnPreKernelIdeal.τ).loc Cert.FfnPreKernelIdeal.main_v4_1)),
      θ_run (Cert.FfnPreKernelIdeal.defs (F := Ideal)) (onTc (τ := Cert.FfnPreKernelIdeal.τ) (Cert.FfnPreKernelIdeal.main (F := Ideal))) ⟨m, fun _ => 0, g⟩ (fun r => ∀ c : Dev Cert.FfnPreKernelIdeal.nD,
          r.2.mem ((c.tc : Thread Cert.FfnPreKernelIdeal.nD Cert.FfnPreKernelIdeal.τ).loc Cert.FfnPreKernelIdeal.main_v4_0) = v0 c
          ∧ r.2.mem ((c.tc : Thread Cert.FfnPreKernelIdeal.nD Cert.FfnPreKernelIdeal.τ).loc Cert.FfnPreKernelIdeal.main_v4_1) = v1 c
          ∧ r.2.mem ((c.tc : Thread Cert.FfnPreKernelIdeal.nD Cert.FfnPreKernelIdeal.τ).loc Cert.FfnPreKernelIdeal.main_arg0) = m ((c.tc : Thread Cert.FfnPreKernelIdeal.nD Cert.FfnPreKernelIdeal.τ).loc Cert.FfnPreKernelIdeal.main_arg0)
          ∧ r.2.mem ((c.tc : Thread Cert.FfnPreKernelIdeal.nD Cert.FfnPreKernelIdeal.τ).loc Cert.FfnPreKernelIdeal.main_arg1) = m ((c.tc : Thread Cert.FfnPreKernelIdeal.nD Cert.FfnPreKernelIdeal.τ).loc Cert.FfnPreKernelIdeal.main_arg1)
          ∧ r.2.mem ((c.tc : Thread Cert.FfnPreKernelIdeal.nD Cert.FfnPreKernelIdeal.τ).loc Cert.FfnPreKernelIdeal.main_arg2) = m ((c.tc : Thread Cert.FfnPreKernelIdeal.nD Cert.FfnPreKernelIdeal.τ).loc Cert.FfnPreKernelIdeal.main_arg2)
          ∧ r.2.mem ((c.tc : Thread Cert.FfnPreKernelIdeal.nD Cert.FfnPreKernelIdeal.τ).loc Cert.FfnPreKernelIdeal.main_arg3) = m ((c.tc : Thread Cert.FfnPreKernelIdeal.nD Cert.FfnPreKernelIdeal.τ).loc Cert.FfnPreKernelIdeal.main_arg3)
          ∧ r.2.mem ((c.tc : Thread Cert.FfnPreKernelIdeal.nD Cert.FfnPreKernelIdeal.τ).loc Cert.FfnPreKernelIdeal.main_arg4) = m ((c.tc : Thread Cert.FfnPreKernelIdeal.nD Cert.FfnPreKernelIdeal.τ).loc Cert.FfnPreKernelIdeal.main_arg4))
      ∧ θ_run (Cert.FfnPreReferenceIdeal.defs (F := Ideal)) (onTc (τ := Cert.FfnPreReferenceIdeal.τ) (Cert.FfnPreReferenceIdeal.main (F := Ideal))) ⟨m', fun _ => 0, g'⟩ (fun r => ∀ c : Dev Cert.FfnPreReferenceIdeal.nD,
          r.2.mem ((c.tc : Thread Cert.FfnPreReferenceIdeal.nD Cert.FfnPreReferenceIdeal.τ).loc Cert.FfnPreReferenceIdeal.main_v38) = v0 c
          ∧ r.2.mem ((c.tc : Thread Cert.FfnPreReferenceIdeal.nD Cert.FfnPreReferenceIdeal.τ).loc Cert.FfnPreReferenceIdeal.main_v39) = v1 c
          ∧ r.2.mem ((c.tc : Thread Cert.FfnPreReferenceIdeal.nD Cert.FfnPreReferenceIdeal.τ).loc Cert.FfnPreReferenceIdeal.main_arg0) = m' ((c.tc : Thread Cert.FfnPreReferenceIdeal.nD Cert.FfnPreReferenceIdeal.τ).loc Cert.FfnPreReferenceIdeal.main_arg0)
          ∧ r.2.mem ((c.tc : Thread Cert.FfnPreReferenceIdeal.nD Cert.FfnPreReferenceIdeal.τ).loc Cert.FfnPreReferenceIdeal.main_arg1) = m' ((c.tc : Thread Cert.FfnPreReferenceIdeal.nD Cert.FfnPreReferenceIdeal.τ).loc Cert.FfnPreReferenceIdeal.main_arg1)
          ∧ r.2.mem ((c.tc : Thread Cert.FfnPreReferenceIdeal.nD Cert.FfnPreReferenceIdeal.τ).loc Cert.FfnPreReferenceIdeal.main_arg2) = m' ((c.tc : Thread Cert.FfnPreReferenceIdeal.nD Cert.FfnPreReferenceIdeal.τ).loc Cert.FfnPreReferenceIdeal.main_arg2)
          ∧ r.2.mem ((c.tc : Thread Cert.FfnPreReferenceIdeal.nD Cert.FfnPreReferenceIdeal.τ).loc Cert.FfnPreReferenceIdeal.main_arg3) = m' ((c.tc : Thread Cert.FfnPreReferenceIdeal.nD Cert.FfnPreReferenceIdeal.τ).loc Cert.FfnPreReferenceIdeal.main_arg3)
          ∧ r.2.mem ((c.tc : Thread Cert.FfnPreReferenceIdeal.nD Cert.FfnPreReferenceIdeal.τ).loc Cert.FfnPreReferenceIdeal.main_arg4) = m' ((c.tc : Thread Cert.FfnPreReferenceIdeal.nD Cert.FfnPreReferenceIdeal.τ).loc Cert.FfnPreReferenceIdeal.main_arg4))

def preserves_MixPreKernel_MixPreKernelIdeal : Prop :=
  True

def algebraic_MixPreKernelIdeal_MixPreReferenceIdeal_pre_finite_mixpre [hMixPreKernelIdeal : Cert.MixPreKernelIdeal.Facts] [hMixPreReferenceIdeal : Cert.MixPreReferenceIdeal.Facts] [hPre_finite_mixpre : Cert.Pre_finite_mixpre.Facts] : Prop :=
  ∀ (m : (ℓ : Loc Cert.MixPreKernelIdeal.nD Cert.MixPreKernelIdeal.τ Cert.MixPreKernelIdeal.sig) → Buf (Elt Ideal) ℓ) (g : Dev Cert.MixPreKernelIdeal.nD → PrngReg)
    (m' : (ℓ : Loc Cert.MixPreReferenceIdeal.nD Cert.MixPreReferenceIdeal.τ Cert.MixPreReferenceIdeal.sig) → Buf (Elt Ideal) ℓ) (g' : Dev Cert.MixPreReferenceIdeal.nD → PrngReg), Pre_MixPreKernelIdeal_finite_mixpre m →
    (∀ c : Dev Cert.MixPreKernelIdeal.nD,
      m' ((c.tc : Thread Cert.MixPreReferenceIdeal.nD Cert.MixPreReferenceIdeal.τ).loc Cert.MixPreReferenceIdeal.main_arg0) = m ((c.tc : Thread Cert.MixPreKernelIdeal.nD Cert.MixPreKernelIdeal.τ).loc Cert.MixPreKernelIdeal.main_arg0)
      ∧ m' ((c.tc : Thread Cert.MixPreReferenceIdeal.nD Cert.MixPreReferenceIdeal.τ).loc Cert.MixPreReferenceIdeal.main_arg1) = m ((c.tc : Thread Cert.MixPreKernelIdeal.nD Cert.MixPreKernelIdeal.τ).loc Cert.MixPreKernelIdeal.main_arg1)
      ∧ m' ((c.tc : Thread Cert.MixPreReferenceIdeal.nD Cert.MixPreReferenceIdeal.τ).loc Cert.MixPreReferenceIdeal.main_arg2) = m ((c.tc : Thread Cert.MixPreKernelIdeal.nD Cert.MixPreKernelIdeal.τ).loc Cert.MixPreKernelIdeal.main_arg2)
      ∧ m' ((c.tc : Thread Cert.MixPreReferenceIdeal.nD Cert.MixPreReferenceIdeal.τ).loc Cert.MixPreReferenceIdeal.main_arg3) = m ((c.tc : Thread Cert.MixPreKernelIdeal.nD Cert.MixPreKernelIdeal.τ).loc Cert.MixPreKernelIdeal.main_arg3)
      ∧ m' ((c.tc : Thread Cert.MixPreReferenceIdeal.nD Cert.MixPreReferenceIdeal.τ).loc Cert.MixPreReferenceIdeal.main_arg4) = m ((c.tc : Thread Cert.MixPreKernelIdeal.nD Cert.MixPreKernelIdeal.τ).loc Cert.MixPreKernelIdeal.main_arg4)) →
    ∃ (v0 : (c : Dev Cert.MixPreKernelIdeal.nD) → Buf (Elt Ideal) ((c.tc : Thread Cert.MixPreKernelIdeal.nD Cert.MixPreKernelIdeal.τ).loc Cert.MixPreKernelIdeal.main_v7_0)) (v1 : (c : Dev Cert.MixPreKernelIdeal.nD) → Buf (Elt Ideal) ((c.tc : Thread Cert.MixPreKernelIdeal.nD Cert.MixPreKernelIdeal.τ).loc Cert.MixPreKernelIdeal.main_v7_1)),
      θ_run (Cert.MixPreKernelIdeal.defs (F := Ideal)) (onTc (τ := Cert.MixPreKernelIdeal.τ) (Cert.MixPreKernelIdeal.main (F := Ideal))) ⟨m, fun _ => 0, g⟩ (fun r => ∀ c : Dev Cert.MixPreKernelIdeal.nD,
          r.2.mem ((c.tc : Thread Cert.MixPreKernelIdeal.nD Cert.MixPreKernelIdeal.τ).loc Cert.MixPreKernelIdeal.main_v7_0) = v0 c
          ∧ r.2.mem ((c.tc : Thread Cert.MixPreKernelIdeal.nD Cert.MixPreKernelIdeal.τ).loc Cert.MixPreKernelIdeal.main_v7_1) = v1 c
          ∧ r.2.mem ((c.tc : Thread Cert.MixPreKernelIdeal.nD Cert.MixPreKernelIdeal.τ).loc Cert.MixPreKernelIdeal.main_arg0) = m ((c.tc : Thread Cert.MixPreKernelIdeal.nD Cert.MixPreKernelIdeal.τ).loc Cert.MixPreKernelIdeal.main_arg0)
          ∧ r.2.mem ((c.tc : Thread Cert.MixPreKernelIdeal.nD Cert.MixPreKernelIdeal.τ).loc Cert.MixPreKernelIdeal.main_arg1) = m ((c.tc : Thread Cert.MixPreKernelIdeal.nD Cert.MixPreKernelIdeal.τ).loc Cert.MixPreKernelIdeal.main_arg1)
          ∧ r.2.mem ((c.tc : Thread Cert.MixPreKernelIdeal.nD Cert.MixPreKernelIdeal.τ).loc Cert.MixPreKernelIdeal.main_arg2) = m ((c.tc : Thread Cert.MixPreKernelIdeal.nD Cert.MixPreKernelIdeal.τ).loc Cert.MixPreKernelIdeal.main_arg2)
          ∧ r.2.mem ((c.tc : Thread Cert.MixPreKernelIdeal.nD Cert.MixPreKernelIdeal.τ).loc Cert.MixPreKernelIdeal.main_arg3) = m ((c.tc : Thread Cert.MixPreKernelIdeal.nD Cert.MixPreKernelIdeal.τ).loc Cert.MixPreKernelIdeal.main_arg3)
          ∧ r.2.mem ((c.tc : Thread Cert.MixPreKernelIdeal.nD Cert.MixPreKernelIdeal.τ).loc Cert.MixPreKernelIdeal.main_arg4) = m ((c.tc : Thread Cert.MixPreKernelIdeal.nD Cert.MixPreKernelIdeal.τ).loc Cert.MixPreKernelIdeal.main_arg4))
      ∧ θ_run (Cert.MixPreReferenceIdeal.defs (F := Ideal)) (onTc (τ := Cert.MixPreReferenceIdeal.τ) (Cert.MixPreReferenceIdeal.main (F := Ideal))) ⟨m', fun _ => 0, g'⟩ (fun r => ∀ c : Dev Cert.MixPreReferenceIdeal.nD,
          r.2.mem ((c.tc : Thread Cert.MixPreReferenceIdeal.nD Cert.MixPreReferenceIdeal.τ).loc Cert.MixPreReferenceIdeal.main_v38) = v0 c
          ∧ r.2.mem ((c.tc : Thread Cert.MixPreReferenceIdeal.nD Cert.MixPreReferenceIdeal.τ).loc Cert.MixPreReferenceIdeal.main_v39) = v1 c
          ∧ r.2.mem ((c.tc : Thread Cert.MixPreReferenceIdeal.nD Cert.MixPreReferenceIdeal.τ).loc Cert.MixPreReferenceIdeal.main_arg0) = m' ((c.tc : Thread Cert.MixPreReferenceIdeal.nD Cert.MixPreReferenceIdeal.τ).loc Cert.MixPreReferenceIdeal.main_arg0)
          ∧ r.2.mem ((c.tc : Thread Cert.MixPreReferenceIdeal.nD Cert.MixPreReferenceIdeal.τ).loc Cert.MixPreReferenceIdeal.main_arg1) = m' ((c.tc : Thread Cert.MixPreReferenceIdeal.nD Cert.MixPreReferenceIdeal.τ).loc Cert.MixPreReferenceIdeal.main_arg1)
          ∧ r.2.mem ((c.tc : Thread Cert.MixPreReferenceIdeal.nD Cert.MixPreReferenceIdeal.τ).loc Cert.MixPreReferenceIdeal.main_arg2) = m' ((c.tc : Thread Cert.MixPreReferenceIdeal.nD Cert.MixPreReferenceIdeal.τ).loc Cert.MixPreReferenceIdeal.main_arg2)
          ∧ r.2.mem ((c.tc : Thread Cert.MixPreReferenceIdeal.nD Cert.MixPreReferenceIdeal.τ).loc Cert.MixPreReferenceIdeal.main_arg3) = m' ((c.tc : Thread Cert.MixPreReferenceIdeal.nD Cert.MixPreReferenceIdeal.τ).loc Cert.MixPreReferenceIdeal.main_arg3)
          ∧ r.2.mem ((c.tc : Thread Cert.MixPreReferenceIdeal.nD Cert.MixPreReferenceIdeal.τ).loc Cert.MixPreReferenceIdeal.main_arg4) = m' ((c.tc : Thread Cert.MixPreReferenceIdeal.nD Cert.MixPreReferenceIdeal.τ).loc Cert.MixPreReferenceIdeal.main_arg4))

def preserves_RopeKernel_RopeKernelIdeal : Prop :=
  True

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2)) (v1 : (c : Dev Cert.LossKernelIdeal.nD) → Buf (Elt Ideal) ((c.tc : Thread Cert.LossKernelIdeal.nD Cert.LossKernelIdeal.τ).loc Cert.LossKernelIdeal.main_v0_0)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2) = v0 c
          ∧ r.2.mem ((c.tc : Thread Cert.LossKernelIdeal.nD Cert.LossKernelIdeal.τ).loc Cert.LossKernelIdeal.main_v0_0) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_NormKvKernel_NormKvKernelIdeal : Prop :=
  True

def algebraic_NormKvKernelIdeal_NormKvReferenceIdeal [hNormKvKernelIdeal : Cert.NormKvKernelIdeal.Facts] [hNormKvReferenceIdeal : Cert.NormKvReferenceIdeal.Facts] : Prop :=
  ∀ (m : (ℓ : Loc Cert.NormKvKernelIdeal.nD Cert.NormKvKernelIdeal.τ Cert.NormKvKernelIdeal.sig) → Buf (Elt Ideal) ℓ) (g : Dev Cert.NormKvKernelIdeal.nD → PrngReg)
    (m' : (ℓ : Loc Cert.NormKvReferenceIdeal.nD Cert.NormKvReferenceIdeal.τ Cert.NormKvReferenceIdeal.sig) → Buf (Elt Ideal) ℓ) (g' : Dev Cert.NormKvReferenceIdeal.nD → PrngReg), Pre_NormKvKernelIdeal m →
    (∀ c : Dev Cert.NormKvKernelIdeal.nD,
      m' ((c.tc : Thread Cert.NormKvReferenceIdeal.nD Cert.NormKvReferenceIdeal.τ).loc Cert.NormKvReferenceIdeal.main_arg0) = m ((c.tc : Thread Cert.NormKvKernelIdeal.nD Cert.NormKvKernelIdeal.τ).loc Cert.NormKvKernelIdeal.main_arg0)
      ∧ m' ((c.tc : Thread Cert.NormKvReferenceIdeal.nD Cert.NormKvReferenceIdeal.τ).loc Cert.NormKvReferenceIdeal.main_arg1) = m ((c.tc : Thread Cert.NormKvKernelIdeal.nD Cert.NormKvKernelIdeal.τ).loc Cert.NormKvKernelIdeal.main_arg1)
      ∧ m' ((c.tc : Thread Cert.NormKvReferenceIdeal.nD Cert.NormKvReferenceIdeal.τ).loc Cert.NormKvReferenceIdeal.main_arg2) = m ((c.tc : Thread Cert.NormKvKernelIdeal.nD Cert.NormKvKernelIdeal.τ).loc Cert.NormKvKernelIdeal.main_arg2)) →
    ∃ (v0 : (c : Dev Cert.NormKvKernelIdeal.nD) → Buf (Elt Ideal) ((c.tc : Thread Cert.NormKvKernelIdeal.nD Cert.NormKvKernelIdeal.τ).loc Cert.NormKvKernelIdeal.main_v2_0)) (v1 : (c : Dev Cert.NormKvKernelIdeal.nD) → Buf (Elt Ideal) ((c.tc : Thread Cert.NormKvKernelIdeal.nD Cert.NormKvKernelIdeal.τ).loc Cert.NormKvKernelIdeal.main_v2_1)),
      θ_run (Cert.NormKvKernelIdeal.defs (F := Ideal)) (onTc (τ := Cert.NormKvKernelIdeal.τ) (Cert.NormKvKernelIdeal.main (F := Ideal))) ⟨m, fun _ => 0, g⟩ (fun r => ∀ c : Dev Cert.NormKvKernelIdeal.nD,
          r.2.mem ((c.tc : Thread Cert.NormKvKernelIdeal.nD Cert.NormKvKernelIdeal.τ).loc Cert.NormKvKernelIdeal.main_v2_0) = v0 c
          ∧ r.2.mem ((c.tc : Thread Cert.NormKvKernelIdeal.nD Cert.NormKvKernelIdeal.τ).loc Cert.NormKvKernelIdeal.main_v2_1) = v1 c
          ∧ r.2.mem ((c.tc : Thread Cert.NormKvKernelIdeal.nD Cert.NormKvKernelIdeal.τ).loc Cert.NormKvKernelIdeal.main_arg0) = m ((c.tc : Thread Cert.NormKvKernelIdeal.nD Cert.NormKvKernelIdeal.τ).loc Cert.NormKvKernelIdeal.main_arg0)
          ∧ r.2.mem ((c.tc : Thread Cert.NormKvKernelIdeal.nD Cert.NormKvKernelIdeal.τ).loc Cert.NormKvKernelIdeal.main_arg1) = m ((c.tc : Thread Cert.NormKvKernelIdeal.nD Cert.NormKvKernelIdeal.τ).loc Cert.NormKvKernelIdeal.main_arg1)
          ∧ r.2.mem ((c.tc : Thread Cert.NormKvKernelIdeal.nD Cert.NormKvKernelIdeal.τ).loc Cert.NormKvKernelIdeal.main_arg2) = m ((c.tc : Thread Cert.NormKvKernelIdeal.nD Cert.NormKvKernelIdeal.τ).loc Cert.NormKvKernelIdeal.main_arg2))
      ∧ θ_run (Cert.NormKvReferenceIdeal.defs (F := Ideal)) (onTc (τ := Cert.NormKvReferenceIdeal.τ) (Cert.NormKvReferenceIdeal.main (F := Ideal))) ⟨m', fun _ => 0, g'⟩ (fun r => ∀ c : Dev Cert.NormKvReferenceIdeal.nD,
          r.2.mem ((c.tc : Thread Cert.NormKvReferenceIdeal.nD Cert.NormKvReferenceIdeal.τ).loc Cert.NormKvReferenceIdeal.main_v14) = v0 c
          ∧ r.2.mem ((c.tc : Thread Cert.NormKvReferenceIdeal.nD Cert.NormKvReferenceIdeal.τ).loc Cert.NormKvReferenceIdeal.main_v15) = v1 c
          ∧ r.2.mem ((c.tc : Thread Cert.NormKvReferenceIdeal.nD Cert.NormKvReferenceIdeal.τ).loc Cert.NormKvReferenceIdeal.main_arg0) = m' ((c.tc : Thread Cert.NormKvReferenceIdeal.nD Cert.NormKvReferenceIdeal.τ).loc Cert.NormKvReferenceIdeal.main_arg0)
          ∧ r.2.mem ((c.tc : Thread Cert.NormKvReferenceIdeal.nD Cert.NormKvReferenceIdeal.τ).loc Cert.NormKvReferenceIdeal.main_arg1) = m' ((c.tc : Thread Cert.NormKvReferenceIdeal.nD Cert.NormKvReferenceIdeal.τ).loc Cert.NormKvReferenceIdeal.main_arg1)
          ∧ r.2.mem ((c.tc : Thread Cert.NormKvReferenceIdeal.nD Cert.NormKvReferenceIdeal.τ).loc Cert.NormKvReferenceIdeal.main_arg2) = m' ((c.tc : Thread Cert.NormKvReferenceIdeal.nD Cert.NormKvReferenceIdeal.τ).loc Cert.NormKvReferenceIdeal.main_arg2))

def preserves_FfnFwdKernel_FfnFwdKernelIdeal : Prop :=
  True

def algebraic_FfnFwdKernelIdeal_FfnFwdReferenceIdeal [hFfnFwdKernelIdeal : Cert.FfnFwdKernelIdeal.Facts] [hFfnFwdReferenceIdeal : Cert.FfnFwdReferenceIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdKernelIdeal m →
    (∀ c : Dev Cert.FfnFwdKernelIdeal.nD,
      m' ((c.tc : Thread Cert.FfnFwdReferenceIdeal.nD Cert.FfnFwdReferenceIdeal.τ).loc Cert.FfnFwdReferenceIdeal.main_arg0) = m ((c.tc : Thread Cert.FfnFwdKernelIdeal.nD Cert.FfnFwdKernelIdeal.τ).loc Cert.FfnFwdKernelIdeal.main_arg0)
      ∧ m' ((c.tc : Thread Cert.FfnFwdReferenceIdeal.nD Cert.FfnFwdReferenceIdeal.τ).loc Cert.FfnFwdReferenceIdeal.main_arg1) = m ((c.tc : Thread Cert.FfnFwdKernelIdeal.nD Cert.FfnFwdKernelIdeal.τ).loc Cert.FfnFwdKernelIdeal.main_arg1)
      ∧ m' ((c.tc : Thread Cert.FfnFwdReferenceIdeal.nD Cert.FfnFwdReferenceIdeal.τ).loc Cert.FfnFwdReferenceIdeal.main_arg2) = m ((c.tc : Thread Cert.FfnFwdKernelIdeal.nD Cert.FfnFwdKernelIdeal.τ).loc Cert.FfnFwdKernelIdeal.main_arg2)
      ∧ m' ((c.tc : Thread Cert.FfnFwdReferenceIdeal.nD Cert.FfnFwdReferenceIdeal.τ).loc Cert.FfnFwdReferenceIdeal.main_arg3) = m ((c.tc : Thread Cert.FfnFwdKernelIdeal.nD Cert.FfnFwdKernelIdeal.τ).loc Cert.FfnFwdKernelIdeal.main_arg3)
      ∧ m' ((c.tc : Thread Cert.FfnFwdReferenceIdeal.nD Cert.FfnFwdReferenceIdeal.τ).loc Cert.FfnFwdReferenceIdeal.main_arg4) = m ((c.tc : Thread Cert.FfnFwdKernelIdeal.nD Cert.FfnFwdKernelIdeal.τ).loc Cert.FfnFwdKernelIdeal.main_arg4)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v3_0)) (v1 : (c : Dev Cert.FfnFwdKernelIdeal.nD) → Buf (Elt Ideal) ((c.tc : Thread Cert.FfnFwdKernelIdeal.nD Cert.FfnFwdKernelIdeal.τ).loc Cert.FfnFwdKernelIdeal.main_v3_1)) (v2 : (c : Dev Cert.FfnFwdKernelIdeal.nD) → Buf (Elt Ideal) ((c.tc : Thread Cert.FfnFwdKernelIdeal.nD Cert.FfnFwdKernelIdeal.τ).loc Cert.FfnFwdKernelIdeal.main_v3_2)) (v3 : (c : Dev Cert.FfnFwdKernelIdeal.nD) → Buf (Elt Ideal) ((c.tc : Thread Cert.FfnFwdKernelIdeal.nD Cert.FfnFwdKernelIdeal.τ).loc Cert.FfnFwdKernelIdeal.main_v3_3)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v3_0) = v0 c
          ∧ r.2.mem ((c.tc : Thread Cert.FfnFwdKernelIdeal.nD Cert.FfnFwdKernelIdeal.τ).loc Cert.FfnFwdKernelIdeal.main_v3_1) = v1 c
          ∧ r.2.mem ((c.tc : Thread Cert.FfnFwdKernelIdeal.nD Cert.FfnFwdKernelIdeal.τ).loc Cert.FfnFwdKernelIdeal.main_v3_2) = v2 c
          ∧ r.2.mem ((c.tc : Thread Cert.FfnFwdKernelIdeal.nD Cert.FfnFwdKernelIdeal.τ).loc Cert.FfnFwdKernelIdeal.main_v3_3) = v3 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v28) = v0 c
          ∧ r.2.mem ((c.tc : Thread Cert.FfnFwdReferenceIdeal.nD Cert.FfnFwdReferenceIdeal.τ).loc Cert.FfnFwdReferenceIdeal.main_v27) = v1 c
          ∧ r.2.mem ((c.tc : Thread Cert.FfnFwdReferenceIdeal.nD Cert.FfnFwdReferenceIdeal.τ).loc Cert.FfnFwdReferenceIdeal.main_v42) = v2 c
          ∧ r.2.mem ((c.tc : Thread Cert.FfnFwdReferenceIdeal.nD Cert.FfnFwdReferenceIdeal.τ).loc Cert.FfnFwdReferenceIdeal.main_v43) = v3 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4))

def preserves_MergeFwdKernel_MergeFwdKernelIdeal : Prop :=
  True

def algebraic_MergeFwdKernelIdeal_MergeFwdReferenceIdeal [hMergeFwdKernelIdeal : Cert.MergeFwdKernelIdeal.Facts] [hMergeFwdReferenceIdeal : Cert.MergeFwdReferenceIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdKernelIdeal m →
    (∀ c : Dev Cert.MergeFwdKernelIdeal.nD,
      m' ((c.tc : Thread Cert.MergeFwdReferenceIdeal.nD Cert.MergeFwdReferenceIdeal.τ).loc Cert.MergeFwdReferenceIdeal.main_arg0) = m ((c.tc : Thread Cert.MergeFwdKernelIdeal.nD Cert.MergeFwdKernelIdeal.τ).loc Cert.MergeFwdKernelIdeal.main_arg0)
      ∧ m' ((c.tc : Thread Cert.MergeFwdReferenceIdeal.nD Cert.MergeFwdReferenceIdeal.τ).loc Cert.MergeFwdReferenceIdeal.main_arg1) = m ((c.tc : Thread Cert.MergeFwdKernelIdeal.nD Cert.MergeFwdKernelIdeal.τ).loc Cert.MergeFwdKernelIdeal.main_arg1)
      ∧ m' ((c.tc : Thread Cert.MergeFwdReferenceIdeal.nD Cert.MergeFwdReferenceIdeal.τ).loc Cert.MergeFwdReferenceIdeal.main_arg2) = m ((c.tc : Thread Cert.MergeFwdKernelIdeal.nD Cert.MergeFwdKernelIdeal.τ).loc Cert.MergeFwdKernelIdeal.main_arg2)
      ∧ m' ((c.tc : Thread Cert.MergeFwdReferenceIdeal.nD Cert.MergeFwdReferenceIdeal.τ).loc Cert.MergeFwdReferenceIdeal.main_arg3) = m ((c.tc : Thread Cert.MergeFwdKernelIdeal.nD Cert.MergeFwdKernelIdeal.τ).loc Cert.MergeFwdKernelIdeal.main_arg3)
      ∧ m' ((c.tc : Thread Cert.MergeFwdReferenceIdeal.nD Cert.MergeFwdReferenceIdeal.τ).loc Cert.MergeFwdReferenceIdeal.main_arg4) = m ((c.tc : Thread Cert.MergeFwdKernelIdeal.nD Cert.MergeFwdKernelIdeal.τ).loc Cert.MergeFwdKernelIdeal.main_arg4)
      ∧ m' ((c.tc : Thread Cert.MergeFwdReferenceIdeal.nD Cert.MergeFwdReferenceIdeal.τ).loc Cert.MergeFwdReferenceIdeal.main_arg5) = m ((c.tc : Thread Cert.MergeFwdKernelIdeal.nD Cert.MergeFwdKernelIdeal.τ).loc Cert.MergeFwdKernelIdeal.main_arg5)
      ∧ m' ((c.tc : Thread Cert.MergeFwdReferenceIdeal.nD Cert.MergeFwdReferenceIdeal.τ).loc Cert.MergeFwdReferenceIdeal.main_arg6) = m ((c.tc : Thread Cert.MergeFwdKernelIdeal.nD Cert.MergeFwdKernelIdeal.τ).loc Cert.MergeFwdKernelIdeal.main_arg6)
      ∧ m' ((c.tc : Thread Cert.MergeFwdReferenceIdeal.nD Cert.MergeFwdReferenceIdeal.τ).loc Cert.MergeFwdReferenceIdeal.main_arg7) = m ((c.tc : Thread Cert.MergeFwdKernelIdeal.nD Cert.MergeFwdKernelIdeal.τ).loc Cert.MergeFwdKernelIdeal.main_arg7)
      ∧ m' ((c.tc : Thread Cert.MergeFwdReferenceIdeal.nD Cert.MergeFwdReferenceIdeal.τ).loc Cert.MergeFwdReferenceIdeal.main_arg8) = m ((c.tc : Thread Cert.MergeFwdKernelIdeal.nD Cert.MergeFwdKernelIdeal.τ).loc Cert.MergeFwdKernelIdeal.main_arg8)
      ∧ m' ((c.tc : Thread Cert.MergeFwdReferenceIdeal.nD Cert.MergeFwdReferenceIdeal.τ).loc Cert.MergeFwdReferenceIdeal.main_arg9) = m ((c.tc : Thread Cert.MergeFwdKernelIdeal.nD Cert.MergeFwdKernelIdeal.τ).loc Cert.MergeFwdKernelIdeal.main_arg9)) →
    ∃ (v0 : (c : Dev Cert.MergeFwdKernelIdeal.nD) → Buf (Elt Ideal) ((c.tc : Thread Cert.MergeFwdKernelIdeal.nD Cert.MergeFwdKernelIdeal.τ).loc Cert.MergeFwdKernelIdeal.main_v15_0)) (v1 : (c : Dev Cert.MergeFwdKernelIdeal.nD) → Buf (Elt Ideal) ((c.tc : Thread Cert.MergeFwdKernelIdeal.nD Cert.MergeFwdKernelIdeal.τ).loc Cert.MergeFwdKernelIdeal.main_v15_1)) (v2 : (c : Dev Cert.MergeFwdKernelIdeal.nD) → Buf (Elt Ideal) ((c.tc : Thread Cert.MergeFwdKernelIdeal.nD Cert.MergeFwdKernelIdeal.τ).loc Cert.MergeFwdKernelIdeal.main_v15_2)),
      θ_run (Cert.MergeFwdKernelIdeal.defs (F := Ideal)) (onTc (τ := Cert.MergeFwdKernelIdeal.τ) (Cert.MergeFwdKernelIdeal.main (F := Ideal))) ⟨m, fun _ => 0, g⟩ (fun r => ∀ c : Dev Cert.MergeFwdKernelIdeal.nD,
          r.2.mem ((c.tc : Thread Cert.MergeFwdKernelIdeal.nD Cert.MergeFwdKernelIdeal.τ).loc Cert.MergeFwdKernelIdeal.main_v15_0) = v0 c
          ∧ r.2.mem ((c.tc : Thread Cert.MergeFwdKernelIdeal.nD Cert.MergeFwdKernelIdeal.τ).loc Cert.MergeFwdKernelIdeal.main_v15_1) = v1 c
          ∧ r.2.mem ((c.tc : Thread Cert.MergeFwdKernelIdeal.nD Cert.MergeFwdKernelIdeal.τ).loc Cert.MergeFwdKernelIdeal.main_v15_2) = v2 c
          ∧ r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
          ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
          ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
          ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
          ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
          ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
          ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
          ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7)
          ∧ r.2.mem ((c.tc : Thread Cert.MergeFwdKernelIdeal.nD Cert.MergeFwdKernelIdeal.τ).loc Cert.MergeFwdKernelIdeal.main_arg8) = m ((c.tc : Thread Cert.MergeFwdKernelIdeal.nD Cert.MergeFwdKernelIdeal.τ).loc Cert.MergeFwdKernelIdeal.main_arg8)
          ∧ r.2.mem ((c.tc : Thread Cert.MergeFwdKernelIdeal.nD Cert.MergeFwdKernelIdeal.τ).loc Cert.MergeFwdKernelIdeal.main_arg9) = m ((c.tc : Thread Cert.MergeFwdKernelIdeal.nD Cert.MergeFwdKernelIdeal.τ).loc Cert.MergeFwdKernelIdeal.main_arg9))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v23) = v0 c
          ∧ r.2.mem ((c.tc : Thread Cert.MergeFwdReferenceIdeal.nD Cert.MergeFwdReferenceIdeal.τ).loc Cert.MergeFwdReferenceIdeal.main_v22) = v1 c
          ∧ r.2.mem ((c.tc : Thread Cert.MergeFwdReferenceIdeal.nD Cert.MergeFwdReferenceIdeal.τ).loc Cert.MergeFwdReferenceIdeal.main_v37) = v2 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6)
          ∧ r.2.mem ((c.tc : Thread Cert.MergeFwdReferenceIdeal.nD Cert.MergeFwdReferenceIdeal.τ).loc Cert.MergeFwdReferenceIdeal.main_arg7) = m' ((c.tc : Thread Cert.MergeFwdReferenceIdeal.nD Cert.MergeFwdReferenceIdeal.τ).loc Cert.MergeFwdReferenceIdeal.main_arg7)
          ∧ r.2.mem ((c.tc : Thread Cert.MergeFwdReferenceIdeal.nD Cert.MergeFwdReferenceIdeal.τ).loc Cert.MergeFwdReferenceIdeal.main_arg8) = m' ((c.tc : Thread Cert.MergeFwdReferenceIdeal.nD Cert.MergeFwdReferenceIdeal.τ).loc Cert.MergeFwdReferenceIdeal.main_arg8)
          ∧ r.2.mem ((c.tc : Thread Cert.MergeFwdReferenceIdeal.nD Cert.MergeFwdReferenceIdeal.τ).loc Cert.MergeFwdReferenceIdeal.main_arg9) = m' ((c.tc : Thread Cert.MergeFwdReferenceIdeal.nD Cert.MergeFwdReferenceIdeal.τ).loc Cert.MergeFwdReferenceIdeal.main_arg9))

def preserves_ProdTnKernel_ProdTnKernelIdeal : Prop :=
  True

def algebraic_ProdTnKernelIdeal_ProdTnReferenceIdeal [hProdTnKernelIdeal : Cert.ProdTnKernelIdeal.Facts] [hProdTnReferenceIdeal : Cert.ProdTnReferenceIdeal.Facts] : Prop :=
  ∀ (m : (ℓ : Loc Cert.ProdTnKernelIdeal.nD Cert.ProdTnKernelIdeal.τ Cert.ProdTnKernelIdeal.sig) → Buf (Elt Ideal) ℓ) (g : Dev Cert.ProdTnKernelIdeal.nD → PrngReg)
    (m' : (ℓ : Loc Cert.ProdTnReferenceIdeal.nD Cert.ProdTnReferenceIdeal.τ Cert.ProdTnReferenceIdeal.sig) → Buf (Elt Ideal) ℓ) (g' : Dev Cert.ProdTnReferenceIdeal.nD → PrngReg), Pre_ProdTnKernelIdeal m →
    (∀ c : Dev Cert.ProdTnKernelIdeal.nD,
      m' ((c.tc : Thread Cert.ProdTnReferenceIdeal.nD Cert.ProdTnReferenceIdeal.τ).loc Cert.ProdTnReferenceIdeal.main_arg0) = m ((c.tc : Thread Cert.ProdTnKernelIdeal.nD Cert.ProdTnKernelIdeal.τ).loc Cert.ProdTnKernelIdeal.main_arg0)
      ∧ m' ((c.tc : Thread Cert.ProdTnReferenceIdeal.nD Cert.ProdTnReferenceIdeal.τ).loc Cert.ProdTnReferenceIdeal.main_arg1) = m ((c.tc : Thread Cert.ProdTnKernelIdeal.nD Cert.ProdTnKernelIdeal.τ).loc Cert.ProdTnKernelIdeal.main_arg1)) →
    ∃ (v0 : (c : Dev Cert.ProdTnKernelIdeal.nD) → Buf (Elt Ideal) ((c.tc : Thread Cert.ProdTnKernelIdeal.nD Cert.ProdTnKernelIdeal.τ).loc Cert.ProdTnKernelIdeal.main_v5)),
      θ_run (Cert.ProdTnKernelIdeal.defs (F := Ideal)) (onTc (τ := Cert.ProdTnKernelIdeal.τ) (Cert.ProdTnKernelIdeal.main (F := Ideal))) ⟨m, fun _ => 0, g⟩ (fun r => ∀ c : Dev Cert.ProdTnKernelIdeal.nD,
          r.2.mem ((c.tc : Thread Cert.ProdTnKernelIdeal.nD Cert.ProdTnKernelIdeal.τ).loc Cert.ProdTnKernelIdeal.main_v5) = v0 c
          ∧ r.2.mem ((c.tc : Thread Cert.ProdTnKernelIdeal.nD Cert.ProdTnKernelIdeal.τ).loc Cert.ProdTnKernelIdeal.main_arg0) = m ((c.tc : Thread Cert.ProdTnKernelIdeal.nD Cert.ProdTnKernelIdeal.τ).loc Cert.ProdTnKernelIdeal.main_arg0)
          ∧ r.2.mem ((c.tc : Thread Cert.ProdTnKernelIdeal.nD Cert.ProdTnKernelIdeal.τ).loc Cert.ProdTnKernelIdeal.main_arg1) = m ((c.tc : Thread Cert.ProdTnKernelIdeal.nD Cert.ProdTnKernelIdeal.τ).loc Cert.ProdTnKernelIdeal.main_arg1))
      ∧ θ_run (Cert.ProdTnReferenceIdeal.defs (F := Ideal)) (onTc (τ := Cert.ProdTnReferenceIdeal.τ) (Cert.ProdTnReferenceIdeal.main (F := Ideal))) ⟨m', fun _ => 0, g'⟩ (fun r => ∀ c : Dev Cert.ProdTnReferenceIdeal.nD,
          r.2.mem ((c.tc : Thread Cert.ProdTnReferenceIdeal.nD Cert.ProdTnReferenceIdeal.τ).loc Cert.ProdTnReferenceIdeal.main_v5) = v0 c
          ∧ r.2.mem ((c.tc : Thread Cert.ProdTnReferenceIdeal.nD Cert.ProdTnReferenceIdeal.τ).loc Cert.ProdTnReferenceIdeal.main_arg0) = m' ((c.tc : Thread Cert.ProdTnReferenceIdeal.nD Cert.ProdTnReferenceIdeal.τ).loc Cert.ProdTnReferenceIdeal.main_arg0)
          ∧ r.2.mem ((c.tc : Thread Cert.ProdTnReferenceIdeal.nD Cert.ProdTnReferenceIdeal.τ).loc Cert.ProdTnReferenceIdeal.main_arg1) = m' ((c.tc : Thread Cert.ProdTnReferenceIdeal.nD Cert.ProdTnReferenceIdeal.τ).loc Cert.ProdTnReferenceIdeal.main_arg1))

def preserves_ProdNtKernel_ProdNtKernelIdeal : Prop :=
  True

def algebraic_ProdNtKernelIdeal_ProdNtReferenceIdeal [hProdNtKernelIdeal : Cert.ProdNtKernelIdeal.Facts] [hProdNtReferenceIdeal : Cert.ProdNtReferenceIdeal.Facts] : Prop :=
  ∀ (m : (ℓ : Loc Cert.ProdNtKernelIdeal.nD Cert.ProdNtKernelIdeal.τ Cert.ProdNtKernelIdeal.sig) → Buf (Elt Ideal) ℓ) (g : Dev Cert.ProdNtKernelIdeal.nD → PrngReg)
    (m' : (ℓ : Loc Cert.ProdNtReferenceIdeal.nD Cert.ProdNtReferenceIdeal.τ Cert.ProdNtReferenceIdeal.sig) → Buf (Elt Ideal) ℓ) (g' : Dev Cert.ProdNtReferenceIdeal.nD → PrngReg), Pre_ProdNtKernelIdeal m →
    (∀ c : Dev Cert.ProdNtKernelIdeal.nD,
      m' ((c.tc : Thread Cert.ProdNtReferenceIdeal.nD Cert.ProdNtReferenceIdeal.τ).loc Cert.ProdNtReferenceIdeal.main_arg0) = m ((c.tc : Thread Cert.ProdNtKernelIdeal.nD Cert.ProdNtKernelIdeal.τ).loc Cert.ProdNtKernelIdeal.main_arg0)
      ∧ m' ((c.tc : Thread Cert.ProdNtReferenceIdeal.nD Cert.ProdNtReferenceIdeal.τ).loc Cert.ProdNtReferenceIdeal.main_arg1) = m ((c.tc : Thread Cert.ProdNtKernelIdeal.nD Cert.ProdNtKernelIdeal.τ).loc Cert.ProdNtKernelIdeal.main_arg1)) →
    ∃ (v0 : (c : Dev Cert.ProdNtKernelIdeal.nD) → Buf (Elt Ideal) ((c.tc : Thread Cert.ProdNtKernelIdeal.nD Cert.ProdNtKernelIdeal.τ).loc Cert.ProdNtKernelIdeal.main_v2)),
      θ_run (Cert.ProdNtKernelIdeal.defs (F := Ideal)) (onTc (τ := Cert.ProdNtKernelIdeal.τ) (Cert.ProdNtKernelIdeal.main (F := Ideal))) ⟨m, fun _ => 0, g⟩ (fun r => ∀ c : Dev Cert.ProdNtKernelIdeal.nD,
          r.2.mem ((c.tc : Thread Cert.ProdNtKernelIdeal.nD Cert.ProdNtKernelIdeal.τ).loc Cert.ProdNtKernelIdeal.main_v2) = v0 c
          ∧ r.2.mem ((c.tc : Thread Cert.ProdNtKernelIdeal.nD Cert.ProdNtKernelIdeal.τ).loc Cert.ProdNtKernelIdeal.main_arg0) = m ((c.tc : Thread Cert.ProdNtKernelIdeal.nD Cert.ProdNtKernelIdeal.τ).loc Cert.ProdNtKernelIdeal.main_arg0)
          ∧ r.2.mem ((c.tc : Thread Cert.ProdNtKernelIdeal.nD Cert.ProdNtKernelIdeal.τ).loc Cert.ProdNtKernelIdeal.main_arg1) = m ((c.tc : Thread Cert.ProdNtKernelIdeal.nD Cert.ProdNtKernelIdeal.τ).loc Cert.ProdNtKernelIdeal.main_arg1))
      ∧ θ_run (Cert.ProdNtReferenceIdeal.defs (F := Ideal)) (onTc (τ := Cert.ProdNtReferenceIdeal.τ) (Cert.ProdNtReferenceIdeal.main (F := Ideal))) ⟨m', fun _ => 0, g'⟩ (fun r => ∀ c : Dev Cert.ProdNtReferenceIdeal.nD,
          r.2.mem ((c.tc : Thread Cert.ProdNtReferenceIdeal.nD Cert.ProdNtReferenceIdeal.τ).loc Cert.ProdNtReferenceIdeal.main_v2) = v0 c
          ∧ r.2.mem ((c.tc : Thread Cert.ProdNtReferenceIdeal.nD Cert.ProdNtReferenceIdeal.τ).loc Cert.ProdNtReferenceIdeal.main_arg0) = m' ((c.tc : Thread Cert.ProdNtReferenceIdeal.nD Cert.ProdNtReferenceIdeal.τ).loc Cert.ProdNtReferenceIdeal.main_arg0)
          ∧ r.2.mem ((c.tc : Thread Cert.ProdNtReferenceIdeal.nD Cert.ProdNtReferenceIdeal.τ).loc Cert.ProdNtReferenceIdeal.main_arg1) = m' ((c.tc : Thread Cert.ProdNtReferenceIdeal.nD Cert.ProdNtReferenceIdeal.τ).loc Cert.ProdNtReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v4_0)) (v1 : (c : Dev Cert.AdamKernelIdeal.nD) → Buf (Elt Ideal) ((c.tc : Thread Cert.AdamKernelIdeal.nD Cert.AdamKernelIdeal.τ).loc Cert.AdamKernelIdeal.main_v4_1)) (v2 : (c : Dev Cert.AdamKernelIdeal.nD) → Buf (Elt Ideal) ((c.tc : Thread Cert.AdamKernelIdeal.nD Cert.AdamKernelIdeal.τ).loc Cert.AdamKernelIdeal.main_v4_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v4_0) = v0 c
          ∧ r.2.mem ((c.tc : Thread Cert.AdamKernelIdeal.nD Cert.AdamKernelIdeal.τ).loc Cert.AdamKernelIdeal.main_v4_1) = v1 c
          ∧ r.2.mem ((c.tc : Thread Cert.AdamKernelIdeal.nD Cert.AdamKernelIdeal.τ).loc Cert.AdamKernelIdeal.main_v4_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v24) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v26) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_AttnFwd0Kernel_AttnFwd0KernelIdeal : Prop :=
  IdealRules.named_const.Statement Cert.AttnFwd0KernelIdeal.κ "mask" .f32 0xF149F2CA#32 ⊥

def algebraic_AttnFwd0KernelIdeal_AttnFwd0ReferenceIdeal [hAttnFwd0KernelIdeal : Cert.AttnFwd0KernelIdeal.Facts] [hAttnFwd0ReferenceIdeal : Cert.AttnFwd0ReferenceIdeal.Facts] : Prop :=
  ∀ (m : (ℓ : Loc Cert.AttnFwd0KernelIdeal.nD Cert.AttnFwd0KernelIdeal.τ Cert.AttnFwd0KernelIdeal.sig) → Buf (Elt Ideal) ℓ) (g : Dev Cert.AttnFwd0KernelIdeal.nD → PrngReg)
    (m' : (ℓ : Loc Cert.AttnFwd0ReferenceIdeal.nD Cert.AttnFwd0ReferenceIdeal.τ Cert.AttnFwd0ReferenceIdeal.sig) → Buf (Elt Ideal) ℓ) (g' : Dev Cert.AttnFwd0ReferenceIdeal.nD → PrngReg), Pre_AttnFwd0KernelIdeal m →
    (∀ c : Dev Cert.AttnFwd0KernelIdeal.nD,
      m' ((c.tc : Thread Cert.AttnFwd0ReferenceIdeal.nD Cert.AttnFwd0ReferenceIdeal.τ).loc Cert.AttnFwd0ReferenceIdeal.main_arg0) = m ((c.tc : Thread Cert.AttnFwd0KernelIdeal.nD Cert.AttnFwd0KernelIdeal.τ).loc Cert.AttnFwd0KernelIdeal.main_arg0)
      ∧ m' ((c.tc : Thread Cert.AttnFwd0ReferenceIdeal.nD Cert.AttnFwd0ReferenceIdeal.τ).loc Cert.AttnFwd0ReferenceIdeal.main_arg1) = m ((c.tc : Thread Cert.AttnFwd0KernelIdeal.nD Cert.AttnFwd0KernelIdeal.τ).loc Cert.AttnFwd0KernelIdeal.main_arg1)
      ∧ m' ((c.tc : Thread Cert.AttnFwd0ReferenceIdeal.nD Cert.AttnFwd0ReferenceIdeal.τ).loc Cert.AttnFwd0ReferenceIdeal.main_arg2) = m ((c.tc : Thread Cert.AttnFwd0KernelIdeal.nD Cert.AttnFwd0KernelIdeal.τ).loc Cert.AttnFwd0KernelIdeal.main_arg2)) →
    ∃ (v0 : (c : Dev Cert.AttnFwd0KernelIdeal.nD) → Buf (Elt Ideal) ((c.tc : Thread Cert.AttnFwd0KernelIdeal.nD Cert.AttnFwd0KernelIdeal.τ).loc Cert.AttnFwd0KernelIdeal.main_v15_0)) (v1 : (c : Dev Cert.AttnFwd0KernelIdeal.nD) → Buf (Elt Ideal) ((c.tc : Thread Cert.AttnFwd0KernelIdeal.nD Cert.AttnFwd0KernelIdeal.τ).loc Cert.AttnFwd0KernelIdeal.main_v15_1)) (v2 : (c : Dev Cert.AttnFwd0KernelIdeal.nD) → Buf (Elt Ideal) ((c.tc : Thread Cert.AttnFwd0KernelIdeal.nD Cert.AttnFwd0KernelIdeal.τ).loc Cert.AttnFwd0KernelIdeal.main_v15_2)),
      θ_run (Cert.AttnFwd0KernelIdeal.defs (F := Ideal)) (onTc (τ := Cert.AttnFwd0KernelIdeal.τ) (Cert.AttnFwd0KernelIdeal.main (F := Ideal))) ⟨m, fun _ => 0, g⟩ (fun r => ∀ c : Dev Cert.AttnFwd0KernelIdeal.nD,
          r.2.mem ((c.tc : Thread Cert.AttnFwd0KernelIdeal.nD Cert.AttnFwd0KernelIdeal.τ).loc Cert.AttnFwd0KernelIdeal.main_v15_0) = v0 c
          ∧ r.2.mem ((c.tc : Thread Cert.AttnFwd0KernelIdeal.nD Cert.AttnFwd0KernelIdeal.τ).loc Cert.AttnFwd0KernelIdeal.main_v15_1) = v1 c
          ∧ r.2.mem ((c.tc : Thread Cert.AttnFwd0KernelIdeal.nD Cert.AttnFwd0KernelIdeal.τ).loc Cert.AttnFwd0KernelIdeal.main_v15_2) = v2 c
          ∧ r.2.mem ((c.tc : Thread Cert.AttnFwd0KernelIdeal.nD Cert.AttnFwd0KernelIdeal.τ).loc Cert.AttnFwd0KernelIdeal.main_arg0) = m ((c.tc : Thread Cert.AttnFwd0KernelIdeal.nD Cert.AttnFwd0KernelIdeal.τ).loc Cert.AttnFwd0KernelIdeal.main_arg0)
          ∧ r.2.mem ((c.tc : Thread Cert.AttnFwd0KernelIdeal.nD Cert.AttnFwd0KernelIdeal.τ).loc Cert.AttnFwd0KernelIdeal.main_arg1) = m ((c.tc : Thread Cert.AttnFwd0KernelIdeal.nD Cert.AttnFwd0KernelIdeal.τ).loc Cert.AttnFwd0KernelIdeal.main_arg1)
          ∧ r.2.mem ((c.tc : Thread Cert.AttnFwd0KernelIdeal.nD Cert.AttnFwd0KernelIdeal.τ).loc Cert.AttnFwd0KernelIdeal.main_arg2) = m ((c.tc : Thread Cert.AttnFwd0KernelIdeal.nD Cert.AttnFwd0KernelIdeal.τ).loc Cert.AttnFwd0KernelIdeal.main_arg2))
      ∧ θ_run (Cert.AttnFwd0ReferenceIdeal.defs (F := Ideal)) (onTc (τ := Cert.AttnFwd0ReferenceIdeal.τ) (Cert.AttnFwd0ReferenceIdeal.main (F := Ideal))) ⟨m', fun _ => 0, g'⟩ (fun r => ∀ c : Dev Cert.AttnFwd0ReferenceIdeal.nD,
          r.2.mem ((c.tc : Thread Cert.AttnFwd0ReferenceIdeal.nD Cert.AttnFwd0ReferenceIdeal.τ).loc Cert.AttnFwd0ReferenceIdeal.main_v48) = v0 c
          ∧ r.2.mem ((c.tc : Thread Cert.AttnFwd0ReferenceIdeal.nD Cert.AttnFwd0ReferenceIdeal.τ).loc Cert.AttnFwd0ReferenceIdeal.main_v51) = v1 c
          ∧ r.2.mem ((c.tc : Thread Cert.AttnFwd0ReferenceIdeal.nD Cert.AttnFwd0ReferenceIdeal.τ).loc Cert.AttnFwd0ReferenceIdeal.main_v54) = v2 c
          ∧ r.2.mem ((c.tc : Thread Cert.AttnFwd0ReferenceIdeal.nD Cert.AttnFwd0ReferenceIdeal.τ).loc Cert.AttnFwd0ReferenceIdeal.main_arg0) = m' ((c.tc : Thread Cert.AttnFwd0ReferenceIdeal.nD Cert.AttnFwd0ReferenceIdeal.τ).loc Cert.AttnFwd0ReferenceIdeal.main_arg0)
          ∧ r.2.mem ((c.tc : Thread Cert.AttnFwd0ReferenceIdeal.nD Cert.AttnFwd0ReferenceIdeal.τ).loc Cert.AttnFwd0ReferenceIdeal.main_arg1) = m' ((c.tc : Thread Cert.AttnFwd0ReferenceIdeal.nD Cert.AttnFwd0ReferenceIdeal.τ).loc Cert.AttnFwd0ReferenceIdeal.main_arg1)
          ∧ r.2.mem ((c.tc : Thread Cert.AttnFwd0ReferenceIdeal.nD Cert.AttnFwd0ReferenceIdeal.τ).loc Cert.AttnFwd0ReferenceIdeal.main_arg2) = m' ((c.tc : Thread Cert.AttnFwd0ReferenceIdeal.nD Cert.AttnFwd0ReferenceIdeal.τ).loc Cert.AttnFwd0ReferenceIdeal.main_arg2))

def preserves_AttnFwd1Kernel_AttnFwd1KernelIdeal : Prop :=
  IdealRules.named_const.Statement Cert.AttnFwd1KernelIdeal.κ "mask" .f32 0xF149F2CA#32 ⊥

def algebraic_AttnFwd1KernelIdeal_AttnFwd1ReferenceIdeal [hAttnFwd1KernelIdeal : Cert.AttnFwd1KernelIdeal.Facts] [hAttnFwd1ReferenceIdeal : Cert.AttnFwd1ReferenceIdeal.Facts] : Prop :=
  ∀ (m : (ℓ : Loc Cert.AttnFwd1KernelIdeal.nD Cert.AttnFwd1KernelIdeal.τ Cert.AttnFwd1KernelIdeal.sig) → Buf (Elt Ideal) ℓ) (g : Dev Cert.AttnFwd1KernelIdeal.nD → PrngReg)
    (m' : (ℓ : Loc Cert.AttnFwd1ReferenceIdeal.nD Cert.AttnFwd1ReferenceIdeal.τ Cert.AttnFwd1ReferenceIdeal.sig) → Buf (Elt Ideal) ℓ) (g' : Dev Cert.AttnFwd1ReferenceIdeal.nD → PrngReg), Pre_AttnFwd1KernelIdeal m →
    (∀ c : Dev Cert.AttnFwd1KernelIdeal.nD,
      m' ((c.tc : Thread Cert.AttnFwd1ReferenceIdeal.nD Cert.AttnFwd1ReferenceIdeal.τ).loc Cert.AttnFwd1ReferenceIdeal.main_arg0) = m ((c.tc : Thread Cert.AttnFwd1KernelIdeal.nD Cert.AttnFwd1KernelIdeal.τ).loc Cert.AttnFwd1KernelIdeal.main_arg0)
      ∧ m' ((c.tc : Thread Cert.AttnFwd1ReferenceIdeal.nD Cert.AttnFwd1ReferenceIdeal.τ).loc Cert.AttnFwd1ReferenceIdeal.main_arg1) = m ((c.tc : Thread Cert.AttnFwd1KernelIdeal.nD Cert.AttnFwd1KernelIdeal.τ).loc Cert.AttnFwd1KernelIdeal.main_arg1)
      ∧ m' ((c.tc : Thread Cert.AttnFwd1ReferenceIdeal.nD Cert.AttnFwd1ReferenceIdeal.τ).loc Cert.AttnFwd1ReferenceIdeal.main_arg2) = m ((c.tc : Thread Cert.AttnFwd1KernelIdeal.nD Cert.AttnFwd1KernelIdeal.τ).loc Cert.AttnFwd1KernelIdeal.main_arg2)) →
    ∃ (v0 : (c : Dev Cert.AttnFwd1KernelIdeal.nD) → Buf (Elt Ideal) ((c.tc : Thread Cert.AttnFwd1KernelIdeal.nD Cert.AttnFwd1KernelIdeal.τ).loc Cert.AttnFwd1KernelIdeal.main_v15_0)) (v1 : (c : Dev Cert.AttnFwd1KernelIdeal.nD) → Buf (Elt Ideal) ((c.tc : Thread Cert.AttnFwd1KernelIdeal.nD Cert.AttnFwd1KernelIdeal.τ).loc Cert.AttnFwd1KernelIdeal.main_v15_1)) (v2 : (c : Dev Cert.AttnFwd1KernelIdeal.nD) → Buf (Elt Ideal) ((c.tc : Thread Cert.AttnFwd1KernelIdeal.nD Cert.AttnFwd1KernelIdeal.τ).loc Cert.AttnFwd1KernelIdeal.main_v15_2)),
      θ_run (Cert.AttnFwd1KernelIdeal.defs (F := Ideal)) (onTc (τ := Cert.AttnFwd1KernelIdeal.τ) (Cert.AttnFwd1KernelIdeal.main (F := Ideal))) ⟨m, fun _ => 0, g⟩ (fun r => ∀ c : Dev Cert.AttnFwd1KernelIdeal.nD,
          r.2.mem ((c.tc : Thread Cert.AttnFwd1KernelIdeal.nD Cert.AttnFwd1KernelIdeal.τ).loc Cert.AttnFwd1KernelIdeal.main_v15_0) = v0 c
          ∧ r.2.mem ((c.tc : Thread Cert.AttnFwd1KernelIdeal.nD Cert.AttnFwd1KernelIdeal.τ).loc Cert.AttnFwd1KernelIdeal.main_v15_1) = v1 c
          ∧ r.2.mem ((c.tc : Thread Cert.AttnFwd1KernelIdeal.nD Cert.AttnFwd1KernelIdeal.τ).loc Cert.AttnFwd1KernelIdeal.main_v15_2) = v2 c
          ∧ r.2.mem ((c.tc : Thread Cert.AttnFwd1KernelIdeal.nD Cert.AttnFwd1KernelIdeal.τ).loc Cert.AttnFwd1KernelIdeal.main_arg0) = m ((c.tc : Thread Cert.AttnFwd1KernelIdeal.nD Cert.AttnFwd1KernelIdeal.τ).loc Cert.AttnFwd1KernelIdeal.main_arg0)
          ∧ r.2.mem ((c.tc : Thread Cert.AttnFwd1KernelIdeal.nD Cert.AttnFwd1KernelIdeal.τ).loc Cert.AttnFwd1KernelIdeal.main_arg1) = m ((c.tc : Thread Cert.AttnFwd1KernelIdeal.nD Cert.AttnFwd1KernelIdeal.τ).loc Cert.AttnFwd1KernelIdeal.main_arg1)
          ∧ r.2.mem ((c.tc : Thread Cert.AttnFwd1KernelIdeal.nD Cert.AttnFwd1KernelIdeal.τ).loc Cert.AttnFwd1KernelIdeal.main_arg2) = m ((c.tc : Thread Cert.AttnFwd1KernelIdeal.nD Cert.AttnFwd1KernelIdeal.τ).loc Cert.AttnFwd1KernelIdeal.main_arg2))
      ∧ θ_run (Cert.AttnFwd1ReferenceIdeal.defs (F := Ideal)) (onTc (τ := Cert.AttnFwd1ReferenceIdeal.τ) (Cert.AttnFwd1ReferenceIdeal.main (F := Ideal))) ⟨m', fun _ => 0, g'⟩ (fun r => ∀ c : Dev Cert.AttnFwd1ReferenceIdeal.nD,
          r.2.mem ((c.tc : Thread Cert.AttnFwd1ReferenceIdeal.nD Cert.AttnFwd1ReferenceIdeal.τ).loc Cert.AttnFwd1ReferenceIdeal.main_v48) = v0 c
          ∧ r.2.mem ((c.tc : Thread Cert.AttnFwd1ReferenceIdeal.nD Cert.AttnFwd1ReferenceIdeal.τ).loc Cert.AttnFwd1ReferenceIdeal.main_v51) = v1 c
          ∧ r.2.mem ((c.tc : Thread Cert.AttnFwd1ReferenceIdeal.nD Cert.AttnFwd1ReferenceIdeal.τ).loc Cert.AttnFwd1ReferenceIdeal.main_v54) = v2 c
          ∧ r.2.mem ((c.tc : Thread Cert.AttnFwd1ReferenceIdeal.nD Cert.AttnFwd1ReferenceIdeal.τ).loc Cert.AttnFwd1ReferenceIdeal.main_arg0) = m' ((c.tc : Thread Cert.AttnFwd1ReferenceIdeal.nD Cert.AttnFwd1ReferenceIdeal.τ).loc Cert.AttnFwd1ReferenceIdeal.main_arg0)
          ∧ r.2.mem ((c.tc : Thread Cert.AttnFwd1ReferenceIdeal.nD Cert.AttnFwd1ReferenceIdeal.τ).loc Cert.AttnFwd1ReferenceIdeal.main_arg1) = m' ((c.tc : Thread Cert.AttnFwd1ReferenceIdeal.nD Cert.AttnFwd1ReferenceIdeal.τ).loc Cert.AttnFwd1ReferenceIdeal.main_arg1)
          ∧ r.2.mem ((c.tc : Thread Cert.AttnFwd1ReferenceIdeal.nD Cert.AttnFwd1ReferenceIdeal.τ).loc Cert.AttnFwd1ReferenceIdeal.main_arg2) = m' ((c.tc : Thread Cert.AttnFwd1ReferenceIdeal.nD Cert.AttnFwd1ReferenceIdeal.τ).loc Cert.AttnFwd1ReferenceIdeal.main_arg2))

def preserves_AttnFwd2Kernel_AttnFwd2KernelIdeal : Prop :=
  IdealRules.named_const.Statement Cert.AttnFwd2KernelIdeal.κ "mask" .f32 0xF149F2CA#32 ⊥

def algebraic_AttnFwd2KernelIdeal_AttnFwd2ReferenceIdeal [hAttnFwd2KernelIdeal : Cert.AttnFwd2KernelIdeal.Facts] [hAttnFwd2ReferenceIdeal : Cert.AttnFwd2ReferenceIdeal.Facts] : Prop :=
  ∀ (m : (ℓ : Loc Cert.AttnFwd2KernelIdeal.nD Cert.AttnFwd2KernelIdeal.τ Cert.AttnFwd2KernelIdeal.sig) → Buf (Elt Ideal) ℓ) (g : Dev Cert.AttnFwd2KernelIdeal.nD → PrngReg)
    (m' : (ℓ : Loc Cert.AttnFwd2ReferenceIdeal.nD Cert.AttnFwd2ReferenceIdeal.τ Cert.AttnFwd2ReferenceIdeal.sig) → Buf (Elt Ideal) ℓ) (g' : Dev Cert.AttnFwd2ReferenceIdeal.nD → PrngReg), Pre_AttnFwd2KernelIdeal m →
    (∀ c : Dev Cert.AttnFwd2KernelIdeal.nD,
      m' ((c.tc : Thread Cert.AttnFwd2ReferenceIdeal.nD Cert.AttnFwd2ReferenceIdeal.τ).loc Cert.AttnFwd2ReferenceIdeal.main_arg0) = m ((c.tc : Thread Cert.AttnFwd2KernelIdeal.nD Cert.AttnFwd2KernelIdeal.τ).loc Cert.AttnFwd2KernelIdeal.main_arg0)
      ∧ m' ((c.tc : Thread Cert.AttnFwd2ReferenceIdeal.nD Cert.AttnFwd2ReferenceIdeal.τ).loc Cert.AttnFwd2ReferenceIdeal.main_arg1) = m ((c.tc : Thread Cert.AttnFwd2KernelIdeal.nD Cert.AttnFwd2KernelIdeal.τ).loc Cert.AttnFwd2KernelIdeal.main_arg1)
      ∧ m' ((c.tc : Thread Cert.AttnFwd2ReferenceIdeal.nD Cert.AttnFwd2ReferenceIdeal.τ).loc Cert.AttnFwd2ReferenceIdeal.main_arg2) = m ((c.tc : Thread Cert.AttnFwd2KernelIdeal.nD Cert.AttnFwd2KernelIdeal.τ).loc Cert.AttnFwd2KernelIdeal.main_arg2)) →
    ∃ (v0 : (c : Dev Cert.AttnFwd2KernelIdeal.nD) → Buf (Elt Ideal) ((c.tc : Thread Cert.AttnFwd2KernelIdeal.nD Cert.AttnFwd2KernelIdeal.τ).loc Cert.AttnFwd2KernelIdeal.main_v15_0)) (v1 : (c : Dev Cert.AttnFwd2KernelIdeal.nD) → Buf (Elt Ideal) ((c.tc : Thread Cert.AttnFwd2KernelIdeal.nD Cert.AttnFwd2KernelIdeal.τ).loc Cert.AttnFwd2KernelIdeal.main_v15_1)) (v2 : (c : Dev Cert.AttnFwd2KernelIdeal.nD) → Buf (Elt Ideal) ((c.tc : Thread Cert.AttnFwd2KernelIdeal.nD Cert.AttnFwd2KernelIdeal.τ).loc Cert.AttnFwd2KernelIdeal.main_v15_2)),
      θ_run (Cert.AttnFwd2KernelIdeal.defs (F := Ideal)) (onTc (τ := Cert.AttnFwd2KernelIdeal.τ) (Cert.AttnFwd2KernelIdeal.main (F := Ideal))) ⟨m, fun _ => 0, g⟩ (fun r => ∀ c : Dev Cert.AttnFwd2KernelIdeal.nD,
          r.2.mem ((c.tc : Thread Cert.AttnFwd2KernelIdeal.nD Cert.AttnFwd2KernelIdeal.τ).loc Cert.AttnFwd2KernelIdeal.main_v15_0) = v0 c
          ∧ r.2.mem ((c.tc : Thread Cert.AttnFwd2KernelIdeal.nD Cert.AttnFwd2KernelIdeal.τ).loc Cert.AttnFwd2KernelIdeal.main_v15_1) = v1 c
          ∧ r.2.mem ((c.tc : Thread Cert.AttnFwd2KernelIdeal.nD Cert.AttnFwd2KernelIdeal.τ).loc Cert.AttnFwd2KernelIdeal.main_v15_2) = v2 c
          ∧ r.2.mem ((c.tc : Thread Cert.AttnFwd2KernelIdeal.nD Cert.AttnFwd2KernelIdeal.τ).loc Cert.AttnFwd2KernelIdeal.main_arg0) = m ((c.tc : Thread Cert.AttnFwd2KernelIdeal.nD Cert.AttnFwd2KernelIdeal.τ).loc Cert.AttnFwd2KernelIdeal.main_arg0)
          ∧ r.2.mem ((c.tc : Thread Cert.AttnFwd2KernelIdeal.nD Cert.AttnFwd2KernelIdeal.τ).loc Cert.AttnFwd2KernelIdeal.main_arg1) = m ((c.tc : Thread Cert.AttnFwd2KernelIdeal.nD Cert.AttnFwd2KernelIdeal.τ).loc Cert.AttnFwd2KernelIdeal.main_arg1)
          ∧ r.2.mem ((c.tc : Thread Cert.AttnFwd2KernelIdeal.nD Cert.AttnFwd2KernelIdeal.τ).loc Cert.AttnFwd2KernelIdeal.main_arg2) = m ((c.tc : Thread Cert.AttnFwd2KernelIdeal.nD Cert.AttnFwd2KernelIdeal.τ).loc Cert.AttnFwd2KernelIdeal.main_arg2))
      ∧ θ_run (Cert.AttnFwd2ReferenceIdeal.defs (F := Ideal)) (onTc (τ := Cert.AttnFwd2ReferenceIdeal.τ) (Cert.AttnFwd2ReferenceIdeal.main (F := Ideal))) ⟨m', fun _ => 0, g'⟩ (fun r => ∀ c : Dev Cert.AttnFwd2ReferenceIdeal.nD,
          r.2.mem ((c.tc : Thread Cert.AttnFwd2ReferenceIdeal.nD Cert.AttnFwd2ReferenceIdeal.τ).loc Cert.AttnFwd2ReferenceIdeal.main_v48) = v0 c
          ∧ r.2.mem ((c.tc : Thread Cert.AttnFwd2ReferenceIdeal.nD Cert.AttnFwd2ReferenceIdeal.τ).loc Cert.AttnFwd2ReferenceIdeal.main_v51) = v1 c
          ∧ r.2.mem ((c.tc : Thread Cert.AttnFwd2ReferenceIdeal.nD Cert.AttnFwd2ReferenceIdeal.τ).loc Cert.AttnFwd2ReferenceIdeal.main_v54) = v2 c
          ∧ r.2.mem ((c.tc : Thread Cert.AttnFwd2ReferenceIdeal.nD Cert.AttnFwd2ReferenceIdeal.τ).loc Cert.AttnFwd2ReferenceIdeal.main_arg0) = m' ((c.tc : Thread Cert.AttnFwd2ReferenceIdeal.nD Cert.AttnFwd2ReferenceIdeal.τ).loc Cert.AttnFwd2ReferenceIdeal.main_arg0)
          ∧ r.2.mem ((c.tc : Thread Cert.AttnFwd2ReferenceIdeal.nD Cert.AttnFwd2ReferenceIdeal.τ).loc Cert.AttnFwd2ReferenceIdeal.main_arg1) = m' ((c.tc : Thread Cert.AttnFwd2ReferenceIdeal.nD Cert.AttnFwd2ReferenceIdeal.τ).loc Cert.AttnFwd2ReferenceIdeal.main_arg1)
          ∧ r.2.mem ((c.tc : Thread Cert.AttnFwd2ReferenceIdeal.nD Cert.AttnFwd2ReferenceIdeal.τ).loc Cert.AttnFwd2ReferenceIdeal.main_arg2) = m' ((c.tc : Thread Cert.AttnFwd2ReferenceIdeal.nD Cert.AttnFwd2ReferenceIdeal.τ).loc Cert.AttnFwd2ReferenceIdeal.main_arg2))

def preserves_PoolFwdKernel_PoolFwdKernelIdeal : Prop :=
  True

def algebraic_PoolFwdKernelIdeal_PoolFwdReferenceIdeal_pre_finite_pool [hPoolFwdKernelIdeal : Cert.PoolFwdKernelIdeal.Facts] [hPoolFwdReferenceIdeal : Cert.PoolFwdReferenceIdeal.Facts] [hPre_finite_pool : Cert.Pre_finite_pool.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg)
    (m' : (ℓ : Loc Cert.PoolFwdReferenceIdeal.nD Cert.PoolFwdReferenceIdeal.τ Cert.PoolFwdReferenceIdeal.sig) → Buf (Elt Ideal) ℓ) (g' : Dev Cert.PoolFwdReferenceIdeal.nD → PrngReg), Pre_PoolFwdKernelIdeal_finite_pool m →
    (∀ c : Dev Cert.PoolFwdKernelIdeal.nD,
      m' ((c.tc : Thread Cert.PoolFwdReferenceIdeal.nD Cert.PoolFwdReferenceIdeal.τ).loc Cert.PoolFwdReferenceIdeal.main_arg0) = m ((c.tc : Thread Cert.PoolFwdKernelIdeal.nD Cert.PoolFwdKernelIdeal.τ).loc Cert.PoolFwdKernelIdeal.main_arg0)
      ∧ m' ((c.tc : Thread Cert.PoolFwdReferenceIdeal.nD Cert.PoolFwdReferenceIdeal.τ).loc Cert.PoolFwdReferenceIdeal.main_arg1) = m ((c.tc : Thread Cert.PoolFwdKernelIdeal.nD Cert.PoolFwdKernelIdeal.τ).loc Cert.PoolFwdKernelIdeal.main_arg1)
      ∧ m' ((c.tc : Thread Cert.PoolFwdReferenceIdeal.nD Cert.PoolFwdReferenceIdeal.τ).loc Cert.PoolFwdReferenceIdeal.main_arg2) = m ((c.tc : Thread Cert.PoolFwdKernelIdeal.nD Cert.PoolFwdKernelIdeal.τ).loc Cert.PoolFwdKernelIdeal.main_arg2)
      ∧ m' ((c.tc : Thread Cert.PoolFwdReferenceIdeal.nD Cert.PoolFwdReferenceIdeal.τ).loc Cert.PoolFwdReferenceIdeal.main_arg3) = m ((c.tc : Thread Cert.PoolFwdKernelIdeal.nD Cert.PoolFwdKernelIdeal.τ).loc Cert.PoolFwdKernelIdeal.main_arg3)) →
    ∃ (v0 : (c : Dev Cert.PoolFwdKernelIdeal.nD) → Buf (Elt Ideal) ((c.tc : Thread Cert.PoolFwdKernelIdeal.nD Cert.PoolFwdKernelIdeal.τ).loc Cert.PoolFwdKernelIdeal.main_v22_0)) (v1 : (c : Dev Cert.PoolFwdKernelIdeal.nD) → Buf (Elt Ideal) ((c.tc : Thread Cert.PoolFwdKernelIdeal.nD Cert.PoolFwdKernelIdeal.τ).loc Cert.PoolFwdKernelIdeal.main_v22_1)),
      θ_run (Cert.PoolFwdKernelIdeal.defs (F := Ideal)) (onTc (τ := Cert.PoolFwdKernelIdeal.τ) (Cert.PoolFwdKernelIdeal.main (F := Ideal))) ⟨m, fun _ => 0, g⟩ (fun r => ∀ c : Dev Cert.PoolFwdKernelIdeal.nD,
          r.2.mem ((c.tc : Thread Cert.PoolFwdKernelIdeal.nD Cert.PoolFwdKernelIdeal.τ).loc Cert.PoolFwdKernelIdeal.main_v22_0) = v0 c
          ∧ r.2.mem ((c.tc : Thread Cert.PoolFwdKernelIdeal.nD Cert.PoolFwdKernelIdeal.τ).loc Cert.PoolFwdKernelIdeal.main_v22_1) = v1 c
          ∧ r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
          ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
          ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2)
          ∧ r.2.mem ((c.tc : Thread Cert.PoolFwdKernelIdeal.nD Cert.PoolFwdKernelIdeal.τ).loc Cert.PoolFwdKernelIdeal.main_arg3) = m ((c.tc : Thread Cert.PoolFwdKernelIdeal.nD Cert.PoolFwdKernelIdeal.τ).loc Cert.PoolFwdKernelIdeal.main_arg3))
      ∧ θ_run (Cert.PoolFwdReferenceIdeal.defs (F := Ideal)) (onTc (τ := Cert.PoolFwdReferenceIdeal.τ) (Cert.PoolFwdReferenceIdeal.main (F := Ideal))) ⟨m', fun _ => 0, g'⟩ (fun r => ∀ c : Dev Cert.PoolFwdReferenceIdeal.nD,
          r.2.mem ((c.tc : Thread Cert.PoolFwdReferenceIdeal.nD Cert.PoolFwdReferenceIdeal.τ).loc Cert.PoolFwdReferenceIdeal.main_v86) = v0 c
          ∧ r.2.mem ((c.tc : Thread Cert.PoolFwdReferenceIdeal.nD Cert.PoolFwdReferenceIdeal.τ).loc Cert.PoolFwdReferenceIdeal.main_v112) = v1 c
          ∧ r.2.mem ((c.tc : Thread Cert.PoolFwdReferenceIdeal.nD Cert.PoolFwdReferenceIdeal.τ).loc Cert.PoolFwdReferenceIdeal.main_arg0) = m' ((c.tc : Thread Cert.PoolFwdReferenceIdeal.nD Cert.PoolFwdReferenceIdeal.τ).loc Cert.PoolFwdReferenceIdeal.main_arg0)
          ∧ r.2.mem ((c.tc : Thread Cert.PoolFwdReferenceIdeal.nD Cert.PoolFwdReferenceIdeal.τ).loc Cert.PoolFwdReferenceIdeal.main_arg1) = m' ((c.tc : Thread Cert.PoolFwdReferenceIdeal.nD Cert.PoolFwdReferenceIdeal.τ).loc Cert.PoolFwdReferenceIdeal.main_arg1)
          ∧ r.2.mem ((c.tc : Thread Cert.PoolFwdReferenceIdeal.nD Cert.PoolFwdReferenceIdeal.τ).loc Cert.PoolFwdReferenceIdeal.main_arg2) = m' ((c.tc : Thread Cert.PoolFwdReferenceIdeal.nD Cert.PoolFwdReferenceIdeal.τ).loc Cert.PoolFwdReferenceIdeal.main_arg2)
          ∧ r.2.mem ((c.tc : Thread Cert.PoolFwdReferenceIdeal.nD Cert.PoolFwdReferenceIdeal.τ).loc Cert.PoolFwdReferenceIdeal.main_arg3) = m' ((c.tc : Thread Cert.PoolFwdReferenceIdeal.nD Cert.PoolFwdReferenceIdeal.τ).loc Cert.PoolFwdReferenceIdeal.main_arg3))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)
      ∧ m' ((c.tc : Thread Cert.SumReferenceIdeal.nD Cert.SumReferenceIdeal.τ).loc Cert.SumReferenceIdeal.main_arg1) = m ((c.tc : Thread Cert.SumKernelIdeal.nD Cert.SumKernelIdeal.τ).loc Cert.SumKernelIdeal.main_arg1)) →
    ∃ (v0 : (c : Dev Cert.SumKernelIdeal.nD) → Buf (Elt Ideal) ((c.tc : Thread Cert.SumKernelIdeal.nD Cert.SumKernelIdeal.τ).loc Cert.SumKernelIdeal.main_v2)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v2) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0)
          ∧ r.2.mem ((c.tc : Thread Cert.SumKernelIdeal.nD Cert.SumKernelIdeal.τ).loc Cert.SumKernelIdeal.main_arg1) = m ((c.tc : Thread Cert.SumKernelIdeal.nD Cert.SumKernelIdeal.τ).loc Cert.SumKernelIdeal.main_arg1))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v5) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0)
          ∧ r.2.mem ((c.tc : Thread Cert.SumReferenceIdeal.nD Cert.SumReferenceIdeal.τ).loc Cert.SumReferenceIdeal.main_arg1) = m' ((c.tc : Thread Cert.SumReferenceIdeal.nD Cert.SumReferenceIdeal.τ).loc Cert.SumReferenceIdeal.main_arg1))

def preserves_SumAdamKernel_SumAdamKernelIdeal : Prop :=
  True

def algebraic_SumAdamKernelIdeal_SumAdamReferenceIdeal [hSumAdamKernelIdeal : Cert.SumAdamKernelIdeal.Facts] [hSumAdamReferenceIdeal : Cert.SumAdamReferenceIdeal.Facts] : Prop :=
  ∀ (m : (ℓ : Loc Cert.SumAdamKernelIdeal.nD Cert.SumAdamKernelIdeal.τ Cert.SumAdamKernelIdeal.sig) → Buf (Elt Ideal) ℓ) (g : Dev Cert.SumAdamKernelIdeal.nD → PrngReg)
    (m' : (ℓ : Loc Cert.SumAdamReferenceIdeal.nD Cert.SumAdamReferenceIdeal.τ Cert.SumAdamReferenceIdeal.sig) → Buf (Elt Ideal) ℓ) (g' : Dev Cert.SumAdamReferenceIdeal.nD → PrngReg), Pre_SumAdamKernelIdeal m →
    (∀ c : Dev Cert.SumAdamKernelIdeal.nD,
      m' ((c.tc : Thread Cert.SumAdamReferenceIdeal.nD Cert.SumAdamReferenceIdeal.τ).loc Cert.SumAdamReferenceIdeal.main_arg0) = m ((c.tc : Thread Cert.SumAdamKernelIdeal.nD Cert.SumAdamKernelIdeal.τ).loc Cert.SumAdamKernelIdeal.main_arg0)
      ∧ m' ((c.tc : Thread Cert.SumAdamReferenceIdeal.nD Cert.SumAdamReferenceIdeal.τ).loc Cert.SumAdamReferenceIdeal.main_arg1) = m ((c.tc : Thread Cert.SumAdamKernelIdeal.nD Cert.SumAdamKernelIdeal.τ).loc Cert.SumAdamKernelIdeal.main_arg1)
      ∧ m' ((c.tc : Thread Cert.SumAdamReferenceIdeal.nD Cert.SumAdamReferenceIdeal.τ).loc Cert.SumAdamReferenceIdeal.main_arg2) = m ((c.tc : Thread Cert.SumAdamKernelIdeal.nD Cert.SumAdamKernelIdeal.τ).loc Cert.SumAdamKernelIdeal.main_arg2)
      ∧ m' ((c.tc : Thread Cert.SumAdamReferenceIdeal.nD Cert.SumAdamReferenceIdeal.τ).loc Cert.SumAdamReferenceIdeal.main_arg3) = m ((c.tc : Thread Cert.SumAdamKernelIdeal.nD Cert.SumAdamKernelIdeal.τ).loc Cert.SumAdamKernelIdeal.main_arg3)
      ∧ m' ((c.tc : Thread Cert.SumAdamReferenceIdeal.nD Cert.SumAdamReferenceIdeal.τ).loc Cert.SumAdamReferenceIdeal.main_arg4) = m ((c.tc : Thread Cert.SumAdamKernelIdeal.nD Cert.SumAdamKernelIdeal.τ).loc Cert.SumAdamKernelIdeal.main_arg4)
      ∧ m' ((c.tc : Thread Cert.SumAdamReferenceIdeal.nD Cert.SumAdamReferenceIdeal.τ).loc Cert.SumAdamReferenceIdeal.main_arg5) = m ((c.tc : Thread Cert.SumAdamKernelIdeal.nD Cert.SumAdamKernelIdeal.τ).loc Cert.SumAdamKernelIdeal.main_arg5)
      ∧ m' ((c.tc : Thread Cert.SumAdamReferenceIdeal.nD Cert.SumAdamReferenceIdeal.τ).loc Cert.SumAdamReferenceIdeal.main_arg6) = m ((c.tc : Thread Cert.SumAdamKernelIdeal.nD Cert.SumAdamKernelIdeal.τ).loc Cert.SumAdamKernelIdeal.main_arg6)) →
    ∃ (v0 : (c : Dev Cert.SumAdamKernelIdeal.nD) → Buf (Elt Ideal) ((c.tc : Thread Cert.SumAdamKernelIdeal.nD Cert.SumAdamKernelIdeal.τ).loc Cert.SumAdamKernelIdeal.main_v4_0)) (v1 : (c : Dev Cert.SumAdamKernelIdeal.nD) → Buf (Elt Ideal) ((c.tc : Thread Cert.SumAdamKernelIdeal.nD Cert.SumAdamKernelIdeal.τ).loc Cert.SumAdamKernelIdeal.main_v4_1)) (v2 : (c : Dev Cert.SumAdamKernelIdeal.nD) → Buf (Elt Ideal) ((c.tc : Thread Cert.SumAdamKernelIdeal.nD Cert.SumAdamKernelIdeal.τ).loc Cert.SumAdamKernelIdeal.main_v4_2)) (v3 : (c : Dev Cert.SumAdamKernelIdeal.nD) → Buf (Elt Ideal) ((c.tc : Thread Cert.SumAdamKernelIdeal.nD Cert.SumAdamKernelIdeal.τ).loc Cert.SumAdamKernelIdeal.main_v4_3)),
      θ_run (Cert.SumAdamKernelIdeal.defs (F := Ideal)) (onTc (τ := Cert.SumAdamKernelIdeal.τ) (Cert.SumAdamKernelIdeal.main (F := Ideal))) ⟨m, fun _ => 0, g⟩ (fun r => ∀ c : Dev Cert.SumAdamKernelIdeal.nD,
          r.2.mem ((c.tc : Thread Cert.SumAdamKernelIdeal.nD Cert.SumAdamKernelIdeal.τ).loc Cert.SumAdamKernelIdeal.main_v4_0) = v0 c
          ∧ r.2.mem ((c.tc : Thread Cert.SumAdamKernelIdeal.nD Cert.SumAdamKernelIdeal.τ).loc Cert.SumAdamKernelIdeal.main_v4_1) = v1 c
          ∧ r.2.mem ((c.tc : Thread Cert.SumAdamKernelIdeal.nD Cert.SumAdamKernelIdeal.τ).loc Cert.SumAdamKernelIdeal.main_v4_2) = v2 c
          ∧ r.2.mem ((c.tc : Thread Cert.SumAdamKernelIdeal.nD Cert.SumAdamKernelIdeal.τ).loc Cert.SumAdamKernelIdeal.main_v4_3) = v3 c
          ∧ r.2.mem ((c.tc : Thread Cert.SumAdamKernelIdeal.nD Cert.SumAdamKernelIdeal.τ).loc Cert.SumAdamKernelIdeal.main_arg0) = m ((c.tc : Thread Cert.SumAdamKernelIdeal.nD Cert.SumAdamKernelIdeal.τ).loc Cert.SumAdamKernelIdeal.main_arg0)
          ∧ r.2.mem ((c.tc : Thread Cert.SumAdamKernelIdeal.nD Cert.SumAdamKernelIdeal.τ).loc Cert.SumAdamKernelIdeal.main_arg1) = m ((c.tc : Thread Cert.SumAdamKernelIdeal.nD Cert.SumAdamKernelIdeal.τ).loc Cert.SumAdamKernelIdeal.main_arg1)
          ∧ r.2.mem ((c.tc : Thread Cert.SumAdamKernelIdeal.nD Cert.SumAdamKernelIdeal.τ).loc Cert.SumAdamKernelIdeal.main_arg2) = m ((c.tc : Thread Cert.SumAdamKernelIdeal.nD Cert.SumAdamKernelIdeal.τ).loc Cert.SumAdamKernelIdeal.main_arg2)
          ∧ r.2.mem ((c.tc : Thread Cert.SumAdamKernelIdeal.nD Cert.SumAdamKernelIdeal.τ).loc Cert.SumAdamKernelIdeal.main_arg3) = m ((c.tc : Thread Cert.SumAdamKernelIdeal.nD Cert.SumAdamKernelIdeal.τ).loc Cert.SumAdamKernelIdeal.main_arg3)
          ∧ r.2.mem ((c.tc : Thread Cert.SumAdamKernelIdeal.nD Cert.SumAdamKernelIdeal.τ).loc Cert.SumAdamKernelIdeal.main_arg4) = m ((c.tc : Thread Cert.SumAdamKernelIdeal.nD Cert.SumAdamKernelIdeal.τ).loc Cert.SumAdamKernelIdeal.main_arg4)
          ∧ r.2.mem ((c.tc : Thread Cert.SumAdamKernelIdeal.nD Cert.SumAdamKernelIdeal.τ).loc Cert.SumAdamKernelIdeal.main_arg5) = m ((c.tc : Thread Cert.SumAdamKernelIdeal.nD Cert.SumAdamKernelIdeal.τ).loc Cert.SumAdamKernelIdeal.main_arg5)
          ∧ r.2.mem ((c.tc : Thread Cert.SumAdamKernelIdeal.nD Cert.SumAdamKernelIdeal.τ).loc Cert.SumAdamKernelIdeal.main_arg6) = m ((c.tc : Thread Cert.SumAdamKernelIdeal.nD Cert.SumAdamKernelIdeal.τ).loc Cert.SumAdamKernelIdeal.main_arg6))
      ∧ θ_run (Cert.SumAdamReferenceIdeal.defs (F := Ideal)) (onTc (τ := Cert.SumAdamReferenceIdeal.τ) (Cert.SumAdamReferenceIdeal.main (F := Ideal))) ⟨m', fun _ => 0, g'⟩ (fun r => ∀ c : Dev Cert.SumAdamReferenceIdeal.nD,
          r.2.mem ((c.tc : Thread Cert.SumAdamReferenceIdeal.nD Cert.SumAdamReferenceIdeal.τ).loc Cert.SumAdamReferenceIdeal.main_v14) = v0 c
          ∧ r.2.mem ((c.tc : Thread Cert.SumAdamReferenceIdeal.nD Cert.SumAdamReferenceIdeal.τ).loc Cert.SumAdamReferenceIdeal.main_v38) = v1 c
          ∧ r.2.mem ((c.tc : Thread Cert.SumAdamReferenceIdeal.nD Cert.SumAdamReferenceIdeal.τ).loc Cert.SumAdamReferenceIdeal.main_v19) = v2 c
          ∧ r.2.mem ((c.tc : Thread Cert.SumAdamReferenceIdeal.nD Cert.SumAdamReferenceIdeal.τ).loc Cert.SumAdamReferenceIdeal.main_v25) = v3 c
          ∧ r.2.mem ((c.tc : Thread Cert.SumAdamReferenceIdeal.nD Cert.SumAdamReferenceIdeal.τ).loc Cert.SumAdamReferenceIdeal.main_arg0) = m' ((c.tc : Thread Cert.SumAdamReferenceIdeal.nD Cert.SumAdamReferenceIdeal.τ).loc Cert.SumAdamReferenceIdeal.main_arg0)
          ∧ r.2.mem ((c.tc : Thread Cert.SumAdamReferenceIdeal.nD Cert.SumAdamReferenceIdeal.τ).loc Cert.SumAdamReferenceIdeal.main_arg1) = m' ((c.tc : Thread Cert.SumAdamReferenceIdeal.nD Cert.SumAdamReferenceIdeal.τ).loc Cert.SumAdamReferenceIdeal.main_arg1)
          ∧ r.2.mem ((c.tc : Thread Cert.SumAdamReferenceIdeal.nD Cert.SumAdamReferenceIdeal.τ).loc Cert.SumAdamReferenceIdeal.main_arg2) = m' ((c.tc : Thread Cert.SumAdamReferenceIdeal.nD Cert.SumAdamReferenceIdeal.τ).loc Cert.SumAdamReferenceIdeal.main_arg2)
          ∧ r.2.mem ((c.tc : Thread Cert.SumAdamReferenceIdeal.nD Cert.SumAdamReferenceIdeal.τ).loc Cert.SumAdamReferenceIdeal.main_arg3) = m' ((c.tc : Thread Cert.SumAdamReferenceIdeal.nD Cert.SumAdamReferenceIdeal.τ).loc Cert.SumAdamReferenceIdeal.main_arg3)
          ∧ r.2.mem ((c.tc : Thread Cert.SumAdamReferenceIdeal.nD Cert.SumAdamReferenceIdeal.τ).loc Cert.SumAdamReferenceIdeal.main_arg4) = m' ((c.tc : Thread Cert.SumAdamReferenceIdeal.nD Cert.SumAdamReferenceIdeal.τ).loc Cert.SumAdamReferenceIdeal.main_arg4)
          ∧ r.2.mem ((c.tc : Thread Cert.SumAdamReferenceIdeal.nD Cert.SumAdamReferenceIdeal.τ).loc Cert.SumAdamReferenceIdeal.main_arg5) = m' ((c.tc : Thread Cert.SumAdamReferenceIdeal.nD Cert.SumAdamReferenceIdeal.τ).loc Cert.SumAdamReferenceIdeal.main_arg5)
          ∧ r.2.mem ((c.tc : Thread Cert.SumAdamReferenceIdeal.nD Cert.SumAdamReferenceIdeal.τ).loc Cert.SumAdamReferenceIdeal.main_arg6) = m' ((c.tc : Thread Cert.SumAdamReferenceIdeal.nD Cert.SumAdamReferenceIdeal.τ).loc Cert.SumAdamReferenceIdeal.main_arg6))

def Claim : Prop :=
  ∃ (hGainKernel : Cert.GainKernel.Facts) (hGainKernelIdeal : Cert.GainKernelIdeal.Facts) (hGainReferenceIdeal : Cert.GainReferenceIdeal.Facts) (hMemKernel : Cert.MemKernel.Facts) (hMemKernelIdeal : Cert.MemKernelIdeal.Facts) (hMemReferenceIdeal : Cert.MemReferenceIdeal.Facts) (hMemFwdKernel : Cert.MemFwdKernel.Facts) (hMemFwdKernelIdeal : Cert.MemFwdKernelIdeal.Facts) (hMemFwdReferenceIdeal : Cert.MemFwdReferenceIdeal.Facts) (hAttn0Kernel : Cert.Attn0Kernel.Facts) (hAttn0KernelIdeal : Cert.Attn0KernelIdeal.Facts) (hAttn0ReferenceIdeal : Cert.Attn0ReferenceIdeal.Facts) (hAttn1Kernel : Cert.Attn1Kernel.Facts) (hAttn1KernelIdeal : Cert.Attn1KernelIdeal.Facts) (hAttn1ReferenceIdeal : Cert.Attn1ReferenceIdeal.Facts) (hAttn2Kernel : Cert.Attn2Kernel.Facts) (hAttn2KernelIdeal : Cert.Attn2KernelIdeal.Facts) (hAttn2ReferenceIdeal : Cert.Attn2ReferenceIdeal.Facts) (hFfnKernel : Cert.FfnKernel.Facts) (hFfnKernelIdeal : Cert.FfnKernelIdeal.Facts) (hFfnReferenceIdeal : Cert.FfnReferenceIdeal.Facts) (hFfnPreKernel : Cert.FfnPreKernel.Facts) (hFfnPreKernelIdeal : Cert.FfnPreKernelIdeal.Facts) (hFfnPreReferenceIdeal : Cert.FfnPreReferenceIdeal.Facts) (hMixPreKernel : Cert.MixPreKernel.Facts) (hMixPreKernelIdeal : Cert.MixPreKernelIdeal.Facts) (hMixPreReferenceIdeal : Cert.MixPreReferenceIdeal.Facts) (hRopeKernel : Cert.RopeKernel.Facts) (hRopeKernelIdeal : Cert.RopeKernelIdeal.Facts) (hRopeReferenceIdeal : Cert.RopeReferenceIdeal.Facts) (hLossKernel : Cert.LossKernel.Facts) (hLossKernelIdeal : Cert.LossKernelIdeal.Facts) (hLossReferenceIdeal : Cert.LossReferenceIdeal.Facts) (hNormKvKernel : Cert.NormKvKernel.Facts) (hNormKvKernelIdeal : Cert.NormKvKernelIdeal.Facts) (hNormKvReferenceIdeal : Cert.NormKvReferenceIdeal.Facts) (hFfnFwdKernel : Cert.FfnFwdKernel.Facts) (hFfnFwdKernelIdeal : Cert.FfnFwdKernelIdeal.Facts) (hFfnFwdReferenceIdeal : Cert.FfnFwdReferenceIdeal.Facts) (hMergeFwdKernel : Cert.MergeFwdKernel.Facts) (hMergeFwdKernelIdeal : Cert.MergeFwdKernelIdeal.Facts) (hMergeFwdReferenceIdeal : Cert.MergeFwdReferenceIdeal.Facts) (hProdTnKernel : Cert.ProdTnKernel.Facts) (hProdTnKernelIdeal : Cert.ProdTnKernelIdeal.Facts) (hProdTnReferenceIdeal : Cert.ProdTnReferenceIdeal.Facts) (hProdNtKernel : Cert.ProdNtKernel.Facts) (hProdNtKernelIdeal : Cert.ProdNtKernelIdeal.Facts) (hProdNtReferenceIdeal : Cert.ProdNtReferenceIdeal.Facts) (hAdamKernel : Cert.AdamKernel.Facts) (hAdamKernelIdeal : Cert.AdamKernelIdeal.Facts) (hAdamReferenceIdeal : Cert.AdamReferenceIdeal.Facts) (hAttnFwd0Kernel : Cert.AttnFwd0Kernel.Facts) (hAttnFwd0KernelIdeal : Cert.AttnFwd0KernelIdeal.Facts) (hAttnFwd0ReferenceIdeal : Cert.AttnFwd0ReferenceIdeal.Facts) (hAttnFwd1Kernel : Cert.AttnFwd1Kernel.Facts) (hAttnFwd1KernelIdeal : Cert.AttnFwd1KernelIdeal.Facts) (hAttnFwd1ReferenceIdeal : Cert.AttnFwd1ReferenceIdeal.Facts) (hAttnFwd2Kernel : Cert.AttnFwd2Kernel.Facts) (hAttnFwd2KernelIdeal : Cert.AttnFwd2KernelIdeal.Facts) (hAttnFwd2ReferenceIdeal : Cert.AttnFwd2ReferenceIdeal.Facts) (hPoolFwdKernel : Cert.PoolFwdKernel.Facts) (hPoolFwdKernelIdeal : Cert.PoolFwdKernelIdeal.Facts) (hPoolFwdReferenceIdeal : Cert.PoolFwdReferenceIdeal.Facts) (hSumKernel : Cert.SumKernel.Facts) (hSumKernelIdeal : Cert.SumKernelIdeal.Facts) (hSumReferenceIdeal : Cert.SumReferenceIdeal.Facts) (hSumAdamKernel : Cert.SumAdamKernel.Facts) (hSumAdamKernelIdeal : Cert.SumAdamKernelIdeal.Facts) (hSumAdamReferenceIdeal : Cert.SumAdamReferenceIdeal.Facts) (hPre_finite_mem : Cert.Pre_finite_mem.Facts) (hPre_finite_attn : Cert.Pre_finite_attn.Facts) (hPre_finite_ffn : Cert.Pre_finite_ffn.Facts) (hPre_finite_ffnpre : Cert.Pre_finite_ffnpre.Facts) (hPre_finite_mixpre : Cert.Pre_finite_mixpre.Facts) (hPre_finite_pool : Cert.Pre_finite_pool.Facts),
    quiescent_GainKernel (hGainKernel := hGainKernel)
    ∧ quiescent_GainKernelIdeal (hGainKernelIdeal := hGainKernelIdeal)
    ∧ quiescent_GainReferenceIdeal (hGainReferenceIdeal := hGainReferenceIdeal)
    ∧ quiescent_MemKernel (hMemKernel := hMemKernel)
    ∧ quiescent_MemKernelIdeal (hMemKernelIdeal := hMemKernelIdeal)
    ∧ quiescent_MemKernelIdeal_pre_finite_mem (hMemKernelIdeal := hMemKernelIdeal) (hPre_finite_mem := hPre_finite_mem)
    ∧ quiescent_MemReferenceIdeal (hMemReferenceIdeal := hMemReferenceIdeal)
    ∧ quiescent_MemReferenceIdeal_pre_finite_mem (hMemReferenceIdeal := hMemReferenceIdeal) (hPre_finite_mem := hPre_finite_mem)
    ∧ quiescent_MemFwdKernel (hMemFwdKernel := hMemFwdKernel)
    ∧ quiescent_MemFwdKernelIdeal (hMemFwdKernelIdeal := hMemFwdKernelIdeal)
    ∧ quiescent_MemFwdReferenceIdeal (hMemFwdReferenceIdeal := hMemFwdReferenceIdeal)
    ∧ quiescent_Attn0Kernel (hAttn0Kernel := hAttn0Kernel)
    ∧ quiescent_Attn0KernelIdeal (hAttn0KernelIdeal := hAttn0KernelIdeal)
    ∧ quiescent_Attn0KernelIdeal_pre_finite_attn (hAttn0KernelIdeal := hAttn0KernelIdeal) (hPre_finite_attn := hPre_finite_attn)
    ∧ quiescent_Attn0ReferenceIdeal (hAttn0ReferenceIdeal := hAttn0ReferenceIdeal)
    ∧ quiescent_Attn0ReferenceIdeal_pre_finite_attn (hAttn0ReferenceIdeal := hAttn0ReferenceIdeal) (hPre_finite_attn := hPre_finite_attn)
    ∧ quiescent_Attn1Kernel (hAttn1Kernel := hAttn1Kernel)
    ∧ quiescent_Attn1KernelIdeal (hAttn1KernelIdeal := hAttn1KernelIdeal)
    ∧ quiescent_Attn1KernelIdeal_pre_finite_attn (hAttn1KernelIdeal := hAttn1KernelIdeal) (hPre_finite_attn := hPre_finite_attn)
    ∧ quiescent_Attn1ReferenceIdeal (hAttn1ReferenceIdeal := hAttn1ReferenceIdeal)
    ∧ quiescent_Attn1ReferenceIdeal_pre_finite_attn (hAttn1ReferenceIdeal := hAttn1ReferenceIdeal) (hPre_finite_attn := hPre_finite_attn)
    ∧ quiescent_Attn2Kernel (hAttn2Kernel := hAttn2Kernel)
    ∧ quiescent_Attn2KernelIdeal (hAttn2KernelIdeal := hAttn2KernelIdeal)
    ∧ quiescent_Attn2KernelIdeal_pre_finite_attn (hAttn2KernelIdeal := hAttn2KernelIdeal) (hPre_finite_attn := hPre_finite_attn)
    ∧ quiescent_Attn2ReferenceIdeal (hAttn2ReferenceIdeal := hAttn2ReferenceIdeal)
    ∧ quiescent_Attn2ReferenceIdeal_pre_finite_attn (hAttn2ReferenceIdeal := hAttn2ReferenceIdeal) (hPre_finite_attn := hPre_finite_attn)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_FfnPreKernel (hFfnPreKernel := hFfnPreKernel)
    ∧ quiescent_FfnPreKernelIdeal (hFfnPreKernelIdeal := hFfnPreKernelIdeal)
    ∧ quiescent_FfnPreKernelIdeal_pre_finite_ffnpre (hFfnPreKernelIdeal := hFfnPreKernelIdeal) (hPre_finite_ffnpre := hPre_finite_ffnpre)
    ∧ quiescent_FfnPreReferenceIdeal (hFfnPreReferenceIdeal := hFfnPreReferenceIdeal)
    ∧ quiescent_FfnPreReferenceIdeal_pre_finite_ffnpre (hFfnPreReferenceIdeal := hFfnPreReferenceIdeal) (hPre_finite_ffnpre := hPre_finite_ffnpre)
    ∧ quiescent_MixPreKernel (hMixPreKernel := hMixPreKernel)
    ∧ quiescent_MixPreKernelIdeal (hMixPreKernelIdeal := hMixPreKernelIdeal)
    ∧ quiescent_MixPreKernelIdeal_pre_finite_mixpre (hMixPreKernelIdeal := hMixPreKernelIdeal) (hPre_finite_mixpre := hPre_finite_mixpre)
    ∧ quiescent_MixPreReferenceIdeal (hMixPreReferenceIdeal := hMixPreReferenceIdeal)
    ∧ quiescent_MixPreReferenceIdeal_pre_finite_mixpre (hMixPreReferenceIdeal := hMixPreReferenceIdeal) (hPre_finite_mixpre := hPre_finite_mixpre)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_NormKvKernel (hNormKvKernel := hNormKvKernel)
    ∧ quiescent_NormKvKernelIdeal (hNormKvKernelIdeal := hNormKvKernelIdeal)
    ∧ quiescent_NormKvReferenceIdeal (hNormKvReferenceIdeal := hNormKvReferenceIdeal)
    ∧ quiescent_FfnFwdKernel (hFfnFwdKernel := hFfnFwdKernel)
    ∧ quiescent_FfnFwdKernelIdeal (hFfnFwdKernelIdeal := hFfnFwdKernelIdeal)
    ∧ quiescent_FfnFwdReferenceIdeal (hFfnFwdReferenceIdeal := hFfnFwdReferenceIdeal)
    ∧ quiescent_MergeFwdKernel (hMergeFwdKernel := hMergeFwdKernel)
    ∧ quiescent_MergeFwdKernelIdeal (hMergeFwdKernelIdeal := hMergeFwdKernelIdeal)
    ∧ quiescent_MergeFwdReferenceIdeal (hMergeFwdReferenceIdeal := hMergeFwdReferenceIdeal)
    ∧ quiescent_ProdTnKernel (hProdTnKernel := hProdTnKernel)
    ∧ quiescent_ProdTnKernelIdeal (hProdTnKernelIdeal := hProdTnKernelIdeal)
    ∧ quiescent_ProdTnReferenceIdeal (hProdTnReferenceIdeal := hProdTnReferenceIdeal)
    ∧ quiescent_ProdNtKernel (hProdNtKernel := hProdNtKernel)
    ∧ quiescent_ProdNtKernelIdeal (hProdNtKernelIdeal := hProdNtKernelIdeal)
    ∧ quiescent_ProdNtReferenceIdeal (hProdNtReferenceIdeal := hProdNtReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_AttnFwd0Kernel (hAttnFwd0Kernel := hAttnFwd0Kernel)
    ∧ quiescent_AttnFwd0KernelIdeal (hAttnFwd0KernelIdeal := hAttnFwd0KernelIdeal)
    ∧ quiescent_AttnFwd0ReferenceIdeal (hAttnFwd0ReferenceIdeal := hAttnFwd0ReferenceIdeal)
    ∧ quiescent_AttnFwd1Kernel (hAttnFwd1Kernel := hAttnFwd1Kernel)
    ∧ quiescent_AttnFwd1KernelIdeal (hAttnFwd1KernelIdeal := hAttnFwd1KernelIdeal)
    ∧ quiescent_AttnFwd1ReferenceIdeal (hAttnFwd1ReferenceIdeal := hAttnFwd1ReferenceIdeal)
    ∧ quiescent_AttnFwd2Kernel (hAttnFwd2Kernel := hAttnFwd2Kernel)
    ∧ quiescent_AttnFwd2KernelIdeal (hAttnFwd2KernelIdeal := hAttnFwd2KernelIdeal)
    ∧ quiescent_AttnFwd2ReferenceIdeal (hAttnFwd2ReferenceIdeal := hAttnFwd2ReferenceIdeal)
    ∧ quiescent_PoolFwdKernel (hPoolFwdKernel := hPoolFwdKernel)
    ∧ quiescent_PoolFwdKernelIdeal (hPoolFwdKernelIdeal := hPoolFwdKernelIdeal)
    ∧ quiescent_PoolFwdKernelIdeal_pre_finite_pool (hPoolFwdKernelIdeal := hPoolFwdKernelIdeal) (hPre_finite_pool := hPre_finite_pool)
    ∧ quiescent_PoolFwdReferenceIdeal (hPoolFwdReferenceIdeal := hPoolFwdReferenceIdeal)
    ∧ quiescent_PoolFwdReferenceIdeal_pre_finite_pool (hPoolFwdReferenceIdeal := hPoolFwdReferenceIdeal) (hPre_finite_pool := hPre_finite_pool)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_SumAdamKernel (hSumAdamKernel := hSumAdamKernel)
    ∧ quiescent_SumAdamKernelIdeal (hSumAdamKernelIdeal := hSumAdamKernelIdeal)
    ∧ quiescent_SumAdamReferenceIdeal (hSumAdamReferenceIdeal := hSumAdamReferenceIdeal)
    ∧ preserves_GainKernel_GainKernelIdeal
    ∧ algebraic_GainKernelIdeal_GainReferenceIdeal (hGainKernelIdeal := hGainKernelIdeal) (hGainReferenceIdeal := hGainReferenceIdeal)
    ∧ preserves_MemKernel_MemKernelIdeal
    ∧ algebraic_MemKernelIdeal_MemReferenceIdeal_pre_finite_mem (hMemKernelIdeal := hMemKernelIdeal) (hMemReferenceIdeal := hMemReferenceIdeal) (hPre_finite_mem := hPre_finite_mem)
    ∧ preserves_MemFwdKernel_MemFwdKernelIdeal
    ∧ algebraic_MemFwdKernelIdeal_MemFwdReferenceIdeal (hMemFwdKernelIdeal := hMemFwdKernelIdeal) (hMemFwdReferenceIdeal := hMemFwdReferenceIdeal)
    ∧ preserves_Attn0Kernel_Attn0KernelIdeal
    ∧ algebraic_Attn0KernelIdeal_Attn0ReferenceIdeal_pre_finite_attn (hAttn0KernelIdeal := hAttn0KernelIdeal) (hAttn0ReferenceIdeal := hAttn0ReferenceIdeal) (hPre_finite_attn := hPre_finite_attn)
    ∧ preserves_Attn1Kernel_Attn1KernelIdeal
    ∧ algebraic_Attn1KernelIdeal_Attn1ReferenceIdeal_pre_finite_attn (hAttn1KernelIdeal := hAttn1KernelIdeal) (hAttn1ReferenceIdeal := hAttn1ReferenceIdeal) (hPre_finite_attn := hPre_finite_attn)
    ∧ preserves_Attn2Kernel_Attn2KernelIdeal
    ∧ algebraic_Attn2KernelIdeal_Attn2ReferenceIdeal_pre_finite_attn (hAttn2KernelIdeal := hAttn2KernelIdeal) (hAttn2ReferenceIdeal := hAttn2ReferenceIdeal) (hPre_finite_attn := hPre_finite_attn)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_FfnPreKernel_FfnPreKernelIdeal
    ∧ algebraic_FfnPreKernelIdeal_FfnPreReferenceIdeal_pre_finite_ffnpre (hFfnPreKernelIdeal := hFfnPreKernelIdeal) (hFfnPreReferenceIdeal := hFfnPreReferenceIdeal) (hPre_finite_ffnpre := hPre_finite_ffnpre)
    ∧ preserves_MixPreKernel_MixPreKernelIdeal
    ∧ algebraic_MixPreKernelIdeal_MixPreReferenceIdeal_pre_finite_mixpre (hMixPreKernelIdeal := hMixPreKernelIdeal) (hMixPreReferenceIdeal := hMixPreReferenceIdeal) (hPre_finite_mixpre := hPre_finite_mixpre)
    ∧ preserves_RopeKernel_RopeKernelIdeal
    ∧ preserves_LossKernel_LossKernelIdeal
    ∧ algebraic_LossKernelIdeal_LossReferenceIdeal (hLossKernelIdeal := hLossKernelIdeal) (hLossReferenceIdeal := hLossReferenceIdeal)
    ∧ preserves_NormKvKernel_NormKvKernelIdeal
    ∧ algebraic_NormKvKernelIdeal_NormKvReferenceIdeal (hNormKvKernelIdeal := hNormKvKernelIdeal) (hNormKvReferenceIdeal := hNormKvReferenceIdeal)
    ∧ preserves_FfnFwdKernel_FfnFwdKernelIdeal
    ∧ algebraic_FfnFwdKernelIdeal_FfnFwdReferenceIdeal (hFfnFwdKernelIdeal := hFfnFwdKernelIdeal) (hFfnFwdReferenceIdeal := hFfnFwdReferenceIdeal)
    ∧ preserves_MergeFwdKernel_MergeFwdKernelIdeal
    ∧ algebraic_MergeFwdKernelIdeal_MergeFwdReferenceIdeal (hMergeFwdKernelIdeal := hMergeFwdKernelIdeal) (hMergeFwdReferenceIdeal := hMergeFwdReferenceIdeal)
    ∧ preserves_ProdTnKernel_ProdTnKernelIdeal
    ∧ algebraic_ProdTnKernelIdeal_ProdTnReferenceIdeal (hProdTnKernelIdeal := hProdTnKernelIdeal) (hProdTnReferenceIdeal := hProdTnReferenceIdeal)
    ∧ preserves_ProdNtKernel_ProdNtKernelIdeal
    ∧ algebraic_ProdNtKernelIdeal_ProdNtReferenceIdeal (hProdNtKernelIdeal := hProdNtKernelIdeal) (hProdNtReferenceIdeal := hProdNtReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_AttnFwd0Kernel_AttnFwd0KernelIdeal
    ∧ algebraic_AttnFwd0KernelIdeal_AttnFwd0ReferenceIdeal (hAttnFwd0KernelIdeal := hAttnFwd0KernelIdeal) (hAttnFwd0ReferenceIdeal := hAttnFwd0ReferenceIdeal)
    ∧ preserves_AttnFwd1Kernel_AttnFwd1KernelIdeal
    ∧ algebraic_AttnFwd1KernelIdeal_AttnFwd1ReferenceIdeal (hAttnFwd1KernelIdeal := hAttnFwd1KernelIdeal) (hAttnFwd1ReferenceIdeal := hAttnFwd1ReferenceIdeal)
    ∧ preserves_AttnFwd2Kernel_AttnFwd2KernelIdeal
    ∧ algebraic_AttnFwd2KernelIdeal_AttnFwd2ReferenceIdeal (hAttnFwd2KernelIdeal := hAttnFwd2KernelIdeal) (hAttnFwd2ReferenceIdeal := hAttnFwd2ReferenceIdeal)
    ∧ preserves_PoolFwdKernel_PoolFwdKernelIdeal
    ∧ algebraic_PoolFwdKernelIdeal_PoolFwdReferenceIdeal_pre_finite_pool (hPoolFwdKernelIdeal := hPoolFwdKernelIdeal) (hPoolFwdReferenceIdeal := hPoolFwdReferenceIdeal) (hPre_finite_pool := hPre_finite_pool)
    ∧ preserves_SumKernel_SumKernelIdeal
    ∧ algebraic_SumKernelIdeal_SumReferenceIdeal (hSumKernelIdeal := hSumKernelIdeal) (hSumReferenceIdeal := hSumReferenceIdeal)
    ∧ preserves_SumAdamKernel_SumAdamKernelIdeal
    ∧ algebraic_SumAdamKernelIdeal_SumAdamReferenceIdeal (hSumAdamKernelIdeal := hSumAdamKernelIdeal) (hSumAdamReferenceIdeal := hSumAdamReferenceIdeal)
-- ==== Pre_finite_attn.lean ====
abbrev S4096x768 : Shape := ⟨2, ![4096, 768]⟩
abbrev S4096x256 : Shape := ⟨2, ![4096, 256]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  main_v18

def fn {F : FTy → Type} [FloatOps F] (main_arg0 : FVec F S4096x768 .f32) (main_arg1 : FVec F S4096x768 .f32) (main_arg2 : FVec F S4096x768 .f32) (main_arg3 : FVec F S4096x256 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_v13 main_v16
-- ==== Pre_finite_ffn.lean ====
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x2816 : S_.BroadcastsInDim S3x2816 (![] : Fin 0 → Fin S3x2816.rank)
  reducesTo_S3x2816_S_d0_1 : S3x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x5632 .f32) (main_arg1 : FVec F S3x2816 .f32) (main_arg2 : FVec F S2816x1024 .f32) (main_arg3 : FVec F S1024 .f32) (main_arg4 : FVec F S4096x1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x2816 .f32 := Host.absf main_arg1
  let main_cst_0 : FVec F S_ .f32 := constant S_ .f32 0x7F800000#32
  let main_v5 : FVec F S3x2816 .f32 := broadcastInDim S3x2816 ![] bcast_S_S3x2816 main_cst_0
  let main_v6 : IVec S3x2816 1 := cmpf .olt main_v4 main_v5
  let main_c_1 : IVec S_ 1 := constantI S_ 1 1#1
  let main_v7 : IVec S_ 1 := (fun x v => Host.reduce IntOp.andi x v reducesTo_S3x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite_ffnpre.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x5632 .f32) (main_arg3 : FVec F S4096x5632 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4096x5632 .f32 := Host.absf main_arg3
  let main_cst_4 : FVec F S_ .f32 := constant S_ .f32 0x7F800000#32
  let main_v15 : FVec F S4096x5632 .f32 := broadcastInDim S4096x5632 ![] bcast_S_S4096x5632 main_cst_4
  let main_v16 : IVec S4096x5632 1 := cmpf .olt main_v14 main_v15
  fn_part1 (F := F) main_v13 main_v16
-- ==== Pre_finite_mem.lean ====
abbrev S4096x1024 : Shape := ⟨2, ![4096, 1024]⟩
abbrev S256x1024 : Shape := ⟨2, ![256, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S512x1024 .f32) (main_arg5 : FVec F S1024 .f32) (main_arg6 : FVec F S4096x1024 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S256x1024 .f32) (main_arg2 : FVec F S1024 .f32) (main_arg3 : FVec F S1024x512 .f32) (main_arg4 : FVec F S512x1024 .f32) (main_arg5 : FVec F S1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_v13 main_v16
-- ==== Pre_finite_mixpre.lean ====
abbrev S4096x1024 : Shape := ⟨2, ![4096, 1024]⟩
abbrev S1024 : Shape := ⟨1, ![1024]⟩
abbrev S1024x6912 : Shape := ⟨2, ![1024, 6912]⟩
abbrev S4096x6912 : Shape := ⟨2, ![4096, 6912]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6912 : S_.BroadcastsInDim S1024x6912 (![] : Fin 0 → Fin S1024x6912.rank)
  reducesTo_S1024x6912_S_d0_1 : S1024x6912.ReducesTo [0, 1] S_
  bcast_S_S4096x6912 : S_.BroadcastsInDim S4096x6912 (![] : Fin 0 → Fin S4096x6912.rank)
  reducesTo_S4096x6912_S_d0_1 : S4096x6912.ReducesTo [0, 1] S_

variable [Facts]

def fn_part1 {F : FTy → Type} [FloatOps F] (main_v13 : IVec S_ 1) (main_v16 : IVec S4096x6912 1) : IVec S_ 1 :=
  let main_c_5 : IVec S_ 1 := constantI S_ 1 1#1
  let main_v17 : IVec S_ 1 := (fun x v => Host.reduce IntOp.andi x v reducesTo_S4096x6912_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x6912 .f32) (main_arg3 : FVec F S4096x6912 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6912 .f32 := Host.absf main_arg2
  let main_cst_2 : FVec F S_ .f32 := constant S_ .f32 0x7F800000#32
  let main_v10 : FVec F S1024x6912 .f32 := broadcastInDim S1024x6912 ![] bcast_S_S1024x6912 main_cst_2
  let main_v11 : IVec S1024x6912 1 := cmpf .olt main_v9 main_v10
  let main_c_3 : IVec S_ 1 := constantI S_ 1 1#1
  let main_v12 : IVec S_ 1 := (fun x v => Host.reduce IntOp.andi x v reducesTo_S1024x6912_S_d0_1 h_S_) main_v11 main_c_3
  let main_v13 : IVec S_ 1 := andi main_v8 main_v12
  let main_v14 : FVec F S4096x6912 .f32 := Host.absf main_arg3
  let main_cst_4 : FVec F S_ .f32 := constant S_ .f32 0x7F800000#32
  let main_v15 : FVec F S4096x6912 .f32 := broadcastInDim S4096x6912 ![] bcast_S_S4096x6912 main_cst_4
  let main_v16 : IVec S4096x6912 1 := cmpf .olt main_v14 main_v15
  fn_part1 (F := F) main_v13 main_v16
-- ==== Pre_finite_pool.lean ====
abbrev S4096x6912 : Shape := ⟨2, ![4096, 6912]⟩
abbrev S4x96x96 : Shape := ⟨3, ![4, 96, 96]⟩
abbrev S384 : Shape := ⟨1, ![384]⟩
abbrev S3x384 : Shape := ⟨2, ![3, 384]⟩
abbrev S_ : Shape := ⟨0, ![]⟩

class Facts : Prop where
  bcast_S_S4096x6912 : S_.BroadcastsInDim S4096x6912 (![] : Fin 0 → Fin S4096x6912.rank)
  reducesTo_S4096x6912_S_d0_1 : S4096x6912.ReducesTo [0, 1] S_
  h_S_ : 0 < S_.numel

variable [Facts]

def fn {F : FTy → Type} [FloatOps F] (main_arg0 : FVec F S4096x6912 .f32) (main_arg1 : FVec F S4x96x96 .f32) (main_arg2 : FVec F S384 .f32) (main_arg3 : FVec F S3x384 .f32) : IVec S_ 1 :=
  let main_v0 : FVec F S4096x6912 .f32 := Host.absf main_arg0
  let main_cst : FVec F S_ .f32 := constant S_ .f32 0x7F800000#32
  let main_v1 : FVec F S4096x6912 .f32 := broadcastInDim S4096x6912 ![] bcast_S_S4096x6912 main_cst
  let main_v2 : IVec S4096x6912 1 := cmpf .olt main_v0 main_v1
  let main_c : IVec S_ 1 := constantI S_ 1 1#1
  let main_v3 : IVec S_ 1 := (fun x v => Host.reduce IntOp.andi x v reducesTo_S4096x6912_S_d0_1 h_S_) main_v2 main_c
  main_v3
-- ==== GainKernel.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GainReferenceIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1024, .f32⟩
  | .hbm, ⟨25, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MemKernel.lean ====
abbrev S4096x1024 : Shape := ⟨2, ![4096, 1024]⟩
abbrev S256x1024 : Shape := ⟨2, ![256, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩

abbrev nBuf : Space → Nat
  | .hbm => 64
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x512, .f32⟩
  | .hbm, ⟨24, _⟩ => ⟨S4096x4x128, .f32⟩
  | .hbm, ⟨25, _⟩ => ⟨S256x512, .f32⟩
  | .hbm, ⟨26, _⟩ => ⟨S256x4x128, .f32⟩
  | .hbm, ⟨27, _⟩ => ⟨S256x512, .f32⟩
  | .hbm, ⟨28, _⟩ => ⟨S256x4x128, .f32⟩
  | .hbm, ⟨29, _⟩ => ⟨S4x4096x256, .f32⟩
  | .hbm, ⟨30, _⟩ => ⟨S_, .f32⟩
  | .hbm, ⟨31, _⟩ => ⟨S4x4096x256, .f32⟩
  | .hbm, ⟨32, _⟩ => ⟨S4x4096x256, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x128x4096, .f32⟩
  | .hbm, ⟨48, _⟩ => ⟨S4096x4x128, .f32⟩
  | .hbm, ⟨49, _⟩ => ⟨S4096x512, .f32⟩
  | .hbm, ⟨50, _⟩ => ⟨S4096x1024, .f32⟩
  | .hbm, ⟨51, _⟩ => ⟨S4096x512, .bf16⟩
  | .hbm, ⟨52, _⟩ => ⟨S256x1024, .bf16⟩
  | .hbm, ⟨53, _⟩ => ⟨S1x1024, .f32⟩
  | .hbm, ⟨54, _⟩ => ⟨S1024x512, .bf16⟩
  | .hbm, ⟨55, _⟩ => ⟨S1024x512, .f32⟩
  | .hbm, ⟨56, _⟩ => ⟨S1024x512, .bf16⟩
  | .hbm, ⟨57, _⟩ => ⟨S1x1024, .f32⟩
  | .hbm, ⟨58, _⟩ => ⟨S4096x1024, .f32⟩
  | .hbm, ⟨59, _⟩ => ⟨S1x1024, .f32⟩
  | .hbm, ⟨60, _⟩ => ⟨S1x1024, .f32⟩
  | .hbm, ⟨61, _⟩ => ⟨S256x1024, .f32⟩
  | .hbm, ⟨62, _⟩ => ⟨S1024x512, .bf16⟩
  | .hbm, ⟨63, _⟩ => ⟨S1024x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S256x1024, .bf16⟩
  | .local _ .vmem, ⟨9, _⟩ => ⟨S1x1024, .f32⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S256x1024, .f32⟩
  | .local _ .vmem, ⟨18, _⟩ => ⟨S1024x512, .bf16⟩
  | .local _ .vmem, ⟨19, _⟩ => ⟨S1024x512, .bf16⟩
  | .local _ .vmem, ⟨20, _⟩ => ⟨S1024x512, .f32⟩
  | .local _ .vmem, ⟨21, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v44_4 : Ref sig .tc := ⟨.hbm, 62, rfl⟩
abbrev main_v44_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_12 : BitVec 32 := 0#32
  let v37 : BitVec 1 := Scalar.cmpi .ne v36 c0_i32_12
  v37

def k0_cond2 (i : grid0.Coords) : BitVec 1 :=
  let arg0 : BitVec 32 := BitVec.ofNat 32 (i 0).val
  let c0_i32_13 : BitVec 32 := 0#32
  let v38 : BitVec 1 := Scalar.cmpi .ne arg0 c0_i32_13
  let v39 : BitVec 32 := Scalar.extui v38
  let c0_i32_14 : BitVec 32 := 0#32
  let v40 : BitVec 1 := Scalar.cmpi .ne v39 c0_i32_14
  v40

def k0_cond4 (i : grid0.Coords) : BitVec 1 :=
  let arg0 : BitVec 32 := BitVec.ofNat 32 (i 0).val
  let c0_i32_125 : BitVec 32 := 0#32
  let v258 : BitVec 1 := Scalar.cmpi .eq arg0 c0_i32_125
  let v259 : BitVec 32 := Scalar.extui v258
  let c0_i32_126 : BitVec 32 := 0#32
  let v260 : BitVec 1 := Scalar.cmpi .ne v259 c0_i32_126
  v260

def k0_cond5 (i : grid0.Coords) : BitVec 1 :=
  let arg0 : BitVec 32 := BitVec.ofNat 32 (i 0).val
  let c0_i32_127 : BitVec 32 := 0#32
  let v261 : BitVec 1 := Scalar.cmpi .ne arg0 c0_i32_127
  let v262 : BitVec 32 := Scalar.extui v261
  let c0_i32_128 : BitVec 32 := 0#32
  let v263 : BitVec 1 := Scalar.cmpi .ne v262 c0_i32_128
  v263

def k0_cond6 (i : grid0.Coords) : BitVec 1 :=
  let arg0 : BitVec 32 := BitVec.ofNat 32 (i 0).val
  let c7_i32 : BitVec 32 := 7#32
  let v292 : BitVec 1 := Scalar.cmpi .eq arg0 c7_i32
  let v293 : BitVec 32 := Scalar.extui v292
  let c0_i32_138 : BitVec 32 := 0#32
  let v294 : BitVec 1 := Scalar.cmpi .ne v293 c0_i32_138
  v294

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MemReferenceIdeal.lean ====
abbrev S4096x1024 : Shape := ⟨2, ![4096, 1024]⟩
abbrev S256x1024 : Shape := ⟨2, ![256, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 197
  | .vmem => 0
  | .smem => 0
  | _ => 0

abbrev hbmTy0_0 (i : Nat) : BufTy := match i % 128 with
  | 0 => ⟨S4096x1024, .f32⟩
  | 1 => ⟨S256x1024, .f32⟩
  | 2 => ⟨S1024, .f32⟩
  | 3 => ⟨S1024x512, .f32⟩
  | 4 => ⟨S512x1024, .f32⟩
  | 5 => ⟨S1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S4096x512, .f32⟩
  | 28 => ⟨S4096x4x128, .f32⟩
  | 29 => ⟨S256x512, .f32⟩
  | 30 => ⟨S256x4x128, .f32⟩
  | 31 => ⟨S256x512, .f32⟩
  | 32 => ⟨S256x4x128, .f32⟩
  | 33 => ⟨S4x4096x256, .f32⟩
  | 34 => ⟨S_, .f32⟩
  | 35 => ⟨S4x4096x256, .f32⟩
  | 36 => ⟨S4x4096x256, .f32⟩
  | 37 => ⟨S_, .f32⟩
  | 38 => ⟨S4x4096, .f32⟩
  | 39 => ⟨S4x4096x1, .f32⟩
  | 40 => ⟨S4x4096x256, .f32⟩
  | 41 => ⟨S4x4096x256, .i1⟩
  | 42 => ⟨S4x4096x256, .f32⟩
  | 43 => ⟨S_, .f32⟩
  | 44 => ⟨S4x4096, .f32⟩
  | 45 => ⟨S_, .f32⟩
  | 46 => ⟨S4x4096, .f32⟩
  | 47 => ⟨S4x4096, .f32⟩
  | 48 => ⟨S_, .f32⟩
  | 49 => ⟨S4x4096, .f32⟩
  | 50 => ⟨S4x4096, .i1⟩
  | 51 => ⟨S_, .f32⟩
  | 52 => ⟨S4x4096, .f32⟩
  | 53 => ⟨S4x4096, .i1⟩
  | 54 => ⟨S_, .f32⟩
  | 55 => ⟨S4x4096, .f32⟩
  | 56 => ⟨S_, .f32⟩
  | 57 => ⟨S4x4096, .f32⟩
  | 58 => ⟨S_, .f32⟩
  | 59 => ⟨S4x4096, .f32⟩
  | 60 => ⟨S4x4096, .f32⟩
  | 61 => ⟨S4x4096, .f32⟩
  | 62 => ⟨S4x4096x1, .f32⟩
  | 63 => ⟨S4x4096x256, .f32⟩
  | 64 => ⟨S4x4096x256, .f32⟩
  | 65 => ⟨S4x4096x256, .f32⟩
  | 66 => ⟨S_, .f32⟩
  | 67 => ⟨S4x4096, .f32⟩
  | 68 => ⟨S4x4096x1, .f32⟩
  | 69 => ⟨S4x4096x256, .f32⟩
  | 70 => ⟨S4x4096x256, .f32⟩
  | 71 => ⟨S4x4096x1, .f32⟩
  | 72 => ⟨S_, .f32⟩
  | 73 => ⟨S4x4096x1, .f32⟩
  | 74 => ⟨S4x4096x1, .f32⟩
  | 75 => ⟨S4x128x4096, .f32⟩
  | 76 => ⟨S4096x4x128, .f32⟩
  | 77 => ⟨S4096x512, .f32⟩
  | 78 => ⟨S4096x1024, .f32⟩
  | 79 => ⟨S4096x1024, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S4096x1024, .f32⟩
  | 107 => ⟨S_, .f32⟩
  | 108 => ⟨S1024, .f32⟩
  | 109 => ⟨S4096x1024, .f32⟩
  | 110 => ⟨S_, .f32⟩
  | 111 => ⟨S4096, .f32⟩
  | 112 => ⟨S4096x1, .f32⟩
  | 113 => ⟨S4096x1024, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S1024x512, .f32⟩
  | 127 => ⟨S512x1024, .f32⟩
  | _ => ⟨S4096x1024, .f32⟩

abbrev hbmTy0_1 (i : Nat) : BufTy := match i % 128 with
  | 0 => ⟨S4096x512, .f32⟩
  | 1 => ⟨S4096x4x128, .f32⟩
  | 2 => ⟨S4x128x4096, .f32⟩
  | 3 => ⟨S4x4096x256, .f32⟩
  | 4 => ⟨S4x128x256, .f32⟩
  | 5 => ⟨S256x4x128, .f32⟩
  | 6 => ⟨S4x4096x256, .f32⟩
  | 7 => ⟨S4x4096x256, .f32⟩
  | 8 => ⟨S4x4096x256, .f32⟩
  | 9 => ⟨S_, .f32⟩
  | 10 => ⟨S4x4096, .f32⟩
  | 11 => ⟨S4x4096x1, .f32⟩
  | 12 => ⟨S4x4096x1, .f32⟩
  | 13 => ⟨S4x4096x256, .f32⟩
  | 14 => ⟨S4x4096x256, .f32⟩
  | 15 => ⟨S_, .f32⟩
  | 16 => ⟨S4x4096, .f32⟩
  | 17 => ⟨S4x4096x256, .f32⟩
  | 18 => ⟨S4x4096x256, .f32⟩
  | 19 => ⟨S4x4096x256, .f32⟩
  | 20 => ⟨S_, .f32⟩
  | 21 => ⟨S4x4096x256, .f32⟩
  | 22 => ⟨S4x4096x256, .f32⟩
  | 23 => ⟨S4x256x128, .f32⟩
  | 24 => ⟨S256x4x128, .f32⟩
  | 25 => ⟨S4x4096x128, .f32⟩
  | 26 => ⟨S4096x4x128, .f32⟩
  | 27 => ⟨S256x512, .f32⟩
  | 28 => ⟨S_, .f32⟩
  | 29 => ⟨S256x1024, .f32⟩
  | 30 => ⟨S256x512, .f32⟩
  | 31 => ⟨S_, .f32⟩
  | 32 => ⟨S256x1024, .f32⟩
  | 33 => ⟨S256x1024, .f32⟩
  | 34 => ⟨S4096x512, .f32⟩
  | 35 => ⟨S512x1024, .f32⟩
  | 36 => ⟨S1024x512, .f32⟩
  | 37 => ⟨S4096x1024, .f32⟩
  | 38 => ⟨S4096x1024, .f32⟩
  | 39 => ⟨S_, .f32⟩
  | 40 => ⟨S1024, .f32⟩
  | 41 => ⟨S1x1024, .f32⟩
  | 42 => ⟨S4096x1024, .f32⟩
  | 43 => ⟨S4096x1024, .f32⟩
  | 44 => ⟨S_, .f32⟩
  | 45 => ⟨S1024, .f32⟩
  | 46 => ⟨S4096x1024, .f32⟩
  | 47 => ⟨S_, .f32⟩
  | 48 => ⟨S4096, .f32⟩
  | 49 => ⟨S4096x1, .f32⟩
  | 50 => ⟨S4096x1024, .f32⟩
  | 51 => ⟨S4096x1024, .f32⟩
  | 52 => ⟨S4096x1024, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S1x1024, .f32⟩
  | 65 => ⟨S1x1024, .f32⟩
  | 66 => ⟨S1024x512, .f32⟩
  | 67 => ⟨S1024x512, .bf16⟩
  | 68 => ⟨S1024x512, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_17 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_21 : Ref sig .tc := ⟨.hbm, 116, rfl⟩
abbrev main_v87 : Ref sig .tc := ⟨.hbm, 117, rfl⟩
abbrev main_v88 : Ref sig .tc := ⟨.hbm, 118, rfl⟩
abbrev main_cst_22 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_23 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_24 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_25 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_26 : Ref sig .tc := ⟨.hbm, 156, rfl⟩
abbrev main_v122 : Ref sig .tc := ⟨.hbm, 157, rfl⟩
abbrev main_v123 : Ref sig .tc := ⟨.hbm, 158, rfl⟩
abbrev main_cst_27 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_28 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_29 : Ref sig .tc := ⟨.hbm, 172, rfl⟩
abbrev main_v135 : Ref sig .tc := ⟨.hbm, 173, rfl⟩
abbrev main_v136 : Ref sig .tc := ⟨.hbm, 174, rfl⟩
abbrev main_cst_30 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_31 : Ref sig .tc := ⟨.hbm, 182, rfl⟩
abbrev main_v143 : Ref sig .tc := ⟨.hbm, 183, rfl⟩
abbrev main_v144 : Ref sig .tc := ⟨.hbm, 184, rfl⟩
abbrev main_cst_32 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩

abbrev nD : Nat := 1
abbrev τ : Topo := Topo.v7x

variable {F : FTy → Type} [FloatOps F]
-- ==== MemFwdKernel.lean ====
abbrev S4096x1024 : Shape := ⟨2, ![4096, 1024]⟩
abbrev S256x1024 : Shape := ⟨2, ![256, 1024]⟩
abbrev S1024 : Shape := ⟨1, ![1024]⟩
abbrev S1024x512 : Shape := ⟨2, ![1024, 512]⟩
abbrev S512x1024 : Shape := ⟨2, ![512, 1024]⟩
abbrev S1x1024 : Shape := ⟨2, ![1, 1024]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S1024, .f32⟩
  | .hbm, ⟨6, _⟩ => ⟨S256x1024, .bf16⟩
  | .hbm, ⟨7, _⟩ => ⟨S1x1024, .f32⟩
  | .hbm, ⟨8, _⟩ => ⟨S1024x512, .bf16⟩
  | .hbm, ⟨9, _⟩ => ⟨S1024x512, .f32⟩
  | .hbm, ⟨10, _⟩ => ⟨S1024x512, .bf16⟩
  | .hbm, ⟨11, _⟩ => ⟨S1x1024, .f32⟩
  | .hbm, ⟨12, _⟩ => ⟨S4096x512, .bf16⟩
  | .hbm, ⟨13, _⟩ => ⟨S4096x1024, .f32⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S1x1024, .f32⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S512x512, .bf16⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MemFwdReferenceIdeal.lean ====
abbrev S4096x1024 : Shape := ⟨2, ![4096, 1024]⟩
abbrev S256x1024 : Shape := ⟨2, ![256, 1024]⟩
abbrev S1024 : Shape := ⟨1, ![1024]⟩
abbrev S1024x512 : Shape := ⟨2, ![1024, 512]⟩
abbrev S512x1024 : Shape := ⟨2, ![512, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x512, .f32⟩
  | .hbm, ⟨23, _⟩ => ⟨S4096x4x128, .f32⟩
  | .hbm, ⟨24, _⟩ => ⟨S256x512, .f32⟩
  | .hbm, ⟨25, _⟩ => ⟨S256x4x128, .f32⟩
  | .hbm, ⟨26, _⟩ => ⟨S256x512, .f32⟩
  | .hbm, ⟨27, _⟩ => ⟨S256x4x128, .f32⟩
  | .hbm, ⟨28, _⟩ => ⟨S4x4096x256, .f32⟩
  | .hbm, ⟨29, _⟩ => ⟨S_, .f32⟩
  | .hbm, ⟨30, _⟩ => ⟨S4x4096x256, .f32⟩
  | .hbm, ⟨31, _⟩ => ⟨S4x4096x256, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096x1, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x128x4096, .f32⟩
  | .hbm, ⟨47, _⟩ => ⟨S4096x4x128, .f32⟩
  | .hbm, ⟨48, _⟩ => ⟨S4096x512, .f32⟩
  | .hbm, ⟨49, _⟩ => ⟨S4096x1024, .f32⟩
  | .hbm, ⟨50, _⟩ => ⟨S4096x512, .bf16⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Attn0Kernel.lean ====
abbrev S4096x768 : Shape := ⟨2, ![4096, 768]⟩
abbrev S4096x256 : Shape := ⟨2, ![4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S3x4096x4096 : Shape := ⟨3, ![3, 4096, 4096]⟩
abbrev S4096x3x4x64 : Shape := ⟨4, ![4096, 3, 4, 64]⟩
abbrev S3x4x4096x64 : Shape := ⟨4, ![3, 4, 4096, 64]⟩
abbrev S3x4x4096x4096 : Shape := ⟨4, ![3, 4, 4096, 4096]⟩
abbrev S3x1x4096x4096 : Shape := ⟨4, ![3, 1, 4096, 4096]⟩
abbrev S3x4x4096 : Shape := ⟨3, ![3, 4, 4096]⟩
abbrev S3x4x4096x1 : Shape := ⟨4, ![3, 4, 4096, 1]⟩
abbrev S1x4x4096x1 : Shape := ⟨4, ![1, 4, 4096, 1]⟩
abbrev S4x4096x1 : Shape := ⟨3, ![4, 4096, 1]⟩
abbrev S1x4x4096x64 : Shape := ⟨4, ![1, 4, 4096, 64]⟩
abbrev S4x4096x64 : Shape := ⟨3, ![4, 4096, 64]⟩
abbrev S4096x4x64 : Shape := ⟨3, ![4096, 4, 64]⟩
abbrev S4096x4 : Shape := ⟨2, ![4096, 4]⟩
abbrev S4096x4x1 : Shape := ⟨3, ![4096, 4, 1]⟩
abbrev S4096x1x256 : Shape := ⟨3, ![4096, 1, 256]⟩
abbrev S1x4096x256 : Shape := ⟨3, ![1, 4096, 256]⟩
abbrev S512x256 : Shape := ⟨2, ![512, 256]⟩
abbrev S128x256 : Shape := ⟨2, ![128, 256]⟩
abbrev S640x256 : Shape := ⟨2, ![640, 256]⟩
abbrev S256x256 : Shape := ⟨2, ![256, 256]⟩
abbrev S256x1 : Shape := ⟨2, ![256, 1]⟩

abbrev nBuf : Space → Nat
  | .hbm => 182
  | .vmem => 27
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096, .i32⟩
  | 5 => ⟨S4096x1, .i32⟩
  | 6 => ⟨S4096, .i32⟩
  | 7 => ⟨S1x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i1⟩
  | 14 => ⟨S_, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i32⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S4096x4096, .i32⟩
  | 27 => ⟨S4096x4096, .i1⟩
  | 28 => ⟨S_, .i32⟩
  | 29 => ⟨S4096x4096, .i32⟩
  | 30 => ⟨S4096x4096, .i1⟩
  | 31 => ⟨S4096x4096, .i1⟩
  | 32 => ⟨S_, .i32⟩
  | 33 => ⟨S4096x4096, .i32⟩
  | 34 => ⟨S4096x4096, .i32⟩
  | 35 => ⟨S_, .i32⟩
  | 36 => ⟨S4096x4096, .i32⟩
  | 37 => ⟨S4096x4096, .i1⟩
  | 38 => ⟨S4096x4096, .i1⟩
  | 39 => ⟨S_, .i32⟩
  | 40 => ⟨S4096x4096, .i32⟩
  | 41 => ⟨S4096x4096, .i1⟩
  | 42 => ⟨S_, .i32⟩
  | 43 => ⟨S4096x4096, .i32⟩
  | 44 => ⟨S4096x4096, .i1⟩
  | 45 => ⟨S4096x4096, .i1⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S4096x4096, .i1⟩
  | 53 => ⟨S1x4096x4096, .i1⟩
  | 54 => ⟨S1x4096x4096, .i1⟩
  | 55 => ⟨S1x4096x4096, .i1⟩
  | 56 => ⟨S3x4096x4096, .i1⟩
  | 57 => ⟨S4096x3x4x64, .f32⟩
  | 58 => ⟨S3x4x4096x64, .f32⟩
  | 59 => ⟨S4096x3x4x64, .f32⟩
  | 60 => ⟨S3x4x4096x64, .f32⟩
  | 61 => ⟨S4096x3x4x64, .f32⟩
  | 62 => ⟨S3x4x4096x64, .f32⟩
  | 63 => ⟨S3x4x4096x4096, .f32⟩
  | 64 => ⟨S_, .f32⟩
  | 65 => ⟨S3x4x4096x4096, .f32⟩
  | 66 => ⟨S3x4x4096x4096, .f32⟩
  | 67 => ⟨S3x1x4096x4096, .i1⟩
  | 68 => ⟨S_, .f32⟩
  | 69 => ⟨S_, .f32⟩
  | 70 => ⟨S3x4x4096x4096, .i1⟩
  | 71 => ⟨S3x4x4096x4096, .f32⟩
  | 72 => ⟨S3x4x4096x4096, .f32⟩
  | 73 => ⟨S_, .f32⟩
  | 74 => ⟨S3x4x4096, .f32⟩
  | 75 => ⟨S3x4x4096x1, .f32⟩
  | 76 => ⟨S3x4x4096x4096, .f32⟩
  | 77 => ⟨S3x4x4096x4096, .f32⟩
  | 78 => ⟨S3x4x4096x4096, .f32⟩
  | 79 => ⟨S_, .f32⟩
  | 80 => ⟨S3x4x4096, .f32⟩
  | 81 => ⟨S3x4x4096x1, .f32⟩
  | 82 => ⟨S3x4x4096x64, .f32⟩
  | 83 => ⟨S3x4x4096x64, .f32⟩
  | 84 => ⟨S3x4x4096x64, .f32⟩
  | 85 => ⟨S3x4x4096x1, .f32⟩
  | 86 => ⟨S3x4x4096x1, .f32⟩
  | 87 => ⟨S1x4x4096x1, .f32⟩
  | 88 => ⟨S4x4096x1, .f32⟩
  | 89 => ⟨S1x4x4096x1, .f32⟩
  | 90 => ⟨S4x4096x1, .f32⟩
  | 91 => ⟨S4x4096x1, .f32⟩
  | 92 => ⟨S1x4x4096x1, .f32⟩
  | 93 => ⟨S4x4096x1, .f32⟩
  | 94 => ⟨S4x4096x1, .f32⟩
  | 95 => ⟨S1x4x4096x1, .f32⟩
  | 96 => ⟨S3x4x4096x1, .f32⟩
  | 97 => ⟨S3x4x4096x1, .f32⟩
  | 98 => ⟨S3x4x4096x1, .f32⟩
  | 99 => ⟨S1x4x4096x1, .f32⟩
  | 100 => ⟨S4x4096x1, .f32⟩
  | 101 => ⟨S1x4x4096x1, .f32⟩
  | 102 => ⟨S4x4096x1, .f32⟩
  | 103 => ⟨S4x4096x1, .f32⟩
  | 104 => ⟨S1x4x4096x1, .f32⟩
  | 105 => ⟨S4x4096x1, .f32⟩
  | 106 => ⟨S4x4096x1, .f32⟩
  | 107 => ⟨S1x4x4096x1, .f32⟩
  | 108 => ⟨S3x4x4096x1, .f32⟩
  | 109 => ⟨S3x4x4096x1, .f32⟩
  | 110 => ⟨S3x4x4096x64, .f32⟩
  | 111 => ⟨S3x4x4096x64, .f32⟩
  | 112 => ⟨S1x4x4096x64, .f32⟩
  | 113 => ⟨S4x4096x64, .f32⟩
  | 114 => ⟨S1x4x4096x64, .f32⟩
  | 115 => ⟨S4x4096x64, .f32⟩
  | 116 => ⟨S4x4096x64, .f32⟩
  | 117 => ⟨S1x4x4096x64, .f32⟩
  | 118 => ⟨S4x4096x64, .f32⟩
  | 119 => ⟨S4x4096x64, .f32⟩
  | 120 => ⟨S4096x4x64, .f32⟩
  | 121 => ⟨S4096x256, .f32⟩
  | 122 => ⟨S4096x256, .f32⟩
  | 123 => ⟨S4096x4x64, .f32⟩
  | 124 => ⟨S_, .f32⟩
  | 125 => ⟨S4096x4, .f32⟩
  | 126 => ⟨S4096x4x1, .f32⟩
  | 127 => ⟨S1x4x4096x1, .f32⟩
  | _ => ⟨S4096x768, .f32⟩

abbrev hbmTy0_1 (i : Nat) : BufTy := match i % 128 with
  | 0 => ⟨S4x4096x1, .f32⟩
  | 1 => ⟨S1x4x4096x1, .f32⟩
  | 2 => ⟨S4x4096x1, .f32⟩
  | 3 => ⟨S4x4096x1, .f32⟩
  | 4 => ⟨S1x4x4096x1, .f32⟩
  | 5 => ⟨S4x4096x1, .f32⟩
  | 6 => ⟨S4x4096x1, .f32⟩
  | 7 => ⟨S1x4x4096x1, .f32⟩
  | 8 => ⟨S3x4x4096x1, .f32⟩
  | 9 => ⟨S3x4x4096x1, .f32⟩
  | 10 => ⟨S3x4x4096x1, .f32⟩
  | 11 => ⟨S1x4x4096x1, .f32⟩
  | 12 => ⟨S4x4096x1, .f32⟩
  | 13 => ⟨S1x4x4096x1, .f32⟩
  | 14 => ⟨S4x4096x1, .f32⟩
  | 15 => ⟨S4x4096x1, .f32⟩
  | 16 => ⟨S1x4x4096x1, .f32⟩
  | 17 => ⟨S4x4096x1, .f32⟩
  | 18 => ⟨S4x4096x1, .f32⟩
  | 19 => ⟨S4x4096x1, .f32⟩
  | 20 => ⟨S4x4096x1, .f32⟩
  | 21 => ⟨S4096x4x1, .f32⟩
  | 22 => ⟨S4096x4x64, .f32⟩
  | 23 => ⟨S4096x256, .f32⟩
  | 24 => ⟨S4096x4x64, .f32⟩
  | 25 => ⟨S4096x256, .f32⟩
  | 26 => ⟨S4096x256, .f32⟩
  | 27 => ⟨S4096x256, .f32⟩
  | 28 => ⟨S4096x256, .f32⟩
  | 29 => ⟨S4096x1x256, .f32⟩
  | 30 => ⟨S1x4096x256, .f32⟩
  | 31 => ⟨S4096x256, .f32⟩
  | 32 => ⟨S4096x256, .bf16⟩
  | 33 => ⟨S4096x1x256, .f32⟩
  | 34 => ⟨S1x4096x256, .f32⟩
  | 35 => ⟨S4096x256, .f32⟩
  | 36 => ⟨S4096x256, .bf16⟩
  | 37 => ⟨S4096x1x256, .f32⟩
  | 38 => ⟨S1x4096x256, .f32⟩
  | 39 => ⟨S4096x256, .f32⟩
  | 40 => ⟨S4096x256, .bf16⟩
  | 41 => ⟨S4096x1x256, .f32⟩
  | 42 => ⟨S1x4096x256, .f32⟩
  | 43 => ⟨S4096x256, .f32⟩
  | 44 => ⟨S4096x256, .bf16⟩
  | 45 => ⟨S4096x1x256, .f32⟩
  | 46 => ⟨S1x4096x256, .f32⟩
  | 47 => ⟨S4096x256, .f32⟩
  | 48 => ⟨S4096x1x256, .f32⟩
  | 49 => ⟨S1x4096x256, .f32⟩
  | 50 => ⟨S4096x256, .f32⟩
  | 51 => ⟨S4096x256, .f32⟩
  | 52 => ⟨S4096x256, .f32⟩
  | 53 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S512x256, .f32⟩
  | .local _ .vmem, ⟨13, _⟩ => ⟨S512x256, .f32⟩
  | .local _ .vmem, ⟨14, _⟩ => ⟨S128x256, .f32⟩
  | .local _ .vmem, ⟨15, _⟩ => ⟨S128x256, .f32⟩
  | .local _ .vmem, ⟨16, _⟩ => ⟨S512x256, .f32⟩
  | .local _ .vmem, ⟨17, _⟩ => ⟨S512x256, .f32⟩
  | .local _ .vmem, ⟨18, _⟩ => ⟨S128x256, .f32⟩
  | .local _ .vmem, ⟨19, _⟩ => ⟨S128x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S640x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155_0 : Ref sig .tc := ⟨.hbm, 179, rfl⟩
abbrev main_v155_1 : Ref sig .tc := ⟨.hbm, 180, rfl⟩
abbrev main_v155_2 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Attn0ReferenceIdeal.lean ====
abbrev S4096x768 : Shape := ⟨2, ![4096, 768]⟩
abbrev S4096x256 : Shape := ⟨2, ![4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S3x4096x4096 : Shape := ⟨3, ![3, 4096, 4096]⟩
abbrev S4096x3x4x64 : Shape := ⟨4, ![4096, 3, 4, 64]⟩
abbrev S3x4x4096x64 : Shape := ⟨4, ![3, 4, 4096, 64]⟩
abbrev S3x4x4096x4096 : Shape := ⟨4, ![3, 4, 4096, 4096]⟩
abbrev S3x1x4096x4096 : Shape := ⟨4, ![3, 1, 4096, 4096]⟩
abbrev S3x4x4096 : Shape := ⟨3, ![3, 4, 4096]⟩
abbrev S3x4x4096x1 : Shape := ⟨4, ![3, 4, 4096, 1]⟩
abbrev S1x4x4096x1 : Shape := ⟨4, ![1, 4, 4096, 1]⟩
abbrev S4x4096x1 : Shape := ⟨3, ![4, 4096, 1]⟩
abbrev S1x4x4096x64 : Shape := ⟨4, ![1, 4, 4096, 64]⟩
abbrev S4x4096x64 : Shape := ⟨3, ![4, 4096, 64]⟩
abbrev S4096x4x64 : Shape := ⟨3, ![4096, 4, 64]⟩
abbrev S4x4096 : Shape := ⟨2, ![4, 4096]⟩
abbrev S3x4x64x4096 : Shape := ⟨4, ![3, 4, 64, 4096]⟩
abbrev S4096x1x256 : Shape := ⟨3, ![4096, 1, 256]⟩
abbrev S1x4096x256 : Shape := ⟨3, ![1, 4096, 256]⟩

abbrev nBuf : Space → Nat
  | .hbm => 278
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096, .i32⟩
  | 5 => ⟨S4096x1, .i32⟩
  | 6 => ⟨S4096, .i32⟩
  | 7 => ⟨S1x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i1⟩
  | 14 => ⟨S_, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i32⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S4096x4096, .i32⟩
  | 27 => ⟨S4096x4096, .i1⟩
  | 28 => ⟨S_, .i32⟩
  | 29 => ⟨S4096x4096, .i32⟩
  | 30 => ⟨S4096x4096, .i1⟩
  | 31 => ⟨S4096x4096, .i1⟩
  | 32 => ⟨S_, .i32⟩
  | 33 => ⟨S4096x4096, .i32⟩
  | 34 => ⟨S4096x4096, .i32⟩
  | 35 => ⟨S_, .i32⟩
  | 36 => ⟨S4096x4096, .i32⟩
  | 37 => ⟨S4096x4096, .i1⟩
  | 38 => ⟨S4096x4096, .i1⟩
  | 39 => ⟨S_, .i32⟩
  | 40 => ⟨S4096x4096, .i32⟩
  | 41 => ⟨S4096x4096, .i1⟩
  | 42 => ⟨S_, .i32⟩
  | 43 => ⟨S4096x4096, .i32⟩
  | 44 => ⟨S4096x4096, .i1⟩
  | 45 => ⟨S4096x4096, .i1⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S4096x4096, .i1⟩
  | 53 => ⟨S1x4096x4096, .i1⟩
  | 54 => ⟨S1x4096x4096, .i1⟩
  | 55 => ⟨S1x4096x4096, .i1⟩
  | 56 => ⟨S3x4096x4096, .i1⟩
  | 57 => ⟨S4096x3x4x64, .f32⟩
  | 58 => ⟨S3x4x4096x64, .f32⟩
  | 59 => ⟨S4096x3x4x64, .f32⟩
  | 60 => ⟨S3x4x4096x64, .f32⟩
  | 61 => ⟨S4096x3x4x64, .f32⟩
  | 62 => ⟨S3x4x4096x64, .f32⟩
  | 63 => ⟨S3x4x4096x4096, .f32⟩
  | 64 => ⟨S_, .f32⟩
  | 65 => ⟨S3x4x4096x4096, .f32⟩
  | 66 => ⟨S3x4x4096x4096, .f32⟩
  | 67 => ⟨S3x1x4096x4096, .i1⟩
  | 68 => ⟨S_, .f32⟩
  | 69 => ⟨S_, .f32⟩
  | 70 => ⟨S3x4x4096x4096, .i1⟩
  | 71 => ⟨S3x4x4096x4096, .f32⟩
  | 72 => ⟨S3x4x4096x4096, .f32⟩
  | 73 => ⟨S_, .f32⟩
  | 74 => ⟨S3x4x4096x4096, .f32⟩
  | 75 => ⟨S_, .f32⟩
  | 76 => ⟨S3x4x4096, .f32⟩
  | 77 => ⟨S3x4x4096x1, .f32⟩
  | 78 => ⟨S3x4x4096x4096, .f32⟩
  | 79 => ⟨S3x4x4096x4096, .i1⟩
  | 80 => ⟨S3x4x4096x4096, .f32⟩
  | 81 => ⟨S_, .f32⟩
  | 82 => ⟨S3x4x4096, .f32⟩
  | 83 => ⟨S3x4x4096x1, .f32⟩
  | 84 => ⟨S3x4x4096x4096, .f32⟩
  | 85 => ⟨S3x4x4096x4096, .f32⟩
  | 86 => ⟨S3x4x4096x4096, .f32⟩
  | 87 => ⟨S_, .f32⟩
  | 88 => ⟨S3x4x4096, .f32⟩
  | 89 => ⟨S3x4x4096x1, .f32⟩
  | 90 => ⟨S3x4x4096x64, .f32⟩
  | 91 => ⟨S3x4x4096x64, .f32⟩
  | 92 => ⟨S3x4x4096x64, .f32⟩
  | 93 => ⟨S3x4x4096x1, .f32⟩
  | 94 => ⟨S_, .f32⟩
  | 95 => ⟨S3x4x4096x1, .f32⟩
  | 96 => ⟨S3x4x4096x1, .f32⟩
  | 97 => ⟨S3x4x4096x1, .f32⟩
  | 98 => ⟨S3x4x4096x1, .f32⟩
  | 99 => ⟨S1x4x4096x1, .f32⟩
  | 100 => ⟨S4x4096x1, .f32⟩
  | 101 => ⟨S1x4x4096x1, .f32⟩
  | 102 => ⟨S4x4096x1, .f32⟩
  | 103 => ⟨S4x4096x1, .f32⟩
  | 104 => ⟨S4x4096x1, .i1⟩
  | 105 => ⟨S4x4096x1, .i1⟩
  | 106 => ⟨S_, .f32⟩
  | 107 => ⟨S4x4096x1, .f32⟩
  | 108 => ⟨S_, .f32⟩
  | 109 => ⟨S4x4096x1, .f32⟩
  | 110 => ⟨S_, .f32⟩
  | 111 => ⟨S4x4096x1, .f32⟩
  | 112 => ⟨S4x4096x1, .f32⟩
  | 113 => ⟨S4x4096x1, .f32⟩
  | 114 => ⟨S4x4096x1, .i1⟩
  | 115 => ⟨S4x4096x1, .i1⟩
  | 116 => ⟨S_, .f32⟩
  | 117 => ⟨S4x4096x1, .f32⟩
  | 118 => ⟨S_, .f32⟩
  | 119 => ⟨S4x4096x1, .f32⟩
  | 120 => ⟨S_, .f32⟩
  | 121 => ⟨S4x4096x1, .f32⟩
  | 122 => ⟨S4x4096x1, .f32⟩
  | 123 => ⟨S4x4096x1, .f32⟩
  | 124 => ⟨S1x4x4096x1, .f32⟩
  | 125 => ⟨S4x4096x1, .f32⟩
  | 126 => ⟨S4x4096x1, .f32⟩
  | 127 => ⟨S4x4096x1, .i1⟩
  | _ => ⟨S4096x768, .f32⟩

abbrev hbmTy0_1 (i : Nat) : BufTy := match i % 128 with
  | 0 => ⟨S4x4096x1, .i1⟩
  | 1 => ⟨S_, .f32⟩
  | 2 => ⟨S4x4096x1, .f32⟩
  | 3 => ⟨S_, .f32⟩
  | 4 => ⟨S4x4096x1, .f32⟩
  | 5 => ⟨S_, .f32⟩
  | 6 => ⟨S4x4096x1, .f32⟩
  | 7 => ⟨S4x4096x1, .f32⟩
  | 8 => ⟨S4x4096x1, .f32⟩
  | 9 => ⟨S4x4096x1, .i1⟩
  | 10 => ⟨S4x4096x1, .i1⟩
  | 11 => ⟨S_, .f32⟩
  | 12 => ⟨S4x4096x1, .f32⟩
  | 13 => ⟨S_, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S1x4x4096x1, .f32⟩
  | 20 => ⟨S3x4x4096x1, .f32⟩
  | 21 => ⟨S3x4x4096x1, .f32⟩
  | 22 => ⟨S3x4x4096x1, .f32⟩
  | 23 => ⟨S1x4x4096x1, .f32⟩
  | 24 => ⟨S4x4096x1, .f32⟩
  | 25 => ⟨S1x4x4096x1, .f32⟩
  | 26 => ⟨S4x4096x1, .f32⟩
  | 27 => ⟨S4x4096x1, .f32⟩
  | 28 => ⟨S1x4x4096x1, .f32⟩
  | 29 => ⟨S4x4096x1, .f32⟩
  | 30 => ⟨S4x4096x1, .f32⟩
  | 31 => ⟨S1x4x4096x1, .f32⟩
  | 32 => ⟨S3x4x4096x1, .f32⟩
  | 33 => ⟨S3x4x4096x1, .f32⟩
  | 34 => ⟨S1x4x4096x1, .f32⟩
  | 35 => ⟨S_, .f32⟩
  | 36 => ⟨S1x4x4096x1, .f32⟩
  | 37 => ⟨S1x4x4096x1, .f32⟩
  | 38 => ⟨S3x4x4096x64, .f32⟩
  | 39 => ⟨S3x4x4096x64, .f32⟩
  | 40 => ⟨S1x4x4096x64, .f32⟩
  | 41 => ⟨S4x4096x64, .f32⟩
  | 42 => ⟨S1x4x4096x64, .f32⟩
  | 43 => ⟨S4x4096x64, .f32⟩
  | 44 => ⟨S4x4096x64, .f32⟩
  | 45 => ⟨S1x4x4096x64, .f32⟩
  | 46 => ⟨S4x4096x64, .f32⟩
  | 47 => ⟨S4x4096x64, .f32⟩
  | 48 => ⟨S4096x4x64, .f32⟩
  | 49 => ⟨S4096x256, .f32⟩
  | 50 => ⟨S4096x4x64, .f32⟩
  | 51 => ⟨S4x4096x64, .f32⟩
  | 52 => ⟨S1x4x4096x64, .f32⟩
  | 53 => ⟨S_, .f32⟩
  | 54 => ⟨S3x4x4096x64, .f32⟩
  | 55 => ⟨S1x4x4096x64, .f32⟩
  | 56 => ⟨S_, .f32⟩
  | 57 => ⟨S3x4x4096x64, .f32⟩
  | 58 => ⟨S3x4x4096x64, .f32⟩
  | 59 => ⟨S1x4x4096x64, .f32⟩
  | 60 => ⟨S_, .f32⟩
  | 61 => ⟨S3x4x4096x64, .f32⟩
  | 62 => ⟨S3x4x4096x64, .f32⟩
  | 63 => ⟨S3x4x4096x64, .f32⟩
  | 64 => ⟨S3x4x4096x64, .f32⟩
  | 65 => ⟨S3x4x4096x64, .f32⟩
  | 66 => ⟨S_, .f32⟩
  | 67 => ⟨S3x4x4096, .f32⟩
  | 68 => ⟨S3x4x4096x1, .f32⟩
  | 69 => ⟨S3x4x4096x1, .f32⟩
  | 70 => ⟨S3x4x4096x1, .f32⟩
  | 71 => ⟨S3x4x4096x1, .f32⟩
  | 72 => ⟨S_, .f32⟩
  | 73 => ⟨S4x4096x1, .f32⟩
  | 74 => ⟨S1x4x4096x1, .f32⟩
  | 75 => ⟨S1x4x4096x1, .f32⟩
  | 76 => ⟨S3x4x4096x1, .f32⟩
  | 77 => ⟨S3x4x4096x1, .f32⟩
  | 78 => ⟨S_, .f32⟩
  | 79 => ⟨S4x4096, .f32⟩
  | 80 => ⟨S4x4096x1, .f32⟩
  | 81 => ⟨S1x4x4096x1, .f32⟩
  | 82 => ⟨S_, .f32⟩
  | 83 => ⟨S3x4x4096x1, .f32⟩
  | 84 => ⟨S3x4x4096x1, .f32⟩
  | 85 => ⟨S1x4x4096x1, .f32⟩
  | 86 => ⟨S_, .f32⟩
  | 87 => ⟨S3x4x4096x1, .f32⟩
  | 88 => ⟨S3x4x4096x1, .f32⟩
  | 89 => ⟨S1x4x4096x1, .f32⟩
  | 90 => ⟨S_, .f32⟩
  | 91 => ⟨S3x4x4096x1, .f32⟩
  | 92 => ⟨S3x4x4096x1, .f32⟩
  | 93 => ⟨S3x4x4096x1, .f32⟩
  | 94 => ⟨S3x4x4096x1, .f32⟩
  | 95 => ⟨S3x4x4096x64, .f32⟩
  | 96 => ⟨S3x4x4096x64, .f32⟩
  | 97 => ⟨S3x4x4096x64, .f32⟩
  | 98 => ⟨S_, .f32⟩
  | 99 => ⟨S3x4x4096, .f32⟩
  | 100 => ⟨S3x4x4096x1, .f32⟩
  | 101 => ⟨S3x4x4096x1, .f32⟩
  | 102 => ⟨S3x4x4096x1, .f32⟩
  | 103 => ⟨S3x4x4096x64, .f32⟩
  | 104 => ⟨S3x4x4096x64, .f32⟩
  | 105 => ⟨S3x4x64x4096, .f32⟩
  | 106 => ⟨S3x4x4096x64, .f32⟩
  | 107 => ⟨S3x4x4096x4096, .f32⟩
  | 108 => ⟨S_, .f32⟩
  | 109 => ⟨S3x4x4096, .f32⟩
  | 110 => ⟨S3x4x4096x4096, .f32⟩
  | 111 => ⟨S3x4x4096x4096, .f32⟩
  | 112 => ⟨S3x4x4096x4096, .f32⟩
  | 113 => ⟨S3x4x4096x4096, .f32⟩
  | 114 => ⟨S_, .f32⟩
  | 115 => ⟨S3x4x4096, .f32⟩
  | 116 => ⟨S3x4x4096x1, .f32⟩
  | 117 => ⟨S3x4x4096x1, .f32⟩
  | 118 => ⟨S_, .f32⟩
  | 119 => ⟨S3x4x4096, .f32⟩
  | 120 => ⟨S3x4x4096, .f32⟩
  | 121 => ⟨S3x4x4096x4096, .f32⟩
  | 122 => ⟨S3x4x4096x4096, .f32⟩
  | 123 => ⟨S3x4x4096x4096, .f32⟩
  | 124 => ⟨S_, .f32⟩
  | 125 => ⟨S3x4x4096x4096, .f32⟩
  | 126 => ⟨S3x4x4096x4096, .f32⟩
  | 127 => ⟨S_, .f32⟩
  | _ => ⟨S4096x768, .f32⟩

abbrev hbmTy0_2 (i : Nat) : BufTy := match i % 128 with
  | 0 => ⟨S3x4x4096x4096, .f32⟩
  | 1 => ⟨S3x4x4096x4096, .f32⟩
  | 2 => ⟨S3x4x4096x64, .f32⟩
  | 3 => ⟨S3x4x4096x64, .f32⟩
  | 4 => ⟨S4096x3x4x64, .f32⟩
  | 5 => ⟨S4096x768, .f32⟩
  | 6 => ⟨S4096x3x4x64, .f32⟩
  | 7 => ⟨S4096x768, .f32⟩
  | 8 => ⟨S4096x3x4x64, .f32⟩
  | 9 => ⟨S4096x768, .f32⟩
  | 10 => ⟨S4096x256, .f32⟩
  | 11 => ⟨S4096x1x256, .f32⟩
  | 12 => ⟨S1x4096x256, .f32⟩
  | 13 => ⟨S4096x256, .f32⟩
  | 14 => ⟨S4096x256, .f32⟩
  | 15 => ⟨S4096x1x256, .f32⟩
  | 16 => ⟨S1x4096x256, .f32⟩
  | 17 => ⟨S4096x256, .f32⟩
  | 18 => ⟨S4096x256, .f32⟩
  | 19 => ⟨S4096x1x256, .f32⟩
  | 20 => ⟨S1x4096x256, .f32⟩
  | 21 => ⟨S4096x256, .f32⟩
  | _ => ⟨S4096x768, .f32⟩

abbrev hbmTy (i : Nat) : BufTy := match i / 128 with
  | 0 => hbmTy0_0 i
  | 1 => hbmTy0_1 i
  | 2 => hbmTy0_2 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_call0_v0 : Ref sig .tc := ⟨.hbm, 69, rfl⟩
abbrev main_v51_1 : Ref sig .tc := ⟨.hbm, 70, rfl⟩
abbrev main_call0_v2 : Ref sig .tc := ⟨.hbm, 71, rfl⟩
abbrev main_v51_0 : Ref sig .tc := ⟨.hbm, 72, rfl⟩
abbrev main_call0_cst : Ref sig .tc := ⟨.hbm, 73, rfl⟩
abbrev main_v51_2 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_cst_20 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_22 : Ref sig .tc := ⟨.hbm, 129, rfl⟩
abbrev main_v96 : Ref sig .tc := ⟨.hbm, 130, rfl⟩
abbrev main_cst_23 : Ref sig .tc := ⟨.hbm, 131, rfl⟩
abbrev main_v97 : Ref sig .tc := ⟨.hbm, 132, rfl⟩
abbrev main_cst_24 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_25 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_cst_27 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_28 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_29 : Ref sig .tc := ⟨.hbm, 181, rfl⟩
abbrev main_v141 : Ref sig .tc := ⟨.hbm, 182, rfl⟩
abbrev main_v142 : Ref sig .tc := ⟨.hbm, 183, rfl⟩
abbrev main_cst_30 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_31 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_32 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_33 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_34 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_35 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_36 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_37 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_38 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_39 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_40 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_41 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_call1_cst : Ref sig .tc := ⟨.hbm, 252, rfl⟩
abbrev main_call1_v0 : Ref sig .tc := ⟨.hbm, 253, rfl⟩
abbrev main_v199 : Ref sig .tc := ⟨.hbm, 254, rfl⟩
abbrev main_cst_42 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩

abbrev nD : Nat := 1
abbrev τ : Topo := Topo.v7x

variable {F : FTy → Type} [FloatOps F]
-- ==== Attn1Kernel.lean ====
abbrev S4096x768 : Shape := ⟨2, ![4096, 768]⟩
abbrev S4096x256 : Shape := ⟨2, ![4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S3x4096x4096 : Shape := ⟨3, ![3, 4096, 4096]⟩
abbrev S4096x3x4x64 : Shape := ⟨4, ![4096, 3, 4, 64]⟩
abbrev S3x4x4096x64 : Shape := ⟨4, ![3, 4, 4096, 64]⟩
abbrev S3x4x4096x4096 : Shape := ⟨4, ![3, 4, 4096, 4096]⟩
abbrev S3x1x4096x4096 : Shape := ⟨4, ![3, 1, 4096, 4096]⟩
abbrev S3x4x4096 : Shape := ⟨3, ![3, 4, 4096]⟩
abbrev S3x4x4096x1 : Shape := ⟨4, ![3, 4, 4096, 1]⟩
abbrev S1x4x4096x1 : Shape := ⟨4, ![1, 4, 4096, 1]⟩
abbrev S4x4096x1 : Shape := ⟨3, ![4, 4096, 1]⟩
abbrev S1x4x4096x64 : Shape := ⟨4, ![1, 4, 4096, 64]⟩
abbrev S4x4096x64 : Shape := ⟨3, ![4, 4096, 64]⟩
abbrev S4096x4x64 : Shape := ⟨3, ![4096, 4, 64]⟩
abbrev S4096x4 : Shape := ⟨2, ![4096, 4]⟩
abbrev S4096x4x1 : Shape := ⟨3, ![4096, 4, 1]⟩
abbrev S1024x4x256 : Shape := ⟨3, ![1024, 4, 256]⟩
abbrev S4x1024x256 : Shape := ⟨3, ![4, 1024, 256]⟩
abbrev S512x256 : Shape := ⟨2, ![512, 256]⟩
abbrev S128x256 : Shape := ⟨2, ![128, 256]⟩
abbrev S640x256 : Shape := ⟨2, ![640, 256]⟩
abbrev S256x256 : Shape := ⟨2, ![256, 256]⟩
abbrev S256x1 : Shape := ⟨2, ![256, 1]⟩

abbrev nBuf : Space → Nat
  | .hbm => 182
  | .vmem => 27
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096, .i32⟩
  | 5 => ⟨S4096x1, .i32⟩
  | 6 => ⟨S4096, .i32⟩
  | 7 => ⟨S1x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i1⟩
  | 14 => ⟨S_, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i32⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S4096x4096, .i32⟩
  | 27 => ⟨S4096x4096, .i1⟩
  | 28 => ⟨S_, .i32⟩
  | 29 => ⟨S4096x4096, .i32⟩
  | 30 => ⟨S4096x4096, .i1⟩
  | 31 => ⟨S4096x4096, .i1⟩
  | 32 => ⟨S_, .i32⟩
  | 33 => ⟨S4096x4096, .i32⟩
  | 34 => ⟨S4096x4096, .i32⟩
  | 35 => ⟨S_, .i32⟩
  | 36 => ⟨S4096x4096, .i32⟩
  | 37 => ⟨S4096x4096, .i1⟩
  | 38 => ⟨S4096x4096, .i1⟩
  | 39 => ⟨S_, .i32⟩
  | 40 => ⟨S4096x4096, .i32⟩
  | 41 => ⟨S4096x4096, .i1⟩
  | 42 => ⟨S_, .i32⟩
  | 43 => ⟨S4096x4096, .i32⟩
  | 44 => ⟨S4096x4096, .i1⟩
  | 45 => ⟨S4096x4096, .i1⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S4096x4096, .i1⟩
  | 53 => ⟨S1x4096x4096, .i1⟩
  | 54 => ⟨S1x4096x4096, .i1⟩
  | 55 => ⟨S1x4096x4096, .i1⟩
  | 56 => ⟨S3x4096x4096, .i1⟩
  | 57 => ⟨S4096x3x4x64, .f32⟩
  | 58 => ⟨S3x4x4096x64, .f32⟩
  | 59 => ⟨S4096x3x4x64, .f32⟩
  | 60 => ⟨S3x4x4096x64, .f32⟩
  | 61 => ⟨S4096x3x4x64, .f32⟩
  | 62 => ⟨S3x4x4096x64, .f32⟩
  | 63 => ⟨S3x4x4096x4096, .f32⟩
  | 64 => ⟨S_, .f32⟩
  | 65 => ⟨S3x4x4096x4096, .f32⟩
  | 66 => ⟨S3x4x4096x4096, .f32⟩
  | 67 => ⟨S3x1x4096x4096, .i1⟩
  | 68 => ⟨S_, .f32⟩
  | 69 => ⟨S_, .f32⟩
  | 70 => ⟨S3x4x4096x4096, .i1⟩
  | 71 => ⟨S3x4x4096x4096, .f32⟩
  | 72 => ⟨S3x4x4096x4096, .f32⟩
  | 73 => ⟨S_, .f32⟩
  | 74 => ⟨S3x4x4096, .f32⟩
  | 75 => ⟨S3x4x4096x1, .f32⟩
  | 76 => ⟨S3x4x4096x4096, .f32⟩
  | 77 => ⟨S3x4x4096x4096, .f32⟩
  | 78 => ⟨S3x4x4096x4096, .f32⟩
  | 79 => ⟨S_, .f32⟩
  | 80 => ⟨S3x4x4096, .f32⟩
  | 81 => ⟨S3x4x4096x1, .f32⟩
  | 82 => ⟨S3x4x4096x64, .f32⟩
  | 83 => ⟨S3x4x4096x64, .f32⟩
  | 84 => ⟨S3x4x4096x64, .f32⟩
  | 85 => ⟨S3x4x4096x1, .f32⟩
  | 86 => ⟨S3x4x4096x1, .f32⟩
  | 87 => ⟨S1x4x4096x1, .f32⟩
  | 88 => ⟨S4x4096x1, .f32⟩
  | 89 => ⟨S1x4x4096x1, .f32⟩
  | 90 => ⟨S4x4096x1, .f32⟩
  | 91 => ⟨S4x4096x1, .f32⟩
  | 92 => ⟨S1x4x4096x1, .f32⟩
  | 93 => ⟨S4x4096x1, .f32⟩
  | 94 => ⟨S4x4096x1, .f32⟩
  | 95 => ⟨S1x4x4096x1, .f32⟩
  | 96 => ⟨S3x4x4096x1, .f32⟩
  | 97 => ⟨S3x4x4096x1, .f32⟩
  | 98 => ⟨S3x4x4096x1, .f32⟩
  | 99 => ⟨S1x4x4096x1, .f32⟩
  | 100 => ⟨S4x4096x1, .f32⟩
  | 101 => ⟨S1x4x4096x1, .f32⟩
  | 102 => ⟨S4x4096x1, .f32⟩
  | 103 => ⟨S4x4096x1, .f32⟩
  | 104 => ⟨S1x4x4096x1, .f32⟩
  | 105 => ⟨S4x4096x1, .f32⟩
  | 106 => ⟨S4x4096x1, .f32⟩
  | 107 => ⟨S1x4x4096x1, .f32⟩
  | 108 => ⟨S3x4x4096x1, .f32⟩
  | 109 => ⟨S3x4x4096x1, .f32⟩
  | 110 => ⟨S3x4x4096x64, .f32⟩
  | 111 => ⟨S3x4x4096x64, .f32⟩
  | 112 => ⟨S1x4x4096x64, .f32⟩
  | 113 => ⟨S4x4096x64, .f32⟩
  | 114 => ⟨S1x4x4096x64, .f32⟩
  | 115 => ⟨S4x4096x64, .f32⟩
  | 116 => ⟨S4x4096x64, .f32⟩
  | 117 => ⟨S1x4x4096x64, .f32⟩
  | 118 => ⟨S4x4096x64, .f32⟩
  | 119 => ⟨S4x4096x64, .f32⟩
  | 120 => ⟨S4096x4x64, .f32⟩
  | 121 => ⟨S4096x256, .f32⟩
  | 122 => ⟨S4096x256, .f32⟩
  | 123 => ⟨S4096x4x64, .f32⟩
  | 124 => ⟨S_, .f32⟩
  | 125 => ⟨S4096x4, .f32⟩
  | 126 => ⟨S4096x4x1, .f32⟩
  | 127 => ⟨S1x4x4096x1, .f32⟩
  | _ => ⟨S4096x768, .f32⟩

abbrev hbmTy0_1 (i : Nat) : BufTy := match i % 128 with
  | 0 => ⟨S4x4096x1, .f32⟩
  | 1 => ⟨S1x4x4096x1, .f32⟩
  | 2 => ⟨S4x4096x1, .f32⟩
  | 3 => ⟨S4x4096x1, .f32⟩
  | 4 => ⟨S1x4x4096x1, .f32⟩
  | 5 => ⟨S4x4096x1, .f32⟩
  | 6 => ⟨S4x4096x1, .f32⟩
  | 7 => ⟨S1x4x4096x1, .f32⟩
  | 8 => ⟨S3x4x4096x1, .f32⟩
  | 9 => ⟨S3x4x4096x1, .f32⟩
  | 10 => ⟨S3x4x4096x1, .f32⟩
  | 11 => ⟨S1x4x4096x1, .f32⟩
  | 12 => ⟨S4x4096x1, .f32⟩
  | 13 => ⟨S1x4x4096x1, .f32⟩
  | 14 => ⟨S4x4096x1, .f32⟩
  | 15 => ⟨S4x4096x1, .f32⟩
  | 16 => ⟨S1x4x4096x1, .f32⟩
  | 17 => ⟨S4x4096x1, .f32⟩
  | 18 => ⟨S4x4096x1, .f32⟩
  | 19 => ⟨S4x4096x1, .f32⟩
  | 20 => ⟨S4x4096x1, .f32⟩
  | 21 => ⟨S4096x4x1, .f32⟩
  | 22 => ⟨S4096x4x64, .f32⟩
  | 23 => ⟨S4096x256, .f32⟩
  | 24 => ⟨S4096x4x64, .f32⟩
  | 25 => ⟨S4096x256, .f32⟩
  | 26 => ⟨S4096x256, .f32⟩
  | 27 => ⟨S4096x256, .f32⟩
  | 28 => ⟨S4096x256, .f32⟩
  | 29 => ⟨S1024x4x256, .f32⟩
  | 30 => ⟨S4x1024x256, .f32⟩
  | 31 => ⟨S4096x256, .f32⟩
  | 32 => ⟨S4096x256, .bf16⟩
  | 33 => ⟨S1024x4x256, .f32⟩
  | 34 => ⟨S4x1024x256, .f32⟩
  | 35 => ⟨S4096x256, .f32⟩
  | 36 => ⟨S4096x256, .bf16⟩
  | 37 => ⟨S1024x4x256, .f32⟩
  | 38 => ⟨S4x1024x256, .f32⟩
  | 39 => ⟨S4096x256, .f32⟩
  | 40 => ⟨S4096x256, .bf16⟩
  | 41 => ⟨S1024x4x256, .f32⟩
  | 42 => ⟨S4x1024x256, .f32⟩
  | 43 => ⟨S4096x256, .f32⟩
  | 44 => ⟨S4096x256, .bf16⟩
  | 45 => ⟨S1024x4x256, .f32⟩
  | 46 => ⟨S4x1024x256, .f32⟩
  | 47 => ⟨S4096x256, .f32⟩
  | 48 => ⟨S1024x4x256, .f32⟩
  | 49 => ⟨S4x1024x256, .f32⟩
  | 50 => ⟨S4096x256, .f32⟩
  | 51 => ⟨S4096x256, .f32⟩
  | 52 => ⟨S4096x256, .f32⟩
  | 53 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S512x256, .f32⟩
  | .local _ .vmem, ⟨13, _⟩ => ⟨S512x256, .f32⟩
  | .local _ .vmem, ⟨14, _⟩ => ⟨S128x256, .f32⟩
  | .local _ .vmem, ⟨15, _⟩ => ⟨S128x256, .f32⟩
  | .local _ .vmem, ⟨16, _⟩ => ⟨S512x256, .f32⟩
  | .local _ .vmem, ⟨17, _⟩ => ⟨S512x256, .f32⟩
  | .local _ .vmem, ⟨18, _⟩ => ⟨S128x256, .f32⟩
  | .local _ .vmem, ⟨19, _⟩ => ⟨S128x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S640x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155_0 : Ref sig .tc := ⟨.hbm, 179, rfl⟩
abbrev main_v155_1 : Ref sig .tc := ⟨.hbm, 180, rfl⟩
abbrev main_v155_2 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Attn1ReferenceIdeal.lean ====
abbrev S4096x768 : Shape := ⟨2, ![4096, 768]⟩
abbrev S4096x256 : Shape := ⟨2, ![4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S3x4096x4096 : Shape := ⟨3, ![3, 4096, 4096]⟩
abbrev S4096x3x4x64 : Shape := ⟨4, ![4096, 3, 4, 64]⟩
abbrev S3x4x4096x64 : Shape := ⟨4, ![3, 4, 4096, 64]⟩
abbrev S3x4x4096x4096 : Shape := ⟨4, ![3, 4, 4096, 4096]⟩
abbrev S3x1x4096x4096 : Shape := ⟨4, ![3, 1, 4096, 4096]⟩
abbrev S3x4x4096 : Shape := ⟨3, ![3, 4, 4096]⟩
abbrev S3x4x4096x1 : Shape := ⟨4, ![3, 4, 4096, 1]⟩
abbrev S1x4x4096x1 : Shape := ⟨4, ![1, 4, 4096, 1]⟩
abbrev S4x4096x1 : Shape := ⟨3, ![4, 4096, 1]⟩
abbrev S1x4x4096x64 : Shape := ⟨4, ![1, 4, 4096, 64]⟩
abbrev S4x4096x64 : Shape := ⟨3, ![4, 4096, 64]⟩
abbrev S4096x4x64 : Shape := ⟨3, ![4096, 4, 64]⟩
abbrev S4x4096 : Shape := ⟨2, ![4, 4096]⟩
abbrev S3x4x64x4096 : Shape := ⟨4, ![3, 4, 64, 4096]⟩
abbrev S1024x4x256 : Shape := ⟨3, ![1024, 4, 256]⟩
abbrev S4x1024x256 : Shape := ⟨3, ![4, 1024, 256]⟩

abbrev nBuf : Space → Nat
  | .hbm => 278
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096, .i32⟩
  | 5 => ⟨S4096x1, .i32⟩
  | 6 => ⟨S4096, .i32⟩
  | 7 => ⟨S1x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i1⟩
  | 14 => ⟨S_, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i32⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S4096x4096, .i32⟩
  | 27 => ⟨S4096x4096, .i1⟩
  | 28 => ⟨S_, .i32⟩
  | 29 => ⟨S4096x4096, .i32⟩
  | 30 => ⟨S4096x4096, .i1⟩
  | 31 => ⟨S4096x4096, .i1⟩
  | 32 => ⟨S_, .i32⟩
  | 33 => ⟨S4096x4096, .i32⟩
  | 34 => ⟨S4096x4096, .i32⟩
  | 35 => ⟨S_, .i32⟩
  | 36 => ⟨S4096x4096, .i32⟩
  | 37 => ⟨S4096x4096, .i1⟩
  | 38 => ⟨S4096x4096, .i1⟩
  | 39 => ⟨S_, .i32⟩
  | 40 => ⟨S4096x4096, .i32⟩
  | 41 => ⟨S4096x4096, .i1⟩
  | 42 => ⟨S_, .i32⟩
  | 43 => ⟨S4096x4096, .i32⟩
  | 44 => ⟨S4096x4096, .i1⟩
  | 45 => ⟨S4096x4096, .i1⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S4096x4096, .i1⟩
  | 53 => ⟨S1x4096x4096, .i1⟩
  | 54 => ⟨S1x4096x4096, .i1⟩
  | 55 => ⟨S1x4096x4096, .i1⟩
  | 56 => ⟨S3x4096x4096, .i1⟩
  | 57 => ⟨S4096x3x4x64, .f32⟩
  | 58 => ⟨S3x4x4096x64, .f32⟩
  | 59 => ⟨S4096x3x4x64, .f32⟩
  | 60 => ⟨S3x4x4096x64, .f32⟩
  | 61 => ⟨S4096x3x4x64, .f32⟩
  | 62 => ⟨S3x4x4096x64, .f32⟩
  | 63 => ⟨S3x4x4096x4096, .f32⟩
  | 64 => ⟨S_, .f32⟩
  | 65 => ⟨S3x4x4096x4096, .f32⟩
  | 66 => ⟨S3x4x4096x4096, .f32⟩
  | 67 => ⟨S3x1x4096x4096, .i1⟩
  | 68 => ⟨S_, .f32⟩
  | 69 => ⟨S_, .f32⟩
  | 70 => ⟨S3x4x4096x4096, .i1⟩
  | 71 => ⟨S3x4x4096x4096, .f32⟩
  | 72 => ⟨S3x4x4096x4096, .f32⟩
  | 73 => ⟨S_, .f32⟩
  | 74 => ⟨S3x4x4096x4096, .f32⟩
  | 75 => ⟨S_, .f32⟩
  | 76 => ⟨S3x4x4096, .f32⟩
  | 77 => ⟨S3x4x4096x1, .f32⟩
  | 78 => ⟨S3x4x4096x4096, .f32⟩
  | 79 => ⟨S3x4x4096x4096, .i1⟩
  | 80 => ⟨S3x4x4096x4096, .f32⟩
  | 81 => ⟨S_, .f32⟩
  | 82 => ⟨S3x4x4096, .f32⟩
  | 83 => ⟨S3x4x4096x1, .f32⟩
  | 84 => ⟨S3x4x4096x4096, .f32⟩
  | 85 => ⟨S3x4x4096x4096, .f32⟩
  | 86 => ⟨S3x4x4096x4096, .f32⟩
  | 87 => ⟨S_, .f32⟩
  | 88 => ⟨S3x4x4096, .f32⟩
  | 89 => ⟨S3x4x4096x1, .f32⟩
  | 90 => ⟨S3x4x4096x64, .f32⟩
  | 91 => ⟨S3x4x4096x64, .f32⟩
  | 92 => ⟨S3x4x4096x64, .f32⟩
  | 93 => ⟨S3x4x4096x1, .f32⟩
  | 94 => ⟨S_, .f32⟩
  | 95 => ⟨S3x4x4096x1, .f32⟩
  | 96 => ⟨S3x4x4096x1, .f32⟩
  | 97 => ⟨S3x4x4096x1, .f32⟩
  | 98 => ⟨S3x4x4096x1, .f32⟩
  | 99 => ⟨S1x4x4096x1, .f32⟩
  | 100 => ⟨S4x4096x1, .f32⟩
  | 101 => ⟨S1x4x4096x1, .f32⟩
  | 102 => ⟨S4x4096x1, .f32⟩
  | 103 => ⟨S4x4096x1, .f32⟩
  | 104 => ⟨S4x4096x1, .i1⟩
  | 105 => ⟨S4x4096x1, .i1⟩
  | 106 => ⟨S_, .f32⟩
  | 107 => ⟨S4x4096x1, .f32⟩
  | 108 => ⟨S_, .f32⟩
  | 109 => ⟨S4x4096x1, .f32⟩
  | 110 => ⟨S_, .f32⟩
  | 111 => ⟨S4x4096x1, .f32⟩
  | 112 => ⟨S4x4096x1, .f32⟩
  | 113 => ⟨S4x4096x1, .f32⟩
  | 114 => ⟨S4x4096x1, .i1⟩
  | 115 => ⟨S4x4096x1, .i1⟩
  | 116 => ⟨S_, .f32⟩
  | 117 => ⟨S4x4096x1, .f32⟩
  | 118 => ⟨S_, .f32⟩
  | 119 => ⟨S4x4096x1, .f32⟩
  | 120 => ⟨S_, .f32⟩
  | 121 => ⟨S4x4096x1, .f32⟩
  | 122 => ⟨S4x4096x1, .f32⟩
  | 123 => ⟨S4x4096x1, .f32⟩
  | 124 => ⟨S1x4x4096x1, .f32⟩
  | 125 => ⟨S4x4096x1, .f32⟩
  | 126 => ⟨S4x4096x1, .f32⟩
  | 127 => ⟨S4x4096x1, .i1⟩
  | _ => ⟨S4096x768, .f32⟩

abbrev hbmTy0_1 (i : Nat) : BufTy := match i % 128 with
  | 0 => ⟨S4x4096x1, .i1⟩
  | 1 => ⟨S_, .f32⟩
  | 2 => ⟨S4x4096x1, .f32⟩
  | 3 => ⟨S_, .f32⟩
  | 4 => ⟨S4x4096x1, .f32⟩
  | 5 => ⟨S_, .f32⟩
  | 6 => ⟨S4x4096x1, .f32⟩
  | 7 => ⟨S4x4096x1, .f32⟩
  | 8 => ⟨S4x4096x1, .f32⟩
  | 9 => ⟨S4x4096x1, .i1⟩
  | 10 => ⟨S4x4096x1, .i1⟩
  | 11 => ⟨S_, .f32⟩
  | 12 => ⟨S4x4096x1, .f32⟩
  | 13 => ⟨S_, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S1x4x4096x1, .f32⟩
  | 20 => ⟨S3x4x4096x1, .f32⟩
  | 21 => ⟨S3x4x4096x1, .f32⟩
  | 22 => ⟨S3x4x4096x1, .f32⟩
  | 23 => ⟨S1x4x4096x1, .f32⟩
  | 24 => ⟨S4x4096x1, .f32⟩
  | 25 => ⟨S1x4x4096x1, .f32⟩
  | 26 => ⟨S4x4096x1, .f32⟩
  | 27 => ⟨S4x4096x1, .f32⟩
  | 28 => ⟨S1x4x4096x1, .f32⟩
  | 29 => ⟨S4x4096x1, .f32⟩
  | 30 => ⟨S4x4096x1, .f32⟩
  | 31 => ⟨S1x4x4096x1, .f32⟩
  | 32 => ⟨S3x4x4096x1, .f32⟩
  | 33 => ⟨S3x4x4096x1, .f32⟩
  | 34 => ⟨S1x4x4096x1, .f32⟩
  | 35 => ⟨S_, .f32⟩
  | 36 => ⟨S1x4x4096x1, .f32⟩
  | 37 => ⟨S1x4x4096x1, .f32⟩
  | 38 => ⟨S3x4x4096x64, .f32⟩
  | 39 => ⟨S3x4x4096x64, .f32⟩
  | 40 => ⟨S1x4x4096x64, .f32⟩
  | 41 => ⟨S4x4096x64, .f32⟩
  | 42 => ⟨S1x4x4096x64, .f32⟩
  | 43 => ⟨S4x4096x64, .f32⟩
  | 44 => ⟨S4x4096x64, .f32⟩
  | 45 => ⟨S1x4x4096x64, .f32⟩
  | 46 => ⟨S4x4096x64, .f32⟩
  | 47 => ⟨S4x4096x64, .f32⟩
  | 48 => ⟨S4096x4x64, .f32⟩
  | 49 => ⟨S4096x256, .f32⟩
  | 50 => ⟨S4096x4x64, .f32⟩
  | 51 => ⟨S4x4096x64, .f32⟩
  | 52 => ⟨S1x4x4096x64, .f32⟩
  | 53 => ⟨S_, .f32⟩
  | 54 => ⟨S3x4x4096x64, .f32⟩
  | 55 => ⟨S1x4x4096x64, .f32⟩
  | 56 => ⟨S_, .f32⟩
  | 57 => ⟨S3x4x4096x64, .f32⟩
  | 58 => ⟨S3x4x4096x64, .f32⟩
  | 59 => ⟨S1x4x4096x64, .f32⟩
  | 60 => ⟨S_, .f32⟩
  | 61 => ⟨S3x4x4096x64, .f32⟩
  | 62 => ⟨S3x4x4096x64, .f32⟩
  | 63 => ⟨S3x4x4096x64, .f32⟩
  | 64 => ⟨S3x4x4096x64, .f32⟩
  | 65 => ⟨S3x4x4096x64, .f32⟩
  | 66 => ⟨S_, .f32⟩
  | 67 => ⟨S3x4x4096, .f32⟩
  | 68 => ⟨S3x4x4096x1, .f32⟩
  | 69 => ⟨S3x4x4096x1, .f32⟩
  | 70 => ⟨S3x4x4096x1, .f32⟩
  | 71 => ⟨S3x4x4096x1, .f32⟩
  | 72 => ⟨S_, .f32⟩
  | 73 => ⟨S4x4096x1, .f32⟩
  | 74 => ⟨S1x4x4096x1, .f32⟩
  | 75 => ⟨S1x4x4096x1, .f32⟩
  | 76 => ⟨S3x4x4096x1, .f32⟩
  | 77 => ⟨S3x4x4096x1, .f32⟩
  | 78 => ⟨S_, .f32⟩
  | 79 => ⟨S4x4096, .f32⟩
  | 80 => ⟨S4x4096x1, .f32⟩
  | 81 => ⟨S1x4x4096x1, .f32⟩
  | 82 => ⟨S_, .f32⟩
  | 83 => ⟨S3x4x4096x1, .f32⟩
  | 84 => ⟨S3x4x4096x1, .f32⟩
  | 85 => ⟨S1x4x4096x1, .f32⟩
  | 86 => ⟨S_, .f32⟩
  | 87 => ⟨S3x4x4096x1, .f32⟩
  | 88 => ⟨S3x4x4096x1, .f32⟩
  | 89 => ⟨S1x4x4096x1, .f32⟩
  | 90 => ⟨S_, .f32⟩
  | 91 => ⟨S3x4x4096x1, .f32⟩
  | 92 => ⟨S3x4x4096x1, .f32⟩
  | 93 => ⟨S3x4x4096x1, .f32⟩
  | 94 => ⟨S3x4x4096x1, .f32⟩
  | 95 => ⟨S3x4x4096x64, .f32⟩
  | 96 => ⟨S3x4x4096x64, .f32⟩
  | 97 => ⟨S3x4x4096x64, .f32⟩
  | 98 => ⟨S_, .f32⟩
  | 99 => ⟨S3x4x4096, .f32⟩
  | 100 => ⟨S3x4x4096x1, .f32⟩
  | 101 => ⟨S3x4x4096x1, .f32⟩
  | 102 => ⟨S3x4x4096x1, .f32⟩
  | 103 => ⟨S3x4x4096x64, .f32⟩
  | 104 => ⟨S3x4x4096x64, .f32⟩
  | 105 => ⟨S3x4x64x4096, .f32⟩
  | 106 => ⟨S3x4x4096x64, .f32⟩
  | 107 => ⟨S3x4x4096x4096, .f32⟩
  | 108 => ⟨S_, .f32⟩
  | 109 => ⟨S3x4x4096, .f32⟩
  | 110 => ⟨S3x4x4096x4096, .f32⟩
  | 111 => ⟨S3x4x4096x4096, .f32⟩
  | 112 => ⟨S3x4x4096x4096, .f32⟩
  | 113 => ⟨S3x4x4096x4096, .f32⟩
  | 114 => ⟨S_, .f32⟩
  | 115 => ⟨S3x4x4096, .f32⟩
  | 116 => ⟨S3x4x4096x1, .f32⟩
  | 117 => ⟨S3x4x4096x1, .f32⟩
  | 118 => ⟨S_, .f32⟩
  | 119 => ⟨S3x4x4096, .f32⟩
  | 120 => ⟨S3x4x4096, .f32⟩
  | 121 => ⟨S3x4x4096x4096, .f32⟩
  | 122 => ⟨S3x4x4096x4096, .f32⟩
  | 123 => ⟨S3x4x4096x4096, .f32⟩
  | 124 => ⟨S_, .f32⟩
  | 125 => ⟨S3x4x4096x4096, .f32⟩
  | 126 => ⟨S3x4x4096x4096, .f32⟩
  | 127 => ⟨S_, .f32⟩
  | _ => ⟨S4096x768, .f32⟩

abbrev hbmTy0_2 (i : Nat) : BufTy := match i % 128 with
  | 0 => ⟨S3x4x4096x4096, .f32⟩
  | 1 => ⟨S3x4x4096x4096, .f32⟩
  | 2 => ⟨S3x4x4096x64, .f32⟩
  | 3 => ⟨S3x4x4096x64, .f32⟩
  | 4 => ⟨S4096x3x4x64, .f32⟩
  | 5 => ⟨S4096x768, .f32⟩
  | 6 => ⟨S4096x3x4x64, .f32⟩
  | 7 => ⟨S4096x768, .f32⟩
  | 8 => ⟨S4096x3x4x64, .f32⟩
  | 9 => ⟨S4096x768, .f32⟩
  | 10 => ⟨S4096x256, .f32⟩
  | 11 => ⟨S1024x4x256, .f32⟩
  | 12 => ⟨S4x1024x256, .f32⟩
  | 13 => ⟨S4096x256, .f32⟩
  | 14 => ⟨S4096x256, .f32⟩
  | 15 => ⟨S1024x4x256, .f32⟩
  | 16 => ⟨S4x1024x256, .f32⟩
  | 17 => ⟨S4096x256, .f32⟩
  | 18 => ⟨S4096x256, .f32⟩
  | 19 => ⟨S1024x4x256, .f32⟩
  | 20 => ⟨S4x1024x256, .f32⟩
  | 21 => ⟨S4096x256, .f32⟩
  | _ => ⟨S4096x768, .f32⟩

abbrev hbmTy (i : Nat) : BufTy := match i / 128 with
  | 0 => hbmTy0_0 i
  | 1 => hbmTy0_1 i
  | 2 => hbmTy0_2 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_call0_v0 : Ref sig .tc := ⟨.hbm, 69, rfl⟩
abbrev main_v51_1 : Ref sig .tc := ⟨.hbm, 70, rfl⟩
abbrev main_call0_v2 : Ref sig .tc := ⟨.hbm, 71, rfl⟩
abbrev main_v51_0 : Ref sig .tc := ⟨.hbm, 72, rfl⟩
abbrev main_call0_cst : Ref sig .tc := ⟨.hbm, 73, rfl⟩
abbrev main_v51_2 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_cst_20 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_22 : Ref sig .tc := ⟨.hbm, 129, rfl⟩
abbrev main_v96 : Ref sig .tc := ⟨.hbm, 130, rfl⟩
abbrev main_cst_23 : Ref sig .tc := ⟨.hbm, 131, rfl⟩
abbrev main_v97 : Ref sig .tc := ⟨.hbm, 132, rfl⟩
abbrev main_cst_24 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_25 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_cst_27 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_28 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_29 : Ref sig .tc := ⟨.hbm, 181, rfl⟩
abbrev main_v141 : Ref sig .tc := ⟨.hbm, 182, rfl⟩
abbrev main_v142 : Ref sig .tc := ⟨.hbm, 183, rfl⟩
abbrev main_cst_30 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_31 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_32 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_33 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_34 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_35 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_36 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_37 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_38 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_39 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_40 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_41 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_call1_cst : Ref sig .tc := ⟨.hbm, 252, rfl⟩
abbrev main_call1_v0 : Ref sig .tc := ⟨.hbm, 253, rfl⟩
abbrev main_v199 : Ref sig .tc := ⟨.hbm, 254, rfl⟩
abbrev main_cst_42 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩

abbrev nD : Nat := 1
abbrev τ : Topo := Topo.v7x

variable {F : FTy → Type} [FloatOps F]
-- ==== Attn2Kernel.lean ====
abbrev S4096x768 : Shape := ⟨2, ![4096, 768]⟩
abbrev S4096x256 : Shape := ⟨2, ![4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S3x4096x4096 : Shape := ⟨3, ![3, 4096, 4096]⟩
abbrev S4096x3x4x64 : Shape := ⟨4, ![4096, 3, 4, 64]⟩
abbrev S3x4x4096x64 : Shape := ⟨4, ![3, 4, 4096, 64]⟩
abbrev S3x4x4096x4096 : Shape := ⟨4, ![3, 4, 4096, 4096]⟩
abbrev S3x1x4096x4096 : Shape := ⟨4, ![3, 1, 4096, 4096]⟩
abbrev S3x4x4096 : Shape := ⟨3, ![3, 4, 4096]⟩
abbrev S3x4x4096x1 : Shape := ⟨4, ![3, 4, 4096, 1]⟩
abbrev S1x4x4096x1 : Shape := ⟨4, ![1, 4, 4096, 1]⟩
abbrev S4x4096x1 : Shape := ⟨3, ![4, 4096, 1]⟩
abbrev S1x4x4096x64 : Shape := ⟨4, ![1, 4, 4096, 64]⟩
abbrev S4x4096x64 : Shape := ⟨3, ![4, 4096, 64]⟩
abbrev S4096x4x64 : Shape := ⟨3, ![4096, 4, 64]⟩
abbrev S4096x4 : Shape := ⟨2, ![4096, 4]⟩
abbrev S4096x4x1 : Shape := ⟨3, ![4096, 4, 1]⟩
abbrev S256x16x256 : Shape := ⟨3, ![256, 16, 256]⟩
abbrev S16x256x256 : Shape := ⟨3, ![16, 256, 256]⟩
abbrev S512x256 : Shape := ⟨2, ![512, 256]⟩
abbrev S128x256 : Shape := ⟨2, ![128, 256]⟩
abbrev S640x256 : Shape := ⟨2, ![640, 256]⟩
abbrev S256x256 : Shape := ⟨2, ![256, 256]⟩
abbrev S256x1 : Shape := ⟨2, ![256, 1]⟩

abbrev nBuf : Space → Nat
  | .hbm => 182
  | .vmem => 27
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096, .i32⟩
  | 5 => ⟨S4096x1, .i32⟩
  | 6 => ⟨S4096, .i32⟩
  | 7 => ⟨S1x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i1⟩
  | 14 => ⟨S_, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i32⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S4096x4096, .i32⟩
  | 27 => ⟨S4096x4096, .i1⟩
  | 28 => ⟨S_, .i32⟩
  | 29 => ⟨S4096x4096, .i32⟩
  | 30 => ⟨S4096x4096, .i1⟩
  | 31 => ⟨S4096x4096, .i1⟩
  | 32 => ⟨S_, .i32⟩
  | 33 => ⟨S4096x4096, .i32⟩
  | 34 => ⟨S4096x4096, .i32⟩
  | 35 => ⟨S_, .i32⟩
  | 36 => ⟨S4096x4096, .i32⟩
  | 37 => ⟨S4096x4096, .i1⟩
  | 38 => ⟨S4096x4096, .i1⟩
  | 39 => ⟨S_, .i32⟩
  | 40 => ⟨S4096x4096, .i32⟩
  | 41 => ⟨S4096x4096, .i1⟩
  | 42 => ⟨S_, .i32⟩
  | 43 => ⟨S4096x4096, .i32⟩
  | 44 => ⟨S4096x4096, .i1⟩
  | 45 => ⟨S4096x4096, .i1⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S4096x4096, .i1⟩
  | 53 => ⟨S1x4096x4096, .i1⟩
  | 54 => ⟨S1x4096x4096, .i1⟩
  | 55 => ⟨S1x4096x4096, .i1⟩
  | 56 => ⟨S3x4096x4096, .i1⟩
  | 57 => ⟨S4096x3x4x64, .f32⟩
  | 58 => ⟨S3x4x4096x64, .f32⟩
  | 59 => ⟨S4096x3x4x64, .f32⟩
  | 60 => ⟨S3x4x4096x64, .f32⟩
  | 61 => ⟨S4096x3x4x64, .f32⟩
  | 62 => ⟨S3x4x4096x64, .f32⟩
  | 63 => ⟨S3x4x4096x4096, .f32⟩
  | 64 => ⟨S_, .f32⟩
  | 65 => ⟨S3x4x4096x4096, .f32⟩
  | 66 => ⟨S3x4x4096x4096, .f32⟩
  | 67 => ⟨S3x1x4096x4096, .i1⟩
  | 68 => ⟨S_, .f32⟩
  | 69 => ⟨S_, .f32⟩
  | 70 => ⟨S3x4x4096x4096, .i1⟩
  | 71 => ⟨S3x4x4096x4096, .f32⟩
  | 72 => ⟨S3x4x4096x4096, .f32⟩
  | 73 => ⟨S_, .f32⟩
  | 74 => ⟨S3x4x4096, .f32⟩
  | 75 => ⟨S3x4x4096x1, .f32⟩
  | 76 => ⟨S3x4x4096x4096, .f32⟩
  | 77 => ⟨S3x4x4096x4096, .f32⟩
  | 78 => ⟨S3x4x4096x4096, .f32⟩
  | 79 => ⟨S_, .f32⟩
  | 80 => ⟨S3x4x4096, .f32⟩
  | 81 => ⟨S3x4x4096x1, .f32⟩
  | 82 => ⟨S3x4x4096x64, .f32⟩
  | 83 => ⟨S3x4x4096x64, .f32⟩
  | 84 => ⟨S3x4x4096x64, .f32⟩
  | 85 => ⟨S3x4x4096x1, .f32⟩
  | 86 => ⟨S3x4x4096x1, .f32⟩
  | 87 => ⟨S1x4x4096x1, .f32⟩
  | 88 => ⟨S4x4096x1, .f32⟩
  | 89 => ⟨S1x4x4096x1, .f32⟩
  | 90 => ⟨S4x4096x1, .f32⟩
  | 91 => ⟨S4x4096x1, .f32⟩
  | 92 => ⟨S1x4x4096x1, .f32⟩
  | 93 => ⟨S4x4096x1, .f32⟩
  | 94 => ⟨S4x4096x1, .f32⟩
  | 95 => ⟨S1x4x4096x1, .f32⟩
  | 96 => ⟨S3x4x4096x1, .f32⟩
  | 97 => ⟨S3x4x4096x1, .f32⟩
  | 98 => ⟨S3x4x4096x1, .f32⟩
  | 99 => ⟨S1x4x4096x1, .f32⟩
  | 100 => ⟨S4x4096x1, .f32⟩
  | 101 => ⟨S1x4x4096x1, .f32⟩
  | 102 => ⟨S4x4096x1, .f32⟩
  | 103 => ⟨S4x4096x1, .f32⟩
  | 104 => ⟨S1x4x4096x1, .f32⟩
  | 105 => ⟨S4x4096x1, .f32⟩
  | 106 => ⟨S4x4096x1, .f32⟩
  | 107 => ⟨S1x4x4096x1, .f32⟩
  | 108 => ⟨S3x4x4096x1, .f32⟩
  | 109 => ⟨S3x4x4096x1, .f32⟩
  | 110 => ⟨S3x4x4096x64, .f32⟩
  | 111 => ⟨S3x4x4096x64, .f32⟩
  | 112 => ⟨S1x4x4096x64, .f32⟩
  | 113 => ⟨S4x4096x64, .f32⟩
  | 114 => ⟨S1x4x4096x64, .f32⟩
  | 115 => ⟨S4x4096x64, .f32⟩
  | 116 => ⟨S4x4096x64, .f32⟩
  | 117 => ⟨S1x4x4096x64, .f32⟩
  | 118 => ⟨S4x4096x64, .f32⟩
  | 119 => ⟨S4x4096x64, .f32⟩
  | 120 => ⟨S4096x4x64, .f32⟩
  | 121 => ⟨S4096x256, .f32⟩
  | 122 => ⟨S4096x256, .f32⟩
  | 123 => ⟨S4096x4x64, .f32⟩
  | 124 => ⟨S_, .f32⟩
  | 125 => ⟨S4096x4, .f32⟩
  | 126 => ⟨S4096x4x1, .f32⟩
  | 127 => ⟨S1x4x4096x1, .f32⟩
  | _ => ⟨S4096x768, .f32⟩

abbrev hbmTy0_1 (i : Nat) : BufTy := match i % 128 with
  | 0 => ⟨S4x4096x1, .f32⟩
  | 1 => ⟨S1x4x4096x1, .f32⟩
  | 2 => ⟨S4x4096x1, .f32⟩
  | 3 => ⟨S4x4096x1, .f32⟩
  | 4 => ⟨S1x4x4096x1, .f32⟩
  | 5 => ⟨S4x4096x1, .f32⟩
  | 6 => ⟨S4x4096x1, .f32⟩
  | 7 => ⟨S1x4x4096x1, .f32⟩
  | 8 => ⟨S3x4x4096x1, .f32⟩
  | 9 => ⟨S3x4x4096x1, .f32⟩
  | 10 => ⟨S3x4x4096x1, .f32⟩
  | 11 => ⟨S1x4x4096x1, .f32⟩
  | 12 => ⟨S4x4096x1, .f32⟩
  | 13 => ⟨S1x4x4096x1, .f32⟩
  | 14 => ⟨S4x4096x1, .f32⟩
  | 15 => ⟨S4x4096x1, .f32⟩
  | 16 => ⟨S1x4x4096x1, .f32⟩
  | 17 => ⟨S4x4096x1, .f32⟩
  | 18 => ⟨S4x4096x1, .f32⟩
  | 19 => ⟨S4x4096x1, .f32⟩
  | 20 => ⟨S4x4096x1, .f32⟩
  | 21 => ⟨S4096x4x1, .f32⟩
  | 22 => ⟨S4096x4x64, .f32⟩
  | 23 => ⟨S4096x256, .f32⟩
  | 24 => ⟨S4096x4x64, .f32⟩
  | 25 => ⟨S4096x256, .f32⟩
  | 26 => ⟨S4096x256, .f32⟩
  | 27 => ⟨S4096x256, .f32⟩
  | 28 => ⟨S4096x256, .f32⟩
  | 29 => ⟨S256x16x256, .f32⟩
  | 30 => ⟨S16x256x256, .f32⟩
  | 31 => ⟨S4096x256, .f32⟩
  | 32 => ⟨S4096x256, .bf16⟩
  | 33 => ⟨S256x16x256, .f32⟩
  | 34 => ⟨S16x256x256, .f32⟩
  | 35 => ⟨S4096x256, .f32⟩
  | 36 => ⟨S4096x256, .bf16⟩
  | 37 => ⟨S256x16x256, .f32⟩
  | 38 => ⟨S16x256x256, .f32⟩
  | 39 => ⟨S4096x256, .f32⟩
  | 40 => ⟨S4096x256, .bf16⟩
  | 41 => ⟨S256x16x256, .f32⟩
  | 42 => ⟨S16x256x256, .f32⟩
  | 43 => ⟨S4096x256, .f32⟩
  | 44 => ⟨S4096x256, .bf16⟩
  | 45 => ⟨S256x16x256, .f32⟩
  | 46 => ⟨S16x256x256, .f32⟩
  | 47 => ⟨S4096x256, .f32⟩
  | 48 => ⟨S256x16x256, .f32⟩
  | 49 => ⟨S16x256x256, .f32⟩
  | 50 => ⟨S4096x256, .f32⟩
  | 51 => ⟨S4096x256, .f32⟩
  | 52 => ⟨S4096x256, .f32⟩
  | 53 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S512x256, .f32⟩
  | .local _ .vmem, ⟨13, _⟩ => ⟨S512x256, .f32⟩
  | .local _ .vmem, ⟨14, _⟩ => ⟨S128x256, .f32⟩
  | .local _ .vmem, ⟨15, _⟩ => ⟨S128x256, .f32⟩
  | .local _ .vmem, ⟨16, _⟩ => ⟨S512x256, .f32⟩
  | .local _ .vmem, ⟨17, _⟩ => ⟨S512x256, .f32⟩
  | .local _ .vmem, ⟨18, _⟩ => ⟨S128x256, .f32⟩
  | .local _ .vmem, ⟨19, _⟩ => ⟨S128x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S640x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155_0 : Ref sig .tc := ⟨.hbm, 179, rfl⟩
abbrev main_v155_1 : Ref sig .tc := ⟨.hbm, 180, rfl⟩
abbrev main_v155_2 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Attn2ReferenceIdeal.lean ====
abbrev S4096x768 : Shape := ⟨2, ![4096, 768]⟩
abbrev S4096x256 : Shape := ⟨2, ![4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S3x4096x4096 : Shape := ⟨3, ![3, 4096, 4096]⟩
abbrev S4096x3x4x64 : Shape := ⟨4, ![4096, 3, 4, 64]⟩
abbrev S3x4x4096x64 : Shape := ⟨4, ![3, 4, 4096, 64]⟩
abbrev S3x4x4096x4096 : Shape := ⟨4, ![3, 4, 4096, 4096]⟩
abbrev S3x1x4096x4096 : Shape := ⟨4, ![3, 1, 4096, 4096]⟩
abbrev S3x4x4096 : Shape := ⟨3, ![3, 4, 4096]⟩
abbrev S3x4x4096x1 : Shape := ⟨4, ![3, 4, 4096, 1]⟩
abbrev S1x4x4096x1 : Shape := ⟨4, ![1, 4, 4096, 1]⟩
abbrev S4x4096x1 : Shape := ⟨3, ![4, 4096, 1]⟩
abbrev S1x4x4096x64 : Shape := ⟨4, ![1, 4, 4096, 64]⟩
abbrev S4x4096x64 : Shape := ⟨3, ![4, 4096, 64]⟩
abbrev S4096x4x64 : Shape := ⟨3, ![4096, 4, 64]⟩
abbrev S4x4096 : Shape := ⟨2, ![4, 4096]⟩
abbrev S3x4x64x4096 : Shape := ⟨4, ![3, 4, 64, 4096]⟩
abbrev S256x16x256 : Shape := ⟨3, ![256, 16, 256]⟩
abbrev S16x256x256 : Shape := ⟨3, ![16, 256, 256]⟩

abbrev nBuf : Space → Nat
  | .hbm => 278
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S4096, .i32⟩
  | 5 => ⟨S4096x1, .i32⟩
  | 6 => ⟨S4096, .i32⟩
  | 7 => ⟨S1x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i1⟩
  | 14 => ⟨S_, .i32⟩
  | 15 => ⟨S4096x4096, .i32⟩
  | 16 => ⟨S4096x4096, .i1⟩
  | 17 => ⟨S4096x4096, .i1⟩
  | 18 => ⟨S_, .i32⟩
  | 19 => ⟨S4096x4096, .i32⟩
  | 20 => ⟨S4096x4096, .i32⟩
  | 21 => ⟨S_, .i32⟩
  | 22 => ⟨S4096x4096, .i32⟩
  | 23 => ⟨S4096x4096, .i1⟩
  | 24 => ⟨S4096x4096, .i1⟩
  | 25 => ⟨S_, .i32⟩
  | 26 => ⟨S4096x4096, .i32⟩
  | 27 => ⟨S4096x4096, .i1⟩
  | 28 => ⟨S_, .i32⟩
  | 29 => ⟨S4096x4096, .i32⟩
  | 30 => ⟨S4096x4096, .i1⟩
  | 31 => ⟨S4096x4096, .i1⟩
  | 32 => ⟨S_, .i32⟩
  | 33 => ⟨S4096x4096, .i32⟩
  | 34 => ⟨S4096x4096, .i32⟩
  | 35 => ⟨S_, .i32⟩
  | 36 => ⟨S4096x4096, .i32⟩
  | 37 => ⟨S4096x4096, .i1⟩
  | 38 => ⟨S4096x4096, .i1⟩
  | 39 => ⟨S_, .i32⟩
  | 40 => ⟨S4096x4096, .i32⟩
  | 41 => ⟨S4096x4096, .i1⟩
  | 42 => ⟨S_, .i32⟩
  | 43 => ⟨S4096x4096, .i32⟩
  | 44 => ⟨S4096x4096, .i1⟩
  | 45 => ⟨S4096x4096, .i1⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i1⟩
  | 52 => ⟨S4096x4096, .i1⟩
  | 53 => ⟨S1x4096x4096, .i1⟩
  | 54 => ⟨S1x4096x4096, .i1⟩
  | 55 => ⟨S1x4096x4096, .i1⟩
  | 56 => ⟨S3x4096x4096, .i1⟩
  | 57 => ⟨S4096x3x4x64, .f32⟩
  | 58 => ⟨S3x4x4096x64, .f32⟩
  | 59 => ⟨S4096x3x4x64, .f32⟩
  | 60 => ⟨S3x4x4096x64, .f32⟩
  | 61 => ⟨S4096x3x4x64, .f32⟩
  | 62 => ⟨S3x4x4096x64, .f32⟩
  | 63 => ⟨S3x4x4096x4096, .f32⟩
  | 64 => ⟨S_, .f32⟩
  | 65 => ⟨S3x4x4096x4096, .f32⟩
  | 66 => ⟨S3x4x4096x4096, .f32⟩
  | 67 => ⟨S3x1x4096x4096, .i1⟩
  | 68 => ⟨S_, .f32⟩
  | 69 => ⟨S_, .f32⟩
  | 70 => ⟨S3x4x4096x4096, .i1⟩
  | 71 => ⟨S3x4x4096x4096, .f32⟩
  | 72 => ⟨S3x4x4096x4096, .f32⟩
  | 73 => ⟨S_, .f32⟩
  | 74 => ⟨S3x4x4096x4096, .f32⟩
  | 75 => ⟨S_, .f32⟩
  | 76 => ⟨S3x4x4096, .f32⟩
  | 77 => ⟨S3x4x4096x1, .f32⟩
  | 78 => ⟨S3x4x4096x4096, .f32⟩
  | 79 => ⟨S3x4x4096x4096, .i1⟩
  | 80 => ⟨S3x4x4096x4096, .f32⟩
  | 81 => ⟨S_, .f32⟩
  | 82 => ⟨S3x4x4096, .f32⟩
  | 83 => ⟨S3x4x4096x1, .f32⟩
  | 84 => ⟨S3x4x4096x4096, .f32⟩
  | 85 => ⟨S3x4x4096x4096, .f32⟩
  | 86 => ⟨S3x4x4096x4096, .f32⟩
  | 87 => ⟨S_, .f32⟩
  | 88 => ⟨S3x4x4096, .f32⟩
  | 89 => ⟨S3x4x4096x1, .f32⟩
  | 90 => ⟨S3x4x4096x64, .f32⟩
  | 91 => ⟨S3x4x4096x64, .f32⟩
  | 92 => ⟨S3x4x4096x64, .f32⟩
  | 93 => ⟨S3x4x4096x1, .f32⟩
  | 94 => ⟨S_, .f32⟩
  | 95 => ⟨S3x4x4096x1, .f32⟩
  | 96 => ⟨S3x4x4096x1, .f32⟩
  | 97 => ⟨S3x4x4096x1, .f32⟩
  | 98 => ⟨S3x4x4096x1, .f32⟩
  | 99 => ⟨S1x4x4096x1, .f32⟩
  | 100 => ⟨S4x4096x1, .f32⟩
  | 101 => ⟨S1x4x4096x1, .f32⟩
  | 102 => ⟨S4x4096x1, .f32⟩
  | 103 => ⟨S4x4096x1, .f32⟩
  | 104 => ⟨S4x4096x1, .i1⟩
  | 105 => ⟨S4x4096x1, .i1⟩
  | 106 => ⟨S_, .f32⟩
  | 107 => ⟨S4x4096x1, .f32⟩
  | 108 => ⟨S_, .f32⟩
  | 109 => ⟨S4x4096x1, .f32⟩
  | 110 => ⟨S_, .f32⟩
  | 111 => ⟨S4x4096x1, .f32⟩
  | 112 => ⟨S4x4096x1, .f32⟩
  | 113 => ⟨S4x4096x1, .f32⟩
  | 114 => ⟨S4x4096x1, .i1⟩
  | 115 => ⟨S4x4096x1, .i1⟩
  | 116 => ⟨S_, .f32⟩
  | 117 => ⟨S4x4096x1, .f32⟩
  | 118 => ⟨S_, .f32⟩
  | 119 => ⟨S4x4096x1, .f32⟩
  | 120 => ⟨S_, .f32⟩
  | 121 => ⟨S4x4096x1, .f32⟩
  | 122 => ⟨S4x4096x1, .f32⟩
  | 123 => ⟨S4x4096x1, .f32⟩
  | 124 => ⟨S1x4x4096x1, .f32⟩
  | 125 => ⟨S4x4096x1, .f32⟩
  | 126 => ⟨S4x4096x1, .f32⟩
  | 127 => ⟨S4x4096x1, .i1⟩
  | _ => ⟨S4096x768, .f32⟩

abbrev hbmTy0_1 (i : Nat) : BufTy := match i % 128 with
  | 0 => ⟨S4x4096x1, .i1⟩
  | 1 => ⟨S_, .f32⟩
  | 2 => ⟨S4x4096x1, .f32⟩
  | 3 => ⟨S_, .f32⟩
  | 4 => ⟨S4x4096x1, .f32⟩
  | 5 => ⟨S_, .f32⟩
  | 6 => ⟨S4x4096x1, .f32⟩
  | 7 => ⟨S4x4096x1, .f32⟩
  | 8 => ⟨S4x4096x1, .f32⟩
  | 9 => ⟨S4x4096x1, .i1⟩
  | 10 => ⟨S4x4096x1, .i1⟩
  | 11 => ⟨S_, .f32⟩
  | 12 => ⟨S4x4096x1, .f32⟩
  | 13 => ⟨S_, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S1x4x4096x1, .f32⟩
  | 20 => ⟨S3x4x4096x1, .f32⟩
  | 21 => ⟨S3x4x4096x1, .f32⟩
  | 22 => ⟨S3x4x4096x1, .f32⟩
  | 23 => ⟨S1x4x4096x1, .f32⟩
  | 24 => ⟨S4x4096x1, .f32⟩
  | 25 => ⟨S1x4x4096x1, .f32⟩
  | 26 => ⟨S4x4096x1, .f32⟩
  | 27 => ⟨S4x4096x1, .f32⟩
  | 28 => ⟨S1x4x4096x1, .f32⟩
  | 29 => ⟨S4x4096x1, .f32⟩
  | 30 => ⟨S4x4096x1, .f32⟩
  | 31 => ⟨S1x4x4096x1, .f32⟩
  | 32 => ⟨S3x4x4096x1, .f32⟩
  | 33 => ⟨S3x4x4096x1, .f32⟩
  | 34 => ⟨S1x4x4096x1, .f32⟩
  | 35 => ⟨S_, .f32⟩
  | 36 => ⟨S1x4x4096x1, .f32⟩
  | 37 => ⟨S1x4x4096x1, .f32⟩
  | 38 => ⟨S3x4x4096x64, .f32⟩
  | 39 => ⟨S3x4x4096x64, .f32⟩
  | 40 => ⟨S1x4x4096x64, .f32⟩
  | 41 => ⟨S4x4096x64, .f32⟩
  | 42 => ⟨S1x4x4096x64, .f32⟩
  | 43 => ⟨S4x4096x64, .f32⟩
  | 44 => ⟨S4x4096x64, .f32⟩
  | 45 => ⟨S1x4x4096x64, .f32⟩
  | 46 => ⟨S4x4096x64, .f32⟩
  | 47 => ⟨S4x4096x64, .f32⟩
  | 48 => ⟨S4096x4x64, .f32⟩
  | 49 => ⟨S4096x256, .f32⟩
  | 50 => ⟨S4096x4x64, .f32⟩
  | 51 => ⟨S4x4096x64, .f32⟩
  | 52 => ⟨S1x4x4096x64, .f32⟩
  | 53 => ⟨S_, .f32⟩
  | 54 => ⟨S3x4x4096x64, .f32⟩
  | 55 => ⟨S1x4x4096x64, .f32⟩
  | 56 => ⟨S_, .f32⟩
  | 57 => ⟨S3x4x4096x64, .f32⟩
  | 58 => ⟨S3x4x4096x64, .f32⟩
  | 59 => ⟨S1x4x4096x64, .f32⟩
  | 60 => ⟨S_, .f32⟩
  | 61 => ⟨S3x4x4096x64, .f32⟩
  | 62 => ⟨S3x4x4096x64, .f32⟩
  | 63 => ⟨S3x4x4096x64, .f32⟩
  | 64 => ⟨S3x4x4096x64, .f32⟩
  | 65 => ⟨S3x4x4096x64, .f32⟩
  | 66 => ⟨S_, .f32⟩
  | 67 => ⟨S3x4x4096, .f32⟩
  | 68 => ⟨S3x4x4096x1, .f32⟩
  | 69 => ⟨S3x4x4096x1, .f32⟩
  | 70 => ⟨S3x4x4096x1, .f32⟩
  | 71 => ⟨S3x4x4096x1, .f32⟩
  | 72 => ⟨S_, .f32⟩
  | 73 => ⟨S4x4096x1, .f32⟩
  | 74 => ⟨S1x4x4096x1, .f32⟩
  | 75 => ⟨S1x4x4096x1, .f32⟩
  | 76 => ⟨S3x4x4096x1, .f32⟩
  | 77 => ⟨S3x4x4096x1, .f32⟩
  | 78 => ⟨S_, .f32⟩
  | 79 => ⟨S4x4096, .f32⟩
  | 80 => ⟨S4x4096x1, .f32⟩
  | 81 => ⟨S1x4x4096x1, .f32⟩
  | 82 => ⟨S_, .f32⟩
  | 83 => ⟨S3x4x4096x1, .f32⟩
  | 84 => ⟨S3x4x4096x1, .f32⟩
  | 85 => ⟨S1x4x4096x1, .f32⟩
  | 86 => ⟨S_, .f32⟩
  | 87 => ⟨S3x4x4096x1, .f32⟩
  | 88 => ⟨S3x4x4096x1, .f32⟩
  | 89 => ⟨S1x4x4096x1, .f32⟩
  | 90 => ⟨S_, .f32⟩
  | 91 => ⟨S3x4x4096x1, .f32⟩
  | 92 => ⟨S3x4x4096x1, .f32⟩
  | 93 => ⟨S3x4x4096x1, .f32⟩
  | 94 => ⟨S3x4x4096x1, .f32⟩
  | 95 => ⟨S3x4x4096x64, .f32⟩
  | 96 => ⟨S3x4x4096x64, .f32⟩
  | 97 => ⟨S3x4x4096x64, .f32⟩
  | 98 => ⟨S_, .f32⟩
  | 99 => ⟨S3x4x4096, .f32⟩
  | 100 => ⟨S3x4x4096x1, .f32⟩
  | 101 => ⟨S3x4x4096x1, .f32⟩
  | 102 => ⟨S3x4x4096x1, .f32⟩
  | 103 => ⟨S3x4x4096x64, .f32⟩
  | 104 => ⟨S3x4x4096x64, .f32⟩
  | 105 => ⟨S3x4x64x4096, .f32⟩
  | 106 => ⟨S3x4x4096x64, .f32⟩
  | 107 => ⟨S3x4x4096x4096, .f32⟩
  | 108 => ⟨S_, .f32⟩
  | 109 => ⟨S3x4x4096, .f32⟩
  | 110 => ⟨S3x4x4096x4096, .f32⟩
  | 111 => ⟨S3x4x4096x4096, .f32⟩
  | 112 => ⟨S3x4x4096x4096, .f32⟩
  | 113 => ⟨S3x4x4096x4096, .f32⟩
  | 114 => ⟨S_, .f32⟩
  | 115 => ⟨S3x4x4096, .f32⟩
  | 116 => ⟨S3x4x4096x1, .f32⟩
  | 117 => ⟨S3x4x4096x1, .f32⟩
  | 118 => ⟨S_, .f32⟩
  | 119 => ⟨S3x4x4096, .f32⟩
  | 120 => ⟨S3x4x4096, .f32⟩
  | 121 => ⟨S3x4x4096x4096, .f32⟩
  | 122 => ⟨S3x4x4096x4096, .f32⟩
  | 123 => ⟨S3x4x4096x4096, .f32⟩
  | 124 => ⟨S_, .f32⟩
  | 125 => ⟨S3x4x4096x4096, .f32⟩
  | 126 => ⟨S3x4x4096x4096, .f32⟩
  | 127 => ⟨S_, .f32⟩
  | _ => ⟨S4096x768, .f32⟩

abbrev hbmTy0_2 (i : Nat) : BufTy := match i % 128 with
  | 0 => ⟨S3x4x4096x4096, .f32⟩
  | 1 => ⟨S3x4x4096x4096, .f32⟩
  | 2 => ⟨S3x4x4096x64, .f32⟩
  | 3 => ⟨S3x4x4096x64, .f32⟩
  | 4 => ⟨S4096x3x4x64, .f32⟩
  | 5 => ⟨S4096x768, .f32⟩
  | 6 => ⟨S4096x3x4x64, .f32⟩
  | 7 => ⟨S4096x768, .f32⟩
  | 8 => ⟨S4096x3x4x64, .f32⟩
  | 9 => ⟨S4096x768, .f32⟩
  | 10 => ⟨S4096x256, .f32⟩
  | 11 => ⟨S256x16x256, .f32⟩
  | 12 => ⟨S16x256x256, .f32⟩
  | 13 => ⟨S4096x256, .f32⟩
  | 14 => ⟨S4096x256, .f32⟩
  | 15 => ⟨S256x16x256, .f32⟩
  | 16 => ⟨S16x256x256, .f32⟩
  | 17 => ⟨S4096x256, .f32⟩
  | 18 => ⟨S4096x256, .f32⟩
  | 19 => ⟨S256x16x256, .f32⟩
  | 20 => ⟨S16x256x256, .f32⟩
  | 21 => ⟨S4096x256, .f32⟩
  | _ => ⟨S4096x768, .f32⟩

abbrev hbmTy (i : Nat) : BufTy := match i / 128 with
  | 0 => hbmTy0_0 i
  | 1 => hbmTy0_1 i
  | 2 => hbmTy0_2 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_call0_v0 : Ref sig .tc := ⟨.hbm, 69, rfl⟩
abbrev main_v51_1 : Ref sig .tc := ⟨.hbm, 70, rfl⟩
abbrev main_call0_v2 : Ref sig .tc := ⟨.hbm, 71, rfl⟩
abbrev main_v51_0 : Ref sig .tc := ⟨.hbm, 72, rfl⟩
abbrev main_call0_cst : Ref sig .tc := ⟨.hbm, 73, rfl⟩
abbrev main_v51_2 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_cst_20 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_22 : Ref sig .tc := ⟨.hbm, 129, rfl⟩
abbrev main_v96 : Ref sig .tc := ⟨.hbm, 130, rfl⟩
abbrev main_cst_23 : Ref sig .tc := ⟨.hbm, 131, rfl⟩
abbrev main_v97 : Ref sig .tc := ⟨.hbm, 132, rfl⟩
abbrev main_cst_24 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_25 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_cst_27 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_28 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_29 : Ref sig .tc := ⟨.hbm, 181, rfl⟩
abbrev main_v141 : Ref sig .tc := ⟨.hbm, 182, rfl⟩
abbrev main_v142 : Ref sig .tc := ⟨.hbm, 183, rfl⟩
abbrev main_cst_30 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_31 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_32 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_33 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_cst_34 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_35 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_36 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_37 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_38 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_39 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_40 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_41 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_call1_cst : Ref sig .tc := ⟨.hbm, 252, rfl⟩
abbrev main_call1_v0 : Ref sig .tc := ⟨.hbm, 253, rfl⟩
abbrev main_v199 : Ref sig .tc := ⟨.hbm, 254, rfl⟩
abbrev main_cst_42 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩

abbrev nD : Nat := 1
abbrev τ : Topo := Topo.v7x

variable {F : FTy → Type} [FloatOps F]
-- ==== FfnKernel.lean ====
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S4096x1024 : Shape := ⟨2, ![4096, 1024]⟩
abbrev S4096x2816 : Shape := ⟨2, ![4096, 2816]⟩
abbrev S1x2816 : Shape := ⟨2, ![1, 2816]⟩
abbrev S2816 : Shape := ⟨1, ![2816]⟩
abbrev S_ : Shape := ⟨0, ![]⟩
abbrev S2x2816 : Shape := ⟨2, ![2, 2816]⟩
abbrev S4094x2816 : Shape := ⟨2, ![4094, 2816]⟩
abbrev S4095x2816 : Shape := ⟨2, ![4095, 2816]⟩
abbrev S1x1024 : Shape := ⟨2, ![1, 1024]⟩
abbrev S256x1024 : Shape := ⟨2, ![256, 1024]⟩
abbrev S256x2816 : Shape := ⟨2, ![256, 2816]⟩
abbrev S256x5632 : Shape := ⟨2, ![256, 5632]⟩
abbrev S8x2816 : Shape := ⟨2, ![8, 2816]⟩
abbrev S256 : Shape := ⟨1, ![256]⟩
abbrev S256x1 : Shape := ⟨2, ![256, 1]⟩
abbrev S264x2816 : Shape := ⟨2, ![264, 2816]⟩

abbrev nBuf : Space → Nat
  | .hbm => 51
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x2816, .f32⟩
  | .hbm, ⟨6, _⟩ => ⟨S1x2816, .f32⟩
  | .hbm, ⟨7, _⟩ => ⟨S2816, .f32⟩
  | .hbm, ⟨8, _⟩ => ⟨S_, .f32⟩
  | .hbm, ⟨9, _⟩ => ⟨S2x2816, .f32⟩
  | .hbm, ⟨10, _⟩ => ⟨S4094x2816, .f32⟩
  | .hbm, ⟨11, _⟩ => ⟨S4096x2816, .f32⟩
  | .hbm, ⟨12, _⟩ => ⟨S1x2816, .f32⟩
  | .hbm, ⟨13, _⟩ => ⟨S4096x2816, .f32⟩
  | .hbm, ⟨14, _⟩ => ⟨S4096x2816, .f32⟩
  | .hbm, ⟨15, _⟩ => ⟨S1x2816, .f32⟩
  | .hbm, ⟨16, _⟩ => ⟨S2816, .f32⟩
  | .hbm, ⟨17, _⟩ => ⟨S_, .f32⟩
  | .hbm, ⟨18, _⟩ => ⟨S1x2816, .f32⟩
  | .hbm, ⟨19, _⟩ => ⟨S4095x2816, .f32⟩
  | .hbm, ⟨20, _⟩ => ⟨S4096x2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S1x2816, .f32⟩
  | .hbm, ⟨26, _⟩ => ⟨S2816, .f32⟩
  | .hbm, ⟨27, _⟩ => ⟨S1x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x5632, .bf16⟩
  | .hbm, ⟨44, _⟩ => ⟨S4096x2816, .bf16⟩
  | .hbm, ⟨45, _⟩ => ⟨S2816x1024, .bf16⟩
  | .hbm, ⟨46, _⟩ => ⟨S1x1024, .f32⟩
  | .hbm, ⟨47, _⟩ => ⟨S4096x1024, .bf16⟩
  | .hbm, ⟨48, _⟩ => ⟨S4096x5632, .bf16⟩
  | .hbm, ⟨49, _⟩ => ⟨S1x1024, .f32⟩
  | .hbm, ⟨50, _⟩ => ⟨S3x2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S3x2816, .f32⟩
  | .local _ .vmem, ⟨11, _⟩ => ⟨S2816x1024, .bf16⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x5632, .bf16⟩
  | .local _ .vmem, ⟨16, _⟩ => ⟨S256x5632, .bf16⟩
  | .local _ .vmem, ⟨17, _⟩ => ⟨S1x1024, .f32⟩
  | .local _ .vmem, ⟨18, _⟩ => ⟨S3x2816, .f32⟩
  | .local _ .vmem, ⟨19, _⟩ => ⟨S8x2816, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_11 : BitVec 32 := 0#32
  let v37 : BitVec 1 := Scalar.cmpi .eq arg0 c0_i32_11
  let v38 : BitVec 32 := Scalar.extui v37
  let c0_i32_12 : BitVec 32 := 0#32
  let v39 : BitVec 1 := Scalar.cmpi .ne v38 c0_i32_12
  v39

def k0_cond3 (i : grid0.Coords) : BitVec 1 :=
  let arg0 : BitVec 32 := BitVec.ofNat 32 (i 0).val
  let c0_i32_13 : BitVec 32 := 0#32
  let v40 : BitVec 1 := Scalar.cmpi .ne arg0 c0_i32_13
  let v41 : BitVec 32 := Scalar.extui v40
  let c0_i32_14 : BitVec 32 := 0#32
  let v42 : BitVec 1 := Scalar.cmpi .ne v41 c0_i32_14
  v42

def k0_cond4 (i : grid0.Coords) : BitVec 1 :=
  let arg0 : BitVec 32 := BitVec.ofNat 32 (i 0).val
  let c0_i32_38 : BitVec 32 := 0#32
  let v100 : BitVec 1 := Scalar.cmpi .eq arg0 c0_i32_38
  let v101 : BitVec 32 := Scalar.extui v100
  let c0_i32_39 : BitVec 32 := 0#32
  let v102 : BitVec 1 := Scalar.cmpi .ne v101 c0_i32_39
  v102

def k0_cond5 (i : grid0.Coords) : BitVec 1 :=
  let arg0 : BitVec 32 := BitVec.ofNat 32 (i 0).val
  let c0_i32_40 : BitVec 32 := 0#32
  let v103 : BitVec 1 := Scalar.cmpi .ne arg0 c0_i32_40
  let v104 : BitVec 32 := Scalar.extui v103
  let c0_i32_41 : BitVec 32 := 0#32
  let v105 : BitVec 1 := Scalar.cmpi .ne v104 c0_i32_41
  v105

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S4096x1024 : Shape := ⟨2, ![4096, 1024]⟩
abbrev S4096x2816 : Shape := ⟨2, ![4096, 2816]⟩
abbrev S1x2816 : Shape := ⟨2, ![1, 2816]⟩
abbrev S2816 : Shape := ⟨1, ![2816]⟩
abbrev S_ : Shape := ⟨0, ![]⟩
abbrev S2x2816 : Shape := ⟨2, ![2, 2816]⟩
abbrev S4094x2816 : Shape := ⟨2, ![4094, 2816]⟩
abbrev S4095x2816 : Shape := ⟨2, ![4095, 2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 156
  | .vmem => 0
  | .smem => 0
  | _ => 0

abbrev hbmTy0_0 (i : Nat) : BufTy := match i % 128 with
  | 0 => ⟨S4096x5632, .f32⟩
  | 1 => ⟨S3x2816, .f32⟩
  | 2 => ⟨S2816x1024, .f32⟩
  | 3 => ⟨S1024, .f32⟩
  | 4 => ⟨S4096x1024, .f32⟩
  | 5 => ⟨S4096x2816, .f32⟩
  | 6 => ⟨S1x2816, .f32⟩
  | 7 => ⟨S2816, .f32⟩
  | 8 => ⟨S_, .f32⟩
  | 9 => ⟨S2x2816, .f32⟩
  | 10 => ⟨S4094x2816, .f32⟩
  | 11 => ⟨S4096x2816, .f32⟩
  | 12 => ⟨S_, .f32⟩
  | 13 => ⟨S2x2816, .f32⟩
  | 14 => ⟨S1x2816, .f32⟩
  | 15 => ⟨S4096x2816, .f32⟩
  | 16 => ⟨S4096x2816, .f32⟩
  | 17 => ⟨S1x2816, .f32⟩
  | 18 => ⟨S2816, .f32⟩
  | 19 => ⟨S_, .f32⟩
  | 20 => ⟨S1x2816, .f32⟩
  | 21 => ⟨S4095x2816, .f32⟩
  | 22 => ⟨S4096x2816, .f32⟩
  | 23 => ⟨S_, .f32⟩
  | 24 => ⟨S1x2816, .f32⟩
  | 25 => ⟨S1x2816, .f32⟩
  | 26 => ⟨S4096x2816, .f32⟩
  | 27 => ⟨S4096x2816, .f32⟩
  | 28 => ⟨S4096x2816, .f32⟩
  | 29 => ⟨S1x2816, .f32⟩
  | 30 => ⟨S2816, .f32⟩
  | 31 => ⟨S1x2816, .f32⟩
  | 32 => ⟨S4096x2816, .f32⟩
  | 33 => ⟨S4096x2816, .f32⟩
  | 34 => ⟨S4096x2816, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S4096x2816, .f32⟩
  | 47 => ⟨S4096x2816, .f32⟩
  | 48 => ⟨S4096x2816, .f32⟩
  | 49 => ⟨S4096x2816, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S_, .f32⟩
  | 78 => ⟨S1024, .f32⟩
  | 79 => ⟨S4096x1024, .f32⟩
  | 80 => ⟨S_, .f32⟩
  | 81 => ⟨S4096, .f32⟩
  | 82 => ⟨S4096x1, .f32⟩
  | 83 => ⟨S4096x1024, .f32⟩
  | 84 => ⟨S4096x1024, .f32⟩
  | 85 => ⟨S4096x1, .f32⟩
  | 86 => ⟨S_, .f32⟩
  | 87 => ⟨S4096x1, .f32⟩
  | 88 => ⟨S4096x1, .f32⟩
  | 89 => ⟨S_, .f32⟩
  | 90 => ⟨S4096, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x2816, .f32⟩
  | 97 => ⟨S4096x2816, .f32⟩
  | 98 => ⟨S4096x2816, .f32⟩
  | 99 => ⟨S_, .f32⟩
  | 100 => ⟨S4096x5632, .f32⟩
  | 101 => ⟨S4096x2816, .f32⟩
  | 102 => ⟨S4096x2816, .f32⟩
  | 103 => ⟨S4096x2816, .f32⟩
  | 104 => ⟨S4096x2816, .f32⟩
  | 105 => ⟨S4096x2816, .f32⟩
  | 106 => ⟨S4096x2816, .f32⟩
  | 107 => ⟨S4096x2816, .f32⟩
  | 108 => ⟨S_, .f32⟩
  | 109 => ⟨S2816, .f32⟩
  | 110 => ⟨S1x2816, .f32⟩
  | 111 => ⟨S_, .f32⟩
  | 112 => ⟨S2816, .f32⟩
  | 113 => ⟨S1x2816, .f32⟩
  | 114 => ⟨S_, .f32⟩
  | 115 => ⟨S3x2816, .f32⟩
  | 116 => ⟨S4096x2816, .f32⟩
  | 117 => ⟨S4096x2816, .f32⟩
  | 118 => ⟨S4096x2816, .f32⟩
  | 119 => ⟨S_, .f32⟩
  | 120 => ⟨S2816, .f32⟩
  | 121 => ⟨S1x2816, .f32⟩
  | 122 => ⟨S_, .f32⟩
  | 123 => ⟨S2816, .f32⟩
  | 124 => ⟨S1x2816, .f32⟩
  | 125 => ⟨S4095x2816, .f32⟩
  | 126 => ⟨S_, .f32⟩
  | 127 => ⟨S4096x2816, .f32⟩
  | _ => ⟨S4096x5632, .f32⟩

abbrev hbmTy0_1 (i : Nat) : BufTy := match i % 128 with
  | 0 => ⟨S4096x2816, .f32⟩
  | 1 => ⟨S1x2816, .f32⟩
  | 2 => ⟨S_, .f32⟩
  | 3 => ⟨S3x2816, .f32⟩
  | 4 => ⟨S3x2816, .f32⟩
  | 5 => ⟨S4096x2816, .f32⟩
  | 6 => ⟨S4096x2816, .f32⟩
  | 7 => ⟨S4096x2816, .f32⟩
  | 8 => ⟨S_, .f32⟩
  | 9 => ⟨S2816, .f32⟩
  | 10 => ⟨S1x2816, .f32⟩
  | 11 => ⟨S_, .f32⟩
  | 12 => ⟨S2816, .f32⟩
  | 13 => ⟨S2x2816, .f32⟩
  | 14 => ⟨S4094x2816, .f32⟩
  | 15 => ⟨S_, .f32⟩
  | 16 => ⟨S4096x2816, .f32⟩
  | 17 => ⟨S4096x2816, .f32⟩
  | 18 => ⟨S1x2816, .f32⟩
  | 19 => ⟨S_, .f32⟩
  | 20 => ⟨S3x2816, .f32⟩
  | 21 => ⟨S3x2816, .f32⟩
  | 22 => ⟨S_, .f32⟩
  | 23 => ⟨S4096x5632, .f32⟩
  | 24 => ⟨S4096x5632, .f32⟩
  | 25 => ⟨S4096x1024, .bf16⟩
  | 26 => ⟨S4096x5632, .bf16⟩
  | 27 => ⟨S1x1024, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v26_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v26_1 : Ref sig .tc := ⟨.hbm, 46, rfl⟩
abbrev main_v26_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_cst_17 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_18 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_cst_24 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩

abbrev nD : Nat := 1
abbrev τ : Topo := Topo.v7x

variable {F : FTy → Type} [FloatOps F]
-- ==== FfnPreKernel.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S5632x1024 : Shape := ⟨2, ![5632, 1024]⟩
abbrev S1x1024 : Shape := ⟨2, ![1, 1024]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x5632, .bf16⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32_18 : BitVec 32 := 0#32
  let v43 : BitVec 1 := Scalar.cmpi .ne arg0 c0_i32_18
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnPreReferenceIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MixPreKernel.lean ====
abbrev S4096x1024 : Shape := ⟨2, ![4096, 1024]⟩
abbrev S1024 : Shape := ⟨1, ![1024]⟩
abbrev S1024x6912 : Shape := ⟨2, ![1024, 6912]⟩
abbrev S4096x6912 : Shape := ⟨2, ![4096, 6912]⟩
abbrev S4096x3072 : Shape := ⟨2, ![4096, 3072]⟩
abbrev S4096x3840 : Shape := ⟨2, ![4096, 3840]⟩
abbrev S6912x1024 : Shape := ⟨2, ![6912, 1024]⟩
abbrev S1x1024 : Shape := ⟨2, ![1, 1024]⟩
abbrev S256x1024 : Shape := ⟨2, ![256, 1024]⟩
abbrev S256x6912 : Shape := ⟨2, ![256, 6912]⟩
abbrev S256x3072 : Shape := ⟨2, ![256, 3072]⟩
abbrev S3072x1024 : Shape := ⟨2, ![3072, 1024]⟩
abbrev S256x3840 : Shape := ⟨2, ![256, 3840]⟩
abbrev S3840x1024 : Shape := ⟨2, ![3840, 1024]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x6912, .f32⟩
  | .hbm, ⟨4, _⟩ => ⟨S4096x1024, .f32⟩
  | .hbm, ⟨5, _⟩ => ⟨S4096x3072, .f32⟩
  | .hbm, ⟨6, _⟩ => ⟨S4096x3840, .f32⟩
  | .hbm, ⟨7, _⟩ => ⟨S4096x6912, .f32⟩
  | .hbm, ⟨8, _⟩ => ⟨S4096x6912, .bf16⟩
  | .hbm, ⟨9, _⟩ => ⟨S6912x1024, .f32⟩
  | .hbm, ⟨10, _⟩ => ⟨S6912x1024, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x6912, .bf16⟩
  | .local _ .vmem, ⟨3, _⟩ => ⟨S256x6912, .bf16⟩
  | .local _ .vmem, ⟨4, _⟩ => ⟨S6912x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_20 : BitVec 32 := 0#32
  let v48 : BitVec 1 := Scalar.cmpi .ne v47 c0_i32_20
  v48

def k0_cond2 (i : grid0.Coords) : BitVec 1 :=
  let arg0 : BitVec 32 := BitVec.ofNat 32 (i 0).val
  let c0_i32_21 : BitVec 32 := 0#32
  let v49 : BitVec 1 := Scalar.cmpi .ne arg0 c0_i32_21
  let v50 : BitVec 32 := Scalar.extui v49
  let c0_i32_22 : BitVec 32 := 0#32
  let v51 : BitVec 1 := Scalar.cmpi .ne v50 c0_i32_22
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6912x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixPreReferenceIdeal.lean ====
abbrev S4096x1024 : Shape := ⟨2, ![4096, 1024]⟩
abbrev S1024 : Shape := ⟨1, ![1024]⟩
abbrev S1024x6912 : Shape := ⟨2, ![1024, 6912]⟩
abbrev S4096x6912 : Shape := ⟨2, ![4096, 6912]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x6912, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6912, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== RopeKernel.lean ====
abbrev S4096 : Shape := ⟨1, ![4096]⟩
abbrev S4096x256 : Shape := ⟨2, ![4096, 256]⟩
abbrev S4096x6912 : Shape := ⟨2, ![4096, 6912]⟩
abbrev S8 : Shape := ⟨1, ![8]⟩
abbrev S_ : Shape := ⟨0, ![]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S1x4096x256 : Shape := ⟨3, ![1, 4096, 256]⟩
abbrev S4x1024x256 : Shape := ⟨3, ![4, 1024, 256]⟩
abbrev S16x256x256 : Shape := ⟨3, ![16, 256, 256]⟩
abbrev S1x512x256 : Shape := ⟨3, ![1, 512, 256]⟩
abbrev S4x128x256 : Shape := ⟨3, ![4, 128, 256]⟩
abbrev S16x32x256 : Shape := ⟨3, ![16, 32, 256]⟩
abbrev S512x128 : Shape := ⟨2, ![512, 128]⟩
abbrev S512x2304 : Shape := ⟨2, ![512, 2304]⟩
abbrev S18x512x128 : Shape := ⟨3, ![18, 512, 128]⟩
abbrev S512x256 : Shape := ⟨2, ![512, 256]⟩
abbrev S1x512x128 : Shape := ⟨3, ![1, 512, 128]⟩
abbrev S128x128 : Shape := ⟨2, ![128, 128]⟩
abbrev S1x128x256 : Shape := ⟨3, ![1, 128, 256]⟩
abbrev S128x256 : Shape := ⟨2, ![128, 256]⟩
abbrev S32x128 : Shape := ⟨2, ![32, 128]⟩
abbrev S1x32x256 : Shape := ⟨3, ![1, 32, 256]⟩
abbrev S32x256 : Shape := ⟨2, ![32, 256]⟩

abbrev nBuf : Space → Nat
  | .hbm => 72
  | .vmem => 25
  | .smem => 0
  | _ => 0

abbrev bufTy : (tb : Table) → Fin (tcTables nBuf tb) → BufTy
  | .hbm, ⟨0, _⟩ => ⟨S4096, .i32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x6912, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S48, .f32⟩
  | .hbm, ⟨27, _⟩ => ⟨S64, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S_, .f32⟩
  | .hbm, ⟨37, _⟩ => ⟨S48, .f32⟩
  | .hbm, ⟨38, _⟩ => ⟨S64, .f32⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S4096, .f32⟩
  | .hbm, ⟨43, _⟩ => ⟨S4096x1, .f32⟩
  | .hbm, ⟨44, _⟩ => ⟨S1x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S_, .f32⟩
  | .hbm, ⟨49, _⟩ => ⟨S128, .f32⟩
  | .hbm, ⟨50, _⟩ => ⟨S128, .i1⟩
  | .hbm, ⟨51, _⟩ => ⟨S4096x128, .f32⟩
  | .hbm, ⟨52, _⟩ => ⟨S_, .f32⟩
  | .hbm, ⟨53, _⟩ => ⟨S_, .f32⟩
  | .hbm, ⟨54, _⟩ => ⟨S4096x128, .i1⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S1x128, .f32⟩
  | .hbm, ⟨59, _⟩ => ⟨S4096x128, .f32⟩
  | .hbm, ⟨60, _⟩ => ⟨S4096x128, .f32⟩
  | .hbm, ⟨61, _⟩ => ⟨S4096x6912, .bf16⟩
  | .hbm, ⟨62, _⟩ => ⟨S1x4096x256, .f32⟩
  | .hbm, ⟨63, _⟩ => ⟨S4x1024x256, .f32⟩
  | .hbm, ⟨64, _⟩ => ⟨S16x256x256, .f32⟩
  | .hbm, ⟨65, _⟩ => ⟨S1x4096x256, .f32⟩
  | .hbm, ⟨66, _⟩ => ⟨S4x1024x256, .f32⟩
  | .hbm, ⟨67, _⟩ => ⟨S16x256x256, .f32⟩
  | .hbm, ⟨68, _⟩ => ⟨S1x4096x256, .f32⟩
  | .hbm, ⟨69, _⟩ => ⟨S4x1024x256, .f32⟩
  | .hbm, ⟨70, _⟩ => ⟨S16x256x256, .f32⟩
  | .hbm, ⟨71, _⟩ => ⟨S4096x6912, .bf16⟩
  | .local _ .vmem, ⟨0, _⟩ => ⟨S1x512x256, .f32⟩
  | .local _ .vmem, ⟨1, _⟩ => ⟨S1x512x256, .f32⟩
  | .local _ .vmem, ⟨2, _⟩ => ⟨S4x128x256, .f32⟩
  | .local _ .vmem, ⟨3, _⟩ => ⟨S4x128x256, .f32⟩
  | .local _ .vmem, ⟨4, _⟩ => ⟨S16x32x256, .f32⟩
  | .local _ .vmem, ⟨5, _⟩ => ⟨S16x32x256, .f32⟩
  | .local _ .vmem, ⟨6, _⟩ => ⟨S1x512x256, .f32⟩
  | .local _ .vmem, ⟨7, _⟩ => ⟨S1x512x256, .f32⟩
  | .local _ .vmem, ⟨8, _⟩ => ⟨S4x128x256, .f32⟩
  | .local _ .vmem, ⟨9, _⟩ => ⟨S4x128x256, .f32⟩
  | .local _ .vmem, ⟨10, _⟩ => ⟨S16x32x256, .f32⟩
  | .local _ .vmem, ⟨11, _⟩ => ⟨S16x32x256, .f32⟩
  | .local _ .vmem, ⟨12, _⟩ => ⟨S1x512x256, .f32⟩
  | .local _ .vmem, ⟨13, _⟩ => ⟨S1x512x256, .f32⟩
  | .local _ .vmem, ⟨14, _⟩ => ⟨S4x128x256, .f32⟩
  | .local _ .vmem, ⟨15, _⟩ => ⟨S4x128x256, .f32⟩
  | .local _ .vmem, ⟨16, _⟩ => ⟨S16x32x256, .f32⟩
  | .local _ .vmem, ⟨17, _⟩ => ⟨S16x32x256, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x2304, .bf16⟩
  | .local _ .vmem, ⟨23, _⟩ => ⟨S512x2304, .bf16⟩
  | .local _ .vmem, ⟨24, _⟩ => ⟨S18x512x128, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2304 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RopeReferenceIdeal.lean ====
abbrev S4096 : Shape := ⟨1, ![4096]⟩
abbrev S4096x256 : Shape := ⟨2, ![4096, 256]⟩
abbrev S4096x6912 : Shape := ⟨2, ![4096, 6912]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x2304 : Shape := ⟨2, ![4096, 2304]⟩
abbrev S4096x768 : Shape := ⟨2, ![4096, 768]⟩
abbrev S4096x12x64 : Shape := ⟨3, ![4096, 12, 64]⟩
abbrev S4096x12x8 : Shape := ⟨3, ![4096, 12, 8]⟩
abbrev S4096x12x16 : Shape := ⟨3, ![4096, 12, 16]⟩
abbrev S4096x12x48 : Shape := ⟨3, ![4096, 12, 48]⟩
abbrev S4096x4x64 : Shape := ⟨3, ![4096, 4, 64]⟩
abbrev S4096x1x256 : Shape := ⟨3, ![4096, 1, 256]⟩
abbrev S1x4096x256 : Shape := ⟨3, ![1, 4096, 256]⟩
abbrev S1024x4x256 : Shape := ⟨3, ![1024, 4, 256]⟩
abbrev S4x1024x256 : Shape := ⟨3, ![4, 1024, 256]⟩
abbrev S256x16x256 : Shape := ⟨3, ![256, 16, 256]⟩
abbrev S16x256x256 : Shape := ⟨3, ![16, 256, 256]⟩
abbrev S4096x4608 : Shape := ⟨2, ![4096, 4608]⟩

abbrev nBuf : Space → Nat
  | .hbm => 219
  | .vmem => 0
  | .smem => 0
  | _ => 0

abbrev hbmTy0_0 (i : Nat) : BufTy := match i % 128 with
  | 0 => ⟨S4096, .i32⟩
  | 1 => ⟨S4096x256, .f32⟩
  | 2 => ⟨S4096x256, .f32⟩
  | 3 => ⟨S4096x256, .f32⟩
  | 4 => ⟨S4096x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S4096x6912, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S4096, .f32⟩
  | 26 => ⟨S4096x1, .f32⟩
  | 27 => ⟨S1x8, .f32⟩
  | 28 => ⟨S4096x8, .f32⟩
  | 29 => ⟨S4096x8, .f32⟩
  | 30 => ⟨S4096x8, .f32⟩
  | 31 => ⟨S4096x8, .f32⟩
  | 32 => ⟨S4096x1x8, .f32⟩
  | 33 => ⟨S4096x8, .f32⟩
  | 34 => ⟨S4096x1x8, .f32⟩
  | 35 => ⟨S4096x2304, .f32⟩
  | 36 => ⟨S4096x768, .f32⟩
  | 37 => ⟨S4096x12x64, .f32⟩
  | 38 => ⟨S4096x768, .f32⟩
  | 39 => ⟨S4096x12x64, .f32⟩
  | 40 => ⟨S4096x768, .f32⟩
  | 41 => ⟨S4096x12x64, .f32⟩
  | 42 => ⟨S4096x12x8, .f32⟩
  | 43 => ⟨S4096x12x8, .f32⟩
  | 44 => ⟨S4096x12x8, .f32⟩
  | 45 => ⟨S4096x12x8, .f32⟩
  | 46 => ⟨S4096x12x8, .f32⟩
  | 47 => ⟨S4096x12x8, .f32⟩
  | 48 => ⟨S4096x12x8, .f32⟩
  | 49 => ⟨S4096x12x8, .f32⟩
  | 50 => ⟨S4096x12x8, .f32⟩
  | 51 => ⟨S4096x12x8, .f32⟩
  | 52 => ⟨S4096x12x8, .f32⟩
  | 53 => ⟨S4096x12x8, .f32⟩
  | 54 => ⟨S4096x12x16, .f32⟩
  | 55 => ⟨S4096x12x48, .f32⟩
  | 56 => ⟨S4096x12x64, .f32⟩
  | 57 => ⟨S4096x4x64, .f32⟩
  | 58 => ⟨S4096x1x256, .f32⟩
  | 59 => ⟨S1x4096x256, .f32⟩
  | 60 => ⟨S4096x256, .f32⟩
  | 61 => ⟨S4096x4x64, .f32⟩
  | 62 => ⟨S1024x4x256, .f32⟩
  | 63 => ⟨S4x1024x256, .f32⟩
  | 64 => ⟨S4096x256, .f32⟩
  | 65 => ⟨S4096x4x64, .f32⟩
  | 66 => ⟨S256x16x256, .f32⟩
  | 67 => ⟨S16x256x256, .f32⟩
  | 68 => ⟨S4096x256, .f32⟩
  | 69 => ⟨S4096x12x8, .f32⟩
  | 70 => ⟨S4096x12x8, .f32⟩
  | 71 => ⟨S4096x12x8, .f32⟩
  | 72 => ⟨S4096x12x8, .f32⟩
  | 73 => ⟨S4096x12x8, .f32⟩
  | 74 => ⟨S4096x12x8, .f32⟩
  | 75 => ⟨S4096x12x8, .f32⟩
  | 76 => ⟨S4096x12x8, .f32⟩
  | 77 => ⟨S4096x12x8, .f32⟩
  | 78 => ⟨S4096x12x8, .f32⟩
  | 79 => ⟨S4096x12x8, .f32⟩
  | 80 => ⟨S4096x12x8, .f32⟩
  | 81 => ⟨S4096x12x16, .f32⟩
  | 82 => ⟨S4096x12x48, .f32⟩
  | 83 => ⟨S4096x12x64, .f32⟩
  | 84 => ⟨S4096x4x64, .f32⟩
  | 85 => ⟨S4096x1x256, .f32⟩
  | 86 => ⟨S1x4096x256, .f32⟩
  | 87 => ⟨S4096x256, .f32⟩
  | 88 => ⟨S4096x4x64, .f32⟩
  | 89 => ⟨S1024x4x256, .f32⟩
  | 90 => ⟨S4x1024x256, .f32⟩
  | 91 => ⟨S4096x256, .f32⟩
  | 92 => ⟨S4096x4x64, .f32⟩
  | 93 => ⟨S256x16x256, .f32⟩
  | 94 => ⟨S16x256x256, .f32⟩
  | 95 => ⟨S4096x256, .f32⟩
  | 96 => ⟨S4096x4x64, .f32⟩
  | 97 => ⟨S4096x1x256, .f32⟩
  | 98 => ⟨S1x4096x256, .f32⟩
  | 99 => ⟨S4096x256, .f32⟩
  | 100 => ⟨S4096x4x64, .f32⟩
  | 101 => ⟨S1024x4x256, .f32⟩
  | 102 => ⟨S4x1024x256, .f32⟩
  | 103 => ⟨S4096x256, .f32⟩
  | 104 => ⟨S4096x4x64, .f32⟩
  | 105 => ⟨S256x16x256, .f32⟩
  | 106 => ⟨S16x256x256, .f32⟩
  | 107 => ⟨S4096x256, .f32⟩
  | 108 => ⟨S16x256x256, .f32⟩
  | 109 => ⟨S256x16x256, .f32⟩
  | 110 => ⟨S4096x4x64, .f32⟩
  | 111 => ⟨S_, .f32⟩
  | 112 => ⟨S4096x12x64, .f32⟩
  | 113 => ⟨S4x1024x256, .f32⟩
  | 114 => ⟨S1024x4x256, .f32⟩
  | 115 => ⟨S4096x4x64, .f32⟩
  | 116 => ⟨S_, .f32⟩
  | 117 => ⟨S4096x12x64, .f32⟩
  | 118 => ⟨S4096x12x64, .f32⟩
  | 119 => ⟨S1x4096x256, .f32⟩
  | 120 => ⟨S4096x1x256, .f32⟩
  | 121 => ⟨S4096x4x64, .f32⟩
  | 122 => ⟨S_, .f32⟩
  | 123 => ⟨S4096x12x64, .f32⟩
  | 124 => ⟨S4096x12x64, .f32⟩
  | 125 => ⟨S16x256x256, .f32⟩
  | 126 => ⟨S256x16x256, .f32⟩
  | 127 => ⟨S4096x4x64, .f32⟩
  | _ => ⟨S4096, .i32⟩

abbrev hbmTy0_1 (i : Nat) : BufTy := match i % 128 with
  | 0 => ⟨S_, .f32⟩
  | 1 => ⟨S4096x12x64, .f32⟩
  | 2 => ⟨S4x1024x256, .f32⟩
  | 3 => ⟨S1024x4x256, .f32⟩
  | 4 => ⟨S4096x4x64, .f32⟩
  | 5 => ⟨S_, .f32⟩
  | 6 => ⟨S4096x12x64, .f32⟩
  | 7 => ⟨S4096x12x64, .f32⟩
  | 8 => ⟨S1x4096x256, .f32⟩
  | 9 => ⟨S4096x1x256, .f32⟩
  | 10 => ⟨S4096x4x64, .f32⟩
  | 11 => ⟨S_, .f32⟩
  | 12 => ⟨S4096x12x64, .f32⟩
  | 13 => ⟨S4096x12x64, .f32⟩
  | 14 => ⟨S4096x12x16, .f32⟩
  | 15 => ⟨S4096x12x48, .f32⟩
  | 16 => ⟨S_, .f32⟩
  | 17 => ⟨S4096x12x64, .f32⟩
  | 18 => ⟨S4096x12x8, .f32⟩
  | 19 => ⟨S4096x12x8, .f32⟩
  | 20 => ⟨S4096x12x8, .f32⟩
  | 21 => ⟨S4096x12x8, .f32⟩
  | 22 => ⟨S4096x12x8, .f32⟩
  | 23 => ⟨S4096x12x8, .f32⟩
  | 24 => ⟨S4096x12x8, .f32⟩
  | 25 => ⟨S4096x12x8, .f32⟩
  | 26 => ⟨S4096x12x8, .f32⟩
  | 27 => ⟨S4096x12x8, .f32⟩
  | 28 => ⟨S4096x12x8, .f32⟩
  | 29 => ⟨S4096x12x8, .f32⟩
  | 30 => ⟨S4096x12x8, .f32⟩
  | 31 => ⟨S_, .f32⟩
  | 32 => ⟨S4096x12x64, .f32⟩
  | 33 => ⟨S4096x12x64, .f32⟩
  | 34 => ⟨S_, .f32⟩
  | 35 => ⟨S4096x12x64, .f32⟩
  | 36 => ⟨S4096x12x64, .f32⟩
  | 37 => ⟨S16x256x256, .f32⟩
  | 38 => ⟨S256x16x256, .f32⟩
  | 39 => ⟨S4096x4x64, .f32⟩
  | 40 => ⟨S_, .f32⟩
  | 41 => ⟨S4096x12x64, .f32⟩
  | 42 => ⟨S4x1024x256, .f32⟩
  | 43 => ⟨S1024x4x256, .f32⟩
  | 44 => ⟨S4096x4x64, .f32⟩
  | 45 => ⟨S_, .f32⟩
  | 46 => ⟨S4096x12x64, .f32⟩
  | 47 => ⟨S4096x12x64, .f32⟩
  | 48 => ⟨S1x4096x256, .f32⟩
  | 49 => ⟨S4096x1x256, .f32⟩
  | 50 => ⟨S4096x4x64, .f32⟩
  | 51 => ⟨S_, .f32⟩
  | 52 => ⟨S4096x12x64, .f32⟩
  | 53 => ⟨S4096x12x64, .f32⟩
  | 54 => ⟨S4096x12x16, .f32⟩
  | 55 => ⟨S4096x12x48, .f32⟩
  | 56 => ⟨S_, .f32⟩
  | 57 => ⟨S4096x12x64, .f32⟩
  | 58 => ⟨S4096x12x8, .f32⟩
  | 59 => ⟨S4096x12x8, .f32⟩
  | 60 => ⟨S4096x12x8, .f32⟩
  | 61 => ⟨S4096x12x8, .f32⟩
  | 62 => ⟨S4096x12x8, .f32⟩
  | 63 => ⟨S4096x12x8, .f32⟩
  | 64 => ⟨S4096x12x8, .f32⟩
  | 65 => ⟨S4096x12x8, .f32⟩
  | 66 => ⟨S4096x12x8, .f32⟩
  | 67 => ⟨S4096x12x8, .f32⟩
  | 68 => ⟨S4096x12x8, .f32⟩
  | 69 => ⟨S4096x12x8, .f32⟩
  | 70 => ⟨S4096x12x8, .f32⟩
  | 71 => ⟨S_, .f32⟩
  | 72 => ⟨S4096x12x64, .f32⟩
  | 73 => ⟨S4096x12x64, .f32⟩
  | 74 => ⟨S_, .f32⟩
  | 75 => ⟨S4096x12x64, .f32⟩
  | 76 => ⟨S4096x12x64, .f32⟩
  | 77 => ⟨S4096x768, .f32⟩
  | 78 => ⟨S_, .f32⟩
  | 79 => ⟨S4096x2304, .f32⟩
  | 80 => ⟨S4096x768, .f32⟩
  | 81 => ⟨S_, .f32⟩
  | 82 => ⟨S4096x2304, .f32⟩
  | 83 => ⟨S4096x2304, .f32⟩
  | 84 => ⟨S4096x768, .f32⟩
  | 85 => ⟨S_, .f32⟩
  | 86 => ⟨S4096x2304, .f32⟩
  | 87 => ⟨S4096x2304, .f32⟩
  | 88 => ⟨S4096x4608, .f32⟩
  | 89 => ⟨S4096x6912, .f32⟩
  | 90 => ⟨S4096x6912, .bf16⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_3 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_4 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_cst_5 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_6 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_7 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_cst_8 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_9 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_cst_10 : Ref sig .tc := ⟨.hbm, 159, rfl⟩
abbrev main_v137 : Ref sig .tc := ⟨.hbm, 160, rfl⟩
abbrev main_v138 : Ref sig .tc := ⟨.hbm, 161, rfl⟩
abbrev main_cst_11 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_cst_12 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_cst_13 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_cst_14 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_15 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_cst_16 : Ref sig .tc := ⟨.hbm, 199, rfl⟩
abbrev main_v171 : Ref sig .tc := ⟨.hbm, 200, rfl⟩
abbrev main_v172 : Ref sig .tc := ⟨.hbm, 201, rfl⟩
abbrev main_cst_17 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_cst_18 : Ref sig .tc := ⟨.hbm, 206, rfl⟩
abbrev main_v176 : Ref sig .tc := ⟨.hbm, 207, rfl⟩
abbrev main_v177 : Ref sig .tc := ⟨.hbm, 208, rfl⟩
abbrev main_cst_19 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_20 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩

abbrev nD : Nat := 1
abbrev τ : Topo := Topo.v7x

variable {F : FTy → Type} [FloatOps F]
-- ==== LossKernel.lean ====
abbrev S4096x1024 : Shape := ⟨2, ![4096, 1024]⟩
abbrev S8x128 : Shape := ⟨2, ![8, 128]⟩
abbrev S512x1024 : Shape := ⟨2, ![512, 1024]⟩
abbrev S1024 : Shape := ⟨1, ![1024]⟩
abbrev S1x1024 : Shape := ⟨2, ![1, 1024]⟩
abbrev S1x128 : Shape := ⟨2, ![1, 128]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_7 : BitVec 32 := 0#32
  let v31 : BitVec 1 := Scalar.cmpi .eq arg0 c0_i32_7
  let v32 : BitVec 32 := Scalar.extui v31
  let c0_i32_8 : BitVec 32 := 0#32
  let v33 : BitVec 1 := Scalar.cmpi .ne v32 c0_i32_8
  v33

def k0_cond2 (i : grid0.Coords) : BitVec 1 :=
  let arg0 : BitVec 32 := BitVec.ofNat 32 (i 0).val
  let c0_i32_9 : BitVec 32 := 0#32
  let v34 : BitVec 1 := Scalar.cmpi .ne arg0 c0_i32_9
  let v35 : BitVec 32 := Scalar.extui v34
  let c0_i32_10 : BitVec 32 := 0#32
  let v36 : BitVec 1 := Scalar.cmpi .ne v35 c0_i32_10
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== NormKvKernel.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S256x1024, .bf16⟩
  | .hbm, ⟨6, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== NormKvReferenceIdeal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .bf16⟩
  | .hbm, ⟨21, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FfnFwdKernel.lean ====
abbrev S4096x1024 : Shape := ⟨2, ![4096, 1024]⟩
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S1x1024 : Shape := ⟨2, ![1, 1024]⟩
abbrev S4096x2816 : Shape := ⟨2, ![4096, 2816]⟩
abbrev S512x1024 : Shape := ⟨2, ![512, 1024]⟩
abbrev S512x2816 : Shape := ⟨2, ![512, 2816]⟩
abbrev S8x2816 : Shape := ⟨2, ![8, 2816]⟩
abbrev S520x2816 : Shape := ⟨2, ![520, 2816]⟩
abbrev S1x2816 : Shape := ⟨2, ![1, 2816]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S3x2816, .f32⟩
  | .hbm, ⟨3, _⟩ => ⟨S2816x1024, .f32⟩
  | .hbm, ⟨4, _⟩ => ⟨S1024, .f32⟩
  | .hbm, ⟨5, _⟩ => ⟨S4096x5632, .bf16⟩
  | .hbm, ⟨6, _⟩ => ⟨S2816x1024, .bf16⟩
  | .hbm, ⟨7, _⟩ => ⟨S1x1024, .f32⟩
  | .hbm, ⟨8, _⟩ => ⟨S4096x2816, .bf16⟩
  | .hbm, ⟨9, _⟩ => ⟨S4096x1024, .f32⟩
  | .hbm, ⟨10, _⟩ => ⟨S4096x1024, .f32⟩
  | .hbm, ⟨11, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S3x2816, .f32⟩
  | .local _ .vmem, ⟨7, _⟩ => ⟨S2816x1024, .bf16⟩
  | .local _ .vmem, ⟨8, _⟩ => ⟨S1x1024, .f32⟩
  | .local _ .vmem, ⟨9, _⟩ => ⟨S512x2816, .bf16⟩
  | .local _ .vmem, ⟨10, _⟩ => ⟨S512x2816, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x2816, .bf16⟩
  | .local _ .vmem, ⟨16, _⟩ => ⟨S512x2816, .bf16⟩
  | .local _ .vmem, ⟨17, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdReferenceIdeal.lean ====
abbrev S4096x1024 : Shape := ⟨2, ![4096, 1024]⟩
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S4096x2816 : Shape := ⟨2, ![4096, 2816]⟩
abbrev S1x2816 : Shape := ⟨2, ![1, 2816]⟩
abbrev S2816 : Shape := ⟨1, ![2816]⟩
abbrev S_ : Shape := ⟨0, ![]⟩
abbrev S2x2816 : Shape := ⟨2, ![2, 2816]⟩
abbrev S4094x2816 : Shape := ⟨2, ![4094, 2816]⟩
abbrev S4095x2816 : Shape := ⟨2, ![4095, 2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S3x2816, .f32⟩
  | .hbm, ⟨3, _⟩ => ⟨S2816x1024, .f32⟩
  | .hbm, ⟨4, _⟩ => ⟨S1024, .f32⟩
  | .hbm, ⟨5, _⟩ => ⟨S4096x2816, .f32⟩
  | .hbm, ⟨6, _⟩ => ⟨S1x2816, .f32⟩
  | .hbm, ⟨7, _⟩ => ⟨S2816, .f32⟩
  | .hbm, ⟨8, _⟩ => ⟨S_, .f32⟩
  | .hbm, ⟨9, _⟩ => ⟨S2x2816, .f32⟩
  | .hbm, ⟨10, _⟩ => ⟨S4094x2816, .f32⟩
  | .hbm, ⟨11, _⟩ => ⟨S4096x2816, .f32⟩
  | .hbm, ⟨12, _⟩ => ⟨S1x2816, .f32⟩
  | .hbm, ⟨13, _⟩ => ⟨S4096x2816, .f32⟩
  | .hbm, ⟨14, _⟩ => ⟨S4096x2816, .f32⟩
  | .hbm, ⟨15, _⟩ => ⟨S1x2816, .f32⟩
  | .hbm, ⟨16, _⟩ => ⟨S2816, .f32⟩
  | .hbm, ⟨17, _⟩ => ⟨S_, .f32⟩
  | .hbm, ⟨18, _⟩ => ⟨S1x2816, .f32⟩
  | .hbm, ⟨19, _⟩ => ⟨S4095x2816, .f32⟩
  | .hbm, ⟨20, _⟩ => ⟨S4096x2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S1x2816, .f32⟩
  | .hbm, ⟨26, _⟩ => ⟨S2816, .f32⟩
  | .hbm, ⟨27, _⟩ => ⟨S1x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x2816, .bf16⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== MergeFwdKernel.lean ====
abbrev S4096x1024 : Shape := ⟨2, ![4096, 1024]⟩
abbrev S4096x6912 : Shape := ⟨2, ![4096, 6912]⟩
abbrev S4096x384 : Shape := ⟨2, ![4096, 384]⟩
abbrev S4096x256 : Shape := ⟨2, ![4096, 256]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S4096x3072 : Shape := ⟨2, ![4096, 3072]⟩
abbrev S4096x3840 : Shape := ⟨2, ![4096, 3840]⟩
abbrev S1024x384 : Shape := ⟨2, ![1024, 384]⟩
abbrev S1024x256 : Shape := ⟨2, ![1024, 256]⟩
abbrev S1x1024 : Shape := ⟨2, ![1, 1024]⟩
abbrev S512x1024 : Shape := ⟨2, ![512, 1024]⟩
abbrev S512x3072 : Shape := ⟨2, ![512, 3072]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 28
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S4096x384, .f32⟩
  | .hbm, ⟨3, _⟩ => ⟨S4096x384, .f32⟩
  | .hbm, ⟨4, _⟩ => ⟨S4096x256, .f32⟩
  | .hbm, ⟨5, _⟩ => ⟨S384x1024, .f32⟩
  | .hbm, ⟨6, _⟩ => ⟨S384x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S4096x3072, .f32⟩
  | .hbm, ⟨11, _⟩ => ⟨S4096x3840, .f32⟩
  | .hbm, ⟨12, _⟩ => ⟨S4096x6912, .f32⟩
  | .hbm, ⟨13, _⟩ => ⟨S1024x384, .f32⟩
  | .hbm, ⟨14, _⟩ => ⟨S1024x384, .f32⟩
  | .hbm, ⟨15, _⟩ => ⟨S1024x256, .f32⟩
  | .hbm, ⟨16, _⟩ => ⟨S4096x6912, .bf16⟩
  | .hbm, ⟨17, _⟩ => ⟨S4096x384, .bf16⟩
  | .hbm, ⟨18, _⟩ => ⟨S4096x384, .bf16⟩
  | .hbm, ⟨19, _⟩ => ⟨S4096x256, .bf16⟩
  | .hbm, ⟨20, _⟩ => ⟨S1024x384, .bf16⟩
  | .hbm, ⟨21, _⟩ => ⟨S1024x384, .bf16⟩
  | .hbm, ⟨22, _⟩ => ⟨S1024x256, .bf16⟩
  | .hbm, ⟨23, _⟩ => ⟨S1024x1024, .bf16⟩
  | .hbm, ⟨24, _⟩ => ⟨S1x1024, .f32⟩
  | .hbm, ⟨25, _⟩ => ⟨S4096x1024, .bf16⟩
  | .hbm, ⟨26, _⟩ => ⟨S4096x1024, .f32⟩
  | .hbm, ⟨27, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x256, .bf16⟩
  | .local _ .vmem, ⟨9, _⟩ => ⟨S512x256, .bf16⟩
  | .local _ .vmem, ⟨10, _⟩ => ⟨S1024x384, .bf16⟩
  | .local _ .vmem, ⟨11, _⟩ => ⟨S1024x384, .bf16⟩
  | .local _ .vmem, ⟨12, _⟩ => ⟨S1024x256, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdReferenceIdeal.lean ====
abbrev S4096x1024 : Shape := ⟨2, ![4096, 1024]⟩
abbrev S4096x6912 : Shape := ⟨2, ![4096, 6912]⟩
abbrev S4096x384 : Shape := ⟨2, ![4096, 384]⟩
abbrev S4096x256 : Shape := ⟨2, ![4096, 256]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S4096x384, .f32⟩
  | .hbm, ⟨3, _⟩ => ⟨S4096x384, .f32⟩
  | .hbm, ⟨4, _⟩ => ⟨S4096x256, .f32⟩
  | .hbm, ⟨5, _⟩ => ⟨S384x1024, .f32⟩
  | .hbm, ⟨6, _⟩ => ⟨S384x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x3x1024, .f32⟩
  | .hbm, ⟨20, _⟩ => ⟨S4096x1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== ProdTnKernel.lean ====
abbrev S4096x1024 : Shape := ⟨2, ![4096, 1024]⟩
abbrev S4096x6912 : Shape := ⟨2, ![4096, 6912]⟩
abbrev S4096x3072 : Shape := ⟨2, ![4096, 3072]⟩
abbrev S4096x3840 : Shape := ⟨2, ![4096, 3840]⟩
abbrev S6912x1024 : Shape := ⟨2, ![6912, 1024]⟩
abbrev S4096x768 : Shape := ⟨2, ![4096, 768]⟩
abbrev S768x1024 : Shape := ⟨2, ![768, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S4096x3072, .f32⟩
  | .hbm, ⟨3, _⟩ => ⟨S4096x3840, .f32⟩
  | .hbm, ⟨4, _⟩ => ⟨S4096x6912, .f32⟩
  | .hbm, ⟨5, _⟩ => ⟨S4096x6912, .bf16⟩
  | .hbm, ⟨6, _⟩ => ⟨S4096x1024, .bf16⟩
  | .hbm, ⟨7, _⟩ => ⟨S6912x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg0 c5_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![v10.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProdTnReferenceIdeal.lean ====
abbrev S4096x1024 : Shape := ⟨2, ![4096, 1024]⟩
abbrev S4096x6912 : Shape := ⟨2, ![4096, 6912]⟩
abbrev S_ : Shape := ⟨0, ![]⟩
abbrev S1024x6912 : Shape := ⟨2, ![1024, 6912]⟩
abbrev S6912x1024 : Shape := ⟨2, ![6912, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S_, .f32⟩
  | .hbm, ⟨3, _⟩ => ⟨S1024x6912, .f32⟩
  | .hbm, ⟨4, _⟩ => ⟨S4096x6912, .f32⟩
  | .hbm, ⟨5, _⟩ => ⟨S6912x1024, .f32⟩
  | .hbm, ⟨6, _⟩ => ⟨S1024x6912, .f32⟩
  | .hbm, ⟨7, _⟩ => ⟨S6912x1024, .f32⟩
  | .hbm, ⟨8, _⟩ => ⟨S6912x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProdNtKernel.lean ====
abbrev S1024x1024 : Shape := ⟨2, ![1024, 1024]⟩
abbrev S256x1024 : Shape := ⟨2, ![256, 1024]⟩
abbrev S512x1024 : Shape := ⟨2, ![512, 1024]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S256x1024, .f32⟩
  | .hbm, ⟨2, _⟩ => ⟨S256x1024, .bf16⟩
  | .hbm, ⟨3, _⟩ => ⟨S1024x1024, .bf16⟩
  | .hbm, ⟨4, _⟩ => ⟨S256x1024, .f32⟩
  | .local _ .vmem, ⟨0, _⟩ => ⟨S256x1024, .bf16⟩
  | .local _ .vmem, ⟨1, _⟩ => ⟨S512x1024, .bf16⟩
  | .local _ .vmem, ⟨2, _⟩ => ⟨S512x1024, .bf16⟩
  | .local _ .vmem, ⟨3, _⟩ => ⟨S256x512, .f32⟩
  | .local _ .vmem, ⟨4, _⟩ => ⟨S256x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProdNtReferenceIdeal.lean ====
abbrev S1024x1024 : Shape := ⟨2, ![1024, 1024]⟩
abbrev S256x1024 : Shape := ⟨2, ![256, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S256x1024, .f32⟩
  | .hbm, ⟨2, _⟩ => ⟨S_, .f32⟩
  | .hbm, ⟨3, _⟩ => ⟨S256x1024, .f32⟩
  | .hbm, ⟨4, _⟩ => ⟨S256x1024, .f32⟩
  | .hbm, ⟨5, _⟩ => ⟨S256x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamKernel.lean ====
abbrev S2x1024 : Shape := ⟨2, ![2, 1024]⟩
abbrev S1x2x1024 : Shape := ⟨3, ![1, 2, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamReferenceIdeal.lean ====
abbrev S2x1024 : Shape := ⟨2, ![2, 1024]⟩
abbrev S_ : Shape := ⟨0, ![]⟩
abbrev S1x2x1024 : Shape := ⟨3, ![1, 2, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S1x2x1024, .f32⟩
  | .hbm, ⟨38, _⟩ => ⟨S1x2x1024, .f32⟩
  | .hbm, ⟨39, _⟩ => ⟨S1x2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AttnFwd0Kernel.lean ====
abbrev S4096x768 : Shape := ⟨2, ![4096, 768]⟩
abbrev S4096x256 : Shape := ⟨2, ![4096, 256]⟩
abbrev S4096x1x256 : Shape := ⟨3, ![4096, 1, 256]⟩
abbrev S1x4096x256 : Shape := ⟨3, ![1, 4096, 256]⟩
abbrev S512x256 : Shape := ⟨2, ![512, 256]⟩
abbrev S128x256 : Shape := ⟨2, ![128, 256]⟩
abbrev S256x256 : Shape := ⟨2, ![256, 256]⟩
abbrev S128 : Shape := ⟨1, ![128]⟩
abbrev S128x1 : Shape := ⟨2, ![128, 1]⟩

abbrev nBuf : Space → Nat
  | .hbm => 21
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S4096x1x256, .f32⟩
  | .hbm, ⟨5, _⟩ => ⟨S1x4096x256, .f32⟩
  | .hbm, ⟨6, _⟩ => ⟨S4096x256, .f32⟩
  | .hbm, ⟨7, _⟩ => ⟨S4096x256, .bf16⟩
  | .hbm, ⟨8, _⟩ => ⟨S4096x256, .f32⟩
  | .hbm, ⟨9, _⟩ => ⟨S4096x1x256, .f32⟩
  | .hbm, ⟨10, _⟩ => ⟨S1x4096x256, .f32⟩
  | .hbm, ⟨11, _⟩ => ⟨S4096x256, .f32⟩
  | .hbm, ⟨12, _⟩ => ⟨S4096x256, .bf16⟩
  | .hbm, ⟨13, _⟩ => ⟨S4096x256, .f32⟩
  | .hbm, ⟨14, _⟩ => ⟨S4096x1x256, .f32⟩
  | .hbm, ⟨15, _⟩ => ⟨S1x4096x256, .f32⟩
  | .hbm, ⟨16, _⟩ => ⟨S4096x256, .f32⟩
  | .hbm, ⟨17, _⟩ => ⟨S4096x256, .bf16⟩
  | .hbm, ⟨18, _⟩ => ⟨S4096x256, .f32⟩
  | .hbm, ⟨19, _⟩ => ⟨S4096x256, .f32⟩
  | .hbm, ⟨20, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFwd0KernelIdeal.lean ====
variable {F : FTy → Type} [FloatOps F] [Named F]
def κ : String → Option EReal := fun
  | "mask" => some ⊥
  | _ => none
-- ==== AttnFwd0ReferenceIdeal.lean ====
abbrev S4096x768 : Shape := ⟨2, ![4096, 768]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x256 : Shape := ⟨2, ![4096, 256]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S4x4096 : Shape := ⟨2, ![4, 4096]⟩
abbrev S4x4096x1 : Shape := ⟨3, ![4, 4096, 1]⟩
abbrev S4096x1x256 : Shape := ⟨3, ![4096, 1, 256]⟩
abbrev S1x4096x256 : Shape := ⟨3, ![1, 4096, 256]⟩

abbrev nBuf : Space → Nat
  | .hbm => 69
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S1x4096, .i32⟩
  | .hbm, ⟨7, _⟩ => ⟨S4096x4096, .i32⟩
  | .hbm, ⟨8, _⟩ => ⟨S4096x4096, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x4x64, .f32⟩
  | .hbm, ⟨28, _⟩ => ⟨S4x4096x64, .f32⟩
  | .hbm, ⟨29, _⟩ => ⟨S4096x4x64, .f32⟩
  | .hbm, ⟨30, _⟩ => ⟨S4x4096x64, .f32⟩
  | .hbm, ⟨31, _⟩ => ⟨S4096x4x64, .f32⟩
  | .hbm, ⟨32, _⟩ => ⟨S4x4096x64, .f32⟩
  | .hbm, ⟨33, _⟩ => ⟨S4x4096x4096, .f32⟩
  | .hbm, ⟨34, _⟩ => ⟨S_, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S_, .f32⟩
  | .hbm, ⟨39, _⟩ => ⟨S4x4096x4096, .i1⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x4096x64, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S4096x4x64, .f32⟩
  | .hbm, ⟨53, _⟩ => ⟨S4096x256, .f32⟩
  | .hbm, ⟨54, _⟩ => ⟨S4x4096x64, .f32⟩
  | .hbm, ⟨55, _⟩ => ⟨S4096x4x64, .f32⟩
  | .hbm, ⟨56, _⟩ => ⟨S4096x256, .f32⟩
  | .hbm, ⟨57, _⟩ => ⟨S4x4096x64, .f32⟩
  | .hbm, ⟨58, _⟩ => ⟨S4096x4x64, .f32⟩
  | .hbm, ⟨59, _⟩ => ⟨S4096x256, .f32⟩
  | .hbm, ⟨60, _⟩ => ⟨S4096x1x256, .f32⟩
  | .hbm, ⟨61, _⟩ => ⟨S1x4096x256, .f32⟩
  | .hbm, ⟨62, _⟩ => ⟨S4096x256, .f32⟩
  | .hbm, ⟨63, _⟩ => ⟨S4096x1x256, .f32⟩
  | .hbm, ⟨64, _⟩ => ⟨S1x4096x256, .f32⟩
  | .hbm, ⟨65, _⟩ => ⟨S4096x256, .f32⟩
  | .hbm, ⟨66, _⟩ => ⟨S4096x1x256, .f32⟩
  | .hbm, ⟨67, _⟩ => ⟨S1x4096x256, .f32⟩
  | .hbm, ⟨68, _⟩ => ⟨S4096x256, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== AttnFwd1Kernel.lean ====
abbrev S4096x768 : Shape := ⟨2, ![4096, 768]⟩
abbrev S4096x256 : Shape := ⟨2, ![4096, 256]⟩
abbrev S1024x4x256 : Shape := ⟨3, ![1024, 4, 256]⟩
abbrev S4x1024x256 : Shape := ⟨3, ![4, 1024, 256]⟩
abbrev S512x256 : Shape := ⟨2, ![512, 256]⟩
abbrev S128x256 : Shape := ⟨2, ![128, 256]⟩
abbrev S256x256 : Shape := ⟨2, ![256, 256]⟩
abbrev S128 : Shape := ⟨1, ![128]⟩
abbrev S128x1 : Shape := ⟨2, ![128, 1]⟩

abbrev nBuf : Space → Nat
  | .hbm => 21
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S1024x4x256, .f32⟩
  | .hbm, ⟨5, _⟩ => ⟨S4x1024x256, .f32⟩
  | .hbm, ⟨6, _⟩ => ⟨S4096x256, .f32⟩
  | .hbm, ⟨7, _⟩ => ⟨S4096x256, .bf16⟩
  | .hbm, ⟨8, _⟩ => ⟨S4096x256, .f32⟩
  | .hbm, ⟨9, _⟩ => ⟨S1024x4x256, .f32⟩
  | .hbm, ⟨10, _⟩ => ⟨S4x1024x256, .f32⟩
  | .hbm, ⟨11, _⟩ => ⟨S4096x256, .f32⟩
  | .hbm, ⟨12, _⟩ => ⟨S4096x256, .bf16⟩
  | .hbm, ⟨13, _⟩ => ⟨S4096x256, .f32⟩
  | .hbm, ⟨14, _⟩ => ⟨S1024x4x256, .f32⟩
  | .hbm, ⟨15, _⟩ => ⟨S4x1024x256, .f32⟩
  | .hbm, ⟨16, _⟩ => ⟨S4096x256, .f32⟩
  | .hbm, ⟨17, _⟩ => ⟨S4096x256, .bf16⟩
  | .hbm, ⟨18, _⟩ => ⟨S4096x256, .f32⟩
  | .hbm, ⟨19, _⟩ => ⟨S4096x256, .f32⟩
  | .hbm, ⟨20, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFwd1KernelIdeal.lean ====
variable {F : FTy → Type} [FloatOps F] [Named F]
def κ : String → Option EReal := fun
  | "mask" => some ⊥
  | _ => none
-- ==== AttnFwd1ReferenceIdeal.lean ====
abbrev S4096x768 : Shape := ⟨2, ![4096, 768]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x256 : Shape := ⟨2, ![4096, 256]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S4x4096 : Shape := ⟨2, ![4, 4096]⟩
abbrev S4x4096x1 : Shape := ⟨3, ![4, 4096, 1]⟩
abbrev S1024x4x256 : Shape := ⟨3, ![1024, 4, 256]⟩
abbrev S4x1024x256 : Shape := ⟨3, ![4, 1024, 256]⟩

abbrev nBuf : Space → Nat
  | .hbm => 69
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S1x4096, .i32⟩
  | .hbm, ⟨7, _⟩ => ⟨S4096x4096, .i32⟩
  | .hbm, ⟨8, _⟩ => ⟨S4096x4096, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x4x64, .f32⟩
  | .hbm, ⟨28, _⟩ => ⟨S4x4096x64, .f32⟩
  | .hbm, ⟨29, _⟩ => ⟨S4096x4x64, .f32⟩
  | .hbm, ⟨30, _⟩ => ⟨S4x4096x64, .f32⟩
  | .hbm, ⟨31, _⟩ => ⟨S4096x4x64, .f32⟩
  | .hbm, ⟨32, _⟩ => ⟨S4x4096x64, .f32⟩
  | .hbm, ⟨33, _⟩ => ⟨S4x4096x4096, .f32⟩
  | .hbm, ⟨34, _⟩ => ⟨S_, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S_, .f32⟩
  | .hbm, ⟨39, _⟩ => ⟨S4x4096x4096, .i1⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x4096x64, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S4096x4x64, .f32⟩
  | .hbm, ⟨53, _⟩ => ⟨S4096x256, .f32⟩
  | .hbm, ⟨54, _⟩ => ⟨S4x4096x64, .f32⟩
  | .hbm, ⟨55, _⟩ => ⟨S4096x4x64, .f32⟩
  | .hbm, ⟨56, _⟩ => ⟨S4096x256, .f32⟩
  | .hbm, ⟨57, _⟩ => ⟨S4x4096x64, .f32⟩
  | .hbm, ⟨58, _⟩ => ⟨S4096x4x64, .f32⟩
  | .hbm, ⟨59, _⟩ => ⟨S4096x256, .f32⟩
  | .hbm, ⟨60, _⟩ => ⟨S1024x4x256, .f32⟩
  | .hbm, ⟨61, _⟩ => ⟨S4x1024x256, .f32⟩
  | .hbm, ⟨62, _⟩ => ⟨S4096x256, .f32⟩
  | .hbm, ⟨63, _⟩ => ⟨S1024x4x256, .f32⟩
  | .hbm, ⟨64, _⟩ => ⟨S4x1024x256, .f32⟩
  | .hbm, ⟨65, _⟩ => ⟨S4096x256, .f32⟩
  | .hbm, ⟨66, _⟩ => ⟨S1024x4x256, .f32⟩
  | .hbm, ⟨67, _⟩ => ⟨S4x1024x256, .f32⟩
  | .hbm, ⟨68, _⟩ => ⟨S4096x256, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== AttnFwd2Kernel.lean ====
abbrev S4096x768 : Shape := ⟨2, ![4096, 768]⟩
abbrev S4096x256 : Shape := ⟨2, ![4096, 256]⟩
abbrev S256x16x256 : Shape := ⟨3, ![256, 16, 256]⟩
abbrev S16x256x256 : Shape := ⟨3, ![16, 256, 256]⟩
abbrev S512x256 : Shape := ⟨2, ![512, 256]⟩
abbrev S128x256 : Shape := ⟨2, ![128, 256]⟩
abbrev S256x256 : Shape := ⟨2, ![256, 256]⟩
abbrev S128 : Shape := ⟨1, ![128]⟩
abbrev S128x1 : Shape := ⟨2, ![128, 1]⟩

abbrev nBuf : Space → Nat
  | .hbm => 21
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S256x16x256, .f32⟩
  | .hbm, ⟨5, _⟩ => ⟨S16x256x256, .f32⟩
  | .hbm, ⟨6, _⟩ => ⟨S4096x256, .f32⟩
  | .hbm, ⟨7, _⟩ => ⟨S4096x256, .bf16⟩
  | .hbm, ⟨8, _⟩ => ⟨S4096x256, .f32⟩
  | .hbm, ⟨9, _⟩ => ⟨S256x16x256, .f32⟩
  | .hbm, ⟨10, _⟩ => ⟨S16x256x256, .f32⟩
  | .hbm, ⟨11, _⟩ => ⟨S4096x256, .f32⟩
  | .hbm, ⟨12, _⟩ => ⟨S4096x256, .bf16⟩
  | .hbm, ⟨13, _⟩ => ⟨S4096x256, .f32⟩
  | .hbm, ⟨14, _⟩ => ⟨S256x16x256, .f32⟩
  | .hbm, ⟨15, _⟩ => ⟨S16x256x256, .f32⟩
  | .hbm, ⟨16, _⟩ => ⟨S4096x256, .f32⟩
  | .hbm, ⟨17, _⟩ => ⟨S4096x256, .bf16⟩
  | .hbm, ⟨18, _⟩ => ⟨S4096x256, .f32⟩
  | .hbm, ⟨19, _⟩ => ⟨S4096x256, .f32⟩
  | .hbm, ⟨20, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFwd2KernelIdeal.lean ====
variable {F : FTy → Type} [FloatOps F] [Named F]
def κ : String → Option EReal := fun
  | "mask" => some ⊥
  | _ => none
-- ==== AttnFwd2ReferenceIdeal.lean ====
abbrev S4096x768 : Shape := ⟨2, ![4096, 768]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x256 : Shape := ⟨2, ![4096, 256]⟩
abbrev S4096x4x64 : Shape := ⟨3, ![4096, 4, 64]⟩
abbrev S4x4096x64 : Shape := ⟨3, ![4, 4096, 64]⟩
abbrev S4x4096x4096 : Shape := ⟨3, ![4, 4096, 4096]⟩
abbrev S4x4096 : Shape := ⟨2, ![4, 4096]⟩
abbrev S4x4096x1 : Shape := ⟨3, ![4, 4096, 1]⟩
abbrev S256x16x256 : Shape := ⟨3, ![256, 16, 256]⟩
abbrev S16x256x256 : Shape := ⟨3, ![16, 256, 256]⟩

abbrev nBuf : Space → Nat
  | .hbm => 69
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S1x4096, .i32⟩
  | .hbm, ⟨7, _⟩ => ⟨S4096x4096, .i32⟩
  | .hbm, ⟨8, _⟩ => ⟨S4096x4096, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x4x64, .f32⟩
  | .hbm, ⟨28, _⟩ => ⟨S4x4096x64, .f32⟩
  | .hbm, ⟨29, _⟩ => ⟨S4096x4x64, .f32⟩
  | .hbm, ⟨30, _⟩ => ⟨S4x4096x64, .f32⟩
  | .hbm, ⟨31, _⟩ => ⟨S4096x4x64, .f32⟩
  | .hbm, ⟨32, _⟩ => ⟨S4x4096x64, .f32⟩
  | .hbm, ⟨33, _⟩ => ⟨S4x4096x4096, .f32⟩
  | .hbm, ⟨34, _⟩ => ⟨S_, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S_, .f32⟩
  | .hbm, ⟨39, _⟩ => ⟨S4x4096x4096, .i1⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S4x4096x64, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S4096x4x64, .f32⟩
  | .hbm, ⟨53, _⟩ => ⟨S4096x256, .f32⟩
  | .hbm, ⟨54, _⟩ => ⟨S4x4096x64, .f32⟩
  | .hbm, ⟨55, _⟩ => ⟨S4096x4x64, .f32⟩
  | .hbm, ⟨56, _⟩ => ⟨S4096x256, .f32⟩
  | .hbm, ⟨57, _⟩ => ⟨S4x4096x64, .f32⟩
  | .hbm, ⟨58, _⟩ => ⟨S4096x4x64, .f32⟩
  | .hbm, ⟨59, _⟩ => ⟨S4096x256, .f32⟩
  | .hbm, ⟨60, _⟩ => ⟨S256x16x256, .f32⟩
  | .hbm, ⟨61, _⟩ => ⟨S16x256x256, .f32⟩
  | .hbm, ⟨62, _⟩ => ⟨S4096x256, .f32⟩
  | .hbm, ⟨63, _⟩ => ⟨S256x16x256, .f32⟩
  | .hbm, ⟨64, _⟩ => ⟨S16x256x256, .f32⟩
  | .hbm, ⟨65, _⟩ => ⟨S4096x256, .f32⟩
  | .hbm, ⟨66, _⟩ => ⟨S256x16x256, .f32⟩
  | .hbm, ⟨67, _⟩ => ⟨S16x256x256, .f32⟩
  | .hbm, ⟨68, _⟩ => ⟨S4096x256, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== PoolFwdKernel.lean ====
abbrev S4096x6912 : Shape := ⟨2, ![4096, 6912]⟩
abbrev S4x96x96 : Shape := ⟨3, ![4, 96, 96]⟩
abbrev S384 : Shape := ⟨1, ![384]⟩
abbrev S3x384 : Shape := ⟨2, ![3, 384]⟩
abbrev S4096x3072 : Shape := ⟨2, ![4096, 3072]⟩
abbrev S4096x3840 : Shape := ⟨2, ![4096, 3840]⟩
abbrev S_ : Shape := ⟨0, ![]⟩
abbrev S384x384 : Shape := ⟨2, ![384, 384]⟩
abbrev S1x96x96 : Shape := ⟨3, ![1, 96, 96]⟩
abbrev S96x96 : Shape := ⟨2, ![96, 96]⟩
abbrev S1x384 : Shape := ⟨2, ![1, 384]⟩
abbrev S4096x384 : Shape := ⟨2, ![4096, 384]⟩
abbrev S512x384 : Shape := ⟨2, ![512, 384]⟩
abbrev S16x384 : Shape := ⟨2, ![16, 384]⟩
abbrev S8x384 : Shape := ⟨2, ![8, 384]⟩
abbrev S528x384 : Shape := ⟨2, ![528, 384]⟩
abbrev S520x384 : Shape := ⟨2, ![520, 384]⟩

abbrev nBuf : Space → Nat
  | .hbm => 37
  | .vmem => 17
  | .smem => 0
  | _ => 0

abbrev bufTy : (tb : Table) → Fin (tcTables nBuf tb) → BufTy
  | .hbm, ⟨0, _⟩ => ⟨S4096x6912, .f32⟩
  | .hbm, ⟨1, _⟩ => ⟨S4x96x96, .f32⟩
  | .hbm, ⟨2, _⟩ => ⟨S384, .f32⟩
  | .hbm, ⟨3, _⟩ => ⟨S3x384, .f32⟩
  | .hbm, ⟨4, _⟩ => ⟨S4096x3072, .f32⟩
  | .hbm, ⟨5, _⟩ => ⟨S4096x3840, .f32⟩
  | .hbm, ⟨6, _⟩ => ⟨S4096x6912, .f32⟩
  | .hbm, ⟨7, _⟩ => ⟨S4096x6912, .bf16⟩
  | .hbm, ⟨8, _⟩ => ⟨S_, .bf16⟩
  | .hbm, ⟨9, _⟩ => ⟨S384x384, .bf16⟩
  | .hbm, ⟨10, _⟩ => ⟨S1x96x96, .f32⟩
  | .hbm, ⟨11, _⟩ => ⟨S96x96, .f32⟩
  | .hbm, ⟨12, _⟩ => ⟨S96x96, .bf16⟩
  | .hbm, ⟨13, _⟩ => ⟨S_, .i32⟩
  | .hbm, ⟨14, _⟩ => ⟨S_, .i32⟩
  | .hbm, ⟨15, _⟩ => ⟨S384x384, .bf16⟩
  | .hbm, ⟨16, _⟩ => ⟨S1x96x96, .f32⟩
  | .hbm, ⟨17, _⟩ => ⟨S96x96, .f32⟩
  | .hbm, ⟨18, _⟩ => ⟨S96x96, .bf16⟩
  | .hbm, ⟨19, _⟩ => ⟨S_, .i32⟩
  | .hbm, ⟨20, _⟩ => ⟨S_, .i32⟩
  | .hbm, ⟨21, _⟩ => ⟨S384x384, .bf16⟩
  | .hbm, ⟨22, _⟩ => ⟨S1x96x96, .f32⟩
  | .hbm, ⟨23, _⟩ => ⟨S96x96, .f32⟩
  | .hbm, ⟨24, _⟩ => ⟨S96x96, .bf16⟩
  | .hbm, ⟨25, _⟩ => ⟨S_, .i32⟩
  | .hbm, ⟨26, _⟩ => ⟨S_, .i32⟩
  | .hbm, ⟨27, _⟩ => ⟨S384x384, .bf16⟩
  | .hbm, ⟨28, _⟩ => ⟨S1x96x96, .f32⟩
  | .hbm, ⟨29, _⟩ => ⟨S96x96, .f32⟩
  | .hbm, ⟨30, _⟩ => ⟨S96x96, .bf16⟩
  | .hbm, ⟨31, _⟩ => ⟨S_, .i32⟩
  | .hbm, ⟨32, _⟩ => ⟨S_, .i32⟩
  | .hbm, ⟨33, _⟩ => ⟨S384x384, .bf16⟩
  | .hbm, ⟨34, _⟩ => ⟨S1x384, .f32⟩
  | .hbm, ⟨35, _⟩ => ⟨S4096x384, .bf16⟩
  | .hbm, ⟨36, _⟩ => ⟨S4096x384, .bf16⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S384x384, .bf16⟩
  | .local _ .vmem, ⟨9, _⟩ => ⟨S1x384, .f32⟩
  | .local _ .vmem, ⟨10, _⟩ => ⟨S3x384, .f32⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S16x384, .f32⟩
  | .local _ .vmem, ⟨16, _⟩ => ⟨S8x384, .f32⟩
  | _, _ => ⟨S4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PoolFwdReferenceIdeal.lean ====
abbrev S4096x6912 : Shape := ⟨2, ![4096, 6912]⟩
abbrev S4x96x96 : Shape := ⟨3, ![4, 96, 96]⟩
abbrev S384 : Shape := ⟨1, ![384]⟩
abbrev S3x384 : Shape := ⟨2, ![3, 384]⟩
abbrev S4096x384 : Shape := ⟨2, ![4096, 384]⟩
abbrev S4096x4x96 : Shape := ⟨3, ![4096, 4, 96]⟩
abbrev S_ : Shape := ⟨0, ![]⟩
abbrev S4096 : Shape := ⟨1, ![4096]⟩
abbrev S4096x1x96 : Shape := ⟨3, ![4096, 1, 96]⟩
abbrev S4096x96 : Shape := ⟨2, ![4096, 96]⟩
abbrev S2x96 : Shape := ⟨2, ![2, 96]⟩
abbrev S4094x96 : Shape := ⟨2, ![4094, 96]⟩
abbrev S4096x1 : Shape := ⟨2, ![4096, 1]⟩
abbrev S4x96 : Shape := ⟨2, ![4, 96]⟩
abbrev S4092x96 : Shape := ⟨2, ![4092, 96]⟩
abbrev S8x96 : Shape := ⟨2, ![8, 96]⟩
abbrev S4088x96 : Shape := ⟨2, ![4088, 96]⟩
abbrev S16x96 : Shape := ⟨2, ![16, 96]⟩
abbrev S4080x96 : Shape := ⟨2, ![4080, 96]⟩
abbrev S4x96x4096 : Shape := ⟨3, ![4, 96, 4096]⟩
abbrev S1x384 : Shape := ⟨2, ![1, 384]⟩
abbrev S2x384 : Shape := ⟨2, ![2, 384]⟩
abbrev S4094x384 : Shape := ⟨2, ![4094, 384]⟩
abbrev S4095x384 : Shape := ⟨2, ![4095, 384]⟩

abbrev nBuf : Space → Nat
  | .hbm => 133
  | .vmem => 0
  | .smem => 0
  | _ => 0

abbrev hbmTy0_0 (i : Nat) : BufTy := match i % 128 with
  | 0 => ⟨S4096x6912, .f32⟩
  | 1 => ⟨S4x96x96, .f32⟩
  | 2 => ⟨S384, .f32⟩
  | 3 => ⟨S3x384, .f32⟩
  | 4 => ⟨S4096x384, .f32⟩
  | 5 => ⟨S4096x384, .f32⟩
  | 6 => ⟨S4096x384, .f32⟩
  | 7 => ⟨S4096x384, .f32⟩
  | 8 => ⟨S4096x4x96, .f32⟩
  | 9 => ⟨S_, .f32⟩
  | 10 => ⟨S_, .f32⟩
  | 11 => ⟨S4096x4x96, .f32⟩
  | 12 => ⟨S4096, .i32⟩
  | 13 => ⟨S4096x1x96, .f32⟩
  | 14 => ⟨S4096x96, .f32⟩
  | 15 => ⟨S_, .f32⟩
  | 16 => ⟨S2x96, .f32⟩
  | 17 => ⟨S4094x96, .f32⟩
  | 18 => ⟨S4096x96, .f32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .f32⟩
  | 26 => ⟨S4096x1, .f32⟩
  | 27 => ⟨S4096x96, .f32⟩
  | 28 => ⟨S4096x96, .f32⟩
  | 29 => ⟨S4096x96, .f32⟩
  | 30 => ⟨S4096x1x96, .f32⟩
  | 31 => ⟨S4096x96, .f32⟩
  | 32 => ⟨S4096x96, .f32⟩
  | 33 => ⟨S4096x1x96, .f32⟩
  | 34 => ⟨S4096x96, .f32⟩
  | 35 => ⟨S_, .f32⟩
  | 36 => ⟨S4x96, .f32⟩
  | 37 => ⟨S4092x96, .f32⟩
  | 38 => ⟨S4096x96, .f32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S4096, .f32⟩
  | 46 => ⟨S4096x1, .f32⟩
  | 47 => ⟨S4096x96, .f32⟩
  | 48 => ⟨S4096x96, .f32⟩
  | 49 => ⟨S4096x96, .f32⟩
  | 50 => ⟨S4096x1x96, .f32⟩
  | 51 => ⟨S4096x96, .f32⟩
  | 52 => ⟨S4096x96, .f32⟩
  | 53 => ⟨S4096x1x96, .f32⟩
  | 54 => ⟨S4096x96, .f32⟩
  | 55 => ⟨S_, .f32⟩
  | 56 => ⟨S8x96, .f32⟩
  | 57 => ⟨S4088x96, .f32⟩
  | 58 => ⟨S4096x96, .f32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096, .f32⟩
  | 66 => ⟨S4096x1, .f32⟩
  | 67 => ⟨S4096x96, .f32⟩
  | 68 => ⟨S4096x96, .f32⟩
  | 69 => ⟨S4096x96, .f32⟩
  | 70 => ⟨S4096x1x96, .f32⟩
  | 71 => ⟨S4096x96, .f32⟩
  | 72 => ⟨S4096x96, .f32⟩
  | 73 => ⟨S4096x1x96, .f32⟩
  | 74 => ⟨S4096x96, .f32⟩
  | 75 => ⟨S_, .f32⟩
  | 76 => ⟨S16x96, .f32⟩
  | 77 => ⟨S4080x96, .f32⟩
  | 78 => ⟨S4096x96, .f32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096, .f32⟩
  | 86 => ⟨S4096x1, .f32⟩
  | 87 => ⟨S4096x96, .f32⟩
  | 88 => ⟨S4096x96, .f32⟩
  | 89 => ⟨S4096x96, .f32⟩
  | 90 => ⟨S4096x1x96, .f32⟩
  | 91 => ⟨S4096x96, .f32⟩
  | 92 => ⟨S4096x96, .f32⟩
  | 93 => ⟨S4096x1x96, .f32⟩
  | 94 => ⟨S4096x1x96, .f32⟩
  | 95 => ⟨S4096x1x96, .f32⟩
  | 96 => ⟨S4096x1x96, .f32⟩
  | 97 => ⟨S4096x4x96, .f32⟩
  | 98 => ⟨S4x96x4096, .f32⟩
  | 99 => ⟨S4096x4x96, .f32⟩
  | 100 => ⟨S4096x384, .f32⟩
  | 101 => ⟨S1x384, .f32⟩
  | 102 => ⟨S4096x384, .f32⟩
  | 103 => ⟨S4096x384, .f32⟩
  | 104 => ⟨S4096x384, .bf16⟩
  | 105 => ⟨S4096x384, .f32⟩
  | 106 => ⟨S1x384, .f32⟩
  | 107 => ⟨S384, .f32⟩
  | 108 => ⟨S_, .f32⟩
  | 109 => ⟨S2x384, .f32⟩
  | 110 => ⟨S4094x384, .f32⟩
  | 111 => ⟨S4096x384, .f32⟩
  | 112 => ⟨S1x384, .f32⟩
  | 113 => ⟨S4096x384, .f32⟩
  | 114 => ⟨S4096x384, .f32⟩
  | 115 => ⟨S1x384, .f32⟩
  | 116 => ⟨S384, .f32⟩
  | 117 => ⟨S_, .f32⟩
  | 118 => ⟨S1x384, .f32⟩
  | 119 => ⟨S4095x384, .f32⟩
  | 120 => ⟨S4096x384, .f32⟩
  | 121 => ⟨S1x384, .f32⟩
  | 122 => ⟨S4096x384, .f32⟩
  | 123 => ⟨S4096x384, .f32⟩
  | 124 => ⟨S4096x384, .f32⟩
  | 125 => ⟨S1x384, .f32⟩
  | 126 => ⟨S384, .f32⟩
  | 127 => ⟨S1x384, .f32⟩
  | _ => ⟨S4096x6912, .f32⟩

abbrev hbmTy0_1 (i : Nat) : BufTy := match i % 128 with
  | 0 => ⟨S4096x384, .f32⟩
  | 1 => ⟨S4096x384, .f32⟩
  | 2 => ⟨S4096x384, .f32⟩
  | 3 => ⟨S4096x384, .f32⟩
  | 4 => ⟨S4096x384, .bf16⟩
  | _ => ⟨S4096x6912, .f32⟩

abbrev hbmTy (i : Nat) : BufTy := match i / 128 with
  | 0 => hbmTy0_0 i
  | 1 => hbmTy0_1 i
  | _ => ⟨S4096x6912, .f32⟩

abbrev bufTy : (tb : Table) → Fin (tcTables nBuf tb) → BufTy
  | .hbm, ⟨i, _⟩ => hbmTy i
  | _, _ => ⟨S4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_8 : Ref sig .tc := ⟨.hbm, 79, rfl⟩
abbrev main_v63 : Ref sig .tc := ⟨.hbm, 80, rfl⟩
abbrev main_v64 : Ref sig .tc := ⟨.hbm, 81, rfl⟩
abbrev main_c_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_10 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_11 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩

abbrev nD : Nat := 1
abbrev τ : Topo := Topo.v7x

variable {F : FTy → Type} [FloatOps F]
-- ==== SumKernel.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 5
  | .vmem => 3
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S8x128x512, .bf16⟩
  | .hbm, ⟨3, _⟩ => ⟨S8x128x512, .bf16⟩
  | .hbm, ⟨4, _⟩ => ⟨S128x512, .f32⟩
  | .local _ .vmem, ⟨0, _⟩ => ⟨S8x128x512, .bf16⟩
  | .local _ .vmem, ⟨1, _⟩ => ⟨S1x128x512, .bf16⟩
  | .local _ .vmem, ⟨2, _⟩ => ⟨S128x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumReferenceIdeal.lean ====
abbrev S8x128x512 : Shape := ⟨3, ![8, 128, 512]⟩
abbrev S1x128x512 : Shape := ⟨3, ![1, 128, 512]⟩
abbrev S7x128x512 : Shape := ⟨3, ![7, 128, 512]⟩
abbrev S_ : Shape := ⟨0, ![]⟩
abbrev S128x512 : Shape := ⟨2, ![128, 512]⟩

abbrev nBuf : Space → Nat
  | .hbm => 9
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S1x128x512, .f32⟩
  | .hbm, ⟨3, _⟩ => ⟨S7x128x512, .f32⟩
  | .hbm, ⟨4, _⟩ => ⟨S8x128x512, .f32⟩
  | .hbm, ⟨5, _⟩ => ⟨S8x128x512, .bf16⟩
  | .hbm, ⟨6, _⟩ => ⟨S8x128x512, .f32⟩
  | .hbm, ⟨7, _⟩ => ⟨S_, .f32⟩
  | .hbm, ⟨8, _⟩ => ⟨S128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumAdamKernel.lean ====
abbrev S8x128x512 : Shape := ⟨3, ![8, 128, 512]⟩
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 15
  | .vmem => 22
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S8x128x512, .f32⟩
  | .hbm, ⟨3, _⟩ => ⟨S8x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S8x128x512, .bf16⟩
  | .hbm, ⟨8, _⟩ => ⟨S8x128x512, .bf16⟩
  | .hbm, ⟨9, _⟩ => ⟨S8x128x512, .bf16⟩
  | .hbm, ⟨10, _⟩ => ⟨S8x128x512, .bf16⟩
  | .hbm, ⟨11, _⟩ => ⟨S2x128x512, .f32⟩
  | .hbm, ⟨12, _⟩ => ⟨S2x128x512, .f32⟩
  | .hbm, ⟨13, _⟩ => ⟨S2x128x512, .f32⟩
  | .hbm, ⟨14, _⟩ => ⟨S2x128x512, .f32⟩
  | .local _ .vmem, ⟨0, _⟩ => ⟨S8x128x512, .bf16⟩
  | .local _ .vmem, ⟨1, _⟩ => ⟨S8x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S8x128x512, .bf16⟩
  | .local _ .vmem, ⟨5, _⟩ => ⟨S8x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SumAdamReferenceIdeal.lean ====
abbrev S8x128x512 : Shape := ⟨3, ![8, 128, 512]⟩
abbrev S2x128x512 : Shape := ⟨3, ![2, 128, 512]⟩
abbrev S1x128x512 : Shape := ⟨3, ![1, 128, 512]⟩
abbrev S7x128x512 : Shape := ⟨3, ![7, 128, 512]⟩
abbrev S_ : Shape := ⟨0, ![]⟩
abbrev S128x512 : Shape := ⟨2, ![128, 512]⟩

abbrev nBuf : Space → Nat
  | .hbm => 57
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S8x128x512, .f32⟩
  | .hbm, ⟨3, _⟩ => ⟨S8x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S1x128x512, .f32⟩
  | .hbm, ⟨8, _⟩ => ⟨S7x128x512, .f32⟩
  | .hbm, ⟨9, _⟩ => ⟨S8x128x512, .f32⟩
  | .hbm, ⟨10, _⟩ => ⟨S8x128x512, .bf16⟩
  | .hbm, ⟨11, _⟩ => ⟨S8x128x512, .f32⟩
  | .hbm, ⟨12, _⟩ => ⟨S_, .f32⟩
  | .hbm, ⟨13, _⟩ => ⟨S128x512, .f32⟩
  | .hbm, ⟨14, _⟩ => ⟨S1x128x512, .f32⟩
  | .hbm, ⟨15, _⟩ => ⟨S7x128x512, .f32⟩
  | .hbm, ⟨16, _⟩ => ⟨S8x128x512, .f32⟩
  | .hbm, ⟨17, _⟩ => ⟨S8x128x512, .bf16⟩
  | .hbm, ⟨18, _⟩ => ⟨S8x128x512, .f32⟩
  | .hbm, ⟨19, _⟩ => ⟨S_, .f32⟩
  | .hbm, ⟨20, _⟩ => ⟨S128x512, .f32⟩
  | .hbm, ⟨21, _⟩ => ⟨S1x128x512, .f32⟩
  | .hbm, ⟨22, _⟩ => ⟨S1x128x512, .f32⟩
  | .hbm, ⟨23, _⟩ => ⟨S2x128x512, .f32⟩
  | .hbm, ⟨24, _⟩ => ⟨S_, .f32⟩
  | .hbm, ⟨25, _⟩ => ⟨S2x128x512, .f32⟩
  | .hbm, ⟨26, _⟩ => ⟨S2x128x512, .f32⟩
  | .hbm, ⟨27, _⟩ => ⟨S_, .f32⟩
  | .hbm, ⟨28, _⟩ => ⟨S2x128x512, .f32⟩
  | .hbm, ⟨29, _⟩ => ⟨S2x128x512, .f32⟩
  | .hbm, ⟨30, _⟩ => ⟨S2x128x512, .f32⟩
  | .hbm, ⟨31, _⟩ => ⟨S_, .f32⟩
  | .hbm, ⟨32, _⟩ => ⟨S2x128x512, .f32⟩
  | .hbm, ⟨33, _⟩ => ⟨S2x128x512, .f32⟩
  | .hbm, ⟨34, _⟩ => ⟨S2x128x512, .f32⟩
  | .hbm, ⟨35, _⟩ => ⟨S_, .f32⟩
  | .hbm, ⟨36, _⟩ => ⟨S2x128x512, .f32⟩
  | .hbm, ⟨37, _⟩ => ⟨S2x128x512, .f32⟩
  | .hbm, ⟨38, _⟩ => ⟨S2x128x512, .f32⟩
  | .hbm, ⟨39, _⟩ => ⟨S_, .f32⟩
  | .hbm, ⟨40, _⟩ => ⟨S2x128x512, .f32⟩
  | .hbm, ⟨41, _⟩ => ⟨S2x128x512, .f32⟩
  | .hbm, ⟨42, _⟩ => ⟨S_, .f32⟩
  | .hbm, ⟨43, _⟩ => ⟨S2x128x512, .f32⟩
  | .hbm, ⟨44, _⟩ => ⟨S2x128x512, .f32⟩
  | .hbm, ⟨45, _⟩ => ⟨S2x128x512, .f32⟩
  | .hbm, ⟨46, _⟩ => ⟨S_, .f32⟩
  | .hbm, ⟨47, _⟩ => ⟨S2x128x512, .f32⟩
  | .hbm, ⟨48, _⟩ => ⟨S2x128x512, .f32⟩
  | .hbm, ⟨49, _⟩ => ⟨S2x128x512, .f32⟩
  | .hbm, ⟨50, _⟩ => ⟨S_, .f32⟩
  | .hbm, ⟨51, _⟩ => ⟨S2x128x512, .f32⟩
  | .hbm, ⟨52, _⟩ => ⟨S2x128x512, .f32⟩
  | .hbm, ⟨53, _⟩ => ⟨S2x128x512, .f32⟩
  | .hbm, ⟨54, _⟩ => ⟨S_, .f32⟩
  | .hbm, ⟨55, _⟩ => ⟨S2x128x512, .f32⟩
  | .hbm, ⟨56, _⟩ => ⟨S2x128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Proof.Gain.lean ====
/- The gradient of the memory norm's gain: kernel and reference hold the same sum over the memory's rows. -/
module

public import proofs.«01_k».proof.Defs
public import proofs.«01_k».proof.Proof.Gen.GainKernel.Frame
public import proofs.«01_k».proof.Proof.Gen.GainKernelIdeal.Value
public import proofs.«01_k».proof.Proof.Gen.GainReferenceIdeal.Run
public import Idealize.ShloMosaic.Lib.Quiescent
public import Idealize.ShloMosaic.Lib.Tactic.ValueTie

@[expose] public section

noncomputable section

namespace Cert.Proof.Gain

open Idealize.ShloMosaic Idealize.SL.Sem

/-- The reference's arguments end unchanged. -/
theorem frameR : Cert.quiescent_GainReferenceIdeal := fun m ρ _ =>
  (θ_run Cert.GainReferenceIdeal.defs _ _).mono (fun r h => ⟨fun c => (h c).2, sem_eq_zero_of_no_sems (by decide) r.2⟩)
    (Cert.GainReferenceIdeal.Value.run (F := Ideal) m ρ)

/-- The gain's gradient of the kernel is the reference's. -/
theorem algebraic : Cert.algebraic_GainKernelIdeal_GainReferenceIdeal := by
  intro m ρ m' ρ' _ hagree
  refine ⟨_, Cert.GainKernelIdeal.Value.run (F := Ideal) m ρ, ?_⟩
  refine (θ_run Cert.GainReferenceIdeal.defs _ _).mono (fun _ h c => ⟨?_, (h c).2⟩) (Cert.GainReferenceIdeal.Value.run (F := Ideal) m' ρ')
  rw [(h c).1]
  simp only [hagree c]
  funext j
  pointwise! [Cert.GainKernelIdeal.Gen.k0_pay1]
  rw [Fin.sum_univ_one]
  exact Finset.sum_congr rfl fun x _ => mul_comm _ _

end Cert.Proof.Gain

end
-- ==== Proof.Lift.lean ====
module

public import Idealize.ShloMosaic.Lib.Pipeline.ValueKit
public import Idealize.ShloMosaic.Lib.Pointwise

/-! Arrays of real numbers inside the extended reals: each operation the programs use, on real operands. -/

@[expose] public section

noncomputable section

namespace Cert.Lift

open Idealize.ShloMosaic

/-- The array of extended reals holding real numbers only. -/
abbrev up {s : Shape} (f : s.Idx → ℝ) : s.Idx → EReal := fun i => (f i : EReal)

/-- A matrix of real numbers as an array. -/
abbrev up2 {n m : ℕ} (f : Fin n → Fin m → ℝ) : (⟨2, ![n, m]⟩ : Shape).Idx → EReal := fun i => ((f (i 0) (i 1) : ℝ) : EReal)

/-- A row of real numbers as an array. -/
abbrev up1 {n : ℕ} (f : Fin n → ℝ) : (⟨1, ![n]⟩ : Shape).Idx → EReal := fun i => ((f (i 0) : ℝ) : EReal)

/-- A stack of real matrices as an array. -/
abbrev up3 {n m k : ℕ} (f : Fin n → Fin m → Fin k → ℝ) : (⟨3, ![n, m, k]⟩ : Shape).Idx → EReal :=
  fun i => ((f (i 0) (i 1) (i 2) : ℝ) : EReal)

/-- An array holds real numbers only. -/
def Fin' {s : Shape} (x : s.Idx → EReal) : Prop := ∀ i, ∃ r : ℝ, x i = r

theorem Fin'.up {s : Shape} {x : s.Idx → EReal} (h : Fin' x) : ∃ f : s.Idx → ℝ, x = Lift.up f :=
  ⟨fun i => (h i).choose, funext fun i => (h i).choose_spec⟩

theorem mul (a b : ℝ) : (a : EReal) * (b : EReal) = ((a * b : ℝ) : EReal) := (EReal.coe_mul a b).symm
theorem add (a b : ℝ) : (a : EReal) + (b : EReal) = ((a + b : ℝ) : EReal) := (EReal.coe_add a b).symm
theorem sub (a b : ℝ) : (a : EReal) - (b : EReal) = ((a - b : ℝ) : EReal) := (EReal.coe_sub a b).symm
theorem neg (a : ℝ) : -(a : EReal) = ((-a : ℝ) : EReal) := (EReal.coe_neg a).symm

theorem fsum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, add]

theorem sum {ι : Type} [Fintype ι] (f : ι → ℝ) : ∑ i, ((f i : ℝ) : EReal) = ((∑ i, f i : ℝ) : EReal) := fsum _ f

theorem div (a b : ℝ) (h : b ≠ 0) : Ideal.div (a : EReal) (b : EReal) = ((a / b : ℝ) : EReal) := by
  have h' : (b : EReal) ≠ 0 := by exact_mod_cast h
  rw [Ideal.div, if_neg h', div_eq_mul_inv, EReal.coe_mul, EReal.coe_inv]

theorem exp (a : ℝ) : Ideal.exp (a : EReal) = ((Real.exp a : ℝ) : EReal) := rfl

theorem rsqrt (a : ℝ) (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-- The word 1024. -/
theorem ofBits_1024 : Ideal.ofBits .f32 0x44800000#32 = ((1024 : ℝ) : EReal) := by
  simp [Ideal.ofBits, Ideal.ieee]; rw [← EReal.coe_mul]; norm_num

/-- The word −1/2. -/
theorem ofBits_neg_half : Ideal.ofBits .f32 0xBF000000#32 = ((-(1 / 2) : ℝ) : EReal) := by
  simp [Ideal.ofBits, Ideal.ieee]; rw [← EReal.coe_mul]; norm_num

/-- The real number of the word that stands for 1e-6. -/
def eps : ℝ := 8796093 / 8796093022208

theorem eps_pos : 0 < eps := by unfold eps; norm_num

theorem ofBits_eps : Ideal.ofBits .f32 0x358637BD#32 = ((eps : ℝ) : EReal) := by
  simp [Ideal.ofBits, Ideal.ieee, eps]; rw [← EReal.coe_mul]; norm_num

/-- The inverse root of a row's mean square plus eps. -/
def rs {n : ℕ} (x : Fin n → ℝ) : ℝ := (Real.sqrt ((∑ a, x a * x a) / 1024 + eps))⁻¹

theorem ms_pos {n : ℕ} (x : Fin n → ℝ) : 0 < (∑ a, x a * x a) / 1024 + eps :=
  add_pos_of_nonneg_of_pos (div_nonneg (Finset.sum_nonneg fun a _ => mul_self_nonneg _) (by norm_num)) eps_pos

theorem rsqrt_ms {n : ℕ} (x : Fin n → ℝ) :
    Ideal.rsqrt (((∑ a, x a * x a) / 1024 + eps : ℝ) : EReal) = ((rs x : ℝ) : EReal) := rsqrt _ (ms_pos x)

theorem rs_sq {n : ℕ} (x : Fin n → ℝ) : (∑ a, x a * x a) / 1024 + eps = (rs x ^ 2)⁻¹ := by
  rw [rs, inv_pow, inv_inv, Real.sq_sqrt (ms_pos x).le]

theorem rs_pos {n : ℕ} (x : Fin n → ℝ) : 0 < rs x := inv_pos.mpr (Real.sqrt_pos.mpr (ms_pos x))

/-- The gradient of a row through its division by its root mean square. -/
def rmsb {n : ℕ} (w y : Fin n → ℝ) (a : Fin n) : ℝ := rs y * w a - y a * (rs y * rs y * rs y) * ((∑ b, w b * y b) / 1024)

/-- The word for minus infinity. -/
theorem ofBits_neg_inf : Ideal.ofBits .f32 0xFF800000#32 = ⊥ := by simp [Ideal.ofBits, Ideal.ieee]

/-- The maximum of finitely many real numbers is one of them. -/
theorem fold_max {n : ℕ} (hn : 0 < n) (f : Fin n → ℝ) :
    ∃ M : ℝ, Finset.univ.fold max (Ideal.ofBits .f32 0xFF800000#32) (fun k => ((f k : ℝ) : EReal)) = (M : EReal) := by
  have hs : ∀ s : Finset (Fin n), s.Nonempty → ∃ M : ℝ, s.fold max (⊥ : EReal) (fun k => ((f k : ℝ) : EReal)) = (M : EReal) := by
    intro s hne
    induction hne using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  rw [ofBits_neg_inf]
  exact hs _ ⟨⟨0, hn⟩, Finset.mem_univ _⟩

/-- The real number of the word that stands for 1/√128. -/
def scale : ℝ := 11863283 / 134217728

theorem ofBits_scale : Ideal.ofBits .f32 0x3DB504F3#32 = ((scale : ℝ) : EReal) := by
  simp [Ideal.ofBits, Ideal.ieee, scale]; rw [← EReal.coe_mul]; norm_num

theorem exp_sum_pos {n : ℕ} (hn : 0 < n) (f : Fin n → ℝ) : 0 < ∑ k, Real.exp (f k) :=
  haveI : Nonempty (Fin n) := ⟨⟨0, hn⟩⟩
  Finset.sum_pos (fun k _ => Real.exp_pos _) Finset.univ_nonempty

/-- The weights of a softmax. -/
def soft {n : ℕ} (f : Fin n → ℝ) (t : Fin n) : ℝ := Real.exp (f t) / ∑ k, Real.exp (f k)

/-- Any shift of the scores leaves the weights. -/
theorem soft_shift {n : ℕ} (f : Fin n → ℝ) (M : ℝ) (t : Fin n) :
    Real.exp (f t - M) / ∑ k, Real.exp (f k - M) = soft f t := by
  simp only [Real.exp_sub, ← Finset.sum_div, soft]
  rw [div_div_div_cancel_right₀ (Real.exp_pos M).ne']

/-- A softmax's weights computed from scores less their maximum. -/
theorem softE {n : ℕ} (hn : 0 < n) (f : Fin n → ℝ) (t : Fin n) :
    Ideal.div (Ideal.exp ((f t : EReal) - Finset.univ.fold max (Ideal.ofBits .f32 0xFF800000#32) (fun k => ((f k : ℝ) : EReal))))
      (∑ u, Ideal.exp ((f u : EReal) - Finset.univ.fold max (Ideal.ofBits .f32 0xFF800000#32) (fun k => ((f k : ℝ) : EReal))))
    = ((soft f t : ℝ) : EReal) := by
  obtain ⟨M, hM⟩ := fold_max hn f
  simp only [hM, sub, exp, sum]
  rw [div _ _ (exp_sum_pos hn _).ne', soft_shift]

/-- The gradient of a softmax's scores. -/
def dsoft {n : ℕ} (p dP : Fin n → ℝ) (t : Fin n) : ℝ := p t * (dP t - ∑ u, dP u * p u) * scale

end Cert.Lift
-- ==== Proof.Finite.lean ====
module

public import Idealize.ShloMosaic.Lib.ReduceAll
public import proofs.«01_k».proof.Proof.Lift

/-! An array whose entries' magnitudes are all below infinity holds real numbers. -/

@[expose] public section

noncomputable section

namespace Cert.Lift

open Idealize.ShloMosaic

theorem ofBits_inf : Ideal.ofBits .f32 0x7F800000#32 = ⊤ := by simp [Ideal.ofBits, Ideal.ieee]

theorem real_of_lt {x : EReal} (h : max x (-x) < ⊤) : ∃ r : ℝ, x = r := by
  induction x using EReal.rec with
  | bot => exact absurd (lt_of_le_of_lt (le_max_right _ _) h) (by simp)
  | top => exact absurd (lt_of_le_of_lt (le_max_left _ _) h) (by simp)
  | coe r => exact ⟨r, rfl⟩

instance : Subsingleton (⟨0, ![]⟩ : Shape).Idx := ⟨fun a b => funext fun k => k.elim0⟩

theorem fin_of {s : Shape} {axes : List (Fin s.rank)} (x : FVec Ideal s .f32)
    (hb : (⟨0, ![]⟩ : Shape).BroadcastsInDim s (![] : Fin 0 → Fin s.rank)) (v : IVec ⟨0, ![]⟩ 1)
    (h : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (⟨0, ![]⟩ : Shape) .f32 0x7F800000#32))) v h hu j = 1#1) :
    Fin' x := by
  intro i
  have hi := Host.reduce_andi_all _ _ _ _ j e i
  refine real_of_lt ?_
  have hd : BitVec.ofBool (decide (max (x i) (-(x i)) < Ideal.ofBits .f32 0x7F800000#32)) = 1#1 := hi
  rw [ofBits_inf] at hd
  by_contra hn
  rw [decide_eq_false hn] at hd
  exact absurd hd (by decide)

/-- A real array of rank two or one, from one over all indices. -/
theorem Fin'.up2 {n m : ℕ} {x : (⟨2, ![n, m]⟩ : Shape).Idx → EReal} (h : Fin' x) : ∃ f : Fin n → Fin m → ℝ, x = Lift.up2 f := by
  obtain ⟨g, hg⟩ := h.up
  exact ⟨fun a b => g (ix2 a b), hg.trans (funext fun i => congrArg (fun k => ((g k : ℝ) : EReal)) (eq_ix2 i))⟩

theorem Fin'.up1 {n : ℕ} {x : (⟨1, ![n]⟩ : Shape).Idx → EReal} (h : Fin' x) : ∃ f : Fin n → ℝ, x = Lift.up1 f := by
  obtain ⟨g, hg⟩ := h.up
  exact ⟨fun a => g (ix1 a), hg.trans (funext fun i => congrArg (fun k => ((g k : ℝ) : EReal)) (eq_ix1 i))⟩

end Cert.Lift
-- ==== Proof.MemPay.lean ====
module

public import proofs.«01_k».proof.Proof.Gen.MemKernelIdeal.Skeleton
public import proofs.«01_k».proof.Proof.Lift

/-! What the memory branch's backward body stores, over blocks of real numbers. -/

@[expose] public section

set_option maxRecDepth 16384

noncomputable section

namespace Cert.MemPay

open Idealize.ShloMosaic
open Cert.MemKernelIdeal Cert.MemKernelIdeal.Gen Cert.Lift

abbrev M (n m : ℕ) := Fin n → Fin m → ℝ

/-- Column `d` of head `h`. -/
abbrev col (h : Fin 4) (d : Fin 128) : Fin 512 := ⟨h.val * 128 + d.val, by omega⟩

theorem pay4 (y : M 512 1024) : k0_pay4 (F := Ideal) (up2 y) = up2 y := by
  funext i; pointwise [k0_pay4]

theorem pay5 (y : M 512 1024) : k0_pay5 (F := Ideal) (up2 y) = up2 fun r _ => rs (y r) := by
  funext i; idx_vars i; pointwise [k0_pay5, k0_pay4]
  simp only [mul, sum, ofBits_1024, ofBits_eps, div _ _ (by norm_num : (1024 : ℝ) ≠ 0), add, rsqrt_ms]; rfl

theorem pay11 (y : M 512 1024) : k0_pay11 (F := Ideal) (up2 y) = up2 fun r _ => rs (y r) := by
  funext i; idx_vars i; pointwise [k0_pay11]
  simp only [mul, sum, ofBits_1024, ofBits_eps, div _ _ (by norm_num : (1024 : ℝ) ≠ 0), add, rsqrt_ms]; rfl

theorem pay6 (d y : M 512 1024) (g : M 1 1024) : k0_pay6 (F := Ideal) (up2 d) (up2 y) (up2 g)
    = up2 fun r => rmsb (fun a => d r a * g 0 a) (y r) := by
  unfold k0_pay6; rw [pay4, pay5]
  funext i; idx_vars i; pointwise
  simp only [mul, sum, ofBits_1024, div _ _ (by norm_num : (1024 : ℝ) ≠ 0), sub]; rfl

theorem pay7 (d y : M 512 1024) : k0_pay7 (F := Ideal) (up2 d) (up2 y)
    = up2 fun _ a => ∑ r, d r a * (y r a * rs (y r)) := by
  unfold k0_pay7; rw [pay4, pay5]
  funext i; idx_vars i; pointwise
  simp only [mul, sum]; rfl

theorem pay8 (v w : M 1 1024) : k0_pay8 (F := Ideal) (up2 v) (up2 w) = up2 fun r a => w r a + v r a := by
  funext i; idx_vars i; pointwise [k0_pay8]; exact add _ _

theorem pay1 (d x h : M 512 1024) (g : M 1 1024) : k0_pay1 (F := Ideal) (up2 d) (up2 x) (up2 h) (up2 g)
    = up2 fun r a => d r a + rmsb (fun a => h r a * g 0 a) (x r) a := by
  funext i; idx_vars i; pointwise [k0_pay1]
  simp only [mul, sum, ofBits_1024, ofBits_eps, div _ _ (by norm_num : (1024 : ℝ) ≠ 0), add, sub, rsqrt_ms]; rfl

theorem pay10 (d : M 512 1024) (w : M 1024 512) : k0_pay10 (F := Ideal) (up2 d) (up2 w)
    = up2 fun r c => ∑ a, d r a * w a c := by
  funext i; idx_vars i; pointwise [k0_pay10, k0_pay9]
  simp only [mul, sum]; rfl

theorem pay12 (x : M 512 1024) (g : M 1 1024) : k0_pay12 (F := Ideal) (up2 x) (up2 g)
    = up2 fun r a => x r a * rs (x r) * g 0 a := by
  unfold k0_pay12; rw [pay11]
  funext i; idx_vars i; pointwise
  simp only [mul]; rfl

theorem pay13 (x : M 512 1024) (g : M 1 1024) (w : M 1024 512) :
    k0_pay13 (F := Ideal) (up2 x) (up2 g) (up2 w) = up2 fun r c => ∑ a, x r a * rs (x r) * g 0 a * w a c := by
  unfold k0_pay13; rw [pay12]
  funext i; idx_vars i; pointwise
  simp only [mul, sum]; rfl

theorem pay17 (d : M 512 1024) (acc : M 1024 512) (om : M 512 512) :
    k0_pay17 (F := Ideal) (up2 d) (up2 acc) (up2 om) = up2 fun a c => acc a c + ∑ r, d r a * om r c := by
  funext i; idx_vars i; pointwise [k0_pay17, k0_pay9]
  simp only [mul, sum, add]; rfl

theorem pay14 : k0_pay14 (F := Ideal) = up2 fun _ _ => 0 := by funext i; pointwise [k0_pay14]; rfl
theorem pay15 : k0_pay15 (F := Ideal) = up2 fun _ _ => 0 := by funext i; pointwise [k0_pay15]; rfl
theorem pay16 : k0_pay16 (F := Ideal) = up2 fun _ _ => 0 := by funext i; pointwise [k0_pay16]; rfl

/-- The four heads' columns of the queries and of the output's gradient. -/
theorem pay22 (q : M 512 512) : k0_pay22 (F := Ideal) (up2 q) = up2 fun r d => q r (col 1 d) := by
  funext i; idx_vars i; pointwise [k0_pay22]; rfl
theorem pay26 (q : M 512 512) : k0_pay26 (F := Ideal) (up2 q) = up2 fun r d => q r (col 2 d) := by
  funext i; idx_vars i; pointwise [k0_pay26]; rfl
theorem pay30 (q : M 512 512) : k0_pay30 (F := Ideal) (up2 q) = up2 fun r d => q r (col 3 d) := by
  funext i; idx_vars i; pointwise [k0_pay30]; rfl
theorem pay34 (q : M 512 512) : k0_pay34 (F := Ideal) (up2 q) = up2 fun r d => q r (col 0 d) := by
  funext i; idx_vars i; pointwise [k0_pay34]; simp [col]

theorem pay29 (q : M 512 128) (k : M 256 128) :
    k0_pay29 (F := Ideal) (up2 q) (up2 k) (constant S512x256 .f32 0x00000000#32)
    = up2 fun r => soft fun t => (∑ d, q r d * k t d) * scale := by
  funext i; idx_vars i; pointwise [k0_pay29]
  simp only [mul, sum, ofBits_scale]
  exact softE (by norm_num) _ _

/-- The score gradients of one head, from the columns of the output's gradient. -/
def dscE (dO : FVec Ideal S512x128 .bf16) (v : FVec Ideal S256x128 .bf16) (p : FVec Ideal S512x256 .f32) : FVec Ideal S512x256 .bf16 :=
  have dP := matmul dot_S512x128_S256x128_S512x256_1_1_0_0_n_n none dO v (constant S512x256 .f32 0x00000000#32)
  have s : FVec Ideal S512 .f32 := multiReduction .add [1] S512 (mulf dP p) 0x00000000#32 reduces_S512x256_S512 (.inl rfl) rfl
  have b := broadcastTo S512x256 (shapeCast S512x1 s shapeCasts_S512_S512x1) broadcasts_S512x1_S512x256
  truncf .bf16 (mulf (mulf p (subf dP b)) (broadcast S512x256 (Scalar.ofBits .f32 0x3DB504F3#32))) bitsLt_bf16_f32

theorem dscE_up (dO : M 512 128) (v : M 256 128) (p : M 512 256) :
    dscE (up2 dO) (up2 v) (up2 p) = up2 fun r => dsoft (p r) fun t => ∑ d, dO r d * v t d := by
  funext i; idx_vars i; pointwise [dscE]
  simp only [mul, sum, sub, ofBits_scale]; rfl

theorem pay35 (a v p) : k0_pay35 (F := Ideal) a v p = dscE (k0_pay34 a) v p := rfl
theorem pay40 (a v p) : k0_pay40 (F := Ideal) a v p = dscE (k0_pay39 a) v p := rfl
theorem pay45 (a v p) : k0_pay45 (F := Ideal) a v p = dscE (k0_pay44 a) v p := rfl
theorem pay50 (a v p) : k0_pay50 (F := Ideal) a v p = dscE (k0_pay49 a) v p := rfl
theorem pay39 (a) : k0_pay39 (F := Ideal) a = k0_pay22 a := rfl
theorem pay44 (a) : k0_pay44 (F := Ideal) a = k0_pay26 a := rfl
theorem pay49 (a) : k0_pay49 (F := Ideal) a = k0_pay30 a := rfl
theorem pay21 (q k) : k0_pay21 (F := Ideal) q k = k0_pay29 q (k0_pay19 k) (constant S512x256 .f32 0x00000000#32) := rfl
theorem pay25 (q k) : k0_pay25 (F := Ideal) q k
    = k0_pay29 (k0_pay22 q) (k0_pay23 k) (constant S512x256 .f32 0x00000000#32) := rfl
theorem pay33 (q k) : k0_pay33 (F := Ideal) q k
    = k0_pay29 (k0_pay30 q) (k0_pay31 k) (constant S512x256 .f32 0x00000000#32) := rfl

theorem pay19 (v) : k0_pay19 (F := Ideal) v = v := by funext i; pointwise [k0_pay19]
theorem pay20 (v) : k0_pay20 (F := Ideal) v = v := pay19 v
theorem pay23 (v) : k0_pay23 (F := Ideal) v = v := pay19 v
theorem pay24 (v) : k0_pay24 (F := Ideal) v = v := pay19 v
theorem pay27 (v) : k0_pay27 (F := Ideal) v = v := pay19 v
theorem pay28 (v) : k0_pay28 (F := Ideal) v = v := pay19 v
theorem pay31 (v) : k0_pay31 (F := Ideal) v = v := pay19 v
theorem pay32 (v) : k0_pay32 (F := Ideal) v = v := pay19 v

theorem pay18 (x g w) : k0_pay18 (F := Ideal) x g w = k0_pay34 (k0_pay13 x g w) := rfl

/-- One head's query gradient. -/
def dqE (ds : FVec Ideal S512x256 .bf16) (k : FVec Ideal S256x128 .bf16) : FVec Ideal S512x128 .f32 :=
  matmul dot_S512x256_S256x128_S512x128_1_0_0_1_n_n none ds k (constant S512x128 .f32 0x00000000#32)

theorem dqE_up (ds : M 512 256) (k : M 256 128) : dqE (up2 ds) (up2 k) = up2 fun r d => ∑ t, ds r t * k t d := by
  funext i; idx_vars i; pointwise [dqE]
  simp only [mul, sum]; rfl

theorem pay36 (a k v p) : k0_pay36 (F := Ideal) a k v p = dqE (k0_pay35 a v p) k := rfl
theorem pay41 (a k v p) : k0_pay41 (F := Ideal) a k v p = dqE (k0_pay40 a v p) k := rfl
theorem pay46 (a k v p) : k0_pay46 (F := Ideal) a k v p = dqE (k0_pay45 a v p) k := rfl
theorem pay51 (a k v p) : k0_pay51 (F := Ideal) a k v p = dqE (k0_pay50 a v p) k := rfl

/-- A transposed product added to what a head's columns held. -/
theorem pay37 (q : M 512 128) (ds : M 512 256) (acc : M 256 128) :
    k0_pay37 (F := Ideal) (up2 q) (up2 ds) (up2 acc) = up2 fun t d => acc t d + ∑ r, ds r t * q r d := by
  funext i; idx_vars i; pointwise [k0_pay37]
  simp only [mul, sum, add]; rfl

theorem pay38 (p q acc) : k0_pay38 (F := Ideal) p q acc = k0_pay37 q p acc := rfl
theorem pay42 (a q v p acc) : k0_pay42 (F := Ideal) a q v p acc = k0_pay37 q (k0_pay40 a v p) acc := rfl
theorem pay43 (a p acc) : k0_pay43 (F := Ideal) a p acc = k0_pay37 (k0_pay39 a) p acc := rfl
theorem pay47 (a q v p acc) : k0_pay47 (F := Ideal) a q v p acc = k0_pay37 q (k0_pay45 a v p) acc := rfl
theorem pay48 (a p acc) : k0_pay48 (F := Ideal) a p acc = k0_pay37 (k0_pay44 a) p acc := rfl
theorem pay52 (q ds acc) : k0_pay52 (F := Ideal) q ds acc = k0_pay37 q ds acc := rfl
theorem pay53 (p q acc) : k0_pay53 (F := Ideal) p q acc = k0_pay37 q p acc := rfl

/-- The four heads' query gradients side by side. -/
theorem pay54 (x : Fin 4 → M 512 128) : k0_pay54 (F := Ideal) (up2 (x 0)) (up2 (x 1)) (up2 (x 2)) (up2 (x 3))
    = up2 fun r c => x ⟨c.val / 128, by omega⟩ r ⟨c.val % 128, by omega⟩ := by
  funext i; idx_vars i; pointwise [k0_pay54]
  have key : ∀ (h : Fin 4) (d : Fin 128), i1 = col h d →
      ((x ⟨i1.val / 128, by omega⟩ i0 ⟨i1.val % 128, by omega⟩ : ℝ) : EReal) = x h i0 d := by
    intro h d e
    have e' : i1.val = h.val * 128 + d.val := congrArg Fin.val e
    exact congrArg _ (congr (congrFun (congrArg x (Fin.ext (by show i1.val / 128 = _; omega))) i0)
      (Fin.ext (by show i1.val % 128 = _; omega)))
  by_cases h0 : i1.val < 128
  · rw [dif_pos h0]; exact (key 0 ⟨i1.val, h0⟩ (Fin.ext (by simp [col]))).symm
  rw [dif_neg h0]
  by_cases h1 : i1.val - 128 < 128
  · rw [dif_pos h1]; exact (key 1 ⟨i1.val - 128, h1⟩ (Fin.ext (by simp [col]; omega))).symm
  rw [dif_neg h1]
  by_cases h2 : i1.val - 128 - 128 < 128
  · rw [dif_pos h2]; exact (key 2 ⟨i1.val - 128 - 128, h2⟩ (Fin.ext (by simp [col]; omega))).symm
  rw [dif_neg h2]
  exact (key 3 ⟨i1.val - 128 - 128 - 128, by omega⟩ (Fin.ext (by simp [col]; omega))).symm

/-- What the input projection's gradient and the block input's gradient are, from the heads' query gradients. -/
def accE (h : FVec Ideal S512x1024 .bf16) (dq : FVec Ideal S512x512 .bf16) (acc : FVec Ideal S1024x512 .f32) : FVec Ideal S1024x512 .f32 :=
  shapeCast S1024x512 (addf acc (matmul dot_S512x1024_S512x512_S1024x512_0_0_1_1_n_n none h dq (constant S1024x512 .f32 0x00000000#32)))
    shapeCasts_S1024x512_S1024x512

theorem accE_up (h : M 512 1024) (dq : M 512 512) (acc : M 1024 512) :
    accE (up2 h) (up2 dq) (up2 acc) = up2 fun a c => acc a c + ∑ r, h r a * dq r c := by
  funext i; idx_vars i; pointwise [accE]
  simp only [mul, sum, add]; rfl

theorem pay55 (h a b c d acc) : k0_pay55 (F := Ideal) h a b c d acc = accE h (k0_pay54 a b c d) acc := rfl

def dhE (dq : FVec Ideal S512x512 .bf16) (w : FVec Ideal S1024x512 .bf16) : FVec Ideal S512x1024 .f32 :=
  matmul dot_S512x512_S1024x512_S512x1024_1_1_0_0_n_n none dq (shapeCast S1024x512 w shapeCasts_S1024x512_S1024x512)
    (constant S512x1024 .f32 0x00000000#32)

theorem dhE_up (dq : M 512 512) (w : M 1024 512) : dhE (up2 dq) (up2 w) = up2 fun r a => ∑ c, dq r c * w a c := by
  funext i; idx_vars i; pointwise [dhE]
  simp only [mul, sum]; rfl

theorem pay56 (a b c d w) : k0_pay56 (F := Ideal) a b c d w = dhE (k0_pay54 a b c d) w := rfl

def gainE (x : FVec Ideal S512x1024 .f32) (r : FVec Ideal S512x1 .f32) (dh : FVec Ideal S512x1024 .f32) : FVec Ideal S1x1024 .f32 :=
  have s : FVec Ideal S1024 .f32 := multiReduction .add [0] S1024 (mulf dh (mulf x (broadcastTo S512x1024 r broadcasts_S512x1_S512x1024)))
    0x00000000#32 reduces_S512x1024_S1024 (.inl rfl) rfl
  shapeCast S1x1024 s shapeCasts_S1024_S1x1024

theorem gainE_up (x dh : M 512 1024) (r : M 512 1) : gainE (up2 x) (up2 r) (up2 dh) = up2 fun _ a => ∑ k, dh k a * (x k a * r k 0) := by
  funext i; idx_vars i; pointwise [gainE]
  simp only [mul, sum]; rfl

theorem pay57 (x r a b c d w) : k0_pay57 (F := Ideal) x r a b c d w = gainE x r (k0_pay56 a b c d w) := rfl

theorem pay58 (x r a b c d w v) : k0_pay58 (F := Ideal) x r a b c d w v = k0_pay8 (k0_pay57 x r a b c d w) v := rfl

theorem pay2 (v) : k0_pay2 (F := Ideal) v = v := by funext i; pointwise [k0_pay2]
theorem pay3 (v) : k0_pay3 (F := Ideal) v = v := pay2 v

end Cert.MemPay
-- ==== Proof.MemStep.lean ====
module

public import proofs.«01_k».proof.Proof.Gen.MemKernelIdeal.Value
public import proofs.«01_k».proof.Proof.MemPay
public import Idealize.ShloMosaic.Lib.Pipeline.ReadBack

/-! What one grid point of the memory branch's backward call leaves, over blocks of real numbers. -/

@[expose] public section

set_option maxRecDepth 16384

noncomputable section

namespace Cert.MemStep

open Idealize.ShloMosaic
open Cert.Lift Cert.MemPay

/-- The real arrays a row of the branch is computed from: gains, query and output weights, keys and values. -/
structure W where
  g1 : Fin 1024 → ℝ
  g2 : Fin 1024 → ℝ
  wq : M 1024 512
  wo : M 1024 512
  kv : M 256 1024

variable (w : W)

abbrev vcol (h : Fin 4) (d : Fin 128) : Fin 1024 := ⟨512 + h.val * 128 + d.val, by omega⟩
abbrev kcol (h : Fin 4) (d : Fin 128) : Fin 1024 := ⟨h.val * 128 + d.val, by omega⟩
abbrev hd (c : Fin 512) : Fin 4 := ⟨c.val / 128, by omega⟩
abbrev dm (c : Fin 512) : Fin 128 := ⟨c.val % 128, by omega⟩

namespace W
/-- The normalised row, its queries, and the weights of head `h`. -/
def h (x : Fin 1024 → ℝ) (a : Fin 1024) : ℝ := x a * rs x * w.g1 a
def q (x : Fin 1024 → ℝ) (c : Fin 512) : ℝ := ∑ a, w.h x a * w.wq a c
def p (x : Fin 1024 → ℝ) (i : Fin 4) : Fin 256 → ℝ := soft fun t => (∑ d, w.q x (col i d) * w.kv t (kcol i d)) * scale
/-- The gradients of the output projection's result, of the heads' outputs, of the scores, of the queries, of the normalised row. -/
def dy (d y : Fin 1024 → ℝ) : Fin 1024 → ℝ := rmsb (fun a => d a * w.g2 a) y
def dom (d y : Fin 1024 → ℝ) (c : Fin 512) : ℝ := ∑ a, w.dy d y a * w.wo a c
def dsc (d y x : Fin 1024 → ℝ) (i : Fin 4) : Fin 256 → ℝ :=
  dsoft (w.p x i) fun t => ∑ e, w.dom d y (col i e) * w.kv t (vcol i e)
def dq (d y x : Fin 1024 → ℝ) (c : Fin 512) : ℝ := ∑ t, w.dsc d y x (hd c) t * w.kv t (kcol (hd c) (dm c))
def dh (d y x : Fin 1024 → ℝ) (a : Fin 1024) : ℝ := ∑ c, w.dq d y x c * w.wq a c
/-- The row's gradient. -/
def dx (d y x : Fin 1024 → ℝ) (a : Fin 1024) : ℝ := d a + rmsb (fun a => w.dh d y x a * w.g1 a) x a
/-- What one row adds to the gradient of the keys (columns below 512) and of the values. -/
def dkv (d y x : Fin 1024 → ℝ) (t : Fin 256) (c : Fin 1024) : ℝ :=
  if h : c.val < 512 then w.dsc d y x (hd ⟨c.val, h⟩) t * w.q x ⟨c.val, h⟩
  else w.p x (hd ⟨c.val - 512, by omega⟩) t * w.dom d y ⟨c.val - 512, by omega⟩
theorem dkv_k (d y x : Fin 1024 → ℝ) (t : Fin 256) (i : Fin 4) (e : Fin 128) :
    w.dkv d y x t (kcol i e) = w.dsc d y x i t * w.q x (col i e) := by
  have hi : hd (col i e) = i := Fin.ext (by show (i.val * 128 + e.val) / 128 = i.val; omega)
  have he : i.val * 128 + e.val < 512 := (col i e).isLt
  show (if h : i.val * 128 + e.val < 512 then w.dsc d y x (hd (col i e)) t * w.q x (col i e) else _) = _
  rw [dif_pos he, hi]
theorem dkv_v (d y x : Fin 1024 → ℝ) (t : Fin 256) (i : Fin 4) (e : Fin 128) :
    w.dkv d y x t (vcol i e) = w.p x i t * w.dom d y (col i e) := by
  have hc : (⟨(vcol i e).val - 512, by have := (vcol i e).isLt; omega⟩ : Fin 512) = col i e :=
    Fin.ext (by show 512 + i.val * 128 + e.val - 512 = i.val * 128 + e.val; omega)
  have hi : hd (col i e) = i := Fin.ext (by show (i.val * 128 + e.val) / 128 = i.val; omega)
  unfold dkv
  rw [dif_neg (by show ¬ (512 + i.val * 128 + e.val < 512); omega), hc, hi]
end W

end Cert.MemStep

namespace Cert.MemKernelIdeal.Value

open Idealize.ShloMosaic Idealize.ShloMosaic.TcCoe Idealize.SL.Sem
open Cert.MemKernelIdeal Cert.MemKernelIdeal.Gen Cert.Lift Cert.MemPay Cert.MemStep Cert.MemStep.W
variable (m : (ℓ : Loc nD τ sig) → Buf (Elt Ideal) ℓ)

theorem ld_bf16 (f : M 256 1024) (o : ℕ) (inb : ∀ a, (![0, o] : Fin 2 → ℕ) a + S256x128.size a ≤ S256x1024.size a) (ho : o + 128 ≤ 1024) :
    View.ld (Val := Elt Ideal) (e' := .bf16) (S := S256x1024) (up2 f) (Rect.unit (s := S256x1024) ![0, o] ![256, 128] inb)
      = up2 fun t (d : Fin 128) => f t ⟨o + d.val, by omega⟩ := by
  funext i; pointwise; rfl

theorem ldd_f32 (f : M 256 1024) (o : ℕ) (inb : ∀ a, (![0, o] : Fin 2 → ℕ) a + S256x128.size a ≤ S256x1024.size a) (ho : o + 128 ≤ 1024) :
    View.ld (Val := Elt Ideal) (e' := .f32) (S := S256x1024) (up2 f) (Rect.unit (s := S256x1024) ![0, o] ![256, 128] inb)
      = up2 fun t (d : Fin 128) => f t ⟨o + d.val, by omega⟩ := by
  funext i; pointwise; rfl

/-- What the carried outputs and scratch hold. -/
abbrev Acc := Vec Ideal S512x1024 .f32 × Vec Ideal S1x1024 .f32 × Vec Ideal S1x1024 .f32 × Vec Ideal S256x1024 .f32 × Vec Ideal S1024x512 .bf16 × Vec Ideal S1024x512 .bf16 × Vec Ideal S1024x512 .f32 × Vec Ideal S1024x512 .f32

/-- The blocks of point `t` hold the rows `d`, `y`, `x`, `o` and the arrays of `w`. -/
structure Blocks (c : Dev nD) (t : Fin cfg0.N) (w : W) (d y x : M 512 1024) (o : M 512 512) : Prop where
  b0 : iblk m c 0 t = up2 d
  b1 : iblk m c 1 t = up2 y
  b2 : iblk m c 2 t = up2 x
  b3 : iblk m c 3 t = up2 o
  b4 : iblk m c 4 t = up2 w.kv
  b5 : iblk m c 5 t = up2 fun _ : Fin 1 => w.g1
  b6 : iblk m c 6 t = up2 w.wq
  b7 : iblk m c 7 t = up2 w.wo
  b8 : iblk m c 8 t = up2 fun _ : Fin 1 => w.g2

variable {m}
variable {c : Dev nD} {t : Fin cfg0.N} {w : W} {d y x : M 512 1024} {o : M 512 512}

section
variable (w d y x)
theorem f6 : k0_pay6 (F := Ideal) (up2 d) (up2 y) (up2 fun _ : Fin 1 => w.g2) = up2 fun r => w.dy (d r) (y r) := pay6 _ _ _
theorem f10 : k0_pay10 (F := Ideal) (up2 fun r => w.dy (d r) (y r)) (up2 w.wo) = up2 fun r => w.dom (d r) (y r) := pay10 _ _
theorem f13 : k0_pay13 (F := Ideal) (up2 x) (up2 fun _ : Fin 1 => w.g1) (up2 w.wq) = up2 fun r => w.q (x r) := by rw [pay13]; rfl
end

/-- The score weights of the four heads. -/
theorem fp (i : Fin 4) : k0_pay29 (F := Ideal) (up2 fun r (e : Fin 128) => w.q (x r) (col i e)) (up2 fun s (e : Fin 128) => w.kv s (kcol i e)) (constant S512x256 .f32 0x00000000#32)
   = up2 fun r => w.p (x r) i := by rw [pay29]; rfl

theorem fds (i : Fin 4) : dscE (up2 fun r (e : Fin 128) => w.dom (d r) (y r) (col i e)) (up2 fun s (e : Fin 128) => w.kv s (vcol i e)) (up2 fun r => w.p (x r) i)
   = up2 fun r => w.dsc (d r) (y r) (x r) i := by rw [dscE_up]; rfl

theorem fdq (i : Fin 4) : dqE (up2 fun r => w.dsc (d r) (y r) (x r) i) (up2 fun s (e : Fin 128) => w.kv s (kcol i e))
   = up2 fun r (e : Fin 128) => ∑ s, w.dsc (d r) (y r) (x r) i s * w.kv s (kcol i e) := dqE_up _ _

theorem lk0 : View.ld (Val := Elt Ideal) (e' := .bf16) (S := S256x1024) (up2 w.kv) (Rect.unit (s := S256x1024) ![0, 0] ![256, 128] inb_S256x1024_S256x128_0_0)
    = up2 fun s (e : Fin 128) => w.kv s (kcol 0 e) := by rw [ld_bf16 w.kv 0 _ (by norm_num)]; rfl
theorem lv0 : View.ld (Val := Elt Ideal) (e' := .bf16) (S := S256x1024) (up2 w.kv) (Rect.unit (s := S256x1024) ![0, 512] ![256, 128] inb_S256x1024_S256x128_0_512)
    = up2 fun s (e : Fin 128) => w.kv s (vcol 0 e) := by rw [ld_bf16 w.kv 512 _ (by norm_num)]; rfl
theorem lk1 : View.ld (Val := Elt Ideal) (e' := .bf16) (S := S256x1024) (up2 w.kv) (Rect.unit (s := S256x1024) ![0, 128] ![256, 128] inb_S256x1024_S256x128_0_128)
    = up2 fun s (e : Fin 128) => w.kv s (kcol 1 e) := by rw [ld_bf16 w.kv 128 _ (by norm_num)]; rfl
theorem lv1 : View.ld (Val := Elt Ideal) (e' := .bf16) (S := S256x1024) (up2 w.kv) (Rect.unit (s := S256x1024) ![0, 640] ![256, 128] inb_S256x1024_S256x128_0_640)
    = up2 fun s (e : Fin 128) => w.kv s (vcol 1 e) := by rw [ld_bf16 w.kv 640 _ (by norm_num)]; rfl
theorem lk2 : View.ld (Val := Elt Ideal) (e' := .bf16) (S := S256x1024) (up2 w.kv) (Rect.unit (s := S256x1024) ![0, 256] ![256, 128] inb_S256x1024_S256x128_0_256)
    = up2 fun s (e : Fin 128) => w.kv s (kcol 2 e) := by rw [ld_bf16 w.kv 256 _ (by norm_num)]; rfl
theorem lv2 : View.ld (Val := Elt Ideal) (e' := .bf16) (S := S256x1024) (up2 w.kv) (Rect.unit (s := S256x1024) ![0, 768] ![256, 128] inb_S256x1024_S256x128_0_768)
    = up2 fun s (e : Fin 128) => w.kv s (vcol 2 e) := by rw [ld_bf16 w.kv 768 _ (by norm_num)]; rfl
theorem lk3 : View.ld (Val := Elt Ideal) (e' := .bf16) (S := S256x1024) (up2 w.kv) (Rect.unit (s := S256x1024) ![0, 384] ![256, 128] inb_S256x1024_S256x128_0_384)
    = up2 fun s (e : Fin 128) => w.kv s (kcol 3 e) := by rw [ld_bf16 w.kv 384 _ (by norm_num)]; rfl
theorem lv3 : View.ld (Val := Elt Ideal) (e' := .bf16) (S := S256x1024) (up2 w.kv) (Rect.unit (s := S256x1024) ![0, 896] ![256, 128] inb_S256x1024_S256x128_0_896)
    = up2 fun s (e : Fin 128) => w.kv s (vcol 3 e) := by rw [ld_bf16 w.kv 896 _ (by norm_num)]; rfl

theorem la0 (g : M 256 1024) : View.ld (Val := Elt Ideal) (e' := .f32) (S := S256x1024) (up2 g) (Rect.unit (s := S256x1024) ![0, 0] ![256, 128] inb_S256x1024_S256x128_0_0)
    = up2 fun s (e : Fin 128) => g s (kcol 0 e) := by rw [ldd_f32 g 0 _ (by norm_num)]; rfl
theorem lb0 (g : M 256 1024) : View.ld (Val := Elt Ideal) (e' := .f32) (S := S256x1024) (up2 g) (Rect.unit (s := S256x1024) ![0, 512] ![256, 128] inb_S256x1024_S256x128_0_512)
    = up2 fun s (e : Fin 128) => g s (vcol 0 e) := by rw [ldd_f32 g 512 _ (by norm_num)]; rfl
theorem la1 (g : M 256 1024) : View.ld (Val := Elt Ideal) (e' := .f32) (S := S256x1024) (up2 g) (Rect.unit (s := S256x1024) ![0, 128] ![256, 128] inb_S256x1024_S256x128_0_128)
    = up2 fun s (e : Fin 128) => g s (kcol 1 e) := by rw [ldd_f32 g 128 _ (by norm_num)]; rfl
theorem lb1 (g : M 256 1024) : View.ld (Val := Elt Ideal) (e' := .f32) (S := S256x1024) (up2 g) (Rect.unit (s := S256x1024) ![0, 640] ![256, 128] inb_S256x1024_S256x128_0_640)
    = up2 fun s (e : Fin 128) => g s (vcol 1 e) := by rw [ldd_f32 g 640 _ (by norm_num)]; rfl
theorem la2 (g : M 256 1024) : View.ld (Val := Elt Ideal) (e' := .f32) (S := S256x1024) (up2 g) (Rect.unit (s := S256x1024) ![0, 256] ![256, 128] inb_S256x1024_S256x128_0_256)
    = up2 fun s (e : Fin 128) => g s (kcol 2 e) := by rw [ldd_f32 g 256 _ (by norm_num)]; rfl
theorem lb2 (g : M 256 1024) : View.ld (Val := Elt Ideal) (e' := .f32) (S := S256x1024) (up2 g) (Rect.unit (s := S256x1024) ![0, 768] ![256, 128] inb_S256x1024_S256x128_0_768)
    = up2 fun s (e : Fin 128) => g s (vcol 2 e) := by rw [ldd_f32 g 768 _ (by norm_num)]; rfl
theorem la3 (g : M 256 1024) : View.ld (Val := Elt Ideal) (e' := .f32) (S := S256x1024) (up2 g) (Rect.unit (s := S256x1024) ![0, 384] ![256, 128] inb_S256x1024_S256x128_0_384)
    = up2 fun s (e : Fin 128) => g s (kcol 3 e) := by rw [ldd_f32 g 384 _ (by norm_num)]; rfl
theorem lb3 (g : M 256 1024) : View.ld (Val := Elt Ideal) (e' := .f32) (S := S256x1024) (up2 g) (Rect.unit (s := S256x1024) ![0, 896] ![256, 128] inb_S256x1024_S256x128_0_896)
    = up2 fun s (e : Fin 128) => g s (vcol 3 e) := by rw [ldd_f32 g 896 _ (by norm_num)]; rfl
/-- The heads' query gradients side by side. -/
theorem f54 : k0_pay54 (F := Ideal)
    (up2 fun r (e : Fin 128) => ∑ s, w.dsc (d r) (y r) (x r) 0 s * w.kv s (kcol 0 e))
    (up2 fun r (e : Fin 128) => ∑ s, w.dsc (d r) (y r) (x r) 1 s * w.kv s (kcol 1 e))
    (up2 fun r (e : Fin 128) => ∑ s, w.dsc (d r) (y r) (x r) 2 s * w.kv s (kcol 2 e))
    (up2 fun r (e : Fin 128) => ∑ s, w.dsc (d r) (y r) (x r) 3 s * w.kv s (kcol 3 e)) = up2 fun r => w.dq (d r) (y r) (x r) :=
  pay54 (fun i r e => ∑ s, w.dsc (d r) (y r) (x r) i s * w.kv s (kcol i e))

theorem f56 : dhE (up2 fun r => w.dq (d r) (y r) (x r)) (up2 w.wq) = up2 fun r => w.dh (d r) (y r) (x r) := dhE_up _ _

theorem f1 : k0_pay1 (F := Ideal) (up2 d) (up2 x) (up2 fun r => w.dh (d r) (y r) (x r)) (up2 fun _ : Fin 1 => w.g1)
    = up2 fun r => w.dx (d r) (y r) (x r) := pay1 _ _ _ _

theorem f55 (acc : M 1024 512) : accE (up2 fun r => w.h (x r)) (up2 fun r => w.dq (d r) (y r) (x r)) (up2 acc)
    = up2 fun a k => acc a k + ∑ r, w.h (x r) a * w.dq (d r) (y r) (x r) k := accE_up _ _ _

theorem f12 : k0_pay12 (F := Ideal) (up2 x) (up2 fun _ : Fin 1 => w.g1) = up2 fun r => w.h (x r) := pay12 _ _

/-- Eight stores of 128 columns each, every one the columns of `G` there, leave `G`. -/
theorem tiles (G : M 256 1024) (L' : List (View.Piece (Elt Ideal) S256x1024 .f32)) :
    View.canon (([⟨Rect.unit (s := S256x1024) ![0, 896] ![256, 128] inb_S256x1024_S256x128_0_896, up2 fun s (e : Fin 128) => G s (vcol 3 e)⟩,
       ⟨Rect.unit (s := S256x1024) ![0, 384] ![256, 128] inb_S256x1024_S256x128_0_384, up2 fun s (e : Fin 128) => G s (kcol 3 e)⟩,
       ⟨Rect.unit (s := S256x1024) ![0, 768] ![256, 128] inb_S256x1024_S256x128_0_768, up2 fun s (e : Fin 128) => G s (vcol 2 e)⟩,
       ⟨Rect.unit (s := S256x1024) ![0, 256] ![256, 128] inb_S256x1024_S256x128_0_256, up2 fun s (e : Fin 128) => G s (kcol 2 e)⟩,
       ⟨Rect.unit (s := S256x1024) ![0, 640] ![256, 128] inb_S256x1024_S256x128_0_640, up2 fun s (e : Fin 128) => G s (vcol 1 e)⟩,
       ⟨Rect.unit (s := S256x1024) ![0, 128] ![256, 128] inb_S256x1024_S256x128_0_128, up2 fun s (e : Fin 128) => G s (kcol 1 e)⟩,
       ⟨Rect.unit (s := S256x1024) ![0, 512] ![256, 128] inb_S256x1024_S256x128_0_512, up2 fun s (e : Fin 128) => G s (vcol 0 e)⟩,
       ⟨Rect.unit (s := S256x1024) ![0, 0] ![256, 128] inb_S256x1024_S256x128_0_0, up2 fun s (e : Fin 128) => G s (kcol 0 e)⟩] : List (View.Piece (Elt Ideal) S256x1024 .f32)) ++ L') = up2 G := by
  funext j
  refine View.canon_append_of_piecesOf (Val := Elt Ideal) (up2 G) L' _ ?_ j ?_
  · exact ⟨fun x => (congrFun (lb3 G) x).symm, fun x => (congrFun (la3 G) x).symm, fun x => (congrFun (lb2 G) x).symm, fun x => (congrFun (la2 G) x).symm, fun x => (congrFun (lb1 G) x).symm, fun x => (congrFun (la1 G) x).symm, fun x => (congrFun (lb0 G) x).symm, fun x => (congrFun (la0 G) x).symm, trivial⟩
  · have h0 : (j 0).val < 256 := (j 0).isLt
    have h1 : (j 1).val < 1024 := (j 1).isLt
    have key : ∀ o inb, o ≤ (j 1).val → (j 1).val < o + 128 → j ∈ (Rect.unit (s := S256x1024) ![0, o] ![256, 128] inb).set := by
      intro o inb ho ho'
      refine Rect.mem_set_unit.mpr fun a => ?_
      match a with
      | ⟨0, _⟩ => exact ⟨Nat.zero_le _, by simpa using h0⟩
      | ⟨1, _⟩ => exact ⟨ho, ho'⟩
    rcases (by omega : (j 1).val / 128 = 0 ∨ (j 1).val / 128 = 1 ∨ (j 1).val / 128 = 2 ∨ (j 1).val / 128 = 3 ∨ (j 1).val / 128 = 4 ∨ (j 1).val / 128 = 5 ∨ (j 1).val / 128 = 6 ∨ (j 1).val / 128 = 7) with h | h | h | h | h | h | h | h
    all_goals
      simp only [List.mem_cons, List.not_mem_nil, or_false, exists_eq_or_imp, exists_eq_left]
    all_goals first
      | exact .inl (key _ _ (by omega) (by omega))
      | exact .inr (.inl (key _ _ (by omega) (by omega)))
      | exact .inr (.inr (.inl (key _ _ (by omega) (by omega))))
      | exact .inr (.inr (.inr (.inl (key _ _ (by omega) (by omega)))))
      | exact .inr (.inr (.inr (.inr (.inl (key _ _ (by omega) (by omega))))))
      | exact .inr (.inr (.inr (.inr (.inr (.inl (key _ _ (by omega) (by omega)))))))
      | exact .inr (.inr (.inr (.inr (.inr (.inr (.inl (key _ _ (by omega) (by omega))))))))
      | exact .inr (.inr (.inr (.inr (.inr (.inr (.inr (key _ _ (by omega) (by omega))))))))

/-- The eight stores of one point. -/
theorem tiles_step (gk : M 256 1024) (L' : List (View.Piece (Elt Ideal) S256x1024 .f32)) :
    View.canon (([⟨Rect.unit (s := S256x1024) ![0, 896] ![256, 128] inb_S256x1024_S256x128_0_896, up2 fun s (e : Fin 128) => gk s (vcol 3 e) + ∑ r, w.p (x r) 3 s * w.dom (d r) (y r) (col 3 e)⟩,
       ⟨Rect.unit (s := S256x1024) ![0, 384] ![256, 128] inb_S256x1024_S256x128_0_384, up2 fun s (e : Fin 128) => gk s (kcol 3 e) + ∑ r, w.dsc (d r) (y r) (x r) 3 s * w.q (x r) (col 3 e)⟩,
       ⟨Rect.unit (s := S256x1024) ![0, 768] ![256, 128] inb_S256x1024_S256x128_0_768, up2 fun s (e : Fin 128) => gk s (vcol 2 e) + ∑ r, w.p (x r) 2 s * w.dom (d r) (y r) (col 2 e)⟩,
       ⟨Rect.unit (s := S256x1024) ![0, 256] ![256, 128] inb_S256x1024_S256x128_0_256, up2 fun s (e : Fin 128) => gk s (kcol 2 e) + ∑ r, w.dsc (d r) (y r) (x r) 2 s * w.q (x r) (col 2 e)⟩,
       ⟨Rect.unit (s := S256x1024) ![0, 640] ![256, 128] inb_S256x1024_S256x128_0_640, up2 fun s (e : Fin 128) => gk s (vcol 1 e) + ∑ r, w.p (x r) 1 s * w.dom (d r) (y r) (col 1 e)⟩,
       ⟨Rect.unit (s := S256x1024) ![0, 128] ![256, 128] inb_S256x1024_S256x128_0_128, up2 fun s (e : Fin 128) => gk s (kcol 1 e) + ∑ r, w.dsc (d r) (y r) (x r) 1 s * w.q (x r) (col 1 e)⟩,
       ⟨Rect.unit (s := S256x1024) ![0, 512] ![256, 128] inb_S256x1024_S256x128_0_512, up2 fun s (e : Fin 128) => gk s (vcol 0 e) + ∑ r, w.p (x r) 0 s * w.dom (d r) (y r) (col 0 e)⟩,
       ⟨Rect.unit (s := S256x1024) ![0, 0] ![256, 128] inb_S256x1024_S256x128_0_0, up2 fun s (e : Fin 128) => gk s (kcol 0 e) + ∑ r, w.dsc (d r) (y r) (x r) 0 s * w.q (x r) (col 0 e)⟩] : List (View.Piece (Elt Ideal) S256x1024 .f32)) ++ L') = up2 fun s a => gk s a + ∑ r, w.dkv (d r) (y r) (x r) s a := by
  have h := tiles (fun s a => gk s a + ∑ r, w.dkv (d r) (y r) (x r) s a) L'
  simp only [dkv_k, dkv_v] at h
  exact h

theorem z14 : k0_pay14 (F := Ideal) = up2 (0 : M 256 1024) := pay14
theorem z15 : k0_pay15 (F := Ideal) = up2 (0 : M 1024 512) := pay15
theorem z16 : k0_pay16 (F := Ideal) = up2 (0 : M 1024 512) := pay16

/-- The carried buffers hold these sums. -/
structure St (acc : Acc) (gp gq : Fin 1024 → ℝ) (gk : M 256 1024) (go gw : M 1024 512) : Prop where
  p : acc.2.1 = up2 fun _ : Fin 1 => gp
  q : acc.2.2.1 = up2 fun _ : Fin 1 => gq
  k : acc.2.2.2.1 = up2 gk
  o : acc.2.2.2.2.2.2.1 = up2 go
  w : acc.2.2.2.2.2.2.2 = up2 gw

set_option maxHeartbeats 1600000 in
theorem step (H : Blocks m c t w d y x o) (acc : Acc) (gp gq : Fin 1024 → ℝ) (gk : M 256 1024) (go gw : M 1024 512)
    (hB : 1 ≤ t.val → St acc gp gq gk go gw) (hA : t.val = 0 → gp = 0 ∧ gq = 0 ∧ gk = 0 ∧ go = 0 ∧ gw = 0) :
    (stAt0 m c t.val t.isLt acc).1 = (up2 fun r => w.dx (d r) (y r) (x r))
    ∧ (stAt0 m c t.val t.isLt acc).2.1 = (up2 fun _ a => gp a + ∑ r, d r a * (y r a * rs (y r)))
    ∧ (stAt0 m c t.val t.isLt acc).2.2.1 = (up2 fun _ a => gq a + ∑ r, w.dh (d r) (y r) (x r) a * (x r a * rs (x r)))
    ∧ (stAt0 m c t.val t.isLt acc).2.2.2.1 = (up2 fun s a => gk s a + ∑ r, w.dkv (d r) (y r) (x r) s a)
    ∧ (stAt0 m c t.val t.isLt acc).2.2.2.2.2.2.1 = (up2 fun a k => go a k + ∑ r, w.dy (d r) (y r) a * o r k)
    ∧ (stAt0 m c t.val t.isLt acc).2.2.2.2.2.2.2 = (up2 fun a k => gw a k + ∑ r, w.h (x r) a * w.dq (d r) (y r) (x r) k)
    ∧ (t.val = 7 → (stAt0 m c t.val t.isLt acc).2.2.2.2.1 = (up2 fun a k => go a k + ∑ r, w.dy (d r) (y r) a * o r k)
      ∧ (stAt0 m c t.val t.isLt acc).2.2.2.2.2.1 = (up2 fun a k => gw a k + ∑ r, w.h (x r) a * w.dq (d r) (y r) (x r) k)) := by
  have hN : t.val < 8 := lt_of_lt_of_eq t.isLt N_0
  by_cases h : t.val = 0
  · have h0 : t.val % 8 = 0 := by omega
    obtain ⟨rfl, rfl, rfl, rfl, rfl⟩ := hA h
    rw [stAt0_A m c t acc h0 (by omega) h0 h0 (by omega) (by omega)]
    refine ⟨?_, ?_, ?_, ?_, ?_, ?_, fun h7 => by omega⟩
    all_goals
      frame_out
      simp (disch := first | rfl | decide) only [↓View.readCov_skip, View.readCov_fill, H.b0, H.b1, H.b2, H.b3, H.b4, H.b5, H.b6, H.b7, H.b8, lk0, lk1, lk2, lk3, lv0, lv1, lv2, lv3,
        la0, la1, la2, la3, lb0, lb1, lb2, lb3, pay18, f6, f10, f13, pay35, pay40, pay45, pay50, pay36, pay41, pay46, pay51, pay39, pay44, pay49,
        pay19, pay20, pay23, pay24, pay27, pay28, pay31, pay32, pay21, pay25, pay33, pay34, pay22, pay26, pay30, fp 0, fp 1, fp 2, fp 3,
        fds 0, fds 1, fds 2, fds 3, fdq 0, fdq 1, fdq 2, fdq 3, pay55, pay56, f12, f54, f56, f1, f55, pay7, pay8, pay17, pay57, pay58, pay2, pay3, pay11,
        pay38, pay42, pay43, pay47, pay48, pay52, pay53, pay37, gainE_up, z14, z15, z16, pay7]
    · simp
    · simp
    · exact tiles_step 0 [⟨_, _⟩]
  · have hS := hB (by omega)
    by_cases h7 : t.val = 7
    · rw [stAt0_C m c t acc (by omega) (by omega) (by omega) (by omega) (by omega) (by omega)]
      refine ⟨?_, ?_, ?_, ?_, ?_, ?_, fun _ => ⟨?_, ?_⟩⟩
      all_goals
        frame_out
        simp only [hS.p, hS.q, hS.k, hS.o, hS.w, read_unread_whole, H.b0, H.b1, H.b2, H.b3, H.b4, H.b5, H.b6, H.b7, H.b8, lk0, lk1, lk2, lk3, lv0, lv1, lv2, lv3,
        la0, la1, la2, la3, lb0, lb1, lb2, lb3, pay18, f6, f10, f13, pay35, pay40, pay45, pay50, pay36, pay41, pay46, pay51, pay39, pay44, pay49,
        pay19, pay20, pay23, pay24, pay27, pay28, pay31, pay32, pay21, pay25, pay33, pay34, pay22, pay26, pay30, fp 0, fp 1, fp 2, fp 3,
        fds 0, fds 1, fds 2, fds 3, fdq 0, fdq 1, fdq 2, fdq 3, pay55, pay56, f12, f54, f56, f1, f55, pay7, pay8, pay17, pay57, pay58, pay2, pay3, pay11,
        pay38, pay42, pay43, pay47, pay48, pay52, pay53, pay37, gainE_up]
      exact tiles_step gk []
    · rw [stAt0_B m c t acc (by omega) (by omega) (by omega) (by omega) (by omega) (by omega)]
      refine ⟨?_, ?_, ?_, ?_, ?_, ?_, fun h => absurd h h7⟩
      all_goals
        frame_out
        simp only [hS.p, hS.q, hS.k, hS.o, hS.w, read_unread_whole, H.b0, H.b1, H.b2, H.b3, H.b4, H.b5, H.b6, H.b7, H.b8, lk0, lk1, lk2, lk3, lv0, lv1, lv2, lv3,
        la0, la1, la2, la3, lb0, lb1, lb2, lb3, pay18, f6, f10, f13, pay35, pay40, pay45, pay50, pay36, pay41, pay46, pay51, pay39, pay44, pay49,
        pay19, pay20, pay23, pay24, pay27, pay28, pay31, pay32, pay21, pay25, pay33, pay34, pay22, pay26, pay30, fp 0, fp 1, fp 2, fp 3,
        fds 0, fds 1, fds 2, fds 3, fdq 0, fdq 1, fdq 2, fdq 3, pay55, pay56, f12, f54, f56, f1, f55, pay7, pay8, pay17, pay57, pay58, pay2, pay3, pay11,
        pay38, pay42, pay43, pay47, pay48, pay52, pay53, pay37, gainE_up]
      exact tiles_step gk []

end Cert.MemKernelIdeal.Value
-- ==== Proof.MemVal.lean ====
module

public import proofs.«01_k».proof.Proof.MemStep

/-! What the memory branch's backward call returns, over arrays of real numbers. -/

@[expose] public section

set_option maxRecDepth 16384

noncomputable section

namespace Cert.MemKernelIdeal.Value

open Idealize.ShloMosaic Idealize.ShloMosaic.TcCoe Idealize.SL.Sem
open Cert.MemKernelIdeal Cert.MemKernelIdeal.Gen Cert.Lift Cert.MemPay Cert.MemStep Cert.MemStep.W
variable {m : (ℓ : Loc nD τ sig) → Buf (Elt Ideal) ℓ} {c : Dev nD}

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] := (by decide +kernel : ∀ t : Fin grid0.N, _)

/-- Row `r` of the block of point `n`. -/
abbrev rowAt (n : ℕ) (r : Fin 512) : Fin 4096 := ⟨(512 * n + r.val) % 4096, Nat.mod_lt _ (by norm_num)⟩

theorem sum_rows (f : Fin 4096 → ℝ) : ∑ s ∈ Finset.range 8, ∑ r : Fin 512, f (rowAt s r) = ∑ R, f R := by
  rw [Finset.sum_range]
  refine Fin.sum_mul_add_congr fun s k hl => congrArg f (Fin.ext ?_)
  show (512 * s.val + k.val) % 4096 = s.val * 512 + k.val
  omega

/-- The region's operands hold these real arrays. -/
structure Ops (m : (ℓ : Loc nD τ sig) → Buf (Elt Ideal) ℓ) (c : Dev nD) (w : W) (D Y X : M 4096 1024) (O : M 4096 512) : Prop where
  d : V m c main_arg6 = up2 D
  y : V m c main_v36 = up2 Y
  x : V m c main_arg0 = up2 X
  o : V m c main_v37 = up2 O
  kv : V m c main_v38 = up2 w.kv
  g1 : V m c main_v39 = up2 fun _ : Fin 1 => w.g1
  wq : V m c main_v40 = up2 w.wq
  wo : V m c main_v42 = up2 w.wo
  g2 : V m c main_v43 = up2 fun _ : Fin 1 => w.g2

variable {w : W} {D Y X : M 4096 1024} {O : M 4096 512}

theorem row (t : Fin cfg0.N) (s : Fin 512) : t.val * 512 + s.val = (rowAt t.val s).val := by
  have hN : t.val < 8 := lt_of_lt_of_eq t.isLt N_0
  show _ = (512 * t.val + s.val) % 4096; omega

theorem blk0 (H : Ops m c w D Y X O) (t : Fin cfg0.N) : iblk m c 0 t = up2 fun r => D (rowAt t.val r) := by
  funext i
  refine (congrFun H.d (((cfg0.win 0).blk t).view.emb i)).trans (congrArg _ (congr (congrArg D (Fin.ext ?_)) (Fin.ext ?_)))
  · blk_simp [idx t]; exact row t _
  · blk_simp [idx t]

theorem blk1 (H : Ops m c w D Y X O) (t : Fin cfg0.N) : iblk m c 1 t = up2 fun r => Y (rowAt t.val r) := by
  funext i
  refine (congrFun H.y (((cfg0.win 1).blk t).view.emb i)).trans (congrArg _ (congr (congrArg Y (Fin.ext ?_)) (Fin.ext ?_)))
  · blk_simp [idx t]; exact row t _
  · blk_simp [idx t]

theorem blk2 (H : Ops m c w D Y X O) (t : Fin cfg0.N) : iblk m c 2 t = up2 fun r => X (rowAt t.val r) := by
  funext i
  refine (congrFun H.x (((cfg0.win 2).blk t).view.emb i)).trans (congrArg _ (congr (congrArg X (Fin.ext ?_)) (Fin.ext ?_)))
  · blk_simp [idx t]; exact row t _
  · blk_simp [idx t]

theorem blk3 (H : Ops m c w D Y X O) (t : Fin cfg0.N) : iblk m c 3 t = up2 fun r => O (rowAt t.val r) := by
  funext i
  refine (congrFun H.o (((cfg0.win 3).blk t).view.emb i)).trans (congrArg _ (congr (congrArg O (Fin.ext ?_)) (Fin.ext ?_)))
  · blk_simp [idx t]; exact row t _
  · blk_simp [idx t]

theorem blk4 (H : Ops m c w D Y X O) (t : Fin cfg0.N) : iblk m c 4 t = up2 w.kv := by
  funext i
  exact (congrFun H.kv (((cfg0.win 4).blk t).view.emb i)).trans (congrArg (up2 _) (by blk_ext [idx t]))

theorem blk5 (H : Ops m c w D Y X O) (t : Fin cfg0.N) : iblk m c 5 t = up2 fun _ : Fin 1 => w.g1 := by
  funext i
  exact (congrFun H.g1 (((cfg0.win 5).blk t).view.emb i)).trans (congrArg (up2 _) (by blk_ext [idx t]))

theorem blk6 (H : Ops m c w D Y X O) (t : Fin cfg0.N) : iblk m c 6 t = up2 w.wq := by
  funext i
  exact (congrFun H.wq (((cfg0.win 6).blk t).view.emb i)).trans (congrArg (up2 _) (by blk_ext [idx t]))

theorem blk7 (H : Ops m c w D Y X O) (t : Fin cfg0.N) : iblk m c 7 t = up2 w.wo := by
  funext i
  exact (congrFun H.wo (((cfg0.win 7).blk t).view.emb i)).trans (congrArg (up2 _) (by blk_ext [idx t]))

theorem blk8 (H : Ops m c w D Y X O) (t : Fin cfg0.N) : iblk m c 8 t = up2 fun _ : Fin 1 => w.g2 := by
  funext i
  exact (congrFun H.g2 (((cfg0.win 8).blk t).view.emb i)).trans (congrArg (up2 _) (by blk_ext [idx t]))

theorem blocks (H : Ops m c w D Y X O) (t : Fin cfg0.N) :
    Blocks m c t w (fun r => D (rowAt t.val r)) (fun r => Y (rowAt t.val r)) (fun r => X (rowAt t.val r)) (fun r => O (rowAt t.val r)) :=
  ⟨blk0 H t, blk1 H t, blk2 H t, blk3 H t, blk4 H t, blk5 H t, blk6 H t, blk7 H t, blk8 H t⟩

variable (w D Y X O)

/-- What the first `n` points add to each gradient. -/
def gp (n : ℕ) (a : Fin 1024) : ℝ := ∑ s ∈ Finset.range n, ∑ r, D (rowAt s r) a * (Y (rowAt s r) a * rs (Y (rowAt s r)))
def gq (n : ℕ) (a : Fin 1024) : ℝ :=
  ∑ s ∈ Finset.range n, ∑ r, w.dh (D (rowAt s r)) (Y (rowAt s r)) (X (rowAt s r)) a * (X (rowAt s r) a * rs (X (rowAt s r)))
def gk (n : ℕ) (u : Fin 256) (a : Fin 1024) : ℝ :=
  ∑ s ∈ Finset.range n, ∑ r, w.dkv (D (rowAt s r)) (Y (rowAt s r)) (X (rowAt s r)) u a
def go (n : ℕ) (a : Fin 1024) (k : Fin 512) : ℝ :=
  ∑ s ∈ Finset.range n, ∑ r, w.dy (D (rowAt s r)) (Y (rowAt s r)) a * O (rowAt s r) k
def gw (n : ℕ) (a : Fin 1024) (k : Fin 512) : ℝ :=
  ∑ s ∈ Finset.range n, ∑ r, w.h (X (rowAt s r)) a * w.dq (D (rowAt s r)) (Y (rowAt s r)) (X (rowAt s r)) k

variable {w D Y X O}

/-- What point `n` leaves, after the points before it. -/
theorem left (H : Ops m c w D Y X O) : ∀ (n : ℕ) (hn : n < cfg0.N),
    (outsAt0 m c n hn).1 = (up2 fun r => w.dx (D (rowAt n r)) (Y (rowAt n r)) (X (rowAt n r)))
    ∧ St (outsAt0 m c n hn) (gp D Y (n + 1)) (gq w D Y X (n + 1)) (gk w D Y X (n + 1)) (go w D Y O (n + 1)) (gw w D Y X (n + 1))
    ∧ (n = 7 → (outsAt0 m c n hn).2.2.2.2.1 = up2 (go w D Y O (n + 1)) ∧ (outsAt0 m c n hn).2.2.2.2.2.1 = up2 (gw w D Y X (n + 1))) := by
  intro n hn
  have key : ∃ acc, outsAt0 m c n hn = stAt0 m c n hn acc
      ∧ (1 ≤ n → St acc (gp D Y n) (gq w D Y X n) (gk w D Y X n) (go w D Y O n) (gw w D Y X n)) := by
    cases n with
    | zero => exact ⟨junk0, outsAt0_zero m c hn, fun h => absurd h (by norm_num)⟩
    | succ n => exact ⟨_, outsAt0_succ m c n hn, fun _ => (left H n _).2.1⟩
  obtain ⟨acc, e, hacc⟩ := key
  rw [e]
  obtain ⟨h1, h2, h3, h4, h5, h6, h7⟩ := step (blocks H ⟨n, hn⟩) acc _ _ _ _ _ hacc (by
    intro h; obtain rfl : n = 0 := h
    exact ⟨by funext a; simp [gp], by funext a; simp [gq], by funext a b; simp [gk], by funext a b; simp [go], by funext a b; simp [gw]⟩)
  have f : ∀ {k l : ℕ} {A B : M k l}, (∀ i j, A i j = B i j) → (up2 A : (⟨2, ![k, l]⟩ : Shape).Idx → EReal) = up2 B :=
    fun h => funext fun i => congrArg _ (h _ _)
  exact ⟨h1, ⟨h2.trans (f fun _ _ => (Finset.sum_range_succ _ _).symm), h3.trans (f fun _ _ => (Finset.sum_range_succ _ _).symm),
    h4.trans (f fun _ _ => (Finset.sum_range_succ _ _).symm), h5.trans (f fun _ _ => (Finset.sum_range_succ _ _).symm),
    h6.trans (f fun _ _ => (Finset.sum_range_succ _ _).symm)⟩,
    fun h => ⟨(h7 h).1.trans (f fun _ _ => (Finset.sum_range_succ _ _).symm), (h7 h).2.trans (f fun _ _ => (Finset.sum_range_succ _ _).symm)⟩⟩

/-- The six results. -/
theorem G9_eq (H : Ops m c w D Y X O) : G9 m c = up2 fun R => w.dx (D R) (Y R) (X R) := by
  funext i
  have hi0 : (i 0).val < 4096 := (i 0).isLt
  have hi1 : (i 1).val < 1024 := (i 1).isLt
  have hp : pt9Of i = (i 0).val / 512 := by
    show 1 * ((i 0).val / 512 - 0) + 1 * ((i 1).val / 1024 - 0) = _; omega
  have hlt : pt9Of i < cfg0.N := by rw [hp]; exact lt_of_lt_of_eq (by omega) N_0.symm
  unfold G9
  rw [dif_pos hlt, ← outsAt0_sweep m c _ hlt, (left H _ hlt).1]
  have hr : rowAt (pt9Of i) (loc9Of i 0) = i 0 := by
    rw [hp]; apply Fin.ext
    show (512 * ((i 0).val / 512) + (i 0).val % 512) % 4096 = (i 0).val; omega
  have hc : loc9Of i 1 = i 1 := Fin.ext (by show (i 1).val % 1024 = _; omega)
  show ((w.dx (D (rowAt (pt9Of i) (loc9Of i 0))) (Y (rowAt (pt9Of i) (loc9Of i 0))) (X (rowAt (pt9Of i) (loc9Of i 0))) (loc9Of i 1) : ℝ) : EReal) = _
  rw [hr, hc]

theorem last_lt : 7 < cfg0.N := lt_of_lt_of_eq (by decide) N_0.symm

theorem G10_eq (H : Ops m c w D Y X O) : G10 m c = up2 fun _ a => ∑ R, D R a * (Y R a * rs (Y R)) := by
  rw [G10_last, ← outsAt0_sweep m c 7 last_lt, (left H 7 last_lt).2.1.p]
  funext i; exact congrArg _ (sum_rows fun R => D R (i 1) * (Y R (i 1) * rs (Y R)))

theorem G11_eq (H : Ops m c w D Y X O) : G11 m c = up2 fun _ a => ∑ R, w.dh (D R) (Y R) (X R) a * (X R a * rs (X R)) := by
  rw [G11_last, ← outsAt0_sweep m c 7 last_lt, (left H 7 last_lt).2.1.q]
  funext i; exact congrArg _ (sum_rows fun R => w.dh (D R) (Y R) (X R) (i 1) * (X R (i 1) * rs (X R)))

theorem G12_eq (H : Ops m c w D Y X O) : G12 m c = up2 fun u a => ∑ R, w.dkv (D R) (Y R) (X R) u a := by
  rw [G12_last, ← outsAt0_sweep m c 7 last_lt, (left H 7 last_lt).2.1.k]
  funext i; exact congrArg _ (sum_rows fun R => w.dkv (D R) (Y R) (X R) (i 0) (i 1))

theorem G13_eq (H : Ops m c w D Y X O) : G13 m c = up2 fun a k => ∑ R, w.dy (D R) (Y R) a * O R k := by
  rw [G13_last, ← outsAt0_sweep m c 7 last_lt, ((left H 7 last_lt).2.2 rfl).1]
  funext i; exact congrArg _ (sum_rows fun R => w.dy (D R) (Y R) (i 0) * O R (i 1))

theorem G14_eq (H : Ops m c w D Y X O) : G14 m c = up2 fun a k => ∑ R, w.h (X R) a * w.dq (D R) (Y R) (X R) k := by
  rw [G14_last, ← outsAt0_sweep m c 7 last_lt, ((left H 7 last_lt).2.2 rfl).2]
  funext i; exact congrArg _ (sum_rows fun R => w.h (X R) (i 0) * w.dq (D R) (Y R) (X R) (i 1))

end Cert.MemKernelIdeal.Value
-- ==== Proof.MemRef.lean ====
module

public import proofs.«01_k».proof.Proof.Gen.MemReferenceIdeal.Read
public import proofs.«01_k».proof.Proof.MemStep

/-! The memory branch's reference gradient, stage by stage over arrays of real numbers. -/

@[expose] public section

set_option maxRecDepth 16384

noncomputable section

namespace Cert.MemReferenceIdeal.Read

open Idealize.ShloMosaic
open Cert.MemReferenceIdeal Cert.Lift Cert.MemStep
open Cert.MemPay (M col)

variable (w : W) (X D : M 4096 1024)

/-- The branch's scores, its heads' outputs and its output projection, row by row. -/
def sc (i : Fin 4) (r : Fin 4096) (t : Fin 256) : ℝ := (∑ d, w.q (X r) (col i d) * w.kv t (kcol i d)) * scale
def oo (r : Fin 4096) (c : Fin 512) : ℝ := ∑ t, w.kv t (vcol (hd c) (dm c)) * w.p (X r) (hd c) t
def yy (r : Fin 4096) (a : Fin 1024) : ℝ := ∑ c, oo w X r c * w.wo a c

theorem v6 : val_main_v6 (F := Ideal) (up2 X) = up2 fun r _ => (rs (X r) ^ 2)⁻¹ := by
  funext i; idx_vars i; pointwise [val_main_v6, val_main_v5, val_main_cst_1, val_main_v4, val_main_v3, val_main_cst_0, val_main_v2, val_main_v1, val_main_v0, val_main_cst]
  simp only [zero_add, mul, sum, ofBits_1024, ofBits_eps, div _ _ (by norm_num : (1024 : ℝ) ≠ 0), add, ← rs_sq]; rfl

theorem v7 : val_main_v7 (F := Ideal) (up2 X) = up2 fun r _ => rs (X r) := by
  unfold val_main_v7; rw [v6]
  funext i; idx_vars i; pointwise
  simp only [← rs_sq, rsqrt_ms]

theorem v10 : val_main_v10 (F := Ideal) (up2 X) = up2 fun r _ => -(1 / 2) * rs (X r) ^ 3 := by
  unfold val_main_v10 val_main_v8; rw [v6, v7]
  funext i; idx_vars i; pointwise [val_main_v9, val_main_cst_2]
  have h := rs_pos (X i0)
  show _ * Ideal.div ((rs (X i0) : ℝ) : EReal) (((rs (X i0) ^ 2)⁻¹ : ℝ) : EReal) = ((-(1 / 2) * rs (X i0) ^ 3 : ℝ) : EReal)
  simp only [ofBits_neg_half, div _ _ (inv_ne_zero (pow_ne_zero 2 h.ne')), mul]
  congr 1; field_simp

theorem v12 : val_main_v12 (F := Ideal) (up2 X) = up2 fun r a => X r a * rs (X r) := by
  funext i; idx_vars i; pointwise [val_main_v12, val_main_v11, v7 X]; exact mul _ _

theorem v15 : val_main_v15 (F := Ideal) (up2 X) (up1 w.g1) = up2 fun r => w.h (X r) := by
  funext i; idx_vars i; pointwise [val_main_v15, val_main_v14, val_main_v13, v12 X]; exact mul _ _

theorem v17 : val_main_v17 (F := Ideal) (up2 X) (up1 w.g1) (up2 w.wq) = up3 fun r i e => w.q (X r) (col i e) := by
  funext i; idx_vars i; pointwise [val_main_v17, val_main_v16, v15 w X]; simp only [mul, sum]; rfl

theorem v19 : val_main_v19 (F := Ideal) (up2 w.kv) = up3 fun t i e => w.kv t (kcol i e) := by
  funext i; idx_vars i; pointwise [val_main_v19, val_main_v18]; rfl

theorem v21 : val_main_v21 (F := Ideal) (up2 w.kv) = up3 fun t i e => w.kv t (vcol i e) := by
  funext i; idx_vars i; pointwise [val_main_v21, val_main_v20]
  exact congrArg (fun k => ((w.kv i0 k : ℝ) : EReal)) (Fin.ext (by show 512 + (i1.val * 128 + i2.val) = 512 + i1.val * 128 + i2.val; omega))

theorem v24 : val_main_v24 (F := Ideal) (up2 X) (up2 w.kv) (up1 w.g1) (up2 w.wq) = up3 (sc w X) := by
  funext i; idx_vars i; pointwise [val_main_v24, val_main_v23, val_main_cst_3, val_main_v22, v17 w X, v19 w]
  simp only [mul, sum, ofBits_scale]; rfl

theorem v25 : ∃ Q : M 4 4096, val_main_v25 (F := Ideal) (up2 X) (up2 w.kv) (up1 w.g1) (up2 w.wq) = up2 Q := by
  refine ⟨fun i r => (fold_max (by norm_num) (sc w X i r)).choose, ?_⟩
  funext i; idx_vars i; pointwise [val_main_v25, val_main_cst_4, v24 w X]
  exact (fold_max (by norm_num) (sc w X i0 i1)).choose_spec

/-- The largest score of a row. -/
def mx : M 4 4096 := (v25 w X).choose

theorem v32 : val_main_v32 (F := Ideal) (up2 X) (up2 w.kv) (up1 w.g1) (up2 w.wq) = up2 (mx w X) := by
  unfold val_main_v32; rw [(v25 w X).choose_spec]
  funext i; idx_vars i; pointwise [val_main_v31, val_main_cst_6]
  rw [ofBits_neg_inf]; exact max_eq_right bot_le

theorem v45 : val_main_v45 (F := Ideal) (up2 X) (up2 w.kv) (up1 w.g1) (up2 w.wq) = up3 fun i r t => Real.exp (sc w X i r t - mx w X i r) := by
  funext i; idx_vars i; pointwise [val_main_v45, val_main_v44, val_main_v43, val_main_v42, v24 w X, v32 w X]
  simp only [sub, exp]; rfl

/-- The sum of a row's exponentials. -/
def den (i : Fin 4) (r : Fin 4096) : ℝ := ∑ t, Real.exp (sc w X i r t - mx w X i r)

theorem den_pos (i : Fin 4) (r : Fin 4096) : 0 < den w X i r := exp_sum_pos (by norm_num) _

theorem v47 : val_main_v47 (F := Ideal) (up2 X) (up2 w.kv) (up1 w.g1) (up2 w.wq) = up3 fun i r _ => den w X i r := by
  funext i; idx_vars i; pointwise [val_main_v47, val_main_v46, val_main_cst_12, v45 w X]
  simp only [sum, zero_add]; rfl

theorem p_eq (i : Fin 4) (r : Fin 4096) (t : Fin 256) : Real.exp (sc w X i r t - mx w X i r) / den w X i r = w.p (X r) i t :=
  soft_shift _ _ _

theorem v49 : val_main_v49 (F := Ideal) (up2 X) (up2 w.kv) (up1 w.g1) (up2 w.wq) = up3 fun i r t => w.p (X r) i t := by
  funext i; idx_vars i; pointwise [val_main_v49, val_main_v48, v47 w X, v45 w X]
  exact (div _ _ (den_pos w X i0 i1).ne').trans (congrArg (fun z : ℝ => (z : EReal)) (p_eq w X i0 i1 i2))

theorem v52 : val_main_v52 (F := Ideal) (up2 X) (up2 w.kv) (up1 w.g1) (up2 w.wq) = up3 fun i r _ => 1 / (den w X i r * den w X i r) := by
  funext i; idx_vars i; pointwise [val_main_v52, val_main_v51, val_main_cst_13, val_main_v50, v47 w X]
  have h := (den_pos w X i0 i1).ne'
  rw [mul, ← EReal.coe_one]; exact div _ _ (mul_ne_zero h h)

theorem v55 : val_main_v55 (F := Ideal) (up2 X) (up2 w.kv) (up1 w.g1) (up2 w.wq) = up2 (oo w X) := by
  funext i; idx_vars i; pointwise [val_main_v55, val_main_v54, val_main_v53, v49 w X, v21 w]
  simp only [mul, sum]; rfl

theorem v56 : val_main_v56 (F := Ideal) (up2 X) (up2 w.kv) (up1 w.g1) (up2 w.wq) (up2 fun c a => w.wo a c) = up2 (yy w X) := by
  funext i; idx_vars i; pointwise [val_main_v56, v55 w X]; simp only [mul, sum]; rfl

theorem v63 : val_main_v63 (F := Ideal) (up2 X) (up2 w.kv) (up1 w.g1) (up2 w.wq) (up2 fun c a => w.wo a c) = up2 fun r _ => (rs (yy w X r) ^ 2)⁻¹ := by
  funext i; idx_vars i
  pointwise [val_main_v63, val_main_v62, val_main_cst_16, val_main_v61, val_main_v60, val_main_cst_15, val_main_v59, val_main_v58, val_main_v57, val_main_cst_14, v56 w X]
  simp only [zero_add, mul, sum, ofBits_1024, ofBits_eps, div _ _ (by norm_num : (1024 : ℝ) ≠ 0), add, ← rs_sq]; rfl

theorem v64 : val_main_v64 (F := Ideal) (up2 X) (up2 w.kv) (up1 w.g1) (up2 w.wq) (up2 fun c a => w.wo a c) = up2 fun r _ => rs (yy w X r) := by
  unfold val_main_v64; rw [v63]
  funext i; idx_vars i; pointwise
  simp only [← rs_sq, rsqrt_ms]

theorem v67 : val_main_v67 (F := Ideal) (up2 X) (up2 w.kv) (up1 w.g1) (up2 w.wq) (up2 fun c a => w.wo a c) = up2 fun r _ => -(1 / 2) * rs (yy w X r) ^ 3 := by
  unfold val_main_v67 val_main_v65; rw [v63, v64]
  funext i; idx_vars i; pointwise [val_main_v66, val_main_cst_17]
  have h := rs_pos (yy w X i0)
  show _ * Ideal.div ((rs (yy w X i0) : ℝ) : EReal) (((rs (yy w X i0) ^ 2)⁻¹ : ℝ) : EReal) = ((-(1 / 2) * rs (yy w X i0) ^ 3 : ℝ) : EReal)
  simp only [ofBits_neg_half, div _ _ (inv_ne_zero (pow_ne_zero 2 h.ne')), mul]
  congr 1; field_simp

theorem v79 : val_main_v79 (F := Ideal) (up1 w.g2) (up2 D) = up2 fun r a => D r a * w.g2 a := by
  funext i; idx_vars i; pointwise [val_main_v79, val_main_v78, val_main_v70, val_main_v74]; exact mul _ _

/-- The root-mean-square step's gradient as the chain rule spells it. -/
theorem chain (f y : Fin 1024 → ℝ) (a : Fin 1024) :
    f a * rs y + y a * ((∑ b, y b * f b) * (-(1 / 2) * rs y ^ 3) / 1024) + (∑ b, y b * f b) * (-(1 / 2) * rs y ^ 3) / 1024 * y a = rmsb f y a := by
  have h : ∑ b, y b * f b = ∑ b, f b * y b := Finset.sum_congr rfl fun b _ => mul_comm _ _
  rw [rmsb, h]; ring

theorem v94 : val_main_v94 (F := Ideal) (up2 X) (up2 w.kv) (up1 w.g1) (up2 w.wq) (up2 fun c a => w.wo a c) (up1 w.g2) (up2 D)
    = up2 fun r => w.dy (D r) (yy w X r) := by
  funext i; idx_vars i
  pointwise [val_main_v94, val_main_v93, val_main_v92, val_main_v91, val_main_v90, val_main_v89, val_main_cst_22, val_main_v88, val_main_v87, val_main_cst_21, val_main_v86,
    val_main_v85, val_main_v84, val_main_v83, val_main_v82, val_main_v81, val_main_cst_20, v79 w D, v67 w X, v64 w X, v56 w X]
  simp only [Fin.sum_univ_one, zero_add, mul, sum, ofBits_1024, div _ _ (by norm_num : (1024 : ℝ) ≠ 0), add]
  exact congrArg _ (chain (fun a => D i0 a * w.g2 a) (yy w X i0) i1)

theorem v99 : val_main_v99 (F := Ideal) (up2 X) (up2 w.kv) (up1 w.g1) (up2 w.wq) (up2 fun c a => w.wo a c) (up1 w.g2) (up2 D)
    = up3 fun i e r => w.dom (D r) (yy w X r) (col i e) := by
  funext i; idx_vars i; pointwise [val_main_v99, val_main_v98, val_main_v97, v94 w X D]; simp only [mul, sum]; rfl

theorem v100 : val_main_v100 (F := Ideal) (up2 X) (up2 w.kv) (up1 w.g1) (up2 w.wq) (up2 fun c a => w.wo a c) (up1 w.g2) (up2 D)
    = up3 fun i r t => ∑ e, w.dom (D r) (yy w X r) (col i e) * w.kv t (vcol i e) := by
  funext i; idx_vars i; pointwise [val_main_v100, v99 w X D, v21 w]; simp only [mul, sum]; rfl

/-- The softmax's gradient as the quotient rule spells it. -/
theorem quot (i : Fin 4) (r : Fin 4096) (f : Fin 256 → ℝ) (t : Fin 256) :
    (f t / den w X i r + -∑ u, f u * (1 / (den w X i r * den w X i r)) * Real.exp (sc w X i r u - mx w X i r)) * Real.exp (sc w X i r t - mx w X i r) * scale
      = dsoft (w.p (X r) i) f t := by
  have h := (den_pos w X i r).ne'
  simp only [dsoft, ← p_eq w X]
  have hs : ∑ u, f u * (1 / (den w X i r * den w X i r)) * Real.exp (sc w X i r u - mx w X i r)
      = (∑ u, f u * (Real.exp (sc w X i r u - mx w X i r) / den w X i r)) / den w X i r := by
    rw [Finset.sum_div]; exact Finset.sum_congr rfl fun u _ => by field_simp
  rw [hs]; field_simp; ring

theorem v116 : val_main_v116 (F := Ideal) (up2 X) (up2 w.kv) (up1 w.g1) (up2 w.wq) (up2 fun c a => w.wo a c) (up1 w.g2) (up2 D)
    = up3 fun i r t => w.dsc (D r) (yy w X r) (X r) i t := by
  funext i; idx_vars i
  pointwise [val_main_v116, val_main_v115, val_main_cst_25, val_main_v114, val_main_v113, val_main_v112, val_main_v111, val_main_cst_24, val_main_v110, val_main_v109,
    val_main_v108, val_main_v107, val_main_v106, val_main_cst_23, val_main_v105, val_main_v104, val_main_v103, v100 w X D, v52 w X, v47 w X, v45 w X]
  simp only [Fin.sum_univ_one, zero_add, mul, sum, neg, ofBits_scale]
  refine Eq.trans ?_ (congrArg (fun z : ℝ => (z : EReal)) (quot w X i0 i1 (fun t => ∑ e, w.dom (D i1) (yy w X i1) (col i0 e) * w.kv t (vcol i0 e)) i2))
  refine congrArg (· * ((scale : ℝ) : EReal)) (congrArg (· * _) (congrArg (· + _) (div _ _ (den_pos w X i0 i1).ne'))) |>.trans ?_
  simp only [mul, add]; rfl

theorem v126 : val_main_v126 (F := Ideal) (up2 X) (up2 w.kv) (up1 w.g1) (up2 w.wq) (up2 fun c a => w.wo a c) (up1 w.g2) (up2 D)
    = up2 fun r => w.dq (D r) (yy w X r) (X r) := by
  funext i; idx_vars i; pointwise [val_main_v126, val_main_v120, val_main_v119, v116 w X D, v19 w]; simp only [mul, sum]; rfl

theorem col_hd (c : Fin 512) : col (hd c) (dm c) = c := Fin.ext (Nat.div_add_mod' c.val 128)

theorem v125 : val_main_v125 (F := Ideal) (up2 X) (up2 w.kv) (up1 w.g1) (up2 w.wq) (up2 fun c a => w.wo a c) (up1 w.g2) (up2 D)
    = up2 fun u a => ∑ r, w.dkv (D r) (yy w X r) (X r) u a := by
  funext i; idx_vars i
  by_cases h : (i1 : ℕ) < 512
  · pointwise [val_main_v125, val_main_v124, val_main_cst_27, val_main_v123, val_main_v118, val_main_v117, val_main_v122, val_main_cst_26, v116 w X D, v17 w X]
    rw [dif_neg (by omega), dif_pos h, zero_add]
    simp only [mul, sum]
    refine congrArg _ (Finset.sum_congr rfl fun r _ => Eq.trans ?_ (dif_pos h).symm)
    show _ = _ * w.q (X r) ⟨i1, h⟩
    exact congrArg (fun z => _ * w.q (X r) z) (col_hd ⟨i1, h⟩)
  · pointwise [val_main_v125, val_main_v124, val_main_cst_27, val_main_v122, val_main_cst_26, val_main_v121, val_main_v102, val_main_v101, v99 w X D, v49 w X]
    rw [dif_pos (by omega), dif_neg h, add_zero]
    simp only [mul, sum]
    refine congrArg _ (Finset.sum_congr rfl fun r _ => Eq.trans ?_ (dif_neg h).symm)
    show _ = _ * w.dom (D r) (yy w X r) ⟨i1 - 512, by omega⟩
    exact (mul_comm _ _).trans (congrArg (fun z => _ * w.dom (D r) (yy w X r) z) (col_hd ⟨i1 - 512, by omega⟩))

theorem v129 : val_main_v129 (F := Ideal) (up2 X) (up2 w.kv) (up1 w.g1) (up2 w.wq) (up2 fun c a => w.wo a c) (up1 w.g2) (up2 D)
    = up2 fun r => w.dh (D r) (yy w X r) (X r) := by
  funext i; idx_vars i; pointwise [val_main_v129, v126 w X D]; simp only [mul, sum]; rfl

theorem v134 : val_main_v134 (F := Ideal) (up2 X) (up2 w.kv) (up1 w.g1) (up2 w.wq) (up2 fun c a => w.wo a c) (up1 w.g2) (up2 D)
    = up2 fun r a => w.dh (D r) (yy w X r) (X r) a * w.g1 a := by
  funext i; idx_vars i; pointwise [val_main_v134, val_main_v133, val_main_v13, v129 w X D]; exact mul _ _

theorem v150 : val_main_v150 (F := Ideal) (up2 X) (up2 w.kv) (up1 w.g1) (up2 w.wq) (up2 fun c a => w.wo a c) (up1 w.g2) (up2 D)
    = up2 fun r => w.dx (D r) (yy w X r) (X r) := by
  funext i; idx_vars i
  pointwise [val_main_v150, val_main_v149, val_main_v148, val_main_v147, val_main_v146, val_main_v145, val_main_cst_32, val_main_v144, val_main_v143, val_main_cst_31,
    val_main_v142, val_main_v141, val_main_v140, val_main_v139, val_main_v138, val_main_v137, val_main_v136, val_main_cst_30, v134 w X D, v10 X, v7 X]
  simp only [Fin.sum_univ_one, zero_add, mul, sum, ofBits_1024, div _ _ (by norm_num : (1024 : ℝ) ≠ 0), add]
  refine congrArg _ (Eq.trans ?_ (congrArg (D i0 i1 + ·) (chain (fun a => w.dh (D i0) (yy w X i0) (X i0) a * w.g1 a) (X i0) i1)))
  exact (congrArg (· + _) (add_assoc _ _ _)).trans (add_assoc _ _ _)

theorem v151 : val_main_v151 (F := Ideal) (up2 X) (up2 w.kv) (up1 w.g1) (up2 w.wq) (up2 fun c a => w.wo a c) (up2 D)
    = up2 fun _ a => ∑ r, D r a * (yy w X r a * rs (yy w X r)) := by
  funext i; idx_vars i
  pointwise [val_main_v151, val_main_v80, val_main_cst_19, val_main_v77, val_main_v76, val_main_cst_18, val_main_v75, val_main_v74, val_main_v69, val_main_v68, v64 w X, v56 w X]
  simp only [Fin.sum_univ_one, zero_add, mul, sum]
  exact congrArg _ (Finset.sum_congr rfl fun r _ => mul_comm _ _)

theorem v152 : val_main_v152 (F := Ideal) (up2 X) (up2 w.kv) (up1 w.g1) (up2 w.wq) (up2 fun c a => w.wo a c) (up1 w.g2) (up2 D)
    = up2 fun _ a => ∑ r, w.dh (D r) (yy w X r) (X r) a * (X r a * rs (X r)) := by
  funext i; idx_vars i
  pointwise [val_main_v152, val_main_v135, val_main_cst_29, val_main_v132, val_main_v131, val_main_cst_28, val_main_v130, v129 w X D, v12 X]
  simp only [Fin.sum_univ_one, zero_add, mul, sum]
  exact congrArg _ (Finset.sum_congr rfl fun r _ => mul_comm _ _)

theorem v154 : val_main_v154 (F := Ideal) (up2 X) (up2 w.kv) (up1 w.g1) (up2 w.wq) (up2 fun c a => w.wo a c) (up1 w.g2) (up2 D)
    = up2 fun a k => ∑ r, w.dy (D r) (yy w X r) a * oo w X r k := by
  funext i; idx_vars i; pointwise [val_main_v154, val_main_v153, val_main_v96, val_main_v95, v94 w X D, v55 w X]; simp only [mul, sum]; rfl

theorem v155 : val_main_v155 (F := Ideal) (up2 X) (up2 w.kv) (up1 w.g1) (up2 w.wq) (up2 fun c a => w.wo a c) (up1 w.g2) (up2 D)
    = up2 fun a k => ∑ r, w.h (X r) a * w.dq (D r) (yy w X r) (X r) k := by
  funext i; idx_vars i; pointwise [val_main_v155, val_main_v128, val_main_v127, v126 w X D, v15 w X]; simp only [mul, sum]
  exact congrArg _ (Finset.sum_congr rfl fun r _ => mul_comm _ _)

end Cert.MemReferenceIdeal.Read
-- ==== Proof.Mem.lean ====
module

public import proofs.«01_k».proof.Defs
public import proofs.«01_k».proof.Proof.Finite
public import proofs.«01_k».proof.Proof.MemVal
public import proofs.«01_k».proof.Proof.MemRef
public import proofs.«01_k».proof.Proof.Gen.MemReferenceIdeal.Run
public import proofs.«01_k».proof.Proof.Gen.Pre_finite_mem
public import Idealize.ShloMosaic.Lib.Quiescent

/-! The memory branch's backward call: its frames and its value claim. -/

@[expose] public section

set_option maxRecDepth 16384

noncomputable section

namespace Cert.MemKernelIdeal.Value

open Idealize.ShloMosaic Idealize.ShloMosaic.TcCoe Idealize.SL.Sem
open Cert.MemKernelIdeal Cert.MemKernelIdeal.Gen Cert.Lift Cert.MemStep
open Cert.MemPay (M)

variable (m : (ℓ : Loc nD τ sig) → Buf (Elt Ideal) ℓ) (c : Dev nD)

theorem e36 : V m c main_v36 = Cert.MemReferenceIdeal.Read.val_main_v56 (F := Ideal) (V m c main_arg0) (V m c main_arg1) (V m c main_arg2) (V m c main_arg3) (V m c main_arg4) := by
  entry_read; rfl

theorem e37 : V m c main_v37 = Cert.MemReferenceIdeal.Read.val_main_v55 (F := Ideal) (V m c main_arg0) (V m c main_arg1) (V m c main_arg2) (V m c main_arg3) := by
  entry_read; rfl

theorem e43 : V m c main_v43 = shapeCast _ (V m c main_arg5) shapeCasts_S1024_S1x1024 := by
  entry_read; rfl

theorem ops (w : W) (X D : M 4096 1024) (h0 : m ((c : Thread nD τ).loc main_arg0) = up2 X) (h1 : m ((c : Thread nD τ).loc main_arg1) = up2 w.kv)
    (h2 : m ((c : Thread nD τ).loc main_arg2) = up1 w.g1) (h3 : m ((c : Thread nD τ).loc main_arg3) = up2 w.wq)
    (h4 : m ((c : Thread nD τ).loc main_arg4) = up2 fun k a => w.wo a k) (h5 : m ((c : Thread nD τ).loc main_arg5) = up1 w.g2)
    (h6 : m ((c : Thread nD τ).loc main_arg6) = up2 D) :
    Ops m c w D (Cert.MemReferenceIdeal.Read.yy w X) X (Cert.MemReferenceIdeal.Read.oo w X) where
  d := (V_main_arg6 m c).trans h6
  y := by rw [e36, V_main_arg0, V_main_arg1, V_main_arg2, V_main_arg3, V_main_arg4, h0, h1, h2, h3, h4]; exact Cert.MemReferenceIdeal.Read.v56 w X
  x := (V_main_arg0 m c).trans h0
  o := by rw [e37, V_main_arg0, V_main_arg1, V_main_arg2, V_main_arg3, h0, h1, h2, h3]; exact Cert.MemReferenceIdeal.Read.v55 w X
  kv := by entry_read; rw [h1]; rfl
  g1 := by entry_read; rw [h2]; funext i; idx_vars i; pointwise; rfl
  wq := by entry_read; rw [h3]; rfl
  wo := by entry_read; rw [h4]; funext i; idx_vars i; pointwise; rfl
  g2 := by entry_read; rw [h5]; funext i; idx_vars i; pointwise; rfl

end Cert.MemKernelIdeal.Value

namespace Cert.Proof.Mem

open Idealize.ShloMosaic Idealize.ShloMosaic.TcCoe Idealize.SL.Sem
open Cert.Lift

/-- The reference runs, keeps its arguments, and leaves every semaphore at zero. -/
theorem frameR : Cert.quiescent_MemReferenceIdeal := fun m ρ _ =>
  (θ_run Cert.MemReferenceIdeal.defs _ _).mono (fun r h => ⟨fun c => (h c).2.2.2.2.2.2, sem_eq_zero_of_no_sems (by decide) r.2⟩)
    (Cert.MemReferenceIdeal.Value.run (F := Ideal) m ρ)

/-- Every argument the precondition reads is an array of real numbers. -/
theorem real (x0 : FVec Ideal ⟨2, ![4096, 1024]⟩ .f32) (x1 : FVec Ideal ⟨2, ![256, 1024]⟩ .f32) (x2 : FVec Ideal ⟨1, ![1024]⟩ .f32)
    (x3 : FVec Ideal ⟨2, ![1024, 512]⟩ .f32) (x4 : FVec Ideal ⟨2, ![512, 1024]⟩ .f32) (x5 : FVec Ideal ⟨1, ![1024]⟩ .f32) (x6 : FVec Ideal ⟨2, ![4096, 1024]⟩ .f32)
    (h : Cert.Pre_finite_mem.fn (F := Ideal) x0 x1 x2 x3 x4 x5 x6 = fun _ => 1#1) :
    Fin' x0 ∧ Fin' x1 ∧ Fin' x2 ∧ Fin' x3 ∧ Fin' x4 ∧ Fin' x5 ∧ Fin' x6 := by
  have h' := congrFun h (fun k => k.elim0)
  simp only [Cert.Pre_finite_mem.fn, Cert.Pre_finite_mem.fn_part1, andi_apply, IntOp.andi_eq_one] at h'
  obtain ⟨⟨⟨⟨⟨⟨h0, h1⟩, h2⟩, h3⟩, h4⟩, h5⟩, h6⟩ := h'
  exact ⟨fin_of _ _ _ _ _ _ h0, fin_of _ _ _ _ _ _ h1, fin_of _ _ _ _ _ _ h2, fin_of _ _ _ _ _ _ h3, fin_of _ _ _ _ _ _ h4, fin_of _ _ _ _ _ _ h5, fin_of _ _ _ _ _ _ h6⟩

/-- The kernel's six results are the reference's. -/
theorem algebraic : Cert.algebraic_MemKernelIdeal_MemReferenceIdeal_pre_finite_mem := by
  intro m ρ m' ρ' hpre hagree
  refine ⟨_, _, _, _, _, _, Cert.MemKernelIdeal.Value.run (F := Ideal) m ρ, ?_⟩
  refine (θ_run Cert.MemReferenceIdeal.defs _ _).mono (fun _ h c => ?_) (Cert.MemReferenceIdeal.Value.run (F := Ideal) m' ρ')
  obtain ⟨r0, r1, r2, r3, r4, r5, hk⟩ := h c
  obtain ⟨q0, q1, q2, q3, q4, q5, q6⟩ := real _ _ _ _ _ _ _ (hpre c)
  obtain ⟨X, h0⟩ := q0.up2
  obtain ⟨kv, h1⟩ := q1.up2
  obtain ⟨g1, h2⟩ := q2.up1
  obtain ⟨wq, h3⟩ := q3.up2
  obtain ⟨wo, h4⟩ := q4.up2
  obtain ⟨g2, h5⟩ := q5.up1
  obtain ⟨D, h6⟩ := q6.up2
  obtain ⟨a0, a1, a2, a3, a4, a5, a6⟩ := hagree c
  have H := Cert.MemKernelIdeal.Value.ops m c ⟨g1, g2, wq, fun a k => wo k a, kv⟩ X D h0 h1 h2 h3 h4 h5 h6
  rw [h0] at a0; rw [h1] at a1; rw [h2] at a2; rw [h3] at a3; rw [h4] at a4; rw [h5] at a5; rw [h6] at a6
  have b0 : StableHlo.launchContents m' c (Proc.devRef .tc Cert.MemReferenceIdeal.main_arg0) = up2 X := a0
  have b1 : StableHlo.launchContents m' c (Proc.devRef .tc Cert.MemReferenceIdeal.main_arg1) = up2 kv := a1
  have b2 : StableHlo.launchContents m' c (Proc.devRef .tc Cert.MemReferenceIdeal.main_arg2) = up1 g1 := a2
  have b3 : StableHlo.launchContents m' c (Proc.devRef .tc Cert.MemReferenceIdeal.main_arg3) = up2 wq := a3
  have b4 : StableHlo.launchContents m' c (Proc.devRef .tc Cert.MemReferenceIdeal.main_arg4) = up2 wo := a4
  have b5 : StableHlo.launchContents m' c (Proc.devRef .tc Cert.MemReferenceIdeal.main_arg5) = up1 g2 := a5
  have b6 : StableHlo.launchContents m' c (Proc.devRef .tc Cert.MemReferenceIdeal.main_arg6) = up2 D := a6
  rw [Cert.MemReferenceIdeal.Read.val_main_v150_eq, b0, b1, b2, b3, b4, b5, b6] at r0
  rw [Cert.MemReferenceIdeal.Read.val_main_v151_eq, b0, b1, b2, b3, b4, b6] at r1
  rw [Cert.MemReferenceIdeal.Read.val_main_v152_eq, b0, b1, b2, b3, b4, b5, b6] at r2
  rw [Cert.MemReferenceIdeal.Read.val_main_v125_eq, b0, b1, b2, b3, b4, b5, b6] at r3
  rw [Cert.MemReferenceIdeal.Read.val_main_v154_eq, b0, b1, b2, b3, b4, b5, b6] at r4
  rw [Cert.MemReferenceIdeal.Read.val_main_v155_eq, b0, b1, b2, b3, b4, b5, b6] at r5
  exact ⟨r0.trans ((Cert.MemReferenceIdeal.Read.v150 ⟨g1, g2, wq, fun a k => wo k a, kv⟩ X D).trans (Cert.MemKernelIdeal.Value.G9_eq H).symm),
    r1.trans ((Cert.MemReferenceIdeal.Read.v151 ⟨g1, g2, wq, fun a k => wo k a, kv⟩ X D).trans (Cert.MemKernelIdeal.Value.G10_eq H).symm),
    r2.trans ((Cert.MemReferenceIdeal.Read.v152 ⟨g1, g2, wq, fun a k => wo k a, kv⟩ X D).trans (Cert.MemKernelIdeal.Value.G11_eq H).symm),
    r3.trans ((Cert.MemReferenceIdeal.Read.v125 ⟨g1, g2, wq, fun a k => wo k a, kv⟩ X D).trans (Cert.MemKernelIdeal.Value.G12_eq H).symm),
    r4.trans ((Cert.MemReferenceIdeal.Read.v154 ⟨g1, g2, wq, fun a k => wo k a, kv⟩ X D).trans (Cert.MemKernelIdeal.Value.G13_eq H).symm),
    r5.trans ((Cert.MemReferenceIdeal.Read.v155 ⟨g1, g2, wq, fun a k => wo k a, kv⟩ X D).trans (Cert.MemKernelIdeal.Value.G14_eq H).symm), hk⟩

end Cert.Proof.Mem

end
-- ==== Proof.MemFwd.lean ====
module

public import proofs.«01_k».proof.Defs
public import proofs.«01_k».proof.Proof.Gen.MemFwdKernelIdeal.Value
public import proofs.«01_k».proof.Proof.Gen.MemFwdReferenceIdeal.Run
public import proofs.«01_k».proof.Proof.Gen.MemFwdReferenceIdeal.Read
public import Idealize.ShloMosaic.Lib.Pipeline.ValueKit
public import Idealize.ShloMosaic.Lib.Quiescent

/-! The memory branch's forward call. Both programs compute each row the same way, over all extended reals. -/

@[expose] public section

set_option maxRecDepth 16384

noncomputable section

namespace Cert.MemFwd

open Idealize.ShloMosaic

/-- Matrices, rows and stacks of extended reals as arrays. -/
abbrev E (n m : ℕ) := Fin n → Fin m → EReal
abbrev e2 {n m : ℕ} (f : E n m) : (⟨2, ![n, m]⟩ : Shape).Idx → EReal := fun i => f (i 0) (i 1)
abbrev e1 {n : ℕ} (f : Fin n → EReal) : (⟨1, ![n]⟩ : Shape).Idx → EReal := fun i => f (i 0)
abbrev e3 {n m k : ℕ} (f : Fin n → Fin m → Fin k → EReal) : (⟨3, ![n, m, k]⟩ : Shape).Idx → EReal := fun i => f (i 0) (i 1) (i 2)

theorem exists_e2 {n m : ℕ} (x : (⟨2, ![n, m]⟩ : Shape).Idx → EReal) : ∃ f : E n m, x = e2 f :=
  ⟨fun a b => x (ix2 a b), funext fun i => congrArg x (by funext a; match a with | ⟨0, _⟩ => rfl | ⟨1, _⟩ => rfl)⟩
theorem exists_e1 {n : ℕ} (x : (⟨1, ![n]⟩ : Shape).Idx → EReal) : ∃ f : Fin n → EReal, x = e1 f :=
  ⟨fun a => x (ix1 a), funext fun i => congrArg x (by funext a; match a with | ⟨0, _⟩ => rfl)⟩

abbrev qcol (h : Fin 4) (d : Fin 128) : Fin 512 := ⟨h.val * 128 + d.val, by omega⟩
abbrev kcol (h : Fin 4) (d : Fin 128) : Fin 1024 := ⟨h.val * 128 + d.val, by omega⟩
abbrev vcol (h : Fin 4) (d : Fin 128) : Fin 1024 := ⟨512 + h.val * 128 + d.val, by omega⟩

/-- The inverse root of a row's mean square plus 1e-6. -/
def rs (x : Fin 1024 → EReal) : EReal :=
  Ideal.rsqrt (Ideal.div (∑ a, x a * x a) (Ideal.ofBits .f32 0x44800000#32) + Ideal.ofBits .f32 0x358637BD#32)

/-- The weights of one head from its scores. -/
def soft (s : Fin 256 → EReal) (t : Fin 256) : EReal :=
  Ideal.div (Ideal.exp (s t - Finset.univ.fold max (Ideal.ofBits .f32 0xFF800000#32) s))
    (∑ u, Ideal.exp (s u - Finset.univ.fold max (Ideal.ofBits .f32 0xFF800000#32) s))

/-- The arrays a row is computed from: gains, query and output weights, keys and values. -/
structure W where
  g1 : Fin 1024 → EReal
  g2 : Fin 1024 → EReal
  wq : E 1024 512
  wo : E 1024 512
  kv : E 256 1024

namespace W
variable (w : W)
def q (x : Fin 1024 → EReal) (c : Fin 512) : EReal := ∑ a, x a * rs x * w.g1 a * w.wq a c
def s (q : Fin 128 → EReal) (k : E 256 128) (t : Fin 256) : EReal := (∑ d, q d * k t d) * Ideal.ofBits .f32 0x3DB504F3#32
def p (x : Fin 1024 → EReal) (h : Fin 4) : Fin 256 → EReal := soft (s (fun d => w.q x (qcol h d)) fun t d => w.kv t (kcol h d))
def o (x : Fin 1024 → EReal) (c : Fin 512) : EReal :=
  ∑ t, w.p x ⟨c.val / 128, by omega⟩ t * w.kv t (vcol ⟨c.val / 128, by omega⟩ ⟨c.val % 128, by omega⟩)
def y (x : Fin 1024 → EReal) (a : Fin 1024) : EReal := ∑ c, w.o x c * w.wo a c
def out (x : Fin 1024 → EReal) (a : Fin 1024) : EReal := x a + w.y x a * rs (w.y x) * w.g2 a
end W

end Cert.MemFwd

namespace Cert.MemFwdKernelIdeal.Value

open Idealize.ShloMosaic Idealize.ShloMosaic.TcCoe Idealize.SL.Sem
open Cert.MemFwdKernelIdeal Cert.MemFwdKernelIdeal.Gen Cert.MemFwd Cert.MemFwd.W

section
variable (w : W) (x : E 512 1024)

theorem pay2 : k0_pay2 (F := Ideal) (e2 x) (e2 fun _ : Fin 1 => w.g1) (e2 w.wq) = e2 fun r => w.q (x r) := by
  funext i; idx_vars i; pointwise [k0_pay2]; rfl

theorem pay3 (v : E 256 128) : k0_pay3 (F := Ideal) (e2 v) = e2 v := by funext i; pointwise [k0_pay3]

theorem pay4 (k : E 256 128) : k0_pay4 (F := Ideal) (e2 x) (e2 fun _ : Fin 1 => w.g1) (e2 w.wq) (e2 k)
    = e2 fun r => soft (s (fun d => w.q (x r) (qcol 0 d)) k) := by
  unfold k0_pay4; rw [pay2]
  have hq : ∀ d : Fin 128, qcol 0 d = ⟨d.val, by omega⟩ := fun d => Fin.ext (by simp [qcol])
  funext i; idx_vars i; pointwise; simp only [hq]; rfl

theorem pay5 : k0_pay5 (F := Ideal) (e2 x) (e2 fun _ : Fin 1 => w.g1) (e2 w.wq) = e2 fun r d => w.q (x r) (qcol 1 d) := by
  unfold k0_pay5; rw [pay2]
  funext i; idx_vars i; pointwise; rfl

theorem pay7 (q : E 512 128) (k : E 256 128) : k0_pay7 (F := Ideal) (e2 q) (e2 k) = e2 fun r => soft (s (q r) k) := by
  funext i; idx_vars i; pointwise [k0_pay7]; rfl

theorem pay9 (q : E 512 512) (k : E 256 128) : k0_pay9 (F := Ideal) (e2 q) (e2 k) = e2 fun r => soft (s (fun d => q r (qcol 2 d)) k) := by
  funext i; idx_vars i; pointwise [k0_pay9]; rfl

theorem pay11 (q : E 512 512) (k : E 256 128) : k0_pay11 (F := Ideal) (e2 q) (e2 k) = e2 fun r t => ∑ d, q r (qcol 3 d) * k t d := by
  funext i; idx_vars i; pointwise [k0_pay11]; rfl

/-- The heads' outputs side by side. -/
theorem pay12 (v : Fin 4 → E 256 128) (p : Fin 4 → E 512 256) (z : E 512 256)
    (hz : ∀ r, p 3 r = soft fun t => z r t * Ideal.ofBits .f32 0x3DB504F3#32) :
    k0_pay12 (F := Ideal) (e2 (v 0)) (e2 (p 0)) (e2 (v 1)) (e2 (p 1)) (e2 (v 2)) (e2 (p 2)) (e2 (v 3)) (e2 z)
      = e2 fun r c => ∑ t, p ⟨c.val / 128, by omega⟩ r t * v ⟨c.val / 128, by omega⟩ t ⟨c.val % 128, by omega⟩ := by
  funext i; idx_vars i; pointwise [k0_pay12]
  have key : ∀ (h : Fin 4) (d : Fin 128), i1 = qcol h d →
      (∑ t, p ⟨i1.val / 128, by omega⟩ i0 t * v ⟨i1.val / 128, by omega⟩ t ⟨i1.val % 128, by omega⟩ : EReal) = ∑ t, p h i0 t * v h t d := by
    intro h d e
    have e' : i1.val = h.val * 128 + d.val := congrArg Fin.val e
    have eh : (⟨i1.val / 128, by omega⟩ : Fin 4) = h := Fin.ext (by show i1.val / 128 = _; omega)
    have ed : (⟨i1.val % 128, by omega⟩ : Fin 128) = d := Fin.ext (by show i1.val % 128 = _; omega)
    rw [eh, ed]
  by_cases h0 : i1.val < 128
  · rw [dif_pos h0]; exact (key 0 ⟨i1.val, h0⟩ (Fin.ext (by simp [qcol]))).symm
  rw [dif_neg h0]
  by_cases h1 : i1.val - 128 < 128
  · rw [dif_pos h1]; exact (key 1 ⟨i1.val - 128, h1⟩ (Fin.ext (by simp [qcol]; omega))).symm
  rw [dif_neg h1]
  by_cases h2 : i1.val - 128 - 128 < 128
  · rw [dif_pos h2]; exact (key 2 ⟨i1.val - 128 - 128, h2⟩ (Fin.ext (by simp [qcol]; omega))).symm
  rw [dif_neg h2]
  refine Eq.trans ?_ (key 3 ⟨i1.val - 128 - 128 - 128, by omega⟩ (Fin.ext (by simp [qcol]; omega))).symm
  rw [hz]; rfl

/-- What the body leaves in its three outputs. -/
theorem ld4 (f : E 256 1024) (o : ℕ) (inb : ∀ a, (![0, o] : Fin 2 → ℕ) a + S256x128.size a ≤ S256x1024.size a) (ho : o + 128 ≤ 1024) :
    View.ld (Val := Elt Ideal) (e' := .bf16) (S := S256x1024) (e2 f) (Rect.unit (s := S256x1024) ![0, o] S256x128.size inb)
      = e2 fun t (d : Fin 128) => f t ⟨o + d.val, by omega⟩ := by
  funext i; pointwise; rfl

theorem ldk (h : Fin 4) (inb) : View.ld (Val := Elt Ideal) (e' := .bf16) (S := S256x1024) (e2 w.kv) (Rect.unit (s := S256x1024) ![0, h.val * 128] S256x128.size inb)
    = e2 fun t d => w.kv t (kcol h d) := ld4 _ _ _ (by omega)
theorem ldv (h : Fin 4) (inb) : View.ld (Val := Elt Ideal) (e' := .bf16) (S := S256x1024) (e2 w.kv) (Rect.unit (s := S256x1024) ![0, 512 + h.val * 128] S256x128.size inb)
    = e2 fun t d => w.kv t (vcol h d) := ld4 _ _ _ (by omega)

theorem ldx : View.ld (Val := Elt Ideal) (e' := .f32) (S := S512x1024) (e2 x) r0_0 = e2 x := by funext i; pointwise
theorem ldg (g : E 1 1024) : View.ld (Val := Elt Ideal) (e' := .f32) (S := S1x1024) (e2 g) r0_1 = e2 g := by
  funext i; pointwise; exact congrFun (congrArg g (Subsingleton.elim (0 : Fin 1) (i 0))) (i 1)
theorem ldw (f : E 1024 512) : View.ld (Val := Elt Ideal) (e' := .bf16) (S := S1024x512) (e2 f) r0_2 = e2 f := by funext i; pointwise

/-- The heads' outputs from the queries and the eight column blocks of keys and values. -/
theorem heads : k0_pay12 (F := Ideal) (k0_pay17 (e2 x) (e2 w.kv) (e2 fun _ : Fin 1 => w.g1) (e2 w.wq) (e2 w.wo) (e2 fun _ : Fin 1 => w.g2))
      (k0_pay18 (e2 x) (e2 w.kv) (e2 fun _ : Fin 1 => w.g1) (e2 w.wq) (e2 w.wo) (e2 fun _ : Fin 1 => w.g2))
      (k0_pay19 (e2 x) (e2 w.kv) (e2 fun _ : Fin 1 => w.g1) (e2 w.wq) (e2 w.wo) (e2 fun _ : Fin 1 => w.g2))
      (k0_pay20 (e2 x) (e2 w.kv) (e2 fun _ : Fin 1 => w.g1) (e2 w.wq) (e2 w.wo) (e2 fun _ : Fin 1 => w.g2))
      (k0_pay21 (e2 x) (e2 w.kv) (e2 fun _ : Fin 1 => w.g1) (e2 w.wq) (e2 w.wo) (e2 fun _ : Fin 1 => w.g2))
      (k0_pay22 (e2 x) (e2 w.kv) (e2 fun _ : Fin 1 => w.g1) (e2 w.wq) (e2 w.wo) (e2 fun _ : Fin 1 => w.g2))
      (k0_pay23 (e2 x) (e2 w.kv) (e2 fun _ : Fin 1 => w.g1) (e2 w.wq) (e2 w.wo) (e2 fun _ : Fin 1 => w.g2))
      (k0_pay24 (e2 x) (e2 w.kv) (e2 fun _ : Fin 1 => w.g1) (e2 w.wq) (e2 w.wo) (e2 fun _ : Fin 1 => w.g2))
    = e2 fun r => w.o (x r) := by
  unfold k0_pay24 k0_pay23 k0_pay22 k0_pay21 k0_pay20 k0_pay19 k0_pay18 k0_pay17 k0_pay16
  have k0 := ldk w 0 inb_S256x1024_S256x128_0_0
  have k1 := ldk w 1 inb_S256x1024_S256x128_0_128
  have k2 := ldk w 2 inb_S256x1024_S256x128_0_256
  have k3 := ldk w 3 inb_S256x1024_S256x128_0_384
  have v0 := ldv w 0 inb_S256x1024_S256x128_0_512
  have v1 := ldv w 1 inb_S256x1024_S256x128_0_640
  have v2 := ldv w 2 inb_S256x1024_S256x128_0_768
  have v3 := ldv w 3 inb_S256x1024_S256x128_0_896
  change View.ld (Val := Elt Ideal) (e' := .bf16) (S := S256x1024) (e2 w.kv) r0_3 = _ at k0; change View.ld (Val := Elt Ideal) (e' := .bf16) (S := S256x1024) (e2 w.kv) r0_5 = _ at k1
  change View.ld (Val := Elt Ideal) (e' := .bf16) (S := S256x1024) (e2 w.kv) r0_7 = _ at k2; change View.ld (Val := Elt Ideal) (e' := .bf16) (S := S256x1024) (e2 w.kv) r0_9 = _ at k3
  change View.ld (Val := Elt Ideal) (e' := .bf16) (S := S256x1024) (e2 w.kv) r0_4 = _ at v0; change View.ld (Val := Elt Ideal) (e' := .bf16) (S := S256x1024) (e2 w.kv) r0_6 = _ at v1
  change View.ld (Val := Elt Ideal) (e' := .bf16) (S := S256x1024) (e2 w.kv) r0_8 = _ at v2; change View.ld (Val := Elt Ideal) (e' := .bf16) (S := S256x1024) (e2 w.kv) r0_10 = _ at v3
  rw [k0, k1, k2, k3, v0, v1, v2, v3, ldx, ldg, ldw, pay3, show k0_pay6 (F := Ideal) = k0_pay3 from rfl,
    show k0_pay8 (F := Ideal) = k0_pay3 from rfl, show k0_pay10 (F := Ideal) = k0_pay3 from rfl,
    pay3, pay3, pay3, pay2, pay4, pay5, pay7, pay9, pay11]
  exact pay12 (fun h t d => w.kv t (vcol h d)) (fun h r => w.p (x r) h) _ (fun r => rfl)

theorem proj (o : E 512 512) : matmul (F := Ideal) dot_S512x512_S1024x512_S512x1024_1_1_0_0_n_n none (φ₁ := .bf16) (φ₂ := .bf16) (e2 o : FVec Ideal S512x512 .bf16)
      (shapeCast (α := Ideal .bf16) S1024x512 (e2 w.wo) shapeCasts_S1024x512_S1024x512) (constant S512x1024 .f32 0x00000000#32)
    = e2 fun r a => ∑ c, o r c * w.wo a c := by
  funext i; idx_vars i; pointwise; rfl

theorem pay13 (a b c d e f g h) (v : FVec Ideal S1024x512 .bf16) : k0_pay13 (F := Ideal) a b c d e f g h v
    = matmul (F := Ideal) dot_S512x512_S1024x512_S512x1024_1_1_0_0_n_n none (k0_pay12 a b c d e f g h) (shapeCast S1024x512 v shapeCasts_S1024x512_S1024x512) (constant S512x1024 .f32 0x00000000#32) := rfl

/-- The row less its root mean square, scaled and added to the branch's input. -/
def norm (y : FVec Ideal S512x1024 .f32) : FVec Ideal S512x1024 .f32 :=
  have s : FVec Ideal S512 .f32 := multiReduction .add [1] S512 (mulf y y) 0x00000000#32 reduces_S512x1024_S512 (.inl rfl) rfl
  have q := addf (divf (shapeCast S512x1 s shapeCasts_S512_S512x1) (broadcast S512x1 (Scalar.ofBits .f32 0x44800000#32)))
    (broadcast S512x1 (Scalar.ofBits .f32 0x358637BD#32))
  mulf y (broadcastTo S512x1024 (rsqrt q) broadcasts_S512x1_S512x1024)

theorem pay14 (a b c d e f g h) (v : FVec Ideal S1024x512 .bf16) : k0_pay14 (F := Ideal) a b c d e f g h v = norm (k0_pay13 a b c d e f g h v) := rfl

theorem norm_eq (y : E 512 1024) : norm (e2 y) = e2 fun r a => y r a * rs (y r) := by
  funext i; idx_vars i; pointwise [norm]; rfl

theorem pay1 (y : E 512 1024) : k0_pay1 (F := Ideal) (e2 x) (norm (e2 y)) (k0_pay15 (e2 fun _ : Fin 1 => w.g2))
    = e2 fun r a => x r a + y r a * rs (y r) * w.g2 a := by
  rw [norm_eq]; funext i; idx_vars i; pointwise [k0_pay1, k0_pay15]; rfl
end

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

variable {m : (ℓ : Loc nD τ sig) → Buf (Elt Ideal) ℓ} {c : Dev nD} {w : W} {X : E 4096 1024}

/-- The region's operands hold these arrays. -/
structure Ops (m : (ℓ : Loc nD τ sig) → Buf (Elt Ideal) ℓ) (c : Dev nD) (w : W) (X : E 4096 1024) : Prop where
  x : V m c main_arg0 = e2 X
  kv : V m c main_v0 = e2 w.kv
  g1 : V m c main_v1 = e2 fun _ : Fin 1 => w.g1
  wq : V m c main_v2 = e2 w.wq
  wo : V m c main_v4 = e2 w.wo
  g2 : V m c main_v5 = e2 fun _ : Fin 1 => w.g2

/-- Row `r` of the block of point `n`. -/
abbrev rowAt (t : Fin cfg0.N) (r : Fin 512) : Fin 4096 := ⟨t.val * 512 + r.val, by have := lt_of_lt_of_eq t.isLt N_0; omega⟩

theorem blk0 (H : Ops m c w X) (t : Fin cfg0.N) : iblk m c 0 t = e2 fun r => X (rowAt t r) := by
  funext i
  refine (congrFun H.x (((cfg0.win 0).blk t).view.emb i)).trans (congr (congrArg X (Fin.ext ?_)) (Fin.ext ?_)) <;> blk_simp [idx t]
theorem blk1 (H : Ops m c w X) (t : Fin cfg0.N) : iblk m c 1 t = e2 w.kv := by
  funext i; exact (congrFun H.kv (((cfg0.win 1).blk t).view.emb i)).trans (congrArg (e2 _) (by blk_ext [idx t]))
theorem blk2 (H : Ops m c w X) (t : Fin cfg0.N) : iblk m c 2 t = e2 fun _ : Fin 1 => w.g1 := by
  funext i; exact (congrFun H.g1 (((cfg0.win 2).blk t).view.emb i)).trans (congrArg (e2 _) (by blk_ext [idx t]))
theorem blk3 (H : Ops m c w X) (t : Fin cfg0.N) : iblk m c 3 t = e2 w.wq := by
  funext i; exact (congrFun H.wq (((cfg0.win 3).blk t).view.emb i)).trans (congrArg (e2 _) (by blk_ext [idx t]))
theorem blk4 (H : Ops m c w X) (t : Fin cfg0.N) : iblk m c 4 t = e2 w.wo := by
  funext i; exact (congrFun H.wo (((cfg0.win 4).blk t).view.emb i)).trans (congrArg (e2 _) (by blk_ext [idx t]))
theorem blk5 (H : Ops m c w X) (t : Fin cfg0.N) : iblk m c 5 t = e2 fun _ : Fin 1 => w.g2 := by
  funext i; exact (congrFun H.g2 (((cfg0.win 5).blk t).view.emb i)).trans (congrArg (e2 _) (by blk_ext [idx t]))

theorem final6 (H : Ops m c w X) : (dats m 0 c).arrAt 6 cfg0.N = e2 fun R => w.o (X R) := by
  refine (dats m 0 c).arrAt_eq_of_covers 6 _ (by decide +kernel) fun t _ y => ?_
  blk_simp
  rw [after0_6, blk0 H, blk1 H, blk2 H, blk3 H, blk4 H, blk5 H]; frame_out
  refine (congrFun (heads w _) y).trans ?_
  exact congr (congrArg (fun R => w.o (X R)) (Fin.ext (by blk_simp [idx t]))) (Fin.ext (by blk_simp [idx t]))

theorem final7 (H : Ops m c w X) : (dats m 0 c).arrAt 7 cfg0.N = e2 fun R => w.y (X R) := by
  refine (dats m 0 c).arrAt_eq_of_covers 7 _ (by decide +kernel) fun t _ y => ?_
  blk_simp
  rw [after0_7, blk0 H, blk1 H, blk2 H, blk3 H, blk4 H, blk5 H]; frame_out
  rw [pay13, heads w]
  refine (congrFun (proj w _) y).trans ?_
  exact congr (congrArg (fun R => w.y (X R)) (Fin.ext (by blk_simp [idx t]))) (Fin.ext (by blk_simp [idx t]))

theorem final8 (H : Ops m c w X) : (dats m 0 c).arrAt 8 cfg0.N = e2 fun R => w.out (X R) := by
  refine (dats m 0 c).arrAt_eq_of_covers 8 _ (by decide +kernel) fun t _ y => ?_
  blk_simp
  rw [after0_8, blk0 H, blk1 H, blk2 H, blk3 H, blk4 H, blk5 H]; frame_out
  rw [pay14, pay13, heads w]
  refine (congrFun ((congrArg (fun z => k0_pay1 (e2 fun r => X (rowAt t r)) (norm z) _) (proj w _)).trans (pay1 w _ _)) y).trans ?_
  exact congr (congrArg (fun R => w.out (X R)) (Fin.ext (by blk_simp [idx t]))) (Fin.ext (by blk_simp [idx t]))

end Cert.MemFwdKernelIdeal.Value

namespace Cert.MemFwdReferenceIdeal.Read

open Idealize.ShloMosaic
open Cert.MemFwdReferenceIdeal Cert.MemFwd Cert.MemFwd.W
variable (w : W) (X : E 4096 1024)

theorem v13 : val_main_v13 (F := Ideal) (e2 X) (e1 w.g1) (e2 w.wq) = e2 fun r => w.q (X r) := by
  funext i; idx_vars i
  pointwise [val_main_v13, val_main_v12, val_main_v11, val_main_v10, val_main_v9, val_main_v8, val_main_v7, val_main_v6, val_main_v5, val_main_cst_1, val_main_v4, val_main_v3, val_main_cst_0, val_main_v2, val_main_v1, val_main_v0, val_main_cst]
  rfl

theorem v14 : val_main_v14 (F := Ideal) (e2 X) (e1 w.g1) (e2 w.wq) = e3 fun r h d => w.q (X r) (qcol h d) := by
  funext i; idx_vars i
  pointwise [val_main_v14, v13 w X]
  exact congrArg (w.q (X i0)) (Fin.ext rfl)

theorem v16 : val_main_v16 (F := Ideal) (e2 w.kv) = e3 fun t h d => w.kv t (kcol h d) := by
  funext i; idx_vars i
  pointwise [val_main_v16, val_main_v15]
  exact congrArg (w.kv i0) (Fin.ext rfl)

theorem v21 : val_main_v21 (F := Ideal) (e2 X) (e2 w.kv) (e1 w.g1) (e2 w.wq)
    = e3 fun h r => s (fun d => w.q (X r) (qcol h d)) fun t d => w.kv t (kcol h d) := by
  funext i; idx_vars i
  pointwise [val_main_v21, val_main_v20, val_main_cst_2, val_main_v19, v16 w, v14 w X]
  exact congrArg (fun z : EReal => z * Ideal.ofBits .f32 0x3DB504F3#32) (Finset.sum_congr rfl fun d _ => rfl)

theorem v22 : val_main_v22 (F := Ideal) (e2 X) (e2 w.kv) (e1 w.g1) (e2 w.wq)
    = e2 fun h r => Finset.univ.fold max (Ideal.ofBits .f32 0xFF800000#32) (s (fun d => w.q (X r) (qcol h d)) fun t d => w.kv t (kcol h d)) := by
  funext i; idx_vars i; pointwise [val_main_v22, val_main_cst_3, v21 w X]; rfl

theorem v24 : val_main_v24 (F := Ideal) (e2 X) (e2 w.kv) (e1 w.g1) (e2 w.wq)
    = e2 fun h r => Finset.univ.fold max (Ideal.ofBits .f32 0xFF800000#32) (s (fun d => w.q (X r) (qcol h d)) fun t d => w.kv t (kcol h d)) := by
  unfold val_main_v24; rw [v22]
  funext i; idx_vars i; pointwise [val_main_v23, val_main_cst_4]
  rw [show Ideal.ofBits .f32 0xFF800000#32 = ⊥ from by simp [Ideal.ofBits, Ideal.ieee]]; exact max_eq_right bot_le

theorem v25 : val_main_v25 (F := Ideal) (e2 X) (e2 w.kv) (e1 w.g1) (e2 w.wq)
    = e3 fun h r _ => Finset.univ.fold max (Ideal.ofBits .f32 0xFF800000#32) (s (fun d => w.q (X r) (qcol h d)) fun t d => w.kv t (kcol h d)) := by
  funext i; idx_vars i; pointwise [val_main_v25, v24 w X]; rfl

theorem v32 : val_main_v32 (F := Ideal) (e2 X) (e2 w.kv) (e1 w.g1) (e2 w.wq) = e3 fun h r => w.p (X r) h := by
  funext i; idx_vars i
  pointwise [val_main_v32, val_main_v31, val_main_v30, val_main_v29, val_main_cst_5, val_main_v28, val_main_v27, val_main_v26, v25 w X, v21 w X]
  rfl

theorem v35 : val_main_v35 (F := Ideal) (e2 X) (e2 w.kv) (e1 w.g1) (e2 w.wq) = e2 fun r => w.o (X r) := by
  funext i; idx_vars i
  pointwise [val_main_v35, val_main_v34, val_main_v33, val_main_v18, val_main_v17, v32 w X]
  refine Finset.sum_congr rfl fun t _ => (mul_comm _ _).trans (congrArg (fun k => w.p (X i0) _ t * w.kv t k) (Fin.ext ?_))
  show 512 + i1.val = 512 + i1.val / 128 * 128 + i1.val % 128
  omega

theorem v36 : val_main_v36 (F := Ideal) (e2 X) (e2 w.kv) (e1 w.g1) (e2 w.wq) (e2 fun c a => w.wo a c) = e2 fun r => w.y (X r) := by
  funext i; idx_vars i; pointwise [val_main_v36, v35 w X]; rfl

theorem v37 : val_main_v37 (F := Ideal) (e2 X) (e2 w.kv) (e1 w.g1) (e2 w.wq) = e2 fun r => w.o (X r) := by
  funext i; pointwise [val_main_v37, v35 w X]

theorem v51 : val_main_v51 (F := Ideal) (e2 X) (e2 w.kv) (e1 w.g1) (e2 w.wq) (e2 fun c a => w.wo a c) (e1 w.g2) = e2 fun r => w.out (X r) := by
  funext i; idx_vars i
  pointwise [val_main_v51, val_main_v50, val_main_v49, val_main_v48, val_main_v47, val_main_v46, val_main_v45, val_main_v44, val_main_v43, val_main_cst_8, val_main_v42, val_main_v41, val_main_cst_7, val_main_v40, val_main_v39, val_main_v38, val_main_cst_6, v36 w X]
  rfl

end Cert.MemFwdReferenceIdeal.Read

namespace Cert.MemFwdKernelIdeal.Value

open Idealize.ShloMosaic Idealize.ShloMosaic.TcCoe Idealize.SL.Sem
open Cert.MemFwdKernelIdeal Cert.MemFwdKernelIdeal.Gen Cert.MemFwd

theorem ops (m : (ℓ : Loc nD τ sig) → Buf (Elt Ideal) ℓ) (c : Dev nD) (w : W) (X : E 4096 1024)
    (h0 : m ((c : Thread nD τ).loc main_arg0) = e2 X) (h1 : m ((c : Thread nD τ).loc main_arg1) = e2 w.kv)
    (h2 : m ((c : Thread nD τ).loc main_arg2) = e1 w.g1) (h3 : m ((c : Thread nD τ).loc main_arg3) = e2 w.wq)
    (h4 : m ((c : Thread nD τ).loc main_arg4) = e2 fun k a => w.wo a k) (h5 : m ((c : Thread nD τ).loc main_arg5) = e1 w.g2) : Ops m c w X where
  x := (V_main_arg0 m c).trans h0
  kv := by entry_read; rw [h1]; rfl
  g1 := by entry_read; rw [h2]; funext i; idx_vars i; pointwise; rfl
  wq := by entry_read; rw [h3]; rfl
  wo := by entry_read; rw [h4]; funext i; idx_vars i; pointwise; rfl
  g2 := by entry_read; rw [h5]; funext i; idx_vars i; pointwise; rfl

end Cert.MemFwdKernelIdeal.Value

namespace Cert.Proof.MemFwd

open Idealize.ShloMosaic Idealize.ShloMosaic.TcCoe Idealize.SL.Sem
open Cert.MemFwd

/-- The reference runs, keeps its arguments, and leaves every semaphore at zero. -/
theorem frameR : Cert.quiescent_MemFwdReferenceIdeal := fun m ρ _ =>
  (θ_run Cert.MemFwdReferenceIdeal.defs _ _).mono (fun r h => ⟨fun c => (h c).2.2.2, sem_eq_zero_of_no_sems (by decide) r.2⟩)
    (Cert.MemFwdReferenceIdeal.Value.run (F := Ideal) m ρ)

/-- The kernel's three results are the reference's. -/
theorem algebraic : Cert.algebraic_MemFwdKernelIdeal_MemFwdReferenceIdeal := by
  intro m ρ m' ρ' hpre hagree
  refine ⟨_, _, _, Cert.MemFwdKernelIdeal.Value.run_blocks (F := Ideal) m ρ, ?_⟩
  refine (θ_run Cert.MemFwdReferenceIdeal.defs _ _).mono (fun _ h c => ?_) (Cert.MemFwdReferenceIdeal.Value.run (F := Ideal) m' ρ')
  obtain ⟨r0, r1, r2, hk⟩ := h c
  obtain ⟨X, h0⟩ := exists_e2 (m ((c.tc : Thread _ _).loc Cert.MemFwdKernelIdeal.main_arg0))
  obtain ⟨kv, h1⟩ := exists_e2 (m ((c.tc : Thread _ _).loc Cert.MemFwdKernelIdeal.main_arg1))
  obtain ⟨g1, h2⟩ := exists_e1 (m ((c.tc : Thread _ _).loc Cert.MemFwdKernelIdeal.main_arg2))
  obtain ⟨wq, h3⟩ := exists_e2 (m ((c.tc : Thread _ _).loc Cert.MemFwdKernelIdeal.main_arg3))
  obtain ⟨wo, h4⟩ := exists_e2 (m ((c.tc : Thread _ _).loc Cert.MemFwdKernelIdeal.main_arg4))
  obtain ⟨g2, h5⟩ := exists_e1 (m ((c.tc : Thread _ _).loc Cert.MemFwdKernelIdeal.main_arg5))
  obtain ⟨a0, a1, a2, a3, a4, a5⟩ := hagree c
  have H := Cert.MemFwdKernelIdeal.Value.ops m c ⟨g1, g2, wq, fun a k => wo k a, kv⟩ X h0 h1 h2 h3 h4 h5
  have b0 : m' ((c.tc : Thread _ _).loc Cert.MemFwdReferenceIdeal.main_arg0) = e2 X := a0.trans h0
  have b1 : m' ((c.tc : Thread _ _).loc Cert.MemFwdReferenceIdeal.main_arg1) = e2 kv := a1.trans h1
  have b2 : m' ((c.tc : Thread _ _).loc Cert.MemFwdReferenceIdeal.main_arg2) = e1 g1 := a2.trans h2
  have b3 : m' ((c.tc : Thread _ _).loc Cert.MemFwdReferenceIdeal.main_arg3) = e2 wq := a3.trans h3
  have b4 : m' ((c.tc : Thread _ _).loc Cert.MemFwdReferenceIdeal.main_arg4) = e2 wo := a4.trans h4
  have b5 : m' ((c.tc : Thread _ _).loc Cert.MemFwdReferenceIdeal.main_arg5) = e1 g2 := a5.trans h5
  rw [Cert.MemFwdReferenceIdeal.Read.val_main_v37_eq, b0, b1, b2, b3] at r0
  rw [Cert.MemFwdReferenceIdeal.Read.val_main_v36_eq, b0, b1, b2, b3, b4] at r1
  rw [Cert.MemFwdReferenceIdeal.Read.val_main_v51_eq, b0, b1, b2, b3, b4, b5] at r2
  exact ⟨r0.trans ((Cert.MemFwdReferenceIdeal.Read.v37 ⟨g1, g2, wq, fun a k => wo k a, kv⟩ X).trans (Cert.MemFwdKernelIdeal.Value.final6 H).symm),
    r1.trans ((Cert.MemFwdReferenceIdeal.Read.v36 ⟨g1, g2, wq, fun a k => wo k a, kv⟩ X).trans (Cert.MemFwdKernelIdeal.Value.final7 H).symm),
    r2.trans ((Cert.MemFwdReferenceIdeal.Read.v51 ⟨g1, g2, wq, fun a k => wo k a, kv⟩ X).trans (Cert.MemFwdKernelIdeal.Value.final8 H).symm), hk⟩

end Cert.Proof.MemFwd
-- ==== Proof.AttnMask.lean ====
module

public import proofs.«01_k».proof.Proof.Gen.Attn0ReferenceIdeal.Read
public import proofs.«01_k».proof.Proof.Lift

/-! Which keys the attention's queries see: the reference's masks. -/

@[expose] public section

set_option maxRecDepth 16384

noncomputable section

namespace Cert.Attn0ReferenceIdeal.Read

open Idealize.ShloMosaic
open Cert.Attn0ReferenceIdeal Cert.Lift

abbrev Mat (n m : ℕ) := Fin n → Fin m → ℝ
abbrev up4 {a b c d : ℕ} (f : Fin a → Fin b → Fin c → Fin d → ℝ) : (⟨4, ![a, b, c, d]⟩ : Shape).Idx → EReal := fun i => ((f (i 0) (i 1) (i 2) (i 3) : ℝ) : EReal)

/-- The attention's inputs and its cotangent. -/
structure Inp where
  q : Mat 4096 768
  k : Mat 4096 768
  v : Mat 4096 768
  d : Mat 4096 256

/-- The dilations, and the keys a query of a group sees. -/
def dil (g : Fin 3) : ℕ := match g with | 0 => 1 | 1 => 4 | 2 => 16
def Ok (w d : ℕ) (t s : Fin 4096) : Prop := s.val ≤ t.val ∧ t.val - s.val ≤ w ∧ (t.val - s.val) % d = 0
instance (w d t s) : Decidable (Ok w d t s) := by unfold Ok; infer_instance
abbrev ok (g : Fin 3) (t s : Fin 4096) : Prop := Ok (128 * dil g) (dil g) t s

/-- The bits of a mask, from the difference of the positions. -/
def bits (w d : BitVec 32) (x : BitVec 32) : BitVec 1 :=
  IntOp.andi (IntOp.andi (IntOp.cmpi .sge x 0#32) (IntOp.cmpi .sle x w)) (IntOp.cmpi .eq (IntOp.remsi .host x d) 0#32)

def Fits (w d : ℕ) : Prop := (∀ n : Fin 4096, bits (BitVec.ofNat 32 w) (BitVec.ofNat 32 d) (BitVec.ofNat 32 n.val) = if n.val ≤ w ∧ n.val % d = 0 then 1#1 else 0#1)
  ∧ ∀ n : Fin 4096, 0 < n.val → bits (BitVec.ofNat 32 w) (BitVec.ofNat 32 d) (0#32 - BitVec.ofNat 32 n.val) = 0#1
theorem fits1 : Fits 128 1 := by unfold Fits; exact ⟨by decide +kernel, by decide +kernel⟩
theorem fits4 : Fits 512 4 := by unfold Fits; exact ⟨by decide +kernel, by decide +kernel⟩
theorem fits16 : Fits 2048 16 := by unfold Fits; exact ⟨by decide +kernel, by decide +kernel⟩

theorem bits_eq {w d : ℕ} (H : Fits w d) (t s : Fin 4096) :
    bits (BitVec.ofNat 32 w) (BitVec.ofNat 32 d) (BitVec.ofNat 32 t.val - BitVec.ofNat 32 s.val) = if Ok w d t s then 1#1 else 0#1 := by
  by_cases h : s.val ≤ t.val
  · have e : BitVec.ofNat 32 t.val - BitVec.ofNat 32 s.val = BitVec.ofNat 32 (⟨t.val - s.val, by omega⟩ : Fin 4096).val := by
      apply BitVec.eq_of_toNat_eq; simp only [BitVec.toNat_sub, BitVec.toNat_ofNat]; omega
    rw [e, H.1]
    exact if_congr ⟨fun q => ⟨h, q⟩, fun q => q.2⟩ rfl rfl
  · have e : BitVec.ofNat 32 t.val - BitVec.ofNat 32 s.val = 0#32 - BitVec.ofNat 32 (⟨s.val - t.val, by omega⟩ : Fin 4096).val := by
      apply BitVec.eq_of_toNat_eq; simp only [BitVec.toNat_sub, BitVec.toNat_ofNat]; omega
    rw [e, H.2 _ (by show 0 < s.val - t.val; omega), if_neg fun q => h q.1]

theorem v16 : val_main_v16 (F := Ideal) = fun i => if ok 0 (i 0) (i 1) then 1#1 else 0#1 := by
  funext i; idx_vars i
  pointwise [val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_c, val_main_c_0, val_main_c_1, val_main_c_2]
  exact bits_eq fits1 i0 i1
theorem v26 : val_main_v26 (F := Ideal) = fun i => if ok 1 (i 0) (i 1) then 1#1 else 0#1 := by
  funext i; idx_vars i
  pointwise [val_main_v26, val_main_v25, val_main_v24, val_main_v23, val_main_v22, val_main_v21, val_main_v20, val_main_v19, val_main_v18, val_main_v17, val_main_v6, val_main_v5,
    val_main_v4, val_main_v3, val_main_v2, val_main_v1, val_main_v0, val_main_c_3, val_main_c_4, val_main_c_5, val_main_c_6]
  exact bits_eq fits4 i0 i1
theorem v36 : val_main_v36 (F := Ideal) = fun i => if ok 2 (i 0) (i 1) then 1#1 else 0#1 := by
  funext i; idx_vars i
  pointwise [val_main_v36, val_main_v35, val_main_v34, val_main_v33, val_main_v32, val_main_v31, val_main_v30, val_main_v29, val_main_v28, val_main_v27, val_main_v6, val_main_v5,
    val_main_v4, val_main_v3, val_main_v2, val_main_v1, val_main_v0, val_main_c_7, val_main_c_8, val_main_c_9, val_main_c_10]
  exact bits_eq fits16 i0 i1

theorem v40 : val_main_v40 (F := Ideal) = fun i => if ok (i 0) (i 1) (i 2) then 1#1 else 0#1 := by
  funext i; idx_vars i
  fin_cases i0
  · pointwise [val_main_v40, val_main_v37, v16]
  · pointwise [val_main_v40, val_main_v38, v26]
  · pointwise [val_main_v40, val_main_v39, v36]

end Cert.Attn0ReferenceIdeal.Read
-- ==== Proof.AttnRef.lean ====
module

public import proofs.«01_k».proof.Proof.AttnMask

/-! The attention's reference gradient, stage by stage over arrays of real numbers. -/

@[expose] public section

set_option maxRecDepth 16384

noncomputable section

namespace Cert.Attn0ReferenceIdeal.Read

open Idealize.ShloMosaic
open Cert.Attn0ReferenceIdeal Cert.Lift

abbrev gcol (g : Fin 3) (h : Fin 4) (e : Fin 64) : Fin 768 := ⟨g.val * 256 + h.val * 64 + e.val, by omega⟩
abbrev hcol (h : Fin 4) (e : Fin 64) : Fin 256 := ⟨h.val * 64 + e.val, by omega⟩

theorem ofBits_eighth' : Ideal.ofBits .f32 0x3E000000#32 = ((1 / 8 : ℝ) : EReal) := by
  simp [Ideal.ofBits, Ideal.ieee]; rw [← EReal.coe_mul]; norm_num

/-- A sum over two axes of one position each. -/
theorem reduce03 (x : S1x4x4096x1.Idx → EReal) (h : Fin 4) (t : Fin 4096) :
    Ideal.hostReduceAdd Gen.reducesTo_S1x4x4096x1_S4x4096_d0_3 x 0 (ix2 h t) = x (ix4 0 h t 0) := by
  have e : (Finset.univ.filter fun i => Gen.reducesTo_S1x4x4096x1_S4x4096_d0_3.drop i = (ix2 h t : S4x4096.Idx)) = {(ix4 0 h t 0 : S1x4x4096x1.Idx)} := by
    ext i
    simp only [Finset.mem_filter, Finset.mem_univ, true_and, Finset.mem_singleton]
    constructor
    · intro e
      funext a; apply Fin.ext
      match a with
      | ⟨0, _⟩ => exact Nat.lt_one_iff.mp (i 0).isLt
      | ⟨1, _⟩ => exact congrArg Fin.val (congrFun e 0)
      | ⟨2, _⟩ => exact congrArg Fin.val (congrFun e 1)
      | ⟨3, _⟩ => exact Nat.lt_one_iff.mp (i 3).isLt
    · rintro rfl
      funext b; apply Fin.ext
      match b with
      | ⟨0, _⟩ => rfl
      | ⟨1, _⟩ => rfl
  refine (congrArg (fun S => (0 : EReal) + ∑ i ∈ S, x i) e).trans ?_
  rw [Finset.sum_singleton, zero_add]

/-- The largest of finitely many numbers, one of them real and none +∞, is one of them and real. -/
theorem fold_max' {n : ℕ} (f : Fin n → EReal) (hf : ∀ s, f s ≠ ⊤) (t : Fin n) (ht : f t ≠ ⊥) :
    ∃ M : ℝ, Finset.univ.fold max (Ideal.ofBits .f32 0xFF800000#32) f = (M : EReal) ∧ ∃ s, f s = (M : EReal) := by
  have e : Finset.univ.fold max (⊥ : EReal) f = Finset.univ.sup f := rfl
  obtain ⟨s, -, hs⟩ := Finset.exists_mem_eq_sup Finset.univ ⟨t, Finset.mem_univ _⟩ f
  have hb : f s ≠ ⊥ := fun h => ht (le_bot_iff.mp ((Finset.le_sup (Finset.mem_univ t)).trans (hs.trans h).le))
  refine ⟨(f s).toReal, ?_, s, (EReal.coe_toReal (hf s) hb).symm⟩
  rw [ofBits_neg_inf, e, hs, EReal.coe_toReal (hf s) hb]

theorem log_pos (a : ℝ) (h : 0 < a) : Ideal.log (a : EReal) = ((Real.log a : ℝ) : EReal) :=
  if_neg (not_le.mpr h)
theorem cmax (a b : ℝ) : max (a : EReal) (b : EReal) = ((max a b : ℝ) : EReal) := (EReal.coe_strictMono.monotone.map_max).symm

variable (X : Inp)

/-- The scores, and with the unseen keys' at −∞. -/
def sc (g : Fin 3) (h : Fin 4) (t s : Fin 4096) : ℝ := (∑ e, X.q t (gcol g h e) * X.k s (gcol g h e)) * (1 / 8)
def ms (g : Fin 3) (h : Fin 4) (t s : Fin 4096) : EReal := if ok g t s then ((sc X g h t s : ℝ) : EReal) else ⊥

theorem v42 : val_main_v42 (F := Ideal) (up2 X.q) = up4 fun g h t e => X.q t (gcol g h e) := by
  funext i; idx_vars i; pointwise [val_main_v42, val_main_v41]; rfl
theorem v44 : val_main_v44 (F := Ideal) (up2 X.k) = up4 fun g h t e => X.k t (gcol g h e) := by
  funext i; idx_vars i; pointwise [val_main_v44, val_main_v43]; rfl
theorem v46 : val_main_v46 (F := Ideal) (up2 X.v) = up4 fun g h t e => X.v t (gcol g h e) := by
  funext i; idx_vars i; pointwise [val_main_v46, val_main_v45]; rfl

theorem v49 : val_main_v49 (F := Ideal) (up2 X.q) (up2 X.k) = up4 (sc X) := by
  funext i; idx_vars i; pointwise [val_main_v49, val_main_v48, val_main_cst, val_main_v47, v42 X, v44 X]
  simp only [mul, sum, ofBits_eighth']; rfl

theorem v51_1 : val_main_v51_1 (F := Ideal) = fun i => if ok (i 0) (i 2) (i 3) then 1#1 else 0#1 := by
  funext i; idx_vars i; pointwise [val_main_v51_1, val_main_v50, v40]

theorem v51_0 : val_main_v51_0 (F := Ideal) (up2 X.q) (up2 X.k) = fun i => ms X (i 0) (i 1) (i 2) (i 3) := by
  funext i; idx_vars i; pointwise [val_main_v51_0, v51_1, val_main_call0_v2, val_main_call0_v0, val_main_cst_11, v49 X]
  show Scalar.select (if ok i0 i2 i3 then 1#1 else 0#1) ((sc X i0 i1 i2 i3 : ℝ) : EReal) (Ideal.ofBits .f32 0xFF800000#32) = if ok i0 i2 i3 then ((sc X i0 i1 i2 i3 : ℝ) : EReal) else ⊥
  rw [ofBits_neg_inf]
  by_cases h : ok i0 i2 i3
  · rw [if_pos h, if_pos h]; rfl
  · rw [if_neg h, if_neg h]; rfl

theorem ok_self (g : Fin 3) (t : Fin 4096) : ok g t t := ⟨le_refl _, by omega, by simp⟩

theorem max_ex (g : Fin 3) (h : Fin 4) (t : Fin 4096) :
    ∃ M : ℝ, Finset.univ.fold max (Ideal.ofBits .f32 0xFF800000#32) (ms X g h t) = (M : EReal) ∧ ∃ s, ms X g h t s = (M : EReal) := by
  refine fold_max' _ (fun s => ?_) t ?_
  · unfold ms; by_cases h : ok g t s
    · rw [if_pos h]; exact EReal.coe_ne_top _
    · rw [if_neg h]; exact bot_ne_top
  · unfold ms; rw [if_pos (ok_self g t)]; exact EReal.coe_ne_bot _

/-- A query's largest score. -/
def mx (g : Fin 3) (h : Fin 4) (t : Fin 4096) : ℝ := (max_ex X g h t).choose

theorem v52 : val_main_v52 (F := Ideal) (up2 X.q) (up2 X.k) = up3 (mx X) := by
  funext i; idx_vars i; pointwise [val_main_v52, val_main_cst_12, v51_0 X]
  exact (max_ex X i0 i1 i2).choose_spec.1

/-- The exponentials, their sum, and the head's output before mixing. -/
def p (g : Fin 3) (h : Fin 4) (t s : Fin 4096) : ℝ := if ok g t s then Real.exp (sc X g h t s - mx X g h t) else 0
def den (g : Fin 3) (h : Fin 4) (t : Fin 4096) : ℝ := ∑ s, p X g h t s
def pv (g : Fin 3) (h : Fin 4) (t : Fin 4096) (e : Fin 64) : ℝ := ∑ s, p X g h t s * X.v s (gcol g h e)

theorem p_nonneg (g h t s) : 0 ≤ p X g h t s := by
  unfold p; by_cases h : ok g t s
  · rw [if_pos h]; exact (Real.exp_pos _).le
  · rw [if_neg h]
theorem den_pos (g h t) : 0 < den X g h t :=
  Finset.sum_pos' (fun s _ => p_nonneg X g h t s) ⟨t, Finset.mem_univ _, by unfold p; rw [if_pos (ok_self g t)]; exact Real.exp_pos _⟩
theorem den_ne (g h t) : den X g h t ≠ 0 := (den_pos X g h t).ne'

theorem v61 : val_main_v61 (F := Ideal) (up2 X.q) (up2 X.k) = up4 (p X) := by
  funext i; idx_vars i; pointwise [val_main_v61, val_main_v60, val_main_v59, val_main_v58, v51_0 X, v52 X]
  show Ideal.exp ((if ok i0 i2 i3 then ((sc X i0 i1 i2 i3 : ℝ) : EReal) else ⊥) - ((mx X i0 i1 i2 : ℝ) : EReal)) = ((if ok i0 i2 i3 then _ else _ : ℝ) : EReal)
  by_cases h : ok i0 i2 i3
  · rw [if_pos h, if_pos h, sub]; rfl
  · rw [if_neg h, if_neg h, EReal.bot_sub]; rfl

theorem v62 : val_main_v62 (F := Ideal) (up2 X.q) (up2 X.k) = up3 (den X) := by
  funext i; idx_vars i; pointwise [val_main_v62, val_main_cst_14, v61 X]
  simp only [sum, zero_add]; rfl

theorem v63 : val_main_v63 (F := Ideal) (up2 X.q) (up2 X.k) = up4 fun g h t _ => den X g h t := by
  funext i; idx_vars i; pointwise [val_main_v63, v62 X]; rfl

theorem v64 : val_main_v64 (F := Ideal) (up2 X.q) (up2 X.k) (up2 X.v) = up4 (pv X) := by
  funext i; idx_vars i; pointwise [val_main_v64, v61 X, v46 X]
  simp only [mul, sum]; rfl

theorem v66 : val_main_v66 (F := Ideal) (up2 X.q) (up2 X.k) (up2 X.v) = up4 fun g h t e => pv X g h t e / den X g h t := by
  funext i; idx_vars i; pointwise [val_main_v66, val_main_v65, v64 X, v63 X]
  exact div _ _ (den_ne X i0 i1 i2)

theorem v69 : val_main_v69 (F := Ideal) (up2 X.q) (up2 X.k) = up4 fun g h t _ => 1 / (den X g h t * den X g h t) := by
  funext i; idx_vars i; pointwise [val_main_v69, val_main_v68, val_main_cst_15, val_main_v67, v63 X]
  rw [mul, ← EReal.coe_one]; exact div _ _ (mul_ne_zero (den_ne X i0 i1 i2) (den_ne X i0 i1 i2))

/-- The log-sums, the largest over the groups, the groups' shares. -/
def lse (g : Fin 3) (h : Fin 4) (t : Fin 4096) : ℝ := mx X g h t + Real.log (den X g h t)
def top (h : Fin 4) (t : Fin 4096) : ℝ := max (max (lse X 0 h t) (lse X 1 h t)) (lse X 2 h t)
def ex (g : Fin 3) (h : Fin 4) (t : Fin 4096) : ℝ := Real.exp (lse X g h t - top X h t)
def tot (h : Fin 4) (t : Fin 4096) : ℝ := ex X 0 h t + ex X 1 h t + ex X 2 h t
def wt (g : Fin 3) (h : Fin 4) (t : Fin 4096) : ℝ := ex X g h t / tot X h t
theorem tot_pos (h t) : 0 < tot X h t := by unfold tot ex; positivity
theorem tot_ne (h t) : tot X h t ≠ 0 := (tot_pos X h t).ne'

theorem v71 : val_main_v71 (F := Ideal) (up2 X.q) (up2 X.k) = up4 fun g h t _ => lse X g h t := by
  funext i; idx_vars i; pointwise [val_main_v71, val_main_v70, val_main_v58, v52 X, v63 X]
  exact (congrArg (fun z => ((mx X i0 i1 i2 : ℝ) : EReal) + z) (log_pos _ (den_pos X i0 i1 i2))).trans (add _ _)

theorem v93 : val_main_v93 (F := Ideal) (up2 X.q) (up2 X.k) = up3 fun h t _ => top X h t := by
  funext i; idx_vars i
  pointwise [val_main_v93, val_main_v92, val_main_v91, val_main_v76, val_main_v75, val_main_v74, val_main_v73, val_main_v72, v71 X]
  exact (congrArg (fun z => max z ((lse X 2 i0 i1 : ℝ) : EReal)) (cmax _ _)).trans (cmax _ _)

theorem v111 : val_main_v111 (F := Ideal) (up2 X.q) (up2 X.k) = up4 fun g h t _ => ex X g h t := by
  funext i; idx_vars i
  pointwise [val_main_v111, val_main_v110, val_main_v109, val_main_v108, v93 X, v71 X]
  rw [sub]; rfl

theorem v119 : val_main_v119 (F := Ideal) (up2 X.q) (up2 X.k) = up3 fun h t _ => tot X h t := by
  funext i; idx_vars i
  pointwise [val_main_v119, val_main_v118, val_main_v117, val_main_v116, val_main_v115, val_main_v114, val_main_v113, val_main_v112, v111 X]
  exact (congrArg (fun z => z + ((ex X 2 i0 i1 : ℝ) : EReal)) (add _ _)).trans (add _ _)

theorem v122 : val_main_v122 (F := Ideal) (up2 X.q) (up2 X.k) = up4 fun g h t _ => wt X g h t := by
  funext i; idx_vars i
  pointwise [val_main_v122, val_main_v121, val_main_v120, v119 X, v111 X]
  exact div _ _ (tot_ne X i1 i2)

theorem v125 : val_main_v125 (F := Ideal) (up2 X.q) (up2 X.k) = up4 fun _ h t _ => 1 / (tot X h t * tot X h t) := by
  funext i; idx_vars i
  pointwise [val_main_v125, val_main_v124, val_main_cst_28, val_main_v123, val_main_v120, v119 X]
  rw [mul, ← EReal.coe_one]; exact div _ _ (mul_ne_zero (tot_ne X i1 i2) (tot_ne X i1 i2))

/-- The mixed output. -/
def att (t : Fin 4096) (h : Fin 4) (e : Fin 64) : ℝ :=
  wt X 0 h t * (pv X 0 h t e / den X 0 h t) + wt X 1 h t * (pv X 1 h t e / den X 1 h t) + wt X 2 h t * (pv X 2 h t e / den X 2 h t)

theorem v127 : val_main_v127 (F := Ideal) (up2 X.q) (up2 X.k) (up2 X.v) = up4 fun g h t e => wt X g h t * (pv X g h t e / den X g h t) := by
  funext i; idx_vars i; pointwise [val_main_v127, val_main_v126, v122 X, v66 X]
  exact mul _ _

theorem v135 : val_main_v135 (F := Ideal) (up2 X.q) (up2 X.k) (up2 X.v) = up3 fun h t e => att X t h e := by
  funext i; idx_vars i
  pointwise [val_main_v135, val_main_v134, val_main_v133, val_main_v132, val_main_v131, val_main_v130, val_main_v129, val_main_v128, v127 X]
  exact (congrArg (fun z => z + ((wt X 2 i0 i1 * (pv X 2 i0 i1 i2 / den X 2 i0 i1) : ℝ) : EReal)) (add _ _)).trans (add _ _)

/-- The cotangent, the same in each group. -/
def dm (h : Fin 4) (t : Fin 4096) (e : Fin 64) : ℝ := X.d t (hcol h e)

theorem v139 : val_main_v139 (F := Ideal) (up2 X.d) = up3 (dm X) := by
  funext i; idx_vars i; pointwise [val_main_v139, val_main_v138]; rfl

theorem v147 : val_main_v147 (F := Ideal) (up2 X.d) = up4 fun _ => dm X := by
  funext i; idx_vars i
  fin_cases i0
  · pointwise [val_main_v147, val_main_v146, val_main_v145, val_main_v144, val_main_v143, val_main_v142, val_main_v141, val_main_v140, val_main_cst_29, val_main_cst_30, val_main_cst_31, v139 X]
    rfl
  · pointwise [val_main_v147, val_main_v146, val_main_v145, val_main_v144, val_main_v143, val_main_v142, val_main_v141, val_main_v140, val_main_cst_29, val_main_cst_30, val_main_cst_31, v139 X]
    rfl
  · pointwise [val_main_v147, val_main_v146, val_main_v145, val_main_v144, val_main_v143, val_main_v142, val_main_v141, val_main_v140, val_main_cst_29, val_main_cst_30, val_main_cst_31, v139 X]
    rfl

theorem v149 : val_main_v149 (F := Ideal) (up2 X.q) (up2 X.k) (up2 X.d) = up4 fun g h t e => wt X g h t * dm X h t e := by
  funext i; idx_vars i; pointwise [val_main_v149, val_main_v148, v122 X, v147 X]
  exact mul _ _

/-- The inner product of the cotangent with a group's output, and their mixture. -/
def dw (g : Fin 3) (h : Fin 4) (t : Fin 4096) : ℝ := ∑ e, dm X h t e * (pv X g h t e / den X g h t)

theorem v151 : val_main_v151 (F := Ideal) (up2 X.q) (up2 X.k) (up2 X.v) (up2 X.d) = up3 (dw X) := by
  funext i; idx_vars i; pointwise [val_main_v151, val_main_cst_32, val_main_v150, v147 X, v66 X]
  simp only [mul, sum, zero_add]; rfl

/-- The gradient of the total. -/
def dt (h : Fin 4) (t : Fin 4096) : ℝ := -∑ g, dw X g h t * (1 / (tot X h t * tot X h t)) * ex X g h t

theorem v158 : val_main_v158 (F := Ideal) (up2 X.q) (up2 X.k) (up2 X.v) (up2 X.d) = up4 fun _ h t _ => dt X h t := by
  funext i; idx_vars i
  pointwise [val_main_v158, val_main_v157, val_main_v156, val_main_cst_33, val_main_v155, val_main_v154, val_main_v153, val_main_v152, v151 X, v125 X, v111 X]
  show -∑ g, ((dw X g i1 i2 : ℝ) : EReal) * ((1 / (tot X i1 i2 * tot X i1 i2) : ℝ) : EReal) * ((ex X g i1 i2 : ℝ) : EReal) = ((dt X i1 i2 : ℝ) : EReal)
  simp only [mul, sum, neg]; rfl

theorem v162 : val_main_v162 (F := Ideal) (up2 X.q) (up2 X.k) (up2 X.v) (up2 X.d) = up3 fun h t _ => dt X h t := by
  funext i; idx_vars i
  pointwise [val_main_v162, val_main_v161, val_main_cst_34, v158 X]
  exact reduce03 _ i0 i1

theorem v171 : val_main_v171 (F := Ideal) (up2 X.q) (up2 X.k) (up2 X.v) (up2 X.d) = up4 fun g h t _ => dw X g h t / tot X h t + dt X h t := by
  have e : val_main_v160 (F := Ideal) (up2 X.q) (up2 X.k) (up2 X.v) (up2 X.d) = up4 fun g h t _ => dw X g h t / tot X h t := by
    funext i; idx_vars i
    pointwise [val_main_v160, val_main_v159, val_main_v152, val_main_v120, v151 X, v119 X]
    exact div _ _ (tot_ne X i1 i2)
  funext i; idx_vars i
  fin_cases i0
  · pointwise [val_main_v171, val_main_v170, val_main_v169, val_main_v168, val_main_v167, val_main_v166, val_main_v165, val_main_v164, val_main_v163, val_main_cst_35, val_main_cst_36, val_main_cst_37, v162 X, e]
    exact add _ _
  · pointwise [val_main_v171, val_main_v170, val_main_v169, val_main_v168, val_main_v167, val_main_v166, val_main_v165, val_main_v164, val_main_v163, val_main_cst_35, val_main_cst_36, val_main_cst_37, v162 X, e]
    exact add _ _
  · pointwise [val_main_v171, val_main_v170, val_main_v169, val_main_v168, val_main_v167, val_main_v166, val_main_v165, val_main_v164, val_main_v163, val_main_cst_35, val_main_cst_36, val_main_cst_37, v162 X, e]
    exact add _ _

/-- The gradients of a group's log-sum, of its sum of exponentials, and of the output before division. -/
def dl (g : Fin 3) (h : Fin 4) (t : Fin 4096) : ℝ := (dw X g h t / tot X h t + dt X h t) * ex X g h t
def dden (g : Fin 3) (h : Fin 4) (t : Fin 4096) : ℝ :=
  dl X g h t / den X g h t + -∑ e, wt X g h t * dm X h t e * (1 / (den X g h t * den X g h t)) * pv X g h t e
def dn (g : Fin 3) (h : Fin 4) (t : Fin 4096) (e : Fin 64) : ℝ := wt X g h t * dm X h t e / den X g h t

theorem v172 : val_main_v172 (F := Ideal) (up2 X.q) (up2 X.k) (up2 X.v) (up2 X.d) = up4 fun g h t _ => dl X g h t := by
  funext i; idx_vars i; pointwise [val_main_v172, v171 X, v111 X]
  exact mul _ _

theorem v180 : val_main_v180 (F := Ideal) (up2 X.q) (up2 X.k) (up2 X.v) (up2 X.d) = up4 fun g h t _ => dden X g h t := by
  funext i; idx_vars i
  pointwise [val_main_v180, val_main_v179, val_main_v178, val_main_v177, val_main_cst_38, val_main_v176, val_main_v175, val_main_v174, val_main_v173, v172 X, v63 X, v149 X, v69 X, v64 X]
  show Ideal.div ((dl X i0 i1 i2 : ℝ) : EReal) ((den X i0 i1 i2 : ℝ) : EReal)
    + -∑ e, ((wt X i0 i1 i2 * dm X i1 i2 e : ℝ) : EReal) * ((1 / (den X i0 i1 i2 * den X i0 i1 i2) : ℝ) : EReal) * ((pv X i0 i1 i2 e : ℝ) : EReal) = ((dden X i0 i1 i2 : ℝ) : EReal)
  simp only [mul, sum, neg, div _ _ (den_ne X i0 i1 i2), add]; rfl

theorem v182 : val_main_v182 (F := Ideal) (up2 X.q) (up2 X.k) (up2 X.d) = up4 (dn X) := by
  funext i; idx_vars i; pointwise [val_main_v182, val_main_v181, v149 X, v63 X]
  exact div _ _ (den_ne X i0 i1 i2)

/-- The gradient of the exponentials, times them. -/
def dp (g : Fin 3) (h : Fin 4) (t s : Fin 4096) : ℝ := ((∑ e, dn X g h t e * X.v s (gcol g h e)) + dden X g h t) * p X g h t s

theorem v189 : val_main_v189 (F := Ideal) (up2 X.q) (up2 X.k) (up2 X.v) (up2 X.d) = up4 (dp X) := by
  funext i; idx_vars i
  pointwise [val_main_v189, val_main_v188, val_main_v187, val_main_v186, val_main_cst_39, val_main_v185, v182 X, v46 X, v180 X, v61 X]
  show (∑ e, ((dn X i0 i1 i2 e : ℝ) : EReal) * ((X.v i3 (gcol i0 i1 e) : ℝ) : EReal) + ∑ _x : Fin 1, ((dden X i0 i1 i2 : ℝ) : EReal)) * ((p X i0 i1 i2 i3 : ℝ) : EReal) = ((dp X i0 i1 i2 i3 : ℝ) : EReal)
  simp only [Fin.sum_univ_one, mul, sum, add]; rfl

/-- The gradient through a row's maximum cancels. -/
theorem cancel (g : Fin 3) (h : Fin 4) (t : Fin 4096) : dl X g h t + ∑ s, -dp X g h t s = 0 := by
  have hd := den_ne X g h t
  have e1 : ∑ s, dp X g h t s = (∑ e, dn X g h t e * pv X g h t e) + dden X g h t * den X g h t := by
    simp only [dp, add_mul, Finset.sum_add_distrib]
    congr 1
    · simp only [Finset.sum_mul]; rw [Finset.sum_comm]
      refine Finset.sum_congr rfl fun e _ => ?_
      rw [pv, Finset.mul_sum]; exact Finset.sum_congr rfl fun s _ => by ring
    · rw [← Finset.mul_sum]; rfl
  have e2 : dden X g h t * den X g h t = dl X g h t - ∑ e, dn X g h t e * pv X g h t e := by
    rw [dden, add_mul, div_mul_cancel₀ _ hd, sub_eq_add_neg, neg_mul, Finset.sum_mul]
    congr 2
    refine Finset.sum_congr rfl fun e _ => ?_
    rw [dn]; field_simp
  rw [Finset.sum_neg_distrib, e1, e2]; ring

theorem v193 : val_main_v193 (F := Ideal) (up2 X.q) (up2 X.k) (up2 X.v) (up2 X.d) = up4 fun _ _ _ _ => 0 := by
  funext i; idx_vars i
  pointwise [val_main_v193, val_main_v192, val_main_v191, val_main_cst_40, val_main_v190, v189 X, v172 X]
  show ((dl X i0 i1 i2 : ℝ) : EReal) + ∑ s, -((dp X i0 i1 i2 s : ℝ) : EReal) = ((0 : ℝ) : EReal)
  simp only [neg, sum, add]
  exact congrArg _ (cancel X i0 i1 i2)

/-- Which keys have the largest score, and their number. -/
def ind (g : Fin 3) (h : Fin 4) (t s : Fin 4096) : ℝ := if ms X g h t s = ((mx X g h t : ℝ) : EReal) then 1 else 0
theorem cnt_pos (g h t) : 0 < ∑ s, ind X g h t s := by
  obtain ⟨s, hs⟩ : ∃ s, ms X g h t s = ((mx X g h t : ℝ) : EReal) := (max_ex X g h t).choose_spec.2
  refine Finset.sum_pos' (fun s _ => ?_) ⟨s, Finset.mem_univ _, ?_⟩
  · unfold ind; split <;> norm_num
  · unfold ind; rw [if_pos hs]; norm_num

theorem v56 : val_main_v56 (F := Ideal) (up2 X.q) (up2 X.k) = up4 (ind X) := by
  funext i; idx_vars i; pointwise [val_main_v56, val_main_v55, val_main_v54, val_main_v53, v51_0 X, v52 X]
  show (((BitVec.ofBool (decide (ms X i0 i1 i2 i3 = ((mx X i0 i1 i2 : ℝ) : EReal)))).toNat : ℝ) : EReal) = ((ind X i0 i1 i2 i3 : ℝ) : EReal)
  unfold ind
  by_cases h : ms X i0 i1 i2 i3 = ((mx X i0 i1 i2 : ℝ) : EReal)
  · rw [if_pos h, decide_eq_true h]; exact congrArg _ Nat.cast_one
  · rw [if_neg h, decide_eq_false h]; exact congrArg _ Nat.cast_zero

theorem v57 : val_main_v57 (F := Ideal) (up2 X.q) (up2 X.k) = up3 fun g h t => ∑ s, ind X g h t s := by
  funext i; idx_vars i; pointwise [val_main_v57, val_main_cst_13, v56 X]
  simp only [sum, zero_add]; rfl

theorem v195 : val_main_v195 (F := Ideal) (up2 X.q) (up2 X.k) (up2 X.v) (up2 X.d) = up3 fun _ _ _ => 0 := by
  funext i; idx_vars i; pointwise [val_main_v195, val_main_v194, val_main_cst_41, v193 X, v57 X]
  show Ideal.div (∑ _x : Fin 1, ((0 : ℝ) : EReal)) ((∑ s, ind X i0 i1 i2 s : ℝ) : EReal) = ((0 : ℝ) : EReal)
  rw [Fin.sum_univ_one, div _ _ (cnt_pos X i0 i1 i2).ne', zero_div]

theorem v201 : val_main_v201 (F := Ideal) (up2 X.q) (up2 X.k) (up2 X.v) (up2 X.d) = up4 fun g h t s => dp X g h t s * (1 / 8) := by
  funext i; idx_vars i
  pointwise [val_main_v201, val_main_v200, val_main_cst_42, val_main_v199, val_main_call1_v0, val_main_call1_cst, val_main_v198, val_main_v197, val_main_v196, v195 X, v56 X, v189 X, v51_1]
  show Scalar.select (if ok i0 i2 i3 then 1#1 else 0#1)
    ((((dp X i0 i1 i2 i3 : ℝ) : EReal) + ((0 : ℝ) : EReal) * ((ind X i0 i1 i2 i3 : ℝ) : EReal)) * Ideal.ofBits FTy.f32 0x3E000000#32) ((0 : ℝ) : EReal)
    = ((dp X i0 i1 i2 i3 * (1 / 8) : ℝ) : EReal)
  rw [ofBits_eighth', mul, add, mul, zero_mul, add_zero]
  by_cases h : ok i0 i2 i3
  · rw [if_pos h]; rfl
  · rw [if_neg h, dp, p, if_neg h, mul_zero, zero_mul]; rfl

/-- The gradients of queries, keys and values, by group, head and lane. -/
def gQ (g : Fin 3) (h : Fin 4) (t : Fin 4096) (e : Fin 64) : ℝ := ∑ s, dp X g h t s * (1 / 8) * X.k s (gcol g h e)
def gK (g : Fin 3) (h : Fin 4) (s : Fin 4096) (e : Fin 64) : ℝ := ∑ t, dp X g h t s * (1 / 8) * X.q t (gcol g h e)
def gV (g : Fin 3) (h : Fin 4) (s : Fin 4096) (e : Fin 64) : ℝ := ∑ t, dn X g h t e * p X g h t s

theorem v204 : val_main_v204 (F := Ideal) (up2 X.q) (up2 X.k) (up2 X.d) = up4 fun t g h e => gV X g h t e := by
  funext i; idx_vars i; pointwise [val_main_v204, val_main_v184, val_main_v183, v182 X, v61 X]
  simp only [mul, sum]; rfl
theorem v206 : val_main_v206 (F := Ideal) (up2 X.q) (up2 X.k) (up2 X.v) (up2 X.d) = up4 fun t g h e => gK X g h t e := by
  funext i; idx_vars i; pointwise [val_main_v206, val_main_v202, v201 X, v42 X]
  simp only [mul, sum]; rfl
theorem v208 : val_main_v208 (F := Ideal) (up2 X.q) (up2 X.k) (up2 X.v) (up2 X.d) = up4 fun t g h e => gQ X g h t e := by
  funext i; idx_vars i; pointwise [val_main_v208, val_main_v203, v201 X, v44 X]
  simp only [mul, sum]; rfl

/-- The group, head and lane of a column. -/
abbrev cg (c : Fin 768) : Fin 3 := ⟨c.val / 256, by omega⟩
abbrev ch (c : Fin 768) : Fin 4 := ⟨c.val / 64 % 4, by omega⟩
abbrev ce (c : Fin 768) : Fin 64 := ⟨c.val % 64, by omega⟩

theorem v209 : val_main_v209 (F := Ideal) (up2 X.q) (up2 X.k) (up2 X.v) (up2 X.d) = up2 fun t c => gQ X (cg c) (ch c) t (ce c) := by
  funext i; idx_vars i; pointwise [val_main_v209, v208 X]; rfl
theorem v207 : val_main_v207 (F := Ideal) (up2 X.q) (up2 X.k) (up2 X.v) (up2 X.d) = up2 fun t c => gK X (cg c) (ch c) t (ce c) := by
  funext i; idx_vars i; pointwise [val_main_v207, v206 X]; rfl
theorem v205 : val_main_v205 (F := Ideal) (up2 X.q) (up2 X.k) (up2 X.d) = up2 fun t c => gV X (cg c) (ch c) t (ce c) := by
  funext i; idx_vars i; pointwise [val_main_v205, v204 X]; rfl

end Cert.Attn0ReferenceIdeal.Read
-- ==== Proof.AttnSub.lean ====
module

public import proofs.«01_k».proof.Proof.Gen.Attn0KernelIdeal.Skeleton
public import proofs.«01_k».proof.Proof.Lift

/-! One key block of the dilated attention's backward call: 128 keys against 256 queries, four heads of 64 columns taken two
at a time. What the body computes from its six operands, over the reals. -/

@[expose] public section

set_option maxRecDepth 16384

noncomputable section

namespace Cert.Attn

open Idealize.ShloMosaic
open Cert.Attn0KernelIdeal Cert.Attn0KernelIdeal.Gen Cert.Lift

abbrev M (n m : ℕ) := Fin n → Fin m → ℝ

/-- Which columns belong to head `h`, in 256 rows and in 128. -/
def cols (h : Fin 4) : IVec S256x256 1 := cmpi .eq k0_pay3 (broadcast S256x256 (BitVec.ofNat 32 h.val))
def cols' (h : Fin 4) : IVec S128x256 1 :=
  cmpi .eq (k0_pay10 (iota .tc S128x256 32 [1] iota_S128x256_d1_w32) 64#32 k0_pay8 k0_pay9 1#1) (broadcast S128x256 (BitVec.ofNat 32 h.val))

/-- The columns of two heads; one head's columns above another's. -/
def pair (h h' : Fin 4) (x : FVec Ideal S256x256 .bf16) : FVec Ideal S256x256 .bf16 :=
  select (ori (cols h) (cols h')) x (broadcast S256x256 (Scalar.ofBits .bf16 0x0000#16))
def stack (h h' : Fin 4) (x : FVec Ideal S128x256 .bf16) : FVec Ideal S256x256 .bf16 :=
  concatenate S256x256 0 [⟨S128x256, select (cols' h) x (broadcast S128x256 (Scalar.ofBits .bf16 0x0000#16))⟩,
    ⟨S128x256, select (cols' h') x (broadcast S128x256 (Scalar.ofBits .bf16 0x0000#16))⟩] concatenates_S128x256_S128x256_S256x256_d0

/-- The first columns of two heads, spread over the stack's columns. -/
def firsts (o o' : ℕ) (s : S256x256.Slices ![0, o] S256x1) (s' : S256x256.Slices ![0, o'] S256x1) (x : FVec Ideal S256x256 .f32) : FVec Ideal S256x256 .f32 :=
  select k0_pay15 (broadcastTo S256x256 (shapeCast S256x1 (extractStridedSlice S256x1 ![0, o] x s) shapeCasts_S256x1_S256x1) broadcasts_S256x1_S256x256)
    (broadcastTo S256x256 (shapeCast S256x1 (extractStridedSlice S256x1 ![0, o'] x s') shapeCasts_S256x1_S256x1) broadcasts_S256x1_S256x256)

/-- The weights and the scores' gradients of two heads. -/
def wts (ok : IVec S256x256 1) (q k : FVec Ideal S256x256 .bf16) (l : FVec Ideal S256x256 .f32) : FVec Ideal S256x256 .f32 :=
  select ok (exp (subf (mulf (matmul dot_S256x256_S256x256_S256x256_1_1_0_0_n_n none q k (constant S256x256 .f32 0x00000000#32))
    (broadcast S256x256 (Scalar.ofBits .f32 0x3E000000#32))) l)) (broadcast S256x256 (Scalar.ofBits .f32 0x00000000#32))
def dsc (p : FVec Ideal S256x256 .f32) (d v : FVec Ideal S256x256 .bf16) (l : FVec Ideal S256x256 .f32) : FVec Ideal S256x256 .bf16 :=
  truncf .bf16 (mulf p (subf (matmul dot_S256x256_S256x256_S256x256_1_1_0_0_n_n none d v (constant S256x256 .f32 0x00000000#32)) l)) bitsLt_bf16_f32

/-- Adding two heads' key gradients to their columns. -/
def put (h h' : Fin 4) (acc : FVec Ideal S128x256 .f32) (x : FVec Ideal S256x256 .f32) : FVec Ideal S128x256 .f32 :=
  addf (addf acc (select (cols' h) (extractStridedSlice S128x256 ![0, 0] x slices_S256x256_o0_0_S128x256) (broadcast S128x256 (Scalar.ofBits .f32 0x00000000#32))))
    (select (cols' h') (extractStridedSlice S128x256 ![128, 0] x slices_S256x256_o128_0_S128x256) (broadcast S128x256 (Scalar.ofBits .f32 0x00000000#32)))

/-- The products: keys against queries' rows, and queries against keys. -/
def down (p q : FVec Ideal S256x256 .bf16) : FVec Ideal S256x256 .f32 :=
  matmul dot_S256x256_S256x256_S256x256_0_0_1_1_n_n none p q (constant S256x256 .f32 0x00000000#32)
def across (p q : FVec Ideal S256x256 .bf16) : FVec Ideal S256x256 .f32 :=
  matmul dot_S256x256_S256x256_S256x256_1_0_0_1_n_n none p q (constant S256x256 .f32 0x00000000#32)

/-- The operands of a key block. -/
structure Op where
  ok : IVec S256x256 1
  q : FVec Ideal S256x256 .bf16
  d : FVec Ideal S256x256 .bf16
  dl : FVec Ideal S256x256 .f32
  l : FVec Ideal S256x256 .f32
  k : FVec Ideal S128x256 .bf16
  v : FVec Ideal S128x256 .bf16

namespace Op
variable (o : Op)
def p0 := wts o.ok (pair 0 1 o.q) (stack 0 1 o.k) (firsts 0 64 slices_S256x256_o0_0_S256x1 slices_S256x256_o0_64_S256x1 o.l)
def p2 := wts o.ok (pair 2 3 o.q) (stack 2 3 o.k) (firsts 128 192 slices_S256x256_o0_128_S256x1 slices_S256x256_o0_192_S256x1 o.l)
def s0 := dsc o.p0 (pair 0 1 o.d) (stack 0 1 o.v) (firsts 0 64 slices_S256x256_o0_0_S256x1 slices_S256x256_o0_64_S256x1 o.dl)
def s2 := dsc o.p2 (pair 2 3 o.d) (stack 2 3 o.v) (firsts 128 192 slices_S256x256_o0_128_S256x1 slices_S256x256_o0_192_S256x1 o.dl)
/-- The gradients of the block's values and keys, and of the queries. -/
def dv : FVec Ideal S128x256 .f32 := put 2 3 (put 0 1 (broadcast S128x256 (Scalar.ofBits .f32 0x00000000#32)) (down (truncf .bf16 o.p0 bitsLt_bf16_f32) (pair 0 1 o.d)))
  (down (truncf .bf16 o.p2 bitsLt_bf16_f32) (pair 2 3 o.d))
def dk : FVec Ideal S128x256 .f32 := mulf (put 2 3 (put 0 1 (broadcast S128x256 (Scalar.ofBits .f32 0x00000000#32)) (down o.s0 (pair 0 1 o.q))) (down o.s2 (pair 2 3 o.q)))
  (broadcast S128x256 (Scalar.ofBits .f32 0x3E000000#32))
def dq : FVec Ideal S256x256 .f32 := addf (addf (broadcast S256x256 (Scalar.ofBits .f32 0x00000000#32)) (across o.s0 (stack 0 1 o.k))) (across o.s2 (stack 2 3 o.k))
end Op

/-- The head of a column, a head's first column, and the head and key of a stack's row. -/
def hof (a : Fin 256) : Fin 4 := ⟨a.val / 64, by omega⟩
def fst (h : Fin 4) : Fin 256 := ⟨64 * h.val, by omega⟩
def hd (h h' : Fin 4) (c : Fin 256) : Fin 4 := if c.val < 128 then h else h'
def half (c : Fin 256) : Fin 128 := ⟨c.val % 128, by omega⟩

theorem head256 : ∀ h : Fin 4, ∀ a : Fin 256, cols h (ix2 (0 : Fin 256) a) = if hof a = h then 1#1 else 0#1 := by
  have key : ∀ h : Fin 4, ∀ a : Fin 256, IntOp.cmpi CmpIPredicate.eq
      (Scalar.select
        (IntOp.andi
          (IntOp.cmpi CmpIPredicate.ne
            (IntOp.subi (BitVec.setWidth 32 (IntOp.cmpi CmpIPredicate.sgt (BitVec.ofNat 32 a.val) 0#32))
              (BitVec.setWidth 32 (IntOp.cmpi CmpIPredicate.slt (BitVec.ofNat 32 a.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 a.val) 64#32) 0#32))
        (IntOp.subi (IntOp.divsi ArithUnit.vector (BitVec.ofNat 32 a.val) 64#32) 1#32)
        (IntOp.divsi ArithUnit.vector (BitVec.ofNat 32 a.val) 64#32))
      (BitVec.ofNat 32 h.val) = if hof a = h then 1#1 else 0#1 := by decide +kernel
  intro h a; pointwise [cols, k0_pay3]; exact key h a

theorem cols_eq (h : Fin 4) : cols h = fun i => if hof (i 1) = h then 1#1 else 0#1 := by
  funext i; idx_vars i; refine Eq.trans ?_ (head256 h i1); pointwise [cols, k0_pay3]

theorem cols'_eq (h : Fin 4) : cols' h = fun i => if hof (i 1) = h then 1#1 else 0#1 := by
  funext i; idx_vars i
  refine Eq.trans (b := cols h (ix2 (0 : Fin 256) i1)) ?_ (head256 h i1)
  pointwise [cols', k0_pay10, k0_pay8, k0_pay9, cols, k0_pay3]; rfl

theorem pay15 : k0_pay15 = fun i => if (i 1).val < 128 then 1#1 else 0#1 := by
  funext i; idx_vars i; pointwise [k0_pay15]
  exact (by decide +kernel : ∀ a : Fin 256, IntOp.cmpi .slt (BitVec.ofNat 32 a.val) 128#32 = if a.val < 128 then 1#1 else 0#1) i1

/-- The query row `r` of 256 sees key `c` of 128: the same block's earlier keys, the block before's later ones. -/
def Sees (n : BitVec 1) (r : Fin 256) (c : Fin 128) : Prop := (r.val < 128 ∧ c.val ≤ r.val) ∨ (128 ≤ r.val ∧ r.val ≤ c.val + 128 ∧ n = 1#1)
instance (n r c) : Decidable (Sees n r c) := by unfold Sees; infer_instance

/-- The mask of a key block, the next block's being there or not. -/
def maskAt (n : BitVec 1) (r c : Fin 256) : BitVec 1 := if Sees n r (half c) then 1#1 else 0#1
def mask (n : BitVec 1) : IVec S256x256 1 := fun i => maskAt n (i 0) (i 1)

theorem sees_row (a c : BitVec 32) (b : BitVec 1) (r : Fin 256) (k : Fin 128) (ha : a = BitVec.ofNat 32 r.val) (hc : c = BitVec.ofNat 32 k.val) :
    IntOp.ori (IntOp.andi (IntOp.cmpi .slt a 128#32) (IntOp.cmpi .sle c a))
      (IntOp.andi (IntOp.andi (IntOp.cmpi .sge a 128#32) (IntOp.cmpi .sge c (IntOp.subi a 128#32))) b) = if Sees b r k then 1#1 else 0#1 := by
  have h1 : ∀ r : Fin 256, IntOp.cmpi .slt (BitVec.ofNat 32 r.val) 128#32 = if r.val < 128 then 1#1 else 0#1 := by decide +kernel
  have h2 : ∀ r : Fin 256, IntOp.cmpi .sge (BitVec.ofNat 32 r.val) 128#32 = if 128 ≤ r.val then 1#1 else 0#1 := by decide +kernel
  have h3 : ∀ r : Fin 256, ∀ k : Fin 128, IntOp.cmpi .sle (BitVec.ofNat 32 k.val) (BitVec.ofNat 32 r.val) = if k.val ≤ r.val then 1#1 else 0#1 := by decide +kernel
  have h4 : ∀ r : Fin 256, 128 ≤ r.val → IntOp.subi (BitVec.ofNat 32 r.val) 128#32 = BitVec.ofNat 32 (r.val - 128) := by decide +kernel
  have h5 : ∀ r k : Fin 128, IntOp.cmpi .sge (BitVec.ofNat 32 k.val) (BitVec.ofNat 32 r.val) = if r.val ≤ k.val then 1#1 else 0#1 := by decide +kernel
  subst ha hc
  rw [h1, h2, h3]
  by_cases hr : r.val < 128
  · have hn : ¬ 128 ≤ r.val := by omega
    by_cases hk : k.val ≤ r.val <;> simp [Sees, hr, hn, hk, IntOp.ori, IntOp.andi]
  · have hn : 128 ≤ r.val := by omega
    rw [h4 r hn, h5 ⟨r.val - 128, by omega⟩ k]
    rcases (by decide : ∀ b : BitVec 1, b = 0#1 ∨ b = 1#1) b with hb | hb <;> by_cases hk : r.val ≤ k.val + 128 <;>
      simp [Sees, hr, hn, hk, hb, IntOp.ori, IntOp.andi]

theorem sel {P : Prop} [Decidable P] (a b : ℝ) : Scalar.select (if P then 1#1 else 0#1) (a : EReal) (b : EReal) = ((if P then a else b : ℝ) : EReal) := by
  by_cases h : P <;> simp [h, Scalar.select]

theorem ors {P Q : Prop} [Decidable P] [Decidable Q] : IntOp.ori (if P then 1#1 else 0#1) (if Q then 1#1 else 0#1) = if P ∨ Q then 1#1 else 0#1 := by
  by_cases h : P <;> by_cases h' : Q <;> simp [h, h', IntOp.ori]

theorem pay19 (s n : BitVec 32) : k0_pay19 s n = mask (Scalar.cmpi .sgt (Scalar.andi s n) 0#32) := by
  funext i; idx_vars i; pointwise [k0_pay19]
  refine Eq.trans ?_ (show (if Sees (Scalar.cmpi .sgt (Scalar.andi s n) 0#32) i0 (half i1) then 1#1 else 0#1) = mask _ (ix2 i0 i1) from rfl)
  exact sees_row _ _ _ i0 (half i1) rfl ((by decide +kernel : ∀ a : Fin 256, IntOp.andi (BitVec.ofNat 32 a.val) 127#32 = BitVec.ofNat 32 (half a).val) i1)

theorem pair_eq (h h' : Fin 4) (x : M 256 256) : pair h h' (up2 x) = up2 fun r a => if hof a = h ∨ hof a = h' then x r a else 0 := by
  unfold pair; rw [cols_eq, cols_eq]
  funext i; idx_vars i; pointwise
  exact (congrArg (fun z => Scalar.select z ((x i0 i1 : ℝ) : EReal) ((0 : ℝ) : EReal)) ors).trans (sel (x i0 i1) 0)

theorem stack_eq (h h' : Fin 4) (x : M 128 256) : stack h h' (up2 x) = up2 fun r a => if hof a = hd h h' r then x (half r) a else 0 := by
  unfold stack; rw [cols'_eq, cols'_eq]
  funext i; idx_vars i; pointwise
  show _ = (((if hof i1 = hd h h' i0 then x (half i0) i1 else 0 : ℝ)) : EReal)
  by_cases h0 : i0.val < 128
  · rw [dif_pos h0]
    have e : half i0 = ⟨i0.val, h0⟩ := Fin.ext (Nat.mod_eq_of_lt h0)
    have e' : hd h h' i0 = h := if_pos h0
    rw [e, e']; exact sel (x ⟨i0.val, h0⟩ i1) 0
  · rw [dif_neg h0]
    have e : half i0 = ⟨i0.val - 128, by omega⟩ := Fin.ext (by show i0.val % 128 = i0.val - 128; omega)
    have e' : hd h h' i0 = h' := if_neg h0
    rw [e, e']; exact sel (x ⟨i0.val - 128, by omega⟩ i1) 0

theorem firsts_eq (h h' : Fin 4) (o o' : ℕ) (s s') (x : M 256 256) (ho : o = 64 * h.val) (ho' : o' = 64 * h'.val) :
    firsts o o' s s' (up2 x) = up2 fun r c => x r (fst (hd h h' c)) := by
  subst ho ho'
  unfold firsts; rw [pay15]
  funext i; idx_vars i; pointwise
  show _ = ((x i0 (fst (hd h h' i1)) : ℝ) : EReal)
  by_cases h1 : i1.val < 128 <;> simp [h1, Scalar.select, hd] <;> rfl

theorem down_eq (p x : M 256 256) : down (up2 p) (up2 x) = up2 fun c a => ∑ r, p r c * x r a := by
  funext i; idx_vars i; pointwise [down]; simp only [mul, sum]; rfl

theorem across_eq (p x : M 256 256) : across (up2 p) (up2 x) = up2 fun r a => ∑ c, p r c * x c a := by
  funext i; idx_vars i; pointwise [across]; simp only [mul, sum]; rfl

theorem put_eq (h h' : Fin 4) (acc : M 128 256) (x : M 256 256) : put h h' (up2 acc) (up2 x)
    = up2 fun c a => acc c a + (if hof a = h then x ⟨c.val, by omega⟩ a else 0) + (if hof a = h' then x ⟨128 + c.val, by omega⟩ a else 0) := by
  unfold put; rw [cols'_eq, cols'_eq]
  funext i; idx_vars i; pointwise
  show ((acc i0 i1 : ℝ) : EReal) + Scalar.select (if hof i1 = h then 1#1 else 0#1) ((x ⟨i0.val, by omega⟩ i1 : ℝ) : EReal) ((0 : ℝ) : EReal)
    + Scalar.select (if hof i1 = h' then 1#1 else 0#1) ((x ⟨128 + i0.val, by omega⟩ i1 : ℝ) : EReal) ((0 : ℝ) : EReal) = _
  rw [sel, sel, add, add]; rfl

theorem ofBits_eighth : Ideal.ofBits .f32 0x3E000000#32 = ((1 / 8 : ℝ) : EReal) := by
  simp [Ideal.ofBits, Ideal.ieee]; rw [← EReal.coe_mul]; norm_num

theorem wts_eq (n : BitVec 1) (q k l : M 256 256) : wts (mask n) (up2 q) (up2 k) (up2 l)
    = up2 fun r c => if Sees n r (half c) then Real.exp ((∑ a, q r a * k c a) * (1 / 8) - l r c) else 0 := by
  funext i; idx_vars i; pointwise [wts, mask, maskAt]
  simp only [mul, sum, ofBits_eighth]
  show Scalar.select (if Sees n i0 (half i1) then 1#1 else 0#1) (Ideal.exp (((((∑ a, q i0 a * k i1 a) * (1 / 8) : ℝ)) : EReal) - ((l i0 i1 : ℝ) : EReal))) ((0 : ℝ) : EReal) = _
  rw [sub, exp, sel]; rfl

theorem dsc_eq (p d v l : M 256 256) : dsc (up2 p) (up2 d) (up2 v) (up2 l) = up2 fun r c => p r c * ((∑ a, d r a * v c a) - l r c) := by
  funext i; idx_vars i; pointwise [dsc]; simp only [mul, sum]
  exact (congrArg (fun t => ((p i0 i1 : ℝ) : EReal) * t) (sub _ _)).trans (mul _ _)

/-- A head's part of a product of two rows. -/
def hsum (h : Fin 4) (x y : Fin 256 → ℝ) : ℝ := ∑ a, if hof a = h then x a * y a else 0

/-- The weight of key `c` in query row `r` at head `h`, and the gradient of its score. -/
def W (n : BitVec 1) (q l : M 256 256) (k : M 128 256) (h : Fin 4) (r : Fin 256) (c : Fin 128) : ℝ :=
  if Sees n r c then Real.exp (hsum h (q r) (k c) * (1 / 8) - l r (fst h)) else 0
def D (n : BitVec 1) (q d dl l : M 256 256) (k v : M 128 256) (h : Fin 4) (r : Fin 256) (c : Fin 128) : ℝ :=
  W n q l k h r c * (hsum h (d r) (v c) - dl r (fst h))

theorem hd_or (h h' : Fin 4) (c : Fin 256) : hd h h' c = h ∨ hd h h' c = h' := by
  unfold hd; by_cases hc : c.val < 128 <;> simp [hc]

/-- The product of two heads' columns with a stack's row is the row's own head's. -/
theorem pair_stack (h h' : Fin 4) (c : Fin 256) (x y : Fin 256 → ℝ) :
    (∑ a, (if hof a = h ∨ hof a = h' then x a else 0) * (if hof a = hd h h' c then y a else 0)) = hsum (hd h h' c) x y := by
  refine Finset.sum_congr rfl fun a _ => ?_
  by_cases e : hof a = hd h h' c
  · rw [if_pos e, if_pos e, if_pos (e ▸ hd_or h h' c)]
  · rw [if_neg e, if_neg e, mul_zero]

variable (n : BitVec 1) (q d dl l : M 256 256) (k v : M 128 256)

theorem wts_pair (h h' : Fin 4) : wts (mask n) (pair h h' (up2 q)) (stack h h' (up2 k)) (up2 fun r c => l r (fst (hd h h' c)))
    = up2 fun r c => W n q l k (hd h h' c) r (half c) := by
  rw [pair_eq, stack_eq, wts_eq]
  simp only [pair_stack, W]

theorem dsc_pair (h h' : Fin 4) : dsc (up2 fun r c => W n q l k (hd h h' c) r (half c)) (pair h h' (up2 d)) (stack h h' (up2 v)) (up2 fun r c => dl r (fst (hd h h' c)))
    = up2 fun r c => D n q d dl l k v (hd h h' c) r (half c) := by
  rw [pair_eq, stack_eq, dsc_eq]
  simp only [pair_stack, D]

/-- The operands over real matrices. -/
def op : Op := ⟨mask n, up2 q, up2 d, up2 dl, up2 l, up2 k, up2 v⟩

theorem p0_eq : (op n q d dl l k v).p0 = up2 fun r c => W n q l k (hd 0 1 c) r (half c) := by
  simp only [Op.p0, op]; rw [firsts_eq 0 1 0 64 _ _ l rfl rfl, wts_pair]
theorem p2_eq : (op n q d dl l k v).p2 = up2 fun r c => W n q l k (hd 2 3 c) r (half c) := by
  simp only [Op.p2, op]; rw [firsts_eq 2 3 128 192 _ _ l rfl rfl, wts_pair]
theorem s0_eq : (op n q d dl l k v).s0 = up2 fun r c => D n q d dl l k v (hd 0 1 c) r (half c) := by
  unfold Op.s0; rw [p0_eq]; simp only [op]; rw [firsts_eq 0 1 0 64 _ _ dl rfl rfl, dsc_pair]
theorem s2_eq : (op n q d dl l k v).s2 = up2 fun r c => D n q d dl l k v (hd 2 3 c) r (half c) := by
  unfold Op.s2; rw [p2_eq]; simp only [op]; rw [firsts_eq 2 3 128 192 _ _ dl rfl rfl, dsc_pair]

theorem zero128 : broadcast S128x256 (Scalar.ofBits .f32 0x00000000#32 : Ideal .f32) = up2 fun _ _ => 0 := by
  funext i; idx_vars i; pointwise; rfl
theorem zero256 : broadcast S256x256 (Scalar.ofBits .f32 0x00000000#32 : Ideal .f32) = up2 fun _ _ => 0 := by
  funext i; idx_vars i; pointwise; rfl

theorem heads (a : Fin 256) : hof a = 0 ∨ hof a = 1 ∨ hof a = 2 ∨ hof a = 3 := by
  rcases hof a with ⟨x, hx⟩
  simp only [Fin.ext_iff]; show x = 0 ∨ x = 1 ∨ x = 2 ∨ x = 3; omega

theorem lo (h h' : Fin 4) (c : Fin 128) : hd h h' ⟨c.val, by omega⟩ = h ∧ half ⟨c.val, by omega⟩ = c :=
  ⟨if_pos c.isLt, Fin.ext (Nat.mod_eq_of_lt c.isLt)⟩
theorem hi (h h' : Fin 4) (c : Fin 128) : hd h h' ⟨128 + c.val, by omega⟩ = h' ∧ half ⟨128 + c.val, by omega⟩ = c :=
  ⟨if_neg (by show ¬ 128 + c.val < 128; omega), Fin.ext (by show (128 + c.val) % 128 = c.val; omega)⟩

/-- Two heads' products with two heads' columns, put at their columns, are each column's own head's. -/
theorem put_heads (F : Fin 4 → M 256 128) (x : M 256 256) :
    put 2 3 (put 0 1 (broadcast S128x256 (Scalar.ofBits .f32 0x00000000#32))
        (down (up2 fun r c => F (hd 0 1 c) r (half c)) (pair 0 1 (up2 x)))) (down (up2 fun r c => F (hd 2 3 c) r (half c)) (pair 2 3 (up2 x)))
      = up2 fun c a => ∑ r, F (hof a) r c * x r a := by
  rw [zero128, pair_eq, pair_eq, down_eq, down_eq, put_eq, put_eq]
  refine congrArg up2 ?_; funext c a
  simp only [(lo 0 1 c).1, (lo 0 1 c).2, (hi 0 1 c).1, (hi 0 1 c).2, (lo 2 3 c).1, (lo 2 3 c).2, (hi 2 3 c).1, (hi 2 3 c).2]
  rcases heads a with e | e | e | e <;> simp [e]

theorem split (f : Fin 256 → ℝ) : ∑ c, f c = ∑ c : Fin 128, f ⟨c.val, by omega⟩ + ∑ c : Fin 128, f ⟨128 + c.val, by omega⟩ :=
  Fin.sum_univ_add (a := 128) (b := 128) f

/-- Two heads' scores' gradients against the stacked keys are each column's own head's. -/
theorem across_heads (F : Fin 4 → M 256 128) (x : M 128 256) :
    addf (addf (broadcast S256x256 (Scalar.ofBits .f32 0x00000000#32)) (across (up2 fun r c => F (hd 0 1 c) r (half c)) (stack 0 1 (up2 x))))
        (across (up2 fun r c => F (hd 2 3 c) r (half c)) (stack 2 3 (up2 x)))
      = up2 fun r a => ∑ c, F (hof a) r c * x c a := by
  rw [zero256, stack_eq, stack_eq, across_eq, across_eq]
  funext i; idx_vars i; pointwise
  show ((0 : ℝ) : EReal) + ((_ : ℝ) : EReal) + ((_ : ℝ) : EReal) = ((_ : ℝ) : EReal)
  rw [add, add]
  refine congrArg _ ?_
  simp only [split, (lo 0 1 _).1, (lo 0 1 _).2, (hi 0 1 _).1, (hi 0 1 _).2, (lo 2 3 _).1, (lo 2 3 _).2, (hi 2 3 _).1, (hi 2 3 _).2]
  rcases heads i1 with e | e | e | e <;> simp [e]

theorem dv_eq : (op n q d dl l k v).dv = up2 fun c a => ∑ r, W n q l k (hof a) r c * d r a := by
  unfold Op.dv; rw [p0_eq, p2_eq]
  exact put_heads (W n q l k) d

theorem dk_eq : (op n q d dl l k v).dk = up2 fun c a => (∑ r, D n q d dl l k v (hof a) r c * q r a) * (1 / 8) := by
  unfold Op.dk; rw [s0_eq, s2_eq]
  refine (congrArg (fun z => mulf z _) (put_heads (D n q d dl l k v) q)).trans ?_
  funext i; idx_vars i; pointwise
  rw [ofBits_eighth]; exact mul _ _

theorem dq_eq : (op n q d dl l k v).dq = up2 fun r a => ∑ c, D n q d dl l k v (hof a) r c * k c a := by
  unfold Op.dq; rw [s0_eq, s2_eq]
  exact across_heads (D n q d dl l k v) k

end Cert.Attn
-- ==== Proof.AttnStep.lean ====
module

public import proofs.«01_k».proof.Proof.AttnSub
public import Idealize.ShloMosaic.Lib.Pipeline.ValueKit
public import Idealize.ShloMosaic.Lib.Pipeline.ReadBack

/-! One grid point of the dilated attention's backward call: four key blocks, each against its own query rows and the next
block's, and the query gradients gathered in a scratch of five row blocks. -/

@[expose] public section

set_option maxRecDepth 16384

noncomputable section

namespace Cert.Attn

open Idealize.ShloMosaic Idealize.ShloMosaic.TcCoe
open Cert.Attn0KernelIdeal Cert.Attn0KernelIdeal.Gen Cert.Lift

/-- A point's ten input blocks: keys, values, and queries, output gradients, sums and log-sums with the next block's. -/
structure In where
  k : FVec Ideal S512x256 .bf16
  v : FVec Ideal S512x256 .bf16
  q : FVec Ideal S512x256 .bf16
  q' : FVec Ideal S128x256 .bf16
  d : FVec Ideal S512x256 .bf16
  d' : FVec Ideal S128x256 .bf16
  dl : FVec Ideal S512x256 .f32
  dl' : FVec Ideal S128x256 .f32
  l : FVec Ideal S512x256 .f32
  l' : FVec Ideal S128x256 .f32

abbrev Inb (o : ℕ) : Prop := ∀ a : Fin 2, (![o, 0] : Fin 2 → ℕ) a + (![128, 256] : Fin 2 → ℕ) a ≤ S512x256.size a

/-- 128 rows of 512, and two groups of 128 rows one above the other. -/
def rowb (o : ℕ) (inb : Inb o) (x : FVec Ideal S512x256 .bf16) : FVec Ideal S128x256 .bf16 :=
  View.ld (Val := Elt Ideal) (e' := .bf16) (S := S512x256) x (Rect.unit (s := S512x256) ![o, 0] ![128, 256] inb)
def rowf (o : ℕ) (inb : Inb o) (x : FVec Ideal S512x256 .f32) : FVec Ideal S128x256 .f32 :=
  View.ld (Val := Elt Ideal) (e' := .f32) (S := S512x256) x (Rect.unit (s := S512x256) ![o, 0] ![128, 256] inb)
def cat {φ : FTy} (x y : FVec Ideal S128x256 φ) : FVec Ideal S256x256 φ :=
  concatenate S256x256 0 [⟨S128x256, shapeCast S128x256 x shapeCasts_S128x256_S128x256⟩, ⟨S128x256, shapeCast S128x256 y shapeCasts_S128x256_S128x256⟩]
    concatenates_S128x256_S128x256_S256x256_d0

namespace In
variable (i : In) (p n : BitVec 32)

/-- A key block's operands: rows `o` of the keys, query rows `o` and `o'`; the last block's second query rows are the next point's. -/
def mid (j : BitVec 32) (o o' : ℕ) (h : Inb o) (h' : Inb o') : Op :=
  ⟨k0_pay19 (Scalar.addi (Scalar.addi (Scalar.muli p 4#32) j) 1#32) n, cat (rowb o h i.q) (rowb o' h' i.q), cat (rowb o h i.d) (rowb o' h' i.d),
    cat (rowf o h i.dl) (rowf o' h' i.dl), cat (rowf o h i.l) (rowf o' h' i.l),
    shapeCast S128x256 (rowb o h i.k) shapeCasts_S128x256_S128x256, shapeCast S128x256 (rowb o h i.v) shapeCasts_S128x256_S128x256⟩
def op0 : Op := i.mid p n 0#32 0 128 inb_S512x256_S128x256_0_0 inb_S512x256_S128x256_128_0
def op1 : Op := i.mid p n 1#32 128 256 inb_S512x256_S128x256_128_0 inb_S512x256_S128x256_256_0
def op2 : Op := i.mid p n 2#32 256 384 inb_S512x256_S128x256_256_0 inb_S512x256_S128x256_384_0
def op3 : Op :=
  ⟨k0_pay19 (Scalar.addi (Scalar.addi (Scalar.muli p 4#32) 3#32) 1#32) n, cat (rowb 384 inb_S512x256_S128x256_384_0 i.q) i.q',
    cat (rowb 384 inb_S512x256_S128x256_384_0 i.d) i.d', cat (rowf 384 inb_S512x256_S128x256_384_0 i.dl) i.dl',
    cat (rowf 384 inb_S512x256_S128x256_384_0 i.l) i.l',
    shapeCast S128x256 (rowb 384 inb_S512x256_S128x256_384_0 i.k) shapeCasts_S128x256_S128x256,
    shapeCast S128x256 (rowb 384 inb_S512x256_S128x256_384_0 i.v) shapeCasts_S128x256_S128x256⟩
end In

/-- Four blocks of rows stored one after another. -/
def four (x0 x1 x2 x3 : FVec Ideal S128x256 .f32) : FVec Ideal S512x256 .f32 :=
  View.canon (Val := Elt Ideal) (s := S512x256) (e := .f32) [⟨Rect.unit (s := S512x256) ![384, 0] ![128, 256] inb_S512x256_S128x256_384_0, x3⟩,
    ⟨Rect.unit (s := S512x256) ![256, 0] ![128, 256] inb_S512x256_S128x256_256_0, x2⟩,
    ⟨Rect.unit (s := S512x256) ![128, 0] ![128, 256] inb_S512x256_S128x256_128_0, x1⟩, ⟨Rect.unit (s := S512x256) ![0, 0] ![128, 256] inb_S512x256_S128x256_0_0, x0⟩]

theorem four_congr {x0 x1 x2 x3 y0 y1 y2 y3 : FVec Ideal S128x256 .f32} (h0 : x0 = y0) (h1 : x1 = y1) (h2 : x2 = y2) (h3 : x3 = y3) :
    View.canon (Val := Elt Ideal) (s := S512x256) (e := .f32) [⟨Rect.unit (s := S512x256) ![384, 0] ![128, 256] inb_S512x256_S128x256_384_0, x3⟩,
      ⟨Rect.unit (s := S512x256) ![256, 0] ![128, 256] inb_S512x256_S128x256_256_0, x2⟩,
      ⟨Rect.unit (s := S512x256) ![128, 0] ![128, 256] inb_S512x256_S128x256_128_0, x1⟩, ⟨Rect.unit (s := S512x256) ![0, 0] ![128, 256] inb_S512x256_S128x256_0_0, x0⟩]
      = four y0 y1 y2 y3 := by subst h0 h1 h2 h3; rfl

abbrev Scr := List (View.Piece (Elt Ideal) S640x256 .f32)
abbrev InbS (o : ℕ) : Prop := ∀ a : Fin 2, (![o, 0] : Fin 2 → ℕ) a + (![256, 256] : Fin 2 → ℕ) a ≤ S640x256.size a

section
variable {sg : RefSig} {κ : Kind} {sp : Space} (vw : View sg κ sp S640x256 .f32)

/-- Adding a block's query gradients to the scratch's rows. -/
def bump (o : ℕ) (inb : InbS o) (x : FVec Ideal S256x256 .f32) (L : Scr) : Scr :=
  ⟨Rect.unit (s := S640x256) ![o, 0] ![256, 256] inb,
    shapeCast S256x256 (addf (F := Ideal) (φ := .f32) (vw.readCov (Val := Elt Ideal) L (Rect.unit (s := S640x256) ![o, 0] ![256, 256] inb).toLoadRect) x) shapeCasts_S256x256_S256x256⟩ :: L

def scr (i : In) (p n : BitVec 32) (x : FVec Ideal S128x256 .f32) : Scr :=
  bump vw 384 inb_S640x256_S256x256_384_0 (i.op3 p n).dq <| bump vw 256 inb_S640x256_S256x256_256_0 (i.op2 p n).dq <|
    bump vw 128 inb_S640x256_S256x256_128_0 (i.op1 p n).dq <| bump vw 0 inb_S640x256_S256x256_0_0 (i.op0 p n).dq
      [⟨Rect.unit (s := S640x256) ![128, 0] ![512, 256] inb_S640x256_S512x256_128_0, (k0_pay18 (F := Ideal))⟩,
        ⟨Rect.unit (s := S640x256) ![0, 0] ![128, 256] inb_S640x256_S128x256_0_0, x⟩]
end

theorem cast128 (x : M 128 256) {φ : FTy} : shapeCast S128x256 (up2 x : FVec Ideal S128x256 φ) shapeCasts_S128x256_S128x256 = up2 x := by
  funext i; idx_vars i; pointwise
theorem cast256 (x : M 256 256) {φ : FTy} : shapeCast S256x256 (up2 x : FVec Ideal S256x256 φ) shapeCasts_S256x256_S256x256 = up2 x := by
  funext i; idx_vars i; pointwise

theorem rowb_eq (o : ℕ) (inb : Inb o) (x : M 512 256) (ho : o + 128 ≤ 512) : rowb o inb (up2 x) = up2 fun r a => x ⟨o + r.val, by omega⟩ a := by
  unfold rowb; funext i; idx_vars i; pointwise; rfl
theorem rowf_eq (o : ℕ) (inb : Inb o) (x : M 512 256) (ho : o + 128 ≤ 512) : rowf o inb (up2 x) = up2 fun r a => x ⟨o + r.val, by omega⟩ a := by
  unfold rowf; funext i; idx_vars i; pointwise; rfl

theorem cat_eq {φ : FTy} (x y : M 128 256) : (cat (up2 x) (up2 y) : FVec Ideal S256x256 φ)
    = up2 fun r a => if h : r.val < 128 then x ⟨r.val, h⟩ a else y ⟨r.val - 128, by omega⟩ a := by
  unfold cat; rw [cast128 (φ := φ), cast128 (φ := φ)]
  funext i; idx_vars i; pointwise
  show _ = (((if h : i0.val < 128 then x ⟨i0.val, h⟩ i1 else y ⟨i0.val - 128, by omega⟩ i1 : ℝ)) : EReal)
  by_cases h : i0.val < 128
  · rw [dif_pos h, dif_pos h]; rfl
  · rw [dif_neg h, dif_neg h]; rfl

theorem four_eq (G : M 512 256) : four (up2 fun r a => G ⟨0 + r.val, by omega⟩ a) (up2 fun r a => G ⟨128 + r.val, by omega⟩ a)
    (up2 fun r a => G ⟨256 + r.val, by omega⟩ a) (up2 fun r a => G ⟨384 + r.val, by omega⟩ a) = up2 G := by
  funext j
  have h := fun o inb ho => (rowf_eq o inb G ho)
  unfold four
  refine View.canon_apply_of_pieces (Val := Elt Ideal) (S := S512x256) (e := .f32) (up2 G) _ ?_ j ?_
  · exact List.forall_mem_cons.mpr ⟨fun x => (congrFun (h 384 inb_S512x256_S128x256_384_0 (by norm_num)) x).symm, List.forall_mem_cons.mpr ⟨fun x => (congrFun (h 256 inb_S512x256_S128x256_256_0 (by norm_num)) x).symm,
      List.forall_mem_cons.mpr ⟨fun x => (congrFun (h 128 inb_S512x256_S128x256_128_0 (by norm_num)) x).symm, List.forall_mem_cons.mpr ⟨fun x => (congrFun (h 0 inb_S512x256_S128x256_0_0 (by norm_num)) x).symm,
        fun _ hp => absurd hp List.not_mem_nil⟩⟩⟩⟩
  · have h0 : (j 0).val < 512 := (j 0).isLt
    have h1 : (j 1).val < 256 := (j 1).isLt
    have key : ∀ o inb, o ≤ (j 0).val → (j 0).val < o + 128 → j ∈ (Rect.unit (s := S512x256) ![o, 0] ![128, 256] inb).set := by
      intro o inb ho ho'
      refine Rect.mem_set_unit.mpr fun a => ?_
      match a with
      | ⟨0, _⟩ => exact ⟨ho, ho'⟩
      | ⟨1, _⟩ => exact ⟨Nat.zero_le _, by simpa using h1⟩
    rcases (by omega : (j 0).val / 128 = 0 ∨ (j 0).val / 128 = 1 ∨ (j 0).val / 128 = 2 ∨ (j 0).val / 128 = 3) with h | h | h | h
    all_goals
      simp only [List.mem_cons, List.not_mem_nil, or_false, exists_eq_or_imp, exists_eq_left]
    all_goals first
      | exact .inl (key _ _ (by omega) (by omega))
      | exact .inr (.inl (key _ _ (by omega) (by omega)))
      | exact .inr (.inr (.inl (key _ _ (by omega) (by omega))))
      | exact .inr (.inr (.inr (key _ _ (by omega) (by omega))))

/-- A block added over rows `o` on. -/
def added (o : ℕ) (S : M 640 256) (x : M 256 256) : M 640 256 :=
  fun i a => if h : o ≤ i.val ∧ i.val < o + 256 then S i a + x ⟨i.val - o, by omega⟩ a else S i a

section
variable {sg : RefSig} {κ : Kind} {sp : Space} (vw : View sg κ sp S640x256 .f32)

theorem added_in (o : ℕ) (S : M 640 256) (x : M 256 256) (i : Fin 640) (a r : Fin 256) (h : i.val = o + r.val) : added o S x i a = S i a + x r a := by
  have h' : o ≤ i.val ∧ i.val < o + 256 := by omega
  have e : (⟨i.val - o, by omega⟩ : Fin 256) = r := Fin.ext (by show i.val - o = r.val; omega)
  rw [added, dif_pos h', e]
theorem added_out (o : ℕ) (S : M 640 256) (x : M 256 256) (i : Fin 640) (a : Fin 256) (h : ¬(o ≤ i.val ∧ i.val < o + 256)) : added o S x i a = S i a := by
  rw [added, dif_neg h]

theorem bump_eq (o : ℕ) (inb : InbS o) (ho : o + 256 ≤ 640) (x : M 256 256) (L : Scr) (S : M 640 256) (hL : View.canon (Val := Elt Ideal) L = up2 S) :
    View.canon (Val := Elt Ideal) (bump vw o inb (up2 x) L) = up2 (added o S x) := by
  have e : vw.readCov (Val := Elt Ideal) L (Rect.unit (s := S640x256) ![o, 0] ![256, 256] inb).toLoadRect = up2 fun (r : Fin 256) (a : Fin 256) => S ⟨o + r.val, by omega⟩ a := by
    rw [View.readCov_eq_canon', hL]
    funext i; idx_vars i; pointwise; rfl
  have e' : addf (F := Ideal) (φ := .f32) (s := S256x256) (up2 fun (r : Fin 256) (a : Fin 256) => S ⟨o + r.val, by omega⟩ a) (up2 x) = up2 fun r a => S ⟨o + r.val, by omega⟩ a + x r a := by
    funext i; idx_vars i; pointwise; exact add _ _
  unfold bump
  rw [e, e', cast256 (φ := .f32)]
  funext j
  by_cases h : o ≤ (j 0).val ∧ (j 0).val < o + 256
  · have hm : j ∈ (Rect.unit (s := S640x256) ![o, 0] ![256, 256] inb).set := Rect.mem_set_unit.mpr fun a => by
      match a with
      | ⟨0, _⟩ => exact h
      | ⟨1, _⟩ => exact ⟨Nat.zero_le _, by simpa using (j 1).isLt⟩
    obtain ⟨y, rfl⟩ := (Rect.unit (s := S640x256) ![o, 0] ![256, 256] inb).exists_idx_of_mem hm
    obtain ⟨r, a, rfl⟩ : ∃ (r : Fin 256) (a : Fin 256), y = ix2 r a := ⟨y 0, y 1, by funext k; match k with | ⟨0, _⟩ => rfl | ⟨1, _⟩ => rfl⟩
    refine (View.canon_cons_emb (Rect.unit (s := S640x256) ![o, 0] ![256, 256] inb) _ _ (ix2 r a)).trans ?_
    have e0 : (Rect.unit (s := S640x256) ![o, 0] ![256, 256] inb).emb (ix2 r a) = ix2 (⟨o + r.val, by omega⟩ : Fin 640) a := by
      funext k; match k with
      | ⟨0, _⟩ => exact Fin.ext (by show o + 1 * r.val = o + r.val; omega)
      | ⟨1, _⟩ => exact Fin.ext (by show 0 + 1 * a.val = a.val; omega)
    refine Eq.trans ?_ (congrArg (up2 (added o S x)) e0).symm
    exact congrArg (fun z : ℝ => (z : EReal)) (added_in o S x ⟨o + r.val, by omega⟩ a r rfl).symm
  · rw [View.canon_cons_of_not_mem, hL]
    · show ((S (j 0) (j 1) : ℝ) : EReal) = ((added o S x (j 0) (j 1) : ℝ) : EReal)
      exact congrArg (fun z : ℝ => (z : EReal)) (added_out o S x _ _ h).symm
    · intro hm
      have := Rect.mem_set_unit (s := S640x256) (off := ![o, 0]) (size := ![256, 256]) (inb := inb) |>.mp hm 0
      exact h ⟨this.1, this.2⟩
end

/-! The whole arrays: 4096 rows of queries, keys, values, output gradients, sums and log-sums, in blocks of 128. -/

/-- Row `k` of 4096. -/
def at_ (k : ℕ) : Fin 4096 := ⟨k % 4096, by omega⟩
/-- The query rows a key block meets: its own and the next block's. -/
def qrow (b : ℕ) (r : Fin 256) : Fin 4096 := at_ (if r.val < 128 then 128 * b + r.val else 128 * min (b + 1) 31 + (r.val - 128))
/-- Whether the next block goes on with the same residue, at `N` blocks a residue. -/
def nx (N b : ℕ) : BitVec 1 := if (b + 1) % N = 0 then 0#1 else 1#1

structure Arr where
  q : M 4096 256
  k : M 4096 256
  v : M 4096 256
  d : M 4096 256
  dl : M 4096 256
  l : M 4096 256

namespace Arr
variable (N : ℕ) (x : Arr)

def blk (b : ℕ) : Op := op (nx N b) (fun r => x.q (qrow b r)) (fun r => x.d (qrow b r)) (fun r => x.dl (qrow b r)) (fun r => x.l (qrow b r))
  (fun c => x.k (at_ (128 * b + c.val))) (fun c => x.v (at_ (128 * b + c.val)))
def wl (b : ℕ) (h : Fin 4) (r : Fin 256) (c : Fin 128) : ℝ :=
  W (nx N b) (fun r => x.q (qrow b r)) (fun r => x.l (qrow b r)) (fun c => x.k (at_ (128 * b + c.val))) h r c
def sl (b : ℕ) (h : Fin 4) (r : Fin 256) (c : Fin 128) : ℝ :=
  D (nx N b) (fun r => x.q (qrow b r)) (fun r => x.d (qrow b r)) (fun r => x.dl (qrow b r)) (fun r => x.l (qrow b r))
    (fun c => x.k (at_ (128 * b + c.val))) (fun c => x.v (at_ (128 * b + c.val))) h r c
def dqb (b : ℕ) : M 256 256 := fun r a => ∑ c, x.sl N b (hof a) r c * x.k (at_ (128 * b + c.val)) a

theorem blk_dv (b : ℕ) : (x.blk N b).dv = up2 fun c a => ∑ r, x.wl N b (hof a) r c * x.d (qrow b r) a := dv_eq ..
theorem blk_dk (b : ℕ) : (x.blk N b).dk = up2 fun c a => (∑ r, x.sl N b (hof a) r c * x.q (qrow b r) a) * (1 / 8) := dk_eq ..
theorem blk_dq (b : ℕ) : (x.blk N b).dq = up2 (x.dqb N b) := dq_eq ..

/-- Query row `r` and key row `c` meet: the same residue, at most 128 back. -/
def Vis (r c : Fin 4096) : Prop := c.val ≤ r.val ∧ r.val ≤ c.val + 128 ∧ r.val / (128 * N) = c.val / (128 * N)
instance (r c : Fin 4096) : Decidable (Vis N r c) := by unfold Vis; infer_instance

/-- The weight of key row `c` in query row `r`, and the gradient of its score. -/
def w (h : Fin 4) (r c : Fin 4096) : ℝ := if Vis N r c then Real.exp (hsum h (x.q r) (x.k c) * (1 / 8) - x.l r (fst h)) else 0
def s (h : Fin 4) (r c : Fin 4096) : ℝ := x.w N h r c * (hsum h (x.d r) (x.v c) - x.dl r (fst h))
/-- The gradients of values, keys and queries. -/
def gv : M 4096 256 := fun c a => ∑ r, x.w N (hof a) r c * x.d r a
def gk : M 4096 256 := fun c a => (∑ r, x.s N (hof a) r c * x.q r a) * (1 / 8)
def gq : M 4096 256 := fun r a => (∑ c, x.s N (hof a) r c * x.k c a) * (1 / 8)

variable {N}

theorem at_self (r : Fin 4096) : at_ r.val = r := Fin.ext (Nat.mod_eq_of_lt r.isLt)
theorem at_val (k : ℕ) (h : k < 4096) : (at_ k).val = k := Nat.mod_eq_of_lt h

/-- A block's mask is the whole arrays'. -/
theorem sees_vis (hN : N ∣ 32) (b : ℕ) (hb : b < 32) (r : Fin 256) (c : Fin 128) :
    Sees (nx N b) r c ↔ (128 * b + r.val < 4096 ∧ Vis N (qrow b r) (at_ (128 * b + c.val))) := by
  have hN0 : 0 < N := Nat.pos_of_dvd_of_pos hN (by norm_num)
  have hc : (at_ (128 * b + c.val)).val = 128 * b + c.val := at_val _ (by omega)
  have d1 : (128 * b + c.val) / (128 * N) = b / N := by rw [← Nat.div_div_eq_div_mul]; congr 1; omega
  by_cases hr : r.val < 128
  · have hq : (qrow b r).val = 128 * b + r.val := by rw [qrow, if_pos hr]; exact at_val _ (by omega)
    have d2 : (128 * b + r.val) / (128 * N) = b / N := by rw [← Nat.div_div_eq_div_mul]; congr 1; omega
    rw [Sees, Vis, hq, hc, d1, d2]
    constructor
    · rintro (⟨h1, h2⟩ | ⟨h1, _⟩)
      · exact ⟨by omega, by omega, by omega, rfl⟩
      · omega
    · rintro ⟨_, h1, _, _⟩; exact .inl ⟨hr, by omega⟩
  · by_cases h31 : b = 31
    · subst h31
      have : nx N 31 = 0#1 := if_pos (Nat.mod_eq_zero_of_dvd hN)
      rw [Sees, this]
      constructor
      · rintro (⟨h1, _⟩ | ⟨_, _, h⟩)
        · omega
        · exact absurd h (by decide)
      · rintro ⟨h, _⟩; omega
    · have hq : (qrow b r).val = 128 * b + r.val := by
        rw [qrow, if_neg hr]; refine (at_val _ (by omega)).trans ?_; omega
      have d2 : (128 * b + r.val) / (128 * N) = (b + 1) / N := by rw [← Nat.div_div_eq_div_mul]; congr 1; omega
      rw [Sees, Vis, hq, hc, d1, d2]
      have key : nx N b = 1#1 ↔ (b + 1) / N = b / N := by
        rw [nx, Nat.succ_div]
        by_cases hd : N ∣ b + 1
        · rw [if_pos (Nat.mod_eq_zero_of_dvd hd), if_pos hd]; simp
        · rw [if_neg (fun h => hd (Nat.dvd_of_mod_eq_zero h)), if_neg hd]; simp
      rw [key]
      constructor
      · rintro (⟨h1, _⟩ | ⟨h1, h2, h3⟩)
        · omega
        · exact ⟨by omega, by omega, by omega, h3⟩
      · rintro ⟨_, h1, h2, h3⟩; exact .inr ⟨by omega, by omega, h3⟩

variable (hN : N ∣ 32)
include hN

theorem wl_eq (b : ℕ) (hb : b < 32) (h : Fin 4) (r : Fin 256) (c : Fin 128) :
    x.wl N b h r c = if 128 * b + r.val < 4096 then x.w N h (qrow b r) (at_ (128 * b + c.val)) else 0 := by
  have := sees_vis hN b hb r c
  unfold wl w W
  by_cases h1 : 128 * b + r.val < 4096
  · rw [if_pos h1]; exact if_congr (this.trans (and_iff_right h1)) rfl rfl
  · rw [if_neg h1, if_neg (fun h => h1 (this.mp h).1)]

theorem sl_eq (b : ℕ) (hb : b < 32) (h : Fin 4) (r : Fin 256) (c : Fin 128) :
    x.sl N b h r c = if 128 * b + r.val < 4096 then x.s N h (qrow b r) (at_ (128 * b + c.val)) else 0 := by
  have : x.sl N b h r c = x.wl N b h r c * (hsum h (x.d (qrow b r)) (x.v (at_ (128 * b + c.val))) - x.dl (qrow b r) (fst h)) := rfl
  rw [this, wl_eq x hN b hb]
  by_cases h1 : 128 * b + r.val < 4096
  · rw [if_pos h1, if_pos h1]; rfl
  · rw [if_neg h1, if_neg h1, zero_mul]
omit hN

/-- A sum over rows, all but `n` of them zero. -/
theorem window (G : Fin 4096 → ℝ) (lo n : ℕ) (h : lo + n ≤ 4096) (hz : ∀ r : Fin 4096, r.val < lo ∨ lo + n ≤ r.val → G r = 0) :
    ∑ r, G r = ∑ c : Fin n, G (at_ (lo + c.val)) := by
  have e1 : ∑ r, G r = ∑ i ∈ Finset.range 4096, G (at_ i) := by
    rw [Finset.sum_range]; exact Finset.sum_congr rfl fun r _ => by rw [at_self]
  rw [e1, ← Finset.sum_range (fun i => G (at_ (lo + i))), ← Finset.sum_subset (s₁ := Finset.Ico lo (lo + n))]
  · rw [Finset.sum_Ico_eq_sum_range]; congr 2; omega
  · intro i hi; rw [Finset.mem_Ico] at hi; rw [Finset.mem_range]; omega
  · intro i hi hi'
    rw [Finset.mem_range] at hi; rw [Finset.mem_Ico] at hi'
    exact hz _ (by rw [at_val i hi]; omega)

theorem w_zero (h : Fin 4) (r c : Fin 4096) (hv : ¬ Vis N r c) : x.w N h r c = 0 := if_neg hv
theorem s_zero (h : Fin 4) (r c : Fin 4096) (hv : ¬ Vis N r c) : x.s N h r c = 0 := by unfold s; rw [w_zero x h r c hv, zero_mul]

/-- A column sum over a key block's query rows is the sum over all of them. -/
theorem col_sum (b : ℕ) (hb : b < 32) (c : Fin 128) (F G : Fin 4096 → ℝ) (hF : ∀ r, ¬ Vis N r (at_ (128 * b + c.val)) → F r = 0) (L : Fin 256 → ℝ)
    (hL : ∀ r : Fin 256, L r = if 128 * b + r.val < 4096 then F (qrow b r) else 0) :
    ∑ r, L r * G (qrow b r) = ∑ r, F r * G r := by
  have hc : (at_ (128 * b + c.val)).val = 128 * b + c.val := at_val _ (by omega)
  have hz : ∀ r : Fin 4096, r.val < 128 * b ∨ 128 * b + 256 ≤ r.val → F r * G r = 0 := by
    intro r hr; rw [hF, zero_mul]; intro hv; have := hv.1; have := hv.2.1; omega
  by_cases h31 : b = 31
  · subst h31
    rw [window _ (128 * 31) 128 (by norm_num) (fun r hr => hz r (by omega)), split]
    refine (congrArg₂ (· + ·) (Finset.sum_congr rfl fun r _ => ?_) (Finset.sum_eq_zero fun r _ => ?_)).trans (add_zero _)
    · have hq : qrow 31 ⟨r.val, by omega⟩ = at_ (128 * 31 + r.val) := by rw [qrow, if_pos r.isLt]
      rw [hL, if_pos (by show 128 * 31 + r.val < 4096; omega), hq]
    · rw [hL, if_neg (by show ¬ 128 * 31 + (128 + r.val) < 4096; omega), zero_mul]
  · rw [window _ (128 * b) 256 (by omega) hz]
    refine Finset.sum_congr rfl fun r _ => ?_
    have hq : qrow b r = at_ (128 * b + r.val) := by
      rw [qrow]; congr 1; split <;> omega
    rw [hL, if_pos (by omega), hq]

include hN
theorem gv_blk (b : ℕ) (hb : b < 32) : (x.blk N b).dv = up2 fun c a => x.gv N (at_ (128 * b + c.val)) a := by
  rw [blk_dv]; refine congrArg up2 ?_; funext c a
  exact col_sum b hb c (fun r => x.w N (hof a) r (at_ (128 * b + c.val))) (fun r => x.d r a) (fun r hv => w_zero x _ _ _ hv) _ fun r => wl_eq x hN b hb _ r c

theorem gk_blk (b : ℕ) (hb : b < 32) : (x.blk N b).dk = up2 fun c a => x.gk N (at_ (128 * b + c.val)) a := by
  rw [blk_dk]; refine congrArg up2 ?_; funext c a
  exact congrArg (· * (1 / 8 : ℝ)) (col_sum b hb c (fun r => x.s N (hof a) r (at_ (128 * b + c.val))) (fun r => x.q r a) (fun r hv => s_zero x _ _ _ hv) _ fun r => sl_eq x hN b hb _ r c)

/-- A query block's gradient is its own key block's part and the one before's. -/
theorem gq_blk (b : ℕ) (hb : b < 32) (r : Fin 128) (a : Fin 256) :
    x.gq N (at_ (128 * b + r.val)) a = ((if b = 0 then 0 else x.dqb N (b - 1) ⟨128 + r.val, by omega⟩ a) + x.dqb N b ⟨r.val, by omega⟩ a) * (1 / 8) := by
  unfold gq; congr 1
  have hr : (at_ (128 * b + r.val)).val = 128 * b + r.val := at_val _ (by omega)
  have hz : ∀ c : Fin 4096, c.val < 128 * (b - 1) ∨ 128 * b + 128 ≤ c.val → x.s N (hof a) (at_ (128 * b + r.val)) c * x.k c a = 0 := by
    intro c hc; rw [s_zero, zero_mul]; intro hv; have := hv.1; have := hv.2.1; omega
  have own : ∀ c : Fin 128, x.s N (hof a) (at_ (128 * b + r.val)) (at_ (128 * b + c.val)) = x.sl N b (hof a) ⟨r.val, by omega⟩ c := by
    intro c
    have hq : qrow b ⟨r.val, by omega⟩ = at_ (128 * b + r.val) := by rw [qrow, if_pos r.isLt]
    rw [sl_eq x hN b hb, if_pos (by show 128 * b + r.val < 4096; omega), hq]
  by_cases h0 : b = 0
  · subst h0
    rw [if_pos rfl, zero_add, window _ 0 128 (by norm_num) (fun c hc => hz c (by omega))]
    refine Finset.sum_congr rfl fun c _ => ?_
    have := own c
    simp only [Nat.mul_zero] at this ⊢
    rw [this]
  · rw [if_neg h0, window _ (128 * (b - 1)) 256 (by omega) (fun c hc => hz c (by omega)), split]
    have e : ∀ c : Fin 128, 128 * (b - 1) + (128 + c.val) = 128 * b + c.val := fun c => by omega
    refine congrArg₂ (· + ·) (Finset.sum_congr rfl fun c _ => ?_) (Finset.sum_congr rfl fun c _ => ?_)
    · have hq : qrow (b - 1) ⟨128 + r.val, by omega⟩ = at_ (128 * b + r.val) := by
        rw [qrow, if_neg (by show ¬ 128 + r.val < 128; omega)]; congr 1; show 128 * min (b - 1 + 1) 31 + (128 + r.val - 128) = _; omega
      rw [sl_eq x hN (b - 1) (by omega), if_pos (by show 128 * (b - 1) + (128 + r.val) < 4096; omega), hq]
    · simp only [e]; rw [own]
end Arr

end Cert.Attn
-- ==== Proof.AttnScr.lean ====
module

public import proofs.«01_k».proof.Proof.AttnStep

/-! A grid point over the whole arrays: its four key blocks' operands, what it stores, and the scratch of query gradients it hands on. -/

@[expose] public section

set_option maxRecDepth 16384

noncomputable section

namespace Cert.Attn

open Idealize.ShloMosaic Idealize.ShloMosaic.TcCoe
open Cert.Attn0KernelIdeal Cert.Attn0KernelIdeal.Gen Cert.Lift

/-- `n` is the mask of the number of a residue's blocks: the body's test is whether the next block goes on. -/
def Tests (N : ℕ) (n : BitVec 32) : Prop := ∀ t : Fin 8, ∀ j : Fin 4,
  Scalar.cmpi .sgt (Scalar.andi (Scalar.addi (Scalar.addi (Scalar.muli (BitVec.ofNat 32 t.val) 4#32) (BitVec.ofNat 32 j.val)) 1#32) n) 0#32 = nx N (4 * t.val + j.val)

theorem tests32 : Tests 32 31#32 := by unfold Tests; decide +kernel
theorem tests8 : Tests 8 7#32 := by unfold Tests; decide +kernel
theorem tests2 : Tests 2 1#32 := by unfold Tests; decide +kernel

/-- Rows of a point's blocks, and of the next block. -/
def cur (x : M 4096 256) (t : ℕ) : M 512 256 := fun r => x (at_ (512 * t + r.val))
def nxt (x : M 4096 256) (t : ℕ) : M 128 256 := fun r => x (at_ (128 * min (4 * t + 4) 31 + r.val))

namespace Arr
variable (N : ℕ) (n : BitVec 32) (x : Arr)

/-- The scratch before the first block, and after the four. -/
def base (C : M 128 256) : M 640 256 := fun i a => if h : i.val < 128 then C ⟨i.val, h⟩ a else 0
def scrR (t : ℕ) (C : M 128 256) : M 640 256 :=
  added 384 (added 256 (added 128 (added 0 (base C) (x.dqb N (4 * t + 0))) (x.dqb N (4 * t + 1))) (x.dqb N (4 * t + 2))) (x.dqb N (4 * t + 3))
theorem base_lo (C : M 128 256) (r : ℕ) (hr : r < 640) (a : Fin 256) (h : r < 128) : base C ⟨r, hr⟩ a = C ⟨r, h⟩ a := dif_pos h
theorem base_hi (C : M 128 256) (r : ℕ) (hr : r < 640) (a : Fin 256) (h : ¬ r < 128) : base C ⟨r, hr⟩ a = 0 := dif_neg h

/-- The query gradients handed to a point by the one before. -/
def carry (t : ℕ) : M 128 256 := fun r a => if t = 0 then 0 else x.dqb N (4 * t - 1) ⟨128 + r.val, by omega⟩ a

def inp (t : ℕ) : In := ⟨up2 (cur x.k t), up2 (cur x.v t), up2 (cur x.q t), up2 (nxt x.q t), up2 (cur x.d t), up2 (nxt x.d t),
  up2 (cur x.dl t), up2 (nxt x.dl t), up2 (cur x.l t), up2 (nxt x.l t)⟩

theorem rows_mid (y : M 4096 256) (t j : ℕ) (hj : j < 3) (ht : t < 8) :
    (fun (r : Fin 256) (a : Fin 256) => if h : r.val < 128 then cur y t ⟨128 * j + r.val, by omega⟩ a else cur y t ⟨128 * (j + 1) + (r.val - 128), by omega⟩ a)
      = fun r => y (qrow (4 * t + j) r) := by
  funext r a
  by_cases h : r.val < 128
  · rw [dif_pos h, qrow, if_pos h]; show y (at_ (512 * t + (128 * j + r.val))) a = _; congr 2; omega
  · rw [dif_neg h, qrow, if_neg h]; show y (at_ (512 * t + (128 * (j + 1) + (r.val - 128)))) a = _; congr 2; omega

theorem rows_last (y : M 4096 256) (t : ℕ) (ht : t < 8) :
    (fun (r : Fin 256) (a : Fin 256) => if h : r.val < 128 then cur y t ⟨384 + r.val, by omega⟩ a else nxt y t ⟨r.val - 128, by omega⟩ a)
      = fun r => y (qrow (4 * t + 3) r) := by
  funext r a
  by_cases h : r.val < 128
  · rw [dif_pos h, qrow, if_pos h]; show y (at_ (512 * t + (384 + r.val))) a = _; congr 2; omega
  · rw [dif_neg h, qrow, if_neg h]; rfl

theorem rows_key (y : M 4096 256) (t j : ℕ) (hj : j < 4) :
    (fun (r : Fin 128) (a : Fin 256) => cur y t ⟨128 * j + r.val, by omega⟩ a) = fun r => y (at_ (128 * (4 * t + j) + r.val)) := by
  funext r a; show y (at_ (512 * t + (128 * j + r.val))) a = _; congr 2; omega

variable {N n} (hn : Tests N n) (t : ℕ) (ht : t < 8)
include hn ht

theorem mid_eq (j : ℕ) (hj : j < 3) (h : Inb (128 * j)) (h' : Inb (128 * (j + 1))) :
    (x.inp t).mid (BitVec.ofNat 32 t) n (BitVec.ofNat 32 j) (128 * j) (128 * (j + 1)) h h' = x.blk N (4 * t + j) := by
  have hb := hn ⟨t, ht⟩ ⟨j, by omega⟩
  unfold In.mid
  rw [pay19, hb]
  simp only [inp]
  rw [rowb_eq (128 * j) h _ (by omega), rowb_eq (128 * j) h _ (by omega), rowb_eq (128 * j) h _ (by omega), rowb_eq (128 * j) h _ (by omega),
    rowf_eq (128 * j) h _ (by omega), rowf_eq (128 * j) h _ (by omega),
    rowb_eq (128 * (j + 1)) h' _ (by omega), rowb_eq (128 * (j + 1)) h' _ (by omega), rowf_eq (128 * (j + 1)) h' _ (by omega), rowf_eq (128 * (j + 1)) h' _ (by omega),
    cat_eq, cat_eq, cat_eq, cat_eq, cast128 (φ := .bf16), cast128 (φ := .bf16)]
  rw [rows_mid x.q t j hj ht, rows_mid x.d t j hj ht, rows_mid x.dl t j hj ht, rows_mid x.l t j hj ht, rows_key x.k t j (by omega), rows_key x.v t j (by omega)]
  rfl

theorem op0_eq : (x.inp t).op0 (BitVec.ofNat 32 t) n = x.blk N (4 * t + 0) := mid_eq x hn t ht 0 (by omega) inb_S512x256_S128x256_0_0 inb_S512x256_S128x256_128_0
theorem op1_eq : (x.inp t).op1 (BitVec.ofNat 32 t) n = x.blk N (4 * t + 1) := mid_eq x hn t ht 1 (by omega) inb_S512x256_S128x256_128_0 inb_S512x256_S128x256_256_0
theorem op2_eq : (x.inp t).op2 (BitVec.ofNat 32 t) n = x.blk N (4 * t + 2) := mid_eq x hn t ht 2 (by omega) inb_S512x256_S128x256_256_0 inb_S512x256_S128x256_384_0
theorem op3_eq : (x.inp t).op3 (BitVec.ofNat 32 t) n = x.blk N (4 * t + 3) := by
  have hb := hn ⟨t, ht⟩ ⟨3, by omega⟩
  unfold In.op3
  rw [pay19, show Scalar.cmpi .sgt _ 0#32 = _ from hb]
  simp only [inp]
  rw [rowb_eq 384 _ _ (by omega), rowb_eq 384 _ _ (by omega), rowb_eq 384 _ _ (by omega), rowb_eq 384 _ _ (by omega), rowf_eq 384 _ _ (by omega), rowf_eq 384 _ _ (by omega),
    cat_eq, cat_eq, cat_eq, cat_eq, cast128 (φ := .bf16), cast128 (φ := .bf16)]
  rw [rows_last x.q t ht, rows_last x.d t ht, rows_last x.dl t ht, rows_last x.l t ht, rows_key x.k t 3 (by omega), rows_key x.v t 3 (by omega)]
  rfl
omit hn ht

theorem base_eq (C : M 128 256) : View.canon (Val := Elt Ideal) ([⟨Rect.unit (s := S640x256) ![128, 0] ![512, 256] inb_S640x256_S512x256_128_0, k0_pay18 (F := Ideal)⟩,
    ⟨Rect.unit (s := S640x256) ![0, 0] ![128, 256] inb_S640x256_S128x256_0_0, up2 C⟩] : Scr) = up2 (base C) := by
  funext j
  refine View.canon_apply_of_pieces (Val := Elt Ideal) (S := S640x256) (e := .f32) (up2 (base C)) _ ?_ j ?_
  · refine List.forall_mem_cons.mpr ⟨fun y => ?_, List.forall_mem_cons.mpr ⟨fun y => ?_, fun _ hp => absurd hp List.not_mem_nil⟩⟩
    · obtain ⟨r, a, rfl⟩ : ∃ (r : Fin 512) (a : Fin 256), y = ix2 r a := ⟨y 0, y 1, by funext k; match k with | ⟨0, _⟩ => rfl | ⟨1, _⟩ => rfl⟩
      have e0 : (Rect.unit (s := S640x256) ![128, 0] ![512, 256] inb_S640x256_S512x256_128_0).emb (ix2 r a) = ix2 (⟨128 + r.val, by omega⟩ : Fin 640) a := by
        funext k; match k with
        | ⟨0, _⟩ => exact Fin.ext (by show 128 + 1 * r.val = 128 + r.val; omega)
        | ⟨1, _⟩ => exact Fin.ext (by show 0 + 1 * a.val = a.val; omega)
      refine Eq.trans ?_ (congrArg (up2 (base C)) e0).symm
      refine Eq.trans (b := ((0 : ℝ) : EReal)) ?_ (congrArg (fun z : ℝ => (z : EReal)) (base_hi C (128 + r.val) (by omega) a (by omega)).symm)
      show k0_pay18 (F := Ideal) (ix2 r a) = _
      pointwise [k0_pay18]; rfl
    · obtain ⟨r, a, rfl⟩ : ∃ (r : Fin 128) (a : Fin 256), y = ix2 r a := ⟨y 0, y 1, by funext k; match k with | ⟨0, _⟩ => rfl | ⟨1, _⟩ => rfl⟩
      have e0 : (Rect.unit (s := S640x256) ![0, 0] ![128, 256] inb_S640x256_S128x256_0_0).emb (ix2 r a) = ix2 (⟨r.val, by omega⟩ : Fin 640) a := by
        funext k; match k with
        | ⟨0, _⟩ => exact Fin.ext (by show 0 + 1 * r.val = r.val; omega)
        | ⟨1, _⟩ => exact Fin.ext (by show 0 + 1 * a.val = a.val; omega)
      refine Eq.trans ?_ (congrArg (up2 (base C)) e0).symm
      exact congrArg (fun z : ℝ => (z : EReal)) (base_lo C r.val (by omega) a r.isLt).symm
  · have h0 : (j 0).val < 640 := (j 0).isLt
    have h1 : (j 1).val < 256 := (j 1).isLt
    have key : ∀ o w inb, o ≤ (j 0).val → (j 0).val < o + w → j ∈ (Rect.unit (s := S640x256) ![o, 0] ![w, 256] inb).set := by
      intro o w inb ho ho'
      refine Rect.mem_set_unit.mpr fun a => ?_
      match a with
      | ⟨0, _⟩ => exact ⟨ho, ho'⟩
      | ⟨1, _⟩ => exact ⟨Nat.zero_le _, by simpa using h1⟩
    simp only [List.mem_cons, List.not_mem_nil, or_false, exists_eq_or_imp, exists_eq_left]
    by_cases h : (j 0).val < 128
    · exact .inr (key _ _ _ (by omega) (by omega))
    · exact .inl (key _ _ _ (by omega) (by omega))

section
variable {sg : RefSig} {κ : Kind} {sp : Space} (vw : View sg κ sp S640x256 .f32)
include hn ht
theorem scr_eq (C : M 128 256) : View.canon (Val := Elt Ideal) (scr vw (x.inp t) (BitVec.ofNat 32 t) n (up2 C)) = up2 (x.scrR N t C) := by
  unfold scr
  rw [op0_eq x hn t ht, op1_eq x hn t ht, op2_eq x hn t ht, op3_eq x hn t ht, blk_dq, blk_dq, blk_dq, blk_dq]
  exact bump_eq vw 384 _ (by omega) _ _ _ (bump_eq vw 256 _ (by omega) _ _ _ (bump_eq vw 128 _ (by omega) _ _ _ (bump_eq vw 0 _ (by omega) _ _ _ (base_eq C))))
end

/-- The scratch's last rows: the last block's part of the next query block. -/
theorem scr_last (C : M 128 256) (r : Fin 128) (a : Fin 256) : x.scrR N t C ⟨512 + r.val, by omega⟩ a = x.dqb N (4 * t + 3) ⟨128 + r.val, by omega⟩ a := by
  unfold scrR
  rw [added_in 384 _ _ _ a ⟨128 + r.val, by omega⟩ (by show 512 + r.val = 384 + (128 + r.val); omega),
    added_out 256 _ _ _ _ (by show ¬ (256 ≤ 512 + r.val ∧ 512 + r.val < 256 + 256); omega), added_out 128 _ _ _ _ (by show ¬ (128 ≤ 512 + r.val ∧ 512 + r.val < 128 + 256); omega),
    added_out 0 _ _ _ _ (by show ¬ (0 ≤ 512 + r.val ∧ 512 + r.val < 0 + 256); omega), base, dif_neg (by show ¬ 512 + r.val < 128; omega), zero_add]

/-- The scratch's other rows are the query blocks' gradients. -/
theorem scr_rows (hN : N ∣ 32) (ht : t < 8) (r : Fin 512) (a : Fin 256) :
    x.scrR N t (x.carry N t) ⟨r.val, by omega⟩ a * (1 / 8) = x.gq N (at_ (512 * t + r.val)) a := by
  have own : ∀ (j : ℕ) (hj : j < 4) (s : Fin 128), r.val = 128 * j + s.val → x.gq N (at_ (512 * t + r.val)) a
      = ((if 4 * t + j = 0 then 0 else x.dqb N (4 * t + j - 1) ⟨128 + s.val, by omega⟩ a) + x.dqb N (4 * t + j) ⟨s.val, by omega⟩ a) * (1 / 8) := by
    intro j hj s h
    have e : 512 * t + r.val = 128 * (4 * t + j) + s.val := by omega
    rw [e, gq_blk x hN (4 * t + j) (by omega) s a]
  unfold scrR
  rcases (by omega : r.val / 128 = 0 ∨ r.val / 128 = 1 ∨ r.val / 128 = 2 ∨ r.val / 128 = 3) with h | h | h | h
  · rw [own 0 (by omega) ⟨r.val, by omega⟩ (by show r.val = 128 * 0 + r.val; omega), added_out 384 _ _ _ _ (by show ¬ (384 ≤ r.val ∧ r.val < 384 + 256); omega),
      added_out 256 _ _ _ _ (by show ¬ (256 ≤ r.val ∧ r.val < 256 + 256); omega), added_out 128 _ _ _ _ (by show ¬ (128 ≤ r.val ∧ r.val < 128 + 256); omega),
      added_in 0 _ _ _ a ⟨r.val, by omega⟩ (by show r.val = 0 + r.val; omega), base, dif_pos (by show r.val < 128; omega), carry]
    congr 2
    by_cases h0 : t = 0
    · rw [if_pos h0, if_pos (by omega)]
    · rw [if_neg h0, if_neg (by omega)]; rfl
  · rw [own 1 (by omega) ⟨r.val - 128, by omega⟩ (by show r.val = 128 * 1 + (r.val - 128); omega), added_out 384 _ _ _ _ (by show ¬ (384 ≤ r.val ∧ r.val < 384 + 256); omega),
      added_out 256 _ _ _ _ (by show ¬ (256 ≤ r.val ∧ r.val < 256 + 256); omega), added_in 128 _ _ _ a ⟨r.val - 128, by omega⟩ (by show r.val = 128 + (r.val - 128); omega),
      added_in 0 _ _ _ a ⟨128 + (r.val - 128), by omega⟩ (by show r.val = 0 + (128 + (r.val - 128)); omega), base, dif_neg (by show ¬ r.val < 128; omega), if_neg (by omega), zero_add]
    rfl
  · rw [own 2 (by omega) ⟨r.val - 256, by omega⟩ (by show r.val = 128 * 2 + (r.val - 256); omega), added_out 384 _ _ _ _ (by show ¬ (384 ≤ r.val ∧ r.val < 384 + 256); omega),
      added_in 256 _ _ _ a ⟨r.val - 256, by omega⟩ (by show r.val = 256 + (r.val - 256); omega), added_in 128 _ _ _ a ⟨128 + (r.val - 256), by omega⟩ (by show r.val = 128 + (128 + (r.val - 256)); omega),
      added_out 0 _ _ _ _ (by show ¬ (0 ≤ r.val ∧ r.val < 0 + 256); omega), base, dif_neg (by show ¬ r.val < 128; omega), if_neg (by omega), zero_add]
    rfl
  · rw [own 3 (by omega) ⟨r.val - 384, by omega⟩ (by show r.val = 128 * 3 + (r.val - 384); omega), added_in 384 _ _ _ a ⟨r.val - 384, by omega⟩ (by show r.val = 384 + (r.val - 384); omega),
      added_in 256 _ _ _ a ⟨128 + (r.val - 384), by omega⟩ (by show r.val = 256 + (128 + (r.val - 384)); omega), added_out 128 _ _ _ _ (by show ¬ (128 ≤ r.val ∧ r.val < 128 + 256); omega),
      added_out 0 _ _ _ _ (by show ¬ (0 ≤ r.val ∧ r.val < 0 + 256); omega), base, dif_neg (by show ¬ r.val < 128; omega), if_neg (by omega), zero_add]
    rfl

/-- What a point stores: its rows of the key, value and query gradients. -/
theorem four_dv (hn : Tests N n) (hN : N ∣ 32) (ht : t < 8) : four ((x.inp t).op0 (BitVec.ofNat 32 t) n).dv ((x.inp t).op1 (BitVec.ofNat 32 t) n).dv ((x.inp t).op2 (BitVec.ofNat 32 t) n).dv
    ((x.inp t).op3 (BitVec.ofNat 32 t) n).dv = up2 (cur (x.gv N) t) := by
  rw [op0_eq x hn t ht, op1_eq x hn t ht, op2_eq x hn t ht, op3_eq x hn t ht, gv_blk x hN _ (by omega), gv_blk x hN _ (by omega), gv_blk x hN _ (by omega), gv_blk x hN _ (by omega),
    ← rows_key (x.gv N) t 0 (by omega), ← rows_key (x.gv N) t 1 (by omega), ← rows_key (x.gv N) t 2 (by omega), ← rows_key (x.gv N) t 3 (by omega)]
  exact four_eq (cur (x.gv N) t)

theorem four_dk (hn : Tests N n) (hN : N ∣ 32) (ht : t < 8) : four ((x.inp t).op0 (BitVec.ofNat 32 t) n).dk ((x.inp t).op1 (BitVec.ofNat 32 t) n).dk ((x.inp t).op2 (BitVec.ofNat 32 t) n).dk
    ((x.inp t).op3 (BitVec.ofNat 32 t) n).dk = up2 (cur (x.gk N) t) := by
  rw [op0_eq x hn t ht, op1_eq x hn t ht, op2_eq x hn t ht, op3_eq x hn t ht, gk_blk x hN _ (by omega), gk_blk x hN _ (by omega), gk_blk x hN _ (by omega), gk_blk x hN _ (by omega),
    ← rows_key (x.gk N) t 0 (by omega), ← rows_key (x.gk N) t 1 (by omega), ← rows_key (x.gk N) t 2 (by omega), ← rows_key (x.gk N) t 3 (by omega)]
  exact four_eq (cur (x.gk N) t)

theorem scr_dq {sg : RefSig} {κ : Kind} {sp : Space} (vw : View sg κ sp S640x256 .f32) (hn : Tests N n) (hN : N ∣ 32) (ht : t < 8) :
    k0_pay2 (F := Ideal) (vw.readCov (Val := Elt Ideal) (scr vw (x.inp t) (BitVec.ofNat 32 t) n (up2 (x.carry N t))) (Rect.unit (s := S640x256) ![0, 0] ![512, 256] inb_S640x256_S512x256_0_0).toLoadRect)
      = up2 (cur (x.gq N) t) := by
  rw [View.readCov_eq_canon', scr_eq x hn t ht]
  funext i; idx_vars i; pointwise [k0_pay2]
  rw [ofBits_eighth]
  refine Eq.trans ?_ (congrArg (fun z : ℝ => (z : EReal)) (scr_rows x t hN ht i0 i1))
  exact (EReal.coe_mul _ _).symm

end Arr
end Cert.Attn
-- ==== Proof.AttnId.lean ====
module

public import proofs.«01_k».proof.Proof.AttnRef
public import proofs.«01_k».proof.Proof.AttnScr

/-! The call's gradients over rows sorted by residue are the reference's over positions. -/

@[expose] public section

set_option maxRecDepth 16384

noncomputable section

namespace Cert.Attn

open Idealize.ShloMosaic Cert.Lift
open Cert.Attn0ReferenceIdeal.Read

/-- Rows of one residue, and blocks of 128 rows of them. -/
def cls (g : Fin 3) : ℕ := match g with | 0 => 4096 | 1 => 1024 | 2 => 256
def blks (g : Fin 3) : ℕ := match g with | 0 => 32 | 1 => 8 | 2 => 2

theorem three (g : Fin 3) : g = 0 ∨ g = 1 ∨ g = 2 := by omega

theorem tok_lt (g : Fin 3) (R : Fin 4096) : R.val % cls g * dil g + R.val / cls g < 4096 := by
  rcases three g with rfl | rfl | rfl <;> simp only [cls, dil] <;> omega
theorem row_lt (g : Fin 3) (T : Fin 4096) : T.val % dil g * cls g + T.val / dil g < 4096 := by
  rcases three g with rfl | rfl | rfl <;> simp only [cls, dil] <;> omega

/-- The position of a row, one to one. -/
def tok (g : Fin 3) (R : Fin 4096) : Fin 4096 := ⟨R.val % cls g * dil g + R.val / cls g, tok_lt g R⟩
def tokE (g : Fin 3) : Fin 4096 ≃ Fin 4096 where
  toFun := tok g
  invFun T := ⟨T.val % dil g * cls g + T.val / dil g, row_lt g T⟩
  left_inv R := by
    apply Fin.ext; show (R.val % cls g * dil g + R.val / cls g) % dil g * cls g + (R.val % cls g * dil g + R.val / cls g) / dil g = R.val
    rcases three g with rfl | rfl | rfl <;> simp only [cls, dil] <;> omega
  right_inv T := by
    apply Fin.ext; show (T.val % dil g * cls g + T.val / dil g) % cls g * dil g + (T.val % dil g * cls g + T.val / dil g) / cls g = T.val
    rcases three g with rfl | rfl | rfl <;> simp only [cls, dil] <;> omega

theorem sum_tok (g : Fin 3) (f : Fin 4096 → ℝ) : ∑ R, f (tok g R) = ∑ t, f t := Equiv.sum_comp (tokE g) f

/-- Nearness of two rows with the same residue, through their positions. -/
theorem near (n d : ℕ) (r c a a' b b' : ℕ) (hr : r = n * a + b) (hc : c = n * a' + b') (hb : b < n) (hb' : b' < n) (ha : a < d) (ha' : a' < d) :
    (c ≤ r ∧ r ≤ c + 128 ∧ a = a') ↔ (b' * d + a' ≤ b * d + a ∧ b * d + a - (b' * d + a') ≤ 128 * d ∧ (b * d + a - (b' * d + a')) % d = 0) := by
  subst hr hc
  constructor
  · rintro ⟨h1, h2, rfl⟩
    obtain ⟨k, rfl⟩ := Nat.exists_eq_add_of_le (show b' ≤ b by omega)
    have hk : k ≤ 128 := by omega
    have e : (b' + k) * d + a - (b' * d + a) = k * d := by rw [add_mul]; omega
    refine ⟨?_, ?_, ?_⟩
    · rw [add_mul]; omega
    · rw [e]; exact Nat.mul_le_mul_right d hk
    · rw [e]; exact Nat.mul_mod_left k d
  · rintro ⟨h1, h2, h3⟩
    have hd : 0 < d := by omega
    have e : a = a' := by
      have h4 := (Nat.modEq_iff_dvd' h1).mpr (Nat.dvd_of_mod_eq_zero h3)
      have h5 : (b' * d + a') % d = (b * d + a) % d := h4
      rw [Nat.add_comm, Nat.add_mul_mod_self_right, Nat.mod_eq_of_lt ha', Nat.add_comm, Nat.add_mul_mod_self_right, Nat.mod_eq_of_lt ha] at h5
      exact h5.symm
    subst e
    have h6 : b' ≤ b := Nat.le_of_mul_le_mul_right (show b' * d ≤ b * d by omega) hd
    obtain ⟨k, rfl⟩ := Nat.exists_eq_add_of_le h6
    rw [add_mul] at h2
    have h7 : k ≤ 128 := Nat.le_of_mul_le_mul_right (show k * d ≤ 128 * d by omega) hd
    exact ⟨by omega, by omega, rfl⟩

theorem cls_eq (g : Fin 3) : 128 * blks g = cls g ∧ 0 < cls g ∧ cls g * dil g = 4096 := by
  rcases three g with rfl | rfl | rfl <;> decide

theorem vis_iff (g : Fin 3) (R C : Fin 4096) : Arr.Vis (blks g) R C ↔ ok g (tok g R) (tok g C) := by
  obtain ⟨h1, h2, h3⟩ := cls_eq g
  unfold Arr.Vis
  rw [h1]
  exact near (cls g) (dil g) R.val C.val _ _ _ _ (Nat.div_add_mod _ _).symm (Nat.div_add_mod _ _).symm (Nat.mod_lt _ h2) (Nat.mod_lt _ h2)
    (Nat.div_lt_of_lt_mul (by rw [h3]; exact R.isLt)) (Nat.div_lt_of_lt_mul (by rw [h3]; exact C.isLt))

/-- A column's lane in its head, and a group's columns. -/
abbrev lane (a : Fin 256) : Fin 64 := ⟨a.val % 64, by omega⟩
abbrev col (g : Fin 3) (a : Fin 256) : Fin 768 := ⟨g.val * 256 + a.val, by omega⟩

theorem hsum_eq (h : Fin 4) (x y : Fin 256 → ℝ) : hsum h x y = ∑ e, x (hcol h e) * y (hcol h e) := by
  unfold hsum
  rw [← Equiv.sum_comp (finProdFinEquiv (m := 4) (n := 64)), Fintype.sum_prod_type]
  have e : ∀ (h' : Fin 4) (e : Fin 64), (finProdFinEquiv (h', e) : Fin 256) = hcol h' e := fun h' e =>
    Fin.ext (show e.val + 64 * h'.val = h'.val * 64 + e.val by omega)
  have e2 : ∀ (h' : Fin 4) (e : Fin 64), hof (hcol h' e) = h' := fun h' e =>
    Fin.ext (show (h'.val * 64 + e.val) / 64 = h'.val by omega)
  simp only [e, e2]
  rw [Finset.sum_eq_single h (fun h' _ hh => Finset.sum_eq_zero fun e _ => if_neg hh) (fun hh => absurd (Finset.mem_univ h) hh)]
  exact Finset.sum_congr rfl fun e _ => if_pos rfl

variable (X : Inp) (g : Fin 3)

/-- The call's operands. -/
def arr : Arr where
  q R a := X.q (tok g R) (col g a)
  k R a := X.k (tok g R) (col g a)
  v R a := X.v (tok g R) (col g a)
  d R a := X.d (tok g R) a
  dl R a := ∑ e, dm X (hof a) (tok g R) e * att X (tok g R) (hof a) e
  l R a := top X (hof a) (tok g R) + Real.log (tot X (hof a) (tok g R))

theorem hof_fst (h : Fin 4) : hof (fst h) = h := Fin.ext (show 64 * h.val / 64 = h.val by omega)
theorem col_hcol (h : Fin 4) (e : Fin 64) : col g (hcol h e) = gcol g h e := Fin.ext (Nat.add_assoc _ _ _).symm
theorem hcol_lane (a : Fin 256) : hcol (hof a) (lane a) = a := Fin.ext (show a.val / 64 * 64 + a.val % 64 = a.val by omega)
theorem col_lane (a : Fin 256) : gcol g (hof a) (lane a) = col g a := by rw [← col_hcol, hcol_lane]

/-- A joint share is the group's share times the share in the group. -/
theorem share (s T mm dn tt : ℝ) (hd : 0 < dn) (ht : 0 < tt) :
    Real.exp (s - (T + Real.log tt)) = Real.exp (mm + Real.log dn - T) / tt / dn * Real.exp (s - mm) := by
  obtain ⟨a, rfl⟩ : ∃ a, Real.exp a = dn := ⟨_, Real.exp_log hd⟩
  obtain ⟨b, rfl⟩ : ∃ b, Real.exp b = tt := ⟨_, Real.exp_log ht⟩
  rw [Real.log_exp, Real.log_exp, ← Real.exp_sub, ← Real.exp_sub, ← Real.exp_add]
  congr 1; ring

theorem w_eq (h : Fin 4) (R C : Fin 4096) :
    (arr X g).w (blks g) h R C = wt X g h (tok g R) / den X g h (tok g R) * p X g h (tok g R) (tok g C) := by
  unfold Arr.w p
  by_cases hv : ok g (tok g R) (tok g C)
  · rw [if_pos ((vis_iff g R C).mpr hv), if_pos hv, hsum_eq]
    have e : (∑ e, (arr X g).q R (hcol h e) * (arr X g).k C (hcol h e)) * (1 / 8) = sc X g h (tok g R) (tok g C) := by
      simp only [arr, col_hcol]; rfl
    rw [e]
    show Real.exp (_ - (top X (hof (fst h)) _ + Real.log (tot X (hof (fst h)) _))) = _
    rw [hof_fst]
    exact share _ _ _ _ _ (den_pos X g h _) (tot_pos X h _)
  · rw [if_neg (fun hh => hv ((vis_iff g R C).mp hh)), if_neg hv, mul_zero]

/-- The sum of the cotangent times the mixed output. -/
def del (h : Fin 4) (t : Fin 4096) : ℝ := ∑ e, dm X h t e * att X t h e

theorem del_eq (h : Fin 4) (t : Fin 4096) : del X h t = ∑ g, wt X g h t * dw X g h t := by
  rw [Fin.sum_univ_three]
  simp only [del, dw, Finset.mul_sum, ← Finset.sum_add_distrib, att]
  exact Finset.sum_congr rfl fun e _ => by ring

theorem dt_eq (h : Fin 4) (t : Fin 4096) : dt X h t = -(del X h t / tot X h t) := by
  rw [dt, del_eq, Finset.sum_div]
  congr 1
  refine Finset.sum_congr rfl fun g _ => ?_
  have := tot_ne X h t
  rw [wt]; field_simp

theorem dden_eq (h : Fin 4) (t : Fin 4096) : dden X g h t = -(wt X g h t / den X g h t * del X h t) := by
  have e : ∑ e, wt X g h t * dm X h t e * (1 / (den X g h t * den X g h t)) * pv X g h t e = wt X g h t / den X g h t * dw X g h t := by
    rw [dw, Finset.mul_sum]
    refine Finset.sum_congr rfl fun e _ => ?_
    have := den_ne X g h t
    field_simp
  rw [dden, e, dl, dt_eq, wt]
  have := den_ne X g h t
  have := tot_ne X h t
  field_simp; ring

theorem dp_eq (h : Fin 4) (t s : Fin 4096) :
    dp X g h t s = wt X g h t / den X g h t * p X g h t s * (∑ e, dm X h t e * X.v s (gcol g h e) - del X h t) := by
  have e : ∑ e, dn X g h t e * X.v s (gcol g h e) = wt X g h t / den X g h t * ∑ e, dm X h t e * X.v s (gcol g h e) := by
    rw [Finset.mul_sum]; exact Finset.sum_congr rfl fun e _ => by rw [dn]; ring
  rw [dp, e, dden_eq]; ring

theorem s_eq (h : Fin 4) (R C : Fin 4096) : (arr X g).s (blks g) h R C = dp X g h (tok g R) (tok g C) := by
  unfold Arr.s
  rw [w_eq, hsum_eq, dp_eq]
  simp only [arr, col_hcol, hof_fst]; rfl

theorem gq_eq (R : Fin 4096) (a : Fin 256) : (arr X g).gq (blks g) R a = gQ X g (hof a) (tok g R) (lane a) := by
  unfold Arr.gq gQ
  rw [Finset.sum_mul]
  refine Eq.trans ?_ (sum_tok g _)
  refine Finset.sum_congr rfl fun C _ => ?_
  rw [s_eq, col_lane]; show _ * X.k (tok g C) (col g a) * _ = _; ring

theorem gk_eq (C : Fin 4096) (a : Fin 256) : (arr X g).gk (blks g) C a = gK X g (hof a) (tok g C) (lane a) := by
  unfold Arr.gk gK
  rw [Finset.sum_mul]
  refine Eq.trans ?_ (sum_tok g _)
  refine Finset.sum_congr rfl fun R _ => ?_
  rw [s_eq, col_lane]; show _ * X.q (tok g R) (col g a) * _ = _; ring

theorem gv_eq (C : Fin 4096) (a : Fin 256) : (arr X g).gv (blks g) C a = gV X g (hof a) (tok g C) (lane a) := by
  unfold Arr.gv gV
  refine Eq.trans ?_ (sum_tok g _)
  refine Finset.sum_congr rfl fun R _ => ?_
  rw [w_eq, dn, dm, hcol_lane]; show _ * X.d (tok g R) a = _; ring

end Cert.Attn
-- ==== Proof.AttnHost.lean ====
module

public import proofs.«01_k».proof.Proof.AttnId
public import proofs.«01_k».proof.Proof.Finite
public import proofs.«01_k».proof.Proof.Gen.Pre_finite_attn

/-! What the call is given: the sum of cotangent times output and the joint log-sum, a head's value in its 64 columns, and the
arguments' columns of one group. -/

@[expose] public section

set_option maxRecDepth 16384

noncomputable section

namespace Cert.Attn

open Idealize.ShloMosaic Cert.Lift
open Cert.Attn0ReferenceIdeal.Read
open Cert.Attn0KernelIdeal Cert.Attn0KernelIdeal.Gen

def hdel (q k v : FVec Ideal S4096x768 .f32) (d : FVec Ideal S4096x256 .f32) : FVec Ideal S4096x256 .f32 :=
  shapeCast S4096x256 (broadcastInDim S4096x4x64 ![0, 1, 2] bcast_S4096x4x1_S4096x4x64_0_1_2
    (broadcastInDim S4096x4x1 ![0, 1] bcast_S4096x4_S4096x4x1_0_1
      (Host.reduceAdd (shapeCast S4096x4x64 (mulf d (val_main_v137 (F := Ideal) q k v)) shapeCasts_S4096x256_S4096x4x64)
        (constant S_ .f32 0x00000000#32) reducesTo_S4096x4x64_S4096x4_d2 h_S_))) shapeCasts_S4096x4x64_S4096x256

def hlog (q k : FVec Ideal S4096x768 .f32) : FVec Ideal S4096x256 .f32 :=
  shapeCast S4096x256 (broadcastInDim S4096x4x64 ![0, 1, 2] bcast_S4096x4x1_S4096x4x64_0_1_2
    (transpose S4096x4x1 [1, 0, 2] (addf (val_main_v93 (F := Ideal) q k) (Host.log (val_main_v119 (F := Ideal) q k))) transposes_S4x4096x1_S4096x4x1_1_0_2))
    shapeCasts_S4096x4x64_S4096x256

variable (X : Inp)

theorem v137 : val_main_v137 (F := Ideal) (up2 X.q) (up2 X.k) (up2 X.v) = up2 fun t c => att X t (hof c) (lane c) := by
  funext i; idx_vars i; pointwise [val_main_v137, val_main_v136, v135 X]; rfl

theorem hdel_eq : hdel (up2 X.q) (up2 X.k) (up2 X.v) (up2 X.d) = up2 fun t c => del X (hof c) t := by
  funext i; idx_vars i; pointwise [hdel, v137 X]
  have e1 : ∀ e : Fin 64, hof (hcol (hof i1) e) = hof i1 := fun e => Fin.ext (show (i1.val / 64 * 64 + e.val) / 64 = i1.val / 64 by omega)
  have e2 : ∀ e : Fin 64, lane (hcol (hof i1) e) = e := fun e => Fin.ext (show (i1.val / 64 * 64 + e.val) % 64 = e.val by omega)
  show ∑ e : Fin 64, ((X.d i0 (hcol (hof i1) e) : ℝ) : EReal) * ((att X i0 (hof (hcol (hof i1) e)) (lane (hcol (hof i1) e)) : ℝ) : EReal) = ((del X (hof i1) i0 : ℝ) : EReal)
  simp only [e1, e2, mul, sum]; rfl

theorem hlog_eq : hlog (up2 X.q) (up2 X.k) = up2 fun t c => top X (hof c) t + Real.log (tot X (hof c) t) := by
  funext i; idx_vars i; pointwise [hlog, v93 X, v119 X]
  exact (congrArg (fun z => ((top X (hof i1) i0 : ℝ) : EReal) + z) (log_pos _ (tot_pos X (hof i1) i0))).trans (add _ _)

theorem cg_col (g : Fin 3) (a : Fin 256) : cg (col g a) = g := Fin.ext (show (g.val * 256 + a.val) / 256 = g.val by omega)
theorem ch_col (g : Fin 3) (a : Fin 256) : ch (col g a) = hof a := Fin.ext (show (g.val * 256 + a.val) / 64 % 4 = a.val / 64 by omega)
theorem ce_col (g : Fin 3) (a : Fin 256) : ce (col g a) = lane a := Fin.ext (show (g.val * 256 + a.val) % 64 = a.val % 64 by omega)

/-- A gradient over all columns, read at a group's, is the call's over rows by residue. -/
theorem pick (G : Fin 3 → Fin 4 → Fin 4096 → Fin 64 → ℝ) (g : Fin 3) (f : M 4096 256) (h : ∀ R a, f R a = G g (hof a) (tok g R) (lane a)) :
    (up2 fun R a => G (cg (col g a)) (ch (col g a)) (tok g R) (ce (col g a))) = up2 f :=
  congrArg up2 (funext fun R => funext fun a => by rw [cg_col, ch_col, ce_col]; exact (h R a).symm)

/-- Arguments the precondition reads are arrays of real numbers. -/
theorem real (x0 x1 x2 : FVec Ideal ⟨2, ![4096, 768]⟩ .f32) (x3 : FVec Ideal ⟨2, ![4096, 256]⟩ .f32)
    (h : Cert.Pre_finite_attn.fn (F := Ideal) x0 x1 x2 x3 = fun _ => 1#1) : ∃ X : Inp, x0 = up2 X.q ∧ x1 = up2 X.k ∧ x2 = up2 X.v ∧ x3 = up2 X.d := by
  have h' := congrFun h (fun k => k.elim0)
  simp only [Cert.Pre_finite_attn.fn, Cert.Pre_finite_attn.fn_part1, andi_apply, IntOp.andi_eq_one] at h'
  obtain ⟨⟨⟨h0, h1⟩, h2⟩, h3⟩ := h'
  obtain ⟨q, hq⟩ := (fin_of _ _ _ _ _ _ h0).up2
  obtain ⟨k, hk⟩ := (fin_of _ _ _ _ _ _ h1).up2
  obtain ⟨v, hv⟩ := (fin_of _ _ _ _ _ _ h2).up2
  obtain ⟨d, hd⟩ := (fin_of _ _ _ _ _ _ h3).up2
  exact ⟨⟨q, k, v, d⟩, hq, hk, hv, hd⟩

end Cert.Attn
-- ==== Proof.AttnPoint0.lean ====
module

public import proofs.«01_k».proof.Proof.AttnStep
public import proofs.«01_k».proof.Proof.Gen.Attn0KernelIdeal.Frame

/-! What a grid point of the backward call of group 0 leaves, in the words of AttnStep.lean. -/

@[expose] public section

set_option maxRecDepth 16384

noncomputable section

namespace Cert.Attn0KernelIdeal.Value

open Idealize.ShloMosaic Idealize.ShloMosaic.TcCoe Idealize.SL.Sem
open Cert.Attn0KernelIdeal Cert.Attn0KernelIdeal.Gen Cert.Attn

variable (m : (ℓ : Loc nD τ sig) → Buf (Elt Ideal) ℓ) (c : Dev nD)

/-- A point's inputs and its number. -/
def ins (t : Fin cfg0.N) : In := ⟨iblk m c 0 t, iblk m c 1 t, iblk m c 2 t, iblk m c 3 t, iblk m c 4 t, iblk m c 5 t, iblk m c 6 t, iblk m c 7 t, iblk m c 8 t, iblk m c 9 t⟩
abbrev pid (t : Fin cfg0.N) : BitVec 32 := BitVec.ofNat 32 (grid0.coords t 0).val

/-- The query gradients handed on by the point before: the last rows of its scratch, zero at the first point. -/
def cin (t : Fin cfg0.N) : FVec Ideal S128x256 .f32 :=
  if h : 1 ≤ t.val then k0_pay17 (F := Ideal) (View.ld (Val := Elt Ideal) (e' := .f32) (S := S640x256) (outsAt0 m c (t.val - 1) (by have := t.isLt; omega)).2.2.2
    (Rect.unit (s := S640x256) ![512, 0] ![128, 256] inb_S640x256_S128x256_512_0)) else k0_pay16 (F := Ideal)

set_option maxHeartbeats 16000000 in
theorem point (t : Fin cfg0.N) :
    (outsAt0 m c t.val t.isLt).2.1 = four ((ins m c t).op0 (pid t) 31#32).dk ((ins m c t).op1 (pid t) 31#32).dk ((ins m c t).op2 (pid t) 31#32).dk ((ins m c t).op3 (pid t) 31#32).dk
    ∧ (outsAt0 m c t.val t.isLt).2.2.1 = four ((ins m c t).op0 (pid t) 31#32).dv ((ins m c t).op1 (pid t) 31#32).dv ((ins m c t).op2 (pid t) 31#32).dv ((ins m c t).op3 (pid t) 31#32).dv
    ∧ (outsAt0 m c t.val t.isLt).2.2.2 = View.canon (Val := Elt Ideal) (scr (View.whole cc0_scratch0) (ins m c t) (pid t) 31#32 (cin m c t))
    ∧ (outsAt0 m c t.val t.isLt).1 = k0_pay2 (F := Ideal) ((View.whole cc0_scratch0).readCov (Val := Elt Ideal) (scr (View.whole cc0_scratch0) (ins m c t) (pid t) 31#32 (cin m c t))
        (Rect.unit (s := S640x256) ![0, 0] ![512, 256] inb_S640x256_S512x256_0_0).toLoadRect) := by
  have hN : t.val < 8 := lt_of_lt_of_eq t.isLt N_0
  by_cases h1 : 1 ≤ t.val
  on_goal 1 => rw [outsAt0_B m c t (by omega) h1, cin, dif_pos h1]
  on_goal 2 => rw [outsAt0_A m c t (by omega) h1, cin, dif_neg h1]
  all_goals refine ⟨?_, ?_, ?_, ?_⟩
  all_goals frame_out
  all_goals first | refine four_congr ?_ ?_ ?_ ?_ | skip
  all_goals simp only [read_unread_whole, k0_pay3, k0_pay4, k0_pay5, k0_pay6, k0_pay7, k0_pay8, k0_pay9, k0_pay10, k0_pay11, k0_pay12, k0_pay13, k0_pay14, k0_pay15, k0_pay20, k0_pay21,
      k0_pay22, k0_pay23, k0_pay24, k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135, k0_pay136,
      k0_pay137, k0_pay138, k0_pay139, k0_pay140, k0_pay141, k0_pay142, k0_pay143, k0_pay144, k0_pay145, k0_pay146, k0_pay147, k0_pay148, k0_pay149,
      Op.dk, Op.dv, Op.dq, Op.s0, Op.s2, Op.p0, Op.p2, In.op0, In.op1, In.op2, In.op3, In.mid, put, down, across, pair, stack, firsts, wts, dsc, cols,
      cols', cat, rowb, rowf, ins, k0_pay1, k0_pay19, scr, bump]
  all_goals rfl

end Cert.Attn0KernelIdeal.Value
-- ==== Proof.AttnKer0.lean ====
module

public import proofs.«01_k».proof.Proof.AttnScr
public import proofs.«01_k».proof.Proof.AttnPoint0
public import Idealize.ShloMosaic.Lib.Pipeline.ValueKit

/-! The backward call of group 0 over whole arrays of real numbers, in the kernel's order of rows. -/

@[expose] public section

set_option maxRecDepth 16384

noncomputable section

namespace Cert.Attn0KernelIdeal.Value

open Idealize.ShloMosaic Idealize.ShloMosaic.TcCoe Idealize.SL.Sem
open Cert.Attn0KernelIdeal Cert.Attn0KernelIdeal.Gen Cert.Attn Cert.Lift

variable {m : (ℓ : Loc nD τ sig) → Buf (Elt Ideal) ℓ} {c : Dev nD}

theorem idx : ∀ t : Fin cfg0.N, win0_0.index t = ![t.val, 0] ∧ win0_1.index t = ![t.val, 0] ∧ win0_2.index t = ![t.val, 0]
    ∧ win0_3.index t = ![min (4 * t.val + 4) 31, 0] ∧ win0_4.index t = ![t.val, 0] ∧ win0_5.index t = ![min (4 * t.val + 4) 31, 0]
    ∧ win0_6.index t = ![t.val, 0] ∧ win0_7.index t = ![min (4 * t.val + 4) 31, 0] ∧ win0_8.index t = ![t.val, 0] ∧ win0_9.index t = ![min (4 * t.val + 4) 31, 0]
    ∧ win0_10.index t = ![t.val, 0] ∧ win0_11.index t = ![t.val, 0] ∧ win0_12.index t = ![t.val, 0] := (by decide +kernel : ∀ t : Fin grid0.N, _)

theorem pid_eq (t : Fin cfg0.N) : pid t = BitVec.ofNat 32 t.val := (by decide +kernel : ∀ t : Fin grid0.N, BitVec.ofNat 32 (grid0.coords t 0).val = BitVec.ofNat 32 t.val) t

/-- The region's operands hold these real arrays. -/
structure Ops (m : (ℓ : Loc nD τ sig) → Buf (Elt Ideal) ℓ) (c : Dev nD) (x : Arr) : Prop where
  q : V m c main_v136 = up2 x.q
  k : V m c main_v140 = up2 x.k
  v : V m c main_v144 = up2 x.v
  d : V m c main_v148 = up2 x.d
  dl : V m c main_v151 = up2 x.dl
  l : V m c main_v154 = up2 x.l

variable {x : Arr}

theorem row (t : Fin cfg0.N) (s : Fin 512) : t.val * 512 + s.val = (at_ (512 * t.val + s.val)).val := by
  have hN : t.val < 8 := lt_of_lt_of_eq t.isLt N_0
  have := s.isLt
  show _ = (512 * t.val + s.val) % 4096; omega

theorem row' (t : Fin cfg0.N) (s : Fin 128) : min (4 * t.val + 4) 31 * 128 + s.val = (at_ (128 * min (4 * t.val + 4) 31 + s.val)).val := by
  have hN : t.val < 8 := lt_of_lt_of_eq t.isLt N_0
  have := s.isLt
  show _ = (128 * min (4 * t.val + 4) 31 + s.val) % 4096; omega

theorem rd0 (D : M 4096 256) (A : Buf (Elt Ideal) ((c : Thread nD τ).loc (Pipeline.arrRef spec0 0))) (hA : A = (up2 D : (⟨2, ![4096, 256]⟩ : Shape).Idx → EReal)) (t : Fin cfg0.N) :
    ((cfg0.win 0).blk t).view.read (Elt Ideal) A = up2 (cur D t.val) := by
  funext i
  refine (congrFun hA (((cfg0.win 0).blk t).view.emb i)).trans (congrArg _ (congr (congrArg D (Fin.ext ?_)) (Fin.ext ?_)))
  · blk_simp [idx t]; exact row t _
  · blk_simp [idx t]
theorem blk0 (H : Ops m c x) (t : Fin cfg0.N) : iblk m c 0 t = up2 (cur x.k t.val) := rd0 x.k (V m c (Pipeline.arrRef spec0 0)) H.k t

theorem rd1 (D : M 4096 256) (A : Buf (Elt Ideal) ((c : Thread nD τ).loc (Pipeline.arrRef spec0 1))) (hA : A = (up2 D : (⟨2, ![4096, 256]⟩ : Shape).Idx → EReal)) (t : Fin cfg0.N) :
    ((cfg0.win 1).blk t).view.read (Elt Ideal) A = up2 (cur D t.val) := by
  funext i
  refine (congrFun hA (((cfg0.win 1).blk t).view.emb i)).trans (congrArg _ (congr (congrArg D (Fin.ext ?_)) (Fin.ext ?_)))
  · blk_simp [idx t]; exact row t _
  · blk_simp [idx t]
theorem blk1 (H : Ops m c x) (t : Fin cfg0.N) : iblk m c 1 t = up2 (cur x.v t.val) := rd1 x.v (V m c (Pipeline.arrRef spec0 1)) H.v t

theorem rd2 (D : M 4096 256) (A : Buf (Elt Ideal) ((c : Thread nD τ).loc (Pipeline.arrRef spec0 2))) (hA : A = (up2 D : (⟨2, ![4096, 256]⟩ : Shape).Idx → EReal)) (t : Fin cfg0.N) :
    ((cfg0.win 2).blk t).view.read (Elt Ideal) A = up2 (cur D t.val) := by
  funext i
  refine (congrFun hA (((cfg0.win 2).blk t).view.emb i)).trans (congrArg _ (congr (congrArg D (Fin.ext ?_)) (Fin.ext ?_)))
  · blk_simp [idx t]; exact row t _
  · blk_simp [idx t]
theorem blk2 (H : Ops m c x) (t : Fin cfg0.N) : iblk m c 2 t = up2 (cur x.q t.val) := rd2 x.q (V m c (Pipeline.arrRef spec0 2)) H.q t

theorem rd3 (D : M 4096 256) (A : Buf (Elt Ideal) ((c : Thread nD τ).loc (Pipeline.arrRef spec0 3))) (hA : A = (up2 D : (⟨2, ![4096, 256]⟩ : Shape).Idx → EReal)) (t : Fin cfg0.N) :
    ((cfg0.win 3).blk t).view.read (Elt Ideal) A = up2 (nxt D t.val) := by
  funext i
  refine (congrFun hA (((cfg0.win 3).blk t).view.emb i)).trans (congrArg _ (congr (congrArg D (Fin.ext ?_)) (Fin.ext ?_)))
  · blk_simp [idx t]; exact row' t _
  · blk_simp [idx t]
theorem blk3 (H : Ops m c x) (t : Fin cfg0.N) : iblk m c 3 t = up2 (nxt x.q t.val) := rd3 x.q (V m c (Pipeline.arrRef spec0 3)) H.q t

theorem rd4 (D : M 4096 256) (A : Buf (Elt Ideal) ((c : Thread nD τ).loc (Pipeline.arrRef spec0 4))) (hA : A = (up2 D : (⟨2, ![4096, 256]⟩ : Shape).Idx → EReal)) (t : Fin cfg0.N) :
    ((cfg0.win 4).blk t).view.read (Elt Ideal) A = up2 (cur D t.val) := by
  funext i
  refine (congrFun hA (((cfg0.win 4).blk t).view.emb i)).trans (congrArg _ (congr (congrArg D (Fin.ext ?_)) (Fin.ext ?_)))
  · blk_simp [idx t]; exact row t _
  · blk_simp [idx t]
theorem blk4 (H : Ops m c x) (t : Fin cfg0.N) : iblk m c 4 t = up2 (cur x.d t.val) := rd4 x.d (V m c (Pipeline.arrRef spec0 4)) H.d t

theorem rd5 (D : M 4096 256) (A : Buf (Elt Ideal) ((c : Thread nD τ).loc (Pipeline.arrRef spec0 5))) (hA : A = (up2 D : (⟨2, ![4096, 256]⟩ : Shape).Idx → EReal)) (t : Fin cfg0.N) :
    ((cfg0.win 5).blk t).view.read (Elt Ideal) A = up2 (nxt D t.val) := by
  funext i
  refine (congrFun hA (((cfg0.win 5).blk t).view.emb i)).trans (congrArg _ (congr (congrArg D (Fin.ext ?_)) (Fin.ext ?_)))
  · blk_simp [idx t]; exact row' t _
  · blk_simp [idx t]
theorem blk5 (H : Ops m c x) (t : Fin cfg0.N) : iblk m c 5 t = up2 (nxt x.d t.val) := rd5 x.d (V m c (Pipeline.arrRef spec0 5)) H.d t

theorem rd6 (D : M 4096 256) (A : Buf (Elt Ideal) ((c : Thread nD τ).loc (Pipeline.arrRef spec0 6))) (hA : A = (up2 D : (⟨2, ![4096, 256]⟩ : Shape).Idx → EReal)) (t : Fin cfg0.N) :
    ((cfg0.win 6).blk t).view.read (Elt Ideal) A = up2 (cur D t.val) := by
  funext i
  refine (congrFun hA (((cfg0.win 6).blk t).view.emb i)).trans (congrArg _ (congr (congrArg D (Fin.ext ?_)) (Fin.ext ?_)))
  · blk_simp [idx t]; exact row t _
  · blk_simp [idx t]
theorem blk6 (H : Ops m c x) (t : Fin cfg0.N) : iblk m c 6 t = up2 (cur x.dl t.val) := rd6 x.dl (V m c (Pipeline.arrRef spec0 6)) H.dl t

theorem rd7 (D : M 4096 256) (A : Buf (Elt Ideal) ((c : Thread nD τ).loc (Pipeline.arrRef spec0 7))) (hA : A = (up2 D : (⟨2, ![4096, 256]⟩ : Shape).Idx → EReal)) (t : Fin cfg0.N) :
    ((cfg0.win 7).blk t).view.read (Elt Ideal) A = up2 (nxt D t.val) := by
  funext i
  refine (congrFun hA (((cfg0.win 7).blk t).view.emb i)).trans (congrArg _ (congr (congrArg D (Fin.ext ?_)) (Fin.ext ?_)))
  · blk_simp [idx t]; exact row' t _
  · blk_simp [idx t]
theorem blk7 (H : Ops m c x) (t : Fin cfg0.N) : iblk m c 7 t = up2 (nxt x.dl t.val) := rd7 x.dl (V m c (Pipeline.arrRef spec0 7)) H.dl t

theorem rd8 (D : M 4096 256) (A : Buf (Elt Ideal) ((c : Thread nD τ).loc (Pipeline.arrRef spec0 8))) (hA : A = (up2 D : (⟨2, ![4096, 256]⟩ : Shape).Idx → EReal)) (t : Fin cfg0.N) :
    ((cfg0.win 8).blk t).view.read (Elt Ideal) A = up2 (cur D t.val) := by
  funext i
  refine (congrFun hA (((cfg0.win 8).blk t).view.emb i)).trans (congrArg _ (congr (congrArg D (Fin.ext ?_)) (Fin.ext ?_)))
  · blk_simp [idx t]; exact row t _
  · blk_simp [idx t]
theorem blk8 (H : Ops m c x) (t : Fin cfg0.N) : iblk m c 8 t = up2 (cur x.l t.val) := rd8 x.l (V m c (Pipeline.arrRef spec0 8)) H.l t

theorem rd9 (D : M 4096 256) (A : Buf (Elt Ideal) ((c : Thread nD τ).loc (Pipeline.arrRef spec0 9))) (hA : A = (up2 D : (⟨2, ![4096, 256]⟩ : Shape).Idx → EReal)) (t : Fin cfg0.N) :
    ((cfg0.win 9).blk t).view.read (Elt Ideal) A = up2 (nxt D t.val) := by
  funext i
  refine (congrFun hA (((cfg0.win 9).blk t).view.emb i)).trans (congrArg _ (congr (congrArg D (Fin.ext ?_)) (Fin.ext ?_)))
  · blk_simp [idx t]; exact row' t _
  · blk_simp [idx t]
theorem blk9 (H : Ops m c x) (t : Fin cfg0.N) : iblk m c 9 t = up2 (nxt x.l t.val) := rd9 x.l (V m c (Pipeline.arrRef spec0 9)) H.l t

theorem ins_eq (H : Ops m c x) (t : Fin cfg0.N) : ins m c t = x.inp t.val := by
  unfold ins
  rw [blk0 H, blk1 H, blk2 H, blk3 H, blk4 H, blk5 H, blk6 H, blk7 H, blk8 H, blk9 H]
  rfl

theorem divides : 32 ∣ 32 := by decide

theorem pay17 (y : FVec Ideal S128x256 .f32) : k0_pay17 (F := Ideal) y = y := by
  funext i; idx_vars i; pointwise [k0_pay17]

/-- The query gradients each point is handed. -/
theorem cin_eq (H : Ops m c x) : ∀ (n : ℕ) (hn : n < cfg0.N), cin m c ⟨n, hn⟩ = up2 (x.carry 32 n)
  | 0, hn => by
    rw [cin, dif_neg (by simp)]
    funext i; idx_vars i; pointwise [k0_pay16]; rfl
  | n + 1, hn => by
    have hN : n + 1 < 8 := lt_of_lt_of_eq hn N_0
    rw [cin, dif_pos (by show 1 ≤ n + 1; omega)]
    have e := (point m c ⟨n, by omega⟩).2.2.1
    rw [ins_eq H, pid_eq, cin_eq H n (by omega), Arr.scr_eq x tests32 n (by omega)] at e
    show k0_pay17 (F := Ideal) (View.ld (Val := Elt Ideal) (outsAt0 m c n (by omega)).2.2.2 (Rect.unit (s := S640x256) ![512, 0] ![128, 256] inb_S640x256_S128x256_512_0)) = _
    rw [show (outsAt0 m c n (by omega)).2.2.2 = _ from e, pay17]
    funext i
    obtain ⟨r, a, rfl⟩ : ∃ (r : Fin 128) (a : Fin 256), i = ix2 r a := ⟨i 0, i 1, by funext k; match k with | ⟨0, _⟩ => rfl | ⟨1, _⟩ => rfl⟩
    have e0 : (Rect.unit (s := S640x256) ![512, 0] ![128, 256] inb_S640x256_S128x256_512_0).emb (ix2 r a) = ix2 (⟨512 + r.val, by omega⟩ : Fin 640) a := by
      funext k; match k with
      | ⟨0, _⟩ => exact Fin.ext (by show 512 + 1 * r.val = 512 + r.val; omega)
      | ⟨1, _⟩ => exact Fin.ext (by show 0 + 1 * a.val = a.val; omega)
    refine Eq.trans (congrArg (up2 (x.scrR 32 n (x.carry 32 n))) e0) ?_
    refine congrArg (fun z : ℝ => (z : EReal)) ((Arr.scr_last x n _ r a).trans ?_)
    show _ = if n + 1 = 0 then (0 : ℝ) else _
    rw [if_neg (by omega)]
    rfl

theorem final12 (H : Ops m c x) : (dats m 0 c).arrAt 12 cfg0.N = up2 (x.gv 32) := by
  refine (dats m 0 c).arrAt_eq_of_covers 12 _ (by decide +kernel) fun t _ y => ?_
  have hN : t.val < 8 := lt_of_lt_of_eq t.isLt N_0
  blk_simp
  rw [after0_12, (point m c t).2.1, ins_eq H, pid_eq, Arr.four_dv x t.val tests32 divides hN]
  refine congrArg (fun z : ℝ => (z : EReal)) (congr (congrArg (x.gv 32) (Fin.ext ?_)) (Fin.ext ?_))
  · blk_simp [idx t]; exact (row t _).symm
  · blk_simp [idx t]

theorem final11 (H : Ops m c x) : (dats m 0 c).arrAt 11 cfg0.N = up2 (x.gk 32) := by
  refine (dats m 0 c).arrAt_eq_of_covers 11 _ (by decide +kernel) fun t _ y => ?_
  have hN : t.val < 8 := lt_of_lt_of_eq t.isLt N_0
  blk_simp
  rw [after0_11, (point m c t).1, ins_eq H, pid_eq, Arr.four_dk x t.val tests32 divides hN]
  refine congrArg (fun z : ℝ => (z : EReal)) (congr (congrArg (x.gk 32) (Fin.ext ?_)) (Fin.ext ?_))
  · blk_simp [idx t]; exact (row t _).symm
  · blk_simp [idx t]

theorem final10 (H : Ops m c x) : (dats m 0 c).arrAt 10 cfg0.N = up2 (x.gq 32) := by
  refine (dats m 0 c).arrAt_eq_of_covers 10 _ (by decide +kernel) fun t _ y => ?_
  have hN : t.val < 8 := lt_of_lt_of_eq t.isLt N_0
  blk_simp
  rw [after0_10, (point m c t).2.2.2, ins_eq H, pid_eq, cin_eq H t.val t.isLt]
  refine (congrFun (Arr.scr_dq x t.val (View.whole cc0_scratch0) tests32 divides hN) y).trans ?_
  refine congrArg (fun z : ℝ => (z : EReal)) (congr (congrArg (x.gq 32) (Fin.ext ?_)) (Fin.ext ?_))
  · blk_simp [idx t]; exact (row t _).symm
  · blk_simp [idx t]

/-- The run: its three results and the arguments it keeps. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v155_0) = (dats m 0 c).arrAt 10 cfg0.N
      ∧ r.2.mem ((c : Thread nD τ).loc main_v155_1) = (dats m 0 c).arrAt 11 cfg0.N
      ∧ r.2.mem ((c : Thread nD τ).loc main_v155_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 10, (h c).1 11, (h c).1 12,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.Attn0KernelIdeal.Value
-- ==== Proof.Attn0.lean ====
module

public import proofs.«01_k».proof.Defs
public import proofs.«01_k».proof.Proof.AttnHost
public import proofs.«01_k».proof.Proof.AttnKer0
public import proofs.«01_k».proof.Proof.Gen.Attn0ReferenceIdeal.Run
public import proofs.«01_k».proof.Proof.Gen.Attn0ReferenceIdeal.Read
public import Idealize.ShloMosaic.Lib.Quiescent

/-! The attention's backward call for the group at distance 1: its frames and its value claim. -/

@[expose] public section

set_option maxRecDepth 16384

noncomputable section

namespace Cert.Attn0KernelIdeal.Value

open Idealize.ShloMosaic Idealize.ShloMosaic.TcCoe Idealize.SL.Sem
open Cert.Attn0KernelIdeal Cert.Attn0KernelIdeal.Gen Cert.Lift Cert.Attn
open Cert.Attn0ReferenceIdeal.Read (Inp gQ gK gV)

/-- The rows sorted by residue, and a group's columns. -/
def byres (u : FVec Ideal S4096x256 .f32) : FVec Ideal S4096x256 .f32 :=
  shapeCast S4096x256 (transpose S1x4096x256 [1, 0, 2] (shapeCast S4096x1x256 u shapeCasts_S4096x256_S4096x1x256) transposes_S4096x1x256_S1x4096x256_1_0_2)
    shapeCasts_S1x4096x256_S4096x256
def sel (u : FVec Ideal S4096x768 .f32) : FVec Ideal S4096x256 .f32 := extractStridedSlice S4096x256 ![0, 0] u slices_S4096x768_S4096x256_0_0

theorem byres_eq (u : M 4096 256) : byres (up2 u) = up2 fun R a => u (tok 0 R) a := by
  funext i; idx_vars i; pointwise [byres]
  exact congrArg (fun z => ((z : ℝ) : EReal)) (congr (congrArg u (Fin.ext (by first | rfl | (show i0.val = i0.val % 4096 * 1 + i0.val / 4096; omega)))) rfl)
theorem sel_eq (u : M 4096 768) : sel (up2 u) = up2 fun t a => u t (col 0 a) := by
  funext i; idx_vars i; pointwise [sel]
  exact congrArg (fun z => ((z : ℝ) : EReal)) (congrArg (u i0) (Fin.ext (by show _ = 256 * 0 + i1.val; first | rfl | (show 0 + i1.val = _; omega) | (show i1.val = _; omega))))

variable (m : (ℓ : Loc nD τ sig) → Buf (Elt Ideal) ℓ) (c : Dev nD)

/-- The contents before the region, in three stretches of host operations. -/
abbrev U1 : (b : DevRef τ sig) → b.ty.Contents (Elt Ideal) := StableHlo.after hostOps0_1 (StableHlo.after hostOps0 fun b => m (c, b))

theorem after_two (l l' : List (HloOp τ sig (Elt Ideal))) (U : (b : DevRef τ sig) → b.ty.Contents (Elt Ideal)) :
    StableHlo.after (l ++ l') U = StableHlo.after l' (StableHlo.after l U) := by
  induction l generalizing U with
  | nil => rfl
  | cons o l ih => exact ih _

theorem V_U (b : Ref sig .tc) : V m c b = StableHlo.after hostOps0_2 (U1 m c) (Proc.devRef .tc b) := by
  show StableHlo.after (List.flatten [hostOps0, hostOps0_1, hostOps0_2]) _ _ = _
  rw [List.flatten_cons, List.flatten_cons, List.flatten_cons, List.flatten_nil, List.append_nil, after_two, after_two]

theorem where51 (U : (b : DevRef τ sig) → b.ty.Contents (Elt Ideal)) : StableHlo.after hostOps0_1 U (Proc.devRef .tc main_v51)
    = select (broadcastInDim S3x4x4096x4096 ![0, 1, 2, 3] bcast_S3x1x4096x4096_S3x4x4096x4096_0_1_2_3 (U (Proc.devRef .tc main_v50)) : (⟨S3x4x4096x4096, .i1⟩ : BufTy).Contents (Elt Ideal))
        (U (Proc.devRef .tc main_v49) : (⟨S3x4x4096x4096, .f32⟩ : BufTy).Contents (Elt Ideal))
        (broadcastInDim S3x4x4096x4096 ![] bcast_S_S3x4x4096x4096 (U (Proc.devRef .tc main_cst_11)) : (⟨S3x4x4096x4096, .f32⟩ : BufTy).Contents (Elt Ideal)) := rfl

theorem u49 : StableHlo.after hostOps0 (fun b => m (c, b)) (Proc.devRef .tc main_v49) = Cert.Attn0ReferenceIdeal.Read.val_main_v49 (F := Ideal) (m ((c : Thread nD τ).loc main_arg0)) (m ((c : Thread nD τ).loc main_arg1)) := by
  rfl
theorem u50 : StableHlo.after hostOps0 (fun b => m (c, b)) (Proc.devRef .tc main_v50) = Cert.Attn0ReferenceIdeal.Read.val_main_v50 (F := Ideal) := by
  rfl
theorem u11 : StableHlo.after hostOps0 (fun b => m (c, b)) (Proc.devRef .tc main_cst_11) = Cert.Attn0ReferenceIdeal.Read.val_main_cst_11 (F := Ideal) := by
  rfl
theorem u51 : StableHlo.after hostOps0_1 (StableHlo.after hostOps0 fun b => m (c, b)) (Proc.devRef .tc main_v51) = Cert.Attn0ReferenceIdeal.Read.val_main_v51_0 (F := Ideal) (m ((c : Thread nD τ).loc main_arg0)) (m ((c : Thread nD τ).loc main_arg1)) := by
  rw [where51, u49, u50, u11]; rfl
theorem u46 : StableHlo.after hostOps0_1 (StableHlo.after hostOps0 fun b => m (c, b)) (Proc.devRef .tc main_v46) = Cert.Attn0ReferenceIdeal.Read.val_main_v46 (F := Ideal) (m ((c : Thread nD τ).loc main_arg2)) := by
  rfl
theorem ua0 : StableHlo.after hostOps0_1 (StableHlo.after hostOps0 fun b => m (c, b)) (Proc.devRef .tc main_arg0) = m ((c : Thread nD τ).loc main_arg0) := by rfl
theorem ua1 : StableHlo.after hostOps0_1 (StableHlo.after hostOps0 fun b => m (c, b)) (Proc.devRef .tc main_arg1) = m ((c : Thread nD τ).loc main_arg1) := by rfl
theorem ua2 : StableHlo.after hostOps0_1 (StableHlo.after hostOps0 fun b => m (c, b)) (Proc.devRef .tc main_arg2) = m ((c : Thread nD τ).loc main_arg2) := by rfl
theorem ua3 : StableHlo.after hostOps0_1 (StableHlo.after hostOps0 fun b => m (c, b)) (Proc.devRef .tc main_arg3) = m ((c : Thread nD τ).loc main_arg3) := by rfl

section
variable (U : (b : DevRef τ sig) → b.ty.Contents (Elt Ideal)) (X : Inp)
theorem w151 (h51 : U (Proc.devRef .tc main_v51) = Cert.Attn0ReferenceIdeal.Read.val_main_v51_0 (F := Ideal) (up2 X.q) (up2 X.k))
    (h46 : U (Proc.devRef .tc main_v46) = Cert.Attn0ReferenceIdeal.Read.val_main_v46 (F := Ideal) (up2 X.v)) (h3 : U (Proc.devRef .tc main_arg3) = up2 X.d) :
    StableHlo.after hostOps0_2 U (Proc.devRef .tc main_v151) = byres (hdel (up2 X.q) (up2 X.k) (up2 X.v) (up2 X.d)) := by
  entry_read; rw [h51, h46, h3]; rfl
theorem w154 (h51 : U (Proc.devRef .tc main_v51) = Cert.Attn0ReferenceIdeal.Read.val_main_v51_0 (F := Ideal) (up2 X.q) (up2 X.k)) :
    StableHlo.after hostOps0_2 U (Proc.devRef .tc main_v154) = byres (hlog (up2 X.q) (up2 X.k)) := by
  entry_read; rw [h51]; rfl
theorem w136 (h : U (Proc.devRef .tc main_arg0) = up2 X.q) : StableHlo.after hostOps0_2 U (Proc.devRef .tc main_v136) = byres (sel (up2 X.q)) := by
  entry_read; rw [h]; rfl
theorem w140 (h : U (Proc.devRef .tc main_arg1) = up2 X.k) : StableHlo.after hostOps0_2 U (Proc.devRef .tc main_v140) = byres (sel (up2 X.k)) := by
  entry_read; rw [h]; rfl
theorem w144 (h : U (Proc.devRef .tc main_arg2) = up2 X.v) : StableHlo.after hostOps0_2 U (Proc.devRef .tc main_v144) = byres (sel (up2 X.v)) := by
  entry_read; rw [h]; rfl
theorem w148 (h : U (Proc.devRef .tc main_arg3) = up2 X.d) : StableHlo.after hostOps0_2 U (Proc.devRef .tc main_v148) = byres (up2 X.d) := by
  entry_read; rw [h]; rfl
end

theorem ops (X : Inp) (h0 : m ((c : Thread nD τ).loc main_arg0) = up2 X.q) (h1 : m ((c : Thread nD τ).loc main_arg1) = up2 X.k)
    (h2 : m ((c : Thread nD τ).loc main_arg2) = up2 X.v) (h3 : m ((c : Thread nD τ).loc main_arg3) = up2 X.d) : Ops m c (arr X 0) where
  q := (V_U m c _).trans ((w136 _ X ((ua0 m c).trans h0)).trans ((congrArg byres (sel_eq X.q)).trans (byres_eq _)))
  k := (V_U m c _).trans ((w140 _ X ((ua1 m c).trans h1)).trans ((congrArg byres (sel_eq X.k)).trans (byres_eq _)))
  v := (V_U m c _).trans ((w144 _ X ((ua2 m c).trans h2)).trans ((congrArg byres (sel_eq X.v)).trans (byres_eq _)))
  d := (V_U m c _).trans ((w148 _ X ((ua3 m c).trans h3)).trans (byres_eq _))
  dl := (V_U m c _).trans ((w151 _ X ((u51 m c).trans (by rw [h0, h1])) ((u46 m c).trans (by rw [h2])) ((ua3 m c).trans h3)).trans
    ((congrArg byres (hdel_eq X)).trans (byres_eq _)))
  l := (V_U m c _).trans ((w154 _ X ((u51 m c).trans (by rw [h0, h1]))).trans ((congrArg byres (hlog_eq X)).trans (byres_eq _)))

theorem r213 (X : Inp) : Cert.Attn0ReferenceIdeal.Read.val_main_v213 (F := Ideal) (up2 X.q) (up2 X.k) (up2 X.v) (up2 X.d) = up2 ((arr X 0).gq 32) := by
  have e : Cert.Attn0ReferenceIdeal.Read.val_main_v213 (F := Ideal) (up2 X.q) (up2 X.k) (up2 X.v) (up2 X.d)
      = byres (sel (Cert.Attn0ReferenceIdeal.Read.val_main_v209 (F := Ideal) (up2 X.q) (up2 X.k) (up2 X.v) (up2 X.d))) := rfl
  rw [e, Cert.Attn0ReferenceIdeal.Read.v209 X, sel_eq, byres_eq]
  exact pick (gQ X) 0 _ (gq_eq X 0)
theorem r217 (X : Inp) : Cert.Attn0ReferenceIdeal.Read.val_main_v217 (F := Ideal) (up2 X.q) (up2 X.k) (up2 X.v) (up2 X.d) = up2 ((arr X 0).gk 32) := by
  have e : Cert.Attn0ReferenceIdeal.Read.val_main_v217 (F := Ideal) (up2 X.q) (up2 X.k) (up2 X.v) (up2 X.d)
      = byres (sel (Cert.Attn0ReferenceIdeal.Read.val_main_v207 (F := Ideal) (up2 X.q) (up2 X.k) (up2 X.v) (up2 X.d))) := rfl
  rw [e, Cert.Attn0ReferenceIdeal.Read.v207 X, sel_eq, byres_eq]
  exact pick (gK X) 0 _ (gk_eq X 0)
theorem r221 (X : Inp) : Cert.Attn0ReferenceIdeal.Read.val_main_v221 (F := Ideal) (up2 X.q) (up2 X.k) (up2 X.d) = up2 ((arr X 0).gv 32) := by
  have e : Cert.Attn0ReferenceIdeal.Read.val_main_v221 (F := Ideal) (up2 X.q) (up2 X.k) (up2 X.d)
      = byres (sel (Cert.Attn0ReferenceIdeal.Read.val_main_v205 (F := Ideal) (up2 X.q) (up2 X.k) (up2 X.d))) := rfl
  rw [e, Cert.Attn0ReferenceIdeal.Read.v205 X, sel_eq, byres_eq]
  exact pick (gV X) 0 _ (gv_eq X 0)

end Cert.Attn0KernelIdeal.Value

namespace Cert.Proof.Attn0

open Idealize.ShloMosaic Idealize.ShloMosaic.TcCoe Idealize.SL.Sem
open Cert.Lift Cert.Attn

/-- The reference runs, keeps its arguments, and leaves every semaphore at zero. -/
theorem frameR : Cert.quiescent_Attn0ReferenceIdeal := fun m ρ _ =>
  (θ_run Cert.Attn0ReferenceIdeal.defs _ _).mono (fun r h => ⟨fun c => (h c).2.2.2, sem_eq_zero_of_no_sems (by decide) r.2⟩)
    (Cert.Attn0ReferenceIdeal.Value.run (F := Ideal) m ρ)

/-- The kernel's three gradients are the reference's. -/
theorem algebraic : Cert.algebraic_Attn0KernelIdeal_Attn0ReferenceIdeal_pre_finite_attn := by
  intro m ρ m' ρ' hpre hagree
  refine ⟨_, _, _, Cert.Attn0KernelIdeal.Value.run_blocks m ρ, ?_⟩
  refine (θ_run Cert.Attn0ReferenceIdeal.defs _ _).mono (fun _ h c => ?_) (Cert.Attn0ReferenceIdeal.Value.run (F := Ideal) m' ρ')
  obtain ⟨r0, r1, r2, hk⟩ := h c
  obtain ⟨X, h0, h1, h2, h3⟩ := real _ _ _ _ (hpre c)
  obtain ⟨a0, a1, a2, a3⟩ := hagree c
  have H := Cert.Attn0KernelIdeal.Value.ops m c X h0 h1 h2 h3
  rw [h0] at a0; rw [h1] at a1; rw [h2] at a2; rw [h3] at a3
  have b0 : StableHlo.launchContents m' c (Proc.devRef .tc Cert.Attn0ReferenceIdeal.main_arg0) = up2 X.q := a0
  have b1 : StableHlo.launchContents m' c (Proc.devRef .tc Cert.Attn0ReferenceIdeal.main_arg1) = up2 X.k := a1
  have b2 : StableHlo.launchContents m' c (Proc.devRef .tc Cert.Attn0ReferenceIdeal.main_arg2) = up2 X.v := a2
  have b3 : StableHlo.launchContents m' c (Proc.devRef .tc Cert.Attn0ReferenceIdeal.main_arg3) = up2 X.d := a3
  rw [Cert.Attn0ReferenceIdeal.Read.val_main_v213_eq, b0, b1, b2, b3] at r0
  rw [Cert.Attn0ReferenceIdeal.Read.val_main_v217_eq, b0, b1, b2, b3] at r1
  rw [Cert.Attn0ReferenceIdeal.Read.val_main_v221_eq, b0, b1, b3] at r2
  exact ⟨r0.trans ((Cert.Attn0KernelIdeal.Value.r213 X).trans (Cert.Attn0KernelIdeal.Value.final10 H).symm),
    r1.trans ((Cert.Attn0KernelIdeal.Value.r217 X).trans (Cert.Attn0KernelIdeal.Value.final11 H).symm),
    r2.trans ((Cert.Attn0KernelIdeal.Value.r221 X).trans (Cert.Attn0KernelIdeal.Value.final12 H).symm), hk⟩

end Cert.Proof.Attn0

end
-- ==== Proof.AttnPoint1.lean ====
module

public import proofs.«01_k».proof.Proof.AttnStep
public import proofs.«01_k».proof.Proof.Gen.Attn1KernelIdeal.Frame

/-! What a grid point of the backward call of group 1 leaves, in the words of AttnStep.lean. -/

@[expose] public section

set_option maxRecDepth 16384

noncomputable section

namespace Cert.Attn1KernelIdeal.Value

open Idealize.ShloMosaic Idealize.ShloMosaic.TcCoe Idealize.SL.Sem
open Cert.Attn1KernelIdeal Cert.Attn1KernelIdeal.Gen Cert.Attn

variable (m : (ℓ : Loc nD τ sig) → Buf (Elt Ideal) ℓ) (c : Dev nD)

/-- A point's inputs and its number. -/
def ins (t : Fin cfg0.N) : In := ⟨iblk m c 0 t, iblk m c 1 t, iblk m c 2 t, iblk m c 3 t, iblk m c 4 t, iblk m c 5 t, iblk m c 6 t, iblk m c 7 t, iblk m c 8 t, iblk m c 9 t⟩
abbrev pid (t : Fin cfg0.N) : BitVec 32 := BitVec.ofNat 32 (grid0.coords t 0).val

/-- The query gradients handed on by the point before: the last rows of its scratch, zero at the first point. -/
def cin (t : Fin cfg0.N) : FVec Ideal S128x256 .f32 :=
  if h : 1 ≤ t.val then k0_pay17 (F := Ideal) (View.ld (Val := Elt Ideal) (e' := .f32) (S := S640x256) (outsAt0 m c (t.val - 1) (by have := t.isLt; omega)).2.2.2
    (Rect.unit (s := S640x256) ![512, 0] ![128, 256] inb_S640x256_S128x256_512_0)) else k0_pay16 (F := Ideal)

set_option maxHeartbeats 16000000 in
theorem point (t : Fin cfg0.N) :
    (outsAt0 m c t.val t.isLt).2.1 = four ((ins m c t).op0 (pid t) 7#32).dk ((ins m c t).op1 (pid t) 7#32).dk ((ins m c t).op2 (pid t) 7#32).dk ((ins m c t).op3 (pid t) 7#32).dk
    ∧ (outsAt0 m c t.val t.isLt).2.2.1 = four ((ins m c t).op0 (pid t) 7#32).dv ((ins m c t).op1 (pid t) 7#32).dv ((ins m c t).op2 (pid t) 7#32).dv ((ins m c t).op3 (pid t) 7#32).dv
    ∧ (outsAt0 m c t.val t.isLt).2.2.2 = View.canon (Val := Elt Ideal) (scr (View.whole cc0_scratch0) (ins m c t) (pid t) 7#32 (cin m c t))
    ∧ (outsAt0 m c t.val t.isLt).1 = Cert.Attn0KernelIdeal.Gen.k0_pay2 (F := Ideal) ((View.whole cc0_scratch0).readCov (Val := Elt Ideal) (scr (View.whole cc0_scratch0) (ins m c t) (pid t) 7#32 (cin m c t))
        (Rect.unit (s := S640x256) ![0, 0] ![512, 256] inb_S640x256_S512x256_0_0).toLoadRect) := by
  have hN : t.val < 8 := lt_of_lt_of_eq t.isLt N_0
  by_cases h1 : 1 ≤ t.val
  on_goal 1 => rw [outsAt0_B m c t (by omega) h1, cin, dif_pos h1]
  on_goal 2 => rw [outsAt0_A m c t (by omega) h1, cin, dif_neg h1]
  all_goals refine ⟨?_, ?_, ?_, ?_⟩
  all_goals frame_out
  all_goals first | refine four_congr ?_ ?_ ?_ ?_ | skip
  all_goals simp only [read_unread_whole, k0_pay3, k0_pay4, k0_pay5, k0_pay6, k0_pay7, k0_pay8, k0_pay9, k0_pay10, k0_pay11, k0_pay12, k0_pay13, k0_pay14, k0_pay15, k0_pay20, k0_pay21,
      k0_pay22, k0_pay23, k0_pay24, k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135, k0_pay136,
      k0_pay137, k0_pay138, k0_pay139, k0_pay140, k0_pay141, k0_pay142, k0_pay143, k0_pay144, k0_pay145, k0_pay146, k0_pay147, k0_pay148, k0_pay149,
      Op.dk, Op.dv, Op.dq, Op.s0, Op.s2, Op.p0, Op.p2, In.op0, In.op1, In.op2, In.op3, In.mid, put, down, across, pair, stack, firsts, wts, dsc, cols,
      cols', cat, rowb, rowf, ins, k0_pay1, k0_pay2, k0_pay18, k0_pay19, Cert.Attn0KernelIdeal.Gen.k0_pay2, Cert.Attn0KernelIdeal.Gen.k0_pay3, Cert.Attn0KernelIdeal.Gen.k0_pay8, Cert.Attn0KernelIdeal.Gen.k0_pay9, Cert.Attn0KernelIdeal.Gen.k0_pay10, Cert.Attn0KernelIdeal.Gen.k0_pay15, Cert.Attn0KernelIdeal.Gen.k0_pay18, Cert.Attn0KernelIdeal.Gen.k0_pay19, scr, bump]
  all_goals rfl

end Cert.Attn1KernelIdeal.Value
-- ==== Proof.AttnKer1.lean ====
module

public import proofs.«01_k».proof.Proof.AttnScr
public import proofs.«01_k».proof.Proof.AttnPoint1
public import Idealize.ShloMosaic.Lib.Pipeline.ValueKit

/-! The backward call of group 1 over whole arrays of real numbers, in the kernel's order of rows. -/

@[expose] public section

set_option maxRecDepth 16384

noncomputable section

namespace Cert.Attn1KernelIdeal.Value

open Idealize.ShloMosaic Idealize.ShloMosaic.TcCoe Idealize.SL.Sem
open Cert.Attn1KernelIdeal Cert.Attn1KernelIdeal.Gen Cert.Attn Cert.Lift

variable {m : (ℓ : Loc nD τ sig) → Buf (Elt Ideal) ℓ} {c : Dev nD}

theorem idx : ∀ t : Fin cfg0.N, win0_0.index t = ![t.val, 0] ∧ win0_1.index t = ![t.val, 0] ∧ win0_2.index t = ![t.val, 0]
    ∧ win0_3.index t = ![min (4 * t.val + 4) 31, 0] ∧ win0_4.index t = ![t.val, 0] ∧ win0_5.index t = ![min (4 * t.val + 4) 31, 0]
    ∧ win0_6.index t = ![t.val, 0] ∧ win0_7.index t = ![min (4 * t.val + 4) 31, 0] ∧ win0_8.index t = ![t.val, 0] ∧ win0_9.index t = ![min (4 * t.val + 4) 31, 0]
    ∧ win0_10.index t = ![t.val, 0] ∧ win0_11.index t = ![t.val, 0] ∧ win0_12.index t = ![t.val, 0] := (by decide +kernel : ∀ t : Fin grid0.N, _)

theorem pid_eq (t : Fin cfg0.N) : pid t = BitVec.ofNat 32 t.val := (by decide +kernel : ∀ t : Fin grid0.N, BitVec.ofNat 32 (grid0.coords t 0).val = BitVec.ofNat 32 t.val) t

/-- The region's operands hold these real arrays. -/
structure Ops (m : (ℓ : Loc nD τ sig) → Buf (Elt Ideal) ℓ) (c : Dev nD) (x : Arr) : Prop where
  q : V m c main_v136 = up2 x.q
  k : V m c main_v140 = up2 x.k
  v : V m c main_v144 = up2 x.v
  d : V m c main_v148 = up2 x.d
  dl : V m c main_v151 = up2 x.dl
  l : V m c main_v154 = up2 x.l

variable {x : Arr}

theorem row (t : Fin cfg0.N) (s : Fin 512) : t.val * 512 + s.val = (at_ (512 * t.val + s.val)).val := by
  have hN : t.val < 8 := lt_of_lt_of_eq t.isLt N_0
  have := s.isLt
  show _ = (512 * t.val + s.val) % 4096; omega

theorem row' (t : Fin cfg0.N) (s : Fin 128) : min (4 * t.val + 4) 31 * 128 + s.val = (at_ (128 * min (4 * t.val + 4) 31 + s.val)).val := by
  have hN : t.val < 8 := lt_of_lt_of_eq t.isLt N_0
  have := s.isLt
  show _ = (128 * min (4 * t.val + 4) 31 + s.val) % 4096; omega

theorem rd0 (D : M 4096 256) (A : Buf (Elt Ideal) ((c : Thread nD τ).loc (Pipeline.arrRef spec0 0))) (hA : A = (up2 D : (⟨2, ![4096, 256]⟩ : Shape).Idx → EReal)) (t : Fin cfg0.N) :
    ((cfg0.win 0).blk t).view.read (Elt Ideal) A = up2 (cur D t.val) := by
  funext i
  refine (congrFun hA (((cfg0.win 0).blk t).view.emb i)).trans (congrArg _ (congr (congrArg D (Fin.ext ?_)) (Fin.ext ?_)))
  · blk_simp [idx t]; exact row t _
  · blk_simp [idx t]
theorem blk0 (H : Ops m c x) (t : Fin cfg0.N) : iblk m c 0 t = up2 (cur x.k t.val) := rd0 x.k (V m c (Pipeline.arrRef spec0 0)) H.k t

theorem rd1 (D : M 4096 256) (A : Buf (Elt Ideal) ((c : Thread nD τ).loc (Pipeline.arrRef spec0 1))) (hA : A = (up2 D : (⟨2, ![4096, 256]⟩ : Shape).Idx → EReal)) (t : Fin cfg0.N) :
    ((cfg0.win 1).blk t).view.read (Elt Ideal) A = up2 (cur D t.val) := by
  funext i
  refine (congrFun hA (((cfg0.win 1).blk t).view.emb i)).trans (congrArg _ (congr (congrArg D (Fin.ext ?_)) (Fin.ext ?_)))
  · blk_simp [idx t]; exact row t _
  · blk_simp [idx t]
theorem blk1 (H : Ops m c x) (t : Fin cfg0.N) : iblk m c 1 t = up2 (cur x.v t.val) := rd1 x.v (V m c (Pipeline.arrRef spec0 1)) H.v t

theorem rd2 (D : M 4096 256) (A : Buf (Elt Ideal) ((c : Thread nD τ).loc (Pipeline.arrRef spec0 2))) (hA : A = (up2 D : (⟨2, ![4096, 256]⟩ : Shape).Idx → EReal)) (t : Fin cfg0.N) :
    ((cfg0.win 2).blk t).view.read (Elt Ideal) A = up2 (cur D t.val) := by
  funext i
  refine (congrFun hA (((cfg0.win 2).blk t).view.emb i)).trans (congrArg _ (congr (congrArg D (Fin.ext ?_)) (Fin.ext ?_)))
  · blk_simp [idx t]; exact row t _
  · blk_simp [idx t]
theorem blk2 (H : Ops m c x) (t : Fin cfg0.N) : iblk m c 2 t = up2 (cur x.q t.val) := rd2 x.q (V m c (Pipeline.arrRef spec0 2)) H.q t

theorem rd3 (D : M 4096 256) (A : Buf (Elt Ideal) ((c : Thread nD τ).loc (Pipeline.arrRef spec0 3))) (hA : A = (up2 D : (⟨2, ![4096, 256]⟩ : Shape).Idx → EReal)) (t : Fin cfg0.N) :
    ((cfg0.win 3).blk t).view.read (Elt Ideal) A = up2 (nxt D t.val) := by
  funext i
  refine (congrFun hA (((cfg0.win 3).blk t).view.emb i)).trans (congrArg _ (congr (congrArg D (Fin.ext ?_)) (Fin.ext ?_)))
  · blk_simp [idx t]; exact row' t _
  · blk_simp [idx t]
theorem blk3 (H : Ops m c x) (t : Fin cfg0.N) : iblk m c 3 t = up2 (nxt x.q t.val) := rd3 x.q (V m c (Pipeline.arrRef spec0 3)) H.q t

theorem rd4 (D : M 4096 256) (A : Buf (Elt Ideal) ((c : Thread nD τ).loc (Pipeline.arrRef spec0 4))) (hA : A = (up2 D : (⟨2, ![4096, 256]⟩ : Shape).Idx → EReal)) (t : Fin cfg0.N) :
    ((cfg0.win 4).blk t).view.read (Elt Ideal) A = up2 (cur D t.val) := by
  funext i
  refine (congrFun hA (((cfg0.win 4).blk t).view.emb i)).trans (congrArg _ (congr (congrArg D (Fin.ext ?_)) (Fin.ext ?_)))
  · blk_simp [idx t]; exact row t _
  · blk_simp [idx t]
theorem blk4 (H : Ops m c x) (t : Fin cfg0.N) : iblk m c 4 t = up2 (cur x.d t.val) := rd4 x.d (V m c (Pipeline.arrRef spec0 4)) H.d t

theorem rd5 (D : M 4096 256) (A : Buf (Elt Ideal) ((c : Thread nD τ).loc (Pipeline.arrRef spec0 5))) (hA : A = (up2 D : (⟨2, ![4096, 256]⟩ : Shape).Idx → EReal)) (t : Fin cfg0.N) :
    ((cfg0.win 5).blk t).view.read (Elt Ideal) A = up2 (nxt D t.val) := by
  funext i
  refine (congrFun hA (((cfg0.win 5).blk t).view.emb i)).trans (congrArg _ (congr (congrArg D (Fin.ext ?_)) (Fin.ext ?_)))
  · blk_simp [idx t]; exact row' t _
  · blk_simp [idx t]
theorem blk5 (H : Ops m c x) (t : Fin cfg0.N) : iblk m c 5 t = up2 (nxt x.d t.val) := rd5 x.d (V m c (Pipeline.arrRef spec0 5)) H.d t

theorem rd6 (D : M 4096 256) (A : Buf (Elt Ideal) ((c : Thread nD τ).loc (Pipeline.arrRef spec0 6))) (hA : A = (up2 D : (⟨2, ![4096, 256]⟩ : Shape).Idx → EReal)) (t : Fin cfg0.N) :
    ((cfg0.win 6).blk t).view.read (Elt Ideal) A = up2 (cur D t.val) := by
  funext i
  refine (congrFun hA (((cfg0.win 6).blk t).view.emb i)).trans (congrArg _ (congr (congrArg D (Fin.ext ?_)) (Fin.ext ?_)))
  · blk_simp [idx t]; exact row t _
  · blk_simp [idx t]
theorem blk6 (H : Ops m c x) (t : Fin cfg0.N) : iblk m c 6 t = up2 (cur x.dl t.val) := rd6 x.dl (V m c (Pipeline.arrRef spec0 6)) H.dl t

theorem rd7 (D : M 4096 256) (A : Buf (Elt Ideal) ((c : Thread nD τ).loc (Pipeline.arrRef spec0 7))) (hA : A = (up2 D : (⟨2, ![4096, 256]⟩ : Shape).Idx → EReal)) (t : Fin cfg0.N) :
    ((cfg0.win 7).blk t).view.read (Elt Ideal) A = up2 (nxt D t.val) := by
  funext i
  refine (congrFun hA (((cfg0.win 7).blk t).view.emb i)).trans (congrArg _ (congr (congrArg D (Fin.ext ?_)) (Fin.ext ?_)))
  · blk_simp [idx t]; exact row' t _
  · blk_simp [idx t]
theorem blk7 (H : Ops m c x) (t : Fin cfg0.N) : iblk m c 7 t = up2 (nxt x.dl t.val) := rd7 x.dl (V m c (Pipeline.arrRef spec0 7)) H.dl t

theorem rd8 (D : M 4096 256) (A : Buf (Elt Ideal) ((c : Thread nD τ).loc (Pipeline.arrRef spec0 8))) (hA : A = (up2 D : (⟨2, ![4096, 256]⟩ : Shape).Idx → EReal)) (t : Fin cfg0.N) :
    ((cfg0.win 8).blk t).view.read (Elt Ideal) A = up2 (cur D t.val) := by
  funext i
  refine (congrFun hA (((cfg0.win 8).blk t).view.emb i)).trans (congrArg _ (congr (congrArg D (Fin.ext ?_)) (Fin.ext ?_)))
  · blk_simp [idx t]; exact row t _
  · blk_simp [idx t]
theorem blk8 (H : Ops m c x) (t : Fin cfg0.N) : iblk m c 8 t = up2 (cur x.l t.val) := rd8 x.l (V m c (Pipeline.arrRef spec0 8)) H.l t

theorem rd9 (D : M 4096 256) (A : Buf (Elt Ideal) ((c : Thread nD τ).loc (Pipeline.arrRef spec0 9))) (hA : A = (up2 D : (⟨2, ![4096, 256]⟩ : Shape).Idx → EReal)) (t : Fin cfg0.N) :
    ((cfg0.win 9).blk t).view.read (Elt Ideal) A = up2 (nxt D t.val) := by
  funext i
  refine (congrFun hA (((cfg0.win 9).blk t).view.emb i)).trans (congrArg _ (congr (congrArg D (Fin.ext ?_)) (Fin.ext ?_)))
  · blk_simp [idx t]; exact row' t _
  · blk_simp [idx t]
theorem blk9 (H : Ops m c x) (t : Fin cfg0.N) : iblk m c 9 t = up2 (nxt x.l t.val) := rd9 x.l (V m c (Pipeline.arrRef spec0 9)) H.l t

theorem ins_eq (H : Ops m c x) (t : Fin cfg0.N) : ins m c t = x.inp t.val := by
  unfold ins
  rw [blk0 H, blk1 H, blk2 H, blk3 H, blk4 H, blk5 H, blk6 H, blk7 H, blk8 H, blk9 H]
  rfl

theorem divides : 8 ∣ 32 := by decide

theorem pay17 (y : FVec Ideal S128x256 .f32) : k0_pay17 (F := Ideal) y = y := by
  funext i; idx_vars i; pointwise [k0_pay17]

/-- The query gradients each point is handed. -/
theorem cin_eq (H : Ops m c x) : ∀ (n : ℕ) (hn : n < cfg0.N), cin m c ⟨n, hn⟩ = up2 (x.carry 8 n)
  | 0, hn => by
    rw [cin, dif_neg (by simp)]
    funext i; idx_vars i; pointwise [k0_pay16]; rfl
  | n + 1, hn => by
    have hN : n + 1 < 8 := lt_of_lt_of_eq hn N_0
    rw [cin, dif_pos (by show 1 ≤ n + 1; omega)]
    have e := (point m c ⟨n, by omega⟩).2.2.1
    rw [ins_eq H, pid_eq, cin_eq H n (by omega), Arr.scr_eq x tests8 n (by omega)] at e
    show k0_pay17 (F := Ideal) (View.ld (Val := Elt Ideal) (outsAt0 m c n (by omega)).2.2.2 (Rect.unit (s := S640x256) ![512, 0] ![128, 256] inb_S640x256_S128x256_512_0)) = _
    rw [show (outsAt0 m c n (by omega)).2.2.2 = _ from e, pay17]
    funext i
    obtain ⟨r, a, rfl⟩ : ∃ (r : Fin 128) (a : Fin 256), i = ix2 r a := ⟨i 0, i 1, by funext k; match k with | ⟨0, _⟩ => rfl | ⟨1, _⟩ => rfl⟩
    have e0 : (Rect.unit (s := S640x256) ![512, 0] ![128, 256] inb_S640x256_S128x256_512_0).emb (ix2 r a) = ix2 (⟨512 + r.val, by omega⟩ : Fin 640) a := by
      funext k; match k with
      | ⟨0, _⟩ => exact Fin.ext (by show 512 + 1 * r.val = 512 + r.val; omega)
      | ⟨1, _⟩ => exact Fin.ext (by show 0 + 1 * a.val = a.val; omega)
    refine Eq.trans (congrArg (up2 (x.scrR 8 n (x.carry 8 n))) e0) ?_
    refine congrArg (fun z : ℝ => (z : EReal)) ((Arr.scr_last x n _ r a).trans ?_)
    show _ = if n + 1 = 0 then (0 : ℝ) else _
    rw [if_neg (by omega)]
    rfl

theorem final12 (H : Ops m c x) : (dats m 0 c).arrAt 12 cfg0.N = up2 (x.gv 8) := by
  refine (dats m 0 c).arrAt_eq_of_covers 12 _ (by decide +kernel) fun t _ y => ?_
  have hN : t.val < 8 := lt_of_lt_of_eq t.isLt N_0
  blk_simp
  rw [after0_12, (point m c t).2.1, ins_eq H, pid_eq, Arr.four_dv x t.val tests8 divides hN]
  refine congrArg (fun z : ℝ => (z : EReal)) (congr (congrArg (x.gv 8) (Fin.ext ?_)) (Fin.ext ?_))
  · blk_simp [idx t]; exact (row t _).symm
  · blk_simp [idx t]

theorem final11 (H : Ops m c x) : (dats m 0 c).arrAt 11 cfg0.N = up2 (x.gk 8) := by
  refine (dats m 0 c).arrAt_eq_of_covers 11 _ (by decide +kernel) fun t _ y => ?_
  have hN : t.val < 8 := lt_of_lt_of_eq t.isLt N_0
  blk_simp
  rw [after0_11, (point m c t).1, ins_eq H, pid_eq, Arr.four_dk x t.val tests8 divides hN]
  refine congrArg (fun z : ℝ => (z : EReal)) (congr (congrArg (x.gk 8) (Fin.ext ?_)) (Fin.ext ?_))
  · blk_simp [idx t]; exact (row t _).symm
  · blk_simp [idx t]

theorem final10 (H : Ops m c x) : (dats m 0 c).arrAt 10 cfg0.N = up2 (x.gq 8) := by
  refine (dats m 0 c).arrAt_eq_of_covers 10 _ (by decide +kernel) fun t _ y => ?_
  have hN : t.val < 8 := lt_of_lt_of_eq t.isLt N_0
  blk_simp
  rw [after0_10, (point m c t).2.2.2, ins_eq H, pid_eq, cin_eq H t.val t.isLt]
  refine (congrFun (Arr.scr_dq x t.val (View.whole cc0_scratch0) tests8 divides hN) y).trans ?_
  refine congrArg (fun z : ℝ => (z : EReal)) (congr (congrArg (x.gq 8) (Fin.ext ?_)) (Fin.ext ?_))
  · blk_simp [idx t]; exact (row t _).symm
  · blk_simp [idx t]

/-- The run: its three results and the arguments it keeps. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v155_0) = (dats m 0 c).arrAt 10 cfg0.N
      ∧ r.2.mem ((c : Thread nD τ).loc main_v155_1) = (dats m 0 c).arrAt 11 cfg0.N
      ∧ r.2.mem ((c : Thread nD τ).loc main_v155_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 10, (h c).1 11, (h c).1 12,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.Attn1KernelIdeal.Value
-- ==== Proof.Attn1.lean ====
module

public import proofs.«01_k».proof.Defs
public import proofs.«01_k».proof.Proof.AttnHost
public import proofs.«01_k».proof.Proof.AttnKer1
public import proofs.«01_k».proof.Proof.Gen.Attn1ReferenceIdeal.Run
public import proofs.«01_k».proof.Proof.Gen.Attn1ReferenceIdeal.Read
public import Idealize.ShloMosaic.Lib.Quiescent

/-! The attention's backward call for the group at distance 4: its frames and its value claim. -/

@[expose] public section

set_option maxRecDepth 16384

noncomputable section

namespace Cert.Attn1KernelIdeal.Value

open Idealize.ShloMosaic Idealize.ShloMosaic.TcCoe Idealize.SL.Sem
open Cert.Attn1KernelIdeal Cert.Attn1KernelIdeal.Gen Cert.Lift Cert.Attn
open Cert.Attn0ReferenceIdeal.Read (Inp gQ gK gV)

/-- The rows sorted by residue, and a group's columns. -/
def byres (u : FVec Ideal S4096x256 .f32) : FVec Ideal S4096x256 .f32 :=
  shapeCast S4096x256 (transpose S4x1024x256 [1, 0, 2] (shapeCast S1024x4x256 u shapeCasts_S4096x256_S1024x4x256) transposes_S1024x4x256_S4x1024x256_1_0_2)
    shapeCasts_S4x1024x256_S4096x256
def sel (u : FVec Ideal S4096x768 .f32) : FVec Ideal S4096x256 .f32 := extractStridedSlice S4096x256 ![0, 256] u slices_S4096x768_S4096x256_0_256

theorem byres_eq (u : M 4096 256) : byres (up2 u) = up2 fun R a => u (tok 1 R) a := by
  funext i; idx_vars i; pointwise [byres]
  exact congrArg (fun z => ((z : ℝ) : EReal)) (congr (congrArg u (Fin.ext (by first | rfl | (show i0.val = i0.val % 4096 * 1 + i0.val / 4096; omega)))) rfl)
theorem sel_eq (u : M 4096 768) : sel (up2 u) = up2 fun t a => u t (col 1 a) := by
  funext i; idx_vars i; pointwise [sel]
  exact congrArg (fun z => ((z : ℝ) : EReal)) (congrArg (u i0) (Fin.ext (by show _ = 256 * 1 + i1.val; first | rfl | (show 0 + i1.val = _; omega) | (show i1.val = _; omega))))

variable (m : (ℓ : Loc nD τ sig) → Buf (Elt Ideal) ℓ) (c : Dev nD)

/-- The contents before the region, in three stretches of host operations. -/
abbrev U1 : (b : DevRef τ sig) → b.ty.Contents (Elt Ideal) := StableHlo.after hostOps0_1 (StableHlo.after hostOps0 fun b => m (c, b))

theorem after_two (l l' : List (HloOp τ sig (Elt Ideal))) (U : (b : DevRef τ sig) → b.ty.Contents (Elt Ideal)) :
    StableHlo.after (l ++ l') U = StableHlo.after l' (StableHlo.after l U) := by
  induction l generalizing U with
  | nil => rfl
  | cons o l ih => exact ih _

theorem V_U (b : Ref sig .tc) : V m c b = StableHlo.after hostOps0_2 (U1 m c) (Proc.devRef .tc b) := by
  show StableHlo.after (List.flatten [hostOps0, hostOps0_1, hostOps0_2]) _ _ = _
  rw [List.flatten_cons, List.flatten_cons, List.flatten_cons, List.flatten_nil, List.append_nil, after_two, after_two]

theorem where51 (U : (b : DevRef τ sig) → b.ty.Contents (Elt Ideal)) : StableHlo.after hostOps0_1 U (Proc.devRef .tc main_v51)
    = select (broadcastInDim S3x4x4096x4096 ![0, 1, 2, 3] bcast_S3x1x4096x4096_S3x4x4096x4096_0_1_2_3 (U (Proc.devRef .tc main_v50)) : (⟨S3x4x4096x4096, .i1⟩ : BufTy).Contents (Elt Ideal))
        (U (Proc.devRef .tc main_v49) : (⟨S3x4x4096x4096, .f32⟩ : BufTy).Contents (Elt Ideal))
        (broadcastInDim S3x4x4096x4096 ![] bcast_S_S3x4x4096x4096 (U (Proc.devRef .tc main_cst_11)) : (⟨S3x4x4096x4096, .f32⟩ : BufTy).Contents (Elt Ideal)) := rfl

theorem u49 : StableHlo.after hostOps0 (fun b => m (c, b)) (Proc.devRef .tc main_v49) = Cert.Attn0ReferenceIdeal.Read.val_main_v49 (F := Ideal) (m ((c : Thread nD τ).loc main_arg0)) (m ((c : Thread nD τ).loc main_arg1)) := by
  rfl
theorem u50 : StableHlo.after hostOps0 (fun b => m (c, b)) (Proc.devRef .tc main_v50) = Cert.Attn0ReferenceIdeal.Read.val_main_v50 (F := Ideal) := by
  rfl
theorem u11 : StableHlo.after hostOps0 (fun b => m (c, b)) (Proc.devRef .tc main_cst_11) = Cert.Attn0ReferenceIdeal.Read.val_main_cst_11 (F := Ideal) := by
  rfl
theorem u51 : StableHlo.after hostOps0_1 (StableHlo.after hostOps0 fun b => m (c, b)) (Proc.devRef .tc main_v51) = Cert.Attn0ReferenceIdeal.Read.val_main_v51_0 (F := Ideal) (m ((c : Thread nD τ).loc main_arg0)) (m ((c : Thread nD τ).loc main_arg1)) := by
  rw [where51, u49, u50, u11]; rfl
theorem u46 : StableHlo.after hostOps0_1 (StableHlo.after hostOps0 fun b => m (c, b)) (Proc.devRef .tc main_v46) = Cert.Attn0ReferenceIdeal.Read.val_main_v46 (F := Ideal) (m ((c : Thread nD τ).loc main_arg2)) := by
  rfl
theorem ua0 : StableHlo.after hostOps0_1 (StableHlo.after hostOps0 fun b => m (c, b)) (Proc.devRef .tc main_arg0) = m ((c : Thread nD τ).loc main_arg0) := by rfl
theorem ua1 : StableHlo.after hostOps0_1 (StableHlo.after hostOps0 fun b => m (c, b)) (Proc.devRef .tc main_arg1) = m ((c : Thread nD τ).loc main_arg1) := by rfl
theorem ua2 : StableHlo.after hostOps0_1 (StableHlo.after hostOps0 fun b => m (c, b)) (Proc.devRef .tc main_arg2) = m ((c : Thread nD τ).loc main_arg2) := by rfl
theorem ua3 : StableHlo.after hostOps0_1 (StableHlo.after hostOps0 fun b => m (c, b)) (Proc.devRef .tc main_arg3) = m ((c : Thread nD τ).loc main_arg3) := by rfl

section
variable (U : (b : DevRef τ sig) → b.ty.Contents (Elt Ideal)) (X : Inp)
theorem w151 (h51 : U (Proc.devRef .tc main_v51) = Cert.Attn0ReferenceIdeal.Read.val_main_v51_0 (F := Ideal) (up2 X.q) (up2 X.k))
    (h46 : U (Proc.devRef .tc main_v46) = Cert.Attn0ReferenceIdeal.Read.val_main_v46 (F := Ideal) (up2 X.v)) (h3 : U (Proc.devRef .tc main_arg3) = up2 X.d) :
    StableHlo.after hostOps0_2 U (Proc.devRef .tc main_v151) = byres (hdel (up2 X.q) (up2 X.k) (up2 X.v) (up2 X.d)) := by
  entry_read; rw [h51, h46, h3]; rfl
theorem w154 (h51 : U (Proc.devRef .tc main_v51) = Cert.Attn0ReferenceIdeal.Read.val_main_v51_0 (F := Ideal) (up2 X.q) (up2 X.k)) :
    StableHlo.after hostOps0_2 U (Proc.devRef .tc main_v154) = byres (hlog (up2 X.q) (up2 X.k)) := by
  entry_read; rw [h51]; rfl
theorem w136 (h : U (Proc.devRef .tc main_arg0) = up2 X.q) : StableHlo.after hostOps0_2 U (Proc.devRef .tc main_v136) = byres (sel (up2 X.q)) := by
  entry_read; rw [h]; rfl
theorem w140 (h : U (Proc.devRef .tc main_arg1) = up2 X.k) : StableHlo.after hostOps0_2 U (Proc.devRef .tc main_v140) = byres (sel (up2 X.k)) := by
  entry_read; rw [h]; rfl
theorem w144 (h : U (Proc.devRef .tc main_arg2) = up2 X.v) : StableHlo.after hostOps0_2 U (Proc.devRef .tc main_v144) = byres (sel (up2 X.v)) := by
  entry_read; rw [h]; rfl
theorem w148 (h : U (Proc.devRef .tc main_arg3) = up2 X.d) : StableHlo.after hostOps0_2 U (Proc.devRef .tc main_v148) = byres (up2 X.d) := by
  entry_read; rw [h]; rfl
end

theorem ops (X : Inp) (h0 : m ((c : Thread nD τ).loc main_arg0) = up2 X.q) (h1 : m ((c : Thread nD τ).loc main_arg1) = up2 X.k)
    (h2 : m ((c : Thread nD τ).loc main_arg2) = up2 X.v) (h3 : m ((c : Thread nD τ).loc main_arg3) = up2 X.d) : Ops m c (arr X 1) where
  q := (V_U m c _).trans ((w136 _ X ((ua0 m c).trans h0)).trans ((congrArg byres (sel_eq X.q)).trans (byres_eq _)))
  k := (V_U m c _).trans ((w140 _ X ((ua1 m c).trans h1)).trans ((congrArg byres (sel_eq X.k)).trans (byres_eq _)))
  v := (V_U m c _).trans ((w144 _ X ((ua2 m c).trans h2)).trans ((congrArg byres (sel_eq X.v)).trans (byres_eq _)))
  d := (V_U m c _).trans ((w148 _ X ((ua3 m c).trans h3)).trans (byres_eq _))
  dl := (V_U m c _).trans ((w151 _ X ((u51 m c).trans (by rw [h0, h1])) ((u46 m c).trans (by rw [h2])) ((ua3 m c).trans h3)).trans
    ((congrArg byres (hdel_eq X)).trans (byres_eq _)))
  l := (V_U m c _).trans ((w154 _ X ((u51 m c).trans (by rw [h0, h1]))).trans ((congrArg byres (hlog_eq X)).trans (byres_eq _)))

theorem r213 (X : Inp) : Cert.Attn1ReferenceIdeal.Read.val_main_v213 (F := Ideal) (up2 X.q) (up2 X.k) (up2 X.v) (up2 X.d) = up2 ((arr X 1).gq 8) := by
  have e : Cert.Attn1ReferenceIdeal.Read.val_main_v213 (F := Ideal) (up2 X.q) (up2 X.k) (up2 X.v) (up2 X.d)
      = byres (sel (Cert.Attn0ReferenceIdeal.Read.val_main_v209 (F := Ideal) (up2 X.q) (up2 X.k) (up2 X.v) (up2 X.d))) := rfl
  rw [e, Cert.Attn0ReferenceIdeal.Read.v209 X, sel_eq, byres_eq]
  exact pick (gQ X) 1 _ (gq_eq X 1)
theorem r217 (X : Inp) : Cert.Attn1ReferenceIdeal.Read.val_main_v217 (F := Ideal) (up2 X.q) (up2 X.k) (up2 X.v) (up2 X.d) = up2 ((arr X 1).gk 8) := by
  have e : Cert.Attn1ReferenceIdeal.Read.val_main_v217 (F := Ideal) (up2 X.q) (up2 X.k) (up2 X.v) (up2 X.d)
      = byres (sel (Cert.Attn0ReferenceIdeal.Read.val_main_v207 (F := Ideal) (up2 X.q) (up2 X.k) (up2 X.v) (up2 X.d))) := rfl
  rw [e, Cert.Attn0ReferenceIdeal.Read.v207 X, sel_eq, byres_eq]
  exact pick (gK X) 1 _ (gk_eq X 1)
theorem r221 (X : Inp) : Cert.Attn1ReferenceIdeal.Read.val_main_v221 (F := Ideal) (up2 X.q) (up2 X.k) (up2 X.d) = up2 ((arr X 1).gv 8) := by
  have e : Cert.Attn1ReferenceIdeal.Read.val_main_v221 (F := Ideal) (up2 X.q) (up2 X.k) (up2 X.d)
      = byres (sel (Cert.Attn0ReferenceIdeal.Read.val_main_v205 (F := Ideal) (up2 X.q) (up2 X.k) (up2 X.d))) := rfl
  rw [e, Cert.Attn0ReferenceIdeal.Read.v205 X, sel_eq, byres_eq]
  exact pick (gV X) 1 _ (gv_eq X 1)

end Cert.Attn1KernelIdeal.Value

namespace Cert.Proof.Attn1

open Idealize.ShloMosaic Idealize.ShloMosaic.TcCoe Idealize.SL.Sem
open Cert.Lift Cert.Attn

/-- The reference runs, keeps its arguments, and leaves every semaphore at zero. -/
theorem frameR : Cert.quiescent_Attn1ReferenceIdeal := fun m ρ _ =>
  (θ_run Cert.Attn1ReferenceIdeal.defs _ _).mono (fun r h => ⟨fun c => (h c).2.2.2, sem_eq_zero_of_no_sems (by decide) r.2⟩)
    (Cert.Attn1ReferenceIdeal.Value.run (F := Ideal) m ρ)

/-- The kernel's three gradients are the reference's. -/
theorem algebraic : Cert.algebraic_Attn1KernelIdeal_Attn1ReferenceIdeal_pre_finite_attn := by
  intro m ρ m' ρ' hpre hagree
  refine ⟨_, _, _, Cert.Attn1KernelIdeal.Value.run_blocks m ρ, ?_⟩
  refine (θ_run Cert.Attn1ReferenceIdeal.defs _ _).mono (fun _ h c => ?_) (Cert.Attn1ReferenceIdeal.Value.run (F := Ideal) m' ρ')
  obtain ⟨r0, r1, r2, hk⟩ := h c
  obtain ⟨X, h0, h1, h2, h3⟩ := real _ _ _ _ (hpre c)
  obtain ⟨a0, a1, a2, a3⟩ := hagree c
  have H := Cert.Attn1KernelIdeal.Value.ops m c X h0 h1 h2 h3
  rw [h0] at a0; rw [h1] at a1; rw [h2] at a2; rw [h3] at a3
  have b0 : StableHlo.launchContents m' c (Proc.devRef .tc Cert.Attn1ReferenceIdeal.main_arg0) = up2 X.q := a0
  have b1 : StableHlo.launchContents m' c (Proc.devRef .tc Cert.Attn1ReferenceIdeal.main_arg1) = up2 X.k := a1
  have b2 : StableHlo.launchContents m' c (Proc.devRef .tc Cert.Attn1ReferenceIdeal.main_arg2) = up2 X.v := a2
  have b3 : StableHlo.launchContents m' c (Proc.devRef .tc Cert.Attn1ReferenceIdeal.main_arg3) = up2 X.d := a3
  rw [Cert.Attn1ReferenceIdeal.Read.val_main_v213_eq, b0, b1, b2, b3] at r0
  rw [Cert.Attn1ReferenceIdeal.Read.val_main_v217_eq, b0, b1, b2, b3] at r1
  rw [Cert.Attn1ReferenceIdeal.Read.val_main_v221_eq, b0, b1, b3] at r2
  exact ⟨r0.trans ((Cert.Attn1KernelIdeal.Value.r213 X).trans (Cert.Attn1KernelIdeal.Value.final10 H).symm),
    r1.trans ((Cert.Attn1KernelIdeal.Value.r217 X).trans (Cert.Attn1KernelIdeal.Value.final11 H).symm),
    r2.trans ((Cert.Attn1KernelIdeal.Value.r221 X).trans (Cert.Attn1KernelIdeal.Value.final12 H).symm), hk⟩

end Cert.Proof.Attn1

end
-- ==== Proof.AttnPoint2.lean ====
module

public import proofs.«01_k».proof.Proof.AttnStep
public import proofs.«01_k».proof.Proof.Gen.Attn2KernelIdeal.Frame

/-! What a grid point of the backward call of group 2 leaves, in the words of AttnStep.lean. -/

@[expose] public section

set_option maxRecDepth 16384

noncomputable section

namespace Cert.Attn2KernelIdeal.Value

open Idealize.ShloMosaic Idealize.ShloMosaic.TcCoe Idealize.SL.Sem
open Cert.Attn2KernelIdeal Cert.Attn2KernelIdeal.Gen Cert.Attn

variable (m : (ℓ : Loc nD τ sig) → Buf (Elt Ideal) ℓ) (c : Dev nD)

/-- A point's inputs and its number. -/
def ins (t : Fin cfg0.N) : In := ⟨iblk m c 0 t, iblk m c 1 t, iblk m c 2 t, iblk m c 3 t, iblk m c 4 t, iblk m c 5 t, iblk m c 6 t, iblk m c 7 t, iblk m c 8 t, iblk m c 9 t⟩
abbrev pid (t : Fin cfg0.N) : BitVec 32 := BitVec.ofNat 32 (grid0.coords t 0).val

/-- The query gradients handed on by the point before: the last rows of its scratch, zero at the first point. -/
def cin (t : Fin cfg0.N) : FVec Ideal S128x256 .f32 :=
  if h : 1 ≤ t.val then k0_pay17 (F := Ideal) (View.ld (Val := Elt Ideal) (e' := .f32) (S := S640x256) (outsAt0 m c (t.val - 1) (by have := t.isLt; omega)).2.2.2
    (Rect.unit (s := S640x256) ![512, 0] ![128, 256] inb_S640x256_S128x256_512_0)) else k0_pay16 (F := Ideal)

set_option maxHeartbeats 16000000 in
theorem point (t : Fin cfg0.N) :
    (outsAt0 m c t.val t.isLt).2.1 = four ((ins m c t).op0 (pid t) 1#32).dk ((ins m c t).op1 (pid t) 1#32).dk ((ins m c t).op2 (pid t) 1#32).dk ((ins m c t).op3 (pid t) 1#32).dk
    ∧ (outsAt0 m c t.val t.isLt).2.2.1 = four ((ins m c t).op0 (pid t) 1#32).dv ((ins m c t).op1 (pid t) 1#32).dv ((ins m c t).op2 (pid t) 1#32).dv ((ins m c t).op3 (pid t) 1#32).dv
    ∧ (outsAt0 m c t.val t.isLt).2.2.2 = View.canon (Val := Elt Ideal) (scr (View.whole cc0_scratch0) (ins m c t) (pid t) 1#32 (cin m c t))
    ∧ (outsAt0 m c t.val t.isLt).1 = Cert.Attn0KernelIdeal.Gen.k0_pay2 (F := Ideal) ((View.whole cc0_scratch0).readCov (Val := Elt Ideal) (scr (View.whole cc0_scratch0) (ins m c t) (pid t) 1#32 (cin m c t))
        (Rect.unit (s := S640x256) ![0, 0] ![512, 256] inb_S640x256_S512x256_0_0).toLoadRect) := by
  have hN : t.val < 8 := lt_of_lt_of_eq t.isLt N_0
  by_cases h1 : 1 ≤ t.val
  on_goal 1 => rw [outsAt0_B m c t (by omega) h1, cin, dif_pos h1]
  on_goal 2 => rw [outsAt0_A m c t (by omega) h1, cin, dif_neg h1]
  all_goals refine ⟨?_, ?_, ?_, ?_⟩
  all_goals frame_out
  all_goals first | refine four_congr ?_ ?_ ?_ ?_ | skip
  all_goals simp only [read_unread_whole, k0_pay3, k0_pay4, k0_pay5, k0_pay6, k0_pay7, k0_pay8, k0_pay9, k0_pay10, k0_pay11, k0_pay12, k0_pay13, k0_pay14, k0_pay15, k0_pay20, k0_pay21,
      k0_pay22, k0_pay23, k0_pay24, k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135, k0_pay136,
      k0_pay137, k0_pay138, k0_pay139, k0_pay140, k0_pay141, k0_pay142, k0_pay143, k0_pay144, k0_pay145, k0_pay146, k0_pay147, k0_pay148, k0_pay149,
      Op.dk, Op.dv, Op.dq, Op.s0, Op.s2, Op.p0, Op.p2, In.op0, In.op1, In.op2, In.op3, In.mid, put, down, across, pair, stack, firsts, wts, dsc, cols,
      cols', cat, rowb, rowf, ins, k0_pay1, k0_pay2, k0_pay18, k0_pay19, Cert.Attn0KernelIdeal.Gen.k0_pay2, Cert.Attn0KernelIdeal.Gen.k0_pay3, Cert.Attn0KernelIdeal.Gen.k0_pay8, Cert.Attn0KernelIdeal.Gen.k0_pay9, Cert.Attn0KernelIdeal.Gen.k0_pay10, Cert.Attn0KernelIdeal.Gen.k0_pay15, Cert.Attn0KernelIdeal.Gen.k0_pay18, Cert.Attn0KernelIdeal.Gen.k0_pay19, scr, bump]
  all_goals rfl

end Cert.Attn2KernelIdeal.Value
-- ==== Proof.AttnKer2.lean ====
module

public import proofs.«01_k».proof.Proof.AttnScr
public import proofs.«01_k».proof.Proof.AttnPoint2
public import Idealize.ShloMosaic.Lib.Pipeline.ValueKit

/-! The backward call of group 2 over whole arrays of real numbers, in the kernel's order of rows. -/

@[expose] public section

set_option maxRecDepth 16384

noncomputable section

namespace Cert.Attn2KernelIdeal.Value

open Idealize.ShloMosaic Idealize.ShloMosaic.TcCoe Idealize.SL.Sem
open Cert.Attn2KernelIdeal Cert.Attn2KernelIdeal.Gen Cert.Attn Cert.Lift

variable {m : (ℓ : Loc nD τ sig) → Buf (Elt Ideal) ℓ} {c : Dev nD}

theorem idx : ∀ t : Fin cfg0.N, win0_0.index t = ![t.val, 0] ∧ win0_1.index t = ![t.val, 0] ∧ win0_2.index t = ![t.val, 0]
    ∧ win0_3.index t = ![min (4 * t.val + 4) 31, 0] ∧ win0_4.index t = ![t.val, 0] ∧ win0_5.index t = ![min (4 * t.val + 4) 31, 0]
    ∧ win0_6.index t = ![t.val, 0] ∧ win0_7.index t = ![min (4 * t.val + 4) 31, 0] ∧ win0_8.index t = ![t.val, 0] ∧ win0_9.index t = ![min (4 * t.val + 4) 31, 0]
    ∧ win0_10.index t = ![t.val, 0] ∧ win0_11.index t = ![t.val, 0] ∧ win0_12.index t = ![t.val, 0] := (by decide +kernel : ∀ t : Fin grid0.N, _)

theorem pid_eq (t : Fin cfg0.N) : pid t = BitVec.ofNat 32 t.val := (by decide +kernel : ∀ t : Fin grid0.N, BitVec.ofNat 32 (grid0.coords t 0).val = BitVec.ofNat 32 t.val) t

/-- The region's operands hold these real arrays. -/
structure Ops (m : (ℓ : Loc nD τ sig) → Buf (Elt Ideal) ℓ) (c : Dev nD) (x : Arr) : Prop where
  q : V m c main_v136 = up2 x.q
  k : V m c main_v140 = up2 x.k
  v : V m c main_v144 = up2 x.v
  d : V m c main_v148 = up2 x.d
  dl : V m c main_v151 = up2 x.dl
  l : V m c main_v154 = up2 x.l

variable {x : Arr}

theorem row (t : Fin cfg0.N) (s : Fin 512) : t.val * 512 + s.val = (at_ (512 * t.val + s.val)).val := by
  have hN : t.val < 8 := lt_of_lt_of_eq t.isLt N_0
  have := s.isLt
  show _ = (512 * t.val + s.val) % 4096; omega

theorem row' (t : Fin cfg0.N) (s : Fin 128) : min (4 * t.val + 4) 31 * 128 + s.val = (at_ (128 * min (4 * t.val + 4) 31 + s.val)).val := by
  have hN : t.val < 8 := lt_of_lt_of_eq t.isLt N_0
  have := s.isLt
  show _ = (128 * min (4 * t.val + 4) 31 + s.val) % 4096; omega

theorem rd0 (D : M 4096 256) (A : Buf (Elt Ideal) ((c : Thread nD τ).loc (Pipeline.arrRef spec0 0))) (hA : A = (up2 D : (⟨2, ![4096, 256]⟩ : Shape).Idx → EReal)) (t : Fin cfg0.N) :
    ((cfg0.win 0).blk t).view.read (Elt Ideal) A = up2 (cur D t.val) := by
  funext i
  refine (congrFun hA (((cfg0.win 0).blk t).view.emb i)).trans (congrArg _ (congr (congrArg D (Fin.ext ?_)) (Fin.ext ?_)))
  · blk_simp [idx t]; exact row t _
  · blk_simp [idx t]
theorem blk0 (H : Ops m c x) (t : Fin cfg0.N) : iblk m c 0 t = up2 (cur x.k t.val) := rd0 x.k (V m c (Pipeline.arrRef spec0 0)) H.k t

theorem rd1 (D : M 4096 256) (A : Buf (Elt Ideal) ((c : Thread nD τ).loc (Pipeline.arrRef spec0 1))) (hA : A = (up2 D : (⟨2, ![4096, 256]⟩ : Shape).Idx → EReal)) (t : Fin cfg0.N) :
    ((cfg0.win 1).blk t).view.read (Elt Ideal) A = up2 (cur D t.val) := by
  funext i
  refine (congrFun hA (((cfg0.win 1).blk t).view.emb i)).trans (congrArg _ (congr (congrArg D (Fin.ext ?_)) (Fin.ext ?_)))
  · blk_simp [idx t]; exact row t _
  · blk_simp [idx t]
theorem blk1 (H : Ops m c x) (t : Fin cfg0.N) : iblk m c 1 t = up2 (cur x.v t.val) := rd1 x.v (V m c (Pipeline.arrRef spec0 1)) H.v t

theorem rd2 (D : M 4096 256) (A : Buf (Elt Ideal) ((c : Thread nD τ).loc (Pipeline.arrRef spec0 2))) (hA : A = (up2 D : (⟨2, ![4096, 256]⟩ : Shape).Idx → EReal)) (t : Fin cfg0.N) :
    ((cfg0.win 2).blk t).view.read (Elt Ideal) A = up2 (cur D t.val) := by
  funext i
  refine (congrFun hA (((cfg0.win 2).blk t).view.emb i)).trans (congrArg _ (congr (congrArg D (Fin.ext ?_)) (Fin.ext ?_)))
  · blk_simp [idx t]; exact row t _
  · blk_simp [idx t]
theorem blk2 (H : Ops m c x) (t : Fin cfg0.N) : iblk m c 2 t = up2 (cur x.q t.val) := rd2 x.q (V m c (Pipeline.arrRef spec0 2)) H.q t

theorem rd3 (D : M 4096 256) (A : Buf (Elt Ideal) ((c : Thread nD τ).loc (Pipeline.arrRef spec0 3))) (hA : A = (up2 D : (⟨2, ![4096, 256]⟩ : Shape).Idx → EReal)) (t : Fin cfg0.N) :
    ((cfg0.win 3).blk t).view.read (Elt Ideal) A = up2 (nxt D t.val) := by
  funext i
  refine (congrFun hA (((cfg0.win 3).blk t).view.emb i)).trans (congrArg _ (congr (congrArg D (Fin.ext ?_)) (Fin.ext ?_)))
  · blk_simp [idx t]; exact row' t _
  · blk_simp [idx t]
theorem blk3 (H : Ops m c x) (t : Fin cfg0.N) : iblk m c 3 t = up2 (nxt x.q t.val) := rd3 x.q (V m c (Pipeline.arrRef spec0 3)) H.q t

theorem rd4 (D : M 4096 256) (A : Buf (Elt Ideal) ((c : Thread nD τ).loc (Pipeline.arrRef spec0 4))) (hA : A = (up2 D : (⟨2, ![4096, 256]⟩ : Shape).Idx → EReal)) (t : Fin cfg0.N) :
    ((cfg0.win 4).blk t).view.read (Elt Ideal) A = up2 (cur D t.val) := by
  funext i
  refine (congrFun hA (((cfg0.win 4).blk t).view.emb i)).trans (congrArg _ (congr (congrArg D (Fin.ext ?_)) (Fin.ext ?_)))
  · blk_simp [idx t]; exact row t _
  · blk_simp [idx t]
theorem blk4 (H : Ops m c x) (t : Fin cfg0.N) : iblk m c 4 t = up2 (cur x.d t.val) := rd4 x.d (V m c (Pipeline.arrRef spec0 4)) H.d t

theorem rd5 (D : M 4096 256) (A : Buf (Elt Ideal) ((c : Thread nD τ).loc (Pipeline.arrRef spec0 5))) (hA : A = (up2 D : (⟨2, ![4096, 256]⟩ : Shape).Idx → EReal)) (t : Fin cfg0.N) :
    ((cfg0.win 5).blk t).view.read (Elt Ideal) A = up2 (nxt D t.val) := by
  funext i
  refine (congrFun hA (((cfg0.win 5).blk t).view.emb i)).trans (congrArg _ (congr (congrArg D (Fin.ext ?_)) (Fin.ext ?_)))
  · blk_simp [idx t]; exact row' t _
  · blk_simp [idx t]
theorem blk5 (H : Ops m c x) (t : Fin cfg0.N) : iblk m c 5 t = up2 (nxt x.d t.val) := rd5 x.d (V m c (Pipeline.arrRef spec0 5)) H.d t

theorem rd6 (D : M 4096 256) (A : Buf (Elt Ideal) ((c : Thread nD τ).loc (Pipeline.arrRef spec0 6))) (hA : A = (up2 D : (⟨2, ![4096, 256]⟩ : Shape).Idx → EReal)) (t : Fin cfg0.N) :
    ((cfg0.win 6).blk t).view.read (Elt Ideal) A = up2 (cur D t.val) := by
  funext i
  refine (congrFun hA (((cfg0.win 6).blk t).view.emb i)).trans (congrArg _ (congr (congrArg D (Fin.ext ?_)) (Fin.ext ?_)))
  · blk_simp [idx t]; exact row t _
  · blk_simp [idx t]
theorem blk6 (H : Ops m c x) (t : Fin cfg0.N) : iblk m c 6 t = up2 (cur x.dl t.val) := rd6 x.dl (V m c (Pipeline.arrRef spec0 6)) H.dl t

theorem rd7 (D : M 4096 256) (A : Buf (Elt Ideal) ((c : Thread nD τ).loc (Pipeline.arrRef spec0 7))) (hA : A = (up2 D : (⟨2, ![4096, 256]⟩ : Shape).Idx → EReal)) (t : Fin cfg0.N) :
    ((cfg0.win 7).blk t).view.read (Elt Ideal) A = up2 (nxt D t.val) := by
  funext i
  refine (congrFun hA (((cfg0.win 7).blk t).view.emb i)).trans (congrArg _ (congr (congrArg D (Fin.ext ?_)) (Fin.ext ?_)))
  · blk_simp [idx t]; exact row' t _
  · blk_simp [idx t]
theorem blk7 (H : Ops m c x) (t : Fin cfg0.N) : iblk m c 7 t = up2 (nxt x.dl t.val) := rd7 x.dl (V m c (Pipeline.arrRef spec0 7)) H.dl t

theorem rd8 (D : M 4096 256) (A : Buf (Elt Ideal) ((c : Thread nD τ).loc (Pipeline.arrRef spec0 8))) (hA : A = (up2 D : (⟨2, ![4096, 256]⟩ : Shape).Idx → EReal)) (t : Fin cfg0.N) :
    ((cfg0.win 8).blk t).view.read (Elt Ideal) A = up2 (cur D t.val) := by
  funext i
  refine (congrFun hA (((cfg0.win 8).blk t).view.emb i)).trans (congrArg _ (congr (congrArg D (Fin.ext ?_)) (Fin.ext ?_)))
  · blk_simp [idx t]; exact row t _
  · blk_simp [idx t]
theorem blk8 (H : Ops m c x) (t : Fin cfg0.N) : iblk m c 8 t = up2 (cur x.l t.val) := rd8 x.l (V m c (Pipeline.arrRef spec0 8)) H.l t

theorem rd9 (D : M 4096 256) (A : Buf (Elt Ideal) ((c : Thread nD τ).loc (Pipeline.arrRef spec0 9))) (hA : A = (up2 D : (⟨2, ![4096, 256]⟩ : Shape).Idx → EReal)) (t : Fin cfg0.N) :
    ((cfg0.win 9).blk t).view.read (Elt Ideal) A = up2 (nxt D t.val) := by
  funext i
  refine (congrFun hA (((cfg0.win 9).blk t).view.emb i)).trans (congrArg _ (congr (congrArg D (Fin.ext ?_)) (Fin.ext ?_)))
  · blk_simp [idx t]; exact row' t _
  · blk_simp [idx t]
theorem blk9 (H : Ops m c x) (t : Fin cfg0.N) : iblk m c 9 t = up2 (nxt x.l t.val) := rd9 x.l (V m c (Pipeline.arrRef spec0 9)) H.l t

theorem ins_eq (H : Ops m c x) (t : Fin cfg0.N) : ins m c t = x.inp t.val := by
  unfold ins
  rw [blk0 H, blk1 H, blk2 H, blk3 H, blk4 H, blk5 H, blk6 H, blk7 H, blk8 H, blk9 H]
  rfl

theorem divides : 2 ∣ 32 := by decide

theorem pay17 (y : FVec Ideal S128x256 .f32) : k0_pay17 (F := Ideal) y = y := by
  funext i; idx_vars i; pointwise [k0_pay17]

/-- The query gradients each point is handed. -/
theorem cin_eq (H : Ops m c x) : ∀ (n : ℕ) (hn : n < cfg0.N), cin m c ⟨n, hn⟩ = up2 (x.carry 2 n)
  | 0, hn => by
    rw [cin, dif_neg (by simp)]
    funext i; idx_vars i; pointwise [k0_pay16]; rfl
  | n + 1, hn => by
    have hN : n + 1 < 8 := lt_of_lt_of_eq hn N_0
    rw [cin, dif_pos (by show 1 ≤ n + 1; omega)]
    have e := (point m c ⟨n, by omega⟩).2.2.1
    rw [ins_eq H, pid_eq, cin_eq H n (by omega), Arr.scr_eq x tests2 n (by omega)] at e
    show k0_pay17 (F := Ideal) (View.ld (Val := Elt Ideal) (outsAt0 m c n (by omega)).2.2.2 (Rect.unit (s := S640x256) ![512, 0] ![128, 256] inb_S640x256_S128x256_512_0)) = _
    rw [show (outsAt0 m c n (by omega)).2.2.2 = _ from e, pay17]
    funext i
    obtain ⟨r, a, rfl⟩ : ∃ (r : Fin 128) (a : Fin 256), i = ix2 r a := ⟨i 0, i 1, by funext k; match k with | ⟨0, _⟩ => rfl | ⟨1, _⟩ => rfl⟩
    have e0 : (Rect.unit (s := S640x256) ![512, 0] ![128, 256] inb_S640x256_S128x256_512_0).emb (ix2 r a) = ix2 (⟨512 + r.val, by omega⟩ : Fin 640) a := by
      funext k; match k with
      | ⟨0, _⟩ => exact Fin.ext (by show 512 + 1 * r.val = 512 + r.val; omega)
      | ⟨1, _⟩ => exact Fin.ext (by show 0 + 1 * a.val = a.val; omega)
    refine Eq.trans (congrArg (up2 (x.scrR 2 n (x.carry 2 n))) e0) ?_
    refine congrArg (fun z : ℝ => (z : EReal)) ((Arr.scr_last x n _ r a).trans ?_)
    show _ = if n + 1 = 0 then (0 : ℝ) else _
    rw [if_neg (by omega)]
    rfl

theorem final12 (H : Ops m c x) : (dats m 0 c).arrAt 12 cfg0.N = up2 (x.gv 2) := by
  refine (dats m 0 c).arrAt_eq_of_covers 12 _ (by decide +kernel) fun t _ y => ?_
  have hN : t.val < 8 := lt_of_lt_of_eq t.isLt N_0
  blk_simp
  rw [after0_12, (point m c t).2.1, ins_eq H, pid_eq, Arr.four_dv x t.val tests2 divides hN]
  refine congrArg (fun z : ℝ => (z : EReal)) (congr (congrArg (x.gv 2) (Fin.ext ?_)) (Fin.ext ?_))
  · blk_simp [idx t]; exact (row t _).symm
  · blk_simp [idx t]

theorem final11 (H : Ops m c x) : (dats m 0 c).arrAt 11 cfg0.N = up2 (x.gk 2) := by
  refine (dats m 0 c).arrAt_eq_of_covers 11 _ (by decide +kernel) fun t _ y => ?_
  have hN : t.val < 8 := lt_of_lt_of_eq t.isLt N_0
  blk_simp
  rw [after0_11, (point m c t).1, ins_eq H, pid_eq, Arr.four_dk x t.val tests2 divides hN]
  refine congrArg (fun z : ℝ => (z : EReal)) (congr (congrArg (x.gk 2) (Fin.ext ?_)) (Fin.ext ?_))
  · blk_simp [idx t]; exact (row t _).symm
  · blk_simp [idx t]

theorem final10 (H : Ops m c x) : (dats m 0 c).arrAt 10 cfg0.N = up2 (x.gq 2) := by
  refine (dats m 0 c).arrAt_eq_of_covers 10 _ (by decide +kernel) fun t _ y => ?_
  have hN : t.val < 8 := lt_of_lt_of_eq t.isLt N_0
  blk_simp
  rw [after0_10, (point m c t).2.2.2, ins_eq H, pid_eq, cin_eq H t.val t.isLt]
  refine (congrFun (Arr.scr_dq x t.val (View.whole cc0_scratch0) tests2 divides hN) y).trans ?_
  refine congrArg (fun z : ℝ => (z : EReal)) (congr (congrArg (x.gq 2) (Fin.ext ?_)) (Fin.ext ?_))
  · blk_simp [idx t]; exact (row t _).symm
  · blk_simp [idx t]

/-- The run: its three results and the arguments it keeps. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v155_0) = (dats m 0 c).arrAt 10 cfg0.N
      ∧ r.2.mem ((c : Thread nD τ).loc main_v155_1) = (dats m 0 c).arrAt 11 cfg0.N
      ∧ r.2.mem ((c : Thread nD τ).loc main_v155_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 10, (h c).1 11, (h c).1 12,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.Attn2KernelIdeal.Value
-- ==== Proof.Attn2.lean ====
module

public import proofs.«01_k».proof.Defs
public import proofs.«01_k».proof.Proof.AttnHost
public import proofs.«01_k».proof.Proof.AttnKer2
public import proofs.«01_k».proof.Proof.Gen.Attn2ReferenceIdeal.Run
public import proofs.«01_k».proof.Proof.Gen.Attn2ReferenceIdeal.Read
public import Idealize.ShloMosaic.Lib.Quiescent

/-! The attention's backward call for the group at distance 16: its frames and its value claim. -/

@[expose] public section

set_option maxRecDepth 16384

noncomputable section

namespace Cert.Attn2KernelIdeal.Value

open Idealize.ShloMosaic Idealize.ShloMosaic.TcCoe Idealize.SL.Sem
open Cert.Attn2KernelIdeal Cert.Attn2KernelIdeal.Gen Cert.Lift Cert.Attn
open Cert.Attn0ReferenceIdeal.Read (Inp gQ gK gV)

/-- The rows sorted by residue, and a group's columns. -/
def byres (u : FVec Ideal S4096x256 .f32) : FVec Ideal S4096x256 .f32 :=
  shapeCast S4096x256 (transpose S16x256x256 [1, 0, 2] (shapeCast S256x16x256 u shapeCasts_S4096x256_S256x16x256) transposes_S256x16x256_S16x256x256_1_0_2)
    shapeCasts_S16x256x256_S4096x256
def sel (u : FVec Ideal S4096x768 .f32) : FVec Ideal S4096x256 .f32 := extractStridedSlice S4096x256 ![0, 512] u slices_S4096x768_S4096x256_0_512

theorem byres_eq (u : M 4096 256) : byres (up2 u) = up2 fun R a => u (tok 2 R) a := by
  funext i; idx_vars i; pointwise [byres]
  exact congrArg (fun z => ((z : ℝ) : EReal)) (congr (congrArg u (Fin.ext (by first | rfl | (show i0.val = i0.val % 4096 * 1 + i0.val / 4096; omega)))) rfl)
theorem sel_eq (u : M 4096 768) : sel (up2 u) = up2 fun t a => u t (col 2 a) := by
  funext i; idx_vars i; pointwise [sel]
  exact congrArg (fun z => ((z : ℝ) : EReal)) (congrArg (u i0) (Fin.ext (by show _ = 256 * 2 + i1.val; first | rfl | (show 0 + i1.val = _; omega) | (show i1.val = _; omega))))

variable (m : (ℓ : Loc nD τ sig) → Buf (Elt Ideal) ℓ) (c : Dev nD)

/-- The contents before the region, in three stretches of host operations. -/
abbrev U1 : (b : DevRef τ sig) → b.ty.Contents (Elt Ideal) := StableHlo.after hostOps0_1 (StableHlo.after hostOps0 fun b => m (c, b))

theorem after_two (l l' : List (HloOp τ sig (Elt Ideal))) (U : (b : DevRef τ sig) → b.ty.Contents (Elt Ideal)) :
    StableHlo.after (l ++ l') U = StableHlo.after l' (StableHlo.after l U) := by
  induction l generalizing U with
  | nil => rfl
  | cons o l ih => exact ih _

theorem V_U (b : Ref sig .tc) : V m c b = StableHlo.after hostOps0_2 (U1 m c) (Proc.devRef .tc b) := by
  show StableHlo.after (List.flatten [hostOps0, hostOps0_1, hostOps0_2]) _ _ = _
  rw [List.flatten_cons, List.flatten_cons, List.flatten_cons, List.flatten_nil, List.append_nil, after_two, after_two]

theorem where51 (U : (b : DevRef τ sig) → b.ty.Contents (Elt Ideal)) : StableHlo.after hostOps0_1 U (Proc.devRef .tc main_v51)
    = select (broadcastInDim S3x4x4096x4096 ![0, 1, 2, 3] bcast_S3x1x4096x4096_S3x4x4096x4096_0_1_2_3 (U (Proc.devRef .tc main_v50)) : (⟨S3x4x4096x4096, .i1⟩ : BufTy).Contents (Elt Ideal))
        (U (Proc.devRef .tc main_v49) : (⟨S3x4x4096x4096, .f32⟩ : BufTy).Contents (Elt Ideal))
        (broadcastInDim S3x4x4096x4096 ![] bcast_S_S3x4x4096x4096 (U (Proc.devRef .tc main_cst_11)) : (⟨S3x4x4096x4096, .f32⟩ : BufTy).Contents (Elt Ideal)) := rfl

theorem u49 : StableHlo.after hostOps0 (fun b => m (c, b)) (Proc.devRef .tc main_v49) = Cert.Attn0ReferenceIdeal.Read.val_main_v49 (F := Ideal) (m ((c : Thread nD τ).loc main_arg0)) (m ((c : Thread nD τ).loc main_arg1)) := by
  rfl
theorem u50 : StableHlo.after hostOps0 (fun b => m (c, b)) (Proc.devRef .tc main_v50) = Cert.Attn0ReferenceIdeal.Read.val_main_v50 (F := Ideal) := by
  rfl
theorem u11 : StableHlo.after hostOps0 (fun b => m (c, b)) (Proc.devRef .tc main_cst_11) = Cert.Attn0ReferenceIdeal.Read.val_main_cst_11 (F := Ideal) := by
  rfl
theorem u51 : StableHlo.after hostOps0_1 (StableHlo.after hostOps0 fun b => m (c, b)) (Proc.devRef .tc main_v51) = Cert.Attn0ReferenceIdeal.Read.val_main_v51_0 (F := Ideal) (m ((c : Thread nD τ).loc main_arg0)) (m ((c : Thread nD τ).loc main_arg1)) := by
  rw [where51, u49, u50, u11]; rfl
theorem u46 : StableHlo.after hostOps0_1 (StableHlo.after hostOps0 fun b => m (c, b)) (Proc.devRef .tc main_v46) = Cert.Attn0ReferenceIdeal.Read.val_main_v46 (F := Ideal) (m ((c : Thread nD τ).loc main_arg2)) := by
  rfl
theorem ua0 : StableHlo.after hostOps0_1 (StableHlo.after hostOps0 fun b => m (c, b)) (Proc.devRef .tc main_arg0) = m ((c : Thread nD τ).loc main_arg0) := by rfl
theorem ua1 : StableHlo.after hostOps0_1 (StableHlo.after hostOps0 fun b => m (c, b)) (Proc.devRef .tc main_arg1) = m ((c : Thread nD τ).loc main_arg1) := by rfl
theorem ua2 : StableHlo.after hostOps0_1 (StableHlo.after hostOps0 fun b => m (c, b)) (Proc.devRef .tc main_arg2) = m ((c : Thread nD τ).loc main_arg2) := by rfl
theorem ua3 : StableHlo.after hostOps0_1 (StableHlo.after hostOps0 fun b => m (c, b)) (Proc.devRef .tc main_arg3) = m ((c : Thread nD τ).loc main_arg3) := by rfl

section
variable (U : (b : DevRef τ sig) → b.ty.Contents (Elt Ideal)) (X : Inp)
theorem w151 (h51 : U (Proc.devRef .tc main_v51) = Cert.Attn0ReferenceIdeal.Read.val_main_v51_0 (F := Ideal) (up2 X.q) (up2 X.k))
    (h46 : U (Proc.devRef .tc main_v46) = Cert.Attn0ReferenceIdeal.Read.val_main_v46 (F := Ideal) (up2 X.v)) (h3 : U (Proc.devRef .tc main_arg3) = up2 X.d) :
    StableHlo.after hostOps0_2 U (Proc.devRef .tc main_v151) = byres (hdel (up2 X.q) (up2 X.k) (up2 X.v) (up2 X.d)) := by
  entry_read; rw [h51, h46, h3]; rfl
theorem w154 (h51 : U (Proc.devRef .tc main_v51) = Cert.Attn0ReferenceIdeal.Read.val_main_v51_0 (F := Ideal) (up2 X.q) (up2 X.k)) :
    StableHlo.after hostOps0_2 U (Proc.devRef .tc main_v154) = byres (hlog (up2 X.q) (up2 X.k)) := by
  entry_read; rw [h51]; rfl
theorem w136 (h : U (Proc.devRef .tc main_arg0) = up2 X.q) : StableHlo.after hostOps0_2 U (Proc.devRef .tc main_v136) = byres (sel (up2 X.q)) := by
  entry_read; rw [h]; rfl
theorem w140 (h : U (Proc.devRef .tc main_arg1) = up2 X.k) : StableHlo.after hostOps0_2 U (Proc.devRef .tc main_v140) = byres (sel (up2 X.k)) := by
  entry_read; rw [h]; rfl
theorem w144 (h : U (Proc.devRef .tc main_arg2) = up2 X.v) : StableHlo.after hostOps0_2 U (Proc.devRef .tc main_v144) = byres (sel (up2 X.v)) := by
  entry_read; rw [h]; rfl
theorem w148 (h : U (Proc.devRef .tc main_arg3) = up2 X.d) : StableHlo.after hostOps0_2 U (Proc.devRef .tc main_v148) = byres (up2 X.d) := by
  entry_read; rw [h]; rfl
end

theorem ops (X : Inp) (h0 : m ((c : Thread nD τ).loc main_arg0) = up2 X.q) (h1 : m ((c : Thread nD τ).loc main_arg1) = up2 X.k)
    (h2 : m ((c : Thread nD τ).loc main_arg2) = up2 X.v) (h3 : m ((c : Thread nD τ).loc main_arg3) = up2 X.d) : Ops m c (arr X 2) where
  q := (V_U m c _).trans ((w136 _ X ((ua0 m c).trans h0)).trans ((congrArg byres (sel_eq X.q)).trans (byres_eq _)))
  k := (V_U m c _).trans ((w140 _ X ((ua1 m c).trans h1)).trans ((congrArg byres (sel_eq X.k)).trans (byres_eq _)))
  v := (V_U m c _).trans ((w144 _ X ((ua2 m c).trans h2)).trans ((congrArg byres (sel_eq X.v)).trans (byres_eq _)))
  d := (V_U m c _).trans ((w148 _ X ((ua3 m c).trans h3)).trans (byres_eq _))
  dl := (V_U m c _).trans ((w151 _ X ((u51 m c).trans (by rw [h0, h1])) ((u46 m c).trans (by rw [h2])) ((ua3 m c).trans h3)).trans
    ((congrArg byres (hdel_eq X)).trans (byres_eq _)))
  l := (V_U m c _).trans ((w154 _ X ((u51 m c).trans (by rw [h0, h1]))).trans ((congrArg byres (hlog_eq X)).trans (byres_eq _)))

theorem r213 (X : Inp) : Cert.Attn2ReferenceIdeal.Read.val_main_v213 (F := Ideal) (up2 X.q) (up2 X.k) (up2 X.v) (up2 X.d) = up2 ((arr X 2).gq 2) := by
  have e : Cert.Attn2ReferenceIdeal.Read.val_main_v213 (F := Ideal) (up2 X.q) (up2 X.k) (up2 X.v) (up2 X.d)
      = byres (sel (Cert.Attn0ReferenceIdeal.Read.val_main_v209 (F := Ideal) (up2 X.q) (up2 X.k) (up2 X.v) (up2 X.d))) := rfl
  rw [e, Cert.Attn0ReferenceIdeal.Read.v209 X, sel_eq, byres_eq]
  exact pick (gQ X) 2 _ (gq_eq X 2)
theorem r217 (X : Inp) : Cert.Attn2ReferenceIdeal.Read.val_main_v217 (F := Ideal) (up2 X.q) (up2 X.k) (up2 X.v) (up2 X.d) = up2 ((arr X 2).gk 2) := by
  have e : Cert.Attn2ReferenceIdeal.Read.val_main_v217 (F := Ideal) (up2 X.q) (up2 X.k) (up2 X.v) (up2 X.d)
      = byres (sel (Cert.Attn0ReferenceIdeal.Read.val_main_v207 (F := Ideal) (up2 X.q) (up2 X.k) (up2 X.v) (up2 X.d))) := rfl
  rw [e, Cert.Attn0ReferenceIdeal.Read.v207 X, sel_eq, byres_eq]
  exact pick (gK X) 2 _ (gk_eq X 2)
theorem r221 (X : Inp) : Cert.Attn2ReferenceIdeal.Read.val_main_v221 (F := Ideal) (up2 X.q) (up2 X.k) (up2 X.d) = up2 ((arr X 2).gv 2) := by
  have e : Cert.Attn2ReferenceIdeal.Read.val_main_v221 (F := Ideal) (up2 X.q) (up2 X.k) (up2 X.d)
      = byres (sel (Cert.Attn0ReferenceIdeal.Read.val_main_v205 (F := Ideal) (up2 X.q) (up2 X.k) (up2 X.d))) := rfl
  rw [e, Cert.Attn0ReferenceIdeal.Read.v205 X, sel_eq, byres_eq]
  exact pick (gV X) 2 _ (gv_eq X 2)

end Cert.Attn2KernelIdeal.Value

namespace Cert.Proof.Attn2

open Idealize.ShloMosaic Idealize.ShloMosaic.TcCoe Idealize.SL.Sem
open Cert.Lift Cert.Attn

/-- The reference runs, keeps its arguments, and leaves every semaphore at zero. -/
theorem frameR : Cert.quiescent_Attn2ReferenceIdeal := fun m ρ _ =>
  (θ_run Cert.Attn2ReferenceIdeal.defs _ _).mono (fun r h => ⟨fun c => (h c).2.2.2, sem_eq_zero_of_no_sems (by decide) r.2⟩)
    (Cert.Attn2ReferenceIdeal.Value.run (F := Ideal) m ρ)

/-- The kernel's three gradients are the reference's. -/
theorem algebraic : Cert.algebraic_Attn2KernelIdeal_Attn2ReferenceIdeal_pre_finite_attn := by
  intro m ρ m' ρ' hpre hagree
  refine ⟨_, _, _, Cert.Attn2KernelIdeal.Value.run_blocks m ρ, ?_⟩
  refine (θ_run Cert.Attn2ReferenceIdeal.defs _ _).mono (fun _ h c => ?_) (Cert.Attn2ReferenceIdeal.Value.run (F := Ideal) m' ρ')
  obtain ⟨r0, r1, r2, hk⟩ := h c
  obtain ⟨X, h0, h1, h2, h3⟩ := real _ _ _ _ (hpre c)
  obtain ⟨a0, a1, a2, a3⟩ := hagree c
  have H := Cert.Attn2KernelIdeal.Value.ops m c X h0 h1 h2 h3
  rw [h0] at a0; rw [h1] at a1; rw [h2] at a2; rw [h3] at a3
  have b0 : StableHlo.launchContents m' c (Proc.devRef .tc Cert.Attn2ReferenceIdeal.main_arg0) = up2 X.q := a0
  have b1 : StableHlo.launchContents m' c (Proc.devRef .tc Cert.Attn2ReferenceIdeal.main_arg1) = up2 X.k := a1
  have b2 : StableHlo.launchContents m' c (Proc.devRef .tc Cert.Attn2ReferenceIdeal.main_arg2) = up2 X.v := a2
  have b3 : StableHlo.launchContents m' c (Proc.devRef .tc Cert.Attn2ReferenceIdeal.main_arg3) = up2 X.d := a3
  rw [Cert.Attn2ReferenceIdeal.Read.val_main_v213_eq, b0, b1, b2, b3] at r0
  rw [Cert.Attn2ReferenceIdeal.Read.val_main_v217_eq, b0, b1, b2, b3] at r1
  rw [Cert.Attn2ReferenceIdeal.Read.val_main_v221_eq, b0, b1, b3] at r2
  exact ⟨r0.trans ((Cert.Attn2KernelIdeal.Value.r213 X).trans (Cert.Attn2KernelIdeal.Value.final10 H).symm),
    r1.trans ((Cert.Attn2KernelIdeal.Value.r217 X).trans (Cert.Attn2KernelIdeal.Value.final11 H).symm),
    r2.trans ((Cert.Attn2KernelIdeal.Value.r221 X).trans (Cert.Attn2KernelIdeal.Value.final12 H).symm), hk⟩

end Cert.Proof.Attn2

end
-- ==== Proof.Norm.lean ====
module

public import proofs.«01_k».proof.Proof.Lift

/-! Real numbers of a norm's gradient. -/

@[expose] public section

noncomputable section

namespace Cert.Norm

open Idealize.ShloMosaic Cert.Lift

/-- A matrix of real numbers. -/
abbrev M (n m : ℕ) := Fin n → Fin m → ℝ

/-- The rows of `u` times `w`. -/
def dh {n m k : ℕ} (u : M n m) (w : M m k) (r : Fin n) (a : Fin k) : ℝ := ∑ j, u r j * w j a

/-- The root-mean-square step's gradient as the chain rule spells it. -/
theorem chain (f y : Fin 1024 → ℝ) (a : Fin 1024) :
    f a * rs y + y a * ((∑ b, y b * f b) * (-(1 / 2) * rs y ^ 3) / 1024) + (∑ b, y b * f b) * (-(1 / 2) * rs y ^ 3) / 1024 * y a = rmsb f y a := by
  have h : ∑ b, y b * f b = ∑ b, f b * y b := Finset.sum_congr rfl fun b _ => mul_comm _ _
  rw [rmsb, h]; ring

theorem cube (x : Fin 1024 → ℝ) :
    Ideal.ofBits .f32 0xBF000000#32 * Ideal.div ((rs x : ℝ) : EReal) (((rs x ^ 2)⁻¹ : ℝ) : EReal) = ((-(1 / 2) * rs x ^ 3 : ℝ) : EReal) := by
  have h := rs_pos x
  rw [ofBits_neg_half, div _ _ (inv_ne_zero (pow_ne_zero 2 h.ne')), mul]
  congr 1; field_simp

end Cert.Norm

end
-- ==== Proof.FfnMath.lean ====
module

public import proofs.«01_k».proof.Proof.Norm

/-! The gated feed-forward branch and its gradient over the real numbers. -/

@[expose] public section

noncomputable section

namespace Cert.Ffn

open Idealize.ShloMosaic Cert.Lift Cert.Norm

/-- `f` moved `n` rows down, zeros entering at the top. -/
def back (n : ℕ) (f : Fin 4096 → ℝ) (r : Fin 4096) : ℝ := if h : n ≤ r.val then f ⟨r.val - n, by omega⟩ else 0

/-- `f` moved `n` rows up, zeros entering at the bottom. -/
def fwd (n : ℕ) (f : Fin 4096 → ℝ) (r : Fin 4096) : ℝ := if h : r.val + n < 4096 then f ⟨r.val + n, h⟩ else 0

theorem fwd_lt (n : ℕ) (f : Fin 4096 → ℝ) (r s : Fin 4096) (h : s.val = r.val + n) : fwd n f r = f s :=
  (dif_pos (h ▸ s.isLt)).trans (congrArg f (Fin.ext h.symm))

theorem fwd_ge (n : ℕ) (f : Fin 4096 → ℝ) (r : Fin 4096) (h : ¬ r.val + n < 4096) : fwd n f r = 0 := dif_neg h

/-- Three padded rows one on top of the other. -/
theorem three (a b c : EReal) (n : Fin 3) (f : Fin 3 → EReal) (h2 : a = f 2) (h1 : b = f 1) (h0 : c = f 0) :
    ((if h : 2 ≤ n.val ∧ n.val - 2 < 1 then a else 0) + if h : 1 ≤ n.val ∧ n.val - 1 < 1 then b else 0) + (if h : n.val < 1 then c else 0) = f n := by
  subst h0 h1 h2; fin_cases n <;> simp

theorem back_eq (n : ℕ) (f : Fin 4096 → ℝ) (r : Fin 4096) : back n f r = ∑ s : Fin 4096, if s.val + n = r.val then f s else 0 := by
  unfold back
  split
  · rename_i h
    rw [Finset.sum_eq_single ⟨r.val - n, by omega⟩ (fun s _ hs => if_neg fun e => hs (Fin.ext (by show s.val = r.val - n; omega))) (fun h => absurd (Finset.mem_univ _) h)]
    exact (if_pos (by show r.val - n + n = r.val; omega)).symm
  · exact (Finset.sum_eq_zero fun s _ => if_neg (by omega)).symm

theorem fwd_eq (n : ℕ) (f : Fin 4096 → ℝ) (r : Fin 4096) : fwd n f r = ∑ s : Fin 4096, if r.val + n = s.val then f s else 0 := by
  unfold fwd
  split
  · rename_i h
    rw [Finset.sum_eq_single ⟨r.val + n, h⟩ (fun s _ hs => if_neg fun e => hs (Fin.ext e.symm)) (fun h => absurd (Finset.mem_univ _) h)]
    exact (if_pos rfl).symm
  · exact (Finset.sum_eq_zero fun s _ => if_neg (by have := s.isLt; omega)).symm

/-- Moving one factor of a sum down is moving the other one up. -/
theorem shift (n : ℕ) (f u : Fin 4096 → ℝ) : ∑ r, f r * back n u r = ∑ r, u r * fwd n f r := by
  simp only [back_eq, fwd_eq, Finset.mul_sum]
  rw [Finset.sum_comm]
  refine Finset.sum_congr rfl fun s _ => Finset.sum_congr rfl fun r _ => ?_
  split
  · exact mul_comm _ _
  · rw [mul_zero, mul_zero]

theorem ofBits_1 : Ideal.ofBits .f32 0x3F800000#32 = ((1 : ℝ) : EReal) := by
  simp [Ideal.ofBits, Ideal.ieee]; rw [← EReal.coe_mul]; norm_num

/-- The logistic function. -/
def sg (x : ℝ) : ℝ := (1 + Real.exp (-x))⁻¹

/-- The gate's gradient as the chain rule spells it. -/
theorem silu (p c s : ℝ) : ((p * s : ℝ) : EReal) + ((c * p : ℝ) : EReal) * (((s : ℝ) : EReal) * (1 - ((s : ℝ) : EReal))) = ((p * (s * (1 + c * (1 - s))) : ℝ) : EReal) := by
  rw [← EReal.coe_one, sub, mul, mul, add]; congr 1; ring

/-- The branch's arrays: the two halves of its input, the filter, the last projection, the gain, and the result's gradient. -/
structure Arr where
  a : M 4096 2816
  b : M 4096 2816
  k : M 3 2816
  w : M 2816 1024
  g : Fin 1024 → ℝ
  d : M 4096 1024

namespace Arr

variable (z : Arr)

/-- The filtered half. -/
def c (r : Fin 4096) (j : Fin 2816) : ℝ := z.k 0 j * back 2 (fun R => z.a R j) r + z.k 1 j * back 1 (fun R => z.a R j) r + z.k 2 j * z.a r j

/-- The projected branch. -/
def y (r : Fin 4096) (a : Fin 1024) : ℝ := ∑ j, z.c r j * sg (z.c r j) * z.b r j * z.w j a

/-- The gradient through the norm. -/
def dy (r : Fin 4096) (a : Fin 1024) : ℝ := rmsb (fun b => z.d r b * z.g b) (z.y r) a

/-- The gradient of the gated product. -/
def da (r : Fin 4096) (j : Fin 2816) : ℝ := ∑ a, z.dy r a * z.w j a

/-- The filtered half's gradient. -/
def dc (r : Fin 4096) (j : Fin 2816) : ℝ := z.da r j * z.b r j * (sg (z.c r j) * (1 + z.c r j * (1 - sg (z.c r j))))

/-- The first half's gradient. -/
def d1 (r : Fin 4096) (j : Fin 2816) : ℝ := z.k 2 j * z.dc r j + z.k 1 j * fwd 1 (fun R => z.dc R j) r + z.k 0 j * fwd 2 (fun R => z.dc R j) r

/-- The second half's gradient. -/
def d2 (r : Fin 4096) (j : Fin 2816) : ℝ := z.da r j * (z.c r j * sg (z.c r j))

/-- Both halves' gradient. -/
def du (r : Fin 4096) (j : Fin 5632) : ℝ := if h : j.val < 2816 then z.d1 r ⟨j.val, h⟩ else z.d2 r ⟨j.val - 2816, by omega⟩

theorem du_lt (r : Fin 4096) (j : Fin 5632) (h : j.val < 2816) : z.du r j = z.d1 r ⟨j.val, h⟩ := dif_pos h

theorem du_ge (r : Fin 4096) (j : Fin 5632) (h : ¬ j.val < 2816) : z.du r j = z.d2 r ⟨j.val - 2816, by omega⟩ := dif_neg h

/-- What one row adds to the gain's gradient. -/
def dg (a : Fin 1024) (r : Fin 4096) : ℝ := z.d r a * (z.y r a * rs (z.y r))

/-- What one row adds to the filter's gradient. -/
def dk (n : Fin 3) (j : Fin 2816) (r : Fin 4096) : ℝ := z.a r j * fwd (2 - n.val) (fun R => z.dc R j) r

end Arr

/-- The branch's arrays, of the arguments. -/
abbrev arr (U : M 4096 5632) (k : M 3 2816) (w : M 2816 1024) (g : Fin 1024 → ℝ) (d : M 4096 1024) : Arr where
  a r j := U r ⟨j.val, by omega⟩
  b r j := U r ⟨2816 + j.val, by omega⟩
  k := k
  w := w
  g := g
  d := d

end Cert.Ffn

end
-- ==== Proof.FfnPay.lean ====
module

public import proofs.«01_k».proof.Defs
public import proofs.«01_k».proof.Proof.FfnMath
public import proofs.«01_k».proof.Proof.Gen.FfnKernelIdeal.Value

/-! What the kernel computes of the arrays of one point, over the real numbers. -/

@[expose] public section

set_option maxRecDepth 16384

noncomputable section

namespace Cert.FfnKernelIdeal.Value

open Idealize.ShloMosaic Idealize.ShloMosaic.TcCoe Idealize.SL.Sem
open Cert.FfnKernelIdeal Cert.FfnKernelIdeal.Gen Cert.Lift Cert.Norm Cert.Ffn

/-- The rows of a block, and below them the eight rows of the next one. -/
def ext (f : M 256 2816) (e : M 8 2816) : M 264 2816 := fun i j => if h : i.val < 256 then f ⟨i.val, h⟩ j else e ⟨i.val - 256, by omega⟩ j

theorem ext_lt (f : M 256 2816) (e : M 8 2816) (i : Fin 264) (j : Fin 2816) (h : i.val < 256) : ext f e i j = f ⟨i.val, h⟩ j := dif_pos h

theorem ext_ge (f : M 256 2816) (e : M 8 2816) (i : Fin 264) (j : Fin 2816) (h : ¬ i.val < 256) : ext f e i j = e ⟨i.val - 256, by omega⟩ j := dif_neg h

/-- Row `r + k` of the extended block. -/
def up (k : Fin 9) (v : M 264 2816) : M 256 2816 := fun r j => v ⟨r.val + k.val, by omega⟩ j

theorem pay7 (y : M 256 1024) : k0_pay7 (F := Ideal) (up2 y) = up2 y := by
  funext i; idx_vars i; pointwise [k0_pay7]

theorem pay8 (y : M 256 1024) : k0_pay8 (F := Ideal) (up2 y) = up2 fun r _ => rs (y r) := by
  unfold k0_pay8; rw [pay7]
  funext i; idx_vars i; pointwise
  simp only [mul, sum, ofBits_1024, ofBits_eps, div _ _ (by norm_num : (1024 : ℝ) ≠ 0), add, rsqrt_ms]; rfl

theorem pay9 (d y : M 256 1024) (g : Fin 1024 → ℝ) :
    k0_pay9 (F := Ideal) (up2 d) (up2 y) (up2 fun _ => g) = up2 fun r => rmsb (fun b => d r b * g b) (y r) := by
  unfold k0_pay9; rw [pay7, pay8]
  funext i; idx_vars i; pointwise
  simp only [mul, sum, ofBits_1024, div _ _ (by norm_num : (1024 : ℝ) ≠ 0), sub]; rfl

theorem pay10 (d y : M 256 1024) : k0_pay10 (F := Ideal) (up2 d) (up2 y) = up2 fun _ a => ∑ r, d r a * (y r a * rs (y r)) := by
  unfold k0_pay10; rw [pay7, pay8]
  funext i; idx_vars i; pointwise
  simp only [mul, sum]; rfl

theorem pay11 (f g : Fin 1024 → ℝ) : k0_pay11 (F := Ideal) (up2 fun _ => f) (up2 fun _ => g) = up2 fun _ a => g a + f a := by
  funext i; idx_vars i; pointwise [k0_pay11]; exact add _ _

theorem pay12 (y : M 256 1024) : k0_pay12 (F := Ideal) (up2 y) = up2 y := by
  funext i; idx_vars i; pointwise [k0_pay12]

theorem pay13 (y : M 256 1024) (w : M 2816 1024) : k0_pay13 (F := Ideal) (up2 y) (up2 w) = up2 fun r j => ∑ a, y r a * w j a := by
  unfold k0_pay13; rw [pay12]
  funext i; idx_vars i; pointwise; simp only [mul, sum]; rfl

theorem pay14 (u : M 256 2816) : k0_pay14 (F := Ideal) (up2 u) = up2 u := by
  funext i; idx_vars i; pointwise [k0_pay14]

theorem pay15 (c : M 256 2816) : k0_pay15 (F := Ideal) (up2 c) = up2 c := by
  funext i; idx_vars i; pointwise [k0_pay15]

theorem pay16 (c : M 256 2816) : k0_pay16 (F := Ideal) (up2 c) = up2 fun r j => sg (c r j) := by
  unfold k0_pay16; rw [pay15]
  funext i; idx_vars i; pointwise; exact Ideal.logistic_coe _

theorem pay17 (y : M 256 1024) (w : M 2816 1024) (c : M 256 2816) :
    k0_pay17 (F := Ideal) (up2 y) (up2 w) (up2 c) = up2 fun r j => (∑ a, y r a * w j a) * (c r j * sg (c r j)) := by
  unfold k0_pay17; rw [pay13, pay15, pay16]
  funext i; idx_vars i; pointwise; simp only [mul]

theorem pay18 (y : M 256 1024) (w : M 2816 1024) (c u : M 256 2816) : k0_pay18 (F := Ideal) (up2 y) (up2 w) (up2 c) (up2 u)
    = up2 fun r j => (∑ a, y r a * w j a) * u r j * (sg (c r j) * (1 + c r j * (1 - sg (c r j)))) := by
  unfold k0_pay18; rw [pay13, pay15, pay16]
  funext i; idx_vars i; pointwise; simp only [ofBits_1, mul, sub, add]; rfl

theorem pay19 (y : M 256 1024) (w : M 2816 1024) (c u : M 256 2816) (e : M 8 2816) : k0_pay19 (F := Ideal) (up2 y) (up2 w) (up2 c) (up2 u) (up2 e)
    = up2 (ext (fun r j => (∑ a, y r a * w j a) * u r j * (sg (c r j) * (1 + c r j * (1 - sg (c r j))))) e) := by
  unfold k0_pay19; rw [pay18]
  funext i; idx_vars i; pointwise
  split
  · rename_i h; exact congrArg (fun z : ℝ => (z : EReal)) (ext_lt (fun r j => (∑ a, y r a * w j a) * u r j * (sg (c r j) * (1 + c r j * (1 - sg (c r j))))) e i0 i1 h).symm
  · rename_i h; exact congrArg (fun z : ℝ => (z : EReal)) (ext_ge (fun r j => (∑ a, y r a * w j a) * u r j * (sg (c r j) * (1 + c r j * (1 - sg (c r j))))) e i0 i1 h).symm

theorem pay1 (v : M 264 2816) : k0_pay1 (F := Ideal) (up2 v) 262#32 = up2 (up 2 v) := by
  funext i; idx_vars i; pointwise [k0_pay1]
  refine congrArg (fun z : Fin 264 => ((v z i1 : ℝ) : EReal)) (Fin.ext ?_)
  show (i0.val + 264 - 262) % 264 = i0.val + 2; omega

theorem pay20 (y : M 256 1024) (w : M 2816 1024) (c u : M 256 2816) (e : M 8 2816) : k0_pay20 (F := Ideal) (up2 y) (up2 w) (up2 c) (up2 u) (up2 e)
    = up2 (up 1 (ext (fun r j => (∑ a, y r a * w j a) * u r j * (sg (c r j) * (1 + c r j * (1 - sg (c r j))))) e)) := by
  unfold k0_pay20; rw [pay19]
  funext i; idx_vars i; pointwise
  refine congrArg (fun z : Fin 264 => ((ext _ e z i1 : ℝ) : EReal)) (Fin.ext ?_)
  show (i0.val + 264 - 263) % 264 = i0.val + 1; omega

theorem pay2 (k : M 3 2816) (f f1 : M 256 2816) (v : M 264 2816) : k0_pay2 (F := Ideal) (up2 k) (up2 f) (up2 v) (up2 f1) 262#32
    = up2 fun r j => k 2 j * f r j + k 1 j * f1 r j + k 0 j * up 2 v r j := by
  unfold k0_pay2; rw [pay1]
  funext i; idx_vars i; pointwise; simp only [mul, add]; rfl

/-- The filter's gradient of one block. -/
def dkb (a f f1 f2 : M 256 2816) (n : Fin 3) (j : Fin 2816) : ℝ :=
  if n.val < 1 then ∑ r, a r j * f2 r j else if n.val - 1 < 1 then ∑ r, a r j * f1 r j else ∑ r, a r j * f r j

theorem pay3 (a f f1 : M 256 2816) (v : M 264 2816) : k0_pay3 (F := Ideal) (up2 a) (up2 f) (up2 v) (up2 f1) 262#32
    = up2 (dkb a f f1 (up 2 v)) := by
  unfold k0_pay3; rw [pay1]
  funext i; idx_vars i; pointwise
  simp only [mul, sum]
  show _ = ((dkb a f f1 (up 2 v) i0 i1 : ℝ) : EReal)
  unfold dkb; split_ifs <;> rfl

theorem pay4 (a f f1 : M 256 2816) (v : M 264 2816) (g : M 3 2816) : k0_pay4 (F := Ideal) (up2 a) (up2 f) (up2 v) (up2 f1) 262#32 (up2 g)
    = up2 fun n j => g n j + dkb a f f1 (up 2 v) n j := by
  unfold k0_pay4; rw [pay3]
  funext i; idx_vars i; pointwise; exact add _ _

theorem pay5 (f : M 256 2816) : k0_pay5 (F := Ideal) (up2 f) = up2 fun (i : Fin 8) j => f ⟨i.val, by omega⟩ j := by
  funext i; idx_vars i; pointwise [k0_pay5]; rfl

theorem pay6 : k0_pay6 (F := Ideal) = up2 fun (_ : Fin 8) _ => 0 := by
  funext i; idx_vars i; pointwise [k0_pay6]; simp

end Cert.FfnKernelIdeal.Value

end
-- ==== Proof.FfnKer.lean ====
module

public import proofs.«01_k».proof.Proof.FfnPay
public import Idealize.ShloMosaic.Lib.Pipeline.ReadBack

/-! The arrays the kernel leaves, over the real numbers. -/

@[expose] public section

set_option maxRecDepth 16384

noncomputable section

namespace Cert.FfnKernelIdeal.Value

open Idealize.ShloMosaic Idealize.ShloMosaic.TcCoe Idealize.SL.Sem
open Cert.FfnKernelIdeal Cert.FfnKernelIdeal.Gen Cert.Lift Cert.Norm Cert.Ffn

variable {m : (ℓ : Loc nD τ sig) → Buf (Elt Ideal) ℓ} {c : Dev nD}

theorem idx : ∀ t : Fin cfg0.N, win0_0.index t = ![15 - t.val, 0] ∧ win0_1.index t = ![15 - t.val, 0] ∧ win0_2.index t = ![15 - t.val, 0]
    ∧ win0_3.index t = ![15 - t.val, 1] ∧ win0_4.index t = ![15 - t.val, 0] ∧ win0_5.index t = ![0, 0] ∧ win0_6.index t = ![0, 0] ∧ win0_7.index t = ![0, 0]
    ∧ win0_8.index t = ![15 - t.val, 0] ∧ win0_9.index t = ![15 - t.val, 0] ∧ win0_10.index t = ![0, 0] ∧ win0_11.index t = ![0, 0] :=
  (by decide +kernel : ∀ t : Fin grid0.N, _)

/-- Row `r` of the block of point `n`; the blocks run from the last to the first. -/
abbrev rowAt (n : ℕ) (r : Fin 256) : Fin 4096 := ⟨(256 * (15 - n) + r.val) % 4096, Nat.mod_lt _ (by norm_num)⟩

theorem sum_rows (f : Fin 4096 → ℝ) : ∑ s ∈ Finset.range 16, ∑ r : Fin 256, f (rowAt s r) = ∑ R, f R := by
  rw [← Finset.sum_range_reflect, Finset.sum_range]
  refine Fin.sum_mul_add_congr fun s k hl => congrArg f (Fin.ext ?_)
  show (256 * (15 - (16 - 1 - s.val)) + k.val) % 4096 = s.val * 256 + k.val
  omega

variable (z : Arr)

/-- What the block of point `n` finds of the block before it. -/
def carry : ℕ → M 8 2816
  | 0 => fun _ _ => 0
  | n + 1 => fun i j => z.dc (rowAt n ⟨i.val, by omega⟩) j

/-- The extended block reads the rows after a row. -/
theorem up_ext (n : ℕ) (hn : n < 16) (k : Fin 9) :
    up k (ext (fun r => z.dc (rowAt n r)) (carry z n)) = fun r j => fwd k.val (fun R => z.dc R j) (rowAt n r) := by
  funext r j
  show ext _ _ ⟨r.val + k.val, _⟩ j = _
  by_cases h : r.val + k.val < 256
  · rw [ext_lt _ _ _ _ h]
    refine (fwd_lt _ (fun R => z.dc R j) _ (rowAt n ⟨r.val + k.val, h⟩) ?_).symm
    show (256 * (15 - n) + (r.val + k.val)) % 4096 = (256 * (15 - n) + r.val) % 4096 + k.val; omega
  · rw [ext_ge _ _ _ _ h]
    cases n with
    | zero => exact (fwd_ge _ _ _ (by show ¬ (256 * (15 - 0) + r.val) % 4096 + k.val < 4096; omega)).symm
    | succ n =>
      refine (fwd_lt _ (fun R => z.dc R j) _ (rowAt n ⟨r.val + k.val - 256, by omega⟩) ?_).symm
      show (256 * (15 - n) + (r.val + k.val - 256)) % 4096 = (256 * (15 - (n + 1)) + r.val) % 4096 + k.val; omega

theorem dkb_eq (n : ℕ) (hn : n < 16) : dkb (fun r => z.a (rowAt n r)) (fun r => z.dc (rowAt n r)) (up 1 (ext (fun r => z.dc (rowAt n r)) (carry z n)))
    (up 2 (ext (fun r => z.dc (rowAt n r)) (carry z n))) = fun i j => ∑ r, z.dk i j (rowAt n r) := by
  rw [up_ext z n hn, up_ext z n hn]
  funext i j
  unfold dkb
  fin_cases i
  · rfl
  · rfl
  · show ∑ r, z.a (rowAt n r) j * z.dc (rowAt n r) j = ∑ r, z.a (rowAt n r) j * fwd 0 (fun R => z.dc R j) (rowAt n r)
    exact Finset.sum_congr rfl fun r _ => congrArg (z.a (rowAt n r) j * ·) (fwd_lt 0 (fun R => z.dc R j) _ _ rfl).symm

/-- The first half's gradient of one block. -/
theorem d1_eq (n : ℕ) (hn : n < 16) : (fun r j => z.k 2 j * z.dc (rowAt n r) j + z.k 1 j * up 1 (ext (fun r => z.dc (rowAt n r)) (carry z n)) r j
    + z.k 0 j * up 2 (ext (fun r => z.dc (rowAt n r)) (carry z n)) r j) = fun r => z.d1 (rowAt n r) := by
  rw [up_ext z n hn, up_ext z n hn]; rfl

theorem du1 (n : ℕ) (x : S256x2816.Idx) (y : S256x5632.Idx) (e0 : (y 0).val = (x 0).val) (e1 : (y 1).val = (x 1).val) :
    up2 (fun r => z.d1 (rowAt n r)) x = up2 (fun r => z.du (rowAt n r)) y := by
  have h : (x 1).val < 2816 := (x 1).isLt
  have hr : (y 0 : Fin 256) = x 0 := Fin.ext e0
  show ((z.d1 (rowAt n (x 0)) (x 1) : ℝ) : EReal) = ((z.du (rowAt n (y 0)) (y 1) : ℝ) : EReal)
  rw [z.du_lt _ (y 1) (by omega), hr]
  exact congrArg (fun j => ((z.d1 (rowAt n (x 0)) j : ℝ) : EReal)) (Fin.ext e1.symm)

theorem du2 (n : ℕ) (x : S256x2816.Idx) (y : S256x5632.Idx) (e0 : (y 0).val = (x 0).val) (e1 : (y 1).val = 2816 + (x 1).val) :
    up2 (fun r => z.d2 (rowAt n r)) x = up2 (fun r => z.du (rowAt n r)) y := by
  have hr : (y 0 : Fin 256) = x 0 := Fin.ext e0
  show ((z.d2 (rowAt n (x 0)) (x 1) : ℝ) : EReal) = ((z.du (rowAt n (y 0)) (y 1) : ℝ) : EReal)
  rw [z.du_ge _ (y 1) (by omega), hr]
  exact congrArg (fun j => ((z.d2 (rowAt n (x 0)) j : ℝ) : EReal)) (Fin.ext (by show (x 1).val = (y 1).val - 2816; omega))

/-- The region's operands hold the branch's arrays. -/
structure Ops (m : (ℓ : Loc nD τ sig) → Buf (Elt Ideal) ℓ) (c : Dev nD) (U : M 4096 5632) (z : Arr) : Prop where
  d : V m c main_arg4 = up2 z.d
  y : V m c main_v27 = up2 z.y
  u : V m c main_v28 = up2 U
  f : V m c main_v29 = up2 z.c
  k : V m c main_arg1 = up2 z.k
  w : V m c main_v30 = up2 z.w
  g : V m c main_v31 = up2 fun _ : Fin 1 => z.g
  a : z.a = fun r j => U r ⟨j.val, by omega⟩
  b : z.b = fun r j => U r ⟨2816 + j.val, by omega⟩

variable {z} {U : M 4096 5632}

theorem row (t : Fin cfg0.N) (s : Fin 256) : (15 - t.val) * 256 + s.val = (rowAt t.val s).val := by
  show _ = (256 * (15 - t.val) + s.val) % 4096; omega

theorem blk0 (H : Ops m c U z) (t : Fin cfg0.N) : iblk m c 0 t = up2 fun r => z.d (rowAt t.val r) := by
  funext i
  refine (congrFun H.d (((cfg0.win 0).blk t).view.emb i)).trans (congrArg _ (congr (congrArg z.d (Fin.ext ?_)) (Fin.ext ?_)))
  · blk_simp [idx t]; exact row t _
  · blk_simp [idx t]

theorem blk1 (H : Ops m c U z) (t : Fin cfg0.N) : iblk m c 1 t = up2 fun r => z.y (rowAt t.val r) := by
  have e := H.y
  generalize z.y = Y at e ⊢
  funext i
  refine (congrFun e (((cfg0.win 1).blk t).view.emb i)).trans (congrArg _ (congr (congrArg Y (Fin.ext ?_)) (Fin.ext ?_)))
  · blk_simp [idx t]; exact row t _
  · blk_simp [idx t]

theorem blk2 (H : Ops m c U z) (t : Fin cfg0.N) : iblk m c 2 t = up2 fun r => z.a (rowAt t.val r) := by
  funext i
  rw [H.a]
  refine (congrFun H.u (((cfg0.win 2).blk t).view.emb i)).trans (congrArg _ (congr (congrArg U (Fin.ext ?_)) (Fin.ext ?_)))
  · blk_simp [idx t]; exact row t _
  · blk_simp [idx t]

theorem blk3 (H : Ops m c U z) (t : Fin cfg0.N) : iblk m c 3 t = up2 fun r => z.b (rowAt t.val r) := by
  funext i
  rw [H.b]
  refine (congrFun H.u (((cfg0.win 3).blk t).view.emb i)).trans (congrArg _ (congr (congrArg U (Fin.ext ?_)) (Fin.ext ?_)))
  · blk_simp [idx t]; exact row t _
  · blk_simp [idx t]

theorem blk4 (H : Ops m c U z) (t : Fin cfg0.N) : iblk m c 4 t = up2 fun r => z.c (rowAt t.val r) := by
  have e := H.f
  generalize z.c = Y at e ⊢
  funext i
  refine (congrFun e (((cfg0.win 4).blk t).view.emb i)).trans (congrArg _ (congr (congrArg Y (Fin.ext ?_)) (Fin.ext ?_)))
  · blk_simp [idx t]; exact row t _
  · blk_simp [idx t]

theorem blk5 (H : Ops m c U z) (t : Fin cfg0.N) : iblk m c 5 t = up2 z.k := by
  funext i
  exact (congrFun H.k (((cfg0.win 5).blk t).view.emb i)).trans (congrArg (up2 _) (by blk_ext [idx t]))

theorem blk6 (H : Ops m c U z) (t : Fin cfg0.N) : iblk m c 6 t = up2 z.w := by
  funext i
  exact (congrFun H.w (((cfg0.win 6).blk t).view.emb i)).trans (congrArg (up2 _) (by blk_ext [idx t]))

theorem blk7 (H : Ops m c U z) (t : Fin cfg0.N) : iblk m c 7 t = up2 fun _ : Fin 1 => z.g := by
  funext i
  exact (congrFun H.g (((cfg0.win 7).blk t).view.emb i)).trans (congrArg (up2 _) (by blk_ext [idx t]))

variable (z) in
/-- What the first `n` points add to the gain's gradient. -/
def gq (n : ℕ) (a : Fin 1024) : ℝ := ∑ s ∈ Finset.range n, ∑ r : Fin 256, z.dg a (rowAt s r)

variable (z) in
/-- What the first `n` points add to the filter's gradient. -/
def kq (n : ℕ) (i : Fin 3) (j : Fin 2816) : ℝ := ∑ s ∈ Finset.range n, ∑ r : Fin 256, z.dk i j (rowAt s r)

theorem p9 (H : Ops m c U z) (t : Fin cfg0.N) : k0_pay9 (F := Ideal) (iblk m c 0 t) (iblk m c 1 t) (iblk m c 7 t) = up2 fun r => z.dy (rowAt t.val r) := by
  rw [blk0 H, blk1 H, blk7 H, pay9]; rfl

theorem p17 (H : Ops m c U z) (t : Fin cfg0.N) : k0_pay17 (F := Ideal) (up2 fun r => z.dy (rowAt t.val r)) (iblk m c 6 t) (iblk m c 4 t)
    = up2 fun r => z.d2 (rowAt t.val r) := by
  rw [blk6 H, blk4 H, pay17]; rfl

theorem p18 (H : Ops m c U z) (t : Fin cfg0.N) : k0_pay18 (F := Ideal) (up2 fun r => z.dy (rowAt t.val r)) (iblk m c 6 t) (iblk m c 4 t) (iblk m c 3 t)
    = up2 fun r => z.dc (rowAt t.val r) := by
  rw [blk6 H, blk4 H, blk3 H, pay18]; rfl

theorem p19 (H : Ops m c U z) (t : Fin cfg0.N) (e : M 8 2816) :
    k0_pay19 (F := Ideal) (up2 fun r => z.dy (rowAt t.val r)) (iblk m c 6 t) (iblk m c 4 t) (iblk m c 3 t) (up2 e)
    = up2 (ext (fun r => z.dc (rowAt t.val r)) e) := by
  rw [blk6 H, blk4 H, blk3 H, pay19]; rfl

theorem p20 (H : Ops m c U z) (t : Fin cfg0.N) (e : M 8 2816) :
    k0_pay20 (F := Ideal) (up2 fun r => z.dy (rowAt t.val r)) (iblk m c 6 t) (iblk m c 4 t) (iblk m c 3 t) (up2 e)
    = up2 (up 1 (ext (fun r => z.dc (rowAt t.val r)) e)) := by
  rw [blk6 H, blk4 H, blk3 H, pay20]; rfl

theorem p6 : k0_pay6 (F := Ideal) = up2 (carry z 0) := pay6

theorem gq_succ (n : ℕ) (a : Fin 1024) : gq z (n + 1) a = gq z n a + ∑ r : Fin 256, z.dg a (rowAt n r) := Finset.sum_range_succ _ n

theorem kq_succ (n : ℕ) (i : Fin 3) (j : Fin 2816) : kq z (n + 1) i j = kq z n i j + ∑ r : Fin 256, z.dk i j (rowAt n r) := Finset.sum_range_succ _ n

/-- What point `n` leaves, after the points before it. -/
theorem left (H : Ops m c U z) : ∀ (n : ℕ) (hn : n < cfg0.N),
    (outsAt0 m c n hn).1 = (up2 fun r => z.dy (rowAt n r))
    ∧ (outsAt0 m c n hn).2.1 = (up2 fun r => z.du (rowAt n r))
    ∧ (outsAt0 m c n hn).2.2.1 = (up2 fun _ : Fin 1 => gq z (n + 1))
    ∧ (outsAt0 m c n hn).2.2.2.1 = up2 (kq z (n + 1))
    ∧ (outsAt0 m c n hn).2.2.2.2 = up2 (carry z (n + 1)) := by
  intro n hn
  have hN : n < 16 := lt_of_lt_of_eq hn N_0
  cases n with
  | zero =>
    rw [outsAt0_A m c ⟨0, hn⟩ (by rfl) (by rfl) (by show ¬ 1 ≤ 0; omega) (by rfl) (by show ¬ 1 ≤ 0; omega)]
    refine ⟨?_, ?_, ?_, ?_, ?_⟩
    · frame_out
      rw [p9 H, pay12]
    · frame_out
      rw [p9 H, p17 H, p6 (z := z), p19 H, p20 H, p18 H, blk5 H, pay2, d1_eq z 0 hN]
      funext y
      canon_tiles x e
      · exact du1 z 0 x y e0 e1
      · exact du2 z 0 x y e0 e1
    · frame_out
      rw [blk0 H, blk1 H, pay10]
      funext i; exact congrArg _ (Finset.sum_range_one fun s => ∑ r : Fin 256, z.dg (i 1) (rowAt s r)).symm
    · frame_out
      rw [p9 H, p6 (z := z), p19 H, p20 H, p18 H, blk2 H, pay14, pay3, dkb_eq z 0 hN]
      funext i; exact congrArg _ (Finset.sum_range_one fun s => ∑ r : Fin 256, z.dk (i 0) (i 1) (rowAt s r)).symm
    · frame_out
      rw [p9 H, p18 H, pay5]; rfl
  | succ n =>
    rw [outsAt0_B m c ⟨n + 1, hn⟩ (by show ¬ (n + 1) % 16 = 0; omega) (by show ¬ (n + 1) % 16 = 0; omega) (by show 1 ≤ n + 1; omega) (by show ¬ (n + 1) % 16 = 0; omega) (by show 1 ≤ n + 1; omega)]
    obtain ⟨_, _, ih10, ih11, ihS⟩ := left H n (by omega)
    refine ⟨?_, ?_, ?_, ?_, ?_⟩
    · frame_out
      rw [p9 H, pay12]
    · frame_out
      simp only [Nat.add_sub_cancel, ihS, read_unread_whole]
      rw [p9 H, p17 H, p19 H, p20 H, p18 H, blk5 H, pay2, d1_eq z (n + 1) hN]
      funext y
      canon_tiles x e
      · exact du1 z (n + 1) x y e0 e1
      · exact du2 z (n + 1) x y e0 e1
    · frame_out
      simp only [Nat.add_sub_cancel, ih10, read_unread_whole]
      rw [blk0 H, blk1 H, pay10, pay11]
      funext i; exact congrArg _ (gq_succ (n + 1) (i 1)).symm
    · frame_out
      simp only [Nat.add_sub_cancel, ih11, ihS, read_unread_whole]
      rw [p9 H, p19 H, p20 H, p18 H, blk2 H, pay14, pay4, dkb_eq z (n + 1) hN]
      funext i; exact congrArg _ (kq_succ (n + 1) (i 0) (i 1)).symm
    · frame_out
      rw [p9 H, p18 H, pay5]; rfl

theorem final8 (H : Ops m c U z) : (dats m 0 c).arrAt 8 cfg0.N = up2 z.dy := by
  refine (dats m 0 c).arrAt_eq_of_covers 8 _ (by decide +kernel) fun t _ y => ?_
  blk_simp
  rw [after0_8, (left H t.val t.isLt).1]
  have e : ∀ i : S4096x1024.Idx, i = ix2 (rowAt t.val (y 0)) (y 1) → _ = ((z.dy (i 0) (i 1) : ℝ) : EReal) := fun i hi => by rw [hi]
  refine e _ ((eq_ix2 _).trans (congr (congrArg ix2 (Fin.ext ?_)) (Fin.ext ?_)))
  · blk_simp [idx t]; exact row t _
  · blk_simp [idx t]

theorem final9 (H : Ops m c U z) : (dats m 0 c).arrAt 9 cfg0.N = up2 z.du := by
  refine (dats m 0 c).arrAt_eq_of_covers 9 _ (by decide +kernel) fun t _ y => ?_
  blk_simp
  rw [after0_9, (left H t.val t.isLt).2.1]
  have e : ∀ i : S4096x5632.Idx, i = ix2 (rowAt t.val (y 0)) (y 1) → _ = ((z.du (i 0) (i 1) : ℝ) : EReal) := fun i hi => by rw [hi]
  refine e _ ((eq_ix2 _).trans (congr (congrArg ix2 (Fin.ext ?_)) (Fin.ext ?_)))
  · blk_simp [idx t]; exact row t _
  · blk_simp [idx t]

theorem final10 (H : Ops m c U z) : (dats m 0 c).arrAt 10 cfg0.N = up2 fun _ a => ∑ R, z.dg a R := by
  refine (dats m 0 c).arrAt_eq_of_covers 10 _ (by decide +kernel) fun t ht y => ?_
  have h7 : t.val + 1 = 16 := (by decide +kernel : ∀ t : Fin grid0.N, win0_10.flush t = true → t.val + 1 = 16) t ht
  blk_simp
  rw [after0_10, (left H t.val t.isLt).2.2.1, h7]
  have hy : (y 1 : Fin 1024) = ((cfg0.win 10).blk t).view.emb y 1 := Fin.ext (by blk_simp [idx t])
  show ((∑ s ∈ Finset.range 16, ∑ r : Fin 256, z.dg (y 1) (rowAt s r) : ℝ) : EReal) = _
  rw [sum_rows fun R => z.dg (y 1) R, hy]

theorem final11 (H : Ops m c U z) : (dats m 0 c).arrAt 11 cfg0.N = up2 fun i j => ∑ R, z.dk i j R := by
  refine (dats m 0 c).arrAt_eq_of_covers 11 _ (by decide +kernel) fun t ht y => ?_
  have h7 : t.val + 1 = 16 := (by decide +kernel : ∀ t : Fin grid0.N, win0_11.flush t = true → t.val + 1 = 16) t ht
  blk_simp
  rw [after0_11, (left H t.val t.isLt).2.2.2.1, h7]
  have hx : (y 0 : Fin 3) = ((cfg0.win 11).blk t).view.emb y 0 := Fin.ext (by blk_simp [idx t])
  have hy : (y 1 : Fin 2816) = ((cfg0.win 11).blk t).view.emb y 1 := Fin.ext (by blk_simp [idx t])
  show ((∑ s ∈ Finset.range 16, ∑ r : Fin 256, z.dk (y 0) (y 1) (rowAt s r) : ℝ) : EReal) = _
  rw [sum_rows fun R => z.dk (y 0) (y 1) R, hx, hy]

end Cert.FfnKernelIdeal.Value

end
-- ==== Proof.FfnRef.lean ====
module

public import proofs.«01_k».proof.Proof.FfnMath
public import proofs.«01_k».proof.Proof.Gen.FfnReferenceIdeal.Read

/-! What the reference computes, over the real numbers. -/

@[expose] public section

set_option maxRecDepth 16384

noncomputable section

namespace Cert.FfnReferenceIdeal.Read

open Idealize.ShloMosaic
open Cert.FfnReferenceIdeal Cert.Lift Cert.Norm Cert.Ffn

variable (U : M 4096 5632) (k : M 3 2816) (w : M 2816 1024) (g : Fin 1024 → ℝ) (d : M 4096 1024)

theorem v0 : val_main_v0 (F := Ideal) (up2 U) = up2 (arr U k w g d).a := by
  funext i; idx_vars i; pointwise [val_main_v0]; rfl

theorem v27 : val_main_v27 (F := Ideal) (up2 U) = up2 (arr U k w g d).b := by
  funext i; idx_vars i; pointwise [val_main_v27]; rfl

theorem v7 : val_main_v7 (F := Ideal) (up2 k) = up2 fun _ j => k 0 j := by
  funext i; idx_vars i; pointwise [val_main_v7, val_main_v2, val_main_v1]; rfl

theorem v16 : val_main_v16 (F := Ideal) (up2 k) = up2 fun _ j => k 1 j := by
  funext i; idx_vars i; pointwise [val_main_v16, val_main_v11, val_main_v10]; rfl

theorem v22 : val_main_v22 (F := Ideal) (up2 k) = up2 fun _ j => k 2 j := by
  funext i; idx_vars i; pointwise [val_main_v22, val_main_v21, val_main_v20]; rfl

theorem v5 : val_main_v5 (F := Ideal) (up2 U) = up2 fun r j => back 2 (fun R => (arr U k w g d).a R j) r := by
  funext i; idx_vars i; pointwise [val_main_v5, val_main_v4, val_main_v3, val_main_cst, v0 U k w g d]
  show _ = ((back 2 (fun R => (arr U k w g d).a R i1) i0 : ℝ) : EReal)
  unfold back
  split
  · rename_i h; rw [dif_neg (by omega)]; simp
  · rename_i h; rw [dif_pos (by omega)]; rfl

theorem v14 : val_main_v14 (F := Ideal) (up2 U) = up2 fun r j => back 1 (fun R => (arr U k w g d).a R j) r := by
  funext i; idx_vars i; pointwise [val_main_v14, val_main_v13, val_main_v12, val_main_cst_1, v0 U k w g d]
  show _ = ((back 1 (fun R => (arr U k w g d).a R i1) i0 : ℝ) : EReal)
  unfold back
  split
  · rename_i h; rw [dif_neg (by omega)]; simp
  · rename_i h; rw [dif_pos (by omega)]; rfl

theorem v25 : val_main_v25 (F := Ideal) (up2 U) (up2 k) = up2 (arr U k w g d).c := by
  funext i; idx_vars i
  pointwise [val_main_v25, val_main_v24, val_main_v23, val_main_v19, val_main_v18, val_main_v17, val_main_v9, val_main_v8, v22 k, v16 k, v7 k, v5 U k w g d,
    v14 U k w g d, v0 U k w g d]
  simp only [mul, add]; rfl

theorem v26_2 : val_main_v26_2 (F := Ideal) (up2 U) (up2 k) = up2 fun r j => sg ((arr U k w g d).c r j) := by
  funext i; idx_vars i
  pointwise [val_main_v26_2, val_main_call0_v4, val_main_call0_cst_0, val_main_call0_v3, val_main_call0_v2, val_main_call0_cst, val_main_call0_v1,
    val_main_call0_v0, v25 U k w g d]
  show Ideal.div ((1 : ℝ) : EReal) (((1 : ℝ) : EReal) + ((Real.exp (-(arr U k w g d).c i0 i1) : ℝ) : EReal)) = _
  rw [add, div _ _ (by positivity), one_div]; rfl

theorem v29 : val_main_v29 (F := Ideal) (up2 U) (up2 k) (up2 w) = up2 (arr U k w g d).y := by
  funext i; idx_vars i
  pointwise [val_main_v29, val_main_v28, val_main_v26_0, v27 U k w g d, v25 U k w g d, v26_2 U k w g d]
  simp only [mul, sum]; rfl

theorem v37 : val_main_v37 (F := Ideal) (up2 U) (up2 k) (up2 w) = up2 fun r _ => rs ((arr U k w g d).y r) := by
  funext i; idx_vars i
  pointwise [val_main_v37, val_main_v36, val_main_v35, val_main_cst_5, val_main_v34, val_main_v33, val_main_cst_4, val_main_v32, val_main_v31, val_main_cst_3,
    val_main_v30, v29 U k w g d]
  simp only [mul, sum, zero_add, ofBits_1024, ofBits_eps, div _ _ (by norm_num : (1024 : ℝ) ≠ 0), add, rsqrt_ms]; rfl

theorem v36 : val_main_v36 (F := Ideal) (up2 U) (up2 k) (up2 w) = up2 fun r _ => (rs ((arr U k w g d).y r) ^ 2)⁻¹ := by
  funext i; idx_vars i
  pointwise [val_main_v36, val_main_v35, val_main_cst_5, val_main_v34, val_main_v33, val_main_cst_4, val_main_v32, val_main_v31, val_main_cst_3,
    val_main_v30, v29 U k w g d]
  simp only [mul, sum, zero_add, ofBits_1024, ofBits_eps, div _ _ (by norm_num : (1024 : ℝ) ≠ 0), add, rs_sq]; rfl

theorem v40 : val_main_v40 (F := Ideal) (up2 U) (up2 k) (up2 w) = up2 fun r _ => -(1 / 2) * rs ((arr U k w g d).y r) ^ 3 := by
  unfold val_main_v40 val_main_v38; rw [v36 U k w g d, v37 U k w g d]
  funext i; idx_vars i; pointwise [val_main_v39, val_main_cst_6]
  exact cube _

theorem v50 : val_main_v50 (F := Ideal) (up1 g) (up2 d) = up2 fun r a => d r a * g a := by
  funext i; idx_vars i; pointwise [val_main_v50, val_main_v49, val_main_v43]; exact mul _ _

theorem v65 : val_main_v65 (F := Ideal) (up2 U) (up2 k) (up2 w) (up1 g) (up2 d) = up2 (arr U k w g d).dy := by
  funext i; idx_vars i
  pointwise [val_main_v65, val_main_v64, val_main_v63, val_main_v62, val_main_v61, val_main_v60, val_main_cst_11, val_main_v59, val_main_v58, val_main_cst_10,
    val_main_v57, val_main_v56, val_main_v55, val_main_v54, val_main_v53, val_main_cst_9, val_main_v52, v50 g d, v40 U k w g d, v37 U k w g d, v29 U k w g d]
  simp only [Fin.sum_univ_one, zero_add, mul, sum, ofBits_1024, div _ _ (by norm_num : (1024 : ℝ) ≠ 0), add]
  exact congrArg _ (chain (fun a => d i0 a * g a) ((arr U k w g d).y i0) i1)

theorem v109 : val_main_v109 (F := Ideal) (up2 U) (up2 k) (up2 w) (up2 d) = up2 fun _ a => ∑ r, (arr U k w g d).dg a r := by
  funext i; idx_vars i
  pointwise [val_main_v109, val_main_v51, val_main_cst_8, val_main_v48, val_main_v47, val_main_cst_7, val_main_v46, val_main_v42, val_main_v41, v37 U k w g d, v29 U k w g d]
  simp only [Fin.sum_univ_one, zero_add, mul, sum]
  exact congrArg _ (Finset.sum_congr rfl fun r _ => mul_comm _ _)

theorem v66 : val_main_v66 (F := Ideal) (up2 U) (up2 k) (up2 w) (up1 g) (up2 d) = up2 (arr U k w g d).da := by
  unfold val_main_v66; rw [v65]
  funext i; idx_vars i; pointwise; simp only [mul, sum]; rfl

theorem v70 : val_main_v70 (F := Ideal) (up2 U) (up2 k) (up2 w) (up1 g) (up2 d) = up2 (arr U k w g d).dc := by
  funext i; idx_vars i
  pointwise [val_main_v70, val_main_call1_v2, val_main_call1_v1, val_main_call1_v0, val_main_v68, val_main_v26_1, val_main_call0_v7, val_main_call0_v6,
    val_main_call0_cst_1, v66 U k w g d, v27 U k w g d, v25 U k w g d, v26_2 U k w g d]
  simp only [mul]
  exact silu _ _ _

theorem v87 : val_main_v87 (F := Ideal) (up2 U) (up2 k) (up2 w) (up1 g) (up2 d) = up2 fun r j => k 1 j * fwd 1 (fun R => (arr U k w g d).dc R j) r := by
  funext i; idx_vars i
  pointwise [val_main_v87, val_main_cst_18, val_main_v86, val_main_v80, val_main_v79, v16 k, v70 U k w g d]
  split
  · rename_i h
    exact (mul _ _).trans (congrArg (fun z : ℝ => ((k 1 i1 * z : ℝ) : EReal)) (fwd_lt 1 (fun R => (arr U k w g d).dc R i1) i0 ⟨1 + i0.val, by omega⟩ (Nat.add_comm _ _)).symm)
  · rename_i h
    show (0 : EReal) = ((k 1 i1 * fwd 1 (fun R => (arr U k w g d).dc R i1) i0 : ℝ) : EReal)
    rw [fwd_ge _ _ _ (by omega), mul_zero, EReal.coe_zero]

theorem v100 : val_main_v100 (F := Ideal) (up2 U) (up2 k) (up2 w) (up1 g) (up2 d) = up2 fun r j => k 0 j * fwd 2 (fun R => (arr U k w g d).dc R j) r := by
  funext i; idx_vars i
  pointwise [val_main_v100, val_main_cst_22, val_main_v99, val_main_v93, val_main_v92, v7 k, v70 U k w g d]
  split
  · rename_i h
    exact (mul _ _).trans (congrArg (fun z : ℝ => ((k 0 i1 * z : ℝ) : EReal)) (fwd_lt 2 (fun R => (arr U k w g d).dc R i1) i0 ⟨2 + i0.val, by omega⟩ (Nat.add_comm _ _)).symm)
  · rename_i h
    show (0 : EReal) = ((k 0 i1 * fwd 2 (fun R => (arr U k w g d).dc R i1) i0 : ℝ) : EReal)
    rw [fwd_ge _ _ _ (by omega), mul_zero, EReal.coe_zero]

theorem v101 : val_main_v101 (F := Ideal) (up2 U) (up2 k) (up2 w) (up1 g) (up2 d) = up2 (arr U k w g d).d1 := by
  funext i; idx_vars i
  pointwise [val_main_v101, val_main_v88, val_main_v72, val_main_v71, v22 k, v70 U k w g d, v87 U k w g d, v100 U k w g d]
  simp only [mul, add]; rfl

theorem v67 : val_main_v67 (F := Ideal) (up2 U) (up2 k) (up2 w) (up1 g) (up2 d) = up2 (arr U k w g d).d2 := by
  funext i; idx_vars i
  pointwise [val_main_v67, val_main_v26_0, v66 U k w g d, v25 U k w g d, v26_2 U k w g d]
  simp only [mul]
  exact congrArg _ (mul_comm _ _)

theorem v107 : val_main_v107 (F := Ideal) (up2 U) (up2 k) (up2 w) (up1 g) (up2 d) = up2 (arr U k w g d).dy := by
  unfold val_main_v107; rw [v65]
  funext i; idx_vars i; pointwise

theorem v108 : val_main_v108 (F := Ideal) (up2 U) (up2 k) (up2 w) (up1 g) (up2 d) = up2 (arr U k w g d).du := by
  funext i; idx_vars i
  pointwise [val_main_v108, val_main_v106, val_main_v105, val_main_cst_24, val_main_v69, val_main_cst_12, v67 U k w g d, v101 U k w g d]
  by_cases h : i1.val < 2816
  · rw [dif_neg (by omega), dif_pos h, zero_add]
    exact congrArg (fun z : ℝ => (z : EReal)) ((arr U k w g d).du_lt i0 i1 h).symm
  · rw [dif_pos ⟨by omega, by omega⟩, dif_neg h, add_zero]
    exact congrArg (fun z : ℝ => (z : EReal)) ((arr U k w g d).du_ge i0 i1 h).symm

theorem row2 : val_main_v76 (F := Ideal) (up2 U) (up2 k) (up2 w) (up1 g) (up2 d) = up1 fun j => ∑ r, (arr U k w g d).dk 2 j r := by
  funext i; idx_vars i
  pointwise [val_main_v76, val_main_cst_14, val_main_v75, val_main_v74, val_main_cst_13, val_main_v73, v70 U k w g d, v0 U k w g d]
  simp only [Fin.sum_univ_one, zero_add, mul, sum]
  exact congrArg _ (Finset.sum_congr rfl fun r _ => (mul_comm _ _).trans (congrArg _ (fwd_lt 0 (fun R => (arr U k w g d).dc R i0) r r rfl).symm))

theorem row1 : val_main_v84 (F := Ideal) (up2 U) (up2 k) (up2 w) (up1 g) (up2 d) = up1 fun j => ∑ r, (arr U k w g d).dk 1 j r := by
  funext i; idx_vars i
  pointwise [val_main_v84, val_main_cst_17, val_main_v83, val_main_v82, val_main_cst_16, val_main_v81, v70 U k w g d, v14 U k w g d]
  simp only [Fin.sum_univ_one, zero_add, mul, sum]
  exact congrArg _ (shift 1 (fun r => (arr U k w g d).dc r i0) fun R => (arr U k w g d).a R i0)

theorem row0 : val_main_v97 (F := Ideal) (up2 U) (up2 k) (up2 w) (up1 g) (up2 d) = up1 fun j => ∑ r, (arr U k w g d).dk 0 j r := by
  funext i; idx_vars i
  pointwise [val_main_v97, val_main_cst_21, val_main_v96, val_main_v95, val_main_cst_20, val_main_v94, v70 U k w g d, v5 U k w g d]
  simp only [Fin.sum_univ_one, zero_add, mul, sum]
  exact congrArg _ (shift 2 (fun r => (arr U k w g d).dc r i0) fun R => (arr U k w g d).a R i0)

theorem v104 : val_main_v104 (F := Ideal) (up2 U) (up2 k) (up2 w) (up1 g) (up2 d) = up2 fun n j => ∑ r, (arr U k w g d).dk n j r := by
  funext i; idx_vars i
  pointwise [val_main_v104, val_main_v103, val_main_cst_23, val_main_v102, val_main_v91, val_main_v90, val_main_cst_19, val_main_v89, val_main_v78, val_main_cst_15,
    val_main_v77, row2 U k w g d, row1 U k w g d, row0 U k w g d]
  exact three _ _ _ i0 (fun n => ((∑ r, (arr U k w g d).dk n i1 r : ℝ) : EReal)) rfl rfl rfl

end Cert.FfnReferenceIdeal.Read

end
-- ==== Proof.Ffn.lean ====
module

public import proofs.«01_k».proof.Defs
public import proofs.«01_k».proof.Proof.Finite
public import proofs.«01_k».proof.Proof.FfnKer
public import proofs.«01_k».proof.Proof.FfnRef
public import proofs.«01_k».proof.Proof.Gen.FfnReferenceIdeal.Run
public import proofs.«01_k».proof.Proof.Gen.Pre_finite_ffn
public import Idealize.ShloMosaic.Lib.Quiescent

/-! The gradient of the gated feed-forward branch: its frames and its value claim. -/

@[expose] public section

set_option maxRecDepth 16384

noncomputable section

namespace Cert.FfnKernelIdeal.Value

open Idealize.ShloMosaic Idealize.ShloMosaic.TcCoe Idealize.SL.Sem
open Cert.FfnKernelIdeal Cert.FfnKernelIdeal.Gen Cert.Lift Cert.Norm Cert.Ffn

section

variable (m : (ℓ : Loc nD τ sig) → Buf (Elt Ideal) ℓ) (c : Dev nD)

theorem hostY : V m c main_v27 = Cert.FfnReferenceIdeal.Read.val_main_v29 (F := Ideal) (m ((c : Thread nD τ).loc main_arg0)) (m ((c : Thread nD τ).loc main_arg1))
    (m ((c : Thread nD τ).loc main_arg2)) := by
  rfl

theorem hostC : V m c main_v29 = (truncf .bf16 (Cert.FfnReferenceIdeal.Read.val_main_v25 (F := Ideal) (m ((c : Thread nD τ).loc main_arg0))
    (m ((c : Thread nD τ).loc main_arg1)) : FVec Ideal S4096x2816 .f32) bitsLt_bf16_f32 : FVec Ideal S4096x2816 .bf16) := by
  rfl

theorem hostU : V m c main_v28 = (truncf .bf16 (m ((c : Thread nD τ).loc main_arg0) : FVec Ideal S4096x5632 .f32) bitsLt_bf16_f32 : FVec Ideal S4096x5632 .bf16) := by
  rfl

theorem hostW : V m c main_v30 = (truncf .bf16 (m ((c : Thread nD τ).loc main_arg2) : FVec Ideal S2816x1024 .f32) bitsLt_bf16_f32 : FVec Ideal S2816x1024 .bf16) := by
  rfl

theorem hostG : V m c main_v31 = (shapeCast S1x1024 (m ((c : Thread nD τ).loc main_arg3) : FVec Ideal S1024 .f32) shapeCasts_S1024_S1x1024 : FVec Ideal S1x1024 .f32) := by
  rfl

end

/-- The arrays the region finds, of the arguments. -/
theorem ops (m : (ℓ : Loc nD τ sig) → Buf (Elt Ideal) ℓ) (c : Dev nD) (U : M 4096 5632) (k : M 3 2816) (w : M 2816 1024) (g : Fin 1024 → ℝ) (d : M 4096 1024)
    (h0 : m ((c : Thread nD τ).loc main_arg0) = up2 U) (h1 : m ((c : Thread nD τ).loc main_arg1) = up2 k)
    (h2 : m ((c : Thread nD τ).loc main_arg2) = up2 w) (h3 : m ((c : Thread nD τ).loc main_arg3) = up1 g)
    (h4 : m ((c : Thread nD τ).loc main_arg4) = up2 d) : Ops m c U (arr U k w g d) where
  d := (V_main_arg4 m c).trans h4
  y := by rw [hostY, h0, h1, h2]; exact Cert.FfnReferenceIdeal.Read.v29 U k w g d
  u := by rw [hostU, h0]; funext i; idx_vars i; pointwise
  f := by rw [hostC, h0, h1, Cert.FfnReferenceIdeal.Read.v25 U k w g d]; funext i; idx_vars i; pointwise
  k := (V_main_arg1 m c).trans h1
  w := by rw [hostW, h2]; funext i; idx_vars i; pointwise
  g := by rw [hostG, h3]; funext i; idx_vars i; pointwise; rfl
  a := rfl
  b := rfl

end Cert.FfnKernelIdeal.Value

namespace Cert.Proof.Ffn

open Idealize.ShloMosaic Idealize.ShloMosaic.TcCoe Idealize.SL.Sem
open Cert.Lift Cert.Norm Cert.Ffn

/-- The reference runs, keeps its arguments, and leaves every semaphore at zero. -/
theorem frameR : Cert.quiescent_FfnReferenceIdeal := fun m ρ _ =>
  (θ_run Cert.FfnReferenceIdeal.defs _ _).mono (fun r h => ⟨fun c => (h c).2.2.2.2, sem_eq_zero_of_no_sems (by decide) r.2⟩)
    (Cert.FfnReferenceIdeal.Value.run (F := Ideal) m ρ)

/-- Every argument is an array of real numbers. -/
theorem real (x0 : FVec Ideal ⟨2, ![4096, 5632]⟩ .f32) (x1 : FVec Ideal ⟨2, ![3, 2816]⟩ .f32) (x2 : FVec Ideal ⟨2, ![2816, 1024]⟩ .f32)
    (x3 : FVec Ideal ⟨1, ![1024]⟩ .f32) (x4 : FVec Ideal ⟨2, ![4096, 1024]⟩ .f32)
    (h : Cert.Pre_finite_ffn.fn (F := Ideal) x0 x1 x2 x3 x4 = fun _ => 1#1) : Fin' x0 ∧ Fin' x1 ∧ Fin' x2 ∧ Fin' x3 ∧ Fin' x4 := by
  have h' := congrFun h (fun k => k.elim0)
  simp only [Cert.Pre_finite_ffn.fn, Cert.Pre_finite_ffn.fn_part1, andi_apply, IntOp.andi_eq_one] at h'
  obtain ⟨⟨⟨⟨h0, h1⟩, h2⟩, h3⟩, h4⟩ := h'
  exact ⟨fin_of _ _ _ _ _ _ h0, fin_of _ _ _ _ _ _ h1, fin_of _ _ _ _ _ _ h2, fin_of _ _ _ _ _ _ h3, fin_of _ _ _ _ _ _ h4⟩

/-- The kernel's four results are the reference's. -/
theorem algebraic : Cert.algebraic_FfnKernelIdeal_FfnReferenceIdeal_pre_finite_ffn := by
  intro m ρ m' ρ' hpre hagree
  refine ⟨_, _, _, _, Cert.FfnKernelIdeal.Value.run_blocks (F := Ideal) m ρ, ?_⟩
  refine (θ_run Cert.FfnReferenceIdeal.defs _ _).mono (fun _ h c => ?_) (Cert.FfnReferenceIdeal.Value.run (F := Ideal) m' ρ')
  obtain ⟨r0, r1, r2, r3, hk⟩ := h c
  obtain ⟨q0, q1, q2, q3, q4⟩ := real _ _ _ _ _ (hpre c)
  obtain ⟨U, h0⟩ := q0.up2
  obtain ⟨k, h1⟩ := q1.up2
  obtain ⟨w, h2⟩ := q2.up2
  obtain ⟨g, h3⟩ := q3.up1
  obtain ⟨d, h4⟩ := q4.up2
  obtain ⟨a0, a1, a2, a3, a4⟩ := hagree c
  have H := Cert.FfnKernelIdeal.Value.ops m c U k w g d h0 h1 h2 h3 h4
  rw [h0] at a0; rw [h1] at a1; rw [h2] at a2; rw [h3] at a3; rw [h4] at a4
  have b0 : StableHlo.launchContents m' c (Proc.devRef .tc Cert.FfnReferenceIdeal.main_arg0) = up2 U := a0
  have b1 : StableHlo.launchContents m' c (Proc.devRef .tc Cert.FfnReferenceIdeal.main_arg1) = up2 k := a1
  have b2 : StableHlo.launchContents m' c (Proc.devRef .tc Cert.FfnReferenceIdeal.main_arg2) = up2 w := a2
  have b3 : StableHlo.launchContents m' c (Proc.devRef .tc Cert.FfnReferenceIdeal.main_arg3) = up1 g := a3
  have b4 : StableHlo.launchContents m' c (Proc.devRef .tc Cert.FfnReferenceIdeal.main_arg4) = up2 d := a4
  rw [Cert.FfnReferenceIdeal.Read.val_main_v107_eq, b0, b1, b2, b3, b4] at r0
  rw [Cert.FfnReferenceIdeal.Read.val_main_v108_eq, b0, b1, b2, b3, b4] at r1
  rw [Cert.FfnReferenceIdeal.Read.val_main_v109_eq, b0, b1, b2, b4] at r2
  rw [Cert.FfnReferenceIdeal.Read.val_main_v104_eq, b0, b1, b2, b3, b4] at r3
  exact ⟨r0.trans ((Cert.FfnReferenceIdeal.Read.v107 U k w g d).trans (Cert.FfnKernelIdeal.Value.final8 H).symm),
    r1.trans ((Cert.FfnReferenceIdeal.Read.v108 U k w g d).trans (Cert.FfnKernelIdeal.Value.final9 H).symm),
    r2.trans ((Cert.FfnReferenceIdeal.Read.v109 U k w g d).trans (Cert.FfnKernelIdeal.Value.final10 H).symm),
    r3.trans ((Cert.FfnReferenceIdeal.Read.v104 U k w g d).trans (Cert.FfnKernelIdeal.Value.final11 H).symm), hk⟩

end Cert.Proof.Ffn

end
-- ==== Proof.FfnPre.lean ====
module

public import proofs.«01_k».proof.Defs
public import proofs.«01_k».proof.Proof.Finite
public import proofs.«01_k».proof.Proof.Norm
public import proofs.«01_k».proof.Proof.Gen.FfnPreKernelIdeal.Value
public import proofs.«01_k».proof.Proof.Gen.FfnPreReferenceIdeal.Read
public import proofs.«01_k».proof.Proof.Gen.FfnPreReferenceIdeal.Run
public import proofs.«01_k».proof.Proof.Gen.Pre_finite_ffnpre
public import Idealize.ShloMosaic.Lib.Pipeline.ReadBack
public import Idealize.ShloMosaic.Lib.Quiescent

/-! The gradient of a norm in front of a branch: its frames and its value claim. -/

@[expose] public section

set_option maxRecDepth 16384

noncomputable section

namespace Cert.FfnPreKernelIdeal.Value

open Idealize.ShloMosaic Idealize.ShloMosaic.TcCoe Idealize.SL.Sem
open Cert.FfnPreKernelIdeal Cert.FfnPreKernelIdeal.Gen Cert.Lift Cert.Norm

variable {m : (ℓ : Loc nD τ sig) → Buf (Elt Ideal) ℓ} {c : Dev nD}

theorem pay3 (u : M 512 5632) (w : M 5632 1024) : k0_pay3 (F := Ideal) (up2 u) (up2 w) = up2 (dh u w) := by
  funext i; idx_vars i; pointwise [k0_pay3]
  simp only [mul, sum]; rfl
theorem pay4 (x : M 512 1024) : k0_pay4 (F := Ideal) (up2 x) = up2 fun r _ => rs (x r) := by
  funext i; idx_vars i; pointwise [k0_pay4]
  simp only [mul, sum, ofBits_1024, ofBits_eps, div _ _ (by norm_num : (1024 : ℝ) ≠ 0), add, rsqrt_ms]; rfl

theorem pay5 (u : M 512 5632) (w : M 5632 1024) (x : M 512 1024) (g : M 1 1024) (d : FVec Ideal S512x1024 .f32) :
    k0_pay5 (F := Ideal) (up2 u) (up2 w) (up2 x) (up2 g) d = fun i => d i + ((rmsb (fun a => dh u w (i 0) a * g 0 a) (x (i 0)) (i 1) : ℝ) : EReal) := by
  unfold k0_pay5; rw [pay3, pay4]
  funext i; idx_vars i; pointwise
  simp only [mul, sum, ofBits_1024, div _ _ (by norm_num : (1024 : ℝ) ≠ 0), add, sub]; rfl

theorem pay6 (u : M 512 5632) (w : M 5632 1024) (x : M 512 1024) :
    k0_pay6 (F := Ideal) (up2 u) (up2 w) (up2 x) = up1 fun a => ∑ r, dh u w r a * (x r a * rs (x r)) := by
  unfold k0_pay6; rw [pay3, pay4]
  funext i; idx_vars i; pointwise
  simp only [mul, sum]; rfl

theorem pay1 (f : Fin 1024 → ℝ) : k0_pay1 (F := Ideal) (up1 f) = up2 fun _ a => f a := by
  funext i; idx_vars i; pointwise [k0_pay1]; rfl

theorem pay2 (f g : Fin 1024 → ℝ) : k0_pay2 (F := Ideal) (up1 f) (up2 fun _ : Fin 1 => g) = up2 fun _ a => g a + f a := by
  unfold k0_pay2; rw [pay1]
  funext i; idx_vars i; pointwise; exact add _ _

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0] :=
  (by decide +kernel : ∀ t : Fin grid0.N, _)

/-- Row `r` of the block of point `n`. -/
abbrev rowAt (n : ℕ) (r : Fin 512) : Fin 4096 := ⟨(512 * n + r.val) % 4096, Nat.mod_lt _ (by norm_num)⟩

theorem sum_rows (f : Fin 4096 → ℝ) : ∑ s ∈ Finset.range 8, ∑ r : Fin 512, f (rowAt s r) = ∑ R, f R := by
  rw [Finset.sum_range]
  refine Fin.sum_mul_add_congr fun s k hl => congrArg f (Fin.ext ?_)
  show (512 * s.val + k.val) % 4096 = s.val * 512 + k.val
  omega

/-- The region's operands hold these arrays. -/
structure Ops (m : (ℓ : Loc nD τ sig) → Buf (Elt Ideal) ℓ) (c : Dev nD) (D : FVec Ideal S4096x1024 .f32) (U : M 4096 5632) (W : M 5632 1024)
    (X : M 4096 1024) (g : Fin 1024 → ℝ) : Prop where
  d : V m c main_arg4 = D
  u : V m c main_v0 = up2 U
  w : V m c main_v2 = up2 W
  x : V m c main_arg0 = up2 X
  g : V m c main_v3 = up2 fun _ : Fin 1 => g

variable {D : FVec Ideal S4096x1024 .f32} {U : M 4096 5632} {W : M 5632 1024} {X : M 4096 1024} {g : Fin 1024 → ℝ}

theorem row (t : Fin cfg0.N) (s : Fin 512) : t.val * 512 + s.val = (rowAt t.val s).val := by
  have hN : t.val < 8 := lt_of_lt_of_eq t.isLt N_0
  show _ = (512 * t.val + s.val) % 4096; omega

theorem blk0 (H : Ops m c D U W X g) (t : Fin cfg0.N) : iblk m c 0 t = fun i => D (ix2 (rowAt t.val (i 0)) (i 1)) := by
  funext i
  refine (congrFun H.d (((cfg0.win 0).blk t).view.emb i)).trans (congrArg D ?_)
  refine (eq_ix2 _).trans (congr (congrArg ix2 (Fin.ext ?_)) (Fin.ext ?_))
  · blk_simp [idx t]; exact row t _
  · blk_simp [idx t]

theorem blk1 (H : Ops m c D U W X g) (t : Fin cfg0.N) : iblk m c 1 t = up2 fun r => (U (rowAt t.val r)) := by
  funext i
  refine (congrFun H.u (((cfg0.win 1).blk t).view.emb i)).trans (congrArg _ (congr (congrArg (U) (Fin.ext ?_)) (Fin.ext ?_)))
  · blk_simp [idx t]; exact row t _
  · blk_simp [idx t]

theorem blk2 (H : Ops m c D U W X g) (t : Fin cfg0.N) : iblk m c 2 t = up2 W := by
  funext i
  exact (congrFun H.w (((cfg0.win 2).blk t).view.emb i)).trans (congrArg (up2 _) (by blk_ext [idx t]))

theorem blk3 (H : Ops m c D U W X g) (t : Fin cfg0.N) : iblk m c 3 t = up2 fun r => X (rowAt t.val r) := by
  funext i
  refine (congrFun H.x (((cfg0.win 3).blk t).view.emb i)).trans (congrArg _ (congr (congrArg X (Fin.ext ?_)) (Fin.ext ?_)))
  · blk_simp [idx t]; exact row t _
  · blk_simp [idx t]

theorem blk4 (H : Ops m c D U W X g) (t : Fin cfg0.N) : iblk m c 4 t = up2 fun _ : Fin 1 => g := by
  funext i
  exact (congrFun H.g (((cfg0.win 4).blk t).view.emb i)).trans (congrArg (up2 _) (by blk_ext [idx t]))

variable (U W X) in
/-- What the first `n` points add to the gain's gradient. -/
def gq (n : ℕ) (a : Fin 1024) : ℝ :=
  ∑ s ∈ Finset.range n, ∑ r : Fin 512, dh U W (rowAt s r) a * (X (rowAt s r) a * rs (X (rowAt s r)))

/-- What point `n` leaves, after the points before it. -/
theorem left (H : Ops m c D U W X g) : ∀ (n : ℕ) (hn : n < cfg0.N),
    (outsAt0 m c n hn).1 = (fun i => D (ix2 (rowAt n (i 0)) (i 1)) + ((rmsb (fun a => dh U W (rowAt n (i 0)) a * g a) (X (rowAt n (i 0))) (i 1) : ℝ) : EReal))
    ∧ (outsAt0 m c n hn).2 = up2 fun _ : Fin 1 => gq U W X (n + 1) := by
  intro n hn
  have hN : n < 8 := lt_of_lt_of_eq hn N_0
  cases n with
  | zero =>
    rw [outsAt0_A m c ⟨0, hn⟩ (by rfl) (by show ¬ 1 ≤ 0; omega)]
    refine ⟨?_, ?_⟩
    · frame_out
      simp only [blk0 H, blk1 H, blk2 H, blk3 H, blk4 H, pay5]; rfl
    · frame_out
      simp only [blk0 H, blk1 H, blk2 H, blk3 H, blk4 H, pay6, pay1]
      funext i; exact congrArg _ (Finset.sum_range_one (fun s => ∑ r : Fin 512, dh U W (rowAt s r) (i 1) * (X (rowAt s r) (i 1) * rs (X (rowAt s r))))).symm
  | succ n =>
    rw [outsAt0_B m c ⟨n + 1, hn⟩ (by show ¬ (n + 1) % 8 = 0; omega) (by show 1 ≤ n + 1; omega)]
    have ih := (left H n (by omega)).2
    refine ⟨?_, ?_⟩
    · frame_out
      simp only [blk0 H, blk1 H, blk2 H, blk3 H, blk4 H, pay5]; rfl
    · frame_out
      simp only [Nat.add_sub_cancel, ih, read_unread_whole, blk0 H, blk1 H, blk2 H, blk3 H, blk4 H, pay6, pay2, gq]
      funext i; exact congrArg _ (Finset.sum_range_succ (fun s => ∑ r : Fin 512, dh U W (rowAt s r) (i 1) * (X (rowAt s r) (i 1) * rs (X (rowAt s r)))) (n + 1)).symm

theorem final5 (H : Ops m c D U W X g) : (dats m 0 c).arrAt 5 cfg0.N
    = fun i => D i + ((rmsb (fun a => dh U W (i 0) a * g a) (X (i 0)) (i 1) : ℝ) : EReal) := by
  refine (dats m 0 c).arrAt_eq_of_covers 5 _ (by decide +kernel) fun t _ y => ?_
  blk_simp
  rw [after0_5, (left H t.val t.isLt).1]
  have e : ∀ z : S4096x1024.Idx, z = ix2 (rowAt t.val (y 0)) (y 1) → _ = (D z + ((rmsb (fun a => dh U W (z 0) a * g a) (X (z 0)) (z 1) : ℝ) : EReal)) := fun z hz => by rw [hz]
  refine e _ ((eq_ix2 _).trans (congr (congrArg ix2 (Fin.ext ?_)) (Fin.ext ?_)))
  · blk_simp [idx t]; exact row t _
  · blk_simp [idx t]

theorem final6 (H : Ops m c D U W X g) : (dats m 0 c).arrAt 6 cfg0.N = up2 fun _ a => ∑ R, dh U W R a * (X R a * rs (X R)) := by
  refine (dats m 0 c).arrAt_eq_of_covers 6 _ (by decide +kernel) fun t ht y => ?_
  have h7 : t.val + 1 = 8 := (by decide +kernel : ∀ t : Fin grid0.N, win0_6.flush t = true → t.val + 1 = 8) t ht
  blk_simp
  rw [after0_6, (left H t.val t.isLt).2, h7]
  have hy : (y 1 : Fin 1024) = ((cfg0.win 6).blk t).view.emb y 1 := Fin.ext (by blk_simp [idx t])
  show ((∑ s ∈ Finset.range 8, ∑ r : Fin 512, dh U W (rowAt s r) (y 1) * (X (rowAt s r) (y 1) * rs (X (rowAt s r))) : ℝ) : EReal) = _
  rw [sum_rows fun R => dh U W R (y 1) * (X R (y 1) * rs (X R)), hy]

/-- The arrays the region finds, of the arguments. -/
theorem ops (m : (ℓ : Loc nD τ sig) → Buf (Elt Ideal) ℓ) (c : Dev nD) (X : M 4096 1024) (g : Fin 1024 → ℝ) (W : M 1024 5632) (U : M 4096 5632)
    (h0 : m ((c : Thread nD τ).loc main_arg0) = up2 X) (h1 : m ((c : Thread nD τ).loc main_arg1) = up1 g)
    (h2 : m ((c : Thread nD τ).loc main_arg2) = up2 W) (h3 : m ((c : Thread nD τ).loc main_arg3) = up2 U) :
    Ops m c (m ((c : Thread nD τ).loc main_arg4)) U (fun n a => W a n) X g :=
  ⟨V_main_arg4 m c, by entry_read; rw [h3]; rfl, by entry_read; rw [h2]; funext i; idx_vars i; pointwise; rfl, (V_main_arg0 m c).trans h0, by entry_read; rw [h1]; funext i; idx_vars i; pointwise; rfl⟩

end Cert.FfnPreKernelIdeal.Value

namespace Cert.FfnPreReferenceIdeal.Read

open Idealize.ShloMosaic
open Cert.FfnPreReferenceIdeal Cert.Lift Cert.Norm

variable (X : M 4096 1024) (g : Fin 1024 → ℝ) (W : M 1024 5632) (U : M 4096 5632) (D : FVec Ideal ⟨2, ![4096, 1024]⟩ .f32)

theorem v6 : val_main_v6 (F := Ideal) (up2 X) = up2 fun r _ => (rs (X r) ^ 2)⁻¹ := by
  funext i; idx_vars i; pointwise [val_main_v6, val_main_v5, val_main_cst_1, val_main_v4, val_main_v3, val_main_cst_0, val_main_v2, val_main_v1, val_main_v0, val_main_cst]
  simp only [zero_add, mul, sum, ofBits_1024, ofBits_eps, div _ _ (by norm_num : (1024 : ℝ) ≠ 0), add, ← rs_sq]; rfl

theorem v7 : val_main_v7 (F := Ideal) (up2 X) = up2 fun r _ => rs (X r) := by
  unfold val_main_v7; rw [v6]
  funext i; idx_vars i; pointwise
  simp only [← rs_sq, rsqrt_ms]

theorem v10 : val_main_v10 (F := Ideal) (up2 X) = up2 fun r _ => -(1 / 2) * rs (X r) ^ 3 := by
  unfold val_main_v10 val_main_v8; rw [v6, v7]
  funext i; idx_vars i; pointwise [val_main_v9, val_main_cst_2]
  exact cube (X i0)

theorem v17 : val_main_v17 (F := Ideal) (up2 W) (up2 U) = up2 (dh U fun n a => W a n) := by
  funext i; idx_vars i; pointwise [val_main_v17]; simp only [mul, sum]; rfl

theorem v22 : val_main_v22 (F := Ideal) (up1 g) (up2 W) (up2 U) = up2 fun r a => dh U (fun n a => W a n) r a * g a := by
  funext i; idx_vars i; pointwise [val_main_v22, val_main_v21, val_main_v13, v17 W U]; exact mul _ _

theorem v38 : val_main_v38 (F := Ideal) (up2 X) (up1 g) (up2 W) (up2 U) D
    = fun i => D i + ((rmsb (fun a => dh U (fun n a => W a n) (i 0) a * g a) (X (i 0)) (i 1) : ℝ) : EReal) := by
  funext i; idx_vars i
  pointwise [val_main_v38, val_main_v37, val_main_v36, val_main_v35, val_main_v34, val_main_v33, val_main_cst_7, val_main_v32, val_main_v31, val_main_cst_6,
    val_main_v30, val_main_v29, val_main_v28, val_main_v27, val_main_v26, val_main_v25, val_main_cst_5, val_main_v24, v22 g W U, v10 X, v7 X]
  simp only [Fin.sum_univ_one, zero_add, mul, sum, ofBits_1024, div _ _ (by norm_num : (1024 : ℝ) ≠ 0)]
  rw [add_assoc, add_assoc, add, add]
  exact congrArg (fun z : ℝ => D (ix2 i0 i1) + (z : EReal)) ((add_assoc _ _ _).symm.trans (chain (fun a => dh U (fun n a => W a n) i0 a * g a) (X i0) i1))

theorem v39 : val_main_v39 (F := Ideal) (up2 X) (up2 W) (up2 U) = up2 fun _ a => ∑ r, dh U (fun n a => W a n) r a * (X r a * rs (X r)) := by
  funext i; idx_vars i
  pointwise [val_main_v39, val_main_v23, val_main_cst_4, val_main_v20, val_main_v19, val_main_cst_3, val_main_v18, val_main_v12, val_main_v11, v17 W U, v7 X]
  simp only [Fin.sum_univ_one, zero_add, mul, sum]
  exact congrArg _ (Finset.sum_congr rfl fun r _ => mul_comm _ _)

end Cert.FfnPreReferenceIdeal.Read

namespace Cert.Proof.FfnPre

open Idealize.ShloMosaic Idealize.ShloMosaic.TcCoe Idealize.SL.Sem
open Cert.Lift Cert.Norm

/-- The reference runs, keeps its arguments, and leaves every semaphore at zero. -/
theorem frameR : Cert.quiescent_FfnPreReferenceIdeal := fun m ρ _ =>
  (θ_run Cert.FfnPreReferenceIdeal.defs _ _).mono (fun r h => ⟨fun c => (h c).2.2, sem_eq_zero_of_no_sems (by decide) r.2⟩)
    (Cert.FfnPreReferenceIdeal.Value.run (F := Ideal) m ρ)

/-- Every argument the precondition reads is an array of real numbers. -/
theorem real (x0 : FVec Ideal ⟨2, ![4096, 1024]⟩ .f32) (x1 : FVec Ideal ⟨1, ![1024]⟩ .f32) (x2 : FVec Ideal ⟨2, ![1024, 5632]⟩ .f32)
    (x3 : FVec Ideal ⟨2, ![4096, 5632]⟩ .f32) (x4 : FVec Ideal ⟨2, ![4096, 1024]⟩ .f32)
    (h : Cert.Pre_finite_ffnpre.fn (F := Ideal) x0 x1 x2 x3 x4 = fun _ => 1#1) : Fin' x0 ∧ Fin' x1 ∧ Fin' x2 ∧ Fin' x3 := by
  have h' := congrFun h (fun k => k.elim0)
  simp only [Cert.Pre_finite_ffnpre.fn, Cert.Pre_finite_ffnpre.fn_part1, andi_apply, IntOp.andi_eq_one] at h'
  obtain ⟨⟨⟨h0, h1⟩, h2⟩, h3⟩ := h'
  exact ⟨fin_of _ _ _ _ _ _ h0, fin_of _ _ _ _ _ _ h1, fin_of _ _ _ _ _ _ h2, fin_of _ _ _ _ _ _ h3⟩

/-- The kernel's two results are the reference's. -/
theorem algebraic : Cert.algebraic_FfnPreKernelIdeal_FfnPreReferenceIdeal_pre_finite_ffnpre := by
  intro m ρ m' ρ' hpre hagree
  refine ⟨_, _, Cert.FfnPreKernelIdeal.Value.run_blocks (F := Ideal) m ρ, ?_⟩
  refine (θ_run Cert.FfnPreReferenceIdeal.defs _ _).mono (fun _ h c => ?_) (Cert.FfnPreReferenceIdeal.Value.run (F := Ideal) m' ρ')
  obtain ⟨r0, r1, hk⟩ := h c
  obtain ⟨q0, q1, q2, q3⟩ := real _ _ _ _ _ (hpre c)
  obtain ⟨X, h0⟩ := q0.up2
  obtain ⟨g, h1⟩ := q1.up1
  obtain ⟨W, h2⟩ := q2.up2
  obtain ⟨U, h3⟩ := q3.up2
  obtain ⟨a0, a1, a2, a3, a4⟩ := hagree c
  have H := Cert.FfnPreKernelIdeal.Value.ops m c X g W U h0 h1 h2 h3
  rw [h0] at a0; rw [h1] at a1; rw [h2] at a2; rw [h3] at a3
  rw [Cert.FfnPreReferenceIdeal.Read.val_main_v38_eq, a0, a1, a2, a3, a4] at r0
  rw [Cert.FfnPreReferenceIdeal.Read.val_main_v39_eq, a0, a2, a3] at r1
  exact ⟨r0.trans ((Cert.FfnPreReferenceIdeal.Read.v38 X g W U _).trans ((Cert.FfnPreKernelIdeal.Value.final5 H).symm)),
    r1.trans ((Cert.FfnPreReferenceIdeal.Read.v39 X W U).trans ((Cert.FfnPreKernelIdeal.Value.final6 H).symm)), hk⟩

end Cert.Proof.FfnPre

end
-- ==== Proof.MixPre.lean ====
module

public import proofs.«01_k».proof.Defs
public import proofs.«01_k».proof.Proof.Finite
public import proofs.«01_k».proof.Proof.Norm
public import proofs.«01_k».proof.Proof.Gen.MixPreKernelIdeal.Value
public import proofs.«01_k».proof.Proof.Gen.MixPreReferenceIdeal.Read
public import proofs.«01_k».proof.Proof.Gen.MixPreReferenceIdeal.Run
public import proofs.«01_k».proof.Proof.Gen.Pre_finite_mixpre
public import Idealize.ShloMosaic.Lib.Pipeline.ReadBack
public import Idealize.ShloMosaic.Lib.Quiescent

/-! The gradient of a norm in front of a branch: its frames and its value claim. -/

@[expose] public section

set_option maxRecDepth 16384

noncomputable section

namespace Cert.MixPreKernelIdeal.Value

open Idealize.ShloMosaic Idealize.ShloMosaic.TcCoe Idealize.SL.Sem
open Cert.MixPreKernelIdeal Cert.MixPreKernelIdeal.Gen Cert.Lift Cert.Norm

variable {m : (ℓ : Loc nD τ sig) → Buf (Elt Ideal) ℓ} {c : Dev nD}

/-- A row of the cotangent, its last columns put first. -/
def turn (u : Fin 6912 → ℝ) (j : Fin 6912) : ℝ := if h : j.val < 3072 then u ⟨3840 + j.val, by omega⟩ else u ⟨j.val - 3072, by omega⟩

theorem ld_first (u : M 256 6912) (inb) : View.ld (Val := Elt Ideal) (e' := .bf16) (S := S256x6912) (up2 fun r => turn (u r)) (Rect.unit (s := S256x6912) ![0, 0] ![256, 3072] inb)
    = up2 fun r j => u r ⟨3840 + j.val, by omega⟩ := by
  funext i; idx_vars i
  refine congrArg (fun z : ℝ => (z : EReal)) (?_ : turn (u _) _ = _)
  have h : i1.val < 3072 := i1.isLt
  unfold turn; rw [dif_pos (by show 0 + 1 * i1.val < 3072; omega)]
  exact congr (congrArg u (Fin.ext (by show 0 + 1 * i0.val = i0.val; omega))) (Fin.ext (by show 3840 + (0 + 1 * i1.val) = 3840 + i1.val; omega))

theorem ld_last (u : M 256 6912) (inb) : View.ld (Val := Elt Ideal) (e' := .bf16) (S := S256x6912) (up2 fun r => turn (u r)) (Rect.unit (s := S256x6912) ![0, 3072] ![256, 3840] inb)
    = up2 fun r j => u r ⟨j.val, by omega⟩ := by
  funext i; idx_vars i
  refine congrArg (fun z : ℝ => (z : EReal)) (?_ : turn (u _) _ = _)
  have h : i1.val < 3840 := i1.isLt
  unfold turn; rw [dif_neg (by show ¬ 3072 + 1 * i1.val < 3072; omega)]
  exact congr (congrArg u (Fin.ext (by show 0 + 1 * i0.val = i0.val; omega))) (Fin.ext (by show 3072 + 1 * i1.val - 3072 = i1.val; omega))

theorem ld_rows (w : M 6912 1024) (o n : ℕ) (inb : ∀ a, (![o, 0] : Fin 2 → ℕ) a + (![n, 1024] : Fin 2 → ℕ) a ≤ S6912x1024.size a) (ho : o + n ≤ 6912) :
    View.ld (Val := Elt Ideal) (e' := .bf16) (S := S6912x1024) (up2 w) (Rect.unit (s := S6912x1024) ![o, 0] ![n, 1024] inb)
    = up2 fun (j : Fin n) a => w ⟨o + j.val, by omega⟩ a := by
  funext i
  exact congrArg (fun z : ℝ => (z : EReal)) (congr (congrArg w (Fin.ext (by show o + 1 * (i 0).val = o + (i 0).val; omega))) (Fin.ext (by show 0 + 1 * (i 1).val = (i 1).val; omega)))

theorem ld_hi (w : M 6912 1024) (inb) : View.ld (Val := Elt Ideal) (e' := .bf16) (S := S6912x1024) (up2 w) (Rect.unit (s := S6912x1024) ![3840, 0] ![3072, 1024] inb)
    = up2 fun j a => w ⟨3840 + j.val, by omega⟩ a := ld_rows w 3840 3072 inb (by norm_num)

theorem ld_lo (w : M 6912 1024) (inb) : View.ld (Val := Elt Ideal) (e' := .bf16) (S := S6912x1024) (up2 w) (Rect.unit (s := S6912x1024) ![0, 0] ![3840, 1024] inb)
    = up2 fun j a => w ⟨j.val, by omega⟩ a :=
  (ld_rows w 0 3840 inb (by norm_num)).trans (by simp only [Nat.zero_add])

theorem split (u : M 256 6912) (w : M 6912 1024) (r : Fin 256) (a : Fin 1024) :
    (∑ j : Fin 3072, u r ⟨3840 + j.val, by omega⟩ * w ⟨3840 + j.val, by omega⟩ a) + (∑ j : Fin 3840, u r ⟨j.val, by omega⟩ * w ⟨j.val, by omega⟩ a) = dh u w r a := by
  rw [add_comm]
  exact (Fin.sum_univ_add (a := 3840) (b := 3072) fun j => u r j * w j a).symm

theorem pay4 (u : M 256 6912) (w : M 6912 1024) :
    k0_pay4 (F := Ideal) (up2 fun r j => u r ⟨3840 + j.val, by omega⟩) (up2 fun j a => w ⟨3840 + j.val, by omega⟩ a)
      (up2 fun r j => u r ⟨j.val, by omega⟩) (up2 fun j a => w ⟨j.val, by omega⟩ a) = up2 (dh u w) := by
  funext i; idx_vars i; pointwise [k0_pay4]
  simp only [mul, sum]
  rw [add]; exact congrArg _ (split u w i0 i1)

theorem pay5 (x : M 256 1024) : k0_pay5 (F := Ideal) (up2 x) = up2 fun r _ => rs (x r) := by
  funext i; idx_vars i; pointwise [k0_pay5]
  simp only [mul, sum, ofBits_1024, ofBits_eps, div _ _ (by norm_num : (1024 : ℝ) ≠ 0), add, rsqrt_ms]; rfl

theorem pay6 (u : M 256 6912) (w : M 6912 1024) (x : M 256 1024) (g : M 1 1024) :
    k0_pay6 (F := Ideal) (up2 fun r j => u r ⟨3840 + j.val, by omega⟩) (up2 fun j a => w ⟨3840 + j.val, by omega⟩ a)
      (up2 fun r j => u r ⟨j.val, by omega⟩) (up2 fun j a => w ⟨j.val, by omega⟩ a) (up2 x) (up2 g)
      = up2 fun r a => rmsb (fun b => dh u w r b * g 0 b) (x r) a := by
  unfold k0_pay6; rw [pay4 u w, pay5]
  funext i; idx_vars i; pointwise
  simp only [mul, sum, ofBits_1024, div _ _ (by norm_num : (1024 : ℝ) ≠ 0), add, sub]; rfl

theorem pay1 (f : M 256 1024) (d : FVec Ideal S256x1024 .f32) : k0_pay1 (F := Ideal) (up2 f) d = fun i => d i + ((f (i 0) (i 1) : ℝ) : EReal) := by
  funext i; idx_vars i; pointwise [k0_pay1]; rfl

theorem pay2 (h x : M 256 1024) (k : Fin 256 → ℝ) : k0_pay2 (F := Ideal) (up2 h) (up2 x) (up2 fun r _ => k r) = up2 fun _ a => ∑ r, h r a * (x r a * k r) := by
  funext i; idx_vars i; pointwise [k0_pay2]
  simp only [mul, sum]; rfl

theorem pay3 (h x : M 256 1024) (k g : _ → ℝ) : k0_pay3 (F := Ideal) (up2 h) (up2 x) (up2 fun r _ => k r) (up2 fun _ : Fin 1 => g)
    = up2 fun _ a => g a + ∑ r, h r a * (x r a * k r) := by
  unfold k0_pay3; rw [pay2]
  funext i; idx_vars i; pointwise; exact add _ _

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0] :=
  (by decide +kernel : ∀ t : Fin grid0.N, _)

/-- Row `r` of the block of point `n`. -/
abbrev rowAt (n : ℕ) (r : Fin 256) : Fin 4096 := ⟨(256 * n + r.val) % 4096, Nat.mod_lt _ (by norm_num)⟩

theorem sum_rows (f : Fin 4096 → ℝ) : ∑ s ∈ Finset.range 16, ∑ r : Fin 256, f (rowAt s r) = ∑ R, f R := by
  rw [Finset.sum_range]
  refine Fin.sum_mul_add_congr fun s k hl => congrArg f (Fin.ext ?_)
  show (256 * s.val + k.val) % 4096 = s.val * 256 + k.val
  omega

/-- The region's operands hold these arrays. -/
structure Ops (m : (ℓ : Loc nD τ sig) → Buf (Elt Ideal) ℓ) (c : Dev nD) (D : FVec Ideal S4096x1024 .f32) (U : M 4096 6912) (W : M 6912 1024)
    (X : M 4096 1024) (g : Fin 1024 → ℝ) : Prop where
  d : V m c main_arg4 = D
  u : V m c main_v3 = up2 (fun R => turn (U R))
  w : V m c main_v5 = up2 W
  x : V m c main_arg0 = up2 X
  g : V m c main_v6 = up2 fun _ : Fin 1 => g

variable {D : FVec Ideal S4096x1024 .f32} {U : M 4096 6912} {W : M 6912 1024} {X : M 4096 1024} {g : Fin 1024 → ℝ}

theorem row (t : Fin cfg0.N) (s : Fin 256) : t.val * 256 + s.val = (rowAt t.val s).val := by
  have hN : t.val < 16 := lt_of_lt_of_eq t.isLt N_0
  show _ = (256 * t.val + s.val) % 4096; omega

theorem blk0 (H : Ops m c D U W X g) (t : Fin cfg0.N) : iblk m c 0 t = fun i => D (ix2 (rowAt t.val (i 0)) (i 1)) := by
  funext i
  refine (congrFun H.d (((cfg0.win 0).blk t).view.emb i)).trans (congrArg D ?_)
  refine (eq_ix2 _).trans (congr (congrArg ix2 (Fin.ext ?_)) (Fin.ext ?_))
  · blk_simp [idx t]; exact row t _
  · blk_simp [idx t]

theorem blk1 (H : Ops m c D U W X g) (t : Fin cfg0.N) : iblk m c 1 t = up2 fun r => turn (U (rowAt t.val r)) := by
  funext i
  refine (congrFun H.u (((cfg0.win 1).blk t).view.emb i)).trans (congrArg _ (congr (congrArg (fun R => turn (U R)) (Fin.ext ?_)) (Fin.ext ?_)))
  · blk_simp [idx t]; exact row t _
  · blk_simp [idx t]

theorem blk2 (H : Ops m c D U W X g) (t : Fin cfg0.N) : iblk m c 2 t = up2 W := by
  funext i
  exact (congrFun H.w (((cfg0.win 2).blk t).view.emb i)).trans (congrArg (up2 _) (by blk_ext [idx t]))

theorem blk3 (H : Ops m c D U W X g) (t : Fin cfg0.N) : iblk m c 3 t = up2 fun r => X (rowAt t.val r) := by
  funext i
  refine (congrFun H.x (((cfg0.win 3).blk t).view.emb i)).trans (congrArg _ (congr (congrArg X (Fin.ext ?_)) (Fin.ext ?_)))
  · blk_simp [idx t]; exact row t _
  · blk_simp [idx t]

theorem blk4 (H : Ops m c D U W X g) (t : Fin cfg0.N) : iblk m c 4 t = up2 fun _ : Fin 1 => g := by
  funext i
  exact (congrFun H.g (((cfg0.win 4).blk t).view.emb i)).trans (congrArg (up2 _) (by blk_ext [idx t]))

variable (U W X) in
/-- What the first `n` points add to the gain's gradient. -/
def gq (n : ℕ) (a : Fin 1024) : ℝ :=
  ∑ s ∈ Finset.range n, ∑ r : Fin 256, dh U W (rowAt s r) a * (X (rowAt s r) a * rs (X (rowAt s r)))

/-- What point `n` leaves, after the points before it. -/
theorem left (H : Ops m c D U W X g) : ∀ (n : ℕ) (hn : n < cfg0.N),
    (outsAt0 m c n hn).1 = (fun i => D (ix2 (rowAt n (i 0)) (i 1)) + ((rmsb (fun a => dh U W (rowAt n (i 0)) a * g a) (X (rowAt n (i 0))) (i 1) : ℝ) : EReal))
    ∧ (outsAt0 m c n hn).2 = up2 fun _ : Fin 1 => gq U W X (n + 1) := by
  intro n hn
  have hN : n < 16 := lt_of_lt_of_eq hn N_0
  cases n with
  | zero =>
    rw [outsAt0_A m c ⟨0, hn⟩ (by rfl) (by show ¬ 1 ≤ 0; omega)]
    refine ⟨?_, ?_⟩
    · frame_out
      simp only [blk0 H, blk1 H, blk2 H, blk3 H, blk4 H, ld_first, ld_last, ld_hi, ld_lo, pay4, pay5, pay6, pay1]; rfl
    · frame_out
      simp only [blk0 H, blk1 H, blk2 H, blk3 H, blk4 H, ld_first, ld_last, ld_hi, ld_lo, pay4, pay5, pay2]
      funext i; exact congrArg _ (Finset.sum_range_one (fun s => ∑ r : Fin 256, dh U W (rowAt s r) (i 1) * (X (rowAt s r) (i 1) * rs (X (rowAt s r))))).symm
  | succ n =>
    rw [outsAt0_B m c ⟨n + 1, hn⟩ (by show ¬ (n + 1) % 16 = 0; omega) (by show 1 ≤ n + 1; omega)]
    have ih := (left H n (by omega)).2
    refine ⟨?_, ?_⟩
    · frame_out
      simp only [blk0 H, blk1 H, blk2 H, blk3 H, blk4 H, ld_first, ld_last, ld_hi, ld_lo, pay4, pay5, pay6, pay1]; rfl
    · frame_out
      simp only [Nat.add_sub_cancel, ih, read_unread_whole, blk0 H, blk1 H, blk2 H, blk3 H, blk4 H, ld_first, ld_last, ld_hi, ld_lo, pay4, pay5, pay3, gq]
      funext i; exact congrArg _ (Finset.sum_range_succ (fun s => ∑ r : Fin 256, dh U W (rowAt s r) (i 1) * (X (rowAt s r) (i 1) * rs (X (rowAt s r)))) (n + 1)).symm

theorem final5 (H : Ops m c D U W X g) : (dats m 0 c).arrAt 5 cfg0.N
    = fun i => D i + ((rmsb (fun a => dh U W (i 0) a * g a) (X (i 0)) (i 1) : ℝ) : EReal) := by
  refine (dats m 0 c).arrAt_eq_of_covers 5 _ (by decide +kernel) fun t _ y => ?_
  blk_simp
  rw [after0_5, (left H t.val t.isLt).1]
  have e : ∀ z : S4096x1024.Idx, z = ix2 (rowAt t.val (y 0)) (y 1) → _ = (D z + ((rmsb (fun a => dh U W (z 0) a * g a) (X (z 0)) (z 1) : ℝ) : EReal)) := fun z hz => by rw [hz]
  refine e _ ((eq_ix2 _).trans (congr (congrArg ix2 (Fin.ext ?_)) (Fin.ext ?_)))
  · blk_simp [idx t]; exact row t _
  · blk_simp [idx t]

theorem final6 (H : Ops m c D U W X g) : (dats m 0 c).arrAt 6 cfg0.N = up2 fun _ a => ∑ R, dh U W R a * (X R a * rs (X R)) := by
  refine (dats m 0 c).arrAt_eq_of_covers 6 _ (by decide +kernel) fun t ht y => ?_
  have h7 : t.val + 1 = 16 := (by decide +kernel : ∀ t : Fin grid0.N, win0_6.flush t = true → t.val + 1 = 16) t ht
  blk_simp
  rw [after0_6, (left H t.val t.isLt).2, h7]
  have hy : (y 1 : Fin 1024) = ((cfg0.win 6).blk t).view.emb y 1 := Fin.ext (by blk_simp [idx t])
  show ((∑ s ∈ Finset.range 16, ∑ r : Fin 256, dh U W (rowAt s r) (y 1) * (X (rowAt s r) (y 1) * rs (X (rowAt s r))) : ℝ) : EReal) = _
  rw [sum_rows fun R => dh U W R (y 1) * (X R (y 1) * rs (X R)), hy]

/-- The arrays the region finds, of the arguments. -/
theorem ops (m : (ℓ : Loc nD τ sig) → Buf (Elt Ideal) ℓ) (c : Dev nD) (X : M 4096 1024) (g : Fin 1024 → ℝ) (W : M 1024 6912) (U : M 4096 6912)
    (h0 : m ((c : Thread nD τ).loc main_arg0) = up2 X) (h1 : m ((c : Thread nD τ).loc main_arg1) = up1 g)
    (h2 : m ((c : Thread nD τ).loc main_arg2) = up2 W) (h3 : m ((c : Thread nD τ).loc main_arg3) = up2 U) :
    Ops m c (m ((c : Thread nD τ).loc main_arg4)) U (fun n a => W a n) X g :=
  ⟨V_main_arg4 m c, by
      entry_read; rw [h3]; funext i; idx_vars i; pointwise
      split
      · rename_i h; exact congrArg (fun z : ℝ => (z : EReal)) (dif_pos h : turn (U i0) i1 = _).symm
      · rename_i h; exact congrArg (fun z : ℝ => (z : EReal)) (dif_neg h : turn (U i0) i1 = _).symm, by entry_read; rw [h2]; funext i; idx_vars i; pointwise; rfl, (V_main_arg0 m c).trans h0, by entry_read; rw [h1]; funext i; idx_vars i; pointwise; rfl⟩

end Cert.MixPreKernelIdeal.Value

namespace Cert.MixPreReferenceIdeal.Read

open Idealize.ShloMosaic
open Cert.MixPreReferenceIdeal Cert.Lift Cert.Norm

variable (X : M 4096 1024) (g : Fin 1024 → ℝ) (W : M 1024 6912) (U : M 4096 6912) (D : FVec Ideal ⟨2, ![4096, 1024]⟩ .f32)

theorem v6 : val_main_v6 (F := Ideal) (up2 X) = up2 fun r _ => (rs (X r) ^ 2)⁻¹ := by
  funext i; idx_vars i; pointwise [val_main_v6, val_main_v5, val_main_cst_1, val_main_v4, val_main_v3, val_main_cst_0, val_main_v2, val_main_v1, val_main_v0, val_main_cst]
  simp only [zero_add, mul, sum, ofBits_1024, ofBits_eps, div _ _ (by norm_num : (1024 : ℝ) ≠ 0), add, ← rs_sq]; rfl

theorem v7 : val_main_v7 (F := Ideal) (up2 X) = up2 fun r _ => rs (X r) := by
  unfold val_main_v7; rw [v6]
  funext i; idx_vars i; pointwise
  simp only [← rs_sq, rsqrt_ms]

theorem v10 : val_main_v10 (F := Ideal) (up2 X) = up2 fun r _ => -(1 / 2) * rs (X r) ^ 3 := by
  unfold val_main_v10 val_main_v8; rw [v6, v7]
  funext i; idx_vars i; pointwise [val_main_v9, val_main_cst_2]
  exact cube (X i0)

theorem v17 : val_main_v17 (F := Ideal) (up2 W) (up2 U) = up2 (dh U fun n a => W a n) := by
  funext i; idx_vars i; pointwise [val_main_v17]; simp only [mul, sum]; rfl

theorem v22 : val_main_v22 (F := Ideal) (up1 g) (up2 W) (up2 U) = up2 fun r a => dh U (fun n a => W a n) r a * g a := by
  funext i; idx_vars i; pointwise [val_main_v22, val_main_v21, val_main_v13, v17 W U]; exact mul _ _

theorem v38 : val_main_v38 (F := Ideal) (up2 X) (up1 g) (up2 W) (up2 U) D
    = fun i => D i + ((rmsb (fun a => dh U (fun n a => W a n) (i 0) a * g a) (X (i 0)) (i 1) : ℝ) : EReal) := by
  funext i; idx_vars i
  pointwise [val_main_v38, val_main_v37, val_main_v36, val_main_v35, val_main_v34, val_main_v33, val_main_cst_7, val_main_v32, val_main_v31, val_main_cst_6,
    val_main_v30, val_main_v29, val_main_v28, val_main_v27, val_main_v26, val_main_v25, val_main_cst_5, val_main_v24, v22 g W U, v10 X, v7 X]
  simp only [Fin.sum_univ_one, zero_add, mul, sum, ofBits_1024, div _ _ (by norm_num : (1024 : ℝ) ≠ 0)]
  rw [add_assoc, add_assoc, add, add]
  exact congrArg (fun z : ℝ => D (ix2 i0 i1) + (z : EReal)) ((add_assoc _ _ _).symm.trans (chain (fun a => dh U (fun n a => W a n) i0 a * g a) (X i0) i1))

theorem v39 : val_main_v39 (F := Ideal) (up2 X) (up2 W) (up2 U) = up2 fun _ a => ∑ r, dh U (fun n a => W a n) r a * (X r a * rs (X r)) := by
  funext i; idx_vars i
  pointwise [val_main_v39, val_main_v23, val_main_cst_4, val_main_v20, val_main_v19, val_main_cst_3, val_main_v18, val_main_v12, val_main_v11, v17 W U, v7 X]
  simp only [Fin.sum_univ_one, zero_add, mul, sum]
  exact congrArg _ (Finset.sum_congr rfl fun r _ => mul_comm _ _)

end Cert.MixPreReferenceIdeal.Read

namespace Cert.Proof.MixPre

open Idealize.ShloMosaic Idealize.ShloMosaic.TcCoe Idealize.SL.Sem
open Cert.Lift Cert.Norm

/-- The reference runs, keeps its arguments, and leaves every semaphore at zero. -/
theorem frameR : Cert.quiescent_MixPreReferenceIdeal := fun m ρ _ =>
  (θ_run Cert.MixPreReferenceIdeal.defs _ _).mono (fun r h => ⟨fun c => (h c).2.2, sem_eq_zero_of_no_sems (by decide) r.2⟩)
    (Cert.MixPreReferenceIdeal.Value.run (F := Ideal) m ρ)

/-- Every argument the precondition reads is an array of real numbers. -/
theorem real (x0 : FVec Ideal ⟨2, ![4096, 1024]⟩ .f32) (x1 : FVec Ideal ⟨1, ![1024]⟩ .f32) (x2 : FVec Ideal ⟨2, ![1024, 6912]⟩ .f32)
    (x3 : FVec Ideal ⟨2, ![4096, 6912]⟩ .f32) (x4 : FVec Ideal ⟨2, ![4096, 1024]⟩ .f32)
    (h : Cert.Pre_finite_mixpre.fn (F := Ideal) x0 x1 x2 x3 x4 = fun _ => 1#1) : Fin' x0 ∧ Fin' x1 ∧ Fin' x2 ∧ Fin' x3 := by
  have h' := congrFun h (fun k => k.elim0)
  simp only [Cert.Pre_finite_mixpre.fn, Cert.Pre_finite_mixpre.fn_part1, andi_apply, IntOp.andi_eq_one] at h'
  obtain ⟨⟨⟨h0, h1⟩, h2⟩, h3⟩ := h'
  exact ⟨fin_of _ _ _ _ _ _ h0, fin_of _ _ _ _ _ _ h1, fin_of _ _ _ _ _ _ h2, fin_of _ _ _ _ _ _ h3⟩

/-- The kernel's two results are the reference's. -/
theorem algebraic : Cert.algebraic_MixPreKernelIdeal_MixPreReferenceIdeal_pre_finite_mixpre := by
  intro m ρ m' ρ' hpre hagree
  refine ⟨_, _, Cert.MixPreKernelIdeal.Value.run_blocks (F := Ideal) m ρ, ?_⟩
  refine (θ_run Cert.MixPreReferenceIdeal.defs _ _).mono (fun _ h c => ?_) (Cert.MixPreReferenceIdeal.Value.run (F := Ideal) m' ρ')
  obtain ⟨r0, r1, hk⟩ := h c
  obtain ⟨q0, q1, q2, q3⟩ := real _ _ _ _ _ (hpre c)
  obtain ⟨X, h0⟩ := q0.up2
  obtain ⟨g, h1⟩ := q1.up1
  obtain ⟨W, h2⟩ := q2.up2
  obtain ⟨U, h3⟩ := q3.up2
  obtain ⟨a0, a1, a2, a3, a4⟩ := hagree c
  have H := Cert.MixPreKernelIdeal.Value.ops m c X g W U h0 h1 h2 h3
  rw [h0] at a0; rw [h1] at a1; rw [h2] at a2; rw [h3] at a3
  rw [Cert.MixPreReferenceIdeal.Read.val_main_v38_eq, a0, a1, a2, a3, a4] at r0
  rw [Cert.MixPreReferenceIdeal.Read.val_main_v39_eq, a0, a2, a3] at r1
  exact ⟨r0.trans ((Cert.MixPreReferenceIdeal.Read.v38 X g W U _).trans ((Cert.MixPreKernelIdeal.Value.final5 H).symm)),
    r1.trans ((Cert.MixPreReferenceIdeal.Read.v39 X W U).trans ((Cert.MixPreKernelIdeal.Value.final6 H).symm)), hk⟩

end Cert.Proof.MixPre

end
-- ==== Proof.Rope.lean ====
module

public import proofs.«01_k».proof.Defs
public import proofs.«01_k».proof.Proof.Gen.RopeReferenceIdeal.Run
public import Idealize.ShloMosaic.Lib.Quiescent

/-! The reference's frame. -/

@[expose] public section

namespace Cert.Proof.Rope

open Idealize.ShloMosaic Idealize.SL.Sem

/-- The reference runs, keeps its arguments, and leaves every semaphore at zero. -/
theorem frameR : Cert.quiescent_RopeReferenceIdeal := fun m ρ _ =>
  (θ_run Cert.RopeReferenceIdeal.defs _ _).mono (fun r h => ⟨fun c => (h c).2, sem_eq_zero_of_no_sems (by decide) r.2⟩)
    (Cert.RopeReferenceIdeal.Value.run (F := Ideal) m ρ)

end Cert.Proof.Rope
-- ==== Proof.Loss.lean ====
module

public import proofs.«01_k».proof.Defs
public import proofs.«01_k».proof.Proof.Gen.LossKernel.Frame
public import proofs.«01_k».proof.Proof.Gen.LossKernelIdeal.Frame
public import proofs.«01_k».proof.Proof.Gen.LossReferenceIdeal.Run
public import proofs.«01_k».proof.Proof.Gen.LossReferenceIdeal.Read
public import proofs.«01_k».proof.Proof.Lift
public import Idealize.ShloMosaic.Lib.Pipeline.ReadBack
public import Idealize.ShloMosaic.Lib.Quiescent
public import Idealize.ShloMosaic.Lib.Tactic.ValueTie

/-! The loss and its gradient. Squares are not negative, so the constants pass through the sums for all arguments. -/

@[expose] public section

set_option maxRecDepth 16384

noncomputable section

namespace Cert.LossKernelIdeal.Value

open Idealize.ShloMosaic Idealize.ShloMosaic.TcCoe Idealize.SL.Sem
open Cert.LossKernelIdeal Cert.LossKernelIdeal.Gen Cert.Lift

/-- The square of one difference. -/
def sqd (X Y : S4096x1024.Idx → EReal) (i : S4096x1024.Idx) : EReal := (X i - Y i) * (X i - Y i)

/-- The gradient at one index, as the kernel computes it. -/
def dx (X Y : S4096x1024.Idx → EReal) (i : S4096x1024.Idx) : EReal := (X i - Y i) * Ideal.ofBits .f32 0x3A800000#32

abbrev rowAt (n : ℕ) (r : Fin 512) : Fin 4096 := ⟨(512 * n + r.val) % 4096, Nat.mod_lt _ (by norm_num)⟩

/-- The columns of lane `l`. -/
abbrev colAt (k : Fin 8) (l : Fin 128) : Fin 1024 := ⟨128 * k.val + l.val, by omega⟩

/-- The squares of one block in the columns of lane `l`. -/
def part (X Y : S4096x1024.Idx → EReal) (n : ℕ) (l : Fin 128) : EReal :=
  ∑ k : Fin 8, ∑ r : Fin 512, sqd X Y (ix2 (rowAt n r) (colAt k l))

/-- What the first `n` blocks leave in the accumulator. -/
def acc (X Y : S4096x1024.Idx → EReal) (n : ℕ) : S8x128.Idx → EReal :=
  fun i => if (i 0).val = 0 then ∑ s ∈ Finset.range n, part X Y s (i 1) else 0

variable {m : (ℓ : Loc nD τ sig) → Buf (Elt Ideal) ℓ} {c : Dev nD}

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem row (t : Fin cfg0.N) (s : Fin 512) : t.val * 512 + s.val = (rowAt t.val s).val := by
  have hN : t.val < 8 := lt_of_lt_of_eq t.isLt N_0
  show _ = (512 * t.val + s.val) % 4096; omega

/-- One block of an array. -/
abbrev blk (X : S4096x1024.Idx → EReal) (n : ℕ) : S512x1024.Idx → EReal := fun i => X (ix2 (rowAt n (i 0)) (i 1))

theorem blk0 (t : Fin cfg0.N) : iblk m c 0 t = blk (m ((c : Thread nD τ).loc main_arg0)) t.val := by
  funext i
  refine congrArg (m ((c : Thread nD τ).loc main_arg0)) ((eq_ix2 _).trans (congr (congrArg ix2 (Fin.ext ?_)) (Fin.ext ?_)))
  · blk_simp [idx t]; exact row t _
  · blk_simp [idx t]

theorem blk1 (t : Fin cfg0.N) : iblk m c 1 t = blk (m ((c : Thread nD τ).loc main_arg1)) t.val := by
  funext i
  refine congrArg (m ((c : Thread nD τ).loc main_arg1)) ((eq_ix2 _).trans (congr (congrArg ix2 (Fin.ext ?_)) (Fin.ext ?_)))
  · blk_simp [idx t]; exact row t _
  · blk_simp [idx t]

theorem pay2 (X Y : S4096x1024.Idx → EReal) (n : ℕ) : k0_pay2 (F := Ideal) (blk X n) (blk Y n)
    = blk (dx X Y) n := by
  funext i; idx_vars i
  pointwise [k0_pay2, k0_pay1]
  rfl

theorem pay3 (X Y : S4096x1024.Idx → EReal) (n : ℕ) : k0_pay3 (F := Ideal) (blk X n) (blk Y n)
    = fun i => if (i 0).val = 0 then part X Y n (i 1) else 0 := by
  funext i; idx_vars i
  pointwise [k0_pay3, k0_pay1]
  simp (disch := word_cmp_side) only [hlo_ix]
  by_cases h : i0.val = 0
  · refine (if_pos h).trans (Eq.trans ?_ (if_pos h).symm)
    have c0 : (⟨i1.val, by omega⟩ : Fin 1024) = colAt 0 i1 := Fin.ext (by show i1.val = 128 * 0 + i1.val; omega)
    unfold part
    rw [Fin.sum_univ_eight]
    refine congrArg₂ (· + ·) (congrArg₂ (· + ·) (congrArg₂ (· + ·) (congrArg₂ (· + ·) (congrArg₂ (· + ·) (congrArg₂ (· + ·) (congrArg₂ (· + ·) ?_ rfl) rfl) rfl) rfl) rfl) rfl) rfl
    exact Finset.sum_congr rfl fun r _ => congrArg (fun j => sqd X Y (ix2 (rowAt n r) j)) c0
  · exact (if_neg h).trans (Eq.symm (if_neg h))

theorem pay4 (X Y : S4096x1024.Idx → EReal) (n : ℕ) : k0_pay4 (F := Ideal) (blk X n) (blk Y n) (acc X Y n) = acc X Y (n + 1) := by
  have e : k0_pay4 (F := Ideal) (blk X n) (blk Y n) (acc X Y n) = fun i => acc X Y n i + k0_pay3 (F := Ideal) (blk X n) (blk Y n) i := by
    funext i; idx_vars i
    pointwise [k0_pay4]
  rw [e, pay3]
  funext i
  unfold acc
  by_cases h : (i 0).val = 0
  · simp only [if_pos h]; exact (Finset.sum_range_succ _ _).symm
  · simp only [if_neg h, add_zero]

theorem left : ∀ (n : ℕ) (hn : n < cfg0.N),
    (outsAt0 m c n hn).1 = blk (dx (m ((c : Thread nD τ).loc main_arg0)) (m ((c : Thread nD τ).loc main_arg1))) n
    ∧ (outsAt0 m c n hn).2 = acc (m ((c : Thread nD τ).loc main_arg0)) (m ((c : Thread nD τ).loc main_arg1)) (n + 1) := by
  intro n hn
  have hN : n < 8 := lt_of_lt_of_eq hn N_0
  cases n with
  | zero =>
    rw [outsAt0_A m c ⟨0, hn⟩ (by rfl) (by show ¬ 1 ≤ 0; omega)]
    refine ⟨?_, ?_⟩
    · frame_out
      rw [blk0, blk1, pay2]
    · frame_out
      rw [blk0, blk1, pay3]
      funext i; unfold acc; rw [Finset.sum_range_one]
  | succ n =>
    rw [outsAt0_B m c ⟨n + 1, hn⟩ (by show ¬ (n + 1) % 8 = 0; omega) (by show 1 ≤ n + 1; omega)]
    obtain ⟨_, ih⟩ := left n (by omega)
    refine ⟨?_, ?_⟩
    · frame_out
      rw [blk0, blk1, pay2]
    · frame_out
      simp only [Nat.add_sub_cancel, ih, read_unread_whole]
      rw [blk0, blk1, pay4]

theorem final2 : (dats m 0 c).arrAt 2 cfg0.N
    = dx (m ((c : Thread nD τ).loc main_arg0)) (m ((c : Thread nD τ).loc main_arg1)) := by
  refine (dats m 0 c).arrAt_eq_of_covers 2 _ (by decide +kernel) fun t _ y => ?_
  blk_simp
  rw [after0_2, (left t.val t.isLt).1]
  refine congrArg (dx (m ((c : Thread nD τ).loc main_arg0)) (m ((c : Thread nD τ).loc main_arg1)))
    (Eq.symm ((eq_ix2 _).trans (congr (congrArg ix2 (Fin.ext ?_)) (Fin.ext ?_))))
  · blk_simp [idx t]; exact row t _
  · blk_simp [idx t]

theorem final3 : (dats m 0 c).arrAt 3 cfg0.N = acc (m ((c : Thread nD τ).loc main_arg0)) (m ((c : Thread nD τ).loc main_arg1)) 8 := by
  refine (dats m 0 c).arrAt_eq_of_covers 3 _ (by decide +kernel) fun t ht y => ?_
  have h7 : t.val + 1 = 8 := (by decide +kernel : ∀ t : Fin grid0.N, win0_3.flush t = true → t.val + 1 = 8) t ht
  blk_simp
  rw [after0_3, (left t.val t.isLt).2, h7]
  exact congrArg _ (by blk_ext [idx t])

/-- The whole accumulator holds every square once. -/
theorem sum_acc (X Y : S4096x1024.Idx → EReal) : ∑ i : S8x128.Idx, acc X Y 8 i = ∑ R : Fin 4096, ∑ j : Fin 1024, sqd X Y (ix2 R j) := by
  rw [sum_idx2]
  have e : ∀ a : Fin 8, ∑ b : Fin 128, acc X Y 8 (ix2 a b) = if a = 0 then ∑ b : Fin 128, ∑ s ∈ Finset.range 8, part X Y s b else 0 := by
    intro a
    unfold acc
    by_cases h : a = 0
    · subst h; rfl
    · rw [if_neg h]
      refine Finset.sum_eq_zero fun b _ => if_neg fun h' => h (Fin.ext h')
  rw [Finset.sum_congr rfl fun a _ => e a, Finset.sum_ite_eq' Finset.univ (0 : Fin 8), if_pos (Finset.mem_univ _)]
  unfold part
  have e2 : ∀ b : Fin 128, ∑ s ∈ Finset.range 8, ∑ k : Fin 8, ∑ r : Fin 512, sqd X Y (ix2 (rowAt s r) (colAt k b))
      = ∑ R : Fin 4096, ∑ k : Fin 8, sqd X Y (ix2 R (colAt k b)) := by
    intro b
    rw [Finset.sum_range]
    rw [Finset.sum_congr rfl fun s _ => Finset.sum_comm]
    refine Fin.sum_mul_add_congr fun s k hl => congrArg (fun R => ∑ j : Fin 8, sqd X Y (ix2 R (colAt j b))) (Fin.ext ?_)
    show (512 * s.val + k.val) % 4096 = s.val * 512 + k.val
    omega
  rw [Finset.sum_congr rfl fun b _ => e2 b, Finset.sum_comm]
  refine Finset.sum_congr rfl fun R _ => ?_
  rw [Finset.sum_comm]
  refine Fin.sum_mul_add_congr fun s k hl => congrArg (fun j => sqd X Y (ix2 R j)) (Fin.ext ?_)
  show 128 * s.val + k.val = s.val * 128 + k.val
  omega

/-- The results of the run: the gradient, and the loss as the host's sum over the accumulator. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = (mulf (Host.reduceAdd (acc (m ((c : Thread nD τ).loc main_arg0)) (m ((c : Thread nD τ).loc main_arg1)) 8 : FVec Ideal S8x128 .f32)
            (constant S_ .f32 0x00000000#32) reducesTo_S8x128_S_d0_1 h_S_) (constant S_ .f32 0x3A000000#32) : FVec Ideal S_ .f32)
      ∧ r.2.mem ((c.tc : Thread nD τ).loc main_v0_0) = dx (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_, ?_⟩) (run_main (F := Ideal) m ρ)
  · refine ((h c).2 main_v2 (Pipeline.mem_restRefs_of main_v2 rfl (by decide))).trans ?_
    have e : Pipeline.withArrays (cfgs 0).spec c (V0 m c) (fun w => (dats m 0 c).arrAt w (cfgs 0).N) (Proc.devRef .tc main_v0_1)
        = acc (m ((c : Thread nD τ).loc main_arg0)) (m ((c : Thread nD τ).loc main_arg1)) 8 :=
      (Pipeline.withArrays_arr (cfgs 0).spec launch0.win.arr_inj c (V0 m c) (fun w => (dats m 0 c).arrAt w (cfgs 0).N) 3).trans final3
    unfold Pipeline.afterTail₀
    rw [← e]
    generalize Pipeline.withArrays (cfgs 0).spec c (V0 m c) (fun w => (dats m 0 c).arrAt w (cfgs 0).N) = W
    show StableHlo.after hostOps1 W (Proc.devRef .tc main_v2) = _
    after_results
  · exact ((h c).1 2).trans final2
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.LossKernelIdeal.Value

namespace Cert.Proof.Loss

open Idealize.ShloMosaic Idealize.ShloMosaic.TcCoe Idealize.SL.Sem
open Cert.Lift Cert.LossKernelIdeal.Value

/-- The reference runs, keeps its arguments, and leaves every semaphore at zero. -/
theorem frameR : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)

theorem sq_nonneg (X Y : (⟨2, ![4096, 1024]⟩ : Shape).Idx → EReal) (i) : 0 ≤ sqd X Y i := by
  unfold sqd
  rcases le_total 0 (X i - Y i) with h | h
  · exact EReal.mul_nonneg_iff.mpr (Or.inl ⟨h, h⟩)
  · exact EReal.mul_nonneg_iff.mpr (Or.inr ⟨h, h⟩)

/-- A sum of numbers that are not negative times a constant. -/
theorem sum_mul {ι : Type} (s : Finset ι) (f : ι → EReal) (h : ∀ i, 0 ≤ f i) (a : EReal) : (∑ i ∈ s, f i) * a = ∑ i ∈ s, f i * a := by
  classical
  induction s using Finset.induction_on with
  | empty => simp
  | insert b s hb ih => rw [Finset.sum_insert hb, Finset.sum_insert hb, EReal.right_distrib_of_nonneg (h b) (Finset.sum_nonneg fun i _ => h i), ih]

theorem ofBits_half : Ideal.ofBits .f32 0x3F000000#32 = ((1 / 2 : ℝ) : EReal) := by
  simp [Ideal.ofBits, Ideal.ieee]; rw [← EReal.coe_mul]; norm_num

theorem ofBits_one : Ideal.ofBits .f32 0x3F800000#32 = ((1 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_1024' : Ideal.ofBits .f32 0x3A800000#32 = ((1 / 1024 : ℝ) : EReal) := by
  simp [Ideal.ofBits, Ideal.ieee]; rw [← EReal.coe_mul]; norm_num

theorem ofBits_2048' : Ideal.ofBits .f32 0x3A000000#32 = ((1 / 2048 : ℝ) : EReal) := by
  simp [Ideal.ofBits, Ideal.ieee]; rw [← EReal.coe_mul]; norm_num

theorem div_1024 (x : EReal) : Ideal.div x ((1024 : ℝ) : EReal) = x * ((1 / 1024 : ℝ) : EReal) := by
  have h : ((1024 : ℝ) : EReal) ≠ 0 := by exact_mod_cast (by norm_num : (1024 : ℝ) ≠ 0)
  rw [Ideal.div, if_neg h, ← EReal.coe_inv, one_div]

/-- The reference's gradient. -/
theorem v14 (X Y : (⟨2, ![4096, 1024]⟩ : Shape).Idx → EReal) : Cert.LossReferenceIdeal.Read.val_main_v14 (F := Ideal) X Y = dx X Y := by
  funext i
  simp only [Cert.LossReferenceIdeal.Read.val_main_v14_apply, Cert.LossReferenceIdeal.Read.val_main_v13_apply, Cert.LossReferenceIdeal.Read.val_main_v12_apply,
    Cert.LossReferenceIdeal.Read.val_main_v11_apply, Cert.LossReferenceIdeal.Read.val_main_cst_6_apply, Cert.LossReferenceIdeal.Read.val_main_v10_apply,
    Cert.LossReferenceIdeal.Read.val_main_v9_apply, Cert.LossReferenceIdeal.Read.val_main_cst_5_apply, Cert.LossReferenceIdeal.Read.val_main_cst_4_apply,
    Cert.LossReferenceIdeal.Read.val_main_v3_apply, Cert.LossReferenceIdeal.Read.val_main_v2_apply, Cert.LossReferenceIdeal.Read.val_main_cst_apply,
    Cert.LossReferenceIdeal.Read.val_main_v0_apply]
  show Ideal.div (Ideal.ofBits .f32 0x3F000000#32 * Ideal.ofBits .f32 0x3F800000#32) (Ideal.ofBits .f32 0x44800000#32)
    * (Ideal.ofBits .f32 0x40000000#32 * (X i - Y i)) = (X i - Y i) * Ideal.ofBits .f32 0x3A800000#32
  rw [ofBits_half, ofBits_one, ofBits_1024, ofBits_two, ofBits_1024', div_1024, mul_comm, mul_comm ((2 : ℝ) : EReal), mul_assoc]
  simp only [Lift.mul]
  norm_num

/-- The reference's loss. -/
theorem v8 (X Y : (⟨2, ![4096, 1024]⟩ : Shape).Idx → EReal) (i) : Cert.LossReferenceIdeal.Read.val_main_v8 (F := Ideal) X Y i
    = (∑ R : Fin 4096, ∑ j : Fin 1024, sqd X Y (ix2 R j)) * ((1 / 2048 : ℝ) : EReal) := by
  have e6 : ∀ R : Fin 4096, Cert.LossReferenceIdeal.Read.val_main_v6 (F := Ideal) X Y (ix1 R) = (∑ j : Fin 1024, sqd X Y (ix2 R j)) * ((1 / 1024 : ℝ) : EReal) := by
    intro R
    rw [Cert.LossReferenceIdeal.Read.val_main_v6_apply, Cert.LossReferenceIdeal.Read.val_main_v4_apply, Cert.LossReferenceIdeal.Read.val_main_v5_apply,
      Cert.LossReferenceIdeal.Read.val_main_cst_1_apply, Cert.LossReferenceIdeal.Read.val_main_cst_0_apply]
    show Ideal.div (Ideal.ofBits .f32 0x00000000#32 + ∑ k : Fin 1024, sqd X Y _) (Ideal.ofBits .f32 0x44800000#32) = _
    rw [ofBits_1024, div_1024, Ideal.ofBits_zero_f32, zero_add]
    refine congrArg (· * _) (Finset.sum_congr rfl fun k _ => congrArg (sqd X Y) ?_)
    exact eq_ix2 _
  rw [Cert.LossReferenceIdeal.Read.val_main_v8_apply, Cert.LossReferenceIdeal.Read.val_main_v7_apply, Cert.LossReferenceIdeal.Read.val_main_cst_3_apply,
    Cert.LossReferenceIdeal.Read.val_main_cst_2_apply, sum_idx1, Finset.sum_congr rfl fun R _ => e6 R,
    ← sum_mul Finset.univ _ (fun R => Finset.sum_nonneg fun j _ => sq_nonneg X Y _)]
  show Ideal.ofBits .f32 0x3F000000#32 * (Ideal.ofBits .f32 0x00000000#32 + _) = _
  rw [ofBits_half, Ideal.ofBits_zero_f32, zero_add, mul_comm, mul_assoc, Lift.mul]
  norm_num

/-- The loss and the gradient of the kernel are the reference's. -/
theorem algebraic : Cert.algebraic_LossKernelIdeal_LossReferenceIdeal := by
  intro m ρ m' ρ' _ hagree
  refine ⟨_, _, run m ρ, ?_⟩
  refine (θ_run Cert.LossReferenceIdeal.defs _ _).mono (fun _ h c => ?_) (Cert.LossReferenceIdeal.Value.run (F := Ideal) m' ρ')
  obtain ⟨r0, r1, hk⟩ := h c
  obtain ⟨a0, a1⟩ := hagree c
  rw [Cert.LossReferenceIdeal.Read.val_main_v8_eq, a0, a1] at r0
  rw [Cert.LossReferenceIdeal.Read.val_main_v14_eq, a0, a1] at r1
  refine ⟨r0.trans ?_, r1.trans (v14 _ _), hk⟩
  funext i
  rw [v8]
  generalize m ((c.tc : Thread Cert.LossKernelIdeal.nD Cert.LossKernelIdeal.τ).loc Cert.LossKernelIdeal.main_arg0) = X
  generalize m ((c.tc : Thread Cert.LossKernelIdeal.nD Cert.LossKernelIdeal.τ).loc Cert.LossKernelIdeal.main_arg1) = Y
  show _ = Ideal.hostReduceAdd _ (acc X Y 8) (Ideal.ofBits .f32 0x00000000#32) i * Ideal.ofBits .f32 0x3A000000#32
  rw [Ideal.hostReduceAdd_total _ (fun b => b.elim0), sum_acc, Ideal.ofBits_zero_f32, zero_add, ofBits_2048']

end Cert.Proof.Loss

end
-- ==== Proof.Ext.lean ====
module

public import Idealize.ShloMosaic.Lib.Pipeline.ValueKit

/-! Arrays of extended reals, and a row's norm over them. -/

@[expose] public section

noncomputable section

namespace Cert.Ext

open Idealize.ShloMosaic

/-- Matrices and rows of extended reals as arrays. -/
abbrev E (n m : ℕ) := Fin n → Fin m → EReal
abbrev e2 {n m : ℕ} (f : E n m) : (⟨2, ![n, m]⟩ : Shape).Idx → EReal := fun i => f (i 0) (i 1)
abbrev e1 {n : ℕ} (f : Fin n → EReal) : (⟨1, ![n]⟩ : Shape).Idx → EReal := fun i => f (i 0)
abbrev e3 {n m k : ℕ} (f : Fin n → Fin m → Fin k → EReal) : (⟨3, ![n, m, k]⟩ : Shape).Idx → EReal := fun i => f (i 0) (i 1) (i 2)

theorem exists_e2 {n m : ℕ} (x : (⟨2, ![n, m]⟩ : Shape).Idx → EReal) : ∃ f : E n m, x = e2 f :=
  ⟨fun a b => x (ix2 a b), funext fun i => congrArg x (by funext a; match a with | ⟨0, _⟩ => rfl | ⟨1, _⟩ => rfl)⟩
theorem exists_e1 {n : ℕ} (x : (⟨1, ![n]⟩ : Shape).Idx → EReal) : ∃ f : Fin n → EReal, x = e1 f :=
  ⟨fun a => x (ix1 a), funext fun i => congrArg x (by funext a; match a with | ⟨0, _⟩ => rfl)⟩

/-- The inverse root of a row's mean square plus 1e-6. -/
def rs (x : Fin 1024 → EReal) : EReal :=
  Ideal.rsqrt (Ideal.div (∑ a, x a * x a) (Ideal.ofBits .f32 0x44800000#32) + Ideal.ofBits .f32 0x358637BD#32)

/-- A row normed by its root mean square and scaled by a gain. -/
def nrm (g x : Fin 1024 → EReal) (a : Fin 1024) : EReal := x a * rs x * g a

end Cert.Ext

end
-- ==== Proof.NormKv.lean ====
module

public import proofs.«01_k».proof.Defs
public import proofs.«01_k».proof.Proof.Ext
public import proofs.«01_k».proof.Proof.Gen.NormKvKernelIdeal.Value
public import proofs.«01_k».proof.Proof.Gen.NormKvReferenceIdeal.Run
public import proofs.«01_k».proof.Proof.Gen.NormKvReferenceIdeal.Read
public import Idealize.ShloMosaic.Lib.Quiescent

/-! The memory's norm and its product with the key and value weights. Both programs compute it the same way, over all extended reals. -/

@[expose] public section

set_option maxRecDepth 16384

noncomputable section

namespace Cert.NormKvKernelIdeal.Value

open Idealize.ShloMosaic Idealize.ShloMosaic.TcCoe Idealize.SL.Sem
open Cert.NormKvKernelIdeal Cert.NormKvKernelIdeal.Gen Cert.Ext

variable (X : E 256 1024) (g : Fin 1024 → EReal) (w : E 1024 1024)

theorem pay1 : k0_pay1 (F := Ideal) (e2 X) (e2 fun _ : Fin 1 => g) = e2 fun r => nrm g (X r) := by
  funext i; idx_vars i; pointwise [k0_pay1]; rfl

theorem pay2 : k0_pay2 (F := Ideal) (e2 X) (e2 fun _ : Fin 1 => g) = e2 fun r => nrm g (X r) := by
  unfold k0_pay2; rw [pay1]; funext i; idx_vars i; pointwise

theorem pay3 : k0_pay3 (F := Ideal) (e2 X) (e2 fun _ : Fin 1 => g) = e2 fun r => nrm g (X r) := by
  unfold k0_pay3; rw [pay1]; funext i; idx_vars i; pointwise

theorem pay4 : k0_pay4 (F := Ideal) (e2 X) (e2 w) = e2 fun r j => ∑ a, X r a * w a j := by
  funext i; idx_vars i; pointwise [k0_pay4]; rfl

variable {m : (ℓ : Loc nD τ sig) → Buf (Elt Ideal) ℓ} {c : Dev nD} {X : E 256 1024} {g : Fin 1024 → EReal} {w : E 1024 1024}

/-- The region's operands hold these arrays. -/
structure Ops (m : (ℓ : Loc nD τ sig) → Buf (Elt Ideal) ℓ) (c : Dev nD) (X : E 256 1024) (g : Fin 1024 → EReal) (w : E 1024 1024) : Prop where
  x : V m c main_arg0 = e2 X
  g : V m c main_v0 = e2 fun _ : Fin 1 => g
  w : V m c main_v1 = e2 w

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

theorem blk0 (H : Ops m c X g w) (t : Fin cfg0.N) : iblk m c 0 t = e2 X := by
  funext i; exact (congrFun H.x (((cfg0.win 0).blk t).view.emb i)).trans (congrArg (e2 _) (by blk_ext [idx t]))
theorem blk1 (H : Ops m c X g w) (t : Fin cfg0.N) : iblk m c 1 t = e2 fun _ : Fin 1 => g := by
  funext i; exact (congrFun H.g (((cfg0.win 1).blk t).view.emb i)).trans (congrArg (e2 _) (by blk_ext [idx t]))
theorem blk2 (H : Ops m c X g w) (t : Fin cfg0.N) : iblk m c 2 t = e2 w := by
  funext i; exact (congrFun H.w (((cfg0.win 2).blk t).view.emb i)).trans (congrArg (e2 _) (by blk_ext [idx t]))

theorem final3 (H : Ops m c X g w) : (dats m 0 c).arrAt 3 cfg0.N = e2 fun r j => ∑ a, nrm g (X r) a * w a j := by
  refine (dats m 0 c).arrAt_eq_of_covers 3 _ (by decide +kernel) fun t _ y => ?_
  blk_simp
  rw [after0_3]; unfold outsAt0; frame_out
  rw [blk0 H, blk1 H, blk2 H, pay2, pay4]
  exact congrArg (e2 _) (by blk_ext [idx t])

theorem final4 (H : Ops m c X g w) : (dats m 0 c).arrAt 4 cfg0.N = e2 fun r => nrm g (X r) := by
  refine (dats m 0 c).arrAt_eq_of_covers 4 _ (by decide +kernel) fun t _ y => ?_
  blk_simp
  rw [after0_4]; unfold outsAt0; frame_out
  rw [blk0 H, blk1 H, pay3]
  exact congrArg (e2 _) (by blk_ext [idx t])

theorem ops (m : (ℓ : Loc nD τ sig) → Buf (Elt Ideal) ℓ) (c : Dev nD) (X : E 256 1024) (g : Fin 1024 → EReal) (w : E 1024 1024)
    (h0 : m ((c : Thread nD τ).loc main_arg0) = e2 X) (h1 : m ((c : Thread nD τ).loc main_arg1) = e1 g)
    (h2 : m ((c : Thread nD τ).loc main_arg2) = e2 w) : Ops m c X g w where
  x := (V_main_arg0 m c).trans h0
  g := by entry_read; rw [h1]; funext i; idx_vars i; pointwise; rfl
  w := by entry_read; rw [h2]; rfl

end Cert.NormKvKernelIdeal.Value

namespace Cert.NormKvReferenceIdeal.Read

open Idealize.ShloMosaic
open Cert.NormKvReferenceIdeal Cert.Ext
variable (X : E 256 1024) (g : Fin 1024 → EReal) (w : E 1024 1024)

theorem v12 : val_main_v12 (F := Ideal) (e2 X) (e1 g) = e2 fun r => nrm g (X r) := by
  funext i; idx_vars i
  pointwise [val_main_v12, val_main_v11, val_main_v10, val_main_v9, val_main_v8, val_main_v7, val_main_v6, val_main_v5, val_main_cst_1, val_main_v4, val_main_v3, val_main_cst_0, val_main_v2, val_main_v1, val_main_v0, val_main_cst]
  rfl

theorem v15 : val_main_v15 (F := Ideal) (e2 X) (e1 g) = e2 fun r => nrm g (X r) := by
  funext i; idx_vars i; pointwise [val_main_v15, v12 X g]

theorem v14 : val_main_v14 (F := Ideal) (e2 X) (e1 g) (e2 w) = e2 fun r j => ∑ a, nrm g (X r) a * w a j := by
  funext i; idx_vars i; pointwise [val_main_v14, val_main_v13, v12 X g]; rfl

end Cert.NormKvReferenceIdeal.Read

namespace Cert.Proof.NormKv

open Idealize.ShloMosaic Idealize.ShloMosaic.TcCoe Idealize.SL.Sem
open Cert.Ext

/-- The reference runs, keeps its arguments, and leaves every semaphore at zero. -/
theorem frameR : Cert.quiescent_NormKvReferenceIdeal := fun m ρ _ =>
  (θ_run Cert.NormKvReferenceIdeal.defs _ _).mono (fun r h => ⟨fun c => (h c).2.2, sem_eq_zero_of_no_sems (by decide) r.2⟩)
    (Cert.NormKvReferenceIdeal.Value.run (F := Ideal) m ρ)

/-- The kernel's two results are the reference's. -/
theorem algebraic : Cert.algebraic_NormKvKernelIdeal_NormKvReferenceIdeal := by
  intro m ρ m' ρ' hpre hagree
  refine ⟨_, _, Cert.NormKvKernelIdeal.Value.run_blocks (F := Ideal) m ρ, ?_⟩
  refine (θ_run Cert.NormKvReferenceIdeal.defs _ _).mono (fun _ h c => ?_) (Cert.NormKvReferenceIdeal.Value.run (F := Ideal) m' ρ')
  obtain ⟨r0, r1, hk⟩ := h c
  obtain ⟨X, h0⟩ := exists_e2 (m ((c.tc : Thread _ _).loc Cert.NormKvKernelIdeal.main_arg0))
  obtain ⟨g, h1⟩ := exists_e1 (m ((c.tc : Thread _ _).loc Cert.NormKvKernelIdeal.main_arg1))
  obtain ⟨w, h2⟩ := exists_e2 (m ((c.tc : Thread _ _).loc Cert.NormKvKernelIdeal.main_arg2))
  obtain ⟨a0, a1, a2⟩ := hagree c
  have H := Cert.NormKvKernelIdeal.Value.ops m c X g w h0 h1 h2
  have b0 : m' ((c.tc : Thread _ _).loc Cert.NormKvReferenceIdeal.main_arg0) = e2 X := a0.trans h0
  have b1 : m' ((c.tc : Thread _ _).loc Cert.NormKvReferenceIdeal.main_arg1) = e1 g := a1.trans h1
  have b2 : m' ((c.tc : Thread _ _).loc Cert.NormKvReferenceIdeal.main_arg2) = e2 w := a2.trans h2
  rw [Cert.NormKvReferenceIdeal.Read.val_main_v14_eq, b0, b1, b2] at r0
  rw [Cert.NormKvReferenceIdeal.Read.val_main_v15_eq, b0, b1] at r1
  exact ⟨r0.trans ((Cert.NormKvReferenceIdeal.Read.v14 X g w).trans (Cert.NormKvKernelIdeal.Value.final3 H).symm),
    r1.trans ((Cert.NormKvReferenceIdeal.Read.v15 X g).trans (Cert.NormKvKernelIdeal.Value.final4 H).symm), hk⟩

end Cert.Proof.NormKv

end
-- ==== Proof.FfnFwd.lean ====
module

public import proofs.«01_k».proof.Defs
public import proofs.«01_k».proof.Proof.Ext
public import proofs.«01_k».proof.Proof.Gen.FfnFwdKernelIdeal.Value
public import proofs.«01_k».proof.Proof.Gen.FfnFwdReferenceIdeal.Run
public import proofs.«01_k».proof.Proof.Gen.FfnFwdReferenceIdeal.Read
public import Idealize.ShloMosaic.Lib.Pipeline.ReadBack
public import Idealize.ShloMosaic.Lib.Quiescent

/-! The feed-forward branch's forward call. Both programs compute each row the same way, over all extended reals; the kernel hands the
last rows of a block to the next one. -/

@[expose] public section

set_option maxRecDepth 16384

noncomputable section

namespace Cert.FfnFwd

open Idealize.ShloMosaic Cert.Ext

/-- The rows `k` places before, zero before the first one. -/
def sh (k : ℕ) (u : E 4096 2816) (r : Fin 4096) (j : Fin 2816) : EReal := if h : k ≤ r.val then u ⟨r.val - k, by omega⟩ j else 0

/-- Three taps of one column. -/
abbrev taps (f : E 3 2816) (z2 z1 z : EReal) (j : Fin 2816) : EReal := f 0 j * z2 + f 1 j * z1 + f 2 j * z

/-- The arrays of the branch: its input's two halves, the filter, the weights down, the gain and what it is added to. -/
structure Arr where
  x : E 4096 1024
  a : E 4096 2816
  b : E 4096 2816
  k : E 3 2816
  w : E 2816 1024
  g : Fin 1024 → EReal

namespace Arr
variable (z : Arr)
def f (r : Fin 4096) (j : Fin 2816) : EReal := taps z.k (sh 2 z.a r j) (sh 1 z.a r j) (z.a r j) j
def act (r : Fin 4096) (j : Fin 2816) : EReal := z.f r j * Ideal.logistic (z.f r j) * z.b r j
def y (r : Fin 4096) (i : Fin 1024) : EReal := ∑ j, z.act r j * z.w j i
def out (r : Fin 4096) (i : Fin 1024) : EReal := z.x r i + nrm z.g (z.y r) i
end Arr

end Cert.FfnFwd

namespace Cert.FfnFwdKernelIdeal.Value

open Idealize.ShloMosaic Idealize.ShloMosaic.TcCoe Idealize.SL.Sem
open Cert.FfnFwdKernelIdeal Cert.FfnFwdKernelIdeal.Gen Cert.Ext Cert.FfnFwd

/-- Eight rows, and below them the rows of a block. -/
def ext (e : E 8 2816) (f : E 512 2816) : E 520 2816 := fun i j => if h : i.val < 8 then e ⟨i.val, h⟩ j else f ⟨i.val - 8, by omega⟩ j

/-- Row `8 + r - k` of the extended block. -/
def dn (k : Fin 9) (v : E 520 2816) : E 512 2816 := fun r j => v ⟨8 + r.val - k.val, by omega⟩ j

/-- The three taps of a block's rows. -/
def cb (e : E 8 2816) (f : E 512 2816) (k : E 3 2816) : E 512 2816 := fun r j => taps k (dn 2 (ext e f) r j) (dn 1 (ext e f) r j) (f r j) j

theorem pay1 (y x : E 512 1024) (g : Fin 1024 → EReal) : k0_pay1 (F := Ideal) (e2 y) (e2 x) (e2 fun _ : Fin 1 => g)
    = e2 fun r i => x r i + nrm g (y r) i := by
  funext i; idx_vars i; pointwise [k0_pay1]; rfl

theorem pay2 (f : E 512 2816) : k0_pay2 (F := Ideal) (e2 f) = e2 fun (i : Fin 8) j => f ⟨504 + i.val, by omega⟩ j := by
  funext i; idx_vars i; pointwise [k0_pay2]; rfl

theorem pay3 : k0_pay3 (F := Ideal) = e2 fun (_ : Fin 8) _ => 0 := by
  funext i; idx_vars i; pointwise [k0_pay3]

theorem pay4 (f : E 512 2816) : k0_pay4 (F := Ideal) (e2 f) = e2 f := by
  funext i; idx_vars i; pointwise [k0_pay4]

theorem cat (e : E 8 2816) (f : E 512 2816) : concatenate (α := Ideal .f32) S520x2816 0 [⟨S8x2816, e2 e⟩, ⟨S512x2816, e2 f⟩] concatenates_S8x2816_S512x2816_S520x2816_d0
    = e2 (ext e f) := by
  funext i; idx_vars i; pointwise
  show _ = ext e f i0 i1
  unfold ext; split <;> rfl

theorem pay5 (f : E 512 2816) (e : E 8 2816) (k : E 3 2816) : k0_pay5 (F := Ideal) (e2 f) (e2 e) (e2 k) = e2 (cb e f k) := by
  unfold k0_pay5; rw [pay4, cat]
  generalize hv : ext e f = v
  funext i; idx_vars i; pointwise
  show _ = cb e f k i0 i1
  unfold cb; rw [hv]
  refine congrArg (· + _) (congrArg₂ (· + ·) (congrArg _ (congrArg (fun r => v r i1) (Fin.ext ?_))) (congrArg _ (congrArg (fun r => v r i1) (Fin.ext ?_))))
  · show (8 + i0.val + 520 - 2) % 520 = 8 + i0.val - 2; omega
  · show (8 + i0.val + 520 - 1) % 520 = 8 + i0.val - 1; omega

theorem pay6 (f : E 512 2816) (e : E 8 2816) (k : E 3 2816) : k0_pay6 (F := Ideal) (e2 f) (e2 e) (e2 k) = e2 (cb e f k) := by
  unfold k0_pay6; rw [pay5]; funext i; idx_vars i; pointwise

theorem pay7 (f b : E 512 2816) (e : E 8 2816) (k : E 3 2816) : k0_pay7 (F := Ideal) (e2 f) (e2 e) (e2 k) (e2 b)
    = e2 fun r j => cb e f k r j * Ideal.logistic (cb e f k r j) * b r j := by
  unfold k0_pay7; rw [pay5]; funext i; idx_vars i; pointwise

theorem pay8 (f b : E 512 2816) (e : E 8 2816) (k : E 3 2816) (w : E 2816 1024) : k0_pay8 (F := Ideal) (e2 f) (e2 e) (e2 k) (e2 b) (e2 w)
    = e2 fun r i => ∑ j, (cb e f k r j * Ideal.logistic (cb e f k r j) * b r j) * w j i := by
  unfold k0_pay8; rw [pay7]; funext i; idx_vars i; pointwise; rfl

theorem idx : ∀ t : Fin cfg0.N, win0_0.index t = ![t.val, 0] ∧ win0_1.index t = ![t.val, 0] ∧ win0_2.index t = ![t.val, 1]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-- Row `r` of the block of point `n`. -/
abbrev rowAt (n : ℕ) (r : Fin 512) : Fin 4096 := ⟨(n * 512 + r.val) % 4096, Nat.mod_lt _ (by norm_num)⟩

theorem row (t : Fin cfg0.N) (s : Fin 512) : t.val * 512 + s.val = (rowAt t.val s).val := by
  have := lt_of_lt_of_eq t.isLt N_0
  show _ = (t.val * 512 + s.val) % 4096; omega

variable (z : Arr)

/-- What the block of point `n` finds of the block before it. -/
def carry : ℕ → E 8 2816
  | 0 => fun _ _ => 0
  | n + 1 => fun i j => z.a (rowAt n ⟨504 + i.val, by omega⟩) j

/-- The extended block reads the rows before a row. -/
theorem dn_ext (n : ℕ) (hn : n < 8) (k : Fin 9) (r : Fin 512) (j : Fin 2816) :
    dn k (ext (carry z n) fun r => z.a (rowAt n r)) r j = sh k.val z.a (rowAt n r) j := by
  have e : ∀ (R : Fin 4096), R.val + k.val = n * 512 + r.val → z.a R j = sh k.val z.a (rowAt n r) j := fun R hR => by
    have hr : (rowAt n r).val = n * 512 + r.val := Nat.mod_eq_of_lt (by omega)
    unfold sh; rw [dif_pos (by omega)]
    exact congrArg (fun R => z.a R j) (Fin.ext (by show R.val = (rowAt n r).val - k.val; omega))
  unfold dn ext
  by_cases h : 8 + r.val - k.val < 8
  · rw [dif_pos h]
    cases n with
    | zero =>
      unfold sh
      rw [dif_neg (by show ¬ k.val ≤ (0 * 512 + r.val) % 4096; omega)]; rfl
    | succ n => exact e _ (by show (n * 512 + (504 + (8 + r.val - k.val))) % 4096 + k.val = _; omega)
  · rw [dif_neg h]
    exact e _ (by show (n * 512 + (8 + r.val - k.val - 8)) % 4096 + k.val = _; omega)

theorem cb_eq (n : ℕ) (hn : n < 8) : cb (carry z n) (fun r => z.a (rowAt n r)) z.k = fun r => z.f (rowAt n r) := by
  funext r j; unfold cb; rw [dn_ext z n hn, dn_ext z n hn]; rfl

/-- The region's operands hold the branch's arrays. -/
structure Ops (m : (ℓ : Loc nD τ sig) → Buf (Elt Ideal) ℓ) (c : Dev nD) (U : E 4096 5632) (z : Arr) : Prop where
  x : V m c main_arg0 = e2 z.x
  u : V m c main_v0 = e2 U
  k : V m c main_arg2 = e2 z.k
  w : V m c main_v1 = e2 z.w
  g : V m c main_v2 = e2 fun _ : Fin 1 => z.g
  a : z.a = fun r j => U r ⟨j.val, by omega⟩
  b : z.b = fun r j => U r ⟨2816 + j.val, by omega⟩

variable {m : (ℓ : Loc nD τ sig) → Buf (Elt Ideal) ℓ} {c : Dev nD} {z} {U : E 4096 5632}

theorem blk0 (H : Ops m c U z) (t : Fin cfg0.N) : iblk m c 0 t = e2 fun r => z.x (rowAt t.val r) := by
  funext i
  refine (congrFun H.x (((cfg0.win 0).blk t).view.emb i)).trans (congr (congrArg z.x (Fin.ext ?_)) (Fin.ext ?_))
  · blk_simp [idx t]; exact row t _
  · blk_simp [idx t]

theorem blk1 (H : Ops m c U z) (t : Fin cfg0.N) : iblk m c 1 t = e2 fun r => z.a (rowAt t.val r) := by
  funext i
  rw [H.a]
  refine (congrFun H.u (((cfg0.win 1).blk t).view.emb i)).trans (congr (congrArg U (Fin.ext ?_)) (Fin.ext ?_))
  · blk_simp [idx t]; exact row t _
  · blk_simp [idx t]

theorem blk2 (H : Ops m c U z) (t : Fin cfg0.N) : iblk m c 2 t = e2 fun r => z.b (rowAt t.val r) := by
  funext i
  rw [H.b]
  refine (congrFun H.u (((cfg0.win 2).blk t).view.emb i)).trans (congr (congrArg U (Fin.ext ?_)) (Fin.ext ?_))
  · blk_simp [idx t]; exact row t _
  · blk_simp [idx t]

theorem blk3 (H : Ops m c U z) (t : Fin cfg0.N) : iblk m c 3 t = e2 z.k := by
  funext i; exact (congrFun H.k (((cfg0.win 3).blk t).view.emb i)).trans (congrArg (e2 _) (by blk_ext [idx t]))
theorem blk4 (H : Ops m c U z) (t : Fin cfg0.N) : iblk m c 4 t = e2 z.w := by
  funext i; exact (congrFun H.w (((cfg0.win 4).blk t).view.emb i)).trans (congrArg (e2 _) (by blk_ext [idx t]))
theorem blk5 (H : Ops m c U z) (t : Fin cfg0.N) : iblk m c 5 t = e2 fun _ : Fin 1 => z.g := by
  funext i; exact (congrFun H.g (((cfg0.win 5).blk t).view.emb i)).trans (congrArg (e2 _) (by blk_ext [idx t]))

/-- What point `n` leaves, after the points before it. -/
theorem left (H : Ops m c U z) : ∀ (n : ℕ) (hn : n < cfg0.N),
    (outsAt0 m c n hn).1 = (e2 fun r => z.act (rowAt n r))
    ∧ (outsAt0 m c n hn).2.1 = (e2 fun r => z.y (rowAt n r))
    ∧ (outsAt0 m c n hn).2.2.1 = (e2 fun r => z.out (rowAt n r))
    ∧ (outsAt0 m c n hn).2.2.2.1 = (e2 fun r => z.f (rowAt n r))
    ∧ (outsAt0 m c n hn).2.2.2.2 = e2 (carry z (n + 1)) := by
  intro n hn
  have hN : n < 8 := lt_of_lt_of_eq hn N_0
  cases n with
  | zero =>
    rw [outsAt0_A m c ⟨0, hn⟩ (by rfl)]
    have p3 : k0_pay3 (F := Ideal) = e2 (carry z 0) := pay3
    refine ⟨?_, ?_, ?_, ?_, ?_⟩
    · frame_out
      rw [blk1 H, blk2 H, blk3 H, p3, pay7, cb_eq z 0 hN]; rfl
    · frame_out
      rw [blk1 H, blk2 H, blk3 H, blk4 H, p3, pay8, cb_eq z 0 hN]; rfl
    · frame_out
      rw [blk0 H, blk1 H, blk2 H, blk3 H, blk4 H, blk5 H, p3, pay8, pay1, cb_eq z 0 hN]; rfl
    · frame_out
      rw [blk1 H, blk3 H, p3, pay6, cb_eq z 0 hN]
    · frame_out
      rw [blk1 H, pay4, pay2]; rfl
  | succ n =>
    rw [outsAt0_B m c ⟨n + 1, hn⟩ (by show ¬ (n + 1) % 8 = 0; omega)]
    obtain ⟨_, _, _, _, ih⟩ := left H n (by omega)
    refine ⟨?_, ?_, ?_, ?_, ?_⟩
    · frame_out
      simp only [Nat.add_sub_cancel, ih, read_unread_whole]
      rw [blk1 H, blk2 H, blk3 H, pay7, cb_eq z (n + 1) hN]; rfl
    · frame_out
      simp only [Nat.add_sub_cancel, ih, read_unread_whole]
      rw [blk1 H, blk2 H, blk3 H, blk4 H, pay8, cb_eq z (n + 1) hN]; rfl
    · frame_out
      simp only [Nat.add_sub_cancel, ih, read_unread_whole]
      rw [blk0 H, blk1 H, blk2 H, blk3 H, blk4 H, blk5 H, pay8, pay1, cb_eq z (n + 1) hN]; rfl
    · frame_out
      simp only [Nat.add_sub_cancel, ih, read_unread_whole]
      rw [blk1 H, blk3 H, pay6, cb_eq z (n + 1) hN]
    · frame_out
      rw [blk1 H, pay4, pay2]; rfl

theorem last6 (H : Ops m c U z) : (dats m 0 c).arrAt 6 cfg0.N = e2 z.act := by
  refine (dats m 0 c).arrAt_eq_of_covers 6 _ (by decide +kernel) fun t _ y => ?_
  blk_simp
  rw [after0_6, (left H t.val t.isLt).1]
  refine congr (congrArg z.act (Fin.ext ?_)) (Fin.ext ?_)
  · blk_simp [idx t]; exact (row t _).symm
  · blk_simp [idx t]

theorem last7 (H : Ops m c U z) : (dats m 0 c).arrAt 7 cfg0.N = e2 z.y := by
  refine (dats m 0 c).arrAt_eq_of_covers 7 _ (by decide +kernel) fun t _ y => ?_
  blk_simp
  rw [after0_7, (left H t.val t.isLt).2.1]
  refine congr (congrArg z.y (Fin.ext ?_)) (Fin.ext ?_)
  · blk_simp [idx t]; exact (row t _).symm
  · blk_simp [idx t]

theorem last8 (H : Ops m c U z) : (dats m 0 c).arrAt 8 cfg0.N = e2 z.out := by
  refine (dats m 0 c).arrAt_eq_of_covers 8 _ (by decide +kernel) fun t _ y => ?_
  blk_simp
  rw [after0_8, (left H t.val t.isLt).2.2.1]
  refine congr (congrArg z.out (Fin.ext ?_)) (Fin.ext ?_)
  · blk_simp [idx t]; exact (row t _).symm
  · blk_simp [idx t]

theorem last9 (H : Ops m c U z) : (dats m 0 c).arrAt 9 cfg0.N = e2 z.f := by
  refine (dats m 0 c).arrAt_eq_of_covers 9 _ (by decide +kernel) fun t _ y => ?_
  blk_simp
  rw [after0_9, (left H t.val t.isLt).2.2.2.1]
  refine congr (congrArg z.f (Fin.ext ?_)) (Fin.ext ?_)
  · blk_simp [idx t]; exact (row t _).symm
  · blk_simp [idx t]

/-- The branch's arrays, of the arguments. -/
abbrev arr (X : E 4096 1024) (U : E 4096 5632) (k : E 3 2816) (w : E 2816 1024) (g : Fin 1024 → EReal) : Arr :=
  ⟨X, fun r j => U r ⟨j.val, by omega⟩, fun r j => U r ⟨2816 + j.val, by omega⟩, k, w, g⟩

theorem ops (m : (ℓ : Loc nD τ sig) → Buf (Elt Ideal) ℓ) (c : Dev nD) (X : E 4096 1024) (U : E 4096 5632) (k : E 3 2816) (w : E 2816 1024) (g : Fin 1024 → EReal)
    (h0 : m ((c : Thread nD τ).loc main_arg0) = e2 X) (h1 : m ((c : Thread nD τ).loc main_arg1) = e2 U)
    (h2 : m ((c : Thread nD τ).loc main_arg2) = e2 k) (h3 : m ((c : Thread nD τ).loc main_arg3) = e2 w)
    (h4 : m ((c : Thread nD τ).loc main_arg4) = e1 g) : Ops m c U (arr X U k w g) where
  x := (V_main_arg0 m c).trans h0
  u := by entry_read; rw [h1]; rfl
  k := (V_main_arg2 m c).trans h2
  w := by entry_read; rw [h3]; rfl
  g := by entry_read; rw [h4]; funext i; idx_vars i; pointwise; rfl
  a := rfl
  b := rfl

end Cert.FfnFwdKernelIdeal.Value

namespace Cert.FfnFwdReferenceIdeal.Read

open Idealize.ShloMosaic
open Cert.FfnFwdReferenceIdeal Cert.Ext Cert.FfnFwd Cert.FfnFwdKernelIdeal.Value
variable (X : E 4096 1024) (U : E 4096 5632) (k : E 3 2816) (w : E 2816 1024) (g : Fin 1024 → EReal)

theorem v0 : val_main_v0 (F := Ideal) (e2 U) = e2 (arr X U k w g).a := by
  funext i; idx_vars i; pointwise [val_main_v0]; rfl

theorem v25 : val_main_v25 (F := Ideal) (e2 U) = e2 (arr X U k w g).b := by
  funext i; idx_vars i; pointwise [val_main_v25]; rfl

theorem v7 : val_main_v7 (F := Ideal) (e2 k) = e2 fun _ j => k 0 j := by
  funext i; idx_vars i; pointwise [val_main_v7, val_main_v6, val_main_v2, val_main_v1]; rfl

theorem v15 : val_main_v15 (F := Ideal) (e2 k) = e2 fun _ j => k 1 j := by
  funext i; idx_vars i; pointwise [val_main_v15, val_main_v14, val_main_v10, val_main_v9]; rfl

theorem v21 : val_main_v21 (F := Ideal) (e2 k) = e2 fun _ j => k 2 j := by
  funext i; idx_vars i; pointwise [val_main_v21, val_main_v20, val_main_v19, val_main_v18]; rfl

theorem v5 : val_main_v5 (F := Ideal) (e2 U) = e2 (sh 2 (arr X U k w g).a) := by
  funext i; idx_vars i; pointwise [val_main_v5, val_main_v4, val_main_v3, val_main_cst, v0 X U k w g]
  show _ = sh 2 (arr X U k w g).a i0 i1
  unfold sh
  split
  · rename_i h; rw [dif_neg (by omega)]
  · rename_i h; rw [dif_pos (by omega)]; rfl

theorem v13 : val_main_v13 (F := Ideal) (e2 U) = e2 (sh 1 (arr X U k w g).a) := by
  funext i; idx_vars i; pointwise [val_main_v13, val_main_v12, val_main_v11, val_main_cst_0, v0 X U k w g]
  show _ = sh 1 (arr X U k w g).a i0 i1
  unfold sh
  split
  · rename_i h; rw [dif_neg (by omega)]
  · rename_i h; rw [dif_pos (by omega)]; rfl

theorem v23 : val_main_v23 (F := Ideal) (e2 U) (e2 k) = e2 (arr X U k w g).f := by
  funext i; idx_vars i
  pointwise [val_main_v23, val_main_v22, val_main_v17, val_main_v16, val_main_v8, v21 k, v15 k, v7 k, v5 X U k w g, v13 X U k w g, v0 X U k w g]
  rfl

theorem v26 : val_main_v26 (F := Ideal) (e2 U) (e2 k) = e2 (arr X U k w g).act := by
  funext i; idx_vars i
  pointwise [val_main_v26, val_main_v24, val_main_call0_v5, val_main_call0_v4, val_main_call0_cst_0, val_main_call0_v3, val_main_call0_v2, val_main_call0_cst,
    val_main_call0_v1, val_main_call0_v0, v25 X U k w g, v23 X U k w g]
  rfl

theorem v27 : val_main_v27 (F := Ideal) (e2 U) (e2 k) (e2 w) = e2 (arr X U k w g).y := by
  funext i; idx_vars i; pointwise [val_main_v27, v26 X U k w g]; rfl

theorem v28 : val_main_v28 (F := Ideal) (e2 U) (e2 k) = e2 (arr X U k w g).act := by
  funext i; idx_vars i; pointwise [val_main_v28, v26 X U k w g]

theorem v43 : val_main_v43 (F := Ideal) (e2 U) (e2 k) = e2 (arr X U k w g).f := by
  funext i; idx_vars i; pointwise [val_main_v43, v23 X U k w g]

theorem v42 : val_main_v42 (F := Ideal) (e2 X) (e2 U) (e2 k) (e2 w) (e1 g) = e2 (arr X U k w g).out := by
  funext i; idx_vars i
  pointwise [val_main_v42, val_main_v41, val_main_v40, val_main_v39, val_main_v38, val_main_v37, val_main_v36, val_main_v35, val_main_v34, val_main_cst_3,
    val_main_v33, val_main_v32, val_main_cst_2, val_main_v31, val_main_v30, val_main_cst_1, val_main_v29, v27 X U k w g]
  rfl

end Cert.FfnFwdReferenceIdeal.Read

namespace Cert.Proof.FfnFwd

open Idealize.ShloMosaic Idealize.ShloMosaic.TcCoe Idealize.SL.Sem
open Cert.Ext Cert.FfnFwd

/-- The reference runs, keeps its arguments, and leaves every semaphore at zero. -/
theorem frameR : Cert.quiescent_FfnFwdReferenceIdeal := fun m ρ _ =>
  (θ_run Cert.FfnFwdReferenceIdeal.defs _ _).mono (fun r h => ⟨fun c => (h c).2.2.2.2, sem_eq_zero_of_no_sems (by decide) r.2⟩)
    (Cert.FfnFwdReferenceIdeal.Value.run (F := Ideal) m ρ)

/-- The kernel's four results are the reference's. -/
theorem algebraic : Cert.algebraic_FfnFwdKernelIdeal_FfnFwdReferenceIdeal := by
  intro m ρ m' ρ' hpre hagree
  refine ⟨_, _, _, _, Cert.FfnFwdKernelIdeal.Value.run_blocks (F := Ideal) m ρ, ?_⟩
  refine (θ_run Cert.FfnFwdReferenceIdeal.defs _ _).mono (fun _ h c => ?_) (Cert.FfnFwdReferenceIdeal.Value.run (F := Ideal) m' ρ')
  obtain ⟨r0, r1, r2, r3, hk⟩ := h c
  obtain ⟨X, h0⟩ := exists_e2 (m ((c.tc : Thread _ _).loc Cert.FfnFwdKernelIdeal.main_arg0))
  obtain ⟨U, h1⟩ := exists_e2 (m ((c.tc : Thread _ _).loc Cert.FfnFwdKernelIdeal.main_arg1))
  obtain ⟨k, h2⟩ := exists_e2 (m ((c.tc : Thread _ _).loc Cert.FfnFwdKernelIdeal.main_arg2))
  obtain ⟨w, h3⟩ := exists_e2 (m ((c.tc : Thread _ _).loc Cert.FfnFwdKernelIdeal.main_arg3))
  obtain ⟨g, h4⟩ := exists_e1 (m ((c.tc : Thread _ _).loc Cert.FfnFwdKernelIdeal.main_arg4))
  obtain ⟨a0, a1, a2, a3, a4⟩ := hagree c
  have H := Cert.FfnFwdKernelIdeal.Value.ops m c X U k w g h0 h1 h2 h3 h4
  have b0 : m' ((c.tc : Thread _ _).loc Cert.FfnFwdReferenceIdeal.main_arg0) = e2 X := a0.trans h0
  have b1 : m' ((c.tc : Thread _ _).loc Cert.FfnFwdReferenceIdeal.main_arg1) = e2 U := a1.trans h1
  have b2 : m' ((c.tc : Thread _ _).loc Cert.FfnFwdReferenceIdeal.main_arg2) = e2 k := a2.trans h2
  have b3 : m' ((c.tc : Thread _ _).loc Cert.FfnFwdReferenceIdeal.main_arg3) = e2 w := a3.trans h3
  have b4 : m' ((c.tc : Thread _ _).loc Cert.FfnFwdReferenceIdeal.main_arg4) = e1 g := a4.trans h4
  rw [Cert.FfnFwdReferenceIdeal.Read.val_main_v28_eq, b1, b2] at r0
  rw [Cert.FfnFwdReferenceIdeal.Read.val_main_v27_eq, b1, b2, b3] at r1
  rw [Cert.FfnFwdReferenceIdeal.Read.val_main_v42_eq, b0, b1, b2, b3, b4] at r2
  rw [Cert.FfnFwdReferenceIdeal.Read.val_main_v43_eq, b1, b2] at r3
  exact ⟨r0.trans ((Cert.FfnFwdReferenceIdeal.Read.v28 X U k w g).trans (Cert.FfnFwdKernelIdeal.Value.last6 H).symm),
    r1.trans ((Cert.FfnFwdReferenceIdeal.Read.v27 X U k w g).trans (Cert.FfnFwdKernelIdeal.Value.last7 H).symm),
    r2.trans ((Cert.FfnFwdReferenceIdeal.Read.v42 X U k w g).trans (Cert.FfnFwdKernelIdeal.Value.last8 H).symm),
    r3.trans ((Cert.FfnFwdReferenceIdeal.Read.v43 X U k w g).trans (Cert.FfnFwdKernelIdeal.Value.last9 H).symm), hk⟩

end Cert.Proof.FfnFwd

end
-- ==== Proof.MergeFwd.lean ====
module

public import proofs.«01_k».proof.Defs
public import proofs.«01_k».proof.Proof.Ext
public import proofs.«01_k».proof.Proof.Gen.MergeFwdKernelIdeal.Value
public import proofs.«01_k».proof.Proof.Gen.MergeFwdReferenceIdeal.Run
public import proofs.«01_k».proof.Proof.Gen.MergeFwdReferenceIdeal.Read
public import Idealize.ShloMosaic.Lib.Quiescent

/-! The merge of the three branches: each through its weights and its gate, the sum through the weights out, normed and added to the residual.
Both programs compute each row the same way, over all extended reals; the kernel reads the gates from the front of its rows. -/

@[expose] public section

set_option maxRecDepth 16384

noncomputable section

namespace Cert.MergeFwd

open Idealize.ShloMosaic Cert.Ext

/-- The arrays of the merge: the residual, the product in, the three branches, their weights, the weights out and the gain. -/
structure Arr where
  x : E 4096 1024
  u : E 4096 6912
  a : E 4096 384
  b : E 4096 384
  t : E 4096 256
  wa : E 384 1024
  wb : E 384 1024
  wt : E 256 1024
  wo : E 1024 1024
  g : Fin 1024 → EReal

namespace Arr
variable (z : Arr)
/-- The gates, those of the three branches side by side. -/
def gate (r : Fin 4096) (j : Fin 3072) : EReal := Ideal.logistic (z.u r ⟨3840 + j.val, by omega⟩)
def mg (r : Fin 4096) (j : Fin 1024) : EReal :=
  z.gate r ⟨j.val, by omega⟩ * (∑ k, z.a r k * z.wa k j) + z.gate r ⟨1024 + j.val, by omega⟩ * (∑ k, z.b r k * z.wb k j)
    + z.gate r ⟨2048 + j.val, by omega⟩ * ∑ k, z.t r k * z.wt k j
def y (r : Fin 4096) (i : Fin 1024) : EReal := ∑ j, z.mg r j * z.wo j i
def out (r : Fin 4096) (i : Fin 1024) : EReal := z.x r i + nrm z.g (z.y r) i
end Arr

end Cert.MergeFwd

namespace Cert.MergeFwdKernelIdeal.Value

open Idealize.ShloMosaic Idealize.ShloMosaic.TcCoe Idealize.SL.Sem
open Cert.MergeFwdKernelIdeal Cert.MergeFwdKernelIdeal.Gen Cert.Ext Cert.MergeFwd

theorem pay1 (v : E 512 1024) (w : E 1024 1024) : k0_pay1 (F := Ideal) (e2 v) (e2 w) = e2 fun r i => ∑ j, v r j * w j i := by
  funext i; idx_vars i; pointwise [k0_pay1]; rfl

theorem pay2 (v : E 512 1024) (w : E 1024 1024) (x : E 512 1024) (g : Fin 1024 → EReal) :
    k0_pay2 (F := Ideal) (e2 v) (e2 w) (e2 x) (e2 fun _ : Fin 1 => g) = e2 fun r i => x r i + nrm g (fun i => ∑ j, v r j * w j i) i := by
  unfold k0_pay2; rw [pay1]; funext i; idx_vars i; pointwise; rfl

theorem pay3 (p q s : E 512 1024) (a b : E 512 384) (t : E 512 256) (wa wb : E 1024 384) (wt : E 1024 256) :
    k0_pay3 (F := Ideal) (e2 p) (e2 a) (e2 wa) (e2 q) (e2 b) (e2 wb) (e2 s) (e2 t) (e2 wt)
      = e2 fun r j => Ideal.logistic (p r j) * (∑ k, a r k * wa j k) + Ideal.logistic (q r j) * (∑ k, b r k * wb j k)
        + Ideal.logistic (s r j) * ∑ k, t r k * wt j k := by
  funext i; idx_vars i; pointwise [k0_pay3]; rfl

theorem ldc (f : E 512 3072) (o : ℕ) (inb : ∀ a, (![0, o] : Fin 2 → ℕ) a + S512x1024.size a ≤ S512x3072.size a) (ho : o + 1024 ≤ 3072) :
    View.ld (Val := Elt Ideal) (e' := .bf16) (S := S512x3072) (e2 f) (Rect.unit (s := S512x3072) ![0, o] S512x1024.size inb)
      = e2 fun r (j : Fin 1024) => f r ⟨o + j.val, by omega⟩ := by
  funext i; pointwise; rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0] ∧ win0_12.index t = ![t.val, 0] :=
  (by decide +kernel : ∀ t : Fin grid0.N, _)

/-- Row `r` of the block of point `n`. -/
abbrev rowAt (n : ℕ) (r : Fin 512) : Fin 4096 := ⟨(n * 512 + r.val) % 4096, Nat.mod_lt _ (by norm_num)⟩

theorem row (t : Fin cfg0.N) (s : Fin 512) : t.val * 512 + s.val = (rowAt t.val s).val := by
  have := lt_of_lt_of_eq t.isLt N_0
  show _ = (t.val * 512 + s.val) % 4096; omega

/-- The columns of the gates brought to the front. -/
def turn (u : E 4096 6912) : E 4096 6912 := fun r j => if h : j.val < 3072 then u r ⟨3840 + j.val, by omega⟩ else u r ⟨j.val - 3072, by omega⟩

/-- The region's operands hold the merge's arrays. -/
structure Ops (m : (ℓ : Loc nD τ sig) → Buf (Elt Ideal) ℓ) (c : Dev nD) (z : Arr) : Prop where
  x : V m c main_arg0 = e2 z.x
  u : V m c main_v6 = e2 (turn z.u)
  a : V m c main_v7 = e2 z.a
  b : V m c main_v8 = e2 z.b
  t : V m c main_v9 = e2 z.t
  wa : V m c main_v10 = e2 fun j k => z.wa k j
  wb : V m c main_v11 = e2 fun j k => z.wb k j
  wt : V m c main_v12 = e2 fun j k => z.wt k j
  wo : V m c main_v13 = e2 z.wo
  g : V m c main_v14 = e2 fun _ : Fin 1 => z.g

variable {m : (ℓ : Loc nD τ sig) → Buf (Elt Ideal) ℓ} {c : Dev nD} {z : Arr}

theorem blk0 (H : Ops m c z) (t : Fin cfg0.N) : iblk m c 0 t = e2 fun r => z.x (rowAt t.val r) := by
  funext i
  refine (congrFun H.x (((cfg0.win 0).blk t).view.emb i)).trans (congr (congrArg z.x (Fin.ext ?_)) (Fin.ext ?_))
  · blk_simp [idx t]; exact row t _
  · blk_simp [idx t]

/-- The block of the product in holds the gates' columns. -/
theorem blk1 (H : Ops m c z) (t : Fin cfg0.N) : X0_1 m c t = e2 fun r (j : Fin 3072) => z.u (rowAt t.val r) ⟨3840 + j.val, by omega⟩ := by
  funext i
  unfold X0_1 Pipeline.Window.fill; rw [dif_pos (moved0_1 t i)]
  have e : ∀ r j, j.val < 3072 → turn z.u r j = z.u r ⟨(3840 + j.val) % 6912, Nat.mod_lt _ (by norm_num)⟩ := fun r j h => by
    unfold turn; rw [dif_pos h]; exact congrArg (z.u r) (Fin.ext (by show 3840 + j.val = (3840 + j.val) % 6912; omega))
  have i1 : (i 1).val < 3072 := (i 1).isLt
  refine (congrFun H.u (((cfg0.win 1).blk t).view.emb _)).trans ((e _ _ ?_).trans (congr (congrArg z.u (Fin.ext ?_)) (Fin.ext ?_)))
  · blk_simp [idx t]; exact i1
  · blk_simp [idx t]; exact row t _
  · blk_simp [idx t]; exact Nat.mod_eq_of_lt (show 3840 + (i 1).val < 6912 by omega)

theorem blk2 (H : Ops m c z) (t : Fin cfg0.N) : iblk m c 2 t = e2 fun r => z.a (rowAt t.val r) := by
  funext i
  refine (congrFun H.a (((cfg0.win 2).blk t).view.emb i)).trans (congr (congrArg z.a (Fin.ext ?_)) (Fin.ext ?_))
  · blk_simp [idx t]; exact row t _
  · blk_simp [idx t]

theorem blk3 (H : Ops m c z) (t : Fin cfg0.N) : iblk m c 3 t = e2 fun r => z.b (rowAt t.val r) := by
  funext i
  refine (congrFun H.b (((cfg0.win 3).blk t).view.emb i)).trans (congr (congrArg z.b (Fin.ext ?_)) (Fin.ext ?_))
  · blk_simp [idx t]; exact row t _
  · blk_simp [idx t]

theorem blk4 (H : Ops m c z) (t : Fin cfg0.N) : iblk m c 4 t = e2 fun r => z.t (rowAt t.val r) := by
  funext i
  refine (congrFun H.t (((cfg0.win 4).blk t).view.emb i)).trans (congr (congrArg z.t (Fin.ext ?_)) (Fin.ext ?_))
  · blk_simp [idx t]; exact row t _
  · blk_simp [idx t]

theorem blk5 (H : Ops m c z) (t : Fin cfg0.N) : iblk m c 5 t = e2 fun j k => z.wa k j := by
  funext i; exact (congrFun H.wa (((cfg0.win 5).blk t).view.emb i)).trans (congrArg (e2 _) (by blk_ext [idx t]))
theorem blk6 (H : Ops m c z) (t : Fin cfg0.N) : iblk m c 6 t = e2 fun j k => z.wb k j := by
  funext i; exact (congrFun H.wb (((cfg0.win 6).blk t).view.emb i)).trans (congrArg (e2 _) (by blk_ext [idx t]))
theorem blk7 (H : Ops m c z) (t : Fin cfg0.N) : iblk m c 7 t = e2 fun j k => z.wt k j := by
  funext i; exact (congrFun H.wt (((cfg0.win 7).blk t).view.emb i)).trans (congrArg (e2 _) (by blk_ext [idx t]))
theorem blk8 (H : Ops m c z) (t : Fin cfg0.N) : iblk m c 8 t = e2 z.wo := by
  funext i; exact (congrFun H.wo (((cfg0.win 8).blk t).view.emb i)).trans (congrArg (e2 _) (by blk_ext [idx t]))
theorem blk9 (H : Ops m c z) (t : Fin cfg0.N) : iblk m c 9 t = e2 fun _ : Fin 1 => z.g := by
  funext i; exact (congrFun H.g (((cfg0.win 9).blk t).view.emb i)).trans (congrArg (e2 _) (by blk_ext [idx t]))

/-- The merged rows, from the block's gates. -/
theorem merged (t : Fin cfg0.N) (i0 i1 i2) :
    k0_pay3 (F := Ideal) (View.ld (Val := Elt Ideal) (e' := .bf16) (S := S512x3072) (e2 fun r (j : Fin 3072) => z.u (rowAt t.val r) ⟨3840 + j.val, by omega⟩) (Rect.unit (s := S512x3072) ![0, 0] S512x1024.size i0))
      (e2 fun r => z.a (rowAt t.val r)) (e2 fun j k => z.wa k j)
      (View.ld (Val := Elt Ideal) (e' := .bf16) (S := S512x3072) (e2 fun r (j : Fin 3072) => z.u (rowAt t.val r) ⟨3840 + j.val, by omega⟩) (Rect.unit (s := S512x3072) ![0, 1024] S512x1024.size i1))
      (e2 fun r => z.b (rowAt t.val r)) (e2 fun j k => z.wb k j)
      (View.ld (Val := Elt Ideal) (e' := .bf16) (S := S512x3072) (e2 fun r (j : Fin 3072) => z.u (rowAt t.val r) ⟨3840 + j.val, by omega⟩) (Rect.unit (s := S512x3072) ![0, 2048] S512x1024.size i2))
      (e2 fun r => z.t (rowAt t.val r)) (e2 fun j k => z.wt k j) = e2 fun r => z.mg (rowAt t.val r) := by
  rw [ldc _ 0 i0 (by norm_num), ldc _ 1024 i1 (by norm_num), ldc _ 2048 i2 (by norm_num), pay3]
  funext i; idx_vars i
  show _ = z.mg _ _
  unfold Arr.mg Arr.gate
  simp only [Nat.zero_add]

theorem out10 (H : Ops m c z) (t : Fin cfg0.N) : (outsAt0 m c t).1 = e2 fun r => z.mg (rowAt t.val r) := by
  unfold outsAt0; frame_out
  rw [blk1 H, blk2 H, blk3 H, blk4 H, blk5 H, blk6 H, blk7 H]
  exact merged t _ _ _

theorem out11 (H : Ops m c z) (t : Fin cfg0.N) : (outsAt0 m c t).2.1 = e2 fun r => z.y (rowAt t.val r) := by
  unfold outsAt0; frame_out
  rw [blk1 H, blk2 H, blk3 H, blk4 H, blk5 H, blk6 H, blk7 H, blk8 H]
  exact (congrArg (fun v => k0_pay1 (F := Ideal) v _) (merged t _ _ _)).trans (pay1 _ _)

theorem out12 (H : Ops m c z) (t : Fin cfg0.N) : (outsAt0 m c t).2.2 = e2 fun r => z.out (rowAt t.val r) := by
  unfold outsAt0; frame_out
  rw [blk0 H, blk1 H, blk2 H, blk3 H, blk4 H, blk5 H, blk6 H, blk7 H, blk8 H, blk9 H]
  exact (congrArg (fun v => k0_pay2 (F := Ideal) v _ _ _) (merged t _ _ _)).trans (pay2 _ _ _ _)

theorem last10 (H : Ops m c z) : (dats m 0 c).arrAt 10 cfg0.N = e2 z.mg := by
  refine (dats m 0 c).arrAt_eq_of_covers 10 _ (by decide +kernel) fun t _ y => ?_
  blk_simp
  rw [after0_10, out10 H]
  refine congr (congrArg z.mg (Fin.ext ?_)) (Fin.ext ?_)
  · blk_simp [idx t]; exact (row t _).symm
  · blk_simp [idx t]

theorem last11 (H : Ops m c z) : (dats m 0 c).arrAt 11 cfg0.N = e2 z.y := by
  refine (dats m 0 c).arrAt_eq_of_covers 11 _ (by decide +kernel) fun t _ y => ?_
  blk_simp
  rw [after0_11, out11 H]
  refine congr (congrArg z.y (Fin.ext ?_)) (Fin.ext ?_)
  · blk_simp [idx t]; exact (row t _).symm
  · blk_simp [idx t]

theorem last12 (H : Ops m c z) : (dats m 0 c).arrAt 12 cfg0.N = e2 z.out := by
  refine (dats m 0 c).arrAt_eq_of_covers 12 _ (by decide +kernel) fun t _ y => ?_
  blk_simp
  rw [after0_12, out12 H]
  refine congr (congrArg z.out (Fin.ext ?_)) (Fin.ext ?_)
  · blk_simp [idx t]; exact (row t _).symm
  · blk_simp [idx t]

theorem ops (m : (ℓ : Loc nD τ sig) → Buf (Elt Ideal) ℓ) (c : Dev nD) (z : Arr)
    (h0 : m ((c : Thread nD τ).loc main_arg0) = e2 z.x) (h1 : m ((c : Thread nD τ).loc main_arg1) = e2 z.u)
    (h2 : m ((c : Thread nD τ).loc main_arg2) = e2 z.a) (h3 : m ((c : Thread nD τ).loc main_arg3) = e2 z.b)
    (h4 : m ((c : Thread nD τ).loc main_arg4) = e2 z.t) (h5 : m ((c : Thread nD τ).loc main_arg5) = e2 z.wa)
    (h6 : m ((c : Thread nD τ).loc main_arg6) = e2 z.wb) (h7 : m ((c : Thread nD τ).loc main_arg7) = e2 z.wt)
    (h8 : m ((c : Thread nD τ).loc main_arg8) = e2 z.wo) (h9 : m ((c : Thread nD τ).loc main_arg9) = e1 z.g) : Ops m c z where
  x := (V_main_arg0 m c).trans h0
  u := by
    entry_read; rw [h1]; funext i; idx_vars i; pointwise
    show _ = turn z.u i0 i1
    unfold turn; split <;> rfl
  a := by entry_read; rw [h2]; rfl
  b := by entry_read; rw [h3]; rfl
  t := by entry_read; rw [h4]; rfl
  wa := by entry_read; rw [h5]; funext i; idx_vars i; pointwise; rfl
  wb := by entry_read; rw [h6]; funext i; idx_vars i; pointwise; rfl
  wt := by entry_read; rw [h7]; funext i; idx_vars i; pointwise; rfl
  wo := by entry_read; rw [h8]; rfl
  g := by entry_read; rw [h9]; funext i; idx_vars i; pointwise; rfl

end Cert.MergeFwdKernelIdeal.Value

namespace Cert.MergeFwdReferenceIdeal.Read

open Idealize.ShloMosaic
open Cert.MergeFwdReferenceIdeal Cert.Ext Cert.MergeFwd
variable (z : Arr)

theorem v6 : val_main_v6 (F := Ideal) (e2 z.u) = e2 z.gate := by
  funext i; idx_vars i
  pointwise [val_main_v6, val_main_v5, val_main_cst_0, val_main_v4, val_main_v3, val_main_cst, val_main_v2, val_main_v1, val_main_v0]
  rfl

/-- Reading the gates of branch `k`. -/
theorem gates (r : Fin 4096) (j : Fin 1024) (k : ℕ) (hk : k < 3) (I : S4096x3072.Idx) (h0 : (I 0).val = ((r.val * 3 + k) * 1024 + j.val) / 3072)
    (h1 : (I 1).val = ((r.val * 3 + k) * 1024 + j.val) % 3072) : e2 z.gate I = z.gate r ⟨k * 1024 + j.val, by omega⟩ :=
  congr (congrArg z.gate (Fin.ext (by rw [h0]; omega))) (Fin.ext (by rw [h1]; show _ = k * 1024 + j.val; omega))

theorem v9 : val_main_v9 (F := Ideal) (e2 z.u) = e2 fun r j => z.gate r ⟨j.val, by omega⟩ := by
  funext i; rw [val_main_v9_apply, val_main_v8_apply, val_main_v7_apply, v6]
  have h0 : (i 0).val < 4096 := (i 0).isLt
  have h1 : (i 1).val < 1024 := (i 1).isLt
  refine (gates z (i 0) (i 1) 0 (by norm_num) _ ?_ ?_).trans (congrArg (z.gate (i 0)) (Fin.ext (by show 0 * 1024 + (i 1).val = (i 1).val; omega)))
  · show ((((i 0).val * 1024 + (i 1).val) / 1024 * 3 + 0) * 1024 + ((i 0).val * 1024 + (i 1).val) % 1024) / 3072 = _; omega
  · show ((((i 0).val * 1024 + (i 1).val) / 1024 * 3 + 0) * 1024 + ((i 0).val * 1024 + (i 1).val) % 1024) % 3072 = _; omega

theorem v13 : val_main_v13 (F := Ideal) (e2 z.u) = e2 fun r j => z.gate r ⟨1024 + j.val, by omega⟩ := by
  funext i; rw [val_main_v13_apply, val_main_v12_apply, val_main_v7_apply, v6]
  have h0 : (i 0).val < 4096 := (i 0).isLt
  have h1 : (i 1).val < 1024 := (i 1).isLt
  refine (gates z (i 0) (i 1) 1 (by norm_num) _ ?_ ?_).trans (congrArg (z.gate (i 0)) (Fin.ext (by show 1 * 1024 + (i 1).val = 1024 + (i 1).val; omega)))
  · show ((((i 0).val * 1024 + (i 1).val) / 1024 * 3 + (1 + 0)) * 1024 + ((i 0).val * 1024 + (i 1).val) % 1024) / 3072 = _; omega
  · show ((((i 0).val * 1024 + (i 1).val) / 1024 * 3 + (1 + 0)) * 1024 + ((i 0).val * 1024 + (i 1).val) % 1024) % 3072 = _; omega

theorem v18 : val_main_v18 (F := Ideal) (e2 z.u) = e2 fun r j => z.gate r ⟨2048 + j.val, by omega⟩ := by
  funext i; rw [val_main_v18_apply, val_main_v17_apply, val_main_v7_apply, v6]
  have h0 : (i 0).val < 4096 := (i 0).isLt
  have h1 : (i 1).val < 1024 := (i 1).isLt
  refine (gates z (i 0) (i 1) 2 (by norm_num) _ ?_ ?_).trans (congrArg (z.gate (i 0)) (Fin.ext (by show 2 * 1024 + (i 1).val = 2048 + (i 1).val; omega)))
  · show ((((i 0).val * 1024 + (i 1).val) / 1024 * 3 + (2 + 0)) * 1024 + ((i 0).val * 1024 + (i 1).val) % 1024) / 3072 = _; omega
  · show ((((i 0).val * 1024 + (i 1).val) / 1024 * 3 + (2 + 0)) * 1024 + ((i 0).val * 1024 + (i 1).val) % 1024) % 3072 = _; omega

theorem v21 : val_main_v21 (F := Ideal) (e2 z.u) (e2 z.a) (e2 z.b) (e2 z.t) (e2 z.wa) (e2 z.wb) (e2 z.wt) = e2 z.mg := by
  funext i; idx_vars i
  pointwise [val_main_v21, val_main_v20, val_main_v19, v18 z, val_main_v16, val_main_v15, val_main_v14, v13 z, val_main_v11, val_main_v10, v9 z]
  rfl

theorem v23 : val_main_v23 (F := Ideal) (e2 z.u) (e2 z.a) (e2 z.b) (e2 z.t) (e2 z.wa) (e2 z.wb) (e2 z.wt) = e2 z.mg := by
  funext i; idx_vars i; pointwise [val_main_v23, v21 z]

theorem v22 : val_main_v22 (F := Ideal) (e2 z.u) (e2 z.a) (e2 z.b) (e2 z.t) (e2 z.wa) (e2 z.wb) (e2 z.wt) (e2 z.wo) = e2 z.y := by
  funext i; idx_vars i; pointwise [val_main_v22, v21 z]; rfl

theorem v37 : val_main_v37 (F := Ideal) (e2 z.x) (e2 z.u) (e2 z.a) (e2 z.b) (e2 z.t) (e2 z.wa) (e2 z.wb) (e2 z.wt) (e2 z.wo) (e1 z.g) = e2 z.out := by
  funext i; idx_vars i
  pointwise [val_main_v37, val_main_v36, val_main_v35, val_main_v34, val_main_v33, val_main_v32, val_main_v31, val_main_v30, val_main_v29, val_main_cst_3, val_main_v28, val_main_v27, val_main_cst_2, val_main_v26, val_main_v25, val_main_v24, val_main_cst_1, v22 z]
  rfl

end Cert.MergeFwdReferenceIdeal.Read

namespace Cert.Proof.MergeFwd

open Idealize.ShloMosaic Idealize.ShloMosaic.TcCoe Idealize.SL.Sem
open Cert.Ext Cert.MergeFwd

/-- The reference runs, keeps its arguments, and leaves every semaphore at zero. -/
theorem frameR : Cert.quiescent_MergeFwdReferenceIdeal := fun m ρ _ =>
  (θ_run Cert.MergeFwdReferenceIdeal.defs _ _).mono (fun r h => ⟨fun c => (h c).2.2.2, sem_eq_zero_of_no_sems (by decide) r.2⟩)
    (Cert.MergeFwdReferenceIdeal.Value.run (F := Ideal) m ρ)

set_option maxHeartbeats 1000000 in
/-- The kernel's three results are the reference's. -/
theorem algebraic : Cert.algebraic_MergeFwdKernelIdeal_MergeFwdReferenceIdeal := by
  intro m ρ m' ρ' hpre hagree
  refine ⟨_, _, _, Cert.MergeFwdKernelIdeal.Value.run_blocks (F := Ideal) m ρ, ?_⟩
  refine (θ_run Cert.MergeFwdReferenceIdeal.defs _ _).mono (fun _ h c => ?_) (Cert.MergeFwdReferenceIdeal.Value.run (F := Ideal) m' ρ')
  obtain ⟨r0, r1, r2, hk⟩ := h c
  obtain ⟨x, h0⟩ := exists_e2 (m ((c.tc : Thread _ _).loc Cert.MergeFwdKernelIdeal.main_arg0))
  obtain ⟨u, h1⟩ := exists_e2 (m ((c.tc : Thread _ _).loc Cert.MergeFwdKernelIdeal.main_arg1))
  obtain ⟨a, h2⟩ := exists_e2 (m ((c.tc : Thread _ _).loc Cert.MergeFwdKernelIdeal.main_arg2))
  obtain ⟨b, h3⟩ := exists_e2 (m ((c.tc : Thread _ _).loc Cert.MergeFwdKernelIdeal.main_arg3))
  obtain ⟨t, h4⟩ := exists_e2 (m ((c.tc : Thread _ _).loc Cert.MergeFwdKernelIdeal.main_arg4))
  obtain ⟨wa, h5⟩ := exists_e2 (m ((c.tc : Thread _ _).loc Cert.MergeFwdKernelIdeal.main_arg5))
  obtain ⟨wb, h6⟩ := exists_e2 (m ((c.tc : Thread _ _).loc Cert.MergeFwdKernelIdeal.main_arg6))
  obtain ⟨wt, h7⟩ := exists_e2 (m ((c.tc : Thread _ _).loc Cert.MergeFwdKernelIdeal.main_arg7))
  obtain ⟨wo, h8⟩ := exists_e2 (m ((c.tc : Thread _ _).loc Cert.MergeFwdKernelIdeal.main_arg8))
  obtain ⟨g, h9⟩ := exists_e1 (m ((c.tc : Thread _ _).loc Cert.MergeFwdKernelIdeal.main_arg9))
  obtain ⟨a0, a1, a2, a3, a4, a5, a6, a7, a8, a9⟩ := hagree c
  have H := Cert.MergeFwdKernelIdeal.Value.ops m c ⟨x, u, a, b, t, wa, wb, wt, wo, g⟩ h0 h1 h2 h3 h4 h5 h6 h7 h8 h9
  have b0 : m' ((c.tc : Thread _ _).loc Cert.MergeFwdReferenceIdeal.main_arg0) = e2 x := a0.trans h0
  have b1 : m' ((c.tc : Thread _ _).loc Cert.MergeFwdReferenceIdeal.main_arg1) = e2 u := a1.trans h1
  have b2 : m' ((c.tc : Thread _ _).loc Cert.MergeFwdReferenceIdeal.main_arg2) = e2 a := a2.trans h2
  have b3 : m' ((c.tc : Thread _ _).loc Cert.MergeFwdReferenceIdeal.main_arg3) = e2 b := a3.trans h3
  have b4 : m' ((c.tc : Thread _ _).loc Cert.MergeFwdReferenceIdeal.main_arg4) = e2 t := a4.trans h4
  have b5 : m' ((c.tc : Thread _ _).loc Cert.MergeFwdReferenceIdeal.main_arg5) = e2 wa := a5.trans h5
  have b6 : m' ((c.tc : Thread _ _).loc Cert.MergeFwdReferenceIdeal.main_arg6) = e2 wb := a6.trans h6
  have b7 : m' ((c.tc : Thread _ _).loc Cert.MergeFwdReferenceIdeal.main_arg7) = e2 wt := a7.trans h7
  have b8 : m' ((c.tc : Thread _ _).loc Cert.MergeFwdReferenceIdeal.main_arg8) = e2 wo := a8.trans h8
  have b9 : m' ((c.tc : Thread _ _).loc Cert.MergeFwdReferenceIdeal.main_arg9) = e1 g := a9.trans h9
  rw [Cert.MergeFwdReferenceIdeal.Read.val_main_v23_eq, b1, b2, b3, b4, b5, b6, b7] at r0
  rw [Cert.MergeFwdReferenceIdeal.Read.val_main_v22_eq, b1, b2, b3, b4, b5, b6, b7, b8] at r1
  rw [Cert.MergeFwdReferenceIdeal.Read.val_main_v37_eq, b0, b1, b2, b3, b4, b5, b6, b7, b8, b9] at r2
  exact ⟨r0.trans ((Cert.MergeFwdReferenceIdeal.Read.v23 ⟨x, u, a, b, t, wa, wb, wt, wo, g⟩).trans (Cert.MergeFwdKernelIdeal.Value.last10 H).symm),
    r1.trans ((Cert.MergeFwdReferenceIdeal.Read.v22 ⟨x, u, a, b, t, wa, wb, wt, wo, g⟩).trans (Cert.MergeFwdKernelIdeal.Value.last11 H).symm),
    r2.trans ((Cert.MergeFwdReferenceIdeal.Read.v37 ⟨x, u, a, b, t, wa, wb, wt, wo, g⟩).trans (Cert.MergeFwdKernelIdeal.Value.last12 H).symm), hk⟩

end Cert.Proof.MergeFwd

end
-- ==== Proof.ProdTn.lean ====
module

public import proofs.«01_k».proof.Defs
public import proofs.«01_k».proof.Proof.Ext
public import proofs.«01_k».proof.Proof.Gen.ProdTnKernelIdeal.Value
public import proofs.«01_k».proof.Proof.Gen.ProdTnReferenceIdeal.Run
public import proofs.«01_k».proof.Proof.Gen.ProdTnReferenceIdeal.Read
public import Idealize.ShloMosaic.Lib.Quiescent

/-! The plain product with the first factor transposed, its row blocks written in turned order, over all extended reals. -/

@[expose] public section

set_option maxRecDepth 16384

noncomputable section

namespace Cert.ProdTnKernelIdeal.Value

open Idealize.ShloMosaic Idealize.ShloMosaic.TcCoe Idealize.SL.Sem
open Cert.ProdTnKernelIdeal Cert.ProdTnKernelIdeal.Gen Cert.Ext

theorem pay1 (a : E 4096 768) (b : E 4096 1024) : k0_pay1 (F := Ideal) (e2 a) (e2 b) = e2 fun r j => ∑ k, a k r * b k j := by
  funext i; idx_vars i; pointwise [k0_pay1]; rfl

theorem idx : ∀ t : Fin cfg0.N, win0_0.index t = ![0, t.val] ∧ win0_1.index t = ![0, 0] ∧ win0_2.index t = ![(t.val + 5) % 9, 0] :=
  (by decide +kernel : ∀ t : Fin grid0.N, _)

/-- The columns in the version's order: the last 3072 come first. -/
def turn (a : E 4096 6912) : E 4096 6912 := fun r j => if h : j.val < 3072 then a r ⟨3840 + j.val, by omega⟩ else a r ⟨j.val - 3072, by omega⟩

/-- Column `j` of the first factor's block of point `t`. -/
abbrev colAt (t : Fin cfg0.N) (j : Fin 768) : Fin 6912 := ⟨t.val * 768 + j.val, by have := lt_of_lt_of_eq t.isLt N_0; omega⟩

variable {m : (ℓ : Loc nD τ sig) → Buf (Elt Ideal) ℓ} {c : Dev nD} {a : E 4096 6912} {b : E 4096 1024}

theorem blk0 (h : V m c main_v3 = e2 a) (t : Fin cfg0.N) : iblk m c 0 t = e2 fun r j => a r (colAt t j) := by
  funext i
  refine (congrFun h (((cfg0.win 0).blk t).view.emb i)).trans (congr (congrArg a (Fin.ext ?_)) (Fin.ext ?_))
  · blk_simp [idx t]
  · blk_simp [idx t]
theorem blk1 (h : V m c main_v4 = e2 b) (t : Fin cfg0.N) : iblk m c 1 t = e2 b := by
  funext i; exact (congrFun h (((cfg0.win 1).blk t).view.emb i)).trans (congrArg (e2 _) (by blk_ext [idx t]))

/-- A column of the turned array is the column the output's block has it at. -/
theorem turn_col (t : Fin cfg0.N) (j : Fin 768) (R : Fin 6912) (hR : R.val = (t.val + 5) % 9 * 768 + j.val) (k : Fin 4096) :
    turn a k (colAt t j) = a k R := by
  have ht := lt_of_lt_of_eq t.isLt N_0
  unfold turn
  split
  · rename_i h
    exact congrArg (a k) (Fin.ext (by show 3840 + (t.val * 768 + j.val) = R.val; have : t.val * 768 + j.val < 3072 := h; omega))
  · rename_i h
    exact congrArg (a k) (Fin.ext (by show t.val * 768 + j.val - 3072 = R.val; have : ¬ t.val * 768 + j.val < 3072 := h; omega))

theorem prod_at (t : Fin cfg0.N) (r : Fin 768) (j : Fin 1024) (R : Fin 6912) (J : Fin 1024) (hR : R.val = (t.val + 5) % 9 * 768 + r.val) (hJ : j = J) :
    (∑ k, turn a k (colAt t r) * b k j : EReal) = ∑ k, a k R * b k J := by
  rw [hJ]; exact Finset.sum_congr rfl fun k _ => by rw [turn_col t r R hR]

theorem last2 (ha : V m c main_v3 = e2 (turn a)) (hb : V m c main_v4 = e2 b) : (dats m 0 c).arrAt 2 cfg0.N = e2 fun r j => ∑ k, a k r * b k j := by
  refine (dats m 0 c).arrAt_eq_of_covers 2 _ (by decide +kernel) fun t _ y => ?_
  blk_simp
  rw [after0_2, blk0 ha, blk1 hb]; frame_out
  rw [pay1]
  exact prod_at t _ _ _ _ (by blk_simp [idx t]) (Fin.ext (by blk_simp [idx t]))

theorem opA (m : (ℓ : Loc nD τ sig) → Buf (Elt Ideal) ℓ) (c : Dev nD) (a : E 4096 6912)
    (h : m ((c : Thread nD τ).loc main_arg1) = e2 a) : V m c main_v3 = e2 (turn a) := by
  entry_read; rw [h]; funext i; idx_vars i; pointwise
  show _ = turn a i0 i1
  unfold turn; split <;> rfl
theorem opB (m : (ℓ : Loc nD τ sig) → Buf (Elt Ideal) ℓ) (c : Dev nD) (b : E 4096 1024)
    (h : m ((c : Thread nD τ).loc main_arg0) = e2 b) : V m c main_v4 = e2 b := by entry_read; rw [h]; rfl

end Cert.ProdTnKernelIdeal.Value

namespace Cert.ProdTnReferenceIdeal.Read

open Idealize.ShloMosaic
open Cert.ProdTnReferenceIdeal Cert.Ext

theorem v5 (a : E 4096 6912) (b : E 4096 1024) : val_main_v5 (F := Ideal) (e2 b) (e2 a) = e2 fun r j => ∑ k, a k r * b k j := by
  funext i; idx_vars i; pointwise [val_main_v5, val_main_v4, val_main_v3, val_main_v2]; rfl

end Cert.ProdTnReferenceIdeal.Read

namespace Cert.Proof.ProdTn

open Idealize.ShloMosaic Idealize.ShloMosaic.TcCoe Idealize.SL.Sem
open Cert.Ext

/-- The reference runs, keeps its arguments, and leaves every semaphore at zero. -/
theorem frameR : Cert.quiescent_ProdTnReferenceIdeal := fun m ρ _ =>
  (θ_run Cert.ProdTnReferenceIdeal.defs _ _).mono (fun r h => ⟨fun c => (h c).2, sem_eq_zero_of_no_sems (by decide) r.2⟩)
    (Cert.ProdTnReferenceIdeal.Value.run (F := Ideal) m ρ)

/-- The kernel's result is the reference's. -/
theorem algebraic : Cert.algebraic_ProdTnKernelIdeal_ProdTnReferenceIdeal := by
  intro m ρ m' ρ' hpre hagree
  refine ⟨_, Cert.ProdTnKernelIdeal.Value.run_blocks (F := Ideal) m ρ, ?_⟩
  refine (θ_run Cert.ProdTnReferenceIdeal.defs _ _).mono (fun _ h c => ?_) (Cert.ProdTnReferenceIdeal.Value.run (F := Ideal) m' ρ')
  obtain ⟨r0, hk⟩ := h c
  obtain ⟨b, h0⟩ := exists_e2 (m ((c.tc : Thread _ _).loc Cert.ProdTnKernelIdeal.main_arg0))
  obtain ⟨a, h1⟩ := exists_e2 (m ((c.tc : Thread _ _).loc Cert.ProdTnKernelIdeal.main_arg1))
  obtain ⟨a0, a1⟩ := hagree c
  have b0 : m' ((c.tc : Thread _ _).loc Cert.ProdTnReferenceIdeal.main_arg0) = e2 b := a0.trans h0
  have b1 : m' ((c.tc : Thread _ _).loc Cert.ProdTnReferenceIdeal.main_arg1) = e2 a := a1.trans h1
  rw [Cert.ProdTnReferenceIdeal.Read.val_main_v5_eq, b0, b1] at r0
  exact ⟨r0.trans ((Cert.ProdTnReferenceIdeal.Read.v5 a b).trans (Cert.ProdTnKernelIdeal.Value.last2
    (Cert.ProdTnKernelIdeal.Value.opA m c a h1) (Cert.ProdTnKernelIdeal.Value.opB m c b h0)).symm), hk⟩

end Cert.Proof.ProdTn

end
-- ==== Proof.ProdNt.lean ====
module

public import proofs.«01_k».proof.Defs
public import proofs.«01_k».proof.Proof.Ext
public import proofs.«01_k».proof.Proof.Gen.ProdNtKernelIdeal.Value
public import proofs.«01_k».proof.Proof.Gen.ProdNtReferenceIdeal.Run
public import proofs.«01_k».proof.Proof.Gen.ProdNtReferenceIdeal.Read
public import Idealize.ShloMosaic.Lib.Quiescent

/-! The plain product with the second factor transposed, over all extended reals. -/

@[expose] public section

set_option maxRecDepth 16384

noncomputable section

namespace Cert.ProdNtKernelIdeal.Value

open Idealize.ShloMosaic Idealize.ShloMosaic.TcCoe Idealize.SL.Sem
open Cert.ProdNtKernelIdeal Cert.ProdNtKernelIdeal.Gen Cert.Ext

theorem pay1 (a : E 256 1024) (b : E 512 1024) : k0_pay1 (F := Ideal) (e2 a) (e2 b) = e2 fun r j => ∑ k, a r k * b j k := by
  funext i; idx_vars i; pointwise [k0_pay1]; rfl

theorem idx : ∀ t : Fin cfg0.N, win0_0.index t = ![0, 0] ∧ win0_1.index t = ![t.val, 0] ∧ win0_2.index t = ![0, t.val] :=
  (by decide +kernel : ∀ t : Fin grid0.N, _)

/-- Row `r` of the second factor's block of point `t`. -/
abbrev rowAt (t : Fin cfg0.N) (r : Fin 512) : Fin 1024 := ⟨t.val * 512 + r.val, by have := lt_of_lt_of_eq t.isLt N_0; omega⟩

variable {m : (ℓ : Loc nD τ sig) → Buf (Elt Ideal) ℓ} {c : Dev nD} {a : E 256 1024} {b : E 1024 1024}

theorem blk0 (h : V m c main_v0 = e2 a) (t : Fin cfg0.N) : iblk m c 0 t = e2 a := by
  funext i; exact (congrFun h (((cfg0.win 0).blk t).view.emb i)).trans (congrArg (e2 _) (by blk_ext [idx t]))
theorem blk1 (h : V m c main_v1 = e2 b) (t : Fin cfg0.N) : iblk m c 1 t = e2 fun r => b (rowAt t r) := by
  funext i
  refine (congrFun h (((cfg0.win 1).blk t).view.emb i)).trans (congr (congrArg b (Fin.ext ?_)) (Fin.ext ?_))
  · blk_simp [idx t]
  · blk_simp [idx t]

theorem last2 (ha : V m c main_v0 = e2 a) (hb : V m c main_v1 = e2 b) : (dats m 0 c).arrAt 2 cfg0.N = e2 fun r j => ∑ k, a r k * b j k := by
  refine (dats m 0 c).arrAt_eq_of_covers 2 _ (by decide +kernel) fun t _ y => ?_
  blk_simp
  rw [after0_2, blk0 ha, blk1 hb]; frame_out
  rw [pay1]
  exact congr (congrArg (fun r j => ∑ k, a r k * b j k) (Fin.ext (by blk_simp [idx t]))) (Fin.ext (by blk_simp [idx t]))

theorem opA (m : (ℓ : Loc nD τ sig) → Buf (Elt Ideal) ℓ) (c : Dev nD) (a : E 256 1024)
    (h : m ((c : Thread nD τ).loc main_arg1) = e2 a) : V m c main_v0 = e2 a := by entry_read; rw [h]; rfl
theorem opB (m : (ℓ : Loc nD τ sig) → Buf (Elt Ideal) ℓ) (c : Dev nD) (b : E 1024 1024)
    (h : m ((c : Thread nD τ).loc main_arg0) = e2 b) : V m c main_v1 = e2 b := by entry_read; rw [h]; rfl

end Cert.ProdNtKernelIdeal.Value

namespace Cert.ProdNtReferenceIdeal.Read

open Idealize.ShloMosaic
open Cert.ProdNtReferenceIdeal Cert.Ext

theorem v2 (a : E 256 1024) (b : E 1024 1024) : val_main_v2 (F := Ideal) (e2 b) (e2 a) = e2 fun r j => ∑ k, a r k * b j k := by
  funext i; idx_vars i; pointwise [val_main_v2]; rfl

end Cert.ProdNtReferenceIdeal.Read

namespace Cert.Proof.ProdNt

open Idealize.ShloMosaic Idealize.ShloMosaic.TcCoe Idealize.SL.Sem
open Cert.Ext

/-- The reference runs, keeps its arguments, and leaves every semaphore at zero. -/
theorem frameR : Cert.quiescent_ProdNtReferenceIdeal := fun m ρ _ =>
  (θ_run Cert.ProdNtReferenceIdeal.defs _ _).mono (fun r h => ⟨fun c => (h c).2, sem_eq_zero_of_no_sems (by decide) r.2⟩)
    (Cert.ProdNtReferenceIdeal.Value.run (F := Ideal) m ρ)

/-- The kernel's result is the reference's. -/
theorem algebraic : Cert.algebraic_ProdNtKernelIdeal_ProdNtReferenceIdeal := by
  intro m ρ m' ρ' hpre hagree
  refine ⟨_, Cert.ProdNtKernelIdeal.Value.run_blocks (F := Ideal) m ρ, ?_⟩
  refine (θ_run Cert.ProdNtReferenceIdeal.defs _ _).mono (fun _ h c => ?_) (Cert.ProdNtReferenceIdeal.Value.run (F := Ideal) m' ρ')
  obtain ⟨r0, hk⟩ := h c
  obtain ⟨b, h0⟩ := exists_e2 (m ((c.tc : Thread _ _).loc Cert.ProdNtKernelIdeal.main_arg0))
  obtain ⟨a, h1⟩ := exists_e2 (m ((c.tc : Thread _ _).loc Cert.ProdNtKernelIdeal.main_arg1))
  obtain ⟨a0, a1⟩ := hagree c
  have b0 : m' ((c.tc : Thread _ _).loc Cert.ProdNtReferenceIdeal.main_arg0) = e2 b := a0.trans h0
  have b1 : m' ((c.tc : Thread _ _).loc Cert.ProdNtReferenceIdeal.main_arg1) = e2 a := a1.trans h1
  rw [Cert.ProdNtReferenceIdeal.Read.val_main_v2_eq, b0, b1] at r0
  exact ⟨r0.trans ((Cert.ProdNtReferenceIdeal.Read.v2 a b).trans (Cert.ProdNtKernelIdeal.Value.last2
    (Cert.ProdNtKernelIdeal.Value.opA m c a h1) (Cert.ProdNtKernelIdeal.Value.opB m c b h0)).symm), hk⟩

end Cert.Proof.ProdNt

end
-- ==== Proof.Adam.lean ====
module

public import proofs.«01_k».proof.Defs
public import proofs.«01_k».proof.Proof.Ext
public import proofs.«01_k».proof.Proof.Gen.AdamKernelIdeal.Value
public import proofs.«01_k».proof.Proof.Gen.AdamReferenceIdeal.Run
public import proofs.«01_k».proof.Proof.Gen.AdamReferenceIdeal.Read
public import Idealize.ShloMosaic.Lib.Quiescent

/-! One step of the optimiser on a norm's gains, element by element, over all extended reals. -/

@[expose] public section

set_option maxRecDepth 16384

noncomputable section

namespace Cert.Adam

open Idealize.ShloMosaic

/-- The new first moment. -/
def am (g m : EReal) : EReal := Ideal.ofBits .f32 0x3F666666#32 * m + Ideal.ofBits .f32 0x3DCCCCCD#32 * g
/-- The new second moment. -/
def av (g v : EReal) : EReal := Ideal.ofBits .f32 0x3F7FBE77#32 * v + Ideal.ofBits .f32 0x3A83126F#32 * (g * g)
/-- The weight's change. -/
def ad (g w m v : EReal) : EReal := Ideal.ofBits .f32 0xBA83126F#32 * (Ideal.div (Ideal.div (am g m) (Ideal.ofBits .f32 0x3F26BD02#32))
  (Ideal.sqrt (Ideal.div (av g v) (Ideal.ofBits .f32 0x3C231ACC#32)) + Ideal.ofBits .f32 0x322BCC77#32) + Ideal.ofBits .f32 0x3C23D70A#32 * w)

end Cert.Adam

namespace Cert.AdamKernelIdeal.Value

open Idealize.ShloMosaic Idealize.ShloMosaic.TcCoe Idealize.SL.Sem
open Cert.AdamKernelIdeal Cert.AdamKernelIdeal.Gen Cert.Ext Cert.Adam

/-- An array of one block. -/
abbrev b3 (f : E 2 1024) := e3 fun _ : Fin 1 => f

theorem pay3 (g m : E 2 1024) : k0_pay3 (F := Ideal) (b3 g) (b3 m) = e2 fun r j => am (g r j) (m r j) := by
  funext i; idx_vars i; pointwise [k0_pay3, k0_pay2]; rfl
theorem pay4 (g v : E 2 1024) : k0_pay4 (F := Ideal) (b3 g) (b3 v) = e2 fun r j => av (g r j) (v r j) := by
  funext i; idx_vars i; pointwise [k0_pay4, k0_pay2]; rfl
theorem pay5 (g m : E 2 1024) : k0_pay5 (F := Ideal) (b3 g) (b3 m) = b3 fun r j => am (g r j) (m r j) := by
  unfold k0_pay5; rw [pay3]; funext i; idx_vars i; pointwise; rfl
theorem pay6 (g v : E 2 1024) : k0_pay6 (F := Ideal) (b3 g) (b3 v) = b3 fun r j => av (g r j) (v r j) := by
  unfold k0_pay6; rw [pay4]; funext i; idx_vars i; pointwise; rfl
theorem pay1 (g w m v : E 2 1024) : k0_pay1 (F := Ideal) (k0_pay7 (b3 g) (b3 m) (b3 v)) (b3 w) = b3 fun r j => ad (g r j) (w r j) (m r j) (v r j) := by
  unfold k0_pay7; rw [pay3, pay4]; funext i; idx_vars i; pointwise [k0_pay1]; rfl

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] :=
  (by decide +kernel : ∀ t : Fin grid0.N, _)

/-- The region's operands hold these arrays. -/
structure Ops (m : (ℓ : Loc nD τ sig) → Buf (Elt Ideal) ℓ) (c : Dev nD) (w g u v : E 2 1024) : Prop where
  g : V m c main_v0 = b3 g
  w : V m c main_v1 = b3 w
  u : V m c main_v2 = b3 u
  v : V m c main_v3 = b3 v

variable {m : (ℓ : Loc nD τ sig) → Buf (Elt Ideal) ℓ} {c : Dev nD} {w g u v : E 2 1024}

theorem blk0 (H : Ops m c w g u v) (t : Fin cfg0.N) : iblk m c 0 t = b3 g := by
  funext i; exact (congrFun H.g (((cfg0.win 0).blk t).view.emb i)).trans (congrArg (b3 _) (by blk_ext [idx t]))
theorem blk1 (H : Ops m c w g u v) (t : Fin cfg0.N) : iblk m c 1 t = b3 w := by
  funext i; exact (congrFun H.w (((cfg0.win 1).blk t).view.emb i)).trans (congrArg (b3 _) (by blk_ext [idx t]))
theorem blk2 (H : Ops m c w g u v) (t : Fin cfg0.N) : iblk m c 2 t = b3 u := by
  funext i; exact (congrFun H.u (((cfg0.win 2).blk t).view.emb i)).trans (congrArg (b3 _) (by blk_ext [idx t]))
theorem blk3 (H : Ops m c w g u v) (t : Fin cfg0.N) : iblk m c 3 t = b3 v := by
  funext i; exact (congrFun H.v (((cfg0.win 3).blk t).view.emb i)).trans (congrArg (b3 _) (by blk_ext [idx t]))

theorem last4 (H : Ops m c w g u v) : (dats m 0 c).arrAt 4 cfg0.N = b3 fun r j => ad (g r j) (w r j) (u r j) (v r j) := by
  refine (dats m 0 c).arrAt_eq_of_covers 4 _ (by decide +kernel) fun t _ y => ?_
  blk_simp
  rw [after0_4, blk0 H, blk1 H, blk2 H, blk3 H]; frame_out
  rw [pay1]
  exact congrArg (b3 _) (by blk_ext [idx t])

theorem last5 (H : Ops m c w g u v) : (dats m 0 c).arrAt 5 cfg0.N = b3 fun r j => am (g r j) (u r j) := by
  refine (dats m 0 c).arrAt_eq_of_covers 5 _ (by decide +kernel) fun t _ y => ?_
  blk_simp
  rw [after0_5, blk0 H, blk1 H, blk2 H, blk3 H]; frame_out
  rw [pay5]
  exact congrArg (b3 _) (by blk_ext [idx t])

theorem last6 (H : Ops m c w g u v) : (dats m 0 c).arrAt 6 cfg0.N = b3 fun r j => av (g r j) (v r j) := by
  refine (dats m 0 c).arrAt_eq_of_covers 6 _ (by decide +kernel) fun t _ y => ?_
  blk_simp
  rw [after0_6, blk0 H, blk1 H, blk2 H, blk3 H]; frame_out
  rw [pay6]
  exact congrArg (b3 _) (by blk_ext [idx t])

theorem ops (m : (ℓ : Loc nD τ sig) → Buf (Elt Ideal) ℓ) (c : Dev nD) (w g u v : E 2 1024)
    (h0 : m ((c : Thread nD τ).loc main_arg0) = e2 w) (h1 : m ((c : Thread nD τ).loc main_arg1) = e2 g)
    (h2 : m ((c : Thread nD τ).loc main_arg2) = e2 u) (h3 : m ((c : Thread nD τ).loc main_arg3) = e2 v) : Ops m c w g u v where
  g := by entry_read; rw [h1]; funext i; idx_vars i; pointwise; rfl
  w := by entry_read; rw [h0]; funext i; idx_vars i; pointwise; rfl
  u := by entry_read; rw [h2]; funext i; idx_vars i; pointwise; rfl
  v := by entry_read; rw [h3]; funext i; idx_vars i; pointwise; rfl

end Cert.AdamKernelIdeal.Value

namespace Cert.AdamReferenceIdeal.Read

open Idealize.ShloMosaic
open Cert.AdamReferenceIdeal Cert.Ext Cert.Adam Cert.AdamKernelIdeal.Value
variable (w g u v : E 2 1024)

theorem v4 : val_main_v4 (F := Ideal) (e2 g) (e2 u) = e2 fun r j => am (g r j) (u r j) := by
  funext i; idx_vars i; pointwise [val_main_v4, val_main_v3, val_main_v2, val_main_cst_0, val_main_v1, val_main_v0, val_main_cst]; rfl
theorem v10 : val_main_v10 (F := Ideal) (e2 g) (e2 v) = e2 fun r j => av (g r j) (v r j) := by
  funext i; idx_vars i; pointwise [val_main_v10, val_main_v9, val_main_v8, val_main_cst_2, val_main_v7, val_main_v6, val_main_v5, val_main_cst_1]; rfl
theorem v23 : val_main_v23 (F := Ideal) (e2 w) (e2 g) (e2 u) (e2 v) = e2 fun r j => ad (g r j) (w r j) (u r j) (v r j) := by
  funext i; idx_vars i
  pointwise [val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3, v4 g u, v10 g v]
  rfl
theorem v24 : val_main_v24 (F := Ideal) (e2 w) (e2 g) (e2 u) (e2 v) = b3 fun r j => ad (g r j) (w r j) (u r j) (v r j) := by
  funext i; idx_vars i; pointwise [val_main_v24, v23 w g u v]; rfl
theorem v25 : val_main_v25 (F := Ideal) (e2 g) (e2 u) = b3 fun r j => am (g r j) (u r j) := by
  funext i; idx_vars i; pointwise [val_main_v25, v4 g u]; rfl
theorem v26 : val_main_v26 (F := Ideal) (e2 g) (e2 v) = b3 fun r j => av (g r j) (v r j) := by
  funext i; idx_vars i; pointwise [val_main_v26, v10 g v]; rfl

end Cert.AdamReferenceIdeal.Read

namespace Cert.Proof.Adam

open Idealize.ShloMosaic Idealize.ShloMosaic.TcCoe Idealize.SL.Sem
open Cert.Ext

/-- The reference runs, keeps its arguments, and leaves every semaphore at zero. -/
theorem frameR : Cert.quiescent_AdamReferenceIdeal := fun m ρ _ =>
  (θ_run Cert.AdamReferenceIdeal.defs _ _).mono (fun r h => ⟨fun c => (h c).2.2.2, sem_eq_zero_of_no_sems (by decide) r.2⟩)
    (Cert.AdamReferenceIdeal.Value.run (F := Ideal) m ρ)

/-- The kernel's three results are the reference's. -/
theorem algebraic : Cert.algebraic_AdamKernelIdeal_AdamReferenceIdeal := by
  intro m ρ m' ρ' hpre hagree
  refine ⟨_, _, _, Cert.AdamKernelIdeal.Value.run_blocks (F := Ideal) m ρ, ?_⟩
  refine (θ_run Cert.AdamReferenceIdeal.defs _ _).mono (fun _ h c => ?_) (Cert.AdamReferenceIdeal.Value.run (F := Ideal) m' ρ')
  obtain ⟨r0, r1, r2, hk⟩ := h c
  obtain ⟨w, h0⟩ := exists_e2 (m ((c.tc : Thread _ _).loc Cert.AdamKernelIdeal.main_arg0))
  obtain ⟨g, h1⟩ := exists_e2 (m ((c.tc : Thread _ _).loc Cert.AdamKernelIdeal.main_arg1))
  obtain ⟨u, h2⟩ := exists_e2 (m ((c.tc : Thread _ _).loc Cert.AdamKernelIdeal.main_arg2))
  obtain ⟨v, h3⟩ := exists_e2 (m ((c.tc : Thread _ _).loc Cert.AdamKernelIdeal.main_arg3))
  obtain ⟨a0, a1, a2, a3⟩ := hagree c
  have H := Cert.AdamKernelIdeal.Value.ops m c w g u v h0 h1 h2 h3
  have b0 : m' ((c.tc : Thread _ _).loc Cert.AdamReferenceIdeal.main_arg0) = e2 w := a0.trans h0
  have b1 : m' ((c.tc : Thread _ _).loc Cert.AdamReferenceIdeal.main_arg1) = e2 g := a1.trans h1
  have b2 : m' ((c.tc : Thread _ _).loc Cert.AdamReferenceIdeal.main_arg2) = e2 u := a2.trans h2
  have b3 : m' ((c.tc : Thread _ _).loc Cert.AdamReferenceIdeal.main_arg3) = e2 v := a3.trans h3
  rw [Cert.AdamReferenceIdeal.Read.val_main_v24_eq, b0, b1, b2, b3] at r0
  rw [Cert.AdamReferenceIdeal.Read.val_main_v25_eq, b1, b2] at r1
  rw [Cert.AdamReferenceIdeal.Read.val_main_v26_eq, b1, b3] at r2
  exact ⟨r0.trans ((Cert.AdamReferenceIdeal.Read.v24 w g u v).trans (Cert.AdamKernelIdeal.Value.last4 H).symm),
    r1.trans ((Cert.AdamReferenceIdeal.Read.v25 g u).trans (Cert.AdamKernelIdeal.Value.last5 H).symm),
    r2.trans ((Cert.AdamReferenceIdeal.Read.v26 g v).trans (Cert.AdamKernelIdeal.Value.last6 H).symm), hk⟩

end Cert.Proof.Adam

end
-- ==== Proof.AttnFwdSub.lean ====
module

public import proofs.«01_k».proof.Proof.AttnId
public import proofs.«01_k».proof.Proof.Ext
public import proofs.«01_k».proof.Proof.Gen.AttnFwd0KernelIdeal.Skeleton

/-! One block of 128 queries of the dilated attention's forward call against 256 keys, head by head, over the extended reals. -/

@[expose] public section

set_option maxRecDepth 16384

noncomputable section

namespace Cert.AttnFwd

open Idealize.ShloMosaic
open Cert.AttnFwd0KernelIdeal Cert.AttnFwd0KernelIdeal.Gen Cert.Ext
open Cert.Attn (cols cols' hof cols_eq cols'_eq)
open Cert.Attn0ReferenceIdeal.Read (hcol)

/-- One head's columns, and the keys a query sees. -/
def only (h : Fin 4) (x : FVec Ideal S256x256 .bf16) : FVec Ideal S256x256 .bf16 :=
  select (cols h) x (broadcast S256x256 (Scalar.ofBits .bf16 0x0000#16))
def band (b : BitVec 1) : IVec S128x256 1 :=
  ori (andi (andi (cmpi .slt (iota .tc S128x256 32 [1] iota_S128x256_d1_w32) (broadcast S128x256 128#32))
      (cmpi .sge (iota .tc S128x256 32 [1] iota_S128x256_d1_w32) (iota .tc S128x256 32 [0] iota_S128x256_d0_w32))) (broadcast S128x256 b))
    (andi (cmpi .sge (iota .tc S128x256 32 [1] iota_S128x256_d1_w32) (broadcast S128x256 128#32))
      (cmpi .sle (subi (iota .tc S128x256 32 [1] iota_S128x256_d1_w32) (broadcast S128x256 128#32)) (iota .tc S128x256 32 [0] iota_S128x256_d0_w32)))

/-- A head's scores, largest score, weights, their sum, and the weighted values. -/
def sc (b : BitVec 1) (h : Fin 4) (q : FVec Ideal S128x256 .bf16) (k : FVec Ideal S256x256 .bf16) : FVec Ideal S128x256 .f32 :=
  select (band b) (mulf (matmul dot_S128x256_S256x256_S128x256_1_1_0_0_n_n none q (only h k) (constant S128x256 .f32 0x00000000#32))
    (broadcast S128x256 (Scalar.ofBits .f32 0x3E000000#32))) (broadcast S128x256 (⊥ : EReal))
def mx (b : BitVec 1) (h : Fin 4) (q : FVec Ideal S128x256 .bf16) (k : FVec Ideal S256x256 .bf16) : FVec Ideal S128x1 .f32 :=
  shapeCast S128x1 (multiReduction .maximumf [1] S128 (sc b h q k) 0xFF800000#32 reduces_S128x256_S128 (.inl rfl) rfl) shapeCasts_S128_S128x1
def pr (b : BitVec 1) (h : Fin 4) (q : FVec Ideal S128x256 .bf16) (k : FVec Ideal S256x256 .bf16) : FVec Ideal S128x256 .f32 :=
  exp (subf (sc b h q k) (broadcastTo S128x256 (mx b h q k) broadcasts_S128x1_S128x256))
def sm (b : BitVec 1) (h : Fin 4) (q : FVec Ideal S128x256 .bf16) (k : FVec Ideal S256x256 .bf16) : FVec Ideal S128x1 .f32 :=
  shapeCast S128x1 (multiReduction .add [1] S128 (pr b h q k) 0x00000000#32 reduces_S128x256_S128 (.inl rfl) rfl) shapeCasts_S128_S128x1
def oh (b : BitVec 1) (h : Fin 4) (q : FVec Ideal S128x256 .bf16) (k v : FVec Ideal S256x256 .bf16) : FVec Ideal S128x256 .f32 :=
  matmul dot_S128x256_S256x256_S128x256_1_0_0_1_n_n none (truncf .bf16 (pr b h q k) bitsLt_bf16_f32) (only h v) (constant S128x256 .f32 0x00000000#32)

def none0 : FVec Ideal S128x256 .f32 := broadcast S128x256 (Scalar.ofBits .f32 0x00000000#32)
/-- A row's number laid over one head's columns. -/
def lay (h : Fin 4) (x : FVec Ideal S128x1 .f32) (acc : FVec Ideal S128x256 .f32) : FVec Ideal S128x256 .f32 :=
  select (cols' h) (broadcastTo S128x256 (shapeCast S128x1 x shapeCasts_S128x1_S128x1) broadcasts_S128x1_S128x256) acc

/-- The block's three results. -/
def oB (b : BitVec 1) (q : FVec Ideal S128x256 .bf16) (k v : FVec Ideal S256x256 .bf16) : FVec Ideal S128x256 .f32 :=
  addf (addf (addf (addf none0 (oh b 0 q k v)) (oh b 1 q k v)) (oh b 2 q k v)) (oh b 3 q k v)
def mB (b : BitVec 1) (q : FVec Ideal S128x256 .bf16) (k : FVec Ideal S256x256 .bf16) : FVec Ideal S128x256 .f32 :=
  lay 3 (mx b 3 q k) (lay 2 (mx b 2 q k) (lay 1 (mx b 1 q k) (lay 0 (mx b 0 q k) none0)))
def lB (b : BitVec 1) (q : FVec Ideal S128x256 .bf16) (k : FVec Ideal S256x256 .bf16) : FVec Ideal S128x256 .f32 :=
  lay 3 (sm b 3 q k) (lay 2 (sm b 2 q k) (lay 1 (sm b 1 q k) (lay 0 (sm b 0 q k) none0)))

/-- Query row `r` of a block sees column `c` of the block before and the block itself. -/
def Sees (b : BitVec 1) (r : Fin 128) (c : Fin 256) : Prop := (c.val < 128 ∧ r.val ≤ c.val ∧ b = 1#1) ∨ (128 ≤ c.val ∧ c.val ≤ r.val + 128)
instance (b r c) : Decidable (Sees b r c) := by unfold Sees; infer_instance

theorem sees_row (b : BitVec 1) (r : Fin 128) (k : Fin 256) :
    IntOp.ori (IntOp.andi (IntOp.andi (IntOp.cmpi .slt (BitVec.ofNat 32 k.val) 128#32) (IntOp.cmpi .sge (BitVec.ofNat 32 k.val) (BitVec.ofNat 32 r.val))) b)
      (IntOp.andi (IntOp.cmpi .sge (BitVec.ofNat 32 k.val) 128#32) (IntOp.cmpi .sle (IntOp.subi (BitVec.ofNat 32 k.val) 128#32) (BitVec.ofNat 32 r.val)))
      = if Sees b r k then 1#1 else 0#1 := by
  have h1 : ∀ k : Fin 256, IntOp.cmpi .slt (BitVec.ofNat 32 k.val) 128#32 = if k.val < 128 then 1#1 else 0#1 := by decide +kernel
  have h2 : ∀ k : Fin 256, IntOp.cmpi .sge (BitVec.ofNat 32 k.val) 128#32 = if 128 ≤ k.val then 1#1 else 0#1 := by decide +kernel
  have h3 : ∀ r : Fin 128, ∀ k : Fin 256, IntOp.cmpi .sge (BitVec.ofNat 32 k.val) (BitVec.ofNat 32 r.val) = if r.val ≤ k.val then 1#1 else 0#1 := by decide +kernel
  have h4 : ∀ k : Fin 256, 128 ≤ k.val → IntOp.subi (BitVec.ofNat 32 k.val) 128#32 = BitVec.ofNat 32 (k.val - 128) := by decide +kernel
  have h5 : ∀ r k : Fin 128, IntOp.cmpi .sle (BitVec.ofNat 32 k.val) (BitVec.ofNat 32 r.val) = if k.val ≤ r.val then 1#1 else 0#1 := by decide +kernel
  rw [h1, h2, h3]
  by_cases hr : k.val < 128
  · have hn : ¬ 128 ≤ k.val := by omega
    rcases (by decide : ∀ b : BitVec 1, b = 0#1 ∨ b = 1#1) b with hb | hb <;> by_cases hk : r.val ≤ k.val <;>
      simp [Sees, hr, hn, hk, hb, IntOp.ori, IntOp.andi]
  · have hn : 128 ≤ k.val := by omega
    rw [h4 k hn, h5 r ⟨k.val - 128, by omega⟩]
    by_cases hk : k.val ≤ r.val + 128 <;> simp [Sees, hr, hn, hk, IntOp.ori, IntOp.andi]

theorem band_eq (b : BitVec 1) : band b = fun i => if Sees b (i 0) (i 1) then 1#1 else 0#1 := by
  funext i; idx_vars i; pointwise [band]; exact sees_row b i0 i1

theorem sel {P : Prop} [Decidable P] (a b : EReal) : Scalar.select (if P then 1#1 else 0#1) a b = if P then a else b := by
  by_cases h : P <;> simp [h, Scalar.select]

theorem zero_bf : (Scalar.ofBits (F := Ideal) .bf16 0x0000#16 : EReal) = 0 := by
  show Ideal.ofBits .bf16 0x0000#16 = 0; simp [Ideal.ofBits, Ideal.ieee]

theorem only_eq (h : Fin 4) (x : E 256 256) : only h (e2 x) = e2 fun r a => if hof a = h then x r a else 0 := by
  unfold only; rw [cols_eq]
  funext i; idx_vars i; pointwise
  exact sel _ _

/-- A sum over the columns of one head. -/
theorem head_sum (h : Fin 4) (x y : Fin 256 → EReal) : (∑ a, x a * if hof a = h then y a else 0) = ∑ e, x (hcol h e) * y (hcol h e) := by
  rw [← Equiv.sum_comp (finProdFinEquiv (m := 4) (n := 64)), Fintype.sum_prod_type]
  have e : ∀ (h' : Fin 4) (e : Fin 64), (finProdFinEquiv (h', e) : Fin 256) = hcol h' e := fun h' e =>
    Fin.ext (show e.val + 64 * h'.val = h'.val * 64 + e.val by omega)
  have e2 : ∀ (h' : Fin 4) (e : Fin 64), hof (hcol h' e) = h' := fun h' e =>
    Fin.ext (show (h'.val * 64 + e.val) / 64 = h'.val by omega)
  simp only [e, e2]
  rw [Finset.sum_eq_single h (fun h' _ hh => Finset.sum_eq_zero fun e _ => by rw [if_neg hh, mul_zero]) (fun hh => absurd (Finset.mem_univ h) hh)]
  exact Finset.sum_congr rfl fun e _ => by rw [if_pos rfl]

abbrev eighth : EReal := Ideal.ofBits .f32 0x3E000000#32

section
variable (b : BitVec 1) (q : E 128 256) (k v : E 256 256)

/-- The scores of a query row, and what the three results are of them. -/
def s (h : Fin 4) (r : Fin 128) (c : Fin 256) : EReal := if Sees b r c then (∑ e, q r (hcol h e) * k c (hcol h e)) * eighth else ⊥
def top (h : Fin 4) (r : Fin 128) : EReal := Finset.univ.fold max ⊥ (s b q k h r)
def p (h : Fin 4) (r : Fin 128) (c : Fin 256) : EReal := Ideal.exp (s b q k h r c - top b q k h r)

theorem sc_eq (h : Fin 4) : sc b h (e2 q) (e2 k) = e2 (s b q k h) := by
  unfold sc; rw [only_eq, band_eq]
  funext i; idx_vars i; pointwise
  exact (congrArg (fun z => Scalar.select (if Sees b i0 i1 then 1#1 else 0#1) (z * eighth) ⊥) (head_sum h (q i0) (k i1))).trans (sel _ _)

theorem mx_eq (h : Fin 4) : mx b h (e2 q) (e2 k) = e2 fun r _ => top b q k h r := by
  unfold mx; rw [sc_eq]
  funext i; idx_vars i; pointwise
  rw [Cert.Lift.ofBits_neg_inf]; rfl

theorem pr_eq (h : Fin 4) : pr b h (e2 q) (e2 k) = e2 (p b q k h) := by
  unfold pr; rw [mx_eq, sc_eq]
  funext i; idx_vars i; pointwise; rfl

theorem sm_eq (h : Fin 4) : sm b h (e2 q) (e2 k) = e2 fun r _ => ∑ c, p b q k h r c := by
  unfold sm; rw [pr_eq]
  funext i; idx_vars i; pointwise; rfl

theorem oh_eq (h : Fin 4) : oh b h (e2 q) (e2 k) (e2 v) = e2 fun r a => if hof a = h then ∑ c, p b q k h r c * v c a else 0 := by
  unfold oh; rw [pr_eq, only_eq]
  funext i; idx_vars i; pointwise
  show ∑ c, p b q k h i0 c * (if hof i1 = h then v c i1 else 0) = if hof i1 = h then ∑ c, p b q k h i0 c * v c i1 else 0
  by_cases e : hof i1 = h
  · simp only [if_pos e]
  · simp only [if_neg e, mul_zero, Finset.sum_const_zero]

theorem lay_eq (h : Fin 4) (x : Fin 128 → EReal) (acc : E 128 256) : lay h (e2 fun r _ => x r) (e2 acc) = e2 fun r a => if hof a = h then x r else acc r a := by
  unfold lay; rw [cols'_eq]
  funext i; idx_vars i; pointwise
  exact sel _ _

theorem none0_eq : none0 = e2 fun _ _ => 0 := by
  funext i; idx_vars i; pointwise [none0]

theorem lays (x : Fin 4 → Fin 128 → EReal) :
    lay 3 (e2 fun r _ => x 3 r) (lay 2 (e2 fun r _ => x 2 r) (lay 1 (e2 fun r _ => x 1 r) (lay 0 (e2 fun r _ => x 0 r) none0))) = e2 fun r a => x (hof a) r := by
  rw [none0_eq, lay_eq, lay_eq, lay_eq, lay_eq]
  refine congrArg e2 (funext fun r => funext fun a => ?_)
  show (if hof a = 3 then x 3 r else if hof a = 2 then x 2 r else if hof a = 1 then x 1 r else if hof a = 0 then x 0 r else 0) = x (hof a) r
  generalize hof a = h
  fin_cases h <;> rfl

theorem mB_eq : mB b (e2 q) (e2 k) = e2 fun r a => top b q k (hof a) r := by
  unfold mB; rw [mx_eq, mx_eq, mx_eq, mx_eq]; exact lays fun h r => top b q k h r
theorem lB_eq : lB b (e2 q) (e2 k) = e2 fun r a => ∑ c, p b q k (hof a) r c := by
  unfold lB; rw [sm_eq, sm_eq, sm_eq, sm_eq]; exact lays fun h r => ∑ c, p b q k h r c
theorem oB_eq : oB b (e2 q) (e2 k) (e2 v) = e2 fun r a => ∑ c, p b q k (hof a) r c * v c a := by
  unfold oB; rw [oh_eq, oh_eq, oh_eq, oh_eq, none0_eq]
  funext i; idx_vars i; pointwise
  show (if hof i1 = 0 then ∑ c, p b q k 0 i0 c * v c i1 else 0) + (if hof i1 = 1 then ∑ c, p b q k 1 i0 c * v c i1 else 0) + (if hof i1 = 2 then ∑ c, p b q k 2 i0 c * v c i1 else 0) + (if hof i1 = 3 then ∑ c, p b q k 3 i0 c * v c i1 else 0) = ∑ c, p b q k (hof i1) i0 c * v c i1
  generalize hof i1 = h
  fin_cases h <;> simp
end

end Cert.AttnFwd

end
-- ==== Proof.AttnFwdRow.lean ====
module

public import proofs.«01_k».proof.Proof.AttnFwdSub

/-! The forward call's rows over whole arrays: 256 columns of two blocks stand for the 4096 positions of the sequence. -/

@[expose] public section

set_option maxRecDepth 16384

noncomputable section

namespace Cert.AttnFwd

open Idealize.ShloMosaic Cert.Ext
open Cert.Attn (hof tok tokE blks vis_iff col col_hcol three)
open Cert.Attn0ReferenceIdeal.Read (hcol gcol ok)

section
variable {P : Fin 256 → Prop} {Q : Fin 4096 → Prop} [DecidablePred P] [DecidablePred Q] (f : Fin 256 → Fin 4096) (F : Fin 4096 → EReal)

theorem sum_move (inj : Function.Injective f) (h1 : ∀ c, P c → Q (f c)) (h2 : ∀ s, Q s → ∃ c, P c ∧ f c = s) :
    (∑ c, if P c then F (f c) else 0) = ∑ s, if Q s then F s else 0 := by
  rw [← Finset.sum_filter, ← Finset.sum_filter]
  refine Finset.sum_bij (fun c _ => f c) (fun c hc => ?_) (fun c _ c' _ e => inj e) (fun s hs => ?_) (fun c _ => rfl)
  · exact Finset.mem_filter.mpr ⟨Finset.mem_univ _, h1 c (Finset.mem_filter.mp hc).2⟩
  · obtain ⟨c, hc, e⟩ := h2 s (Finset.mem_filter.mp hs).2
    exact ⟨c, Finset.mem_filter.mpr ⟨Finset.mem_univ _, hc⟩, e⟩

theorem max_move (h1 : ∀ c, P c → Q (f c)) (h2 : ∀ s, Q s → ∃ c, P c ∧ f c = s) :
    Finset.univ.fold max ⊥ (fun c => if P c then F (f c) else (⊥ : EReal)) = Finset.univ.fold max ⊥ fun s => if Q s then F s else ⊥ := by
  show Finset.univ.sup (fun c => if P c then F (f c) else (⊥ : EReal)) = Finset.univ.sup fun s => if Q s then F s else ⊥
  refine le_antisymm (Finset.sup_le fun c _ => ?_) (Finset.sup_le fun s _ => ?_)
  · by_cases hc : P c
    · rw [if_pos hc]
      exact le_trans (le_of_eq (if_pos (h1 c hc)).symm) (Finset.le_sup (f := fun s => if Q s then F s else ⊥) (Finset.mem_univ (f c)))
    · rw [if_neg hc]; exact bot_le
  · by_cases hs : Q s
    · obtain ⟨c, hc, rfl⟩ := h2 s hs
      rw [if_pos hs]
      exact le_trans (le_of_eq (if_pos hc).symm) (Finset.le_sup (f := fun c => if P c then F (f c) else (⊥ : EReal)) (Finset.mem_univ c))
    · rw [if_neg hs]; exact bot_le
end

theorem exp_bot (x : EReal) : Ideal.exp (⊥ - x) = 0 := by rw [EReal.bot_sub]; rfl

section
variable (g : Fin 3) (q k v : E 4096 768)
/-- The score of position `s` for position `t` in a group's head, the largest, the weight, and the three results. -/
def raw (h : Fin 4) (t s : Fin 4096) : EReal := (∑ e, q t (gcol g h e) * k s (gcol g h e)) * eighth
def S (h : Fin 4) (t s : Fin 4096) : EReal := if ok g t s then raw g q k h t s else ⊥
def T (h : Fin 4) (t : Fin 4096) : EReal := Finset.univ.fold max ⊥ (S g q k h t)
def W (h : Fin 4) (t s : Fin 4096) : EReal := Ideal.exp (S g q k h t s - T g q k h t)
def L (h : Fin 4) (t : Fin 4096) : EReal := ∑ s, W g q k h t s
def O (h : Fin 4) (t : Fin 4096) (a : Fin 256) : EReal := ∑ s, W g q k h t s * v s (col g a)
end

/-- Whether the block before goes on with the same residue; the row of a column of two blocks, and its position. -/
def nb (g : Fin 3) (b : ℕ) : BitVec 1 := if b % blks g = 0 then 0#1 else 1#1
def crow (b : ℕ) (c : Fin 256) : Fin 4096 := ⟨(128 * (b + 31) + c.val) % 4096, by omega⟩
def qrow (b : ℕ) (r : Fin 128) : Fin 4096 := ⟨(128 * b + r.val) % 4096, by omega⟩

theorem crow_inj (b : ℕ) : Function.Injective (crow b) := fun c c' e => by
  have := Fin.val_eq_of_eq e
  simp only [crow] at this
  exact Fin.ext (by omega)

theorem nb_one (g : Fin 3) (b : ℕ) (h : nb g b = 1#1) : ¬ b % blks g = 0 := fun e => by
  rw [nb, if_pos e] at h; exact absurd h (by decide)

theorem sees_vis (g : Fin 3) (b : ℕ) (hb : b < 32) (r : Fin 128) (c : Fin 256) (h : Sees (nb g b) r c) : Cert.Attn.Arr.Vis (blks g) (qrow b r) (crow b c) := by
  have h' : (c.val < 128 ∧ r.val ≤ c.val ∧ ¬ b % blks g = 0) ∨ (128 ≤ c.val ∧ c.val ≤ r.val + 128) :=
    h.imp (fun x => ⟨x.1, x.2.1, nb_one g b x.2.2⟩) id
  unfold Cert.Attn.Arr.Vis
  rcases three g with rfl | rfl | rfl <;> simp only [blks, crow, qrow] at h' ⊢ <;> omega

theorem vis_sees (g : Fin 3) (b : ℕ) (hb : b < 32) (r : Fin 128) (C : Fin 4096) (h : Cert.Attn.Arr.Vis (blks g) (qrow b r) C) :
    ∃ c, Sees (nb g b) r c ∧ crow b c = C := by
  obtain ⟨C, hC⟩ := C
  unfold Cert.Attn.Arr.Vis at h
  have hc : C + 128 - 128 * b < 256 := by
    rcases three g with rfl | rfl | rfl <;> simp only [blks, qrow] at h <;> omega
  have hr := r.isLt
  have hlo : 128 * b ≤ C + 128 := by
    rcases three g with rfl | rfl | rfl <;> simp only [blks, qrow] at h <;> omega
  refine ⟨⟨C + 128 - 128 * b, hc⟩, ?_, Fin.ext (by show (128 * (b + 31) + (C + 128 - 128 * b)) % 4096 = C; omega)⟩
  unfold Sees nb
  show (C + 128 - 128 * b < 128 ∧ r.val ≤ C + 128 - 128 * b ∧ _) ∨ (128 ≤ C + 128 - 128 * b ∧ C + 128 - 128 * b ≤ r.val + 128)
  by_cases hl : C + 128 - 128 * b < 128
  · refine .inl ⟨hl, ?_, if_neg ?_⟩
    · rcases three g with rfl | rfl | rfl <;> simp only [blks, qrow] at h <;> omega
    · rcases three g with rfl | rfl | rfl <;> simp only [blks, qrow] at h ⊢ <;> omega
  · refine .inr ⟨by omega, ?_⟩
    rcases three g with rfl | rfl | rfl <;> simp only [blks, qrow] at h <;> omega

section
variable (g : Fin 3) (q k v : E 4096 768) (b : ℕ) (hb : b < 32) (qq : E 128 256) (kk vv : E 256 256)
variable (hq : ∀ r a, qq r a = q (tok g (qrow b r)) (col g a))
variable (hk : ∀ c, (128 ≤ c.val ∨ nb g b = 1#1) → ∀ a, kk c a = k (tok g (crow b c)) (col g a))
variable (hv : ∀ c, (128 ≤ c.val ∨ nb g b = 1#1) → ∀ a, vv c a = v (tok g (crow b c)) (col g a))

include hb in
theorem to_ok (r : Fin 128) (c : Fin 256) (h : Sees (nb g b) r c) : ok g (tok g (qrow b r)) (tok g (crow b c)) :=
  (vis_iff g _ _).mp (sees_vis g b hb r c h)
include hb in
theorem of_ok (r : Fin 128) (s : Fin 4096) (h : ok g (tok g (qrow b r)) s) : ∃ c, Sees (nb g b) r c ∧ tok g (crow b c) = s := by
  have e : tok g ((tokE g).symm s) = s := (tokE g).apply_symm_apply s
  obtain ⟨c, h1, h2⟩ := vis_sees g b hb r ((tokE g).symm s) ((vis_iff g _ _).mpr (by rw [e]; exact h))
  exact ⟨c, h1, by rw [h2, e]⟩
theorem pos_inj : Function.Injective fun c => tok g (crow b c) := fun c c' e => crow_inj b ((tokE g).injective e)

theorem seen (r : Fin 128) (c : Fin 256) (h : Sees (nb g b) r c) : 128 ≤ c.val ∨ nb g b = 1#1 := by
  rcases h with h | h
  · exact .inr h.2.2
  · exact .inl h.1

include hq hk in
theorem s_eq (h : Fin 4) (r : Fin 128) (c : Fin 256) :
    s (nb g b) qq kk h r c = if Sees (nb g b) r c then raw g q k h (tok g (qrow b r)) (tok g (crow b c)) else ⊥ := by
  unfold s raw
  by_cases hs : Sees (nb g b) r c
  · rw [if_pos hs, if_pos hs]
    refine congrArg (fun z : EReal => z * eighth) (Finset.sum_congr rfl fun e _ => ?_)
    rw [hq, hk c (seen g b r c hs), col_hcol]
  · rw [if_neg hs, if_neg hs]

include hb hq hk in
theorem top_eq (h : Fin 4) (r : Fin 128) : top (nb g b) qq kk h r = T g q k h (tok g (qrow b r)) := by
  unfold top T
  rw [show s (nb g b) qq kk h r = fun c => if Sees (nb g b) r c then raw g q k h (tok g (qrow b r)) (tok g (crow b c)) else ⊥ from
    funext fun c => s_eq g q k b qq kk hq hk h r c]
  exact max_move (fun c => tok g (crow b c)) (raw g q k h (tok g (qrow b r))) (to_ok g b hb r) (of_ok g b hb r)

include hb hq hk in
theorem p_eq (h : Fin 4) (r : Fin 128) (c : Fin 256) : p (nb g b) qq kk h r c
    = if Sees (nb g b) r c then Ideal.exp (raw g q k h (tok g (qrow b r)) (tok g (crow b c)) - T g q k h (tok g (qrow b r))) else 0 := by
  unfold p
  rw [s_eq g q k b qq kk hq hk, top_eq g q k b hb qq kk hq hk]
  by_cases hs : Sees (nb g b) r c
  · rw [if_pos hs, if_pos hs]
  · rw [if_neg hs, if_neg hs, exp_bot]

theorem W_eq (h : Fin 4) (t s : Fin 4096) : W g q k h t s = if ok g t s then Ideal.exp (raw g q k h t s - T g q k h t) else 0 := by
  unfold W S
  by_cases hs : ok g t s
  · rw [if_pos hs, if_pos hs]
  · rw [if_neg hs, if_neg hs, exp_bot]

include hb hq hk in
theorem sum_eq (h : Fin 4) (r : Fin 128) : ∑ c, p (nb g b) qq kk h r c = L g q k h (tok g (qrow b r)) := by
  unfold L
  rw [Finset.sum_congr rfl fun c _ => p_eq g q k b hb qq kk hq hk h r c, Finset.sum_congr rfl fun s _ => W_eq g q k h _ s]
  exact sum_move (fun c => tok g (crow b c)) (fun s => Ideal.exp (raw g q k h (tok g (qrow b r)) s - T g q k h (tok g (qrow b r)))) (pos_inj g b) (to_ok g b hb r) (of_ok g b hb r)

include hb hq hk hv in
theorem out_eq (h : Fin 4) (r : Fin 128) (a : Fin 256) : ∑ c, p (nb g b) qq kk h r c * vv c a = O g q k v h (tok g (qrow b r)) a := by
  unfold O
  have e1 : ∀ c, p (nb g b) qq kk h r c * vv c a = if Sees (nb g b) r c
      then Ideal.exp (raw g q k h (tok g (qrow b r)) (tok g (crow b c)) - T g q k h (tok g (qrow b r))) * v (tok g (crow b c)) (col g a) else 0 := fun c => by
    rw [p_eq g q k b hb qq kk hq hk]
    by_cases hs : Sees (nb g b) r c
    · rw [if_pos hs, if_pos hs, hv c (seen g b r c hs)]
    · rw [if_neg hs, if_neg hs, zero_mul]
  have e2 : ∀ s, W g q k h (tok g (qrow b r)) s * v s (col g a) = if ok g (tok g (qrow b r)) s
      then Ideal.exp (raw g q k h (tok g (qrow b r)) s - T g q k h (tok g (qrow b r))) * v s (col g a) else 0 := fun s => by
    rw [W_eq]
    by_cases hs : ok g (tok g (qrow b r)) s
    · rw [if_pos hs, if_pos hs]
    · rw [if_neg hs, if_neg hs, zero_mul]
  rw [Finset.sum_congr rfl fun c _ => e1 c, Finset.sum_congr rfl fun s _ => e2 s]
  exact sum_move (fun c => tok g (crow b c)) (fun s => Ideal.exp (raw g q k h (tok g (qrow b r)) s - T g q k h (tok g (qrow b r))) * v s (col g a))
    (pos_inj g b) (to_ok g b hb r) (of_ok g b hb r)
end

end Cert.AttnFwd

end
-- ==== Proof.AttnFwdStep.lean ====
module

public import proofs.«01_k».proof.Proof.AttnFwdRow
public import proofs.«01_k».proof.Proof.AttnStep
public import proofs.«01_k».proof.Proof.Gen.AttnFwd0KernelIdeal.Frame

/-! One grid point of the dilated attention's forward call: four blocks of queries, each against its own keys and the block before. -/

@[expose] public section

set_option maxRecDepth 16384

noncomputable section

namespace Cert.AttnFwd

open Idealize.ShloMosaic Idealize.ShloMosaic.TcCoe
open Cert.AttnFwd0KernelIdeal Cert.AttnFwd0KernelIdeal.Gen Cert.Ext
open Cert.Attn (hof tok blks col three rowb rowf cat four Inb at_)

/-- A point's input blocks: queries, and keys and values each with the block of rows before. -/
structure In where
  q : FVec Ideal S512x256 .bf16
  k : FVec Ideal S512x256 .bf16
  k' : FVec Ideal S128x256 .bf16
  v : FVec Ideal S512x256 .bf16
  v' : FVec Ideal S128x256 .bf16

/-- A query block, and the two blocks of keys or values it meets. -/
def qb (o : ℕ) (h : Inb o) (x : FVec Ideal S512x256 .bf16) : FVec Ideal S128x256 .bf16 := shapeCast S128x256 (rowb o h x) shapeCasts_S128x256_S128x256
def lead (x : FVec Ideal S128x256 .bf16) : FVec Ideal S128x256 .bf16 :=
  View.ld (Val := Elt Ideal) (e' := .bf16) (S := S128x256) x (Rect.unit (s := S128x256) ![0, 0] ![128, 256] inb_S128x256_S128x256_0_0)
def two0 (x' : FVec Ideal S128x256 .bf16) (x : FVec Ideal S512x256 .bf16) : FVec Ideal S256x256 .bf16 := cat (lead x') (rowb 0 inb_S512x256_S128x256_0_0 x)
def two (o o' : ℕ) (h : Inb o) (h' : Inb o') (x : FVec Ideal S512x256 .bf16) : FVec Ideal S256x256 .bf16 := cat (rowb o h x) (rowb o' h' x)

/-- Whether the block before belongs to the same residue. -/
def bit (p n j : BitVec 32) : BitVec 1 := Scalar.cmpi .sgt (Scalar.andi (Scalar.addi (Scalar.muli p 4#32) j) n) 0#32

/-- A result of four blocks, from a block's function. -/
def In.res (i : In) (p n : BitVec 32) (f : BitVec 1 → FVec Ideal S128x256 .bf16 → FVec Ideal S256x256 .bf16 → FVec Ideal S256x256 .bf16 → FVec Ideal S128x256 .f32) :
    FVec Ideal S512x256 .f32 :=
  four (f (bit p n 0#32) (qb 0 inb_S512x256_S128x256_0_0 i.q) (two0 i.k' i.k) (two0 i.v' i.v))
    (f (bit p n 1#32) (qb 128 inb_S512x256_S128x256_128_0 i.q) (two 0 128 inb_S512x256_S128x256_0_0 inb_S512x256_S128x256_128_0 i.k)
      (two 0 128 inb_S512x256_S128x256_0_0 inb_S512x256_S128x256_128_0 i.v))
    (f (bit p n 2#32) (qb 256 inb_S512x256_S128x256_256_0 i.q) (two 128 256 inb_S512x256_S128x256_128_0 inb_S512x256_S128x256_256_0 i.k)
      (two 128 256 inb_S512x256_S128x256_128_0 inb_S512x256_S128x256_256_0 i.v))
    (f (bit p n 3#32) (qb 384 inb_S512x256_S128x256_384_0 i.q) (two 256 384 inb_S512x256_S128x256_256_0 inb_S512x256_S128x256_384_0 i.k)
      (two 256 384 inb_S512x256_S128x256_256_0 inb_S512x256_S128x256_384_0 i.v))

theorem cast_e (x : E 128 256) {φ : FTy} : shapeCast S128x256 (e2 x : FVec Ideal S128x256 φ) shapeCasts_S128x256_S128x256 = e2 x := by
  funext i; idx_vars i; pointwise
theorem rowb_e (o : ℕ) (inb : Inb o) (x : E 512 256) (ho : o + 128 ≤ 512) : rowb o inb (e2 x) = e2 fun r a => x ⟨o + r.val, by omega⟩ a := by
  unfold rowb; funext i; idx_vars i; pointwise; rfl
theorem rowf_e (o : ℕ) (inb : Inb o) (x : E 512 256) (ho : o + 128 ≤ 512) : rowf o inb (e2 x) = e2 fun r a => x ⟨o + r.val, by omega⟩ a := by
  unfold rowf; funext i; idx_vars i; pointwise; rfl
theorem lead_e (x : E 128 256) : lead (e2 x) = e2 x := by
  unfold lead; funext i; idx_vars i; pointwise
theorem cat_e {φ : FTy} (x y : E 128 256) : (cat (e2 x) (e2 y) : FVec Ideal S256x256 φ)
    = e2 fun r a => if h : r.val < 128 then x ⟨r.val, h⟩ a else y ⟨r.val - 128, by omega⟩ a := by
  unfold cat; rw [cast_e (φ := φ), cast_e (φ := φ)]
  funext i; idx_vars i; pointwise; rfl

theorem four_rows (f : FVec Ideal S512x256 .f32) : four (rowf 0 inb_S512x256_S128x256_0_0 f) (rowf 128 inb_S512x256_S128x256_128_0 f)
    (rowf 256 inb_S512x256_S128x256_256_0 f) (rowf 384 inb_S512x256_S128x256_384_0 f) = f := by
  funext j
  unfold four
  refine View.canon_apply_of_pieces (Val := Elt Ideal) (S := S512x256) (e := .f32) f _ ?_ j (cover0_5 (F := Ideal) _ _ _ _ j)
  exact List.forall_mem_cons.mpr ⟨fun _ => rfl, List.forall_mem_cons.mpr ⟨fun _ => rfl, List.forall_mem_cons.mpr ⟨fun _ => rfl, List.forall_mem_cons.mpr ⟨fun _ => rfl,
    fun _ hp => absurd hp List.not_mem_nil⟩⟩⟩⟩

/-- Rows sorted by residue and a group's columns, and a point's 512 rows of them and the 128 before. -/
def srt (g : Fin 3) (u : E 4096 768) : E 4096 256 := fun R a => u (tok g R) (col g a)
def now (D : E 4096 256) (t : ℕ) : E 512 256 := fun s a => D (at_ (512 * t + s.val)) a
def pre (D : E 4096 256) (t : ℕ) : E 128 256 := fun s a => D (at_ (128 * (4 * t - 1) + s.val)) a
def inp (g : Fin 3) (q k v : E 4096 768) (t : ℕ) : In := ⟨e2 (now (srt g q) t), e2 (now (srt g k) t), e2 (pre (srt g k) t), e2 (now (srt g v) t), e2 (pre (srt g v) t)⟩

/-- A block's operands are the sequence's, where the block before is seen. -/
structure Fit (g : Fin 3) (q k v : E 4096 768) (b : ℕ) (x : FVec Ideal S128x256 .bf16) (y z : FVec Ideal S256x256 .bf16) : Prop where
  hb : b < 32
  hq : ∃ f : E 128 256, x = e2 f ∧ ∀ r a, f r a = q (tok g (qrow b r)) (col g a)
  hk : ∃ f : E 256 256, y = e2 f ∧ ∀ c, (128 ≤ c.val ∨ nb g b = 1#1) → ∀ a, f c a = k (tok g (crow b c)) (col g a)
  hv : ∃ f : E 256 256, z = e2 f ∧ ∀ c, (128 ≤ c.val ∨ nb g b = 1#1) → ∀ a, f c a = v (tok g (crow b c)) (col g a)

section
variable (g : Fin 3) (q k v : E 4096 768)

theorem srt_at (u : E 4096 768) {R R' : Fin 4096} (h : R.val = R'.val) (a : Fin 256) : srt g u R a = u (tok g R') (col g a) := by
  rw [Fin.ext h]; rfl

theorem qb_fit (t j : ℕ) (ht : t < 8) (hj : j < 4) (inb : Inb (128 * j)) :
    ∃ f : E 128 256, qb (128 * j) inb (e2 (now (srt g q) t)) = e2 f ∧ ∀ r a, f r a = q (tok g (qrow (4 * t + j) r)) (col g a) := by
  refine ⟨_, by unfold qb; rw [rowb_e _ _ _ (by omega)]; exact cast_e (φ := .bf16) _, fun r a => srt_at g q ?_ a⟩
  show (512 * t + (128 * j + r.val)) % 4096 = (128 * (4 * t + j) + r.val) % 4096
  omega

theorem two_fit (u : E 4096 768) (t j : ℕ) (ht : t < 8) (hj : j < 3) (inb : Inb (128 * j)) (inb' : Inb (128 * (j + 1))) (P : Fin 256 → Prop) :
    ∃ f : E 256 256, two (128 * j) (128 * (j + 1)) inb inb' (e2 (now (srt g u) t)) = e2 f ∧ ∀ c, P c → ∀ a, f c a = u (tok g (crow (4 * t + (j + 1)) c)) (col g a) := by
  refine ⟨_, by unfold two; rw [rowb_e _ _ _ (by omega), rowb_e _ _ _ (by omega), cat_e], fun c _ a => ?_⟩
  have hc := c.isLt
  by_cases h : c.val < 128
  · refine (dif_pos h).trans (srt_at g u ?_ a)
    show (512 * t + (128 * j + c.val)) % 4096 = (128 * (4 * t + (j + 1) + 31) + c.val) % 4096
    omega
  · refine (dif_neg h).trans (srt_at g u ?_ a)
    show (512 * t + (128 * (j + 1) + (c.val - 128))) % 4096 = (128 * (4 * t + (j + 1) + 31) + c.val) % 4096
    omega

theorem two0_fit (u : E 4096 768) (t : ℕ) (ht : t < 8) :
    ∃ f : E 256 256, two0 (e2 (pre (srt g u) t)) (e2 (now (srt g u) t)) = e2 f ∧ ∀ c, (128 ≤ c.val ∨ nb g (4 * t + 0) = 1#1) → ∀ a, f c a = u (tok g (crow (4 * t + 0) c)) (col g a) := by
  refine ⟨_, by unfold two0; rw [lead_e, rowb_e _ _ _ (by omega), cat_e], fun c hc' a => ?_⟩
  have hc := c.isLt
  by_cases h : c.val < 128
  · refine (dif_pos h).trans (srt_at g u ?_ a)
    have hn := nb_one g _ (hc'.resolve_left (by omega))
    have h0 : t ≠ 0 := fun e => hn (by rw [e]; exact Nat.zero_mod _)
    show (128 * (4 * t - 1) + c.val) % 4096 = (128 * (4 * t + 0 + 31) + c.val) % 4096
    omega
  · refine (dif_neg h).trans (srt_at g u ?_ a)
    show (512 * t + (0 + (c.val - 128))) % 4096 = (128 * (4 * t + 0 + 31) + c.val) % 4096
    omega

/-- The four blocks' results make up the rows of an array, for a block's function that gives its own rows. -/
theorem res_eq (t : ℕ) (ht : t < 8) (p n : BitVec 32) (hbit : bit p n 0#32 = nb g (4 * t + 0) ∧ bit p n 1#32 = nb g (4 * t + 1) ∧ bit p n 2#32 = nb g (4 * t + 2) ∧ bit p n 3#32 = nb g (4 * t + 3))
    (f : BitVec 1 → FVec Ideal S128x256 .bf16 → FVec Ideal S256x256 .bf16 → FVec Ideal S256x256 .bf16 → FVec Ideal S128x256 .f32) (G : E 4096 256)
    (hf : ∀ b x y z, Fit g q k v b x y z → f (nb g b) x y z = e2 fun r a => G (qrow b r) a) : (inp g q k v t).res p n f = e2 (now G t) := by
  obtain ⟨h0, h1, h2, h3⟩ := hbit
  have row : ∀ (j : ℕ) (hj : j < 4) (inb : Inb (128 * j)), (e2 fun (r : Fin 128) a => G (qrow (4 * t + j) r) a) = rowf (128 * j) inb (e2 (now G t)) := fun j hj inb => by
    rw [rowf_e _ _ _ (by omega)]
    refine congrArg e2 (funext fun r => funext fun a => congrFun (congrArg G (Fin.ext ?_)) a)
    show (128 * (4 * t + j) + r.val) % 4096 = (512 * t + (128 * j + r.val)) % 4096
    omega
  refine Eq.trans ?_ (four_rows (e2 (now G t)))
  unfold In.res
  rw [h0, h1, h2, h3]
  refine congr (congr (congr (congrArg four ?_) ?_) ?_) ?_
  · exact (hf _ _ _ _ ⟨by omega, qb_fit g q t 0 ht (by omega) _, two0_fit g k t ht, two0_fit g v t ht⟩).trans (row 0 (by omega) _)
  · exact (hf _ _ _ _ ⟨by omega, qb_fit g q t 1 ht (by omega) _, two_fit g k t 0 ht (by omega) _ _ _, two_fit g v t 0 ht (by omega) _ _ _⟩).trans (row 1 (by omega) _)
  · exact (hf _ _ _ _ ⟨by omega, qb_fit g q t 2 ht (by omega) _, two_fit g k t 1 ht (by omega) _ _ _, two_fit g v t 1 ht (by omega) _ _ _⟩).trans (row 2 (by omega) _)
  · exact (hf _ _ _ _ ⟨by omega, qb_fit g q t 3 ht (by omega) _, two_fit g k t 2 ht (by omega) _ _ _, two_fit g v t 2 ht (by omega) _ _ _⟩).trans (row 3 (by omega) _)

theorem o_fit (b : ℕ) (x : FVec Ideal S128x256 .bf16) (y z : FVec Ideal S256x256 .bf16) (H : Fit g q k v b x y z) :
    oB (nb g b) x y z = e2 fun r a => O g q k v (hof a) (tok g (qrow b r)) a := by
  obtain ⟨hb, ⟨qq, rfl, hq⟩, ⟨kk, rfl, hk⟩, ⟨vv, rfl, hv⟩⟩ := H
  rw [oB_eq]
  exact congrArg e2 (funext fun r => funext fun a => out_eq g q k v b hb qq kk vv hq hk hv (hof a) r a)
theorem m_fit (b : ℕ) (x : FVec Ideal S128x256 .bf16) (y z : FVec Ideal S256x256 .bf16) (H : Fit g q k v b x y z) :
    mB (nb g b) x y = e2 fun r a => T g q k (hof a) (tok g (qrow b r)) := by
  obtain ⟨hb, ⟨qq, rfl, hq⟩, ⟨kk, rfl, hk⟩, _⟩ := H
  rw [mB_eq]
  exact congrArg e2 (funext fun r => funext fun a => top_eq g q k b hb qq kk hq hk (hof a) r)
theorem l_fit (b : ℕ) (x : FVec Ideal S128x256 .bf16) (y z : FVec Ideal S256x256 .bf16) (H : Fit g q k v b x y z) :
    lB (nb g b) x y = e2 fun r a => L g q k (hof a) (tok g (qrow b r)) := by
  obtain ⟨hb, ⟨qq, rfl, hq⟩, ⟨kk, rfl, hk⟩, _⟩ := H
  rw [lB_eq]
  exact congrArg e2 (funext fun r => funext fun a => sum_eq g q k b hb qq kk hq hk (hof a) r)
end

end Cert.AttnFwd

end
-- ==== Proof.AttnFwdRef.lean ====
module

public import proofs.«01_k».proof.Proof.AttnFwdRow
public import proofs.«01_k».proof.Proof.Gen.AttnFwd0ReferenceIdeal.Read

/-! The reference of the dilated attention's forward call, for any group's mask and columns. -/

@[expose] public section

set_option maxRecDepth 16384

noncomputable section

namespace Cert.AttnFwd

open Idealize.ShloMosaic Idealize.ShloMosaic.TcCoe
open Cert.AttnFwd0ReferenceIdeal Cert.AttnFwd0ReferenceIdeal.Gen Cert.Ext
open Cert.Attn (hof tok col lane col_hcol col_lane)
open Cert.Attn0ReferenceIdeal.Read (hcol gcol ok)

section
variable (msk : IVec S4096x4096 1) (q k v : FVec Ideal S4096x256 .f32)

/-- Heads apart; the scores, their maximum, the weights, and the three results with the heads side by side. -/
def rh (x : FVec Ideal S4096x256 .f32) : FVec Ideal S4x4096x64 .f32 :=
  transpose S4x4096x64 [1, 0, 2] (shapeCast S4096x4x64 x shapeCasts_S4096x256_S4096x4x64) transposes_S4096x4x64_S4x4096x64_1_0_2
def rs : FVec Ideal S4x4096x4096 .f32 :=
  select (broadcastInDim S4x4096x4096 ![1, 2] bcast_S4096x4096_S4x4096x4096_1_2 msk)
    (mulf (Host.dotGeneral dot_S4x4096x64_S4x4096x64_S4x4096x4096_2_2_1_1_0_0 none (rh q) (rh k)) (broadcastInDim S4x4096x4096 ![] bcast_S_S4x4096x4096 (constant S_ .f32 0x3E000000#32)))
    (broadcastInDim S4x4096x4096 ![] bcast_S_S4x4096x4096 (constant (F := Ideal) S_ .f32 0xFF800000#32))
def rt : FVec Ideal S4x4096x1 .f32 :=
  broadcastInDim S4x4096x1 ![0, 1] bcast_S4x4096_S4x4096x1_0_1 (Host.reduce FloatOps.maximumf (rs msk q k) (constant S_ .f32 0xFF800000#32) reducesTo_S4x4096x4096_S4x4096_d2 h_S_)
def rp : FVec Ideal S4x4096x4096 .f32 := Host.exp (subf (rs msk q k) (broadcastInDim S4x4096x4096 ![0, 1, 2] bcast_S4x4096x1_S4x4096x4096_0_1_2 (rt msk q k)))
def flat (x : FVec Ideal S4x4096x64 .f32) : FVec Ideal S4096x256 .f32 :=
  shapeCast S4096x256 (transpose S4096x4x64 [1, 0, 2] x transposes_S4x4096x64_S4096x4x64_1_0_2) shapeCasts_S4096x4x64_S4096x256
def ro : FVec Ideal S4096x256 .f32 := flat (Host.dotGeneral dot_S4x4096x4096_S4x4096x64_S4x4096x64_2_1_1_2_0_0 none (rp msk q k) (rh v))
def rm : FVec Ideal S4096x256 .f32 := flat (broadcastInDim S4x4096x64 ![0, 1, 2] bcast_S4x4096x1_S4x4096x64_0_1_2 (rt msk q k))
def rl : FVec Ideal S4096x256 .f32 :=
  flat (broadcastInDim S4x4096x64 ![0, 1, 2] bcast_S4x4096x1_S4x4096x64_0_1_2 (broadcastInDim S4x4096x1 ![0, 1] bcast_S4x4096_S4x4096x1_0_1
    (Host.reduceAdd (rp msk q k) (constant S_ .f32 0x00000000#32) reducesTo_S4x4096x4096_S4x4096_d2 h_S_)))
end

theorem flat_eq (x : Fin 4 → Fin 4096 → Fin 64 → EReal) : flat (e3 x) = e2 fun t a => x (hof a) t (lane a) := by
  funext i; idx_vars i; pointwise [flat]; rfl

section
variable (g : Fin 3) (q k v : E 4096 768)
abbrev okb (t s : Fin 4096) : BitVec 1 := if ok g t s then 1#1 else 0#1
abbrev mk : IVec S4096x4096 1 := fun i => okb g (i 0) (i 1)
abbrev pk (u : E 4096 768) : FVec Ideal S4096x256 .f32 := e2 fun t a => u t (col g a)

theorem rh_eq (u : E 4096 768) : rh (pk g u) = e3 fun h t e => u t (gcol g h e) := by
  funext i; idx_vars i; pointwise [rh]
  exact congrArg (u i1) (col_hcol g i0 i2)

theorem rs_eq : rs (mk g) (pk g q) (pk g k) = e3 fun h t s => S g q k h t s := by
  unfold rs; rw [rh_eq, rh_eq]
  funext i; idx_vars i; pointwise
  exact (congrArg (fun z : EReal => Scalar.select (if ok g i1 i2 then 1#1 else 0#1) (raw g q k i0 i1 i2) z) Cert.Lift.ofBits_neg_inf).trans (sel _ _)

theorem rt_eq : rt (mk g) (pk g q) (pk g k) = e3 fun h t _ => T g q k h t := by
  unfold rt; rw [rs_eq]
  funext i; idx_vars i; pointwise
  rw [Cert.Lift.ofBits_neg_inf]; rfl

theorem rp_eq : rp (mk g) (pk g q) (pk g k) = e3 fun h t s => W g q k h t s := by
  unfold rp; rw [rs_eq, rt_eq]
  funext i; idx_vars i; pointwise; rfl

theorem ro_eq : ro (mk g) (pk g q) (pk g k) (pk g v) = e2 fun t a => O g q k v (hof a) t a := by
  have e : Host.dotGeneral (F := Ideal) (φ₂ := .f32) dot_S4x4096x4096_S4x4096x64_S4x4096x64_2_1_1_2_0_0 none (rp (mk g) (pk g q) (pk g k)) (rh (pk g v))
      = e3 fun h t e => ∑ s, W g q k h t s * v s (gcol g h e) := by
    rw [rp_eq, rh_eq]; funext i; idx_vars i; pointwise; rfl
  unfold ro; rw [e, flat_eq]
  refine congrArg e2 (funext fun t => funext fun a => ?_)
  simp only [col_lane]; rfl

theorem rm_eq : rm (mk g) (pk g q) (pk g k) = e2 fun t a => T g q k (hof a) t := by
  have e : broadcastInDim S4x4096x64 ![0, 1, 2] bcast_S4x4096x1_S4x4096x64_0_1_2 (rt (mk g) (pk g q) (pk g k)) = e3 fun h t _ => T g q k h t := by
    rw [rt_eq]; funext i; idx_vars i; pointwise; rfl
  unfold rm; rw [e, flat_eq]

theorem rl_eq : rl (mk g) (pk g q) (pk g k) = e2 fun t a => L g q k (hof a) t := by
  have e : broadcastInDim S4x4096x64 ![0, 1, 2] bcast_S4x4096x1_S4x4096x64_0_1_2 (broadcastInDim S4x4096x1 ![0, 1] bcast_S4x4096_S4x4096x1_0_1
      (Host.reduceAdd (rp (mk g) (pk g q) (pk g k)) (constant S_ .f32 0x00000000#32) reducesTo_S4x4096x4096_S4x4096_d2 h_S_)) = e3 fun h t _ => L g q k h t := by
    rw [rp_eq]; funext i; idx_vars i; pointwise; rfl
  unfold rl; rw [e, flat_eq]
end

end Cert.AttnFwd

end
-- ==== Proof.AttnFwd0.lean ====
module

public import proofs.«01_k».proof.Defs
public import proofs.«01_k».proof.Proof.AttnFwdStep
public import proofs.«01_k».proof.Proof.AttnFwdRef
public import proofs.«01_k».proof.Proof.Gen.AttnFwd0KernelIdeal.Value
public import proofs.«01_k».proof.Proof.Gen.AttnFwd0ReferenceIdeal.Run
public import proofs.«01_k».proof.Proof.Gen.AttnFwd0ReferenceIdeal.Read
public import Idealize.ShloMosaic.Lib.Quiescent

/-! The attention's forward call for the group at distance 1: its frames and its value claim. -/

@[expose] public section

set_option maxRecDepth 16384

noncomputable section

namespace Cert.AttnFwd0KernelIdeal.Value

open Idealize.ShloMosaic Idealize.ShloMosaic.TcCoe Idealize.SL.Sem
open Cert.AttnFwd0KernelIdeal Cert.AttnFwd0KernelIdeal.Gen Cert.Ext Cert.AttnFwd
open Cert.Attn (hof tok col at_ rowb cat cols cols' four_congr)

section
variable (i : grid0.Coords) (x0 x1 : FVec Ideal S512x256 .bf16) (x2 : FVec Ideal S128x256 .bf16) (x3 : FVec Ideal S512x256 .bf16) (x4 : FVec Ideal S128x256 .bf16)

/-- What a grid point leaves, in the words of AttnFwdStep.lean. -/
def Gives (r : FVec Ideal S512x256 .f32) (f : BitVec 1 → FVec Ideal S128x256 .bf16 → FVec Ideal S256x256 .bf16 → FVec Ideal S256x256 .bf16 → FVec Ideal S128x256 .f32) : Prop :=
  r = (In.mk x0 x1 x2 x3 x4).res (BitVec.ofNat 32 (i 0).val) 31#32 f

set_option maxHeartbeats 16000000 in
theorem points : Gives i x0 x1 x2 x3 x4 (out0_5 (F := Ideal) i x0 x1 x2 x3 x4) oB ∧ Gives i x0 x1 x2 x3 x4 (out0_6 (F := Ideal) i x0 x1 x2 x3 x4) (fun b x y _ => mB b x y)
    ∧ Gives i x0 x1 x2 x3 x4 (out0_7 (F := Ideal) i x0 x1 x2 x3 x4) (fun b x y _ => lB b x y) := by
  refine ⟨?_, ?_, ?_⟩
  on_goal 1 => unfold_out out0_5
  on_goal 2 => unfold_out out0_6
  on_goal 3 => unfold_out out0_7
  all_goals unfold Gives In.res
  all_goals refine four_congr ?_ ?_ ?_ ?_
  all_goals simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, oB, mB, lB, oh, mx, sm, pr, sc, band, only, lay, none0, cols, cols', bit, qb, two, two0, lead, cat, rowb]
  all_goals rfl
end

section
variable {m : (ℓ : Loc nD τ sig) → Buf (Elt Ideal) ℓ} {c : Dev nD}

theorem idx : ∀ t : Fin cfg0.N, win0_0.index t = ![t.val, 0] ∧ win0_1.index t = ![t.val, 0] ∧ win0_2.index t = ![4 * t.val - 1, 0] ∧ win0_3.index t = ![t.val, 0]
    ∧ win0_4.index t = ![4 * t.val - 1, 0] ∧ win0_5.index t = ![t.val, 0] ∧ win0_6.index t = ![t.val, 0] ∧ win0_7.index t = ![t.val, 0] := (by decide +kernel : ∀ t : Fin grid0.N, _)

theorem bits : ∀ t : Fin cfg0.N, bit (BitVec.ofNat 32 (grid0.coords t 0).val) 31#32 0#32 = nb 0 (4 * t.val + 0) ∧ bit (BitVec.ofNat 32 (grid0.coords t 0).val) 31#32 1#32 = nb 0 (4 * t.val + 1)
    ∧ bit (BitVec.ofNat 32 (grid0.coords t 0).val) 31#32 2#32 = nb 0 (4 * t.val + 2) ∧ bit (BitVec.ofNat 32 (grid0.coords t 0).val) 31#32 3#32 = nb 0 (4 * t.val + 3) :=
  (by decide +kernel : ∀ t : Fin grid0.N, _)

theorem row (t : Fin cfg0.N) (s : Fin 512) : t.val * 512 + s.val = (at_ (512 * t.val + s.val)).val := by
  have hN : t.val < 8 := lt_of_lt_of_eq t.isLt N_0
  have := s.isLt
  show _ = (512 * t.val + s.val) % 4096; omega
theorem row' (t : Fin cfg0.N) (s : Fin 128) : (4 * t.val - 1) * 128 + s.val = (at_ (128 * (4 * t.val - 1) + s.val)).val := by
  have hN : t.val < 8 := lt_of_lt_of_eq t.isLt N_0
  have := s.isLt
  show _ = (128 * (4 * t.val - 1) + s.val) % 4096; omega

/-- The region's operands hold the arguments' columns, rows by residue. -/
structure Ops (m : (ℓ : Loc nD τ sig) → Buf (Elt Ideal) ℓ) (c : Dev nD) (q k v : E 4096 768) : Prop where
  q : V m c main_v4 = e2 (srt 0 q)
  k : V m c main_v9 = e2 (srt 0 k)
  v : V m c main_v14 = e2 (srt 0 v)

theorem blk0 (D : E 4096 256) (h : V m c (Pipeline.arrRef spec0 0) = (e2 D : (⟨2, ![4096, 256]⟩ : Shape).Idx → EReal)) (t : Fin cfg0.N) : iblk m c 0 t = e2 (now D t.val) := by
  have hN : t.val < 8 := lt_of_lt_of_eq t.isLt N_0
  funext i
  refine (congrFun h (((cfg0.win 0).blk t).view.emb i)).trans (congr (congrArg D (Fin.ext ?_)) (Fin.ext ?_))
  · blk_simp [idx t]; exact row t _
  · blk_simp [idx t]

theorem blk1 (D : E 4096 256) (h : V m c (Pipeline.arrRef spec0 1) = (e2 D : (⟨2, ![4096, 256]⟩ : Shape).Idx → EReal)) (t : Fin cfg0.N) : iblk m c 1 t = e2 (now D t.val) := by
  have hN : t.val < 8 := lt_of_lt_of_eq t.isLt N_0
  funext i
  refine (congrFun h (((cfg0.win 1).blk t).view.emb i)).trans (congr (congrArg D (Fin.ext ?_)) (Fin.ext ?_))
  · blk_simp [idx t]; exact row t _
  · blk_simp [idx t]

theorem blk2 (D : E 4096 256) (h : V m c (Pipeline.arrRef spec0 2) = (e2 D : (⟨2, ![4096, 256]⟩ : Shape).Idx → EReal)) (t : Fin cfg0.N) : iblk m c 2 t = e2 (pre D t.val) := by
  have hN : t.val < 8 := lt_of_lt_of_eq t.isLt N_0
  funext i
  refine (congrFun h (((cfg0.win 2).blk t).view.emb i)).trans (congr (congrArg D (Fin.ext ?_)) (Fin.ext ?_))
  · blk_simp [idx t]; exact row' t _
  · blk_simp [idx t]

theorem blk3 (D : E 4096 256) (h : V m c (Pipeline.arrRef spec0 3) = (e2 D : (⟨2, ![4096, 256]⟩ : Shape).Idx → EReal)) (t : Fin cfg0.N) : iblk m c 3 t = e2 (now D t.val) := by
  have hN : t.val < 8 := lt_of_lt_of_eq t.isLt N_0
  funext i
  refine (congrFun h (((cfg0.win 3).blk t).view.emb i)).trans (congr (congrArg D (Fin.ext ?_)) (Fin.ext ?_))
  · blk_simp [idx t]; exact row t _
  · blk_simp [idx t]

theorem blk4 (D : E 4096 256) (h : V m c (Pipeline.arrRef spec0 4) = (e2 D : (⟨2, ![4096, 256]⟩ : Shape).Idx → EReal)) (t : Fin cfg0.N) : iblk m c 4 t = e2 (pre D t.val) := by
  have hN : t.val < 8 := lt_of_lt_of_eq t.isLt N_0
  funext i
  refine (congrFun h (((cfg0.win 4).blk t).view.emb i)).trans (congr (congrArg D (Fin.ext ?_)) (Fin.ext ?_))
  · blk_simp [idx t]; exact row' t _
  · blk_simp [idx t]

variable {q k v : E 4096 768}

theorem last5 (H : Ops m c q k v) : (dats m 0 c).arrAt 5 cfg0.N = e2 (fun R a => O 0 q k v (hof a) (tok 0 R) a) := by
  refine (dats m 0 c).arrAt_eq_of_covers 5 _ (by decide +kernel) fun t _ y => ?_
  have hN : t.val < 8 := lt_of_lt_of_eq t.isLt N_0
  blk_simp
  rw [after0_5, blk0 _ H.q, blk1 _ H.k, blk2 _ H.k, blk3 _ H.v, blk4 _ H.v, (points _ _ _ _ _ _).1]
  refine (congrFun (res_eq 0 q k v t.val hN _ _ (bits t) _ (fun R a => O 0 q k v (hof a) (tok 0 R) a) (o_fit 0 q k v)) y).trans ?_
  refine congr (congrArg (fun R a => O 0 q k v (hof a) (tok 0 R) a) (Fin.ext ?_)) (Fin.ext ?_)
  · blk_simp [idx t]; exact (row t _).symm
  · blk_simp [idx t]

theorem last6 (H : Ops m c q k v) : (dats m 0 c).arrAt 6 cfg0.N = e2 (fun R a => T 0 q k (hof a) (tok 0 R)) := by
  refine (dats m 0 c).arrAt_eq_of_covers 6 _ (by decide +kernel) fun t _ y => ?_
  have hN : t.val < 8 := lt_of_lt_of_eq t.isLt N_0
  blk_simp
  rw [after0_6, blk0 _ H.q, blk1 _ H.k, blk2 _ H.k, blk3 _ H.v, blk4 _ H.v, (points _ _ _ _ _ _).2.1]
  refine (congrFun (res_eq 0 q k v t.val hN _ _ (bits t) _ (fun R a => T 0 q k (hof a) (tok 0 R)) (m_fit 0 q k v)) y).trans ?_
  refine congr (congrArg (fun R a => T 0 q k (hof a) (tok 0 R)) (Fin.ext ?_)) (Fin.ext ?_)
  · blk_simp [idx t]; exact (row t _).symm
  · blk_simp [idx t]

theorem last7 (H : Ops m c q k v) : (dats m 0 c).arrAt 7 cfg0.N = e2 (fun R a => L 0 q k (hof a) (tok 0 R)) := by
  refine (dats m 0 c).arrAt_eq_of_covers 7 _ (by decide +kernel) fun t _ y => ?_
  have hN : t.val < 8 := lt_of_lt_of_eq t.isLt N_0
  blk_simp
  rw [after0_7, blk0 _ H.q, blk1 _ H.k, blk2 _ H.k, blk3 _ H.v, blk4 _ H.v, (points _ _ _ _ _ _).2.2]
  refine (congrFun (res_eq 0 q k v t.val hN _ _ (bits t) _ (fun R a => L 0 q k (hof a) (tok 0 R)) (l_fit 0 q k v)) y).trans ?_
  refine congr (congrArg (fun R a => L 0 q k (hof a) (tok 0 R)) (Fin.ext ?_)) (Fin.ext ?_)
  · blk_simp [idx t]; exact (row t _).symm
  · blk_simp [idx t]
end

/-- The rows sorted by residue, and a group's columns. -/
def byres (u : FVec Ideal S4096x256 .f32) : FVec Ideal S4096x256 .f32 :=
  shapeCast S4096x256 (transpose S1x4096x256 [1, 0, 2] (shapeCast S4096x1x256 u shapeCasts_S4096x256_S4096x1x256) transposes_S4096x1x256_S1x4096x256_1_0_2)
    shapeCasts_S1x4096x256_S4096x256
def cut (u : FVec Ideal S4096x768 .f32) : FVec Ideal S4096x256 .f32 := extractStridedSlice S4096x256 ![0, 0] u slices_S4096x768_S4096x256_0_0

theorem byres_eq (u : E 4096 256) : byres (e2 u) = e2 fun R a => u (tok 0 R) a := by
  funext i; idx_vars i; pointwise [byres]
  exact congrArg (fun z : Fin 4096 => u z i1) (Fin.ext (by first | rfl | (show i0.val = i0.val % 4096 * 1 + i0.val / 4096; omega)))
theorem cut_eq (u : E 4096 768) : cut (e2 u) = pk 0 u := by
  funext i; idx_vars i; pointwise [cut]
  exact congrArg (u i0) (Fin.ext (by show _ = 256 * 0 + i1.val; first | rfl | (show 0 + i1.val = _; omega) | (show i1.val = _; omega)))
theorem srt_of (u : E 4096 768) : byres (cut (e2 u)) = e2 (srt 0 u) := by rw [cut_eq, byres_eq]; rfl

section
variable (m : (ℓ : Loc nD τ sig) → Buf (Elt Ideal) ℓ) (c : Dev nD) (u : E 4096 768)
theorem opq (h : m ((c : Thread nD τ).loc main_arg0) = e2 u) : V m c main_v4 = e2 (srt 0 u) := (show V m c main_v4 = byres (cut (m ((c : Thread nD τ).loc main_arg0))) by entry_read; rfl).trans ((congrArg (fun z => byres (cut z)) h).trans (srt_of u))
theorem opk (h : m ((c : Thread nD τ).loc main_arg1) = e2 u) : V m c main_v9 = e2 (srt 0 u) := (show V m c main_v9 = byres (cut (m ((c : Thread nD τ).loc main_arg1))) by entry_read; rfl).trans ((congrArg (fun z => byres (cut z)) h).trans (srt_of u))
theorem opv (h : m ((c : Thread nD τ).loc main_arg2) = e2 u) : V m c main_v14 = e2 (srt 0 u) := (show V m c main_v14 = byres (cut (m ((c : Thread nD τ).loc main_arg2))) by entry_read; rfl).trans ((congrArg (fun z => byres (cut z)) h).trans (srt_of u))
end

open Cert.AttnFwd0ReferenceIdeal.Read in
theorem mask_eq : val_main_v16 (F := Ideal) = mk 0 := by
  funext i; idx_vars i
  pointwise [val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_c, val_main_c_0, val_main_c_1, val_main_c_2]
  exact Cert.Attn0ReferenceIdeal.Read.bits_eq Cert.Attn0ReferenceIdeal.Read.fits1 i0 i1

section
open Cert.AttnFwd0ReferenceIdeal.Read
variable (q k v : E 4096 768)
theorem r48 : val_main_v48 (F := Ideal) (e2 q) (e2 k) (e2 v) = e2 fun R a => O 0 q k v (hof a) (tok 0 R) a := by
  have e : val_main_v48 (F := Ideal) (e2 q) (e2 k) (e2 v) = byres (ro (val_main_v16 (F := Ideal)) (cut (e2 q)) (cut (e2 k)) (cut (e2 v))) := rfl
  rw [e, mask_eq, cut_eq, cut_eq, cut_eq, ro_eq, byres_eq]
theorem r51 : val_main_v51 (F := Ideal) (e2 q) (e2 k) = e2 fun R a => T 0 q k (hof a) (tok 0 R) := by
  have e : val_main_v51 (F := Ideal) (e2 q) (e2 k) = byres (rm (val_main_v16 (F := Ideal)) (cut (e2 q)) (cut (e2 k))) := rfl
  rw [e, mask_eq, cut_eq, cut_eq, rm_eq, byres_eq]
theorem r54 : val_main_v54 (F := Ideal) (e2 q) (e2 k) = e2 fun R a => L 0 q k (hof a) (tok 0 R) := by
  have e : val_main_v54 (F := Ideal) (e2 q) (e2 k) = byres (rl (val_main_v16 (F := Ideal)) (cut (e2 q)) (cut (e2 k))) := rfl
  rw [e, mask_eq, cut_eq, cut_eq, rl_eq, byres_eq]
end

end Cert.AttnFwd0KernelIdeal.Value

namespace Cert.Proof.AttnFwd0

open Idealize.ShloMosaic Idealize.ShloMosaic.TcCoe Idealize.SL.Sem
open Cert.Ext

/-- The reference runs, keeps its arguments, and leaves every semaphore at zero. -/
theorem frameR : Cert.quiescent_AttnFwd0ReferenceIdeal := fun m ρ _ =>
  (θ_run Cert.AttnFwd0ReferenceIdeal.defs _ _).mono (fun r h => ⟨fun c => (h c).2.2.2, sem_eq_zero_of_no_sems (by decide) r.2⟩)
    (Cert.AttnFwd0ReferenceIdeal.Value.run (F := Ideal) m ρ)

set_option maxHeartbeats 1000000 in
/-- The kernel's weighted sums, largest scores and sums of weights are the reference's. -/
theorem algebraic : Cert.algebraic_AttnFwd0KernelIdeal_AttnFwd0ReferenceIdeal := by
  intro m ρ m' ρ' _ hagree
  refine ⟨_, _, _, Cert.AttnFwd0KernelIdeal.Value.run_blocks m ρ, ?_⟩
  refine (θ_run Cert.AttnFwd0ReferenceIdeal.defs _ _).mono (fun _ h c => ?_) (Cert.AttnFwd0ReferenceIdeal.Value.run (F := Ideal) m' ρ')
  obtain ⟨r0, r1, r2, hk⟩ := h c
  obtain ⟨a0, a1, a2⟩ := hagree c
  obtain ⟨q, h0⟩ := exists_e2 (n := 4096) (m := 768) (m ((c.tc : Thread _ _).loc Cert.AttnFwd0KernelIdeal.main_arg0))
  obtain ⟨k, h1⟩ := exists_e2 (n := 4096) (m := 768) (m ((c.tc : Thread _ _).loc Cert.AttnFwd0KernelIdeal.main_arg1))
  obtain ⟨v, h2⟩ := exists_e2 (n := 4096) (m := 768) (m ((c.tc : Thread _ _).loc Cert.AttnFwd0KernelIdeal.main_arg2))
  have H : Cert.AttnFwd0KernelIdeal.Value.Ops m c q k v := ⟨Cert.AttnFwd0KernelIdeal.Value.opq m c q h0, Cert.AttnFwd0KernelIdeal.Value.opk m c k h1, Cert.AttnFwd0KernelIdeal.Value.opv m c v h2⟩
  have b0 : m' ((c.tc : Thread _ _).loc Cert.AttnFwd0ReferenceIdeal.main_arg0) = e2 q := a0.trans h0
  have b1 : m' ((c.tc : Thread _ _).loc Cert.AttnFwd0ReferenceIdeal.main_arg1) = e2 k := a1.trans h1
  have b2 : m' ((c.tc : Thread _ _).loc Cert.AttnFwd0ReferenceIdeal.main_arg2) = e2 v := a2.trans h2
  have s0 := r0.trans (Cert.AttnFwd0ReferenceIdeal.Read.val_main_v48_eq m' c)
  have s1 := r1.trans (Cert.AttnFwd0ReferenceIdeal.Read.val_main_v51_eq (F := Ideal) _ _)
  have s2 := r2.trans (Cert.AttnFwd0ReferenceIdeal.Read.val_main_v54_eq m' c)
  rw [b0, b1, b2] at s0
  rw [b0, b1] at s1 s2
  exact ⟨s0.trans ((Cert.AttnFwd0KernelIdeal.Value.r48 q k v).trans (Cert.AttnFwd0KernelIdeal.Value.last5 H).symm),
    s1.trans ((Cert.AttnFwd0KernelIdeal.Value.r51 q k).trans (Cert.AttnFwd0KernelIdeal.Value.last6 H).symm),
    s2.trans ((Cert.AttnFwd0KernelIdeal.Value.r54 q k).trans (Cert.AttnFwd0KernelIdeal.Value.last7 H).symm), hk⟩

end Cert.Proof.AttnFwd0

end
-- ==== Proof.AttnFwd1.lean ====
module

public import proofs.«01_k».proof.Defs
public import proofs.«01_k».proof.Proof.AttnFwdStep
public import proofs.«01_k».proof.Proof.AttnFwdRef
public import proofs.«01_k».proof.Proof.Gen.AttnFwd1KernelIdeal.Value
public import proofs.«01_k».proof.Proof.Gen.AttnFwd1ReferenceIdeal.Run
public import proofs.«01_k».proof.Proof.Gen.AttnFwd1ReferenceIdeal.Read
public import Idealize.ShloMosaic.Lib.Quiescent

/-! The attention's forward call for the group at distance 4: its frames and its value claim. -/

@[expose] public section

set_option maxRecDepth 16384

noncomputable section

namespace Cert.AttnFwd1KernelIdeal.Value

open Idealize.ShloMosaic Idealize.ShloMosaic.TcCoe Idealize.SL.Sem
open Cert.AttnFwd1KernelIdeal Cert.AttnFwd1KernelIdeal.Gen Cert.Ext Cert.AttnFwd
open Cert.Attn (hof tok col at_ rowb cat cols cols' four_congr)

section
variable (i : grid0.Coords) (x0 x1 : FVec Ideal S512x256 .bf16) (x2 : FVec Ideal S128x256 .bf16) (x3 : FVec Ideal S512x256 .bf16) (x4 : FVec Ideal S128x256 .bf16)

/-- What a grid point leaves, in the words of AttnFwdStep.lean. -/
def Gives (r : FVec Ideal S512x256 .f32) (f : BitVec 1 → FVec Ideal S128x256 .bf16 → FVec Ideal S256x256 .bf16 → FVec Ideal S256x256 .bf16 → FVec Ideal S128x256 .f32) : Prop :=
  r = (In.mk x0 x1 x2 x3 x4).res (BitVec.ofNat 32 (i 0).val) 7#32 f

set_option maxHeartbeats 16000000 in
theorem points : Gives i x0 x1 x2 x3 x4 (out0_5 (F := Ideal) i x0 x1 x2 x3 x4) oB ∧ Gives i x0 x1 x2 x3 x4 (out0_6 (F := Ideal) i x0 x1 x2 x3 x4) (fun b x y _ => mB b x y)
    ∧ Gives i x0 x1 x2 x3 x4 (out0_7 (F := Ideal) i x0 x1 x2 x3 x4) (fun b x y _ => lB b x y) := by
  refine ⟨?_, ?_, ?_⟩
  on_goal 1 => unfold_out out0_5
  on_goal 2 => unfold_out out0_6
  on_goal 3 => unfold_out out0_7
  all_goals unfold Gives In.res
  all_goals refine four_congr ?_ ?_ ?_ ?_
  all_goals simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, oB, mB, lB, oh, mx, sm, pr, sc, band, only, lay, none0, cols, cols', bit, qb, two, two0, lead, cat, rowb]
  all_goals rfl
end

section
variable {m : (ℓ : Loc nD τ sig) → Buf (Elt Ideal) ℓ} {c : Dev nD}

theorem idx : ∀ t : Fin cfg0.N, win0_0.index t = ![t.val, 0] ∧ win0_1.index t = ![t.val, 0] ∧ win0_2.index t = ![4 * t.val - 1, 0] ∧ win0_3.index t = ![t.val, 0]
    ∧ win0_4.index t = ![4 * t.val - 1, 0] ∧ win0_5.index t = ![t.val, 0] ∧ win0_6.index t = ![t.val, 0] ∧ win0_7.index t = ![t.val, 0] := (by decide +kernel : ∀ t : Fin grid0.N, _)

theorem bits : ∀ t : Fin cfg0.N, bit (BitVec.ofNat 32 (grid0.coords t 0).val) 7#32 0#32 = nb 1 (4 * t.val + 0) ∧ bit (BitVec.ofNat 32 (grid0.coords t 0).val) 7#32 1#32 = nb 1 (4 * t.val + 1)
    ∧ bit (BitVec.ofNat 32 (grid0.coords t 0).val) 7#32 2#32 = nb 1 (4 * t.val + 2) ∧ bit (BitVec.ofNat 32 (grid0.coords t 0).val) 7#32 3#32 = nb 1 (4 * t.val + 3) :=
  (by decide +kernel : ∀ t : Fin grid0.N, _)

theorem row (t : Fin cfg0.N) (s : Fin 512) : t.val * 512 + s.val = (at_ (512 * t.val + s.val)).val := by
  have hN : t.val < 8 := lt_of_lt_of_eq t.isLt N_0
  have := s.isLt
  show _ = (512 * t.val + s.val) % 4096; omega
theorem row' (t : Fin cfg0.N) (s : Fin 128) : (4 * t.val - 1) * 128 + s.val = (at_ (128 * (4 * t.val - 1) + s.val)).val := by
  have hN : t.val < 8 := lt_of_lt_of_eq t.isLt N_0
  have := s.isLt
  show _ = (128 * (4 * t.val - 1) + s.val) % 4096; omega

/-- The region's operands hold the arguments' columns, rows by residue. -/
structure Ops (m : (ℓ : Loc nD τ sig) → Buf (Elt Ideal) ℓ) (c : Dev nD) (q k v : E 4096 768) : Prop where
  q : V m c main_v4 = e2 (srt 1 q)
  k : V m c main_v9 = e2 (srt 1 k)
  v : V m c main_v14 = e2 (srt 1 v)

theorem blk0 (D : E 4096 256) (h : V m c (Pipeline.arrRef spec0 0) = (e2 D : (⟨2, ![4096, 256]⟩ : Shape).Idx → EReal)) (t : Fin cfg0.N) : iblk m c 0 t = e2 (now D t.val) := by
  have hN : t.val < 8 := lt_of_lt_of_eq t.isLt N_0
  funext i
  refine (congrFun h (((cfg0.win 0).blk t).view.emb i)).trans (congr (congrArg D (Fin.ext ?_)) (Fin.ext ?_))
  · blk_simp [idx t]; exact row t _
  · blk_simp [idx t]

theorem blk1 (D : E 4096 256) (h : V m c (Pipeline.arrRef spec0 1) = (e2 D : (⟨2, ![4096, 256]⟩ : Shape).Idx → EReal)) (t : Fin cfg0.N) : iblk m c 1 t = e2 (now D t.val) := by
  have hN : t.val < 8 := lt_of_lt_of_eq t.isLt N_0
  funext i
  refine (congrFun h (((cfg0.win 1).blk t).view.emb i)).trans (congr (congrArg D (Fin.ext ?_)) (Fin.ext ?_))
  · blk_simp [idx t]; exact row t _
  · blk_simp [idx t]

theorem blk2 (D : E 4096 256) (h : V m c (Pipeline.arrRef spec0 2) = (e2 D : (⟨2, ![4096, 256]⟩ : Shape).Idx → EReal)) (t : Fin cfg0.N) : iblk m c 2 t = e2 (pre D t.val) := by
  have hN : t.val < 8 := lt_of_lt_of_eq t.isLt N_0
  funext i
  refine (congrFun h (((cfg0.win 2).blk t).view.emb i)).trans (congr (congrArg D (Fin.ext ?_)) (Fin.ext ?_))
  · blk_simp [idx t]; exact row' t _
  · blk_simp [idx t]

theorem blk3 (D : E 4096 256) (h : V m c (Pipeline.arrRef spec0 3) = (e2 D : (⟨2, ![4096, 256]⟩ : Shape).Idx → EReal)) (t : Fin cfg0.N) : iblk m c 3 t = e2 (now D t.val) := by
  have hN : t.val < 8 := lt_of_lt_of_eq t.isLt N_0
  funext i
  refine (congrFun h (((cfg0.win 3).blk t).view.emb i)).trans (congr (congrArg D (Fin.ext ?_)) (Fin.ext ?_))
  · blk_simp [idx t]; exact row t _
  · blk_simp [idx t]

theorem blk4 (D : E 4096 256) (h : V m c (Pipeline.arrRef spec0 4) = (e2 D : (⟨2, ![4096, 256]⟩ : Shape).Idx → EReal)) (t : Fin cfg0.N) : iblk m c 4 t = e2 (pre D t.val) := by
  have hN : t.val < 8 := lt_of_lt_of_eq t.isLt N_0
  funext i
  refine (congrFun h (((cfg0.win 4).blk t).view.emb i)).trans (congr (congrArg D (Fin.ext ?_)) (Fin.ext ?_))
  · blk_simp [idx t]; exact row' t _
  · blk_simp [idx t]

variable {q k v : E 4096 768}

theorem last5 (H : Ops m c q k v) : (dats m 0 c).arrAt 5 cfg0.N = e2 (fun R a => O 1 q k v (hof a) (tok 1 R) a) := by
  refine (dats m 0 c).arrAt_eq_of_covers 5 _ (by decide +kernel) fun t _ y => ?_
  have hN : t.val < 8 := lt_of_lt_of_eq t.isLt N_0
  blk_simp
  rw [after0_5, blk0 _ H.q, blk1 _ H.k, blk2 _ H.k, blk3 _ H.v, blk4 _ H.v, (points _ _ _ _ _ _).1]
  refine (congrFun (res_eq 1 q k v t.val hN _ _ (bits t) _ (fun R a => O 1 q k v (hof a) (tok 1 R) a) (o_fit 1 q k v)) y).trans ?_
  refine congr (congrArg (fun R a => O 1 q k v (hof a) (tok 1 R) a) (Fin.ext ?_)) (Fin.ext ?_)
  · blk_simp [idx t]; exact (row t _).symm
  · blk_simp [idx t]

theorem last6 (H : Ops m c q k v) : (dats m 0 c).arrAt 6 cfg0.N = e2 (fun R a => T 1 q k (hof a) (tok 1 R)) := by
  refine (dats m 0 c).arrAt_eq_of_covers 6 _ (by decide +kernel) fun t _ y => ?_
  have hN : t.val < 8 := lt_of_lt_of_eq t.isLt N_0
  blk_simp
  rw [after0_6, blk0 _ H.q, blk1 _ H.k, blk2 _ H.k, blk3 _ H.v, blk4 _ H.v, (points _ _ _ _ _ _).2.1]
  refine (congrFun (res_eq 1 q k v t.val hN _ _ (bits t) _ (fun R a => T 1 q k (hof a) (tok 1 R)) (m_fit 1 q k v)) y).trans ?_
  refine congr (congrArg (fun R a => T 1 q k (hof a) (tok 1 R)) (Fin.ext ?_)) (Fin.ext ?_)
  · blk_simp [idx t]; exact (row t _).symm
  · blk_simp [idx t]

theorem last7 (H : Ops m c q k v) : (dats m 0 c).arrAt 7 cfg0.N = e2 (fun R a => L 1 q k (hof a) (tok 1 R)) := by
  refine (dats m 0 c).arrAt_eq_of_covers 7 _ (by decide +kernel) fun t _ y => ?_
  have hN : t.val < 8 := lt_of_lt_of_eq t.isLt N_0
  blk_simp
  rw [after0_7, blk0 _ H.q, blk1 _ H.k, blk2 _ H.k, blk3 _ H.v, blk4 _ H.v, (points _ _ _ _ _ _).2.2]
  refine (congrFun (res_eq 1 q k v t.val hN _ _ (bits t) _ (fun R a => L 1 q k (hof a) (tok 1 R)) (l_fit 1 q k v)) y).trans ?_
  refine congr (congrArg (fun R a => L 1 q k (hof a) (tok 1 R)) (Fin.ext ?_)) (Fin.ext ?_)
  · blk_simp [idx t]; exact (row t _).symm
  · blk_simp [idx t]
end

/-- The rows sorted by residue, and a group's columns. -/
def byres (u : FVec Ideal S4096x256 .f32) : FVec Ideal S4096x256 .f32 :=
  shapeCast S4096x256 (transpose S4x1024x256 [1, 0, 2] (shapeCast S1024x4x256 u shapeCasts_S4096x256_S1024x4x256) transposes_S1024x4x256_S4x1024x256_1_0_2)
    shapeCasts_S4x1024x256_S4096x256
def cut (u : FVec Ideal S4096x768 .f32) : FVec Ideal S4096x256 .f32 := extractStridedSlice S4096x256 ![0, 256] u slices_S4096x768_S4096x256_0_256

theorem byres_eq (u : E 4096 256) : byres (e2 u) = e2 fun R a => u (tok 1 R) a := by
  funext i; idx_vars i; pointwise [byres]
  exact congrArg (fun z : Fin 4096 => u z i1) (Fin.ext (by first | rfl | (show i0.val = i0.val % 4096 * 1 + i0.val / 4096; omega)))
theorem cut_eq (u : E 4096 768) : cut (e2 u) = pk 1 u := by
  funext i; idx_vars i; pointwise [cut]
  exact congrArg (u i0) (Fin.ext (by show _ = 256 * 1 + i1.val; first | rfl | (show 0 + i1.val = _; omega) | (show i1.val = _; omega)))
theorem srt_of (u : E 4096 768) : byres (cut (e2 u)) = e2 (srt 1 u) := by rw [cut_eq, byres_eq]; rfl

section
variable (m : (ℓ : Loc nD τ sig) → Buf (Elt Ideal) ℓ) (c : Dev nD) (u : E 4096 768)
theorem opq (h : m ((c : Thread nD τ).loc main_arg0) = e2 u) : V m c main_v4 = e2 (srt 1 u) := (show V m c main_v4 = byres (cut (m ((c : Thread nD τ).loc main_arg0))) by entry_read; rfl).trans ((congrArg (fun z => byres (cut z)) h).trans (srt_of u))
theorem opk (h : m ((c : Thread nD τ).loc main_arg1) = e2 u) : V m c main_v9 = e2 (srt 1 u) := (show V m c main_v9 = byres (cut (m ((c : Thread nD τ).loc main_arg1))) by entry_read; rfl).trans ((congrArg (fun z => byres (cut z)) h).trans (srt_of u))
theorem opv (h : m ((c : Thread nD τ).loc main_arg2) = e2 u) : V m c main_v14 = e2 (srt 1 u) := (show V m c main_v14 = byres (cut (m ((c : Thread nD τ).loc main_arg2))) by entry_read; rfl).trans ((congrArg (fun z => byres (cut z)) h).trans (srt_of u))
end

open Cert.AttnFwd1ReferenceIdeal.Read in
theorem mask_eq : val_main_v16 (F := Ideal) = mk 1 := by
  funext i; idx_vars i
  pointwise [val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_c, val_main_c_0, val_main_c_1, val_main_c_2]
  exact Cert.Attn0ReferenceIdeal.Read.bits_eq Cert.Attn0ReferenceIdeal.Read.fits4 i0 i1

section
open Cert.AttnFwd1ReferenceIdeal.Read
variable (q k v : E 4096 768)
theorem r48 : val_main_v48 (F := Ideal) (e2 q) (e2 k) (e2 v) = e2 fun R a => O 1 q k v (hof a) (tok 1 R) a := by
  have e : val_main_v48 (F := Ideal) (e2 q) (e2 k) (e2 v) = byres (ro (val_main_v16 (F := Ideal)) (cut (e2 q)) (cut (e2 k)) (cut (e2 v))) := rfl
  rw [e, mask_eq, cut_eq, cut_eq, cut_eq, ro_eq, byres_eq]
theorem r51 : val_main_v51 (F := Ideal) (e2 q) (e2 k) = e2 fun R a => T 1 q k (hof a) (tok 1 R) := by
  have e : val_main_v51 (F := Ideal) (e2 q) (e2 k) = byres (rm (val_main_v16 (F := Ideal)) (cut (e2 q)) (cut (e2 k))) := rfl
  rw [e, mask_eq, cut_eq, cut_eq, rm_eq, byres_eq]
theorem r54 : val_main_v54 (F := Ideal) (e2 q) (e2 k) = e2 fun R a => L 1 q k (hof a) (tok 1 R) := by
  have e : val_main_v54 (F := Ideal) (e2 q) (e2 k) = byres (rl (val_main_v16 (F := Ideal)) (cut (e2 q)) (cut (e2 k))) := rfl
  rw [e, mask_eq, cut_eq, cut_eq, rl_eq, byres_eq]
end

end Cert.AttnFwd1KernelIdeal.Value

namespace Cert.Proof.AttnFwd1

open Idealize.ShloMosaic Idealize.ShloMosaic.TcCoe Idealize.SL.Sem
open Cert.Ext

/-- The reference runs, keeps its arguments, and leaves every semaphore at zero. -/
theorem frameR : Cert.quiescent_AttnFwd1ReferenceIdeal := fun m ρ _ =>
  (θ_run Cert.AttnFwd1ReferenceIdeal.defs _ _).mono (fun r h => ⟨fun c => (h c).2.2.2, sem_eq_zero_of_no_sems (by decide) r.2⟩)
    (Cert.AttnFwd1ReferenceIdeal.Value.run (F := Ideal) m ρ)

set_option maxHeartbeats 1000000 in
/-- The kernel's weighted sums, largest scores and sums of weights are the reference's. -/
theorem algebraic : Cert.algebraic_AttnFwd1KernelIdeal_AttnFwd1ReferenceIdeal := by
  intro m ρ m' ρ' _ hagree
  refine ⟨_, _, _, Cert.AttnFwd1KernelIdeal.Value.run_blocks m ρ, ?_⟩
  refine (θ_run Cert.AttnFwd1ReferenceIdeal.defs _ _).mono (fun _ h c => ?_) (Cert.AttnFwd1ReferenceIdeal.Value.run (F := Ideal) m' ρ')
  obtain ⟨r0, r1, r2, hk⟩ := h c
  obtain ⟨a0, a1, a2⟩ := hagree c
  obtain ⟨q, h0⟩ := exists_e2 (n := 4096) (m := 768) (m ((c.tc : Thread _ _).loc Cert.AttnFwd1KernelIdeal.main_arg0))
  obtain ⟨k, h1⟩ := exists_e2 (n := 4096) (m := 768) (m ((c.tc : Thread _ _).loc Cert.AttnFwd1KernelIdeal.main_arg1))
  obtain ⟨v, h2⟩ := exists_e2 (n := 4096) (m := 768) (m ((c.tc : Thread _ _).loc Cert.AttnFwd1KernelIdeal.main_arg2))
  have H : Cert.AttnFwd1KernelIdeal.Value.Ops m c q k v := ⟨Cert.AttnFwd1KernelIdeal.Value.opq m c q h0, Cert.AttnFwd1KernelIdeal.Value.opk m c k h1, Cert.AttnFwd1KernelIdeal.Value.opv m c v h2⟩
  have b0 : m' ((c.tc : Thread _ _).loc Cert.AttnFwd1ReferenceIdeal.main_arg0) = e2 q := a0.trans h0
  have b1 : m' ((c.tc : Thread _ _).loc Cert.AttnFwd1ReferenceIdeal.main_arg1) = e2 k := a1.trans h1
  have b2 : m' ((c.tc : Thread _ _).loc Cert.AttnFwd1ReferenceIdeal.main_arg2) = e2 v := a2.trans h2
  have s0 := r0.trans (Cert.AttnFwd1ReferenceIdeal.Read.val_main_v48_eq m' c)
  have s1 := r1.trans (Cert.AttnFwd1ReferenceIdeal.Read.val_main_v51_eq (F := Ideal) _ _)
  have s2 := r2.trans (Cert.AttnFwd1ReferenceIdeal.Read.val_main_v54_eq m' c)
  rw [b0, b1, b2] at s0
  rw [b0, b1] at s1 s2
  exact ⟨s0.trans ((Cert.AttnFwd1KernelIdeal.Value.r48 q k v).trans (Cert.AttnFwd1KernelIdeal.Value.last5 H).symm),
    s1.trans ((Cert.AttnFwd1KernelIdeal.Value.r51 q k).trans (Cert.AttnFwd1KernelIdeal.Value.last6 H).symm),
    s2.trans ((Cert.AttnFwd1KernelIdeal.Value.r54 q k).trans (Cert.AttnFwd1KernelIdeal.Value.last7 H).symm), hk⟩

end Cert.Proof.AttnFwd1

end
-- ==== Proof.AttnFwd2.lean ====
module

public import proofs.«01_k».proof.Defs
public import proofs.«01_k».proof.Proof.AttnFwdStep
public import proofs.«01_k».proof.Proof.AttnFwdRef
public import proofs.«01_k».proof.Proof.Gen.AttnFwd2KernelIdeal.Value
public import proofs.«01_k».proof.Proof.Gen.AttnFwd2ReferenceIdeal.Run
public import proofs.«01_k».proof.Proof.Gen.AttnFwd2ReferenceIdeal.Read
public import Idealize.ShloMosaic.Lib.Quiescent

/-! The attention's forward call for the group at distance 16: its frames and its value claim. -/

@[expose] public section

set_option maxRecDepth 16384

noncomputable section

namespace Cert.AttnFwd2KernelIdeal.Value

open Idealize.ShloMosaic Idealize.ShloMosaic.TcCoe Idealize.SL.Sem
open Cert.AttnFwd2KernelIdeal Cert.AttnFwd2KernelIdeal.Gen Cert.Ext Cert.AttnFwd
open Cert.Attn (hof tok col at_ rowb cat cols cols' four_congr)

section
variable (i : grid0.Coords) (x0 x1 : FVec Ideal S512x256 .bf16) (x2 : FVec Ideal S128x256 .bf16) (x3 : FVec Ideal S512x256 .bf16) (x4 : FVec Ideal S128x256 .bf16)

/-- What a grid point leaves, in the words of AttnFwdStep.lean. -/
def Gives (r : FVec Ideal S512x256 .f32) (f : BitVec 1 → FVec Ideal S128x256 .bf16 → FVec Ideal S256x256 .bf16 → FVec Ideal S256x256 .bf16 → FVec Ideal S128x256 .f32) : Prop :=
  r = (In.mk x0 x1 x2 x3 x4).res (BitVec.ofNat 32 (i 0).val) 1#32 f

set_option maxHeartbeats 16000000 in
theorem points : Gives i x0 x1 x2 x3 x4 (out0_5 (F := Ideal) i x0 x1 x2 x3 x4) oB ∧ Gives i x0 x1 x2 x3 x4 (out0_6 (F := Ideal) i x0 x1 x2 x3 x4) (fun b x y _ => mB b x y)
    ∧ Gives i x0 x1 x2 x3 x4 (out0_7 (F := Ideal) i x0 x1 x2 x3 x4) (fun b x y _ => lB b x y) := by
  refine ⟨?_, ?_, ?_⟩
  on_goal 1 => unfold_out out0_5
  on_goal 2 => unfold_out out0_6
  on_goal 3 => unfold_out out0_7
  all_goals unfold Gives In.res
  all_goals refine four_congr ?_ ?_ ?_ ?_
  all_goals simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, oB, mB, lB, oh, mx, sm, pr, sc, band, only, lay, none0, cols, cols', bit, qb, two, two0, lead, cat, rowb]
  all_goals rfl
end

section
variable {m : (ℓ : Loc nD τ sig) → Buf (Elt Ideal) ℓ} {c : Dev nD}

theorem idx : ∀ t : Fin cfg0.N, win0_0.index t = ![t.val, 0] ∧ win0_1.index t = ![t.val, 0] ∧ win0_2.index t = ![4 * t.val - 1, 0] ∧ win0_3.index t = ![t.val, 0]
    ∧ win0_4.index t = ![4 * t.val - 1, 0] ∧ win0_5.index t = ![t.val, 0] ∧ win0_6.index t = ![t.val, 0] ∧ win0_7.index t = ![t.val, 0] := (by decide +kernel : ∀ t : Fin grid0.N, _)

theorem bits : ∀ t : Fin cfg0.N, bit (BitVec.ofNat 32 (grid0.coords t 0).val) 1#32 0#32 = nb 2 (4 * t.val + 0) ∧ bit (BitVec.ofNat 32 (grid0.coords t 0).val) 1#32 1#32 = nb 2 (4 * t.val + 1)
    ∧ bit (BitVec.ofNat 32 (grid0.coords t 0).val) 1#32 2#32 = nb 2 (4 * t.val + 2) ∧ bit (BitVec.ofNat 32 (grid0.coords t 0).val) 1#32 3#32 = nb 2 (4 * t.val + 3) :=
  (by decide +kernel : ∀ t : Fin grid0.N, _)

theorem row (t : Fin cfg0.N) (s : Fin 512) : t.val * 512 + s.val = (at_ (512 * t.val + s.val)).val := by
  have hN : t.val < 8 := lt_of_lt_of_eq t.isLt N_0
  have := s.isLt
  show _ = (512 * t.val + s.val) % 4096; omega
theorem row' (t : Fin cfg0.N) (s : Fin 128) : (4 * t.val - 1) * 128 + s.val = (at_ (128 * (4 * t.val - 1) + s.val)).val := by
  have hN : t.val < 8 := lt_of_lt_of_eq t.isLt N_0
  have := s.isLt
  show _ = (128 * (4 * t.val - 1) + s.val) % 4096; omega

/-- The region's operands hold the arguments' columns, rows by residue. -/
structure Ops (m : (ℓ : Loc nD τ sig) → Buf (Elt Ideal) ℓ) (c : Dev nD) (q k v : E 4096 768) : Prop where
  q : V m c main_v4 = e2 (srt 2 q)
  k : V m c main_v9 = e2 (srt 2 k)
  v : V m c main_v14 = e2 (srt 2 v)

theorem blk0 (D : E 4096 256) (h : V m c (Pipeline.arrRef spec0 0) = (e2 D : (⟨2, ![4096, 256]⟩ : Shape).Idx → EReal)) (t : Fin cfg0.N) : iblk m c 0 t = e2 (now D t.val) := by
  have hN : t.val < 8 := lt_of_lt_of_eq t.isLt N_0
  funext i
  refine (congrFun h (((cfg0.win 0).blk t).view.emb i)).trans (congr (congrArg D (Fin.ext ?_)) (Fin.ext ?_))
  · blk_simp [idx t]; exact row t _
  · blk_simp [idx t]

theorem blk1 (D : E 4096 256) (h : V m c (Pipeline.arrRef spec0 1) = (e2 D : (⟨2, ![4096, 256]⟩ : Shape).Idx → EReal)) (t : Fin cfg0.N) : iblk m c 1 t = e2 (now D t.val) := by
  have hN : t.val < 8 := lt_of_lt_of_eq t.isLt N_0
  funext i
  refine (congrFun h (((cfg0.win 1).blk t).view.emb i)).trans (congr (congrArg D (Fin.ext ?_)) (Fin.ext ?_))
  · blk_simp [idx t]; exact row t _
  · blk_simp [idx t]

theorem blk2 (D : E 4096 256) (h : V m c (Pipeline.arrRef spec0 2) = (e2 D : (⟨2, ![4096, 256]⟩ : Shape).Idx → EReal)) (t : Fin cfg0.N) : iblk m c 2 t = e2 (pre D t.val) := by
  have hN : t.val < 8 := lt_of_lt_of_eq t.isLt N_0
  funext i
  refine (congrFun h (((cfg0.win 2).blk t).view.emb i)).trans (congr (congrArg D (Fin.ext ?_)) (Fin.ext ?_))
  · blk_simp [idx t]; exact row' t _
  · blk_simp [idx t]

theorem blk3 (D : E 4096 256) (h : V m c (Pipeline.arrRef spec0 3) = (e2 D : (⟨2, ![4096, 256]⟩ : Shape).Idx → EReal)) (t : Fin cfg0.N) : iblk m c 3 t = e2 (now D t.val) := by
  have hN : t.val < 8 := lt_of_lt_of_eq t.isLt N_0
  funext i
  refine (congrFun h (((cfg0.win 3).blk t).view.emb i)).trans (congr (congrArg D (Fin.ext ?_)) (Fin.ext ?_))
  · blk_simp [idx t]; exact row t _
  · blk_simp [idx t]

theorem blk4 (D : E 4096 256) (h : V m c (Pipeline.arrRef spec0 4) = (e2 D : (⟨2, ![4096, 256]⟩ : Shape).Idx → EReal)) (t : Fin cfg0.N) : iblk m c 4 t = e2 (pre D t.val) := by
  have hN : t.val < 8 := lt_of_lt_of_eq t.isLt N_0
  funext i
  refine (congrFun h (((cfg0.win 4).blk t).view.emb i)).trans (congr (congrArg D (Fin.ext ?_)) (Fin.ext ?_))
  · blk_simp [idx t]; exact row' t _
  · blk_simp [idx t]

variable {q k v : E 4096 768}

theorem last5 (H : Ops m c q k v) : (dats m 0 c).arrAt 5 cfg0.N = e2 (fun R a => O 2 q k v (hof a) (tok 2 R) a) := by
  refine (dats m 0 c).arrAt_eq_of_covers 5 _ (by decide +kernel) fun t _ y => ?_
  have hN : t.val < 8 := lt_of_lt_of_eq t.isLt N_0
  blk_simp
  rw [after0_5, blk0 _ H.q, blk1 _ H.k, blk2 _ H.k, blk3 _ H.v, blk4 _ H.v, (points _ _ _ _ _ _).1]
  refine (congrFun (res_eq 2 q k v t.val hN _ _ (bits t) _ (fun R a => O 2 q k v (hof a) (tok 2 R) a) (o_fit 2 q k v)) y).trans ?_
  refine congr (congrArg (fun R a => O 2 q k v (hof a) (tok 2 R) a) (Fin.ext ?_)) (Fin.ext ?_)
  · blk_simp [idx t]; exact (row t _).symm
  · blk_simp [idx t]

theorem last6 (H : Ops m c q k v) : (dats m 0 c).arrAt 6 cfg0.N = e2 (fun R a => T 2 q k (hof a) (tok 2 R)) := by
  refine (dats m 0 c).arrAt_eq_of_covers 6 _ (by decide +kernel) fun t _ y => ?_
  have hN : t.val < 8 := lt_of_lt_of_eq t.isLt N_0
  blk_simp
  rw [after0_6, blk0 _ H.q, blk1 _ H.k, blk2 _ H.k, blk3 _ H.v, blk4 _ H.v, (points _ _ _ _ _ _).2.1]
  refine (congrFun (res_eq 2 q k v t.val hN _ _ (bits t) _ (fun R a => T 2 q k (hof a) (tok 2 R)) (m_fit 2 q k v)) y).trans ?_
  refine congr (congrArg (fun R a => T 2 q k (hof a) (tok 2 R)) (Fin.ext ?_)) (Fin.ext ?_)
  · blk_simp [idx t]; exact (row t _).symm
  · blk_simp [idx t]

theorem last7 (H : Ops m c q k v) : (dats m 0 c).arrAt 7 cfg0.N = e2 (fun R a => L 2 q k (hof a) (tok 2 R)) := by
  refine (dats m 0 c).arrAt_eq_of_covers 7 _ (by decide +kernel) fun t _ y => ?_
  have hN : t.val < 8 := lt_of_lt_of_eq t.isLt N_0
  blk_simp
  rw [after0_7, blk0 _ H.q, blk1 _ H.k, blk2 _ H.k, blk3 _ H.v, blk4 _ H.v, (points _ _ _ _ _ _).2.2]
  refine (congrFun (res_eq 2 q k v t.val hN _ _ (bits t) _ (fun R a => L 2 q k (hof a) (tok 2 R)) (l_fit 2 q k v)) y).trans ?_
  refine congr (congrArg (fun R a => L 2 q k (hof a) (tok 2 R)) (Fin.ext ?_)) (Fin.ext ?_)
  · blk_simp [idx t]; exact (row t _).symm
  · blk_simp [idx t]
end

/-- The rows sorted by residue, and a group's columns. -/
def byres (u : FVec Ideal S4096x256 .f32) : FVec Ideal S4096x256 .f32 :=
  shapeCast S4096x256 (transpose S16x256x256 [1, 0, 2] (shapeCast S256x16x256 u shapeCasts_S4096x256_S256x16x256) transposes_S256x16x256_S16x256x256_1_0_2)
    shapeCasts_S16x256x256_S4096x256
def cut (u : FVec Ideal S4096x768 .f32) : FVec Ideal S4096x256 .f32 := extractStridedSlice S4096x256 ![0, 512] u slices_S4096x768_S4096x256_0_512

theorem byres_eq (u : E 4096 256) : byres (e2 u) = e2 fun R a => u (tok 2 R) a := by
  funext i; idx_vars i; pointwise [byres]
  exact congrArg (fun z : Fin 4096 => u z i1) (Fin.ext (by first | rfl | (show i0.val = i0.val % 4096 * 1 + i0.val / 4096; omega)))
theorem cut_eq (u : E 4096 768) : cut (e2 u) = pk 2 u := by
  funext i; idx_vars i; pointwise [cut]
  exact congrArg (u i0) (Fin.ext (by show _ = 256 * 2 + i1.val; first | rfl | (show 0 + i1.val = _; omega) | (show i1.val = _; omega)))
theorem srt_of (u : E 4096 768) : byres (cut (e2 u)) = e2 (srt 2 u) := by rw [cut_eq, byres_eq]; rfl

section
variable (m : (ℓ : Loc nD τ sig) → Buf (Elt Ideal) ℓ) (c : Dev nD) (u : E 4096 768)
theorem opq (h : m ((c : Thread nD τ).loc main_arg0) = e2 u) : V m c main_v4 = e2 (srt 2 u) := (show V m c main_v4 = byres (cut (m ((c : Thread nD τ).loc main_arg0))) by entry_read; rfl).trans ((congrArg (fun z => byres (cut z)) h).trans (srt_of u))
theorem opk (h : m ((c : Thread nD τ).loc main_arg1) = e2 u) : V m c main_v9 = e2 (srt 2 u) := (show V m c main_v9 = byres (cut (m ((c : Thread nD τ).loc main_arg1))) by entry_read; rfl).trans ((congrArg (fun z => byres (cut z)) h).trans (srt_of u))
theorem opv (h : m ((c : Thread nD τ).loc main_arg2) = e2 u) : V m c main_v14 = e2 (srt 2 u) := (show V m c main_v14 = byres (cut (m ((c : Thread nD τ).loc main_arg2))) by entry_read; rfl).trans ((congrArg (fun z => byres (cut z)) h).trans (srt_of u))
end

open Cert.AttnFwd2ReferenceIdeal.Read in
theorem mask_eq : val_main_v16 (F := Ideal) = mk 2 := by
  funext i; idx_vars i
  pointwise [val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_c, val_main_c_0, val_main_c_1, val_main_c_2]
  exact Cert.Attn0ReferenceIdeal.Read.bits_eq Cert.Attn0ReferenceIdeal.Read.fits16 i0 i1

section
open Cert.AttnFwd2ReferenceIdeal.Read
variable (q k v : E 4096 768)
theorem r48 : val_main_v48 (F := Ideal) (e2 q) (e2 k) (e2 v) = e2 fun R a => O 2 q k v (hof a) (tok 2 R) a := by
  have e : val_main_v48 (F := Ideal) (e2 q) (e2 k) (e2 v) = byres (ro (val_main_v16 (F := Ideal)) (cut (e2 q)) (cut (e2 k)) (cut (e2 v))) := rfl
  rw [e, mask_eq, cut_eq, cut_eq, cut_eq, ro_eq, byres_eq]
theorem r51 : val_main_v51 (F := Ideal) (e2 q) (e2 k) = e2 fun R a => T 2 q k (hof a) (tok 2 R) := by
  have e : val_main_v51 (F := Ideal) (e2 q) (e2 k) = byres (rm (val_main_v16 (F := Ideal)) (cut (e2 q)) (cut (e2 k))) := rfl
  rw [e, mask_eq, cut_eq, cut_eq, rm_eq, byres_eq]
theorem r54 : val_main_v54 (F := Ideal) (e2 q) (e2 k) = e2 fun R a => L 2 q k (hof a) (tok 2 R) := by
  have e : val_main_v54 (F := Ideal) (e2 q) (e2 k) = byres (rl (val_main_v16 (F := Ideal)) (cut (e2 q)) (cut (e2 k))) := rfl
  rw [e, mask_eq, cut_eq, cut_eq, rl_eq, byres_eq]
end

end Cert.AttnFwd2KernelIdeal.Value

namespace Cert.Proof.AttnFwd2

open Idealize.ShloMosaic Idealize.ShloMosaic.TcCoe Idealize.SL.Sem
open Cert.Ext

/-- The reference runs, keeps its arguments, and leaves every semaphore at zero. -/
theorem frameR : Cert.quiescent_AttnFwd2ReferenceIdeal := fun m ρ _ =>
  (θ_run Cert.AttnFwd2ReferenceIdeal.defs _ _).mono (fun r h => ⟨fun c => (h c).2.2.2, sem_eq_zero_of_no_sems (by decide) r.2⟩)
    (Cert.AttnFwd2ReferenceIdeal.Value.run (F := Ideal) m ρ)

set_option maxHeartbeats 1000000 in
/-- The kernel's weighted sums, largest scores and sums of weights are the reference's. -/
theorem algebraic : Cert.algebraic_AttnFwd2KernelIdeal_AttnFwd2ReferenceIdeal := by
  intro m ρ m' ρ' _ hagree
  refine ⟨_, _, _, Cert.AttnFwd2KernelIdeal.Value.run_blocks m ρ, ?_⟩
  refine (θ_run Cert.AttnFwd2ReferenceIdeal.defs _ _).mono (fun _ h c => ?_) (Cert.AttnFwd2ReferenceIdeal.Value.run (F := Ideal) m' ρ')
  obtain ⟨r0, r1, r2, hk⟩ := h c
  obtain ⟨a0, a1, a2⟩ := hagree c
  obtain ⟨q, h0⟩ := exists_e2 (n := 4096) (m := 768) (m ((c.tc : Thread _ _).loc Cert.AttnFwd2KernelIdeal.main_arg0))
  obtain ⟨k, h1⟩ := exists_e2 (n := 4096) (m := 768) (m ((c.tc : Thread _ _).loc Cert.AttnFwd2KernelIdeal.main_arg1))
  obtain ⟨v, h2⟩ := exists_e2 (n := 4096) (m := 768) (m ((c.tc : Thread _ _).loc Cert.AttnFwd2KernelIdeal.main_arg2))
  have H : Cert.AttnFwd2KernelIdeal.Value.Ops m c q k v := ⟨Cert.AttnFwd2KernelIdeal.Value.opq m c q h0, Cert.AttnFwd2KernelIdeal.Value.opk m c k h1, Cert.AttnFwd2KernelIdeal.Value.opv m c v h2⟩
  have b0 : m' ((c.tc : Thread _ _).loc Cert.AttnFwd2ReferenceIdeal.main_arg0) = e2 q := a0.trans h0
  have b1 : m' ((c.tc : Thread _ _).loc Cert.AttnFwd2ReferenceIdeal.main_arg1) = e2 k := a1.trans h1
  have b2 : m' ((c.tc : Thread _ _).loc Cert.AttnFwd2ReferenceIdeal.main_arg2) = e2 v := a2.trans h2
  have s0 := r0.trans (Cert.AttnFwd2ReferenceIdeal.Read.val_main_v48_eq m' c)
  have s1 := r1.trans (Cert.AttnFwd2ReferenceIdeal.Read.val_main_v51_eq (F := Ideal) _ _)
  have s2 := r2.trans (Cert.AttnFwd2ReferenceIdeal.Read.val_main_v54_eq m' c)
  rw [b0, b1, b2] at s0
  rw [b0, b1] at s1 s2
  exact ⟨s0.trans ((Cert.AttnFwd2KernelIdeal.Value.r48 q k v).trans (Cert.AttnFwd2KernelIdeal.Value.last5 H).symm),
    s1.trans ((Cert.AttnFwd2KernelIdeal.Value.r51 q k).trans (Cert.AttnFwd2KernelIdeal.Value.last6 H).symm),
    s2.trans ((Cert.AttnFwd2KernelIdeal.Value.r54 q k).trans (Cert.AttnFwd2KernelIdeal.Value.last7 H).symm), hk⟩

end Cert.Proof.AttnFwd2

end
-- ==== Proof.PoolFwdSpec.lean ====
module

public import proofs.«01_k».proof.Defs
public import proofs.«01_k».proof.Proof.Ext
public import proofs.«01_k».proof.Proof.Lift
public import proofs.«01_k».proof.Proof.Finite
public import Idealize.ShloMosaic.Lib.Pipeline.ReadBack
public import Idealize.ShloMosaic.Lib.Quiescent

/-! The pooling and convolution branches' forward call: what it computes. -/

@[expose] public section

set_option maxRecDepth 16384

noncomputable section

namespace Cert.PoolFwd

open Idealize.ShloMosaic Cert.Ext

theorem wide (j : Fin 384) : j.val < 6912 := Nat.lt_of_lt_of_le j.isLt (by norm_num)

/-- A column's rows, of which the first sixteen stand for those before the start. -/
abbrev Rows := ℕ → Fin 384 → EReal

/-- A row and the one `k` before it. -/
def dbl (k : ℕ) (v : Rows) : Rows := fun R j => v R j + v (R - k) j

/-- The sum over a column's window: two, four, eight or sixteen rows by its group. -/
def wsum (v : Rows) : Rows := fun R j =>
  if j.val < 96 then dbl 1 v R j else if j.val < 192 then dbl 2 (dbl 1 v) R j
  else if j.val < 288 then dbl 4 (dbl 2 (dbl 1 v)) R j else dbl 8 (dbl 4 (dbl 2 (dbl 1 v))) R j

/-- The length of a column's window. -/
def win (j : Fin 384) : BitVec 32 := if j.val < 96 then 2#32 else if j.val < 192 then 4#32 else if j.val < 288 then 8#32 else 16#32

/-- The number of rows in the window of length `w` that ends in row `t`. -/
def cnt (t : ℕ) (w : BitVec 32) : EReal := (FloatOps.sitofp .f32 (IntOp.minsi (BitVec.ofNat 32 t + 1#32) w) : Ideal .f32)

/-- The matrix rows, sixteen rows of zeros before them. -/
def pad (a : E 4096 384) : Rows := fun R j => if h : 16 ≤ R ∧ R < 4112 then a ⟨R - 16, by omega⟩ j else 0

/-- The mean over a window less the row. -/
def pooled (a : E 4096 384) (t : Fin 4096) (j : Fin 384) : EReal := Ideal.div (wsum (pad a) (16 + t.val) j) (cnt t.val (win j)) - a t j

/-- The rows `k` places before, zero before the first one. -/
def sh (k : ℕ) (u : E 4096 384) (r : Fin 4096) (j : Fin 384) : EReal := if h : k ≤ r.val then u ⟨r.val - k, by omega⟩ j else 0

/-- The branches' arrays: pooled columns, the three of the convolution, the weights, the scale and the filter. -/
structure Arr where
  a : E 4096 384
  x : E 4096 384
  b : E 4096 384
  c : E 4096 384
  w : E 384 384
  s : Fin 384 → EReal
  k : E 3 384

namespace Arr
variable (z : Arr)
def z0 (r : Fin 4096) (j : Fin 384) : EReal := z.c r j * z.x r j
def out (r : Fin 4096) (i : Fin 384) : EReal := (∑ j, pooled z.a r j * z.w j i) * z.s i
def yb (r : Fin 4096) (j : Fin 384) : EReal := z.b r j * (z.k 0 j * sh 2 z.z0 r j + z.k 1 j * sh 1 z.z0 r j + z.k 2 j * z.z0 r j)
end Arr

/-- The weights of the four groups as one matrix, zero between the groups. -/
abbrev wblk (w : Fin 4 → Fin 96 → Fin 96 → EReal) : E 384 384 := fun j i =>
  if j.val / 96 = i.val / 96 then w ⟨i.val / 96, by omega⟩ ⟨j.val % 96, by omega⟩ ⟨i.val % 96, by omega⟩ else 0

/-- The branches' arrays, of the arguments. -/
abbrev arr (U : E 4096 6912) (w : Fin 4 → Fin 96 → Fin 96 → EReal) (s : Fin 384 → EReal) (k : E 3 384) : Arr :=
  ⟨fun r j => U r ⟨j.val, by omega⟩, fun r j => U r ⟨384 + j.val, by omega⟩, fun r j => U r ⟨768 + j.val, by omega⟩,
    fun r j => U r ⟨1152 + j.val, by omega⟩, wblk w, s, k⟩

end Cert.PoolFwd

end
-- ==== Proof.PoolFwdKer.lean ====
module

public import proofs.«01_k».proof.Defs
public import proofs.«01_k».proof.Proof.PoolFwdSpec
public import proofs.«01_k».proof.Proof.Gen.PoolFwdKernelIdeal.Value
public import Idealize.ShloMosaic.Lib.Pipeline.ReadBack
public import Idealize.ShloMosaic.Lib.Quiescent

/-! The pooling and convolution branches' forward call, the kernel's side: the window sums by doubling over a block and the rows
handed on to it. -/

@[expose] public section

set_option maxRecDepth 16384

noncomputable section

namespace Cert.PoolFwdKernelIdeal.Value

open Idealize.ShloMosaic Idealize.ShloMosaic.TcCoe Idealize.SL.Sem
open Cert.PoolFwdKernelIdeal Cert.PoolFwdKernelIdeal.Gen Cert.Ext Cert.PoolFwd

/-- A row and the one `k` before it, around the end of the extended block. -/
def dblm (k : ℕ) (v : Rows) : Rows := fun R j => v R j + v ((R + 528 - k) % 528) j

theorem dblm_eq (k : ℕ) (v : Rows) (R : ℕ) (j : Fin 384) (h : k ≤ R) (h' : R < 528) : dblm k v R j = v R j + v (R - k) j := by
  unfold dblm; rw [show (R + 528 - k) % 528 = R - k by omega]

/-- Sixteen rows, and below them the rows of a block. -/
def ext (e : E 16 384) (f : E 512 384) : Rows := fun i j => if h : i < 16 then e ⟨i, h⟩ j else if h : i < 528 then f ⟨i - 16, by omega⟩ j else 0

/-- Rows as an array of the extended block. -/
abbrev rowsE (v : Rows) : S528x384.Idx → EReal := e2 fun (i : Fin 528) j => v i.val j

theorem rot1 (v : Rows) : addf (F := Ideal) (φ := .f32) (rowsE v) (dynamicRotate 0 1#32 none (rowsE v) rotates_S528x384_d0) = rowsE (dblm 1 v) := by
  funext i; idx_vars i; pointwise; rfl
theorem rot2 (v : Rows) : addf (F := Ideal) (φ := .f32) (rowsE v) (dynamicRotate 0 2#32 none (rowsE v) rotates_S528x384_d0) = rowsE (dblm 2 v) := by
  funext i; idx_vars i; pointwise; rfl
theorem rot4 (v : Rows) : addf (F := Ideal) (φ := .f32) (rowsE v) (dynamicRotate 0 4#32 none (rowsE v) rotates_S528x384_d0) = rowsE (dblm 4 v) := by
  funext i; idx_vars i; pointwise; rfl
theorem rot8 (v : Rows) : addf (F := Ideal) (φ := .f32) (rowsE v) (dynamicRotate 0 8#32 none (rowsE v) rotates_S528x384_d0) = rowsE (dblm 8 v) := by
  funext i; idx_vars i; pointwise; rfl

theorem lev2 (v : Rows) (R : ℕ) (j : Fin 384) (h : 1 ≤ R) (h' : R < 528) : dblm 1 v R j = dbl 1 v R j := dblm_eq 1 v R j h h'
theorem lev4 (v : Rows) (R : ℕ) (j : Fin 384) (h : 3 ≤ R) (h' : R < 528) : dblm 2 (dblm 1 v) R j = dbl 2 (dbl 1 v) R j := by
  rw [dblm_eq 2 _ R j (by omega) h', lev2 v R j (by omega) h', lev2 v (R - 2) j (by omega) (by omega)]; rfl
theorem lev8 (v : Rows) (R : ℕ) (j : Fin 384) (h : 7 ≤ R) (h' : R < 528) : dblm 4 (dblm 2 (dblm 1 v)) R j = dbl 4 (dbl 2 (dbl 1 v)) R j := by
  rw [dblm_eq 4 _ R j (by omega) h', lev4 v R j (by omega) h', lev4 v (R - 4) j (by omega) (by omega)]; rfl
theorem lev16 (v : Rows) (R : ℕ) (j : Fin 384) (h : 15 ≤ R) (h' : R < 528) :
    dblm 8 (dblm 4 (dblm 2 (dblm 1 v))) R j = dbl 8 (dbl 4 (dbl 2 (dbl 1 v))) R j := by
  rw [dblm_eq 8 _ R j (by omega) h', lev8 v R j (by omega) h', lev8 v (R - 8) j (by omega) (by omega)]; rfl

theorem pay6 (f : E 512 384) : k0_pay6 (F := Ideal) (e2 f) = e2 f := by
  funext i; idx_vars i; pointwise [k0_pay6]

theorem cat (e : E 16 384) (f : E 512 384) : concatenate (α := Ideal .f32) S528x384 0 [⟨S16x384, e2 e⟩, ⟨S512x384, e2 f⟩] concatenates_S16x384_S512x384_S528x384_d0
    = e2 fun (i : Fin 528) j => ext e f i.val j := by
  funext i; idx_vars i; pointwise
  show _ = ext e f i0.val i1
  unfold ext; split
  · rfl
  · split
    · rfl
    · exact absurd i0.isLt ‹_›

theorem slt96 : ∀ j : Fin 384, IntOp.cmpi .slt (BitVec.ofNat 32 j.val) 96#32 = if j.val < 96 then 1#1 else 0#1 := by decide +kernel
theorem slt192 : ∀ j : Fin 384, IntOp.cmpi .slt (BitVec.ofNat 32 j.val) 192#32 = if j.val < 192 then 1#1 else 0#1 := by decide +kernel
theorem slt288 : ∀ j : Fin 384, IntOp.cmpi .slt (BitVec.ofNat 32 j.val) 288#32 = if j.val < 288 then 1#1 else 0#1 := by decide +kernel

/-- Four values chosen by a column's group. -/
theorem sel4 {α : Type} (j : Fin 384) (a b c d : α) :
    Scalar.select (IntOp.cmpi .slt (BitVec.ofNat 32 j.val) 96#32) a (Scalar.select (IntOp.cmpi .slt (BitVec.ofNat 32 j.val) 192#32) b
      (Scalar.select (IntOp.cmpi .slt (BitVec.ofNat 32 j.val) 288#32) c d))
    = if j.val < 96 then a else if j.val < 192 then b else if j.val < 288 then c else d := by
  rw [slt96, slt192, slt288]
  by_cases h1 : j.val < 96
  · simp only [if_pos h1]; rfl
  · by_cases h2 : j.val < 192
    · simp only [if_neg h1, if_pos h2]; rfl
    · by_cases h3 : j.val < 288
      · simp only [if_neg h1, if_neg h2, if_pos h3]; rfl
      · simp only [if_neg h1, if_neg h2, if_neg h3]; rfl

theorem pay7 (f : E 512 384) (e : E 16 384) : k0_pay7 (F := Ideal) (e2 f) (e2 e) = e2 fun r j => wsum (ext e f) (16 + r.val) j := by
  unfold k0_pay7
  rw [pay6, cat]
  generalize ext e f = v
  have h1 := rot1 v
  have h2 := rot2 (dblm 1 v)
  have h4 := rot4 (dblm 2 (dblm 1 v))
  have h8 := rot8 (dblm 4 (dblm 2 (dblm 1 v)))
  simp only [h1, h2, h4, h8]
  funext i; idx_vars i
  pointwise
  rw [sel4]
  show (if i1.val < 96 then dblm 1 v (16 + i0.val) i1 else if i1.val < 192 then dblm 2 (dblm 1 v) (16 + i0.val) i1
    else if i1.val < 288 then dblm 4 (dblm 2 (dblm 1 v)) (16 + i0.val) i1 else dblm 8 (dblm 4 (dblm 2 (dblm 1 v))) (16 + i0.val) i1) = wsum v (16 + i0.val) i1
  rw [lev2 _ _ _ (by omega) (by omega), lev4 _ _ _ (by omega) (by omega), lev8 _ _ _ (by omega) (by omega), lev16 _ _ _ (by omega) (by omega)]
  rfl

theorem pay11 (f S : E 512 384) (n : ℕ) (w : E 384 384) (s : Fin 384 → EReal) :
    k0_pay11 (F := Ideal) (e2 f) (Scalar.muli (BitVec.ofNat 32 n) 512#32) (e2 S) k0_pay8 k0_pay9 k0_pay10 4#32 (e2 w) (e2 fun _ : Fin 1 => s)
    = e2 fun r i => (∑ j, (Ideal.div (S r j) (cnt (n * 512 + r.val) (win j)) - f r j) * w j i) * s i := by
  funext i; idx_vars i
  pointwise [k0_pay11, k0_pay8, k0_pay9, k0_pay10]
  simp only [sel4]
  refine congrArg (· * s i1) (Finset.sum_congr rfl fun j _ => congrArg (fun x => (x - f i0 j) * w j i1) (congrArg (Ideal.div (S i0 j)) ?_))
  unfold cnt win
  refine congrArg (fun x => (FloatOps.sitofp .f32 (IntOp.minsi (x + 1#32) _) : Ideal .f32)) ?_
  show BitVec.ofNat 32 n * 512#32 + BitVec.ofNat 32 i0.val = BitVec.ofNat 32 (n * 512 + i0.val)
  rw [BitVec.ofNat_add, BitVec.ofNat_mul]

theorem pay2 (f : E 512 384) : k0_pay2 (F := Ideal) (e2 f) = e2 fun (i : Fin 16) j => f ⟨496 + i.val, by omega⟩ j := by
  funext i; idx_vars i; pointwise [k0_pay2]; rfl
theorem pay3 (f : E 512 384) : k0_pay3 (F := Ideal) (e2 f) = e2 fun (i : Fin 8) j => f ⟨504 + i.val, by omega⟩ j := by
  funext i; idx_vars i; pointwise [k0_pay3]; rfl
theorem pay4 : k0_pay4 (F := Ideal) = e2 fun (_ : Fin 16) _ => 0 := by
  funext i; idx_vars i; pointwise [k0_pay4]
theorem pay5 : k0_pay5 (F := Ideal) = e2 fun (_ : Fin 8) _ => 0 := by
  funext i; idx_vars i; pointwise [k0_pay5]

theorem pay12 (f g : E 512 384) : k0_pay12 (F := Ideal) (e2 f) (e2 g) = e2 fun r j => f r j * g r j := by
  funext i; idx_vars i; pointwise [k0_pay12]

/-- Eight rows, and below them the rows of a block. -/
def ext8 (e : E 8 384) (f : E 512 384) : E 520 384 := fun i j => if h : i.val < 8 then e ⟨i.val, h⟩ j else f ⟨i.val - 8, by omega⟩ j

/-- Row `8 + r - k` of the extended block. -/
def dn (k : Fin 9) (v : E 520 384) : E 512 384 := fun r j => v ⟨8 + r.val - k.val, by omega⟩ j

theorem pay13 (f g : E 512 384) (e : E 8 384) : k0_pay13 (F := Ideal) (e2 f) (e2 g) (e2 e) = e2 (ext8 e fun r j => f r j * g r j) := by
  unfold k0_pay13; rw [pay12]
  funext i; idx_vars i; pointwise
  show _ = ext8 e _ i0 i1
  unfold ext8; split <;> rfl

theorem pay14 (f g : E 512 384) (e : E 8 384) : k0_pay14 (F := Ideal) (e2 f) (e2 g) (e2 e) = e2 (dn 1 (ext8 e fun r j => f r j * g r j)) := by
  unfold k0_pay14; rw [pay13]
  generalize ext8 e _ = v
  funext i; idx_vars i; pointwise
  exact congrArg (fun r => v r i1) (Fin.ext (by show (8 + i0.val + 520 - 1) % 520 = 8 + i0.val - 1; omega))

theorem pay15 (f g : E 512 384) (e : E 8 384) (k : E 3 384) :
    k0_pay15 (F := Ideal) (e2 f) (e2 g) (e2 e) (e2 k) = e2 fun r j => k 0 j * dn 2 (ext8 e fun r j => f r j * g r j) r j := by
  unfold k0_pay15; rw [pay13]
  generalize ext8 e _ = v
  funext i; idx_vars i; pointwise
  exact congrArg (fun r => k 0 i1 * v r i1) (Fin.ext (by show (8 + i0.val + 520 - 2) % 520 = 8 + i0.val - 2; omega))

theorem pay1 (z z1 z2 b : E 512 384) (k : E 3 384) : k0_pay1 (F := Ideal) (e2 z) (e2 k) (e2 z1) (e2 z2) (e2 b)
    = e2 fun r j => b r j * (z2 r j + k 1 j * z1 r j + k 2 j * z r j) := by
  funext i; idx_vars i; pointwise [k0_pay1]; rfl

theorem idx : ∀ t : Fin cfg0.N, win0_0.index t = ![t.val, 8] ∧ win0_1.index t = ![t.val, 9] ∧ win0_2.index t = ![t.val, 10]
    ∧ win0_3.index t = ![t.val, 11] ∧ win0_4.index t = ![0, 0] ∧ win0_5.index t = ![0, 0]
    ∧ win0_6.index t = ![0, 0] ∧ win0_7.index t = ![t.val, 0] ∧ win0_8.index t = ![t.val, 0] :=
  (by decide +kernel : ∀ t : Fin grid0.N, _)

theorem coord : ∀ t : Fin cfg0.N, ((grid0.coords t) 0).val = t.val := (by decide +kernel : ∀ t : Fin grid0.N, _)

/-- Row `r` of the block of point `n`. -/
abbrev rowAt (n : ℕ) (r : Fin 512) : Fin 4096 := ⟨(n * 512 + r.val) % 4096, Nat.mod_lt _ (by norm_num)⟩

theorem row (t : Fin cfg0.N) (s : Fin 512) : t.val * 512 + s.val = (rowAt t.val s).val := by
  have := lt_of_lt_of_eq t.isLt N_0
  show _ = (t.val * 512 + s.val) % 4096; omega

variable (z : Arr)

/-- What the block of point `n` finds of the pooled columns of the block before it. -/
def carryA : ℕ → E 16 384
  | 0 => fun _ _ => 0
  | n + 1 => fun i j => z.a (rowAt n ⟨496 + i.val, by omega⟩) j

/-- What the block of point `n` finds of the convolution's input of the block before it. -/
def carryZ : ℕ → E 8 384
  | 0 => fun _ _ => 0
  | n + 1 => fun i j => z.z0 (rowAt n ⟨504 + i.val, by omega⟩) j

theorem ext_eq (n : ℕ) (hn : n < 8) (R : ℕ) (hR : R < 528) (j : Fin 384) :
    ext (carryA z n) (fun r => z.a (rowAt n r)) R j = PoolFwd.pad z.a (n * 512 + R) j := by
  have e : ∀ (T : Fin 4096), T.val + 16 = n * 512 + R → z.a T j = PoolFwd.pad z.a (n * 512 + R) j := fun T hT => by
    unfold PoolFwd.pad; rw [dif_pos (by omega)]
    exact congrArg (fun T => z.a T j) (Fin.ext (by show T.val = n * 512 + R - 16; omega))
  unfold ext
  by_cases h : R < 16
  · rw [dif_pos h]
    cases n with
    | zero => unfold PoolFwd.pad; rw [dif_neg (by omega)]; rfl
    | succ n => exact e _ (by show (n * 512 + (496 + R)) % 4096 + 16 = _; omega)
  · rw [dif_neg h, dif_pos hR]
    exact e _ (by show (n * 512 + (R - 16)) % 4096 + 16 = _; omega)

theorem wsum_ext (n : ℕ) (hn : n < 8) (r : Fin 512) (j : Fin 384) :
    wsum (ext (carryA z n) (fun r => z.a (rowAt n r))) (16 + r.val) j = wsum (pad z.a) (16 + (rowAt n r).val) j := by
  have hr : 16 + (rowAt n r).val = n * 512 + (16 + r.val) := by show 16 + (n * 512 + r.val) % 4096 = _; omega
  rw [hr]
  have q := ext_eq z n hn
  generalize ext (carryA z n) (fun r => z.a (rowAt n r)) = e at q ⊢
  have l1 : ∀ R, 16 ≤ R + 14 → R < 528 → dbl 1 e R j = dbl 1 (pad z.a) (n * 512 + R) j := fun R h h' => by
    unfold dbl; rw [q _ h', q _ (by omega), Nat.add_sub_assoc (by omega)]
  have l2 : ∀ R, 4 ≤ R → R < 528 → dbl 2 (dbl 1 e) R j = dbl 2 (dbl 1 (pad z.a)) (n * 512 + R) j := fun R h h' => by
    show dbl 1 _ R j + dbl 1 _ (R - 2) j = dbl 1 _ _ j + dbl 1 _ _ j
    rw [l1 _ (by omega) h', l1 _ (by omega) (by omega), Nat.add_sub_assoc (by omega)]
  have l4 : ∀ R, 8 ≤ R → R < 528 → dbl 4 (dbl 2 (dbl 1 e)) R j = dbl 4 (dbl 2 (dbl 1 (pad z.a))) (n * 512 + R) j := fun R h h' => by
    show dbl 2 _ R j + dbl 2 _ (R - 4) j = dbl 2 _ _ j + dbl 2 _ _ j
    rw [l2 _ (by omega) h', l2 _ (by omega) (by omega), Nat.add_sub_assoc (by omega)]
  have l8 : ∀ R, 16 ≤ R → R < 528 → dbl 8 (dbl 4 (dbl 2 (dbl 1 e))) R j = dbl 8 (dbl 4 (dbl 2 (dbl 1 (pad z.a)))) (n * 512 + R) j := fun R h h' => by
    show dbl 4 _ R j + dbl 4 _ (R - 8) j = dbl 4 _ _ j + dbl 4 _ _ j
    rw [l4 _ (by omega) h', l4 _ (by omega) (by omega), Nat.add_sub_assoc (by omega)]
  unfold wsum
  rw [l1 _ (by omega) (by omega), l2 _ (by omega) (by omega), l4 _ (by omega) (by omega), l8 _ (by omega) (by omega)]

/-- The extended block reads the rows before a row. -/
theorem dn_ext (n : ℕ) (hn : n < 8) (k : Fin 9) (r : Fin 512) (j : Fin 384) :
    dn k (ext8 (carryZ z n) fun r => z.z0 (rowAt n r)) r j = sh k.val z.z0 (rowAt n r) j := by
  have e : ∀ (R : Fin 4096), R.val + k.val = n * 512 + r.val → z.z0 R j = sh k.val z.z0 (rowAt n r) j := fun R hR => by
    have hr : (rowAt n r).val = n * 512 + r.val := Nat.mod_eq_of_lt (by omega)
    unfold sh; rw [dif_pos (by omega)]
    exact congrArg (fun R => z.z0 R j) (Fin.ext (by show R.val = (rowAt n r).val - k.val; omega))
  unfold dn ext8
  by_cases h : 8 + r.val - k.val < 8
  · rw [dif_pos h]
    cases n with
    | zero =>
      unfold sh
      rw [dif_neg (by show ¬ k.val ≤ (0 * 512 + r.val) % 4096; omega)]; rfl
    | succ n => exact e _ (by show (n * 512 + (504 + (8 + r.val - k.val))) % 4096 + k.val = _; omega)
  · rw [dif_neg h]
    exact e _ (by show (n * 512 + (8 + r.val - k.val - 8)) % 4096 + k.val = _; omega)

/-- The region's operands hold the branches' arrays. -/
structure Ops (m : (ℓ : Loc nD τ sig) → Buf (Elt Ideal) ℓ) (c : Dev nD) (U : E 4096 6912) (z : Arr) : Prop where
  u : V m c main_v3 = e2 U
  w : V m c main_v20 = e2 z.w
  s : V m c main_v21 = e2 fun _ : Fin 1 => z.s
  k : V m c main_arg3 = e2 z.k
  a : z.a = fun r j => U r ⟨3072 + j.val, by omega⟩
  x : z.x = fun r j => U r ⟨3456 + j.val, by omega⟩
  b : z.b = fun r j => U r ⟨3840 + j.val, by omega⟩
  c : z.c = fun r j => U r ⟨4224 + j.val, by omega⟩

variable {m : (ℓ : Loc nD τ sig) → Buf (Elt Ideal) ℓ} {c : Dev nD} {z} {U : E 4096 6912}

theorem at_row {f : E 4096 6912} (t : Fin cfg0.N) {R : Fin 4096} {r : Fin 512} {J K : Fin 6912} (h : R.val = t.val * 512 + r.val)
    (h' : J.val = K.val) : f R J = f (rowAt t.val r) K := congr (congrArg f (Fin.ext (h.trans (row t r)))) (Fin.ext h')

theorem blk0 (H : Ops m c U z) (t : Fin cfg0.N) : iblk m c 0 t = e2 fun r => z.a (rowAt t.val r) := by
  funext i
  rw [H.a]
  exact (congrFun H.u (((cfg0.win 0).blk t).view.emb i)).trans (at_row t (by blk_simp [idx t]) (by blk_simp [idx t]))

theorem blk1 (H : Ops m c U z) (t : Fin cfg0.N) : iblk m c 1 t = e2 fun r => z.x (rowAt t.val r) := by
  funext i
  rw [H.x]
  exact (congrFun H.u (((cfg0.win 1).blk t).view.emb i)).trans (at_row t (by blk_simp [idx t]) (by blk_simp [idx t]))

theorem blk2 (H : Ops m c U z) (t : Fin cfg0.N) : iblk m c 2 t = e2 fun r => z.b (rowAt t.val r) := by
  funext i
  rw [H.b]
  exact (congrFun H.u (((cfg0.win 2).blk t).view.emb i)).trans (at_row t (by blk_simp [idx t]) (by blk_simp [idx t]))

theorem blk3 (H : Ops m c U z) (t : Fin cfg0.N) : iblk m c 3 t = e2 fun r => z.c (rowAt t.val r) := by
  funext i
  rw [H.c]
  exact (congrFun H.u (((cfg0.win 3).blk t).view.emb i)).trans (at_row t (by blk_simp [idx t]) (by blk_simp [idx t]))

theorem blk4 (H : Ops m c U z) (t : Fin cfg0.N) : iblk m c 4 t = e2 z.w := by
  funext i; exact (congrFun H.w (((cfg0.win 4).blk t).view.emb i)).trans (congrArg (e2 _) (by blk_ext [idx t]))
theorem blk5 (H : Ops m c U z) (t : Fin cfg0.N) : iblk m c 5 t = e2 fun _ : Fin 1 => z.s := by
  funext i; exact (congrFun H.s (((cfg0.win 5).blk t).view.emb i)).trans (congrArg (e2 _) (by blk_ext [idx t]))
theorem blk6 (H : Ops m c U z) (t : Fin cfg0.N) : iblk m c 6 t = e2 z.k := by
  funext i; exact (congrFun H.k (((cfg0.win 6).blk t).view.emb i)).trans (congrArg (e2 _) (by blk_ext [idx t]))

/-- The pooled result of a block, from the rows it finds. -/
theorem outA (n : ℕ) (hn : n < 8) :
    k0_pay11 (F := Ideal) (e2 fun r => z.a (rowAt n r)) (Scalar.muli (BitVec.ofNat 32 n) 512#32)
      (e2 fun r j => wsum (ext (carryA z n) (fun r => z.a (rowAt n r))) (16 + r.val) j) k0_pay8 k0_pay9 k0_pay10 4#32 (e2 z.w) (e2 fun _ : Fin 1 => z.s)
    = e2 fun r => z.out (rowAt n r) := by
  rw [pay11]
  funext i; idx_vars i
  refine congrArg (· * z.s i1) (Finset.sum_congr rfl fun j _ => congrArg (· * z.w j i1) ?_)
  show Ideal.div (wsum _ (16 + i0.val) j) _ - _ = pooled z.a (rowAt n i0) j
  unfold pooled
  rw [wsum_ext z n hn, show (rowAt n i0).val = n * 512 + i0.val from Nat.mod_eq_of_lt (by omega)]; rfl

/-- The convolved result of a block, from the rows it finds. -/
theorem outB (n : ℕ) (hn : n < 8) :
    k0_pay1 (F := Ideal) (e2 fun r j => z.c (rowAt n r) j * z.x (rowAt n r) j) (e2 z.k)
      (e2 (dn 1 (ext8 (carryZ z n) fun r j => z.c (rowAt n r) j * z.x (rowAt n r) j)))
      (e2 fun r j => z.k 0 j * dn 2 (ext8 (carryZ z n) fun r j => z.c (rowAt n r) j * z.x (rowAt n r) j) r j) (e2 fun r => z.b (rowAt n r))
    = e2 fun r => z.yb (rowAt n r) := by
  rw [pay1]
  funext i; idx_vars i
  have h1 := dn_ext z n hn 1 i0 i1
  have h2 := dn_ext z n hn 2 i0 i1
  show z.b _ i1 * (z.k 0 i1 * dn 2 (ext8 (carryZ z n) fun r => z.z0 (rowAt n r)) i0 i1 + z.k 1 i1 * dn 1 (ext8 (carryZ z n) fun r => z.z0 (rowAt n r)) i0 i1 + _) = _
  rw [h1, h2]; rfl

/-- What point `n` leaves, after the points before it. -/
theorem left (H : Ops m c U z) : ∀ (n : ℕ) (hn : n < cfg0.N),
    (outsAt0 m c n hn).1 = (e2 fun r => z.out (rowAt n r))
    ∧ (outsAt0 m c n hn).2.1 = (e2 fun r => z.yb (rowAt n r))
    ∧ (outsAt0 m c n hn).2.2.1 = e2 (carryA z (n + 1))
    ∧ (outsAt0 m c n hn).2.2.2 = e2 (carryZ z (n + 1)) := by
  intro n hn
  have hN : n < 8 := lt_of_lt_of_eq hn N_0
  cases n with
  | zero =>
    rw [outsAt0_A m c ⟨0, hn⟩ (by rfl)]
    have p4 : k0_pay4 (F := Ideal) = e2 (carryA z 0) := pay4
    have p5 : k0_pay5 (F := Ideal) = e2 (carryZ z 0) := pay5
    refine ⟨?_, ?_, ?_, ?_⟩
    · frame_out
      rw [blk0 H, blk4 H, blk5 H, p4, pay6, pay7, coord]; exact outA 0 hN
    · frame_out
      rw [blk1 H, blk2 H, blk3 H, blk6 H, p5, pay12, pay14, pay15]; exact outB 0 hN
    · frame_out
      rw [blk0 H, pay6, pay2]; rfl
    · frame_out
      rw [blk1 H, blk3 H, pay12, pay3]; rfl
  | succ n =>
    rw [outsAt0_B m c ⟨n + 1, hn⟩ (by show ¬ (n + 1) % 8 = 0; omega)]
    obtain ⟨_, _, ihA, ihZ⟩ := left H n (by omega)
    refine ⟨?_, ?_, ?_, ?_⟩
    · frame_out
      simp only [Nat.add_sub_cancel, ihA, read_unread_whole]
      rw [blk0 H, blk4 H, blk5 H, pay6, pay7, coord]; exact outA (n + 1) hN
    · frame_out
      simp only [Nat.add_sub_cancel, ihZ, read_unread_whole]
      rw [blk1 H, blk2 H, blk3 H, blk6 H, pay12, pay14, pay15]; exact outB (n + 1) hN
    · frame_out
      rw [blk0 H, pay6, pay2]; rfl
    · frame_out
      rw [blk1 H, blk3 H, pay12, pay3]; rfl

theorem last7 (H : Ops m c U z) : (dats m 0 c).arrAt 7 cfg0.N = e2 z.out := by
  refine (dats m 0 c).arrAt_eq_of_covers 7 _ (by decide +kernel) fun t _ y => ?_
  blk_simp
  rw [after0_7, (left H t.val t.isLt).1]
  refine congr (congrArg z.out (Fin.ext ?_)) (Fin.ext ?_)
  · blk_simp [idx t]; exact (row t _).symm
  · blk_simp [idx t]

theorem last8 (H : Ops m c U z) : (dats m 0 c).arrAt 8 cfg0.N = e2 z.yb := by
  refine (dats m 0 c).arrAt_eq_of_covers 8 _ (by decide +kernel) fun t _ y => ?_
  blk_simp
  rw [after0_8, (left H t.val t.isLt).2.1]
  refine congr (congrArg z.yb (Fin.ext ?_)) (Fin.ext ?_)
  · blk_simp [idx t]; exact (row t _).symm
  · blk_simp [idx t]

/-- The columns in the order of the version. -/
def turn (U : E 4096 6912) : E 4096 6912 := fun r j => if h : j.val < 3072 then U r ⟨3840 + j.val, by omega⟩ else U r ⟨j.val - 3072, by omega⟩

theorem turn_hi (U : E 4096 6912) (r : Fin 4096) (k : ℕ) (h : 3072 + k < 6912) : turn U r ⟨3072 + k, h⟩ = U r ⟨k, by omega⟩ := by
  unfold turn; rw [dif_neg (by show ¬ 3072 + k < 3072; omega)]
  exact congrArg (U r) (Fin.ext (by show 3072 + k - 3072 = k; omega))

/-- A matrix with another put in at row and column `n`. -/
def put (x : S384x384.Idx → EReal) (u : S96x96.Idx → EReal) (n : ℕ) : E 384 384 := fun j i =>
  if h : (n ≤ j.val ∧ j.val < n + 96) ∧ n ≤ i.val ∧ i.val < n + 96 then u (ix2 ⟨j.val - n, by omega⟩ ⟨i.val - n, by omega⟩) else x (ix2 j i)

/-- A group's weights written at its place. -/
theorem slot (x : S384x384.Idx → EReal) (u : S96x96.Idx → EReal) (start : Fin 2 → Int) (n : ℕ) (hn : n ≤ 288)
    (h0 : start 0 = (n : Int)) (h1 : start 1 = (n : Int)) :
    Host.dynamicUpdateSlice x u start updateFits_S384x384_S96x96
    = e2 (put x u n) := by
  have hs : S384x384.Slices ![n, n] S96x96 := ⟨rfl, fun a => by fin_cases a <;> (show n + 96 ≤ 384; omega)⟩
  rw [Host.dynamicUpdateSlice_eq_updateSlice x u start _ ![n, n] (fun a => by
    fin_cases a
    · show (min (max (start 0) 0) ((384 - 96 : ℕ) : Int)).toNat = n
      rw [h0]; omega
    · show (min (max (start 1) 0) ((384 - 96 : ℕ) : Int)).toNat = n
      rw [h1]; omega) hs]
  funext i; idx_vars i
  show updateSlice x u ![n, n] hs (ix2 i0 i1) = put x u n i0 i1
  unfold updateSlice put
  split
  · rename_i h
    rw [dif_pos ⟨h 0, h 1⟩]
    refine congrArg u (funext fun a => ?_)
    fin_cases a <;> rfl
  · rename_i h
    rw [dif_neg (show ¬ ((n ≤ i0.val ∧ i0.val < n + 96) ∧ n ≤ i1.val ∧ i1.val < n + 96) from fun q => h (Fin.forall_fin_two.mpr q))]

/-- The four groups' weights in their places. -/
theorem four (w : Fin 4 → Fin 96 → Fin 96 → EReal) (z : EReal) (hz : z = 0) (i0 i1 : Fin 384) :
    (if h : (288 ≤ i0.val ∧ i0.val < 288 + 96) ∧ 288 ≤ i1.val ∧ i1.val < 288 + 96 then w 3 ⟨i0.val - 288, by omega⟩ ⟨i1.val - 288, by omega⟩
      else if h : (192 ≤ i0.val ∧ i0.val < 192 + 96) ∧ 192 ≤ i1.val ∧ i1.val < 192 + 96 then w 2 ⟨i0.val - 192, by omega⟩ ⟨i1.val - 192, by omega⟩
      else if h : (96 ≤ i0.val ∧ i0.val < 96 + 96) ∧ 96 ≤ i1.val ∧ i1.val < 96 + 96 then w 1 ⟨i0.val - 96, by omega⟩ ⟨i1.val - 96, by omega⟩
      else if h : (0 ≤ i0.val ∧ i0.val < 0 + 96) ∧ 0 ≤ i1.val ∧ i1.val < 0 + 96 then w 0 ⟨i0.val - 0, by omega⟩ ⟨i1.val - 0, by omega⟩ else z) = wblk w i0 i1 := by
  have h0 := i0.isLt
  have h1 := i1.isLt
  show _ = ite _ _ _
  have e : ∀ (g g' : Fin 4) (j j' i i' : Fin 96), g = g' → j = j' → i = i' → w g j i = w g' j' i' := fun _ _ _ _ _ _ a b c => a ▸ b ▸ c ▸ rfl
  have p : ∀ n : ℕ, i0.val / 96 = n ↔ n * 96 ≤ i0.val ∧ i0.val < n * 96 + 96 := fun n => by omega
  split
  · rename_i h
    rw [if_pos (by omega)]
    exact e _ _ _ _ _ _ (Fin.ext (by show 3 = i1.val / 96; omega)) (Fin.ext (by show i0.val - 288 = i0.val % 96; omega)) (Fin.ext (by show i1.val - 288 = i1.val % 96; omega))
  split
  · rename_i h
    rw [if_pos (by omega)]
    exact e _ _ _ _ _ _ (Fin.ext (by show 2 = i1.val / 96; omega)) (Fin.ext (by show i0.val - 192 = i0.val % 96; omega)) (Fin.ext (by show i1.val - 192 = i1.val % 96; omega))
  split
  · rename_i h
    rw [if_pos (by omega)]
    exact e _ _ _ _ _ _ (Fin.ext (by show 1 = i1.val / 96; omega)) (Fin.ext (by show i0.val - 96 = i0.val % 96; omega)) (Fin.ext (by show i1.val - 96 = i1.val % 96; omega))
  split
  · rename_i h
    rw [if_pos (by omega)]
    exact e _ _ _ _ _ _ (Fin.ext (by show 0 = i1.val / 96; omega)) (Fin.ext (by show i0.val = i0.val % 96; omega)) (Fin.ext (by show i1.val = i1.val % 96; omega))
  · rw [if_neg (by omega)]; exact hz

theorem ops (m : (ℓ : Loc nD τ sig) → Buf (Elt Ideal) ℓ) (c : Dev nD) (U : E 4096 6912) (w : Fin 4 → Fin 96 → Fin 96 → EReal) (s : Fin 384 → EReal) (k : E 3 384)
    (h0 : m ((c : Thread nD τ).loc main_arg0) = e2 U) (h1 : m ((c : Thread nD τ).loc main_arg1) = e3 w)
    (h2 : m ((c : Thread nD τ).loc main_arg2) = e1 s) (h3 : m ((c : Thread nD τ).loc main_arg3) = e2 k) : Ops m c (turn U) (arr U w s k) where
  u := by
    entry_read; rw [h0]; funext i; idx_vars i; pointwise
    show _ = turn U i0 i1
    unfold turn; split <;> rfl
  w := by
    entry_read; rw [h1]
    rw [slot _ _ _ 288 (by decide) rfl rfl, slot _ _ _ 192 (by decide) rfl rfl, slot _ _ _ 96 (by decide) rfl rfl, slot _ _ _ 0 (by decide) rfl rfl]
    funext i; idx_vars i
    have z0 : broadcastInDim S384x384 ![] bcast_S_S384x384 (constant (F := Ideal) S_ FTy.bf16 0#16) (ix2 i0 i1) = (0 : EReal) := by
      pointwise
    pointwise
    refine Eq.trans ?_ (four w _ z0 i0 i1)
    rfl
  s := by entry_read; rw [h2]; funext i; idx_vars i; pointwise; rfl
  k := (V_main_arg3 m c).trans h3
  a := by funext r j; exact (turn_hi U r j.val (by omega)).symm
  x := by funext r j; exact (turn_hi U r (384 + j.val) (by omega)).symm.trans (congrArg (turn U r) (Fin.ext (by show 3072 + (384 + j.val) = 3456 + j.val; omega)))
  b := by funext r j; exact (turn_hi U r (768 + j.val) (by omega)).symm.trans (congrArg (turn U r) (Fin.ext (by show 3072 + (768 + j.val) = 3840 + j.val; omega)))
  c := by funext r j; exact (turn_hi U r (1152 + j.val) (by omega)).symm.trans (congrArg (turn U r) (Fin.ext (by show 3072 + (1152 + j.val) = 4224 + j.val; omega)))

end Cert.PoolFwdKernelIdeal.Value
end
-- ==== Proof.PoolFwdRef.lean ====
module

public import proofs.«01_k».proof.Proof.PoolFwdSpec
public import proofs.«01_k».proof.Proof.Gen.PoolFwdReferenceIdeal.Run
public import proofs.«01_k».proof.Proof.Gen.PoolFwdReferenceIdeal.Read

/-! The pooling and convolution branches' forward call, the reference's side: differences of running sums over all the rows. -/

@[expose] public section

set_option maxRecDepth 16384

noncomputable section

namespace Cert.PoolFwd

open Idealize.ShloMosaic Cert.Ext

/-! ## Running sums of real numbers -/

/-- A column's real rows, sixteen zeros before them. -/
def padR (f : Fin 4096 → ℝ) (R : ℕ) : ℝ := if h : 16 ≤ R ∧ R < 4112 then f ⟨R - 16, by omega⟩ else 0

/-- The sum of the rows before row `n`. -/
def before (f : Fin 4096 → ℝ) (n : ℕ) : ℝ := ∑ k ∈ Finset.range n, padR f k

theorem before_succ (f : Fin 4096 → ℝ) (n : ℕ) : before f (n + 1) = before f n + padR f n := Finset.sum_range_succ _ _

theorem before_zero (f : Fin 4096 → ℝ) (n : ℕ) (h : n ≤ 16) : before f n = 0 :=
  Finset.sum_eq_zero fun k hk => dif_neg (by have := Finset.mem_range.mp hk; omega)

/-- The window that ends at a row, summed, is the rows before its end less those before its start. -/
theorem running (f : Fin 4096 → ℝ) (r : Fin 4096) :
    (∑ n : Fin 4096, if h : 4095 ≤ r.val + n.val then f ⟨r.val + n.val - 4095, by omega⟩ else 0) = before f (r.val + 17) := by
  have hr := r.isLt
  have e : ∀ n : Fin 4096, (if h : 4095 ≤ r.val + n.val then f ⟨r.val + n.val - 4095, by omega⟩ else 0)
      = (fun n : ℕ => if 4095 ≤ r.val + n then padR f (r.val + n - 4095 + 16) else 0) n.val := fun n => by
    show _ = if 4095 ≤ r.val + n.val then padR f (r.val + n.val - 4095 + 16) else 0
    split
    · unfold padR
      rw [dif_pos (by omega)]
      exact congrArg f (Fin.ext (by show r.val + n.val - 4095 = r.val + n.val - 4095 + 16 - 16; omega))
    · rfl
  rw [Finset.sum_congr rfl fun n _ => e n, Fin.sum_univ_eq_sum_range (fun n : ℕ => if 4095 ≤ r.val + n then padR f (r.val + n - 4095 + 16) else 0) 4096]
  refine (congrArg (fun N => ∑ i ∈ Finset.range N, if 4095 ≤ r.val + i then padR f (r.val + i - 4095 + 16) else 0) (by omega : 4096 = (4095 - r.val) + (r.val + 1))).trans ?_
  rw [Finset.sum_range_add, Finset.sum_eq_zero (fun n hn => if_neg (by have := Finset.mem_range.mp hn; omega)), zero_add]
  unfold before
  rw [show r.val + 17 = 16 + (r.val + 1) by omega, Finset.sum_range_add (fun k => padR f k) 16 (r.val + 1),
    Finset.sum_eq_zero (s := Finset.range 16) (fun n hn => dif_neg (by have := Finset.mem_range.mp hn; omega)), zero_add]
  refine Finset.sum_congr rfl fun n hn => ?_
  rw [if_pos (by omega)]
  exact congrArg (padR f) (by omega)

theorem step (f : Fin 4096 → ℝ) (n : ℕ) : padR f n = before f (n + 1) - before f n := by rw [before_succ]; ring

variable (A : Fin 4096 → Fin 384 → ℝ)

/-- The padded rows as extended reals. -/
abbrev padE : Rows := PoolFwd.pad fun r j => ((A r j : ℝ) : EReal)

theorem pad_real (R : ℕ) (j : Fin 384) : padE A R j = ((padR (fun r => A r j) R : ℝ) : EReal) := by
  unfold padE PoolFwd.pad padR
  split <;> rfl

theorem dbl1 (R : ℕ) (h : 1 ≤ R) (j : Fin 384) : dbl 1 (padE A) R j
    = ((before (fun r => A r j) (R + 1) - before (fun r => A r j) (R - 1) : ℝ) : EReal) := by
  unfold dbl
  rw [pad_real, pad_real, Lift.add, step, step, Nat.sub_add_cancel h]
  congr 1; ring

theorem dbl2 (R : ℕ) (h : 3 ≤ R) (j : Fin 384) : dbl 2 (dbl 1 (padE A)) R j
    = ((before (fun r => A r j) (R + 1) - before (fun r => A r j) (R - 3) : ℝ) : EReal) := by
  show dbl 1 _ R j + dbl 1 _ (R - 2) j = _
  rw [dbl1 A _ (by omega), dbl1 A _ (by omega), Lift.add, show R - 2 + 1 = R - 1 by omega, show R - 2 - 1 = R - 3 by omega]
  congr 1; ring

theorem dbl4 (R : ℕ) (h : 7 ≤ R) (j : Fin 384) : dbl 4 (dbl 2 (dbl 1 (padE A))) R j
    = ((before (fun r => A r j) (R + 1) - before (fun r => A r j) (R - 7) : ℝ) : EReal) := by
  show dbl 2 _ R j + dbl 2 _ (R - 4) j = _
  rw [dbl2 A _ (by omega), dbl2 A _ (by omega), Lift.add, show R - 4 + 1 = R - 3 by omega, show R - 4 - 3 = R - 7 by omega]
  congr 1; ring

theorem dbl8 (R : ℕ) (h : 15 ≤ R) (j : Fin 384) : dbl 8 (dbl 4 (dbl 2 (dbl 1 (padE A)))) R j
    = ((before (fun r => A r j) (R + 1) - before (fun r => A r j) (R - 15) : ℝ) : EReal) := by
  show dbl 4 _ R j + dbl 4 _ (R - 8) j = _
  rw [dbl4 A _ (by omega), dbl4 A _ (by omega), Lift.add, show R - 8 + 1 = R - 7 by omega, show R - 8 - 7 = R - 15 by omega]
  congr 1; ring

/-! ## The running sum as it prints -/

theorem fold_sum {ι : Type} (f : ι → EReal) (l : List ι) (v : EReal) : l.foldl (fun r k => r + f k) v = v + (l.map f).sum := by
  induction l generalizing v with
  | nil => simp
  | cons a l ih => rw [List.foldl_cons, ih, List.map_cons, List.sum_cons, add_assoc]

theorem window_sum {s t u : Shape} (window strides lo hi : Fin s.rank → Nat) (x : s.Idx → EReal) (init : u.Idx → EReal)
    (h : s.ReduceWindows window strides lo hi t) (hu : 0 < u.numel) (hv : ∀ i, init i = 0) (j : t.Idx) :
    Host.reduceWindow (· + ·) window strides lo hi x init h hu j
    = ∑ q : (⟨s.rank, window⟩ : Shape).Idx,
      if hin : ∀ a, lo a ≤ (j (a.cast h.1.symm)).val * strides a + (q a).val ∧ (j (a.cast h.1.symm)).val * strides a + (q a).val - lo a < s.size a
        then x fun a => ⟨(j (a.cast h.1.symm)).val * strides a + (q a).val - lo a, (hin a).2⟩ else 0 := by
  unfold Host.reduceWindow
  refine (fold_sum _ _ _).trans ?_
  rw [hv, zero_add, ← Fin.sum_univ_def]
  refine (Finset.sum_congr rfl fun n _ => ?_).trans (Equiv.sum_comp (⟨s.rank, window⟩ : Shape).rowMajor.symm (fun q => if hin : ∀ a, lo a ≤ (j (a.cast h.1.symm)).val * strides a + (q a).val ∧ (j (a.cast h.1.symm)).val * strides a + (q a).val - lo a < s.size a
        then x fun a => ⟨(j (a.cast h.1.symm)).val * strides a + (q a).val - lo a, (hin a).2⟩ else 0))
  congr

end Cert.PoolFwd

namespace Cert.PoolFwdReferenceIdeal.Read

open Idealize.ShloMosaic
open Cert.PoolFwdReferenceIdeal Cert.PoolFwdReferenceIdeal.Gen Cert.Ext Cert.PoolFwd

/-- The window's positions, one to a row. -/
def rows : (⟨3, ![4096, 1, 1]⟩ : Shape).Idx ≃ Fin 4096 where
  toFun i := i 0
  invFun n := ix3 n 0 0
  left_inv i := by
    funext a
    fin_cases a
    · rfl
    · exact Subsingleton.elim (α := Fin 1) _ _
    · exact Subsingleton.elim (α := Fin 1) _ _
  right_inv n := rfl

theorem window (x : S4096x4x96.Idx → EReal) (v : S_.Idx → EReal) (hv : ∀ i, v i = 0) (r : Fin 4096) (g : Fin 4) (c : Fin 96) :
    Host.reduceWindowAdd (F := Ideal) (φ := .f32) ![4096, 1, 1] ![1, 1, 1] ![4095, 0, 0] ![0, 0, 0] x v
      reduceWindows_S4096x4x96_S4096x4x96_w4096s1p4095_0_w1s1p0_0_w1s1p0_0 h_S_ (ix3 r g c)
    = ∑ n : Fin 4096, if h : 4095 ≤ r.val + n.val then x (ix3 ⟨r.val + n.val - 4095, by omega⟩ g c) else 0 := by
  unfold Host.reduceWindowAdd
  rw [Ideal.hostReduceWindowAdd_def]
  unfold Ideal.hostReduceWindowAdd
  rw [window_sum _ _ _ _ _ _ _ _ (fun _ => hv _)]
  refine Fintype.sum_equiv rows _ _ fun q => ?_
  have q1 : (q 1).val = 0 := Nat.lt_one_iff.mp (q 1).isLt
  have q2 : (q 2).val = 0 := Nat.lt_one_iff.mp (q 2).isLt
  have q0 : (q 0).val < 4096 := (q 0).isLt
  have hr := r.isLt
  have hg := g.isLt
  have hc := c.isLt
  have rq : (rows q).val = (q 0).val := rfl
  split
  · rename_i h
    have h0 : 4095 ≤ r.val * 1 + (q 0).val ∧ _ := h 0
    rw [dif_pos (show 4095 ≤ r.val + (rows q).val by omega)]
    refine congrArg x (funext fun a => Fin.ext ?_)
    fin_cases a
    · show r.val * 1 + (q 0).val - 4095 = r.val + (q 0).val - 4095; omega
    · show g.val * 1 + (q 1).val - 0 = g.val; omega
    · show c.val * 1 + (q 2).val - 0 = c.val; omega
  · rename_i h
    by_cases h0 : 4095 ≤ r.val + (rows q).val
    swap
    · rw [dif_neg h0]
    refine absurd (fun a => ?_) h
    fin_cases a
    · show 4095 ≤ r.val * 1 + (q 0).val ∧ r.val * 1 + (q 0).val - 4095 < 4096; omega
    · show 0 ≤ g.val * 1 + (q 1).val ∧ g.val * 1 + (q 1).val - 0 < 4; omega
    · show 0 ≤ c.val * 1 + (q 2).val ∧ c.val * 1 + (q 2).val - 0 < 96; omega

variable (U : E 4096 6912) (A : Fin 4096 → Fin 384 → ℝ) (hA : ∀ r j, U r ⟨j.val, Cert.PoolFwd.wide j⟩ = ((A r j : ℝ) : EReal))

/-- A group's column. -/
abbrev col (g : Fin 4) (c : Fin 96) : Fin 384 := ⟨g.val * 96 + c.val, by omega⟩

theorem v4 : val_main_v4 (F := Ideal) (e2 U) = e3 fun r g c => U r ⟨(col g c).val, Cert.PoolFwd.wide (col g c)⟩ := by
  funext i; idx_vars i; pointwise [val_main_v4, val_main_v0]
  rfl

include hA in
theorem v5 (r : Fin 4096) (g : Fin 4) (c : Fin 96) :
    val_main_v5 (F := Ideal) (e2 U) (ix3 r g c) = ((before (fun r => A r (col g c)) (r.val + 17) : ℝ) : EReal) := by
  unfold val_main_v5
  rw [window _ _ (fun i => by pointwise [val_main_call0_call0_v0, val_main_call0_call0_cst]), v4, ← running, ← Lift.sum]
  refine Finset.sum_congr rfl fun n _ => ?_
  split
  · exact hA _ (col g c)
  · rfl

/-- What lies before a window's end less what lies before its start. -/
theorem less (f : Fin 4096 → ℝ) (x : Fin 4096 → EReal) (hx : ∀ r, x r = ((before f (r.val + 17) : ℝ) : EReal)) (w : ℕ) (hw : w ≤ 16) (h0 : 0 < w) (r : Fin 4096) :
    x r - (if h : r.val < w then (0 : EReal) else x ⟨r.val - w, by omega⟩) = ((before f (16 + r.val + 1) - before f (16 + r.val - (w - 1)) : ℝ) : EReal) := by
  have e : (if h : r.val < w then (0 : EReal) else x ⟨r.val - w, by omega⟩) = ((before f (16 + r.val - (w - 1)) : ℝ) : EReal) := by
    split
    · rw [before_zero _ _ (by omega)]; rfl
    · rw [hx]; exact congrArg (fun n => ((before f n : ℝ) : EReal)) (by show r.val - w + 17 = _; omega)
  rw [e, hx, Lift.sub, show r.val + 17 = 16 + r.val + 1 by omega]

include hA in
theorem v18 (r : Fin 4096) (c : Fin 96) :
    val_main_v18 (F := Ideal) (e2 U) (ix2 r c) = wsum (PoolFwd.pad fun r j => U r ⟨j.val, Cert.PoolFwd.wide j⟩) (16 + r.val) (col 0 c) := by
  rw [show (fun r (j : Fin 384) => U r ⟨j.val, Cert.PoolFwd.wide j⟩) = fun r j => ((A r j : ℝ) : EReal) from funext fun r => funext fun j => hA r j]
  unfold wsum
  rw [if_pos (by show 0 * 96 + c.val < 96; omega), dbl1 A _ (by omega)]
  pointwise [val_main_v18, val_main_v8, val_main_v7, val_main_v11, val_main_v10, val_main_v9, val_main_cst]
  exact less (fun r => A r (col 0 c)) (fun r => val_main_v5 (F := Ideal) (e2 U) (ix3 r 0 c)) (fun r => v5 U A hA r 0 c) 2 (by norm_num) (by norm_num) r

include hA in
theorem v35 (r : Fin 4096) (c : Fin 96) :
    val_main_v35 (F := Ideal) (e2 U) (ix2 r c) = wsum (PoolFwd.pad fun r j => U r ⟨j.val, Cert.PoolFwd.wide j⟩) (16 + r.val) (col 1 c) := by
  rw [show (fun r (j : Fin 384) => U r ⟨j.val, Cert.PoolFwd.wide j⟩) = fun r j => ((A r j : ℝ) : EReal) from funext fun r => funext fun j => hA r j]
  unfold wsum
  rw [if_neg (by show ¬ 1 * 96 + c.val < 96; omega), if_pos (by show 1 * 96 + c.val < 192; omega), dbl2 A _ (by omega)]
  pointwise [val_main_v35, val_main_v25, val_main_v24, val_main_v28, val_main_v27, val_main_v26, val_main_cst_1]
  exact less (fun r => A r (col 1 c)) (fun r => val_main_v5 (F := Ideal) (e2 U) (ix3 r 1 c)) (fun r => v5 U A hA r 1 c) 4 (by norm_num) (by norm_num) r

include hA in
theorem v52 (r : Fin 4096) (c : Fin 96) :
    val_main_v52 (F := Ideal) (e2 U) (ix2 r c) = wsum (PoolFwd.pad fun r j => U r ⟨j.val, Cert.PoolFwd.wide j⟩) (16 + r.val) (col 2 c) := by
  rw [show (fun r (j : Fin 384) => U r ⟨j.val, Cert.PoolFwd.wide j⟩) = fun r j => ((A r j : ℝ) : EReal) from funext fun r => funext fun j => hA r j]
  unfold wsum
  rw [if_neg (by show ¬ 2 * 96 + c.val < 96; omega), if_neg (by show ¬ 2 * 96 + c.val < 192; omega), if_pos (by show 2 * 96 + c.val < 288; omega), dbl4 A _ (by omega)]
  pointwise [val_main_v52, val_main_v42, val_main_v41, val_main_v45, val_main_v44, val_main_v43, val_main_cst_4]
  exact less (fun r => A r (col 2 c)) (fun r => val_main_v5 (F := Ideal) (e2 U) (ix3 r 2 c)) (fun r => v5 U A hA r 2 c) 8 (by norm_num) (by norm_num) r

include hA in
theorem v69 (r : Fin 4096) (c : Fin 96) :
    val_main_v69 (F := Ideal) (e2 U) (ix2 r c) = wsum (PoolFwd.pad fun r j => U r ⟨j.val, Cert.PoolFwd.wide j⟩) (16 + r.val) (col 3 c) := by
  rw [show (fun r (j : Fin 384) => U r ⟨j.val, Cert.PoolFwd.wide j⟩) = fun r j => ((A r j : ℝ) : EReal) from funext fun r => funext fun j => hA r j]
  unfold wsum
  rw [if_neg (by show ¬ 3 * 96 + c.val < 96; omega), if_neg (by show ¬ 3 * 96 + c.val < 192; omega), if_neg (by show ¬ 3 * 96 + c.val < 288; omega), dbl8 A _ (by omega)]
  pointwise [val_main_v69, val_main_v59, val_main_v58, val_main_v62, val_main_v61, val_main_v60, val_main_cst_7]
  exact less (fun r => A r (col 3 c)) (fun r => val_main_v5 (F := Ideal) (e2 U) (ix3 r 3 c)) (fun r => v5 U A hA r 3 c) 16 (by norm_num) (by norm_num) r

include hA in
theorem v23 (r : Fin 4096) (c : Fin 96) : val_main_v23 (F := Ideal) (e2 U) (ix2 r c) = pooled (fun r j => U r ⟨j.val, Cert.PoolFwd.wide j⟩) r (col 0 c) := by
  have hw : win (col 0 c) = 2#32 := by unfold win; rw [if_pos (by show 0 * 96 + c.val < 96; omega)]
  pointwise [val_main_v23, val_main_v20, val_main_v19, val_main_v17, val_main_v16, val_main_v15, val_main_v14, val_main_v13, val_main_v12, val_main_v22, val_main_v21, val_main_c_0, val_main_c, val_main_v6, v4 U]
  rw [v18 U A hA]
  unfold pooled
  rw [hw]; rfl

include hA in
theorem v40 (r : Fin 4096) (c : Fin 96) : val_main_v40 (F := Ideal) (e2 U) (ix2 r c) = pooled (fun r j => U r ⟨j.val, Cert.PoolFwd.wide j⟩) r (col 1 c) := by
  have hw : win (col 1 c) = 4#32 := by unfold win; rw [if_neg (by show ¬ 1 * 96 + c.val < 96; omega), if_pos (by show 1 * 96 + c.val < 192; omega)]
  pointwise [val_main_v40, val_main_v37, val_main_v36, val_main_v34, val_main_v33, val_main_v32, val_main_v31, val_main_v30, val_main_v29, val_main_v39, val_main_v38, val_main_c_3, val_main_c_2, val_main_v6, v4 U]
  rw [v35 U A hA]
  unfold pooled
  rw [hw]; rfl

include hA in
theorem v57 (r : Fin 4096) (c : Fin 96) : val_main_v57 (F := Ideal) (e2 U) (ix2 r c) = pooled (fun r j => U r ⟨j.val, Cert.PoolFwd.wide j⟩) r (col 2 c) := by
  have hw : win (col 2 c) = 8#32 := by unfold win; rw [if_neg (by show ¬ 2 * 96 + c.val < 96; omega), if_neg (by show ¬ 2 * 96 + c.val < 192; omega), if_pos (by show 2 * 96 + c.val < 288; omega)]
  pointwise [val_main_v57, val_main_v54, val_main_v53, val_main_v51, val_main_v50, val_main_v49, val_main_v48, val_main_v47, val_main_v46, val_main_v56, val_main_v55, val_main_c_6, val_main_c_5, val_main_v6, v4 U]
  rw [v52 U A hA]
  unfold pooled
  rw [hw]; rfl

include hA in
theorem v74 (r : Fin 4096) (c : Fin 96) : val_main_v74 (F := Ideal) (e2 U) (ix2 r c) = pooled (fun r j => U r ⟨j.val, Cert.PoolFwd.wide j⟩) r (col 3 c) := by
  have hw : win (col 3 c) = 16#32 := by unfold win; rw [if_neg (by show ¬ 3 * 96 + c.val < 96; omega), if_neg (by show ¬ 3 * 96 + c.val < 192; omega), if_neg (by show ¬ 3 * 96 + c.val < 288; omega)]
  pointwise [val_main_v74, val_main_v71, val_main_v70, val_main_v68, val_main_v67, val_main_v66, val_main_v65, val_main_v64, val_main_v63, val_main_v73, val_main_v72, val_main_c_9, val_main_c_8, val_main_v6, v4 U]
  rw [v69 U A hA]
  unfold pooled
  rw [hw]; rfl

include hA in
theorem v79 : val_main_v79 (F := Ideal) (e2 U) = e3 fun r g c => pooled (fun r j => U r ⟨j.val, Cert.PoolFwd.wide j⟩) r (col g c) := by
  funext i; idx_vars i
  pointwise [val_main_v79, val_main_v75, val_main_v76, val_main_v77, val_main_v78, v23 U A hA, v40 U A hA, v57 U A hA, v74 U A hA]
  show _ = pooled (fun r j => U r ⟨j.val, Cert.PoolFwd.wide j⟩) i0 (col i1 i2)
  fin_cases i1 <;> rfl

/-- A row against a group's column of the weights sees that group's columns alone. -/
theorem group_sum (p : Fin 384 → EReal) (w : Fin 4 → Fin 96 → Fin 96 → EReal) (i : Fin 384) :
    (∑ j, p j * wblk w j i) = ∑ c : Fin 96, p (col ⟨i.val / 96, by omega⟩ c) * w ⟨i.val / 96, by omega⟩ c ⟨i.val % 96, by omega⟩ := by
  rw [← Equiv.sum_comp (finProdFinEquiv : Fin 4 × Fin 96 ≃ Fin 384), Fintype.sum_prod_type, Finset.sum_eq_single (⟨i.val / 96, by omega⟩ : Fin 4)]
  · refine Finset.sum_congr rfl fun c _ => ?_
    have e : (finProdFinEquiv : Fin 4 × Fin 96 ≃ Fin 384) (⟨i.val / 96, by omega⟩, c) = col ⟨i.val / 96, by omega⟩ c :=
      Fin.ext (by show c.val + 96 * (i.val / 96) = i.val / 96 * 96 + c.val; omega)
    rw [e]
    refine congrArg (p _ * ·) ((if_pos (by show (i.val / 96 * 96 + c.val) / 96 = i.val / 96; omega)).trans ?_)
    exact congrArg (fun c => w _ c _) (Fin.ext (by show (i.val / 96 * 96 + c.val) % 96 = c.val; omega))
  · intro g _ hg
    refine Finset.sum_eq_zero fun c _ => ?_
    have hg' : g.val ≠ i.val / 96 := fun q => hg (Fin.ext q)
    rw [show wblk w ((finProdFinEquiv : Fin 4 × Fin 96 ≃ Fin 384) (g, c)) i = 0 from if_neg (by show ¬ (c.val + 96 * g.val) / 96 = i.val / 96; omega), mul_zero]
  · exact fun q => absurd (Finset.mem_univ _) q

variable (w : Fin 4 → Fin 96 → Fin 96 → EReal) (s : Fin 384 → EReal) (k : E 3 384)

include hA in
theorem v86 : val_main_v86 (F := Ideal) (e2 U) (e3 w) (e1 s) = e2 (arr U w s k).out := by
  funext i; idx_vars i
  pointwise [val_main_v86, val_main_v85, val_main_v84, val_main_v83, val_main_v82, val_main_v81, val_main_v80, v79 U A hA]
  refine congrArg (· * s i1) (Eq.trans ?_ (group_sum (fun j => pooled (fun r j => U r ⟨j.val, Cert.PoolFwd.wide j⟩) i0 j) w i1).symm)
  exact Finset.sum_congr rfl fun c _ => mul_comm _ _

theorem v87 : val_main_v87 (F := Ideal) (e2 U) = e2 (arr U w s k).z0 := by
  funext i; idx_vars i; pointwise [val_main_v87, val_main_v3, val_main_v1]; rfl

theorem v92 : val_main_v92 (F := Ideal) (e2 U) = e2 (sh 2 (arr U w s k).z0) := by
  funext i; idx_vars i; pointwise [val_main_v92, val_main_v91, val_main_v90, val_main_cst_10, v87 U w s k]
  show _ = sh 2 (arr U w s k).z0 i0 i1
  unfold sh
  split
  · rename_i h; rw [dif_neg (by omega)]
  · rename_i h; rw [dif_pos (by omega)]; rfl

theorem v100 : val_main_v100 (F := Ideal) (e2 U) = e2 (sh 1 (arr U w s k).z0) := by
  funext i; idx_vars i; pointwise [val_main_v100, val_main_v99, val_main_v98, val_main_cst_11, v87 U w s k]
  show _ = sh 1 (arr U w s k).z0 i0 i1
  unfold sh
  split
  · rename_i h; rw [dif_neg (by omega)]
  · rename_i h; rw [dif_pos (by omega)]; rfl

theorem v112 : val_main_v112 (F := Ideal) (e2 U) (e2 k) = e2 (arr U w s k).yb := by
  funext i; idx_vars i
  pointwise [val_main_v112, val_main_v111, val_main_v110, val_main_v104, val_main_v103, val_main_v95, val_main_v109, val_main_v108, val_main_v107, val_main_v106,
    val_main_v105, val_main_v102, val_main_v101, val_main_v97, val_main_v96, val_main_v94, val_main_v93, val_main_v89, val_main_v88, val_main_v2,
    v87 U w s k, v92 U w s k, v100 U w s k]
  rfl

end Cert.PoolFwdReferenceIdeal.Read

end
-- ==== Proof.PoolFwd.lean ====
module

public import proofs.«01_k».proof.Proof.PoolFwdKer
public import proofs.«01_k».proof.Proof.PoolFwdRef
public import proofs.«01_k».proof.Proof.Gen.Pre_finite_pool

/-! The pooling and convolution branches' forward call: the window sums by doubling are the differences of running sums, where the
columns hold real numbers. -/

@[expose] public section

set_option maxRecDepth 16384

noncomputable section

namespace Cert.Proof.PoolFwd

open Idealize.ShloMosaic Idealize.ShloMosaic.TcCoe Idealize.SL.Sem
open Cert.Ext Cert.Lift

/-- The reference runs, keeps its arguments, and leaves every semaphore at zero. -/
theorem frameR : Cert.quiescent_PoolFwdReferenceIdeal := fun m ρ _ =>
  (θ_run Cert.PoolFwdReferenceIdeal.defs _ _).mono (fun r h => ⟨fun c => (h c).2.2, sem_eq_zero_of_no_sems (by decide) r.2⟩)
    (Cert.PoolFwdReferenceIdeal.Value.run (F := Ideal) m ρ)

/-- The columns are an array of real numbers. -/
theorem real (x0 : FVec Ideal ⟨2, ![4096, 6912]⟩ .f32) (x1 : FVec Ideal ⟨3, ![4, 96, 96]⟩ .f32) (x2 : FVec Ideal ⟨1, ![384]⟩ .f32)
    (x3 : FVec Ideal ⟨2, ![3, 384]⟩ .f32) (h : Cert.Pre_finite_pool.fn (F := Ideal) x0 x1 x2 x3 = fun _ => 1#1) : Fin' x0 := by
  have h' := congrFun h (fun k => k.elim0)
  simp only [Cert.Pre_finite_pool.fn] at h'
  exact fin_of _ _ _ _ _ _ h'

/-- An array of rank three by its coordinates. -/
theorem exists_e3 {a b c : ℕ} (x : (⟨3, ![a, b, c]⟩ : Shape).Idx → EReal) : ∃ f : Fin a → Fin b → Fin c → EReal, x = e3 f :=
  ⟨fun i j k => x (ix3 i j k), funext fun i => congrArg x (eq_ix3 i)⟩

/-- The kernel's two results are the reference's. -/
theorem algebraic : Cert.algebraic_PoolFwdKernelIdeal_PoolFwdReferenceIdeal_pre_finite_pool := by
  intro m ρ m' ρ' hpre hagree
  refine ⟨_, _, Cert.PoolFwdKernelIdeal.Value.run_blocks (F := Ideal) m ρ, ?_⟩
  refine (θ_run Cert.PoolFwdReferenceIdeal.defs _ _).mono (fun _ h c => ?_) (Cert.PoolFwdReferenceIdeal.Value.run (F := Ideal) m' ρ')
  obtain ⟨r0, r1, hk⟩ := h c
  obtain ⟨B, hB⟩ := (real _ _ _ _ (hpre c)).up2
  obtain ⟨U, h0⟩ := exists_e2 (m ((c.tc : Thread _ _).loc Cert.PoolFwdKernelIdeal.main_arg0))
  obtain ⟨w, h1⟩ := exists_e3 (m ((c.tc : Thread _ _).loc Cert.PoolFwdKernelIdeal.main_arg1))
  obtain ⟨s, h2⟩ := exists_e1 (m ((c.tc : Thread _ _).loc Cert.PoolFwdKernelIdeal.main_arg2))
  obtain ⟨k, h3⟩ := exists_e2 (m ((c.tc : Thread _ _).loc Cert.PoolFwdKernelIdeal.main_arg3))
  obtain ⟨a0, a1, a2, a3⟩ := hagree c
  have H := Cert.PoolFwdKernelIdeal.Value.ops m c U w s k h0 h1 h2 h3
  have hA : ∀ (r : Fin 4096) (j : Fin 384), U r ⟨j.val, Cert.PoolFwd.wide j⟩ = ((B r ⟨j.val, Cert.PoolFwd.wide j⟩ : ℝ) : EReal) := fun r j =>
    (congrFun h0 (ix2 r ⟨j.val, Cert.PoolFwd.wide j⟩)).symm.trans (congrFun hB (ix2 r ⟨j.val, Cert.PoolFwd.wide j⟩))
  have b0 : m' ((c.tc : Thread _ _).loc Cert.PoolFwdReferenceIdeal.main_arg0) = e2 U := a0.trans h0
  have b1 : m' ((c.tc : Thread _ _).loc Cert.PoolFwdReferenceIdeal.main_arg1) = e3 w := a1.trans h1
  have b2 : m' ((c.tc : Thread _ _).loc Cert.PoolFwdReferenceIdeal.main_arg2) = e1 s := a2.trans h2
  have b3 : m' ((c.tc : Thread _ _).loc Cert.PoolFwdReferenceIdeal.main_arg3) = e2 k := a3.trans h3
  rw [Cert.PoolFwdReferenceIdeal.Read.val_main_v86_eq, b0, b1, b2] at r0
  rw [Cert.PoolFwdReferenceIdeal.Read.val_main_v112_eq, b0, b3] at r1
  exact ⟨r0.trans ((Cert.PoolFwdReferenceIdeal.Read.v86 U (fun r j => B r ⟨j.val, Cert.PoolFwd.wide j⟩) hA w s k).trans (Cert.PoolFwdKernelIdeal.Value.last7 H).symm),
    r1.trans ((Cert.PoolFwdReferenceIdeal.Read.v112 U w s k).trans (Cert.PoolFwdKernelIdeal.Value.last8 H).symm), hk⟩

end Cert.Proof.PoolFwd

end
-- ==== Proof.Shares.lean ====
module

public import proofs.«01_k».proof.Proof.Ext

/-! The sum of one device's own share of a gradient and the shares of the seven others, over all extended reals. -/

@[expose] public section

noncomputable section

namespace Cert.Shares

open Idealize.ShloMosaic Cert.Ext

/-- Stacks of matrices of extended reals. -/
abbrev Slots := Fin 8 → E 128 512

theorem exists_e3 {n m k : ℕ} (x : (⟨3, ![n, m, k]⟩ : Shape).Idx → EReal) : ∃ f : Fin n → Fin m → Fin k → EReal, x = e3 f :=
  ⟨fun a b c => x (ix3 a b c), funext fun i => congrArg x (by funext a; match a with | ⟨0, _⟩ => rfl | ⟨1, _⟩ => rfl | ⟨2, _⟩ => rfl)⟩

/-- A choice by a fixed bit. -/
theorem sel1 {α : Type} (x y : α) : Scalar.select 1#1 x y = x := rfl
theorem sel0 {α : Type} (x y : α) : Scalar.select 0#1 x y = y := rfl

/-- Slot 0 is this device's own, of what it sent; the others are as they landed. -/
def share (s l : Slots) (k : Fin 8) : E 128 512 := if k.val = 0 then s 0 else l k

/-- The eight shares added up in the order of the devices. -/
def total (s l : Slots) : E 128 512 := fun r j => s 0 r j + l 1 r j + l 2 r j + l 3 r j + l 4 r j + l 5 r j + l 6 r j + l 7 r j

theorem sum_share (s l : Slots) (r : Fin 128) (j : Fin 512) : ∑ k, share s l k r j = total s l r j := by
  rw [Fin.sum_univ_eight]; rfl

end Cert.Shares

end
-- ==== Proof.Sum.lean ====
module

public import proofs.«01_k».proof.Defs
public import proofs.«01_k».proof.Proof.Shares
public import proofs.«01_k».proof.Proof.Gen.SumKernelIdeal.Value
public import proofs.«01_k».proof.Proof.Gen.SumReferenceIdeal.Run
public import proofs.«01_k».proof.Proof.Gen.SumReferenceIdeal.Read
public import Idealize.ShloMosaic.Lib.Quiescent

/-! The sum of the landed shares of one gradient, element by element, over all extended reals. -/

@[expose] public section

set_option maxRecDepth 16384

noncomputable section

namespace Cert.SumKernelIdeal.Value

open Idealize.ShloMosaic Idealize.ShloMosaic.TcCoe Idealize.SL.Sem
open Cert.SumKernelIdeal Cert.SumKernelIdeal.Gen Cert.Ext Cert.Shares

/-- A stack of one matrix. -/
abbrev one (f : E 128 512) := e3 fun _ : Fin 1 => f

theorem pay2 (a b x1 x2 x3 a1 a2 a3 : E 128 512) : k0_pay2 (F := Ideal) (one a) (one b) (one a1) (one x1) (one a2) (one x2) (one a3) (one x3)
    = e2 fun r j => a r j + x1 r j + x2 r j + x3 r j := by
  unfold k0_pay2; simp only [sel0, sel1]; funext i; idx_vars i; pointwise; rfl

theorem pay1 (g x4 x5 x6 x7 a4 a5 a6 a7 : E 128 512) : k0_pay1 (F := Ideal) (e2 g) (one a4) (one x4) (one a5) (one x5) (one a6) (one x6) (one a7) (one x7)
    = e2 fun r j => g r j + x4 r j + x5 r j + x6 r j + x7 r j := by
  unfold k0_pay1; simp only [sel0]; funext i; idx_vars i; pointwise; rfl

/-- Part of a stack of eight as the body loads it. -/
abbrev at8 (l : Slots) (R : Rect S8x128x512) := View.ld (Val := Elt Ideal) (e' := .bf16) (S := S8x128x512) (e3 l) R

theorem ldk (l : Slots) (k : Fin 8) (inb : ∀ a, (![k.val, 0, 0] : Fin 3 → ℕ) a + S1x128x512.size a ≤ S8x128x512.size a) :
    at8 l (Rect.unit (s := S8x128x512) ![k.val, 0, 0] S1x128x512.size inb) = one (l k) := by
  unfold at8; funext i; idx_vars i; pointwise
  rfl

theorem out (a : E 128 512) (l : Slots) : out0_2 (F := Ideal) (e3 l) (one a)
    = e2 fun r j => a r j + l 1 r j + l 2 r j + l 3 r j + l 4 r j + l 5 r j + l 6 r j + l 7 r j := by
  have k0 : at8 l r0_1 = _ := ldk l 0 inb_S8x128x512_S1x128x512_0_0_0
  have k1 : at8 l r0_2 = _ := ldk l 1 inb_S8x128x512_S1x128x512_1_0_0
  have k2 : at8 l r0_3 = _ := ldk l 2 inb_S8x128x512_S1x128x512_2_0_0
  have k3 : at8 l r0_4 = _ := ldk l 3 inb_S8x128x512_S1x128x512_3_0_0
  have k4 : at8 l r0_5 = _ := ldk l 4 inb_S8x128x512_S1x128x512_4_0_0
  have k5 : at8 l r0_6 = _ := ldk l 5 inb_S8x128x512_S1x128x512_5_0_0
  have k6 : at8 l r0_7 = _ := ldk l 6 inb_S8x128x512_S1x128x512_6_0_0
  have k7 : at8 l r0_8 = _ := ldk l 7 inb_S8x128x512_S1x128x512_7_0_0
  unfold at8 at k0 k1 k2 k3 k4 k5 k6 k7
  frame_out
  rw [k0, k1, k2, k3, k4, k5, k6, k7]
  exact (congrArg (fun g => k0_pay1 (F := Ideal) g (one a) (one (l 4)) (one a) (one (l 5)) (one a) (one (l 6)) (one a) (one (l 7)))
    (pay2 a (l 0) (l 1) (l 2) (l 3) a a a)).trans (pay1 _ (l 4) (l 5) (l 6) (l 7) a a a a)

theorem idx : ∀ t : Fin cfg0.N, win0_0.index t = ![0, 0, 0] ∧ win0_1.index t = ![0, 0, 0] ∧ win0_2.index t = ![0, 0] :=
  (by decide +kernel : ∀ t : Fin grid0.N, _)

/-- The region's operands hold these shares. -/
structure Ops (m : (ℓ : Loc nD τ sig) → Buf (Elt Ideal) ℓ) (c : Dev nD) (s l : Slots) : Prop where
  l : V m c main_v1 = e3 l
  s : V m c main_v0 = e3 s

variable {m : (ℓ : Loc nD τ sig) → Buf (Elt Ideal) ℓ} {c : Dev nD} {s l : Slots}

theorem blk0 (H : Ops m c s l) (t : Fin cfg0.N) : iblk m c 0 t = e3 l := by
  funext i; exact (congrFun H.l (((cfg0.win 0).blk t).view.emb i)).trans (congrArg (e3 l) (by blk_ext [idx t]))
theorem blk1 (H : Ops m c s l) (t : Fin cfg0.N) : iblk m c 1 t = one (s 0) := by
  funext i
  refine (congrFun H.s (((cfg0.win 1).blk t).view.emb i)).trans ?_
  refine (congrArg (e3 s) (?_ : _ = ix3 (0 : Fin 8) (i 1) (i 2))).trans rfl
  blk_ext [idx t]

theorem last2 (H : Ops m c s l) : (dats m 0 c).arrAt 2 cfg0.N = e2 (total s l) := by
  refine (dats m 0 c).arrAt_eq_of_covers 2 _ (by decide +kernel) fun t _ y => ?_
  blk_simp
  rw [after0_2, blk0 H, blk1 H, out]
  exact congrArg (e2 (total s l)) (by blk_ext [idx t])

theorem ops (m : (ℓ : Loc nD τ sig) → Buf (Elt Ideal) ℓ) (c : Dev nD) (s l : Slots)
    (h0 : m ((c : Thread nD τ).loc main_arg0) = e3 s) (h1 : m ((c : Thread nD τ).loc main_arg1) = e3 l) : Ops m c s l where
  l := by entry_read; rw [h1]; funext i; idx_vars i; pointwise
  s := by entry_read; rw [h0]; funext i; idx_vars i; pointwise

end Cert.SumKernelIdeal.Value

namespace Cert.SumReferenceIdeal.Read

open Idealize.ShloMosaic
open Cert.SumReferenceIdeal Cert.Ext Cert.Shares
variable (s l : Slots)

theorem v2 : val_main_v2 (F := Ideal) (e3 s) (e3 l) = e3 (share s l) := by
  funext i; idx_vars i; pointwise [val_main_v2, val_main_v1, val_main_v0]
  by_cases h : i0.val < 1
  · refine Eq.trans ?_ (congrFun (congrFun (if_pos (by omega) : share s l i0 = s 0) i1) i2).symm
    rw [dif_pos h]
    exact congrFun (congrFun (congrArg s (Fin.ext (by show i0.val = 0; omega))) _) _
  · refine Eq.trans ?_ (congrFun (congrFun (if_neg (by omega) : share s l i0 = l i0) i1) i2).symm
    rw [dif_neg h]
    exact congrFun (congrFun (congrArg l (Fin.ext (by show 1 + (i0.val - 1) = i0.val; omega))) _) _

theorem v5 : val_main_v5 (F := Ideal) (e3 s) (e3 l) = e2 (total s l) := by
  funext i; idx_vars i
  pointwise [val_main_v5, val_main_cst, val_main_v4, val_main_v3, v2 s l]
  exact sum_share s l i0 i1

end Cert.SumReferenceIdeal.Read

namespace Cert.Proof.Sum

open Idealize.ShloMosaic Idealize.ShloMosaic.TcCoe Idealize.SL.Sem
open Cert.Ext Cert.Shares Cert.SumReferenceIdeal.Read Cert.SumKernelIdeal.Value

/-- The reference runs, keeps its arguments, and leaves every semaphore at zero. -/
theorem frameR : Cert.quiescent_SumReferenceIdeal := fun m ρ _ =>
  (θ_run SumReferenceIdeal.defs _ _).mono (fun r h => ⟨fun c => (h c).2, sem_eq_zero_of_no_sems (by decide) r.2⟩)
    (SumReferenceIdeal.Value.run (F := Ideal) m ρ)

/-- The kernel's sum is the reference's. -/
theorem algebraic : Cert.algebraic_SumKernelIdeal_SumReferenceIdeal := by
  intro m ρ m' ρ' hpre hagree
  refine ⟨_, SumKernelIdeal.Value.run_blocks (F := Ideal) m ρ, ?_⟩
  refine (θ_run SumReferenceIdeal.defs _ _).mono (fun _ h c => ?_) (SumReferenceIdeal.Value.run (F := Ideal) m' ρ')
  obtain ⟨r0, hk⟩ := h c
  obtain ⟨s, h0⟩ := exists_e3 (m ((c.tc : Thread _ _).loc SumKernelIdeal.main_arg0))
  obtain ⟨l, h1⟩ := exists_e3 (m ((c.tc : Thread _ _).loc SumKernelIdeal.main_arg1))
  obtain ⟨a0, a1⟩ := hagree c
  have H := ops m c s l h0 h1
  rw [val_main_v5_eq, a0.trans h0, a1.trans h1] at r0
  exact ⟨r0.trans ((v5 s l).trans (last2 H).symm), hk⟩

end Cert.Proof.Sum

end
-- ==== Proof.SumAdam.lean ====
module

public import proofs.«01_k».proof.Defs
public import proofs.«01_k».proof.Proof.Adam
public import proofs.«01_k».proof.Proof.Shares
public import proofs.«01_k».proof.Proof.Gen.SumAdamKernelIdeal.Value
public import proofs.«01_k».proof.Proof.Gen.SumAdamReferenceIdeal.Run
public import proofs.«01_k».proof.Proof.Gen.SumAdamReferenceIdeal.Read
public import Idealize.ShloMosaic.Lib.Quiescent

/-! The sum of the landed shares of a weight's gradient in both layers with one step of the optimiser, element by element, over all extended reals. -/

@[expose] public section

set_option maxRecDepth 16384

noncomputable section

namespace Cert.SumAdamKernelIdeal.Value

open Idealize.ShloMosaic Idealize.ShloMosaic.TcCoe Idealize.SL.Sem
open Cert.SumAdamKernelIdeal Cert.SumAdamKernelIdeal.Gen Cert.Ext Cert.Shares Cert.Adam

/-- A stack of one matrix. -/
abbrev one (f : E 128 512) := e3 fun _ : Fin 1 => f

theorem pay2 (a b x1 x2 x3 a1 a2 a3 : E 128 512) : k0_pay2 (F := Ideal) (one a) (one b) (one a1) (one x1) (one a2) (one x2) (one a3) (one x3)
    = e2 fun r j => a r j + x1 r j + x2 r j + x3 r j := by
  unfold k0_pay2; simp only [sel0, sel1]; funext i; idx_vars i; pointwise; rfl

theorem pay6 (g x4 x5 x6 x7 a4 a5 a6 a7 : E 128 512) : k0_pay6 (F := Ideal) (e2 g) (k0_pay3 (one a4)) (one x4) (one a5) (one x5) (one a6) (one x6) (one a7) (one x7)
    = one fun r j => g r j + x4 r j + x5 r j + x6 r j + x7 r j := by
  unfold k0_pay6; simp only [sel0]; funext i; idx_vars i; pointwise; rfl

theorem pay9 (g m : E 128 512) : k0_pay9 (F := Ideal) (one g) (one m) = e2 fun r j => am (g r j) (m r j) := by
  funext i; idx_vars i; pointwise [k0_pay9, k0_pay8]; rfl
theorem pay10 (g v : E 128 512) : k0_pay10 (F := Ideal) (one g) (one v) = e2 fun r j => av (g r j) (v r j) := by
  funext i; idx_vars i; pointwise [k0_pay10, k0_pay8]; rfl
theorem pay11 (g m : E 128 512) : k0_pay11 (F := Ideal) (one g) (one m) = one fun r j => am (g r j) (m r j) := by
  unfold k0_pay11; rw [pay9]; funext i; idx_vars i; pointwise; rfl
theorem pay12 (g v : E 128 512) : k0_pay12 (F := Ideal) (one g) (one v) = one fun r j => av (g r j) (v r j) := by
  unfold k0_pay12; rw [pay10]; funext i; idx_vars i; pointwise; rfl
theorem pay1 (g w m v : E 128 512) : k0_pay1 (F := Ideal) (k0_pay9 (one g) (one m)) (k0_pay10 (one g) (one v)) k0_pay13 (one w)
    = one fun r j => ad (g r j) (w r j) (m r j) (v r j) := by
  rw [pay9, pay10]; funext i; idx_vars i; pointwise [k0_pay1, k0_pay13]; rfl

theorem ldk (l : Slots) (k : Fin 8) (inb : ∀ a, (![k.val, 0, 0] : Fin 3 → ℕ) a + S1x128x512.size a ≤ S8x128x512.size a) :
    View.ld (Val := Elt Ideal) (e' := .bf16) (S := S8x128x512) (e3 l) (Rect.unit (s := S8x128x512) ![k.val, 0, 0] S1x128x512.size inb) = one (l k) := by
  funext i; idx_vars i; pointwise
  rfl

/-- Matrix `k` of a stack as the body loads it. -/
abbrev ld (x : S8x128x512.Idx → EReal) (k : ℕ) (inb : ∀ a, (![k, 0, 0] : Fin 3 → ℕ) a + (![1, 128, 512] : Fin 3 → ℕ) a ≤ S8x128x512.size a) :
    S1x128x512.Idx → EReal :=
  View.ld (Val := Elt Ideal) (e' := .bf16) (S := S8x128x512) x (Rect.unit (s := S8x128x512) ![k, 0, 0] ![1, 128, 512] inb)

/-- The sum of the eight shares as the body builds it. -/
abbrev sum8 (x : S8x128x512.Idx → EReal) (y : S1x128x512.Idx → EReal) : S1x128x512.Idx → EReal :=
  k0_pay6 (F := Ideal) (k0_pay2 (F := Ideal) y (ld x 0 inb_S8x128x512_S1x128x512_0_0_0) y (ld x 1 inb_S8x128x512_S1x128x512_1_0_0)
      y (ld x 2 inb_S8x128x512_S1x128x512_2_0_0) y (ld x 3 inb_S8x128x512_S1x128x512_3_0_0))
    (k0_pay3 (F := Ideal) y) (ld x 4 inb_S8x128x512_S1x128x512_4_0_0) y (ld x 5 inb_S8x128x512_S1x128x512_5_0_0)
    y (ld x 6 inb_S8x128x512_S1x128x512_6_0_0) y (ld x 7 inb_S8x128x512_S1x128x512_7_0_0)

theorem sum8_eq (s l : Slots) : sum8 (e3 l) (one (s 0)) = one (total s l) := by
  have k0 : ld (e3 l) 0 _ = one (l 0) := ldk l 0 inb_S8x128x512_S1x128x512_0_0_0
  have k1 : ld (e3 l) 1 _ = one (l 1) := ldk l 1 inb_S8x128x512_S1x128x512_1_0_0
  have k2 : ld (e3 l) 2 _ = one (l 2) := ldk l 2 inb_S8x128x512_S1x128x512_2_0_0
  have k3 : ld (e3 l) 3 _ = one (l 3) := ldk l 3 inb_S8x128x512_S1x128x512_3_0_0
  have k4 : ld (e3 l) 4 _ = one (l 4) := ldk l 4 inb_S8x128x512_S1x128x512_4_0_0
  have k5 : ld (e3 l) 5 _ = one (l 5) := ldk l 5 inb_S8x128x512_S1x128x512_5_0_0
  have k6 : ld (e3 l) 6 _ = one (l 6) := ldk l 6 inb_S8x128x512_S1x128x512_6_0_0
  have k7 : ld (e3 l) 7 _ = one (l 7) := ldk l 7 inb_S8x128x512_S1x128x512_7_0_0
  unfold sum8
  rw [k0, k1, k2, k3, k4, k5, k6, k7]
  exact (congrArg (fun g => k0_pay6 (F := Ideal) g (k0_pay3 (one (s 0))) (one (l 4)) (one (s 0)) (one (l 5)) (one (s 0)) (one (l 6)) (one (s 0)) (one (l 7)))
    (pay2 (s 0) (l 0) (l 1) (l 2) (l 3) (s 0) (s 0) (s 0))).trans (pay6 _ (l 4) (l 5) (l 6) (l 7) (s 0) (s 0) (s 0) (s 0))

theorem idx : ∀ t : Fin cfg0.N, win0_0.index t = ![0, 0, 0] ∧ win0_1.index t = ![0, 0, 0] ∧ win0_2.index t = ![0, 0, 0] ∧ win0_3.index t = ![0, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0] :=
  (by decide +kernel : ∀ t : Fin grid0.N, _)

/-- The region's operands hold these arrays. -/
structure Ops (m : (ℓ : Loc nD τ sig) → Buf (Elt Ideal) ℓ) (c : Dev nD) (s0 l0 s1 l1 : Slots) (w u v : Fin 2 → E 128 512) : Prop where
  l0 : V m c main_v1 = e3 l0
  s0 : V m c main_v0 = e3 s0
  l1 : V m c main_v3 = e3 l1
  s1 : V m c main_v2 = e3 s1
  w : V m c main_arg4 = e3 w
  u : V m c main_arg5 = e3 u
  v : V m c main_arg6 = e3 v

variable {m : (ℓ : Loc nD τ sig) → Buf (Elt Ideal) ℓ} {c : Dev nD} {s0 l0 s1 l1 : Slots} {w u v : Fin 2 → E 128 512}

/-- The layer of a point. -/
abbrev lay (t : Fin cfg0.N) : Fin 2 := ⟨t.val, lt_of_lt_of_eq t.isLt N_0⟩

/-- The gradient of each layer. -/
def gr (s0 l0 s1 l1 : Slots) (l : Fin 2) : E 128 512 := if l.val = 0 then total s0 l0 else total s1 l1

theorem blk0 (H : Ops m c s0 l0 s1 l1 w u v) (t : Fin cfg0.N) : iblk m c 0 t = e3 l0 := by
  funext i; exact (congrFun H.l0 (((cfg0.win 0).blk t).view.emb i)).trans (congrArg (e3 l0) (by blk_ext [idx t]))
theorem blk1 (H : Ops m c s0 l0 s1 l1 w u v) (t : Fin cfg0.N) : iblk m c 1 t = one (s0 0) := by
  funext i
  refine (congrFun H.s0 (((cfg0.win 1).blk t).view.emb i)).trans ((congrArg (e3 s0) (?_ : _ = ix3 (0 : Fin 8) (i 1) (i 2))).trans rfl)
  blk_ext [idx t]
theorem blk2 (H : Ops m c s0 l0 s1 l1 w u v) (t : Fin cfg0.N) : iblk m c 2 t = e3 l1 := by
  funext i; exact (congrFun H.l1 (((cfg0.win 2).blk t).view.emb i)).trans (congrArg (e3 l1) (by blk_ext [idx t]))
theorem blk3 (H : Ops m c s0 l0 s1 l1 w u v) (t : Fin cfg0.N) : iblk m c 3 t = one (s1 0) := by
  funext i
  refine (congrFun H.s1 (((cfg0.win 3).blk t).view.emb i)).trans ((congrArg (e3 s1) (?_ : _ = ix3 (0 : Fin 8) (i 1) (i 2))).trans rfl)
  blk_ext [idx t]
theorem of_layer (f : Fin 2 → E 128 512) (t : Fin cfg0.N) (i : S1x128x512.Idx) {p : S2x128x512.Idx} (h : p = ix3 (lay t) (i 1) (i 2)) :
    e3 f p = one (f (lay t)) i := (congrArg (e3 f) h).trans rfl

theorem blk4 (H : Ops m c s0 l0 s1 l1 w u v) (t : Fin cfg0.N) : iblk m c 4 t = one (w (lay t)) := by
  funext i; exact (congrFun H.w (((cfg0.win 4).blk t).view.emb i)).trans (of_layer w t i (by blk_ext [idx t]))
theorem blk5 (H : Ops m c s0 l0 s1 l1 w u v) (t : Fin cfg0.N) : iblk m c 5 t = one (u (lay t)) := by
  funext i; exact (congrFun H.u (((cfg0.win 5).blk t).view.emb i)).trans (of_layer u t i (by blk_ext [idx t]))
theorem blk6 (H : Ops m c s0 l0 s1 l1 w u v) (t : Fin cfg0.N) : iblk m c 6 t = one (v (lay t)) := by
  funext i; exact (congrFun H.v (((cfg0.win 6).blk t).view.emb i)).trans (of_layer v t i (by blk_ext [idx t]))

/-- What each point leaves, by the blocks it read and the sum it built. -/
theorem outs (m : (ℓ : Loc nD τ sig) → Buf (Elt Ideal) ℓ) (c : Dev nD) (t : Fin cfg0.N) (g : S1x128x512.Idx → EReal)
    (hg : g = if t.val = 0 then sum8 (iblk m c 0 t) (iblk m c 1 t) else sum8 (iblk m c 2 t) (iblk m c 3 t)) :
    (outsAt0 m c t.val t.isLt).1 = g
    ∧ (outsAt0 m c t.val t.isLt).2.1 = k0_pay1 (F := Ideal) (k0_pay9 g (iblk m c 5 t)) (k0_pay10 g (iblk m c 6 t)) k0_pay13 (iblk m c 4 t)
    ∧ (outsAt0 m c t.val t.isLt).2.2.1 = k0_pay11 (F := Ideal) g (iblk m c 5 t)
    ∧ (outsAt0 m c t.val t.isLt).2.2.2 = k0_pay12 (F := Ideal) g (iblk m c 6 t) := by
  have ht : t.val < 2 := lt_of_lt_of_eq t.isLt N_0
  subst hg
  by_cases h : t.val = 0
  · rw [outsAt0_A m c t (by omega) (by omega), if_pos h]
    refine ⟨?_, ?_, ?_, ?_⟩ <;> frame_out
  · rw [outsAt0_B m c t (by omega) (by omega), if_neg h]
    refine ⟨?_, ?_, ?_, ?_⟩ <;> frame_out
    all_goals rfl

theorem built (H : Ops m c s0 l0 s1 l1 w u v) (t : Fin cfg0.N) : one (gr s0 l0 s1 l1 (lay t))
    = if t.val = 0 then sum8 (iblk m c 0 t) (iblk m c 1 t) else sum8 (iblk m c 2 t) (iblk m c 3 t) := by
  rw [blk0 H, blk1 H, blk2 H, blk3 H, sum8_eq, sum8_eq]
  unfold gr
  by_cases h : t.val = 0
  · rw [if_pos h, if_pos h]
  · rw [if_neg h, if_neg h]

theorem last7 (H : Ops m c s0 l0 s1 l1 w u v) : (dats m 0 c).arrAt 7 cfg0.N = e3 (gr s0 l0 s1 l1) := by
  refine (dats m 0 c).arrAt_eq_of_covers 7 _ (by decide +kernel) fun t _ y => ?_
  blk_simp
  rw [after0_7, (outs m c t _ (built H t)).1]
  exact (of_layer _ t y (by blk_ext [idx t])).symm

theorem last8 (H : Ops m c s0 l0 s1 l1 w u v) : (dats m 0 c).arrAt 8 cfg0.N
    = e3 fun l r j => ad (gr s0 l0 s1 l1 l r j) (w l r j) (u l r j) (v l r j) := by
  refine (dats m 0 c).arrAt_eq_of_covers 8 _ (by decide +kernel) fun t _ y => ?_
  blk_simp
  rw [after0_8, (outs m c t _ (built H t)).2.1, blk4 H, blk5 H, blk6 H, pay1]
  refine (congrArg (e3 fun l r j => ad (gr s0 l0 s1 l1 l r j) (w l r j) (u l r j) (v l r j)) (?_ : _ = ix3 (lay t) (y 1) (y 2))).symm
  blk_ext [idx t]

theorem last9 (H : Ops m c s0 l0 s1 l1 w u v) : (dats m 0 c).arrAt 9 cfg0.N = e3 fun l r j => am (gr s0 l0 s1 l1 l r j) (u l r j) := by
  refine (dats m 0 c).arrAt_eq_of_covers 9 _ (by decide +kernel) fun t _ y => ?_
  blk_simp
  rw [after0_9, (outs m c t _ (built H t)).2.2.1, blk5 H, pay11]
  refine (congrArg (e3 fun l r j => am (gr s0 l0 s1 l1 l r j) (u l r j)) (?_ : _ = ix3 (lay t) (y 1) (y 2))).symm
  blk_ext [idx t]

theorem last10 (H : Ops m c s0 l0 s1 l1 w u v) : (dats m 0 c).arrAt 10 cfg0.N = e3 fun l r j => av (gr s0 l0 s1 l1 l r j) (v l r j) := by
  refine (dats m 0 c).arrAt_eq_of_covers 10 _ (by decide +kernel) fun t _ y => ?_
  blk_simp
  rw [after0_10, (outs m c t _ (built H t)).2.2.2, blk6 H, pay12]
  refine (congrArg (e3 fun l r j => av (gr s0 l0 s1 l1 l r j) (v l r j)) (?_ : _ = ix3 (lay t) (y 1) (y 2))).symm
  blk_ext [idx t]

theorem ops (m : (ℓ : Loc nD τ sig) → Buf (Elt Ideal) ℓ) (c : Dev nD) (s0 l0 s1 l1 : Slots) (w u v : Fin 2 → E 128 512)
    (h0 : m ((c : Thread nD τ).loc main_arg0) = e3 s0) (h1 : m ((c : Thread nD τ).loc main_arg1) = e3 l0)
    (h2 : m ((c : Thread nD τ).loc main_arg2) = e3 s1) (h3 : m ((c : Thread nD τ).loc main_arg3) = e3 l1)
    (h4 : m ((c : Thread nD τ).loc main_arg4) = e3 w) (h5 : m ((c : Thread nD τ).loc main_arg5) = e3 u)
    (h6 : m ((c : Thread nD τ).loc main_arg6) = e3 v) : Ops m c s0 l0 s1 l1 w u v where
  l0 := by entry_read; rw [h1]; funext i; idx_vars i; pointwise
  s0 := by entry_read; rw [h0]; funext i; idx_vars i; pointwise
  l1 := by entry_read; rw [h3]; funext i; idx_vars i; pointwise
  s1 := by entry_read; rw [h2]; funext i; idx_vars i; pointwise
  w := (V_main_arg4 m c).trans h4
  u := (V_main_arg5 m c).trans h5
  v := (V_main_arg6 m c).trans h6

end Cert.SumAdamKernelIdeal.Value

namespace Cert.SumAdamReferenceIdeal.Read

open Idealize.ShloMosaic
open Cert.SumAdamReferenceIdeal Cert.Ext Cert.Shares Cert.Adam
open Cert.SumAdamKernelIdeal.Value (gr)
variable (s l s0 l0 s1 l1 : Slots) (w u v : Fin 2 → E 128 512)

theorem v2 : val_main_v2 (F := Ideal) (e3 s) (e3 l) = e3 (share s l) := by
  funext i; idx_vars i; pointwise [val_main_v2, val_main_v1, val_main_v0]
  by_cases h : i0.val < 1
  · refine Eq.trans ?_ (congrFun (congrFun (if_pos (by omega) : share s l i0 = s 0) i1) i2).symm
    rw [dif_pos h]
    exact congrFun (congrFun (congrArg s (Fin.ext (by show i0.val = 0; omega))) _) _
  · refine Eq.trans ?_ (congrFun (congrFun (if_neg (by omega) : share s l i0 = l i0) i1) i2).symm
    rw [dif_neg h]
    exact congrFun (congrFun (congrArg l (Fin.ext (by show 1 + (i0.val - 1) = i0.val; omega))) _) _

theorem v5 : val_main_v5 (F := Ideal) (e3 s) (e3 l) = e2 (total s l) := by
  funext i; idx_vars i
  pointwise [val_main_v5, val_main_cst, val_main_v4, val_main_v3, v2 s l]
  exact sum_share s l i0 i1

/-- The second layer's lines are the first's. -/
theorem v11 : val_main_v11 (F := Ideal) (e3 s) (e3 l) = e2 (total s l) := v5 s l

theorem v14 : val_main_v14 (F := Ideal) (e3 s0) (e3 l0) (e3 s1) (e3 l1) = e3 (gr s0 l0 s1 l1) := by
  funext i; idx_vars i; pointwise [val_main_v14, val_main_v13, val_main_v12, v5 s0 l0, v11 s1 l1]
  by_cases h : i0.val < 1
  · refine Eq.trans ?_ (congrFun (congrFun (if_pos (by omega) : gr s0 l0 s1 l1 i0 = total s0 l0) i1) i2).symm
    rw [dif_pos h]; rfl
  · refine Eq.trans ?_ (congrFun (congrFun (if_neg (by omega) : gr s0 l0 s1 l1 i0 = total s1 l1) i1) i2).symm
    rw [dif_neg h]; rfl

theorem v19 : val_main_v19 (F := Ideal) (e3 s0) (e3 l0) (e3 s1) (e3 l1) (e3 u) = e3 fun l r j => am (gr s0 l0 s1 l1 l r j) (u l r j) := by
  funext i; idx_vars i
  pointwise [val_main_v19, val_main_v18, val_main_v17, val_main_cst_2, val_main_v16, val_main_v15, val_main_cst_1, v14 s0 l0 s1 l1]; rfl

theorem v25 : val_main_v25 (F := Ideal) (e3 s0) (e3 l0) (e3 s1) (e3 l1) (e3 v) = e3 fun l r j => av (gr s0 l0 s1 l1 l r j) (v l r j) := by
  funext i; idx_vars i
  pointwise [val_main_v25, val_main_v24, val_main_v23, val_main_cst_4, val_main_v22, val_main_v21, val_main_v20, val_main_cst_3, v14 s0 l0 s1 l1]; rfl

theorem v38 : val_main_v38 (F := Ideal) (e3 s0) (e3 l0) (e3 s1) (e3 l1) (e3 w) (e3 u) (e3 v)
    = e3 fun l r j => ad (gr s0 l0 s1 l1 l r j) (w l r j) (u l r j) (v l r j) := by
  funext i; idx_vars i
  pointwise [val_main_v38, val_main_v37, val_main_cst_9, val_main_v36, val_main_v35, val_main_v34, val_main_cst_8, val_main_v33, val_main_v32, val_main_v31,
    val_main_cst_7, val_main_v30, val_main_v29, val_main_v28, val_main_cst_6, val_main_v27, val_main_v26, val_main_cst_5, v19 s0 l0 s1 l1 u, v25 s0 l0 s1 l1 v]
  rfl

end Cert.SumAdamReferenceIdeal.Read

namespace Cert.Proof.SumAdam

open Idealize.ShloMosaic Idealize.ShloMosaic.TcCoe Idealize.SL.Sem
open Cert.Ext Cert.Shares Cert.SumAdamReferenceIdeal.Read Cert.SumAdamKernelIdeal.Value

/-- The reference runs, keeps its arguments, and leaves every semaphore at zero. -/
theorem frameR : Cert.quiescent_SumAdamReferenceIdeal := fun m ρ _ =>
  (θ_run SumAdamReferenceIdeal.defs _ _).mono (fun r h => ⟨fun c => (h c).2.2.2.2, sem_eq_zero_of_no_sems (by decide) r.2⟩)
    (SumAdamReferenceIdeal.Value.run (F := Ideal) m ρ)

/-- The kernel's four results are the reference's. -/
theorem algebraic : Cert.algebraic_SumAdamKernelIdeal_SumAdamReferenceIdeal := by
  intro m ρ m' ρ' hpre hagree
  refine ⟨_, _, _, _, SumAdamKernelIdeal.Value.run_blocks (F := Ideal) m ρ, ?_⟩
  refine (θ_run SumAdamReferenceIdeal.defs _ _).mono (fun _ h c => ?_) (SumAdamReferenceIdeal.Value.run (F := Ideal) m' ρ')
  obtain ⟨r0, r1, r2, r3, hk⟩ := h c
  obtain ⟨s0, h0⟩ := exists_e3 (m ((c.tc : Thread _ _).loc SumAdamKernelIdeal.main_arg0))
  obtain ⟨l0, h1⟩ := exists_e3 (m ((c.tc : Thread _ _).loc SumAdamKernelIdeal.main_arg1))
  obtain ⟨s1, h2⟩ := exists_e3 (m ((c.tc : Thread _ _).loc SumAdamKernelIdeal.main_arg2))
  obtain ⟨l1, h3⟩ := exists_e3 (m ((c.tc : Thread _ _).loc SumAdamKernelIdeal.main_arg3))
  obtain ⟨w, h4⟩ := exists_e3 (m ((c.tc : Thread _ _).loc SumAdamKernelIdeal.main_arg4))
  obtain ⟨u, h5⟩ := exists_e3 (m ((c.tc : Thread _ _).loc SumAdamKernelIdeal.main_arg5))
  obtain ⟨v, h6⟩ := exists_e3 (m ((c.tc : Thread _ _).loc SumAdamKernelIdeal.main_arg6))
  obtain ⟨a0, a1, a2, a3, a4, a5, a6⟩ := hagree c
  have H := ops m c s0 l0 s1 l1 w u v h0 h1 h2 h3 h4 h5 h6
  rw [val_main_v14_eq, a0.trans h0, a1.trans h1, a2.trans h2, a3.trans h3] at r0
  rw [val_main_v38_eq, a0.trans h0, a1.trans h1, a2.trans h2, a3.trans h3, a4.trans h4, a5.trans h5, a6.trans h6] at r1
  rw [val_main_v19_eq, a0.trans h0, a1.trans h1, a2.trans h2, a3.trans h3, a5.trans h5] at r2
  rw [val_main_v25_eq, a0.trans h0, a1.trans h1, a2.trans h2, a3.trans h3, a6.trans h6] at r3
  exact ⟨r0.trans ((v14 s0 l0 s1 l1).trans (last7 H).symm),
    r1.trans ((v38 s0 l0 s1 l1 w u v).trans (last8 H).symm),
    r2.trans ((v19 s0 l0 s1 l1 u).trans (last9 H).symm),
    r3.trans ((v25 s0 l0 s1 l1 v).trans (last10 H).symm), hk⟩

end Cert.Proof.SumAdam

end
-- ==== Proof.lean ====
module

public import proofs.«01_k».proof.Defs
public import proofs.«01_k».proof.Proof.Gen.GainKernel.Frame
public import proofs.«01_k».proof.Proof.Gen.GainKernelIdeal.Frame
public import proofs.«01_k».proof.Proof.Gain
public import proofs.«01_k».proof.Proof.Gen.MemKernel.Frame
public import proofs.«01_k».proof.Proof.Gen.MemKernelIdeal.Frame
public import proofs.«01_k».proof.Proof.Mem
public import proofs.«01_k».proof.Proof.Gen.MemFwdKernel.Frame
public import proofs.«01_k».proof.Proof.Gen.MemFwdKernelIdeal.Frame
public import proofs.«01_k».proof.Proof.MemFwd
public import proofs.«01_k».proof.Proof.Gen.Attn0Kernel.Frame
public import proofs.«01_k».proof.Proof.Gen.Attn0KernelIdeal.Frame
public import proofs.«01_k».proof.Proof.Attn0
public import proofs.«01_k».proof.Proof.Gen.Attn1Kernel.Frame
public import proofs.«01_k».proof.Proof.Gen.Attn1KernelIdeal.Frame
public import proofs.«01_k».proof.Proof.Attn1
public import proofs.«01_k».proof.Proof.Gen.Attn2Kernel.Frame
public import proofs.«01_k».proof.Proof.Gen.Attn2KernelIdeal.Frame
public import proofs.«01_k».proof.Proof.Attn2
public import proofs.«01_k».proof.Proof.Gen.FfnKernel.Frame
public import proofs.«01_k».proof.Proof.Gen.FfnKernelIdeal.Frame
public import proofs.«01_k».proof.Proof.Ffn
public import proofs.«01_k».proof.Proof.Gen.FfnPreKernel.Frame
public import proofs.«01_k».proof.Proof.Gen.FfnPreKernelIdeal.Frame
public import proofs.«01_k».proof.Proof.FfnPre
public import proofs.«01_k».proof.Proof.Gen.MixPreKernel.Frame
public import proofs.«01_k».proof.Proof.Gen.MixPreKernelIdeal.Frame
public import proofs.«01_k».proof.Proof.MixPre
public import proofs.«01_k».proof.Proof.Gen.RopeKernel.Frame
public import proofs.«01_k».proof.Proof.Gen.RopeKernelIdeal.Frame
public import proofs.«01_k».proof.Proof.Rope
public import proofs.«01_k».proof.Proof.Gen.LossKernel.Frame
public import proofs.«01_k».proof.Proof.Gen.LossKernelIdeal.Frame
public import proofs.«01_k».proof.Proof.Loss
public import proofs.«01_k».proof.Proof.Gen.NormKvKernel.Frame
public import proofs.«01_k».proof.Proof.Gen.NormKvKernelIdeal.Frame
public import proofs.«01_k».proof.Proof.NormKv
public import proofs.«01_k».proof.Proof.Gen.FfnFwdKernel.Frame
public import proofs.«01_k».proof.Proof.Gen.FfnFwdKernelIdeal.Frame
public import proofs.«01_k».proof.Proof.FfnFwd
public import proofs.«01_k».proof.Proof.Gen.MergeFwdKernel.Frame
public import proofs.«01_k».proof.Proof.Gen.MergeFwdKernelIdeal.Frame
public import proofs.«01_k».proof.Proof.MergeFwd
public import proofs.«01_k».proof.Proof.Gen.ProdTnKernel.Frame
public import proofs.«01_k».proof.Proof.Gen.ProdTnKernelIdeal.Frame
public import proofs.«01_k».proof.Proof.ProdTn
public import proofs.«01_k».proof.Proof.Gen.ProdNtKernel.Frame
public import proofs.«01_k».proof.Proof.Gen.ProdNtKernelIdeal.Frame
public import proofs.«01_k».proof.Proof.ProdNt
public import proofs.«01_k».proof.Proof.Gen.AdamKernel.Frame
public import proofs.«01_k».proof.Proof.Gen.AdamKernelIdeal.Frame
public import proofs.«01_k».proof.Proof.Adam
public import proofs.«01_k».proof.Proof.Gen.AttnFwd0Kernel.Frame
public import proofs.«01_k».proof.Proof.Gen.AttnFwd0KernelIdeal.Frame
public import proofs.«01_k».proof.Proof.AttnFwd0
public import proofs.«01_k».proof.Proof.Gen.AttnFwd1Kernel.Frame
public import proofs.«01_k».proof.Proof.Gen.AttnFwd1KernelIdeal.Frame
public import proofs.«01_k».proof.Proof.AttnFwd1
public import proofs.«01_k».proof.Proof.Gen.AttnFwd2Kernel.Frame
public import proofs.«01_k».proof.Proof.Gen.AttnFwd2KernelIdeal.Frame
public import proofs.«01_k».proof.Proof.AttnFwd2
public import proofs.«01_k».proof.Proof.Gen.PoolFwdKernel.Frame
public import proofs.«01_k».proof.Proof.Gen.PoolFwdKernelIdeal.Frame
public import proofs.«01_k».proof.Proof.PoolFwd
public import proofs.«01_k».proof.Proof.Gen.SumKernel.Frame
public import proofs.«01_k».proof.Proof.Gen.SumKernelIdeal.Frame
public import proofs.«01_k».proof.Proof.Sum
public import proofs.«01_k».proof.Proof.Gen.SumAdamKernel.Frame
public import proofs.«01_k».proof.Proof.Gen.SumAdamKernelIdeal.Frame
public import proofs.«01_k».proof.Proof.SumAdam
public import proofs.«01_k».proof.Proof.Gen.Pre_finite_mem
public import proofs.«01_k».proof.Proof.Gen.Pre_finite_attn
public import proofs.«01_k».proof.Proof.Gen.Pre_finite_ffn
public import proofs.«01_k».proof.Proof.Gen.Pre_finite_ffnpre
public import proofs.«01_k».proof.Proof.Gen.Pre_finite_mixpre
public import proofs.«01_k».proof.Proof.Gen.Pre_finite_pool
public import Idealize.ShloMosaic.Adequacy
public import Idealize.ShloMosaic.Init

@[expose] public section

noncomputable section

namespace Cert.Proof

open Idealize.ShloMosaic Idealize.SL.Sem

theorem claim : Cert.Claim :=
  ⟨Cert.GainKernel.Gen.facts, Cert.GainKernelIdeal.Gen.facts, Cert.GainReferenceIdeal.Gen.facts, Cert.MemKernel.Gen.facts, Cert.MemKernelIdeal.Gen.facts, Cert.MemReferenceIdeal.Gen.facts, Cert.MemFwdKernel.Gen.facts, Cert.MemFwdKernelIdeal.Gen.facts, Cert.MemFwdReferenceIdeal.Gen.facts, Cert.Attn0Kernel.Gen.facts, Cert.Attn0KernelIdeal.Gen.facts, Cert.Attn0ReferenceIdeal.Gen.facts, Cert.Attn1Kernel.Gen.facts, Cert.Attn1KernelIdeal.Gen.facts, Cert.Attn1ReferenceIdeal.Gen.facts, Cert.Attn2Kernel.Gen.facts, Cert.Attn2KernelIdeal.Gen.facts, Cert.Attn2ReferenceIdeal.Gen.facts, Cert.FfnKernel.Gen.facts, Cert.FfnKernelIdeal.Gen.facts, Cert.FfnReferenceIdeal.Gen.facts, Cert.FfnPreKernel.Gen.facts, Cert.FfnPreKernelIdeal.Gen.facts, Cert.FfnPreReferenceIdeal.Gen.facts, Cert.MixPreKernel.Gen.facts, Cert.MixPreKernelIdeal.Gen.facts, Cert.MixPreReferenceIdeal.Gen.facts, Cert.RopeKernel.Gen.facts, Cert.RopeKernelIdeal.Gen.facts, Cert.RopeReferenceIdeal.Gen.facts, Cert.LossKernel.Gen.facts, Cert.LossKernelIdeal.Gen.facts, Cert.LossReferenceIdeal.Gen.facts, Cert.NormKvKernel.Gen.facts, Cert.NormKvKernelIdeal.Gen.facts, Cert.NormKvReferenceIdeal.Gen.facts, Cert.FfnFwdKernel.Gen.facts, Cert.FfnFwdKernelIdeal.Gen.facts, Cert.FfnFwdReferenceIdeal.Gen.facts, Cert.MergeFwdKernel.Gen.facts, Cert.MergeFwdKernelIdeal.Gen.facts, Cert.MergeFwdReferenceIdeal.Gen.facts, Cert.ProdTnKernel.Gen.facts, Cert.ProdTnKernelIdeal.Gen.facts, Cert.ProdTnReferenceIdeal.Gen.facts, Cert.ProdNtKernel.Gen.facts, Cert.ProdNtKernelIdeal.Gen.facts, Cert.ProdNtReferenceIdeal.Gen.facts, Cert.AdamKernel.Gen.facts, Cert.AdamKernelIdeal.Gen.facts, Cert.AdamReferenceIdeal.Gen.facts, Cert.AttnFwd0Kernel.Gen.facts, Cert.AttnFwd0KernelIdeal.Gen.facts, Cert.AttnFwd0ReferenceIdeal.Gen.facts, Cert.AttnFwd1Kernel.Gen.facts, Cert.AttnFwd1KernelIdeal.Gen.facts, Cert.AttnFwd1ReferenceIdeal.Gen.facts, Cert.AttnFwd2Kernel.Gen.facts, Cert.AttnFwd2KernelIdeal.Gen.facts, Cert.AttnFwd2ReferenceIdeal.Gen.facts, Cert.PoolFwdKernel.Gen.facts, Cert.PoolFwdKernelIdeal.Gen.facts, Cert.PoolFwdReferenceIdeal.Gen.facts, Cert.SumKernel.Gen.facts, Cert.SumKernelIdeal.Gen.facts, Cert.SumReferenceIdeal.Gen.facts, Cert.SumAdamKernel.Gen.facts, Cert.SumAdamKernelIdeal.Gen.facts, Cert.SumAdamReferenceIdeal.Gen.facts, Cert.Pre_finite_mem.Gen.facts, Cert.Pre_finite_attn.Gen.facts, Cert.Pre_finite_ffn.Gen.facts, Cert.Pre_finite_ffnpre.Gen.facts, Cert.Pre_finite_mixpre.Gen.facts, Cert.Pre_finite_pool.Gen.facts,
    fun m ρ _ => Cert.GainKernel.Gen.frame m ρ,
    fun m ρ _ => Cert.GainKernelIdeal.Gen.frame m ρ,
    Gain.frameR,
    fun m ρ _ => Cert.MemKernel.Gen.frame m ρ,
    fun m ρ _ => Cert.MemKernelIdeal.Gen.frame m ρ,
    fun m ρ _ => Cert.MemKernelIdeal.Gen.frame m ρ,
    Mem.frameR,
    fun m ρ _ => Mem.frameR m ρ trivial,
    fun m ρ _ => Cert.MemFwdKernel.Gen.frame m ρ,
    fun m ρ _ => Cert.MemFwdKernelIdeal.Gen.frame m ρ,
    MemFwd.frameR,
    fun m ρ _ => Cert.Attn0Kernel.Gen.frame m ρ,
    fun m ρ _ => Cert.Attn0KernelIdeal.Gen.frame m ρ,
    fun m ρ _ => Cert.Attn0KernelIdeal.Gen.frame m ρ,
    Attn0.frameR,
    fun m ρ _ => Attn0.frameR m ρ trivial,
    fun m ρ _ => Cert.Attn1Kernel.Gen.frame m ρ,
    fun m ρ _ => Cert.Attn1KernelIdeal.Gen.frame m ρ,
    fun m ρ _ => Cert.Attn1KernelIdeal.Gen.frame m ρ,
    Attn1.frameR,
    fun m ρ _ => Attn1.frameR m ρ trivial,
    fun m ρ _ => Cert.Attn2Kernel.Gen.frame m ρ,
    fun m ρ _ => Cert.Attn2KernelIdeal.Gen.frame m ρ,
    fun m ρ _ => Cert.Attn2KernelIdeal.Gen.frame m ρ,
    Attn2.frameR,
    fun m ρ _ => Attn2.frameR m ρ trivial,
    fun m ρ _ => Cert.FfnKernel.Gen.frame m ρ,
    fun m ρ _ => Cert.FfnKernelIdeal.Gen.frame m ρ,
    fun m ρ _ => Cert.FfnKernelIdeal.Gen.frame m ρ,
    Ffn.frameR,
    fun m ρ _ => Ffn.frameR m ρ trivial,
    fun m ρ _ => Cert.FfnPreKernel.Gen.frame m ρ,
    fun m ρ _ => Cert.FfnPreKernelIdeal.Gen.frame m ρ,
    fun m ρ _ => Cert.FfnPreKernelIdeal.Gen.frame m ρ,
    FfnPre.frameR,
    fun m ρ _ => FfnPre.frameR m ρ trivial,
    fun m ρ _ => Cert.MixPreKernel.Gen.frame m ρ,
    fun m ρ _ => Cert.MixPreKernelIdeal.Gen.frame m ρ,
    fun m ρ _ => Cert.MixPreKernelIdeal.Gen.frame m ρ,
    MixPre.frameR,
    fun m ρ _ => MixPre.frameR m ρ trivial,
    fun m ρ _ => Cert.RopeKernel.Gen.frame m ρ,
    fun m ρ _ => Cert.RopeKernelIdeal.Gen.frame m ρ,
    Rope.frameR,
    fun m ρ _ => Cert.LossKernel.Gen.frame m ρ,
    fun m ρ _ => Cert.LossKernelIdeal.Gen.frame m ρ,
    Loss.frameR,
    fun m ρ _ => Cert.NormKvKernel.Gen.frame m ρ,
    fun m ρ _ => Cert.NormKvKernelIdeal.Gen.frame m ρ,
    NormKv.frameR,
    fun m ρ _ => Cert.FfnFwdKernel.Gen.frame m ρ,
    fun m ρ _ => Cert.FfnFwdKernelIdeal.Gen.frame m ρ,
    FfnFwd.frameR,
    fun m ρ _ => Cert.MergeFwdKernel.Gen.frame m ρ,
    fun m ρ _ => Cert.MergeFwdKernelIdeal.Gen.frame m ρ,
    MergeFwd.frameR,
    fun m ρ _ => Cert.ProdTnKernel.Gen.frame m ρ,
    fun m ρ _ => Cert.ProdTnKernelIdeal.Gen.frame m ρ,
    ProdTn.frameR,
    fun m ρ _ => Cert.ProdNtKernel.Gen.frame m ρ,
    fun m ρ _ => Cert.ProdNtKernelIdeal.Gen.frame m ρ,
    ProdNt.frameR,
    fun m ρ _ => Cert.AdamKernel.Gen.frame m ρ,
    fun m ρ _ => Cert.AdamKernelIdeal.Gen.frame m ρ,
    Adam.frameR,
    fun m ρ _ => Cert.AttnFwd0Kernel.Gen.frame m ρ,
    fun m ρ _ => Cert.AttnFwd0KernelIdeal.Gen.frame m ρ,
    AttnFwd0.frameR,
    fun m ρ _ => Cert.AttnFwd1Kernel.Gen.frame m ρ,
    fun m ρ _ => Cert.AttnFwd1KernelIdeal.Gen.frame m ρ,
    AttnFwd1.frameR,
    fun m ρ _ => Cert.AttnFwd2Kernel.Gen.frame m ρ,
    fun m ρ _ => Cert.AttnFwd2KernelIdeal.Gen.frame m ρ,
    AttnFwd2.frameR,
    fun m ρ _ => Cert.PoolFwdKernel.Gen.frame m ρ,
    fun m ρ _ => Cert.PoolFwdKernelIdeal.Gen.frame m ρ,
    fun m ρ _ => Cert.PoolFwdKernelIdeal.Gen.frame m ρ,
    PoolFwd.frameR,
    fun m ρ _ => PoolFwd.frameR m ρ trivial,
    fun m ρ _ => Cert.SumKernel.Gen.frame m ρ,
    fun m ρ _ => Cert.SumKernelIdeal.Gen.frame m ρ,
    Sum.frameR,
    fun m ρ _ => Cert.SumAdamKernel.Gen.frame m ρ,
    fun m ρ _ => Cert.SumAdamKernelIdeal.Gen.frame m ρ,
    SumAdam.frameR,
    (trivial : Cert.preserves_GainKernel_GainKernelIdeal),
    Gain.algebraic,
    (trivial : Cert.preserves_MemKernel_MemKernelIdeal),
    Mem.algebraic,
    (trivial : Cert.preserves_MemFwdKernel_MemFwdKernelIdeal),
    MemFwd.algebraic,
    (trivial : Cert.preserves_Attn0Kernel_Attn0KernelIdeal),
    Attn0.algebraic,
    (trivial : Cert.preserves_Attn1Kernel_Attn1KernelIdeal),
    Attn1.algebraic,
    (trivial : Cert.preserves_Attn2Kernel_Attn2KernelIdeal),
    Attn2.algebraic,
    (trivial : Cert.preserves_FfnKernel_FfnKernelIdeal),
    Ffn.algebraic,
    (trivial : Cert.preserves_FfnPreKernel_FfnPreKernelIdeal),
    FfnPre.algebraic,
    (trivial : Cert.preserves_MixPreKernel_MixPreKernelIdeal),
    MixPre.algebraic,
    (trivial : Cert.preserves_RopeKernel_RopeKernelIdeal),
    (trivial : Cert.preserves_LossKernel_LossKernelIdeal),
    Loss.algebraic,
    (trivial : Cert.preserves_NormKvKernel_NormKvKernelIdeal),
    NormKv.algebraic,
    (trivial : Cert.preserves_FfnFwdKernel_FfnFwdKernelIdeal),
    FfnFwd.algebraic,
    (trivial : Cert.preserves_MergeFwdKernel_MergeFwdKernelIdeal),
    MergeFwd.algebraic,
    (trivial : Cert.preserves_ProdTnKernel_ProdTnKernelIdeal),
    ProdTn.algebraic,
    (trivial : Cert.preserves_ProdNtKernel_ProdNtKernelIdeal),
    ProdNt.algebraic,
    (trivial : Cert.preserves_AdamKernel_AdamKernelIdeal),
    Adam.algebraic,
    (IdealRules.named_const.statement Cert.AttnFwd0KernelIdeal.κ "mask" .f32 0xF149F2CA#32 ⊥ rfl : Cert.preserves_AttnFwd0Kernel_AttnFwd0KernelIdeal),
    AttnFwd0.algebraic,
    (IdealRules.named_const.statement Cert.AttnFwd1KernelIdeal.κ "mask" .f32 0xF149F2CA#32 ⊥ rfl : Cert.preserves_AttnFwd1Kernel_AttnFwd1KernelIdeal),
    AttnFwd1.algebraic,
    (IdealRules.named_const.statement Cert.AttnFwd2KernelIdeal.κ "mask" .f32 0xF149F2CA#32 ⊥ rfl : Cert.preserves_AttnFwd2Kernel_AttnFwd2KernelIdeal),
    AttnFwd2.algebraic,
    (trivial : Cert.preserves_PoolFwdKernel_PoolFwdKernelIdeal),
    PoolFwd.algebraic,
    (trivial : Cert.preserves_SumKernel_SumKernelIdeal),
    Sum.algebraic,
    (trivial : Cert.preserves_SumAdamKernel_SumAdamKernelIdeal),
    SumAdam.algebraic⟩

end Cert.Proof

end
